-- ==== Defs.lean ====
def Pre_ReduceShareKernel (m : (ℓ : Loc Cert.ReduceShareKernel.nD Cert.ReduceShareKernel.τ Cert.ReduceShareKernel.sig) → Buf (Elt Bits) ℓ) : Prop :=
  True

def Pre_ReduceShareKernelIdeal (m : (ℓ : Loc Cert.ReduceShareKernelIdeal.nD Cert.ReduceShareKernelIdeal.τ Cert.ReduceShareKernelIdeal.sig) → Buf (Elt Ideal) ℓ) : Prop :=
  True

def Pre_ReduceShareReferenceIdeal (m : (ℓ : Loc Cert.ReduceShareReferenceIdeal.nD Cert.ReduceShareReferenceIdeal.τ Cert.ReduceShareReferenceIdeal.sig) → Buf (Elt Ideal) ℓ) : Prop :=
  True

def Pre_ReduceShareReference (m : (ℓ : Loc Cert.ReduceShareReference.nD Cert.ReduceShareReference.τ Cert.ReduceShareReference.sig) → Buf (Elt Bits) ℓ) : Prop :=
  True

def Pre_GatherChipsKernel (m : (ℓ : Loc Cert.GatherChipsKernel.nD Cert.GatherChipsKernel.τ Cert.GatherChipsKernel.sig) → Buf (Elt Bits) ℓ) : Prop :=
  True

def Pre_GatherChipsKernelIdeal (m : (ℓ : Loc Cert.GatherChipsKernelIdeal.nD Cert.GatherChipsKernelIdeal.τ Cert.GatherChipsKernelIdeal.sig) → Buf (Elt Ideal) ℓ) : Prop :=
  True

def Pre_GatherChipsReferenceIdeal (m : (ℓ : Loc Cert.GatherChipsReferenceIdeal.nD Cert.GatherChipsReferenceIdeal.τ Cert.GatherChipsReferenceIdeal.sig) → Buf (Elt Ideal) ℓ) : Prop :=
  True

def Pre_GatherChipsReference (m : (ℓ : Loc Cert.GatherChipsReference.nD Cert.GatherChipsReference.τ Cert.GatherChipsReference.sig) → Buf (Elt Bits) ℓ) : Prop :=
  True

def Pre_GatherSiblingKernel (m : (ℓ : Loc Cert.GatherSiblingKernel.nD Cert.GatherSiblingKernel.τ Cert.GatherSiblingKernel.sig) → Buf (Elt Bits) ℓ) : Prop :=
  True

def Pre_GatherSiblingKernelIdeal (m : (ℓ : Loc Cert.GatherSiblingKernelIdeal.nD Cert.GatherSiblingKernelIdeal.τ Cert.GatherSiblingKernelIdeal.sig) → Buf (Elt Ideal) ℓ) : Prop :=
  True

def Pre_GatherSiblingReferenceIdeal (m : (ℓ : Loc Cert.GatherSiblingReferenceIdeal.nD Cert.GatherSiblingReferenceIdeal.τ Cert.GatherSiblingReferenceIdeal.sig) → Buf (Elt Ideal) ℓ) : Prop :=
  True

def Pre_GatherSiblingReference (m : (ℓ : Loc Cert.GatherSiblingReference.nD Cert.GatherSiblingReference.τ Cert.GatherSiblingReference.sig) → Buf (Elt Bits) ℓ) : Prop :=
  True

def Pre_GatherConvKernel (m : (ℓ : Loc Cert.GatherConvKernel.nD Cert.GatherConvKernel.τ Cert.GatherConvKernel.sig) → Buf (Elt Bits) ℓ) : Prop :=
  True

def Pre_GatherConvKernelIdeal (m : (ℓ : Loc Cert.GatherConvKernelIdeal.nD Cert.GatherConvKernelIdeal.τ Cert.GatherConvKernelIdeal.sig) → Buf (Elt Ideal) ℓ) : Prop :=
  True

def Pre_GatherConvReferenceIdeal (m : (ℓ : Loc Cert.GatherConvReferenceIdeal.nD Cert.GatherConvReferenceIdeal.τ Cert.GatherConvReferenceIdeal.sig) → Buf (Elt Ideal) ℓ) : Prop :=
  True

def Pre_GatherConvReference (m : (ℓ : Loc Cert.GatherConvReference.nD Cert.GatherConvReference.τ Cert.GatherConvReference.sig) → Buf (Elt Bits) ℓ) : Prop :=
  True

def Pre_ReduceSiblingKernel (m : (ℓ : Loc Cert.ReduceSiblingKernel.nD Cert.ReduceSiblingKernel.τ Cert.ReduceSiblingKernel.sig) → Buf (Elt Bits) ℓ) : Prop :=
  True

def Pre_ReduceSiblingKernelIdeal (m : (ℓ : Loc Cert.ReduceSiblingKernelIdeal.nD Cert.ReduceSiblingKernelIdeal.τ Cert.ReduceSiblingKernelIdeal.sig) → Buf (Elt Ideal) ℓ) : Prop :=
  True

def Pre_ReduceSiblingReferenceIdeal (m : (ℓ : Loc Cert.ReduceSiblingReferenceIdeal.nD Cert.ReduceSiblingReferenceIdeal.τ Cert.ReduceSiblingReferenceIdeal.sig) → Buf (Elt Ideal) ℓ) : Prop :=
  True

def Pre_ReduceSiblingReference (m : (ℓ : Loc Cert.ReduceSiblingReference.nD Cert.ReduceSiblingReference.τ Cert.ReduceSiblingReference.sig) → Buf (Elt Bits) ℓ) : Prop :=
  True

def Pre_ReduceChipsKernel (m : (ℓ : Loc Cert.ReduceChipsKernel.nD Cert.ReduceChipsKernel.τ Cert.ReduceChipsKernel.sig) → Buf (Elt Bits) ℓ) : Prop :=
  True

def Pre_ReduceChipsKernelIdeal (m : (ℓ : Loc Cert.ReduceChipsKernelIdeal.nD Cert.ReduceChipsKernelIdeal.τ Cert.ReduceChipsKernelIdeal.sig) → Buf (Elt Ideal) ℓ) : Prop :=
  True

def Pre_ReduceChipsReferenceIdeal (m : (ℓ : Loc Cert.ReduceChipsReferenceIdeal.nD Cert.ReduceChipsReferenceIdeal.τ Cert.ReduceChipsReferenceIdeal.sig) → Buf (Elt Ideal) ℓ) : Prop :=
  True

def Pre_ReduceChipsReference (m : (ℓ : Loc Cert.ReduceChipsReference.nD Cert.ReduceChipsReference.τ Cert.ReduceChipsReference.sig) → Buf (Elt Bits) ℓ) : Prop :=
  True

def Pre_SmallSiblingKernel (m : (ℓ : Loc Cert.SmallSiblingKernel.nD Cert.SmallSiblingKernel.τ Cert.SmallSiblingKernel.sig) → Buf (Elt Bits) ℓ) : Prop :=
  True

def Pre_SmallSiblingKernelIdeal (m : (ℓ : Loc Cert.SmallSiblingKernelIdeal.nD Cert.SmallSiblingKernelIdeal.τ Cert.SmallSiblingKernelIdeal.sig) → Buf (Elt Ideal) ℓ) : Prop :=
  True

def Pre_SmallSiblingReferenceIdeal (m : (ℓ : Loc Cert.SmallSiblingReferenceIdeal.nD Cert.SmallSiblingReferenceIdeal.τ Cert.SmallSiblingReferenceIdeal.sig) → Buf (Elt Ideal) ℓ) : Prop :=
  True

def Pre_SmallSiblingReference (m : (ℓ : Loc Cert.SmallSiblingReference.nD Cert.SmallSiblingReference.τ Cert.SmallSiblingReference.sig) → Buf (Elt Bits) ℓ) : Prop :=
  True

def Pre_SmallChipsKernel (m : (ℓ : Loc Cert.SmallChipsKernel.nD Cert.SmallChipsKernel.τ Cert.SmallChipsKernel.sig) → Buf (Elt Bits) ℓ) : Prop :=
  True

def Pre_SmallChipsKernelIdeal (m : (ℓ : Loc Cert.SmallChipsKernelIdeal.nD Cert.SmallChipsKernelIdeal.τ Cert.SmallChipsKernelIdeal.sig) → Buf (Elt Ideal) ℓ) : Prop :=
  True

def Pre_SmallChipsReferenceIdeal (m : (ℓ : Loc Cert.SmallChipsReferenceIdeal.nD Cert.SmallChipsReferenceIdeal.τ Cert.SmallChipsReferenceIdeal.sig) → Buf (Elt Ideal) ℓ) : Prop :=
  True

def Pre_SmallChipsReference (m : (ℓ : Loc Cert.SmallChipsReference.nD Cert.SmallChipsReference.τ Cert.SmallChipsReference.sig) → Buf (Elt Bits) ℓ) : Prop :=
  True

def Pre_AdamwShardedKernel (m : (ℓ : Loc Cert.AdamwShardedKernel.nD Cert.AdamwShardedKernel.τ Cert.AdamwShardedKernel.sig) → Buf (Elt Bits) ℓ) : Prop :=
  True

def Pre_AdamwShardedKernelIdeal (m : (ℓ : Loc Cert.AdamwShardedKernelIdeal.nD Cert.AdamwShardedKernelIdeal.τ Cert.AdamwShardedKernelIdeal.sig) → Buf (Elt Ideal) ℓ) : Prop :=
  True

def Pre_AdamwShardedReferenceIdeal (m : (ℓ : Loc Cert.AdamwShardedReferenceIdeal.nD Cert.AdamwShardedReferenceIdeal.τ Cert.AdamwShardedReferenceIdeal.sig) → Buf (Elt Ideal) ℓ) : Prop :=
  True

def Pre_AdamwReplicatedKernel (m : (ℓ : Loc Cert.AdamwReplicatedKernel.nD Cert.AdamwReplicatedKernel.τ Cert.AdamwReplicatedKernel.sig) → Buf (Elt Bits) ℓ) : Prop :=
  True

def Pre_AdamwReplicatedKernelIdeal (m : (ℓ : Loc Cert.AdamwReplicatedKernelIdeal.nD Cert.AdamwReplicatedKernelIdeal.τ Cert.AdamwReplicatedKernelIdeal.sig) → Buf (Elt Ideal) ℓ) : Prop :=
  True

def Pre_AdamwReplicatedReferenceIdeal (m : (ℓ : Loc Cert.AdamwReplicatedReferenceIdeal.nD Cert.AdamwReplicatedReferenceIdeal.τ Cert.AdamwReplicatedReferenceIdeal.sig) → Buf (Elt Ideal) ℓ) : Prop :=
  True

def Pre_ReduceSumKernel (m : (ℓ : Loc Cert.ReduceSumKernel.nD Cert.ReduceSumKernel.τ Cert.ReduceSumKernel.sig) → Buf (Elt Bits) ℓ) : Prop :=
  True

def Pre_ReduceSumKernelIdeal (m : (ℓ : Loc Cert.ReduceSumKernelIdeal.nD Cert.ReduceSumKernelIdeal.τ Cert.ReduceSumKernelIdeal.sig) → Buf (Elt Ideal) ℓ) : Prop :=
  True

def Pre_ReduceSumReferenceIdeal (m : (ℓ : Loc Cert.ReduceSumReferenceIdeal.nD Cert.ReduceSumReferenceIdeal.τ Cert.ReduceSumReferenceIdeal.sig) → Buf (Elt Ideal) ℓ) : Prop :=
  True

def Pre_SmallSumKernel (m : (ℓ : Loc Cert.SmallSumKernel.nD Cert.SmallSumKernel.τ Cert.SmallSumKernel.sig) → Buf (Elt Bits) ℓ) : Prop :=
  True

def Pre_SmallSumKernelIdeal (m : (ℓ : Loc Cert.SmallSumKernelIdeal.nD Cert.SmallSumKernelIdeal.τ Cert.SmallSumKernelIdeal.sig) → Buf (Elt Ideal) ℓ) : Prop :=
  True

def Pre_SmallSumReferenceIdeal (m : (ℓ : Loc Cert.SmallSumReferenceIdeal.nD Cert.SmallSumReferenceIdeal.τ Cert.SmallSumReferenceIdeal.sig) → Buf (Elt Ideal) ℓ) : Prop :=
  True

def Pre_NormMixBwdKernel (m : (ℓ : Loc Cert.NormMixBwdKernel.nD Cert.NormMixBwdKernel.τ Cert.NormMixBwdKernel.sig) → Buf (Elt Bits) ℓ) : Prop :=
  True

def Pre_NormMixBwdKernelIdeal (m : (ℓ : Loc Cert.NormMixBwdKernelIdeal.nD Cert.NormMixBwdKernelIdeal.τ Cert.NormMixBwdKernelIdeal.sig) → Buf (Elt Ideal) ℓ) : Prop :=
  True

def Pre_NormMixBwdReferenceIdeal (m : (ℓ : Loc Cert.NormMixBwdReferenceIdeal.nD Cert.NormMixBwdReferenceIdeal.τ Cert.NormMixBwdReferenceIdeal.sig) → Buf (Elt Ideal) ℓ) : Prop :=
  True

def Pre_LossHeadKernel (m : (ℓ : Loc Cert.LossHeadKernel.nD Cert.LossHeadKernel.τ Cert.LossHeadKernel.sig) → Buf (Elt Bits) ℓ) : Prop :=
  True

def Pre_LossHeadKernelIdeal (m : (ℓ : Loc Cert.LossHeadKernelIdeal.nD Cert.LossHeadKernelIdeal.τ Cert.LossHeadKernelIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_NormFfnKernel (m : (ℓ : Loc Cert.NormFfnKernel.nD Cert.NormFfnKernel.τ Cert.NormFfnKernel.sig) → Buf (Elt Bits) ℓ) : Prop :=
  True

def Pre_NormFfnKernelIdeal (m : (ℓ : Loc Cert.NormFfnKernelIdeal.nD Cert.NormFfnKernelIdeal.τ Cert.NormFfnKernelIdeal.sig) → Buf (Elt Ideal) ℓ) : Prop :=
  True

def Pre_NormFfnReferenceIdeal (m : (ℓ : Loc Cert.NormFfnReferenceIdeal.nD Cert.NormFfnReferenceIdeal.τ Cert.NormFfnReferenceIdeal.sig) → Buf (Elt Ideal) ℓ) : Prop :=
  True

def Pre_NormMemKernel (m : (ℓ : Loc Cert.NormMemKernel.nD Cert.NormMemKernel.τ Cert.NormMemKernel.sig) → Buf (Elt Bits) ℓ) : Prop :=
  True

def Pre_NormMemKernelIdeal (m : (ℓ : Loc Cert.NormMemKernelIdeal.nD Cert.NormMemKernelIdeal.τ Cert.NormMemKernelIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_NormMemBwdKernel (m : (ℓ : Loc Cert.NormMemBwdKernel.nD Cert.NormMemBwdKernel.τ Cert.NormMemBwdKernel.sig) → Buf (Elt Bits) ℓ) : Prop :=
  True

def Pre_NormMemBwdKernelIdeal (m : (ℓ : Loc Cert.NormMemBwdKernelIdeal.nD Cert.NormMemBwdKernelIdeal.τ Cert.NormMemBwdKernelIdeal.sig) → Buf (Elt Ideal) ℓ) : Prop :=
  True

def Pre_NormMemBwdReferenceIdeal (m : (ℓ : Loc Cert.NormMemBwdReferenceIdeal.nD Cert.NormMemBwdReferenceIdeal.τ Cert.NormMemBwdReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DactKernel (m : (ℓ : Loc Cert.DactKernel.nD Cert.DactKernel.τ Cert.DactKernel.sig) → Buf (Elt Bits) ℓ) : Prop :=
  True

def Pre_DactKernelIdeal (m : (ℓ : Loc Cert.DactKernelIdeal.nD Cert.DactKernelIdeal.τ Cert.DactKernelIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_DwDownKernel (m : (ℓ : Loc Cert.DwDownKernel.nD Cert.DwDownKernel.τ Cert.DwDownKernel.sig) → Buf (Elt Bits) ℓ) : Prop :=
  True

def Pre_DwDownKernelIdeal (m : (ℓ : Loc Cert.DwDownKernelIdeal.nD Cert.DwDownKernelIdeal.τ Cert.DwDownKernelIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_CqKernel (m : (ℓ : Loc Cert.CqKernel.nD Cert.CqKernel.τ Cert.CqKernel.sig) → Buf (Elt Bits) ℓ) : Prop :=
  True

def Pre_CqKernelIdeal (m : (ℓ : Loc Cert.CqKernelIdeal.nD Cert.CqKernelIdeal.τ Cert.CqKernelIdeal.sig) → Buf (Elt Ideal) ℓ) : Prop :=
  True

def Pre_CqReferenceIdeal (m : (ℓ : Loc Cert.CqReferenceIdeal.nD Cert.CqReferenceIdeal.τ Cert.CqReferenceIdeal.sig) → Buf (Elt Ideal) ℓ) : Prop :=
  True

def Pre_CkKernel (m : (ℓ : Loc Cert.CkKernel.nD Cert.CkKernel.τ Cert.CkKernel.sig) → Buf (Elt Bits) ℓ) : Prop :=
  True

def Pre_CkKernelIdeal (m : (ℓ : Loc Cert.CkKernelIdeal.nD Cert.CkKernelIdeal.τ Cert.CkKernelIdeal.sig) → Buf (Elt Ideal) ℓ) : Prop :=
  True

def Pre_CkReferenceIdeal (m : (ℓ : Loc Cert.CkReferenceIdeal.nD Cert.CkReferenceIdeal.τ Cert.CkReferenceIdeal.sig) → Buf (Elt Ideal) ℓ) : Prop :=
  True

def Pre_CoKernel (m : (ℓ : Loc Cert.CoKernel.nD Cert.CoKernel.τ Cert.CoKernel.sig) → Buf (Elt Bits) ℓ) : Prop :=
  True

def Pre_CoKernelIdeal (m : (ℓ : Loc Cert.CoKernelIdeal.nD Cert.CoKernelIdeal.τ Cert.CoKernelIdeal.sig) → Buf (Elt Ideal) ℓ) : Prop :=
  True

def Pre_CoReferenceIdeal (m : (ℓ : Loc Cert.CoReferenceIdeal.nD Cert.CoReferenceIdeal.τ Cert.CoReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DhnKernel (m : (ℓ : Loc Cert.DhnKernel.nD Cert.DhnKernel.τ Cert.DhnKernel.sig) → Buf (Elt Bits) ℓ) : Prop :=
  True

def Pre_DhnKernelIdeal (m : (ℓ : Loc Cert.DhnKernelIdeal.nD Cert.DhnKernelIdeal.τ Cert.DhnKernelIdeal.sig) → Buf (Elt Ideal) ℓ) : Prop :=
  True

def Pre_DhnReferenceIdeal (m : (ℓ : Loc Cert.DhnReferenceIdeal.nD Cert.DhnReferenceIdeal.τ Cert.DhnReferenceIdeal.sig) → Buf (Elt Ideal) ℓ) : Prop :=
  True

def Pre_DocKernel (m : (ℓ : Loc Cert.DocKernel.nD Cert.DocKernel.τ Cert.DocKernel.sig) → Buf (Elt Bits) ℓ) : Prop :=
  True

def Pre_DocKernelIdeal (m : (ℓ : Loc Cert.DocKernelIdeal.nD Cert.DocKernelIdeal.τ Cert.DocKernelIdeal.sig) → Buf (Elt Ideal) ℓ) : Prop :=
  True

def Pre_DocReferenceIdeal (m : (ℓ : Loc Cert.DocReferenceIdeal.nD Cert.DocReferenceIdeal.τ Cert.DocReferenceIdeal.sig) → Buf (Elt Ideal) ℓ) : Prop :=
  True

def Pre_DhqKernel (m : (ℓ : Loc Cert.DhqKernel.nD Cert.DhqKernel.τ Cert.DhqKernel.sig) → Buf (Elt Bits) ℓ) : Prop :=
  True

def Pre_DhqKernelIdeal (m : (ℓ : Loc Cert.DhqKernelIdeal.nD Cert.DhqKernelIdeal.τ Cert.DhqKernelIdeal.sig) → Buf (Elt Ideal) ℓ) : Prop :=
  True

def Pre_DhqReferenceIdeal (m : (ℓ : Loc Cert.DhqReferenceIdeal.nD Cert.DhqReferenceIdeal.τ Cert.DhqReferenceIdeal.sig) → Buf (Elt Ideal) ℓ) : Prop :=
  True

def Pre_DmemKKernel (m : (ℓ : Loc Cert.DmemKKernel.nD Cert.DmemKKernel.τ Cert.DmemKKernel.sig) → Buf (Elt Bits) ℓ) : Prop :=
  True

def Pre_DmemKKernelIdeal (m : (ℓ : Loc Cert.DmemKKernelIdeal.nD Cert.DmemKKernelIdeal.τ Cert.DmemKKernelIdeal.sig) → Buf (Elt Ideal) ℓ) : Prop :=
  True

def Pre_DmemKReferenceIdeal (m : (ℓ : Loc Cert.DmemKReferenceIdeal.nD Cert.DmemKReferenceIdeal.τ Cert.DmemKReferenceIdeal.sig) → Buf (Elt Ideal) ℓ) : Prop :=
  True

def Pre_DmemVKernel (m : (ℓ : Loc Cert.DmemVKernel.nD Cert.DmemVKernel.τ Cert.DmemVKernel.sig) → Buf (Elt Bits) ℓ) : Prop :=
  True

def Pre_DmemVKernelIdeal (m : (ℓ : Loc Cert.DmemVKernelIdeal.nD Cert.DmemVKernelIdeal.τ Cert.DmemVKernelIdeal.sig) → Buf (Elt Ideal) ℓ) : Prop :=
  True

def Pre_DmemVReferenceIdeal (m : (ℓ : Loc Cert.DmemVReferenceIdeal.nD Cert.DmemVReferenceIdeal.τ Cert.DmemVReferenceIdeal.sig) → Buf (Elt Ideal) ℓ) : Prop :=
  True

def Pre_DmixedKernel (m : (ℓ : Loc Cert.DmixedKernel.nD Cert.DmixedKernel.τ Cert.DmixedKernel.sig) → Buf (Elt Bits) ℓ) : Prop :=
  True

def Pre_DmixedKernelIdeal (m : (ℓ : Loc Cert.DmixedKernelIdeal.nD Cert.DmixedKernelIdeal.τ Cert.DmixedKernelIdeal.sig) → Buf (Elt Ideal) ℓ) : Prop :=
  True

def Pre_DmixedReferenceIdeal (m : (ℓ : Loc Cert.DmixedReferenceIdeal.nD Cert.DmixedReferenceIdeal.τ Cert.DmixedReferenceIdeal.sig) → Buf (Elt Ideal) ℓ) : Prop :=
  True

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DwUpKernel (m : (ℓ : Loc Cert.DwUpKernel.nD Cert.DwUpKernel.τ Cert.DwUpKernel.sig) → Buf (Elt Bits) ℓ) : Prop :=
  True

def Pre_DwUpKernelIdeal (m : (ℓ : Loc Cert.DwUpKernelIdeal.nD Cert.DwUpKernelIdeal.τ Cert.DwUpKernelIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwCoKernel (m : (ℓ : Loc Cert.DwCoKernel.nD Cert.DwCoKernel.τ Cert.DwCoKernel.sig) → Buf (Elt Bits) ℓ) : Prop :=
  True

def Pre_DwCoKernelIdeal (m : (ℓ : Loc Cert.DwCoKernelIdeal.nD Cert.DwCoKernelIdeal.τ Cert.DwCoKernelIdeal.sig) → Buf (Elt Ideal) ℓ) : Prop :=
  True

def Pre_DwCoReferenceIdeal (m : (ℓ : Loc Cert.DwCoReferenceIdeal.nD Cert.DwCoReferenceIdeal.τ Cert.DwCoReferenceIdeal.sig) → Buf (Elt Ideal) ℓ) : Prop :=
  True

def Pre_DwCqKernel (m : (ℓ : Loc Cert.DwCqKernel.nD Cert.DwCqKernel.τ Cert.DwCqKernel.sig) → Buf (Elt Bits) ℓ) : Prop :=
  True

def Pre_DwCqKernelIdeal (m : (ℓ : Loc Cert.DwCqKernelIdeal.nD Cert.DwCqKernelIdeal.τ Cert.DwCqKernelIdeal.sig) → Buf (Elt Ideal) ℓ) : Prop :=
  True

def Pre_DwCqReferenceIdeal (m : (ℓ : Loc Cert.DwCqReferenceIdeal.nD Cert.DwCqReferenceIdeal.τ Cert.DwCqReferenceIdeal.sig) → Buf (Elt Ideal) ℓ) : Prop :=
  True

def Pre_DwCkKernel (m : (ℓ : Loc Cert.DwCkKernel.nD Cert.DwCkKernel.τ Cert.DwCkKernel.sig) → Buf (Elt Bits) ℓ) : Prop :=
  True

def Pre_DwCkKernelIdeal (m : (ℓ : Loc Cert.DwCkKernelIdeal.nD Cert.DwCkKernelIdeal.τ Cert.DwCkKernelIdeal.sig) → Buf (Elt Ideal) ℓ) : Prop :=
  True

def Pre_DwCkReferenceIdeal (m : (ℓ : Loc Cert.DwCkReferenceIdeal.nD Cert.DwCkReferenceIdeal.τ Cert.DwCkReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_FfnActKernel (m : (ℓ : Loc Cert.FfnActKernel.nD Cert.FfnActKernel.τ Cert.FfnActKernel.sig) → Buf (Elt Bits) ℓ) : Prop :=
  True

def Pre_FfnActKernelIdeal (m : (ℓ : Loc Cert.FfnActKernelIdeal.nD Cert.FfnActKernelIdeal.τ Cert.FfnActKernelIdeal.sig) → Buf (Elt Ideal) ℓ) : Prop :=
  True

def Pre_FfnActReferenceIdeal (m : (ℓ : Loc Cert.FfnActReferenceIdeal.nD Cert.FfnActReferenceIdeal.τ Cert.FfnActReferenceIdeal.sig) → Buf (Elt Ideal) ℓ) : Prop :=
  True

def Pre_ConvTKernel (m : (ℓ : Loc Cert.ConvTKernel.nD Cert.ConvTKernel.τ Cert.ConvTKernel.sig) → Buf (Elt Bits) ℓ) : Prop :=
  True

def Pre_ConvTKernelIdeal (m : (ℓ : Loc Cert.ConvTKernelIdeal.nD Cert.ConvTKernelIdeal.τ Cert.ConvTKernelIdeal.sig) → Buf (Elt Ideal) ℓ) : Prop :=
  True

def Pre_ConvTReferenceIdeal (m : (ℓ : Loc Cert.ConvTReferenceIdeal.nD Cert.ConvTReferenceIdeal.τ Cert.ConvTReferenceIdeal.sig) → Buf (Elt Ideal) ℓ) : Prop :=
  True

def Pre_ReduceAdd0Kernel (m : (ℓ : Loc Cert.ReduceAdd0Kernel.nD Cert.ReduceAdd0Kernel.τ Cert.ReduceAdd0Kernel.sig) → Buf (Elt Bits) ℓ) : Prop :=
  True

def Pre_ReduceAdd0KernelIdeal (m : (ℓ : Loc Cert.ReduceAdd0KernelIdeal.nD Cert.ReduceAdd0KernelIdeal.τ Cert.ReduceAdd0KernelIdeal.sig) → Buf (Elt Ideal) ℓ) : Prop :=
  True

def Pre_ReduceAdd0ReferenceIdeal (m : (ℓ : Loc Cert.ReduceAdd0ReferenceIdeal.nD Cert.ReduceAdd0ReferenceIdeal.τ Cert.ReduceAdd0ReferenceIdeal.sig) → Buf (Elt Ideal) ℓ) : Prop :=
  True

def Pre_ReduceAdd1Kernel (m : (ℓ : Loc Cert.ReduceAdd1Kernel.nD Cert.ReduceAdd1Kernel.τ Cert.ReduceAdd1Kernel.sig) → Buf (Elt Bits) ℓ) : Prop :=
  True

def Pre_ReduceAdd1KernelIdeal (m : (ℓ : Loc Cert.ReduceAdd1KernelIdeal.nD Cert.ReduceAdd1KernelIdeal.τ Cert.ReduceAdd1KernelIdeal.sig) → Buf (Elt Ideal) ℓ) : Prop :=
  True

def Pre_ReduceAdd1ReferenceIdeal (m : (ℓ : Loc Cert.ReduceAdd1ReferenceIdeal.nD Cert.ReduceAdd1ReferenceIdeal.τ Cert.ReduceAdd1ReferenceIdeal.sig) → Buf (Elt Ideal) ℓ) : Prop :=
  True

def quiescent_ReduceShareKernel [hReduceShareKernel : Cert.ReduceShareKernel.Facts] : Prop :=
  ∀ (m : (ℓ : Loc Cert.ReduceShareKernel.nD Cert.ReduceShareKernel.τ Cert.ReduceShareKernel.sig) → Buf (Elt Bits) ℓ) (g : Dev Cert.ReduceShareKernel.nD → PrngReg), Pre_ReduceShareKernel m →
    θ_run (Cert.ReduceShareKernel.defs (F := Bits)) (onTc (τ := Cert.ReduceShareKernel.τ) (Cert.ReduceShareKernel.main (F := Bits))) ⟨m, fun _ => 0, g⟩ (fun r => (∀ c : Dev Cert.ReduceShareKernel.nD,
      r.2.mem ((c.tc : Thread Cert.ReduceShareKernel.nD Cert.ReduceShareKernel.τ).loc Cert.ReduceShareKernel.main_arg0) = m ((c.tc : Thread Cert.ReduceShareKernel.nD Cert.ReduceShareKernel.τ).loc Cert.ReduceShareKernel.main_arg0))
      ∧ r.2.sem = fun _ => 0)

def quiescent_ReduceShareKernelIdeal [hReduceShareKernelIdeal : Cert.ReduceShareKernelIdeal.Facts] : Prop :=
  ∀ (m : (ℓ : Loc Cert.ReduceShareKernelIdeal.nD Cert.ReduceShareKernelIdeal.τ Cert.ReduceShareKernelIdeal.sig) → Buf (Elt Ideal) ℓ) (g : Dev Cert.ReduceShareKernelIdeal.nD → PrngReg), Pre_ReduceShareKernelIdeal m →
    θ_run (Cert.ReduceShareKernelIdeal.defs (F := Ideal)) (onTc (τ := Cert.ReduceShareKernelIdeal.τ) (Cert.ReduceShareKernelIdeal.main (F := Ideal))) ⟨m, fun _ => 0, g⟩ (fun r => (∀ c : Dev Cert.ReduceShareKernelIdeal.nD,
      r.2.mem ((c.tc : Thread Cert.ReduceShareKernelIdeal.nD Cert.ReduceShareKernelIdeal.τ).loc Cert.ReduceShareKernelIdeal.main_arg0) = m ((c.tc : Thread Cert.ReduceShareKernelIdeal.nD Cert.ReduceShareKernelIdeal.τ).loc Cert.ReduceShareKernelIdeal.main_arg0))
      ∧ r.2.sem = fun _ => 0)

def quiescent_ReduceShareReferenceIdeal [hReduceShareReferenceIdeal : Cert.ReduceShareReferenceIdeal.Facts] : Prop :=
  ∀ (m : (ℓ : Loc Cert.ReduceShareReferenceIdeal.nD Cert.ReduceShareReferenceIdeal.τ Cert.ReduceShareReferenceIdeal.sig) → Buf (Elt Ideal) ℓ) (g : Dev Cert.ReduceShareReferenceIdeal.nD → PrngReg), Pre_ReduceShareReferenceIdeal m →
    θ_run (Cert.ReduceShareReferenceIdeal.defs (F := Ideal)) (onTc (τ := Cert.ReduceShareReferenceIdeal.τ) (Cert.ReduceShareReferenceIdeal.main (F := Ideal))) ⟨m, fun _ => 0, g⟩ (fun r => (∀ c : Dev Cert.ReduceShareReferenceIdeal.nD,
      r.2.mem ((c.tc : Thread Cert.ReduceShareReferenceIdeal.nD Cert.ReduceShareReferenceIdeal.τ).loc Cert.ReduceShareReferenceIdeal.main_arg0) = m ((c.tc : Thread Cert.ReduceShareReferenceIdeal.nD Cert.ReduceShareReferenceIdeal.τ).loc Cert.ReduceShareReferenceIdeal.main_arg0))
      ∧ r.2.sem = fun _ => 0)

def quiescent_ReduceShareReference [hReduceShareReference : Cert.ReduceShareReference.Facts] : Prop :=
  ∀ (m : (ℓ : Loc Cert.ReduceShareReference.nD Cert.ReduceShareReference.τ Cert.ReduceShareReference.sig) → Buf (Elt Bits) ℓ) (g : Dev Cert.ReduceShareReference.nD → PrngReg), Pre_ReduceShareReference m →
    θ_run (Cert.ReduceShareReference.defs (F := Bits)) (onTc (τ := Cert.ReduceShareReference.τ) (Cert.ReduceShareReference.main (F := Bits))) ⟨m, fun _ => 0, g⟩ (fun r => (∀ c : Dev Cert.ReduceShareReference.nD,
      r.2.mem ((c.tc : Thread Cert.ReduceShareReference.nD Cert.ReduceShareReference.τ).loc Cert.ReduceShareReference.main_arg0) = m ((c.tc : Thread Cert.ReduceShareReference.nD Cert.ReduceShareReference.τ).loc Cert.ReduceShareReference.main_arg0))
      ∧ r.2.sem = fun _ => 0)

def quiescent_GatherChipsKernel [hGatherChipsKernel : Cert.GatherChipsKernel.Facts] : Prop :=
  ∀ (m : (ℓ : Loc Cert.GatherChipsKernel.nD Cert.GatherChipsKernel.τ Cert.GatherChipsKernel.sig) → Buf (Elt Bits) ℓ) (g : Dev Cert.GatherChipsKernel.nD → PrngReg), Pre_GatherChipsKernel m →
    θ_run (Cert.GatherChipsKernel.defs (F := Bits)) (onTc (τ := Cert.GatherChipsKernel.τ) (Cert.GatherChipsKernel.main (F := Bits))) ⟨m, fun _ => 0, g⟩ (fun r => (∀ c : Dev Cert.GatherChipsKernel.nD,
      r.2.mem ((c.tc : Thread Cert.GatherChipsKernel.nD Cert.GatherChipsKernel.τ).loc Cert.GatherChipsKernel.main_arg0) = m ((c.tc : Thread Cert.GatherChipsKernel.nD Cert.GatherChipsKernel.τ).loc Cert.GatherChipsKernel.main_arg0))
      ∧ r.2.sem = fun _ => 0)

def quiescent_GatherChipsKernelIdeal [hGatherChipsKernelIdeal : Cert.GatherChipsKernelIdeal.Facts] : Prop :=
  ∀ (m : (ℓ : Loc Cert.GatherChipsKernelIdeal.nD Cert.GatherChipsKernelIdeal.τ Cert.GatherChipsKernelIdeal.sig) → Buf (Elt Ideal) ℓ) (g : Dev Cert.GatherChipsKernelIdeal.nD → PrngReg), Pre_GatherChipsKernelIdeal m →
    θ_run (Cert.GatherChipsKernelIdeal.defs (F := Ideal)) (onTc (τ := Cert.GatherChipsKernelIdeal.τ) (Cert.GatherChipsKernelIdeal.main (F := Ideal))) ⟨m, fun _ => 0, g⟩ (fun r => (∀ c : Dev Cert.GatherChipsKernelIdeal.nD,
      r.2.mem ((c.tc : Thread Cert.GatherChipsKernelIdeal.nD Cert.GatherChipsKernelIdeal.τ).loc Cert.GatherChipsKernelIdeal.main_arg0) = m ((c.tc : Thread Cert.GatherChipsKernelIdeal.nD Cert.GatherChipsKernelIdeal.τ).loc Cert.GatherChipsKernelIdeal.main_arg0))
      ∧ r.2.sem = fun _ => 0)

def quiescent_GatherChipsReferenceIdeal [hGatherChipsReferenceIdeal : Cert.GatherChipsReferenceIdeal.Facts] : Prop :=
  ∀ (m : (ℓ : Loc Cert.GatherChipsReferenceIdeal.nD Cert.GatherChipsReferenceIdeal.τ Cert.GatherChipsReferenceIdeal.sig) → Buf (Elt Ideal) ℓ) (g : Dev Cert.GatherChipsReferenceIdeal.nD → PrngReg), Pre_GatherChipsReferenceIdeal m →
    θ_run (Cert.GatherChipsReferenceIdeal.defs (F := Ideal)) (onTc (τ := Cert.GatherChipsReferenceIdeal.τ) (Cert.GatherChipsReferenceIdeal.main (F := Ideal))) ⟨m, fun _ => 0, g⟩ (fun r => (∀ c : Dev Cert.GatherChipsReferenceIdeal.nD,
      r.2.mem ((c.tc : Thread Cert.GatherChipsReferenceIdeal.nD Cert.GatherChipsReferenceIdeal.τ).loc Cert.GatherChipsReferenceIdeal.main_arg0) = m ((c.tc : Thread Cert.GatherChipsReferenceIdeal.nD Cert.GatherChipsReferenceIdeal.τ).loc Cert.GatherChipsReferenceIdeal.main_arg0))
      ∧ r.2.sem = fun _ => 0)

def quiescent_GatherChipsReference [hGatherChipsReference : Cert.GatherChipsReference.Facts] : Prop :=
  ∀ (m : (ℓ : Loc Cert.GatherChipsReference.nD Cert.GatherChipsReference.τ Cert.GatherChipsReference.sig) → Buf (Elt Bits) ℓ) (g : Dev Cert.GatherChipsReference.nD → PrngReg), Pre_GatherChipsReference m →
    θ_run (Cert.GatherChipsReference.defs (F := Bits)) (onTc (τ := Cert.GatherChipsReference.τ) (Cert.GatherChipsReference.main (F := Bits))) ⟨m, fun _ => 0, g⟩ (fun r => (∀ c : Dev Cert.GatherChipsReference.nD,
      r.2.mem ((c.tc : Thread Cert.GatherChipsReference.nD Cert.GatherChipsReference.τ).loc Cert.GatherChipsReference.main_arg0) = m ((c.tc : Thread Cert.GatherChipsReference.nD Cert.GatherChipsReference.τ).loc Cert.GatherChipsReference.main_arg0))
      ∧ r.2.sem = fun _ => 0)

def quiescent_GatherSiblingKernel [hGatherSiblingKernel : Cert.GatherSiblingKernel.Facts] : Prop :=
  ∀ (m : (ℓ : Loc Cert.GatherSiblingKernel.nD Cert.GatherSiblingKernel.τ Cert.GatherSiblingKernel.sig) → Buf (Elt Bits) ℓ) (g : Dev Cert.GatherSiblingKernel.nD → PrngReg), Pre_GatherSiblingKernel m →
    θ_run (Cert.GatherSiblingKernel.defs (F := Bits)) (onTc (τ := Cert.GatherSiblingKernel.τ) (Cert.GatherSiblingKernel.main (F := Bits))) ⟨m, fun _ => 0, g⟩ (fun r => (∀ c : Dev Cert.GatherSiblingKernel.nD,
      r.2.mem ((c.tc : Thread Cert.GatherSiblingKernel.nD Cert.GatherSiblingKernel.τ).loc Cert.GatherSiblingKernel.main_arg0) = m ((c.tc : Thread Cert.GatherSiblingKernel.nD Cert.GatherSiblingKernel.τ).loc Cert.GatherSiblingKernel.main_arg0))
      ∧ r.2.sem = fun _ => 0)

def quiescent_GatherSiblingKernelIdeal [hGatherSiblingKernelIdeal : Cert.GatherSiblingKernelIdeal.Facts] : Prop :=
  ∀ (m : (ℓ : Loc Cert.GatherSiblingKernelIdeal.nD Cert.GatherSiblingKernelIdeal.τ Cert.GatherSiblingKernelIdeal.sig) → Buf (Elt Ideal) ℓ) (g : Dev Cert.GatherSiblingKernelIdeal.nD → PrngReg), Pre_GatherSiblingKernelIdeal m →
    θ_run (Cert.GatherSiblingKernelIdeal.defs (F := Ideal)) (onTc (τ := Cert.GatherSiblingKernelIdeal.τ) (Cert.GatherSiblingKernelIdeal.main (F := Ideal))) ⟨m, fun _ => 0, g⟩ (fun r => (∀ c : Dev Cert.GatherSiblingKernelIdeal.nD,
      r.2.mem ((c.tc : Thread Cert.GatherSiblingKernelIdeal.nD Cert.GatherSiblingKernelIdeal.τ).loc Cert.GatherSiblingKernelIdeal.main_arg0) = m ((c.tc : Thread Cert.GatherSiblingKernelIdeal.nD Cert.GatherSiblingKernelIdeal.τ).loc Cert.GatherSiblingKernelIdeal.main_arg0))
      ∧ r.2.sem = fun _ => 0)

def quiescent_GatherSiblingReferenceIdeal [hGatherSiblingReferenceIdeal : Cert.GatherSiblingReferenceIdeal.Facts] : Prop :=
  ∀ (m : (ℓ : Loc Cert.GatherSiblingReferenceIdeal.nD Cert.GatherSiblingReferenceIdeal.τ Cert.GatherSiblingReferenceIdeal.sig) → Buf (Elt Ideal) ℓ) (g : Dev Cert.GatherSiblingReferenceIdeal.nD → PrngReg), Pre_GatherSiblingReferenceIdeal m →
    θ_run (Cert.GatherSiblingReferenceIdeal.defs (F := Ideal)) (onTc (τ := Cert.GatherSiblingReferenceIdeal.τ) (Cert.GatherSiblingReferenceIdeal.main (F := Ideal))) ⟨m, fun _ => 0, g⟩ (fun r => (∀ c : Dev Cert.GatherSiblingReferenceIdeal.nD,
      r.2.mem ((c.tc : Thread Cert.GatherSiblingReferenceIdeal.nD Cert.GatherSiblingReferenceIdeal.τ).loc Cert.GatherSiblingReferenceIdeal.main_arg0) = m ((c.tc : Thread Cert.GatherSiblingReferenceIdeal.nD Cert.GatherSiblingReferenceIdeal.τ).loc Cert.GatherSiblingReferenceIdeal.main_arg0))
      ∧ r.2.sem = fun _ => 0)

def quiescent_GatherSiblingReference [hGatherSiblingReference : Cert.GatherSiblingReference.Facts] : Prop :=
  ∀ (m : (ℓ : Loc Cert.GatherSiblingReference.nD Cert.GatherSiblingReference.τ Cert.GatherSiblingReference.sig) → Buf (Elt Bits) ℓ) (g : Dev Cert.GatherSiblingReference.nD → PrngReg), Pre_GatherSiblingReference m →
    θ_run (Cert.GatherSiblingReference.defs (F := Bits)) (onTc (τ := Cert.GatherSiblingReference.τ) (Cert.GatherSiblingReference.main (F := Bits))) ⟨m, fun _ => 0, g⟩ (fun r => (∀ c : Dev Cert.GatherSiblingReference.nD,
      r.2.mem ((c.tc : Thread Cert.GatherSiblingReference.nD Cert.GatherSiblingReference.τ).loc Cert.GatherSiblingReference.main_arg0) = m ((c.tc : Thread Cert.GatherSiblingReference.nD Cert.GatherSiblingReference.τ).loc Cert.GatherSiblingReference.main_arg0))
      ∧ r.2.sem = fun _ => 0)

def quiescent_GatherConvKernel [hGatherConvKernel : Cert.GatherConvKernel.Facts] : Prop :=
  ∀ (m : (ℓ : Loc Cert.GatherConvKernel.nD Cert.GatherConvKernel.τ Cert.GatherConvKernel.sig) → Buf (Elt Bits) ℓ) (g : Dev Cert.GatherConvKernel.nD → PrngReg), Pre_GatherConvKernel m →
    θ_run (Cert.GatherConvKernel.defs (F := Bits)) (onTc (τ := Cert.GatherConvKernel.τ) (Cert.GatherConvKernel.main (F := Bits))) ⟨m, fun _ => 0, g⟩ (fun r => (∀ c : Dev Cert.GatherConvKernel.nD,
      r.2.mem ((c.tc : Thread Cert.GatherConvKernel.nD Cert.GatherConvKernel.τ).loc Cert.GatherConvKernel.main_arg0) = m ((c.tc : Thread Cert.GatherConvKernel.nD Cert.GatherConvKernel.τ).loc Cert.GatherConvKernel.main_arg0))
      ∧ r.2.sem = fun _ => 0)

def quiescent_GatherConvKernelIdeal [hGatherConvKernelIdeal : Cert.GatherConvKernelIdeal.Facts] : Prop :=
  ∀ (m : (ℓ : Loc Cert.GatherConvKernelIdeal.nD Cert.GatherConvKernelIdeal.τ Cert.GatherConvKernelIdeal.sig) → Buf (Elt Ideal) ℓ) (g : Dev Cert.GatherConvKernelIdeal.nD → PrngReg), Pre_GatherConvKernelIdeal m →
    θ_run (Cert.GatherConvKernelIdeal.defs (F := Ideal)) (onTc (τ := Cert.GatherConvKernelIdeal.τ) (Cert.GatherConvKernelIdeal.main (F := Ideal))) ⟨m, fun _ => 0, g⟩ (fun r => (∀ c : Dev Cert.GatherConvKernelIdeal.nD,
      r.2.mem ((c.tc : Thread Cert.GatherConvKernelIdeal.nD Cert.GatherConvKernelIdeal.τ).loc Cert.GatherConvKernelIdeal.main_arg0) = m ((c.tc : Thread Cert.GatherConvKernelIdeal.nD Cert.GatherConvKernelIdeal.τ).loc Cert.GatherConvKernelIdeal.main_arg0))
      ∧ r.2.sem = fun _ => 0)

def quiescent_GatherConvReferenceIdeal [hGatherConvReferenceIdeal : Cert.GatherConvReferenceIdeal.Facts] : Prop :=
  ∀ (m : (ℓ : Loc Cert.GatherConvReferenceIdeal.nD Cert.GatherConvReferenceIdeal.τ Cert.GatherConvReferenceIdeal.sig) → Buf (Elt Ideal) ℓ) (g : Dev Cert.GatherConvReferenceIdeal.nD → PrngReg), Pre_GatherConvReferenceIdeal m →
    θ_run (Cert.GatherConvReferenceIdeal.defs (F := Ideal)) (onTc (τ := Cert.GatherConvReferenceIdeal.τ) (Cert.GatherConvReferenceIdeal.main (F := Ideal))) ⟨m, fun _ => 0, g⟩ (fun r => (∀ c : Dev Cert.GatherConvReferenceIdeal.nD,
      r.2.mem ((c.tc : Thread Cert.GatherConvReferenceIdeal.nD Cert.GatherConvReferenceIdeal.τ).loc Cert.GatherConvReferenceIdeal.main_arg0) = m ((c.tc : Thread Cert.GatherConvReferenceIdeal.nD Cert.GatherConvReferenceIdeal.τ).loc Cert.GatherConvReferenceIdeal.main_arg0))
      ∧ r.2.sem = fun _ => 0)

def quiescent_GatherConvReference [hGatherConvReference : Cert.GatherConvReference.Facts] : Prop :=
  ∀ (m : (ℓ : Loc Cert.GatherConvReference.nD Cert.GatherConvReference.τ Cert.GatherConvReference.sig) → Buf (Elt Bits) ℓ) (g : Dev Cert.GatherConvReference.nD → PrngReg), Pre_GatherConvReference m →
    θ_run (Cert.GatherConvReference.defs (F := Bits)) (onTc (τ := Cert.GatherConvReference.τ) (Cert.GatherConvReference.main (F := Bits))) ⟨m, fun _ => 0, g⟩ (fun r => (∀ c : Dev Cert.GatherConvReference.nD,
      r.2.mem ((c.tc : Thread Cert.GatherConvReference.nD Cert.GatherConvReference.τ).loc Cert.GatherConvReference.main_arg0) = m ((c.tc : Thread Cert.GatherConvReference.nD Cert.GatherConvReference.τ).loc Cert.GatherConvReference.main_arg0))
      ∧ r.2.sem = fun _ => 0)

def quiescent_ReduceSiblingKernel [hReduceSiblingKernel : Cert.ReduceSiblingKernel.Facts] : Prop :=
  ∀ (m : (ℓ : Loc Cert.ReduceSiblingKernel.nD Cert.ReduceSiblingKernel.τ Cert.ReduceSiblingKernel.sig) → Buf (Elt Bits) ℓ) (g : Dev Cert.ReduceSiblingKernel.nD → PrngReg), Pre_ReduceSiblingKernel m →
    θ_run (Cert.ReduceSiblingKernel.defs (F := Bits)) (onTc (τ := Cert.ReduceSiblingKernel.τ) (Cert.ReduceSiblingKernel.main (F := Bits))) ⟨m, fun _ => 0, g⟩ (fun r => (∀ c : Dev Cert.ReduceSiblingKernel.nD,
      r.2.mem ((c.tc : Thread Cert.ReduceSiblingKernel.nD Cert.ReduceSiblingKernel.τ).loc Cert.ReduceSiblingKernel.main_arg0) = m ((c.tc : Thread Cert.ReduceSiblingKernel.nD Cert.ReduceSiblingKernel.τ).loc Cert.ReduceSiblingKernel.main_arg0))
      ∧ r.2.sem = fun _ => 0)

def quiescent_ReduceSiblingKernelIdeal [hReduceSiblingKernelIdeal : Cert.ReduceSiblingKernelIdeal.Facts] : Prop :=
  ∀ (m : (ℓ : Loc Cert.ReduceSiblingKernelIdeal.nD Cert.ReduceSiblingKernelIdeal.τ Cert.ReduceSiblingKernelIdeal.sig) → Buf (Elt Ideal) ℓ) (g : Dev Cert.ReduceSiblingKernelIdeal.nD → PrngReg), Pre_ReduceSiblingKernelIdeal m →
    θ_run (Cert.ReduceSiblingKernelIdeal.defs (F := Ideal)) (onTc (τ := Cert.ReduceSiblingKernelIdeal.τ) (Cert.ReduceSiblingKernelIdeal.main (F := Ideal))) ⟨m, fun _ => 0, g⟩ (fun r => (∀ c : Dev Cert.ReduceSiblingKernelIdeal.nD,
      r.2.mem ((c.tc : Thread Cert.ReduceSiblingKernelIdeal.nD Cert.ReduceSiblingKernelIdeal.τ).loc Cert.ReduceSiblingKernelIdeal.main_arg0) = m ((c.tc : Thread Cert.ReduceSiblingKernelIdeal.nD Cert.ReduceSiblingKernelIdeal.τ).loc Cert.ReduceSiblingKernelIdeal.main_arg0))
      ∧ r.2.sem = fun _ => 0)

def quiescent_ReduceSiblingReferenceIdeal [hReduceSiblingReferenceIdeal : Cert.ReduceSiblingReferenceIdeal.Facts] : Prop :=
  ∀ (m : (ℓ : Loc Cert.ReduceSiblingReferenceIdeal.nD Cert.ReduceSiblingReferenceIdeal.τ Cert.ReduceSiblingReferenceIdeal.sig) → Buf (Elt Ideal) ℓ) (g : Dev Cert.ReduceSiblingReferenceIdeal.nD → PrngReg), Pre_ReduceSiblingReferenceIdeal m →
    θ_run (Cert.ReduceSiblingReferenceIdeal.defs (F := Ideal)) (onTc (τ := Cert.ReduceSiblingReferenceIdeal.τ) (Cert.ReduceSiblingReferenceIdeal.main (F := Ideal))) ⟨m, fun _ => 0, g⟩ (fun r => (∀ c : Dev Cert.ReduceSiblingReferenceIdeal.nD,
      r.2.mem ((c.tc : Thread Cert.ReduceSiblingReferenceIdeal.nD Cert.ReduceSiblingReferenceIdeal.τ).loc Cert.ReduceSiblingReferenceIdeal.main_arg0) = m ((c.tc : Thread Cert.ReduceSiblingReferenceIdeal.nD Cert.ReduceSiblingReferenceIdeal.τ).loc Cert.ReduceSiblingReferenceIdeal.main_arg0))
      ∧ r.2.sem = fun _ => 0)

def quiescent_ReduceSiblingReference [hReduceSiblingReference : Cert.ReduceSiblingReference.Facts] : Prop :=
  ∀ (m : (ℓ : Loc Cert.ReduceSiblingReference.nD Cert.ReduceSiblingReference.τ Cert.ReduceSiblingReference.sig) → Buf (Elt Bits) ℓ) (g : Dev Cert.ReduceSiblingReference.nD → PrngReg), Pre_ReduceSiblingReference m →
    θ_run (Cert.ReduceSiblingReference.defs (F := Bits)) (onTc (τ := Cert.ReduceSiblingReference.τ) (Cert.ReduceSiblingReference.main (F := Bits))) ⟨m, fun _ => 0, g⟩ (fun r => (∀ c : Dev Cert.ReduceSiblingReference.nD,
      r.2.mem ((c.tc : Thread Cert.ReduceSiblingReference.nD Cert.ReduceSiblingReference.τ).loc Cert.ReduceSiblingReference.main_arg0) = m ((c.tc : Thread Cert.ReduceSiblingReference.nD Cert.ReduceSiblingReference.τ).loc Cert.ReduceSiblingReference.main_arg0))
      ∧ r.2.sem = fun _ => 0)

def quiescent_ReduceChipsKernel [hReduceChipsKernel : Cert.ReduceChipsKernel.Facts] : Prop :=
  ∀ (m : (ℓ : Loc Cert.ReduceChipsKernel.nD Cert.ReduceChipsKernel.τ Cert.ReduceChipsKernel.sig) → Buf (Elt Bits) ℓ) (g : Dev Cert.ReduceChipsKernel.nD → PrngReg), Pre_ReduceChipsKernel m →
    θ_run (Cert.ReduceChipsKernel.defs (F := Bits)) (onTc (τ := Cert.ReduceChipsKernel.τ) (Cert.ReduceChipsKernel.main (F := Bits))) ⟨m, fun _ => 0, g⟩ (fun r => (∀ c : Dev Cert.ReduceChipsKernel.nD,
      r.2.mem ((c.tc : Thread Cert.ReduceChipsKernel.nD Cert.ReduceChipsKernel.τ).loc Cert.ReduceChipsKernel.main_arg0) = m ((c.tc : Thread Cert.ReduceChipsKernel.nD Cert.ReduceChipsKernel.τ).loc Cert.ReduceChipsKernel.main_arg0))
      ∧ r.2.sem = fun _ => 0)

def quiescent_ReduceChipsKernelIdeal [hReduceChipsKernelIdeal : Cert.ReduceChipsKernelIdeal.Facts] : Prop :=
  ∀ (m : (ℓ : Loc Cert.ReduceChipsKernelIdeal.nD Cert.ReduceChipsKernelIdeal.τ Cert.ReduceChipsKernelIdeal.sig) → Buf (Elt Ideal) ℓ) (g : Dev Cert.ReduceChipsKernelIdeal.nD → PrngReg), Pre_ReduceChipsKernelIdeal m →
    θ_run (Cert.ReduceChipsKernelIdeal.defs (F := Ideal)) (onTc (τ := Cert.ReduceChipsKernelIdeal.τ) (Cert.ReduceChipsKernelIdeal.main (F := Ideal))) ⟨m, fun _ => 0, g⟩ (fun r => (∀ c : Dev Cert.ReduceChipsKernelIdeal.nD,
      r.2.mem ((c.tc : Thread Cert.ReduceChipsKernelIdeal.nD Cert.ReduceChipsKernelIdeal.τ).loc Cert.ReduceChipsKernelIdeal.main_arg0) = m ((c.tc : Thread Cert.ReduceChipsKernelIdeal.nD Cert.ReduceChipsKernelIdeal.τ).loc Cert.ReduceChipsKernelIdeal.main_arg0))
      ∧ r.2.sem = fun _ => 0)

def quiescent_ReduceChipsReferenceIdeal [hReduceChipsReferenceIdeal : Cert.ReduceChipsReferenceIdeal.Facts] : Prop :=
  ∀ (m : (ℓ : Loc Cert.ReduceChipsReferenceIdeal.nD Cert.ReduceChipsReferenceIdeal.τ Cert.ReduceChipsReferenceIdeal.sig) → Buf (Elt Ideal) ℓ) (g : Dev Cert.ReduceChipsReferenceIdeal.nD → PrngReg), Pre_ReduceChipsReferenceIdeal m →
    θ_run (Cert.ReduceChipsReferenceIdeal.defs (F := Ideal)) (onTc (τ := Cert.ReduceChipsReferenceIdeal.τ) (Cert.ReduceChipsReferenceIdeal.main (F := Ideal))) ⟨m, fun _ => 0, g⟩ (fun r => (∀ c : Dev Cert.ReduceChipsReferenceIdeal.nD,
      r.2.mem ((c.tc : Thread Cert.ReduceChipsReferenceIdeal.nD Cert.ReduceChipsReferenceIdeal.τ).loc Cert.ReduceChipsReferenceIdeal.main_arg0) = m ((c.tc : Thread Cert.ReduceChipsReferenceIdeal.nD Cert.ReduceChipsReferenceIdeal.τ).loc Cert.ReduceChipsReferenceIdeal.main_arg0))
      ∧ r.2.sem = fun _ => 0)

def quiescent_ReduceChipsReference [hReduceChipsReference : Cert.ReduceChipsReference.Facts] : Prop :=
  ∀ (m : (ℓ : Loc Cert.ReduceChipsReference.nD Cert.ReduceChipsReference.τ Cert.ReduceChipsReference.sig) → Buf (Elt Bits) ℓ) (g : Dev Cert.ReduceChipsReference.nD → PrngReg), Pre_ReduceChipsReference m →
    θ_run (Cert.ReduceChipsReference.defs (F := Bits)) (onTc (τ := Cert.ReduceChipsReference.τ) (Cert.ReduceChipsReference.main (F := Bits))) ⟨m, fun _ => 0, g⟩ (fun r => (∀ c : Dev Cert.ReduceChipsReference.nD,
      r.2.mem ((c.tc : Thread Cert.ReduceChipsReference.nD Cert.ReduceChipsReference.τ).loc Cert.ReduceChipsReference.main_arg0) = m ((c.tc : Thread Cert.ReduceChipsReference.nD Cert.ReduceChipsReference.τ).loc Cert.ReduceChipsReference.main_arg0))
      ∧ r.2.sem = fun _ => 0)

def quiescent_SmallSiblingKernel [hSmallSiblingKernel : Cert.SmallSiblingKernel.Facts] : Prop :=
  ∀ (m : (ℓ : Loc Cert.SmallSiblingKernel.nD Cert.SmallSiblingKernel.τ Cert.SmallSiblingKernel.sig) → Buf (Elt Bits) ℓ) (g : Dev Cert.SmallSiblingKernel.nD → PrngReg), Pre_SmallSiblingKernel m →
    θ_run (Cert.SmallSiblingKernel.defs (F := Bits)) (onTc (τ := Cert.SmallSiblingKernel.τ) (Cert.SmallSiblingKernel.main (F := Bits))) ⟨m, fun _ => 0, g⟩ (fun r => (∀ c : Dev Cert.SmallSiblingKernel.nD,
      r.2.mem ((c.tc : Thread Cert.SmallSiblingKernel.nD Cert.SmallSiblingKernel.τ).loc Cert.SmallSiblingKernel.main_arg0) = m ((c.tc : Thread Cert.SmallSiblingKernel.nD Cert.SmallSiblingKernel.τ).loc Cert.SmallSiblingKernel.main_arg0))
      ∧ r.2.sem = fun _ => 0)

def quiescent_SmallSiblingKernelIdeal [hSmallSiblingKernelIdeal : Cert.SmallSiblingKernelIdeal.Facts] : Prop :=
  ∀ (m : (ℓ : Loc Cert.SmallSiblingKernelIdeal.nD Cert.SmallSiblingKernelIdeal.τ Cert.SmallSiblingKernelIdeal.sig) → Buf (Elt Ideal) ℓ) (g : Dev Cert.SmallSiblingKernelIdeal.nD → PrngReg), Pre_SmallSiblingKernelIdeal m →
    θ_run (Cert.SmallSiblingKernelIdeal.defs (F := Ideal)) (onTc (τ := Cert.SmallSiblingKernelIdeal.τ) (Cert.SmallSiblingKernelIdeal.main (F := Ideal))) ⟨m, fun _ => 0, g⟩ (fun r => (∀ c : Dev Cert.SmallSiblingKernelIdeal.nD,
      r.2.mem ((c.tc : Thread Cert.SmallSiblingKernelIdeal.nD Cert.SmallSiblingKernelIdeal.τ).loc Cert.SmallSiblingKernelIdeal.main_arg0) = m ((c.tc : Thread Cert.SmallSiblingKernelIdeal.nD Cert.SmallSiblingKernelIdeal.τ).loc Cert.SmallSiblingKernelIdeal.main_arg0))
      ∧ r.2.sem = fun _ => 0)

def quiescent_SmallSiblingReferenceIdeal [hSmallSiblingReferenceIdeal : Cert.SmallSiblingReferenceIdeal.Facts] : Prop :=
  ∀ (m : (ℓ : Loc Cert.SmallSiblingReferenceIdeal.nD Cert.SmallSiblingReferenceIdeal.τ Cert.SmallSiblingReferenceIdeal.sig) → Buf (Elt Ideal) ℓ) (g : Dev Cert.SmallSiblingReferenceIdeal.nD → PrngReg), Pre_SmallSiblingReferenceIdeal m →
    θ_run (Cert.SmallSiblingReferenceIdeal.defs (F := Ideal)) (onTc (τ := Cert.SmallSiblingReferenceIdeal.τ) (Cert.SmallSiblingReferenceIdeal.main (F := Ideal))) ⟨m, fun _ => 0, g⟩ (fun r => (∀ c : Dev Cert.SmallSiblingReferenceIdeal.nD,
      r.2.mem ((c.tc : Thread Cert.SmallSiblingReferenceIdeal.nD Cert.SmallSiblingReferenceIdeal.τ).loc Cert.SmallSiblingReferenceIdeal.main_arg0) = m ((c.tc : Thread Cert.SmallSiblingReferenceIdeal.nD Cert.SmallSiblingReferenceIdeal.τ).loc Cert.SmallSiblingReferenceIdeal.main_arg0))
      ∧ r.2.sem = fun _ => 0)

def quiescent_SmallSiblingReference [hSmallSiblingReference : Cert.SmallSiblingReference.Facts] : Prop :=
  ∀ (m : (ℓ : Loc Cert.SmallSiblingReference.nD Cert.SmallSiblingReference.τ Cert.SmallSiblingReference.sig) → Buf (Elt Bits) ℓ) (g : Dev Cert.SmallSiblingReference.nD → PrngReg), Pre_SmallSiblingReference m →
    θ_run (Cert.SmallSiblingReference.defs (F := Bits)) (onTc (τ := Cert.SmallSiblingReference.τ) (Cert.SmallSiblingReference.main (F := Bits))) ⟨m, fun _ => 0, g⟩ (fun r => (∀ c : Dev Cert.SmallSiblingReference.nD,
      r.2.mem ((c.tc : Thread Cert.SmallSiblingReference.nD Cert.SmallSiblingReference.τ).loc Cert.SmallSiblingReference.main_arg0) = m ((c.tc : Thread Cert.SmallSiblingReference.nD Cert.SmallSiblingReference.τ).loc Cert.SmallSiblingReference.main_arg0))
      ∧ r.2.sem = fun _ => 0)

def quiescent_SmallChipsKernel [hSmallChipsKernel : Cert.SmallChipsKernel.Facts] : Prop :=
  ∀ (m : (ℓ : Loc Cert.SmallChipsKernel.nD Cert.SmallChipsKernel.τ Cert.SmallChipsKernel.sig) → Buf (Elt Bits) ℓ) (g : Dev Cert.SmallChipsKernel.nD → PrngReg), Pre_SmallChipsKernel m →
    θ_run (Cert.SmallChipsKernel.defs (F := Bits)) (onTc (τ := Cert.SmallChipsKernel.τ) (Cert.SmallChipsKernel.main (F := Bits))) ⟨m, fun _ => 0, g⟩ (fun r => (∀ c : Dev Cert.SmallChipsKernel.nD,
      r.2.mem ((c.tc : Thread Cert.SmallChipsKernel.nD Cert.SmallChipsKernel.τ).loc Cert.SmallChipsKernel.main_arg0) = m ((c.tc : Thread Cert.SmallChipsKernel.nD Cert.SmallChipsKernel.τ).loc Cert.SmallChipsKernel.main_arg0))
      ∧ r.2.sem = fun _ => 0)

def quiescent_SmallChipsKernelIdeal [hSmallChipsKernelIdeal : Cert.SmallChipsKernelIdeal.Facts] : Prop :=
  ∀ (m : (ℓ : Loc Cert.SmallChipsKernelIdeal.nD Cert.SmallChipsKernelIdeal.τ Cert.SmallChipsKernelIdeal.sig) → Buf (Elt Ideal) ℓ) (g : Dev Cert.SmallChipsKernelIdeal.nD → PrngReg), Pre_SmallChipsKernelIdeal m →
    θ_run (Cert.SmallChipsKernelIdeal.defs (F := Ideal)) (onTc (τ := Cert.SmallChipsKernelIdeal.τ) (Cert.SmallChipsKernelIdeal.main (F := Ideal))) ⟨m, fun _ => 0, g⟩ (fun r => (∀ c : Dev Cert.SmallChipsKernelIdeal.nD,
      r.2.mem ((c.tc : Thread Cert.SmallChipsKernelIdeal.nD Cert.SmallChipsKernelIdeal.τ).loc Cert.SmallChipsKernelIdeal.main_arg0) = m ((c.tc : Thread Cert.SmallChipsKernelIdeal.nD Cert.SmallChipsKernelIdeal.τ).loc Cert.SmallChipsKernelIdeal.main_arg0))
      ∧ r.2.sem = fun _ => 0)

def quiescent_SmallChipsReferenceIdeal [hSmallChipsReferenceIdeal : Cert.SmallChipsReferenceIdeal.Facts] : Prop :=
  ∀ (m : (ℓ : Loc Cert.SmallChipsReferenceIdeal.nD Cert.SmallChipsReferenceIdeal.τ Cert.SmallChipsReferenceIdeal.sig) → Buf (Elt Ideal) ℓ) (g : Dev Cert.SmallChipsReferenceIdeal.nD → PrngReg), Pre_SmallChipsReferenceIdeal m →
    θ_run (Cert.SmallChipsReferenceIdeal.defs (F := Ideal)) (onTc (τ := Cert.SmallChipsReferenceIdeal.τ) (Cert.SmallChipsReferenceIdeal.main (F := Ideal))) ⟨m, fun _ => 0, g⟩ (fun r => (∀ c : Dev Cert.SmallChipsReferenceIdeal.nD,
      r.2.mem ((c.tc : Thread Cert.SmallChipsReferenceIdeal.nD Cert.SmallChipsReferenceIdeal.τ).loc Cert.SmallChipsReferenceIdeal.main_arg0) = m ((c.tc : Thread Cert.SmallChipsReferenceIdeal.nD Cert.SmallChipsReferenceIdeal.τ).loc Cert.SmallChipsReferenceIdeal.main_arg0))
      ∧ r.2.sem = fun _ => 0)

def quiescent_SmallChipsReference [hSmallChipsReference : Cert.SmallChipsReference.Facts] : Prop :=
  ∀ (m : (ℓ : Loc Cert.SmallChipsReference.nD Cert.SmallChipsReference.τ Cert.SmallChipsReference.sig) → Buf (Elt Bits) ℓ) (g : Dev Cert.SmallChipsReference.nD → PrngReg), Pre_SmallChipsReference m →
    θ_run (Cert.SmallChipsReference.defs (F := Bits)) (onTc (τ := Cert.SmallChipsReference.τ) (Cert.SmallChipsReference.main (F := Bits))) ⟨m, fun _ => 0, g⟩ (fun r => (∀ c : Dev Cert.SmallChipsReference.nD,
      r.2.mem ((c.tc : Thread Cert.SmallChipsReference.nD Cert.SmallChipsReference.τ).loc Cert.SmallChipsReference.main_arg0) = m ((c.tc : Thread Cert.SmallChipsReference.nD Cert.SmallChipsReference.τ).loc Cert.SmallChipsReference.main_arg0))
      ∧ r.2.sem = fun _ => 0)

def quiescent_AdamwShardedKernel [hAdamwShardedKernel : Cert.AdamwShardedKernel.Facts] : Prop :=
  ∀ (m : (ℓ : Loc Cert.AdamwShardedKernel.nD Cert.AdamwShardedKernel.τ Cert.AdamwShardedKernel.sig) → Buf (Elt Bits) ℓ) (g : Dev Cert.AdamwShardedKernel.nD → PrngReg), Pre_AdamwShardedKernel m →
    θ_run (Cert.AdamwShardedKernel.defs (F := Bits)) (onTc (τ := Cert.AdamwShardedKernel.τ) (Cert.AdamwShardedKernel.main (F := Bits))) ⟨m, fun _ => 0, g⟩ (fun r => (∀ c : Dev Cert.AdamwShardedKernel.nD,
      r.2.mem ((c.tc : Thread Cert.AdamwShardedKernel.nD Cert.AdamwShardedKernel.τ).loc Cert.AdamwShardedKernel.main_arg0) = m ((c.tc : Thread Cert.AdamwShardedKernel.nD Cert.AdamwShardedKernel.τ).loc Cert.AdamwShardedKernel.main_arg0)
      ∧ r.2.mem ((c.tc : Thread Cert.AdamwShardedKernel.nD Cert.AdamwShardedKernel.τ).loc Cert.AdamwShardedKernel.main_arg1) = m ((c.tc : Thread Cert.AdamwShardedKernel.nD Cert.AdamwShardedKernel.τ).loc Cert.AdamwShardedKernel.main_arg1)
      ∧ r.2.mem ((c.tc : Thread Cert.AdamwShardedKernel.nD Cert.AdamwShardedKernel.τ).loc Cert.AdamwShardedKernel.main_arg2) = m ((c.tc : Thread Cert.AdamwShardedKernel.nD Cert.AdamwShardedKernel.τ).loc Cert.AdamwShardedKernel.main_arg2)
      ∧ r.2.mem ((c.tc : Thread Cert.AdamwShardedKernel.nD Cert.AdamwShardedKernel.τ).loc Cert.AdamwShardedKernel.main_arg3) = m ((c.tc : Thread Cert.AdamwShardedKernel.nD Cert.AdamwShardedKernel.τ).loc Cert.AdamwShardedKernel.main_arg3))
      ∧ r.2.sem = fun _ => 0)

def quiescent_AdamwShardedKernelIdeal [hAdamwShardedKernelIdeal : Cert.AdamwShardedKernelIdeal.Facts] : Prop :=
  ∀ (m : (ℓ : Loc Cert.AdamwShardedKernelIdeal.nD Cert.AdamwShardedKernelIdeal.τ Cert.AdamwShardedKernelIdeal.sig) → Buf (Elt Ideal) ℓ) (g : Dev Cert.AdamwShardedKernelIdeal.nD → PrngReg), Pre_AdamwShardedKernelIdeal m →
    θ_run (Cert.AdamwShardedKernelIdeal.defs (F := Ideal)) (onTc (τ := Cert.AdamwShardedKernelIdeal.τ) (Cert.AdamwShardedKernelIdeal.main (F := Ideal))) ⟨m, fun _ => 0, g⟩ (fun r => (∀ c : Dev Cert.AdamwShardedKernelIdeal.nD,
      r.2.mem ((c.tc : Thread Cert.AdamwShardedKernelIdeal.nD Cert.AdamwShardedKernelIdeal.τ).loc Cert.AdamwShardedKernelIdeal.main_arg0) = m ((c.tc : Thread Cert.AdamwShardedKernelIdeal.nD Cert.AdamwShardedKernelIdeal.τ).loc Cert.AdamwShardedKernelIdeal.main_arg0)
      ∧ r.2.mem ((c.tc : Thread Cert.AdamwShardedKernelIdeal.nD Cert.AdamwShardedKernelIdeal.τ).loc Cert.AdamwShardedKernelIdeal.main_arg1) = m ((c.tc : Thread Cert.AdamwShardedKernelIdeal.nD Cert.AdamwShardedKernelIdeal.τ).loc Cert.AdamwShardedKernelIdeal.main_arg1)
      ∧ r.2.mem ((c.tc : Thread Cert.AdamwShardedKernelIdeal.nD Cert.AdamwShardedKernelIdeal.τ).loc Cert.AdamwShardedKernelIdeal.main_arg2) = m ((c.tc : Thread Cert.AdamwShardedKernelIdeal.nD Cert.AdamwShardedKernelIdeal.τ).loc Cert.AdamwShardedKernelIdeal.main_arg2)
      ∧ r.2.mem ((c.tc : Thread Cert.AdamwShardedKernelIdeal.nD Cert.AdamwShardedKernelIdeal.τ).loc Cert.AdamwShardedKernelIdeal.main_arg3) = m ((c.tc : Thread Cert.AdamwShardedKernelIdeal.nD Cert.AdamwShardedKernelIdeal.τ).loc Cert.AdamwShardedKernelIdeal.main_arg3))
      ∧ r.2.sem = fun _ => 0)

def quiescent_AdamwShardedReferenceIdeal [hAdamwShardedReferenceIdeal : Cert.AdamwShardedReferenceIdeal.Facts] : Prop :=
  ∀ (m : (ℓ : Loc Cert.AdamwShardedReferenceIdeal.nD Cert.AdamwShardedReferenceIdeal.τ Cert.AdamwShardedReferenceIdeal.sig) → Buf (Elt Ideal) ℓ) (g : Dev Cert.AdamwShardedReferenceIdeal.nD → PrngReg), Pre_AdamwShardedReferenceIdeal m →
    θ_run (Cert.AdamwShardedReferenceIdeal.defs (F := Ideal)) (onTc (τ := Cert.AdamwShardedReferenceIdeal.τ) (Cert.AdamwShardedReferenceIdeal.main (F := Ideal))) ⟨m, fun _ => 0, g⟩ (fun r => (∀ c : Dev Cert.AdamwShardedReferenceIdeal.nD,
      r.2.mem ((c.tc : Thread Cert.AdamwShardedReferenceIdeal.nD Cert.AdamwShardedReferenceIdeal.τ).loc Cert.AdamwShardedReferenceIdeal.main_arg0) = m ((c.tc : Thread Cert.AdamwShardedReferenceIdeal.nD Cert.AdamwShardedReferenceIdeal.τ).loc Cert.AdamwShardedReferenceIdeal.main_arg0)
      ∧ r.2.mem ((c.tc : Thread Cert.AdamwShardedReferenceIdeal.nD Cert.AdamwShardedReferenceIdeal.τ).loc Cert.AdamwShardedReferenceIdeal.main_arg1) = m ((c.tc : Thread Cert.AdamwShardedReferenceIdeal.nD Cert.AdamwShardedReferenceIdeal.τ).loc Cert.AdamwShardedReferenceIdeal.main_arg1)
      ∧ r.2.mem ((c.tc : Thread Cert.AdamwShardedReferenceIdeal.nD Cert.AdamwShardedReferenceIdeal.τ).loc Cert.AdamwShardedReferenceIdeal.main_arg2) = m ((c.tc : Thread Cert.AdamwShardedReferenceIdeal.nD Cert.AdamwShardedReferenceIdeal.τ).loc Cert.AdamwShardedReferenceIdeal.main_arg2)
      ∧ r.2.mem ((c.tc : Thread Cert.AdamwShardedReferenceIdeal.nD Cert.AdamwShardedReferenceIdeal.τ).loc Cert.AdamwShardedReferenceIdeal.main_arg3) = m ((c.tc : Thread Cert.AdamwShardedReferenceIdeal.nD Cert.AdamwShardedReferenceIdeal.τ).loc Cert.AdamwShardedReferenceIdeal.main_arg3))
      ∧ r.2.sem = fun _ => 0)

def quiescent_AdamwReplicatedKernel [hAdamwReplicatedKernel : Cert.AdamwReplicatedKernel.Facts] : Prop :=
  ∀ (m : (ℓ : Loc Cert.AdamwReplicatedKernel.nD Cert.AdamwReplicatedKernel.τ Cert.AdamwReplicatedKernel.sig) → Buf (Elt Bits) ℓ) (g : Dev Cert.AdamwReplicatedKernel.nD → PrngReg), Pre_AdamwReplicatedKernel m →
    θ_run (Cert.AdamwReplicatedKernel.defs (F := Bits)) (onTc (τ := Cert.AdamwReplicatedKernel.τ) (Cert.AdamwReplicatedKernel.main (F := Bits))) ⟨m, fun _ => 0, g⟩ (fun r => (∀ c : Dev Cert.AdamwReplicatedKernel.nD,
      r.2.mem ((c.tc : Thread Cert.AdamwReplicatedKernel.nD Cert.AdamwReplicatedKernel.τ).loc Cert.AdamwReplicatedKernel.main_arg0) = m ((c.tc : Thread Cert.AdamwReplicatedKernel.nD Cert.AdamwReplicatedKernel.τ).loc Cert.AdamwReplicatedKernel.main_arg0)
      ∧ r.2.mem ((c.tc : Thread Cert.AdamwReplicatedKernel.nD Cert.AdamwReplicatedKernel.τ).loc Cert.AdamwReplicatedKernel.main_arg1) = m ((c.tc : Thread Cert.AdamwReplicatedKernel.nD Cert.AdamwReplicatedKernel.τ).loc Cert.AdamwReplicatedKernel.main_arg1)
      ∧ r.2.mem ((c.tc : Thread Cert.AdamwReplicatedKernel.nD Cert.AdamwReplicatedKernel.τ).loc Cert.AdamwReplicatedKernel.main_arg2) = m ((c.tc : Thread Cert.AdamwReplicatedKernel.nD Cert.AdamwReplicatedKernel.τ).loc Cert.AdamwReplicatedKernel.main_arg2)
      ∧ r.2.mem ((c.tc : Thread Cert.AdamwReplicatedKernel.nD Cert.AdamwReplicatedKernel.τ).loc Cert.AdamwReplicatedKernel.main_arg3) = m ((c.tc : Thread Cert.AdamwReplicatedKernel.nD Cert.AdamwReplicatedKernel.τ).loc Cert.AdamwReplicatedKernel.main_arg3))
      ∧ r.2.sem = fun _ => 0)

def quiescent_AdamwReplicatedKernelIdeal [hAdamwReplicatedKernelIdeal : Cert.AdamwReplicatedKernelIdeal.Facts] : Prop :=
  ∀ (m : (ℓ : Loc Cert.AdamwReplicatedKernelIdeal.nD Cert.AdamwReplicatedKernelIdeal.τ Cert.AdamwReplicatedKernelIdeal.sig) → Buf (Elt Ideal) ℓ) (g : Dev Cert.AdamwReplicatedKernelIdeal.nD → PrngReg), Pre_AdamwReplicatedKernelIdeal m →
    θ_run (Cert.AdamwReplicatedKernelIdeal.defs (F := Ideal)) (onTc (τ := Cert.AdamwReplicatedKernelIdeal.τ) (Cert.AdamwReplicatedKernelIdeal.main (F := Ideal))) ⟨m, fun _ => 0, g⟩ (fun r => (∀ c : Dev Cert.AdamwReplicatedKernelIdeal.nD,
      r.2.mem ((c.tc : Thread Cert.AdamwReplicatedKernelIdeal.nD Cert.AdamwReplicatedKernelIdeal.τ).loc Cert.AdamwReplicatedKernelIdeal.main_arg0) = m ((c.tc : Thread Cert.AdamwReplicatedKernelIdeal.nD Cert.AdamwReplicatedKernelIdeal.τ).loc Cert.AdamwReplicatedKernelIdeal.main_arg0)
      ∧ r.2.mem ((c.tc : Thread Cert.AdamwReplicatedKernelIdeal.nD Cert.AdamwReplicatedKernelIdeal.τ).loc Cert.AdamwReplicatedKernelIdeal.main_arg1) = m ((c.tc : Thread Cert.AdamwReplicatedKernelIdeal.nD Cert.AdamwReplicatedKernelIdeal.τ).loc Cert.AdamwReplicatedKernelIdeal.main_arg1)
      ∧ r.2.mem ((c.tc : Thread Cert.AdamwReplicatedKernelIdeal.nD Cert.AdamwReplicatedKernelIdeal.τ).loc Cert.AdamwReplicatedKernelIdeal.main_arg2) = m ((c.tc : Thread Cert.AdamwReplicatedKernelIdeal.nD Cert.AdamwReplicatedKernelIdeal.τ).loc Cert.AdamwReplicatedKernelIdeal.main_arg2)
      ∧ r.2.mem ((c.tc : Thread Cert.AdamwReplicatedKernelIdeal.nD Cert.AdamwReplicatedKernelIdeal.τ).loc Cert.AdamwReplicatedKernelIdeal.main_arg3) = m ((c.tc : Thread Cert.AdamwReplicatedKernelIdeal.nD Cert.AdamwReplicatedKernelIdeal.τ).loc Cert.AdamwReplicatedKernelIdeal.main_arg3))
      ∧ r.2.sem = fun _ => 0)

def quiescent_AdamwReplicatedReferenceIdeal [hAdamwReplicatedReferenceIdeal : Cert.AdamwReplicatedReferenceIdeal.Facts] : Prop :=
  ∀ (m : (ℓ : Loc Cert.AdamwReplicatedReferenceIdeal.nD Cert.AdamwReplicatedReferenceIdeal.τ Cert.AdamwReplicatedReferenceIdeal.sig) → Buf (Elt Ideal) ℓ) (g : Dev Cert.AdamwReplicatedReferenceIdeal.nD → PrngReg), Pre_AdamwReplicatedReferenceIdeal m →
    θ_run (Cert.AdamwReplicatedReferenceIdeal.defs (F := Ideal)) (onTc (τ := Cert.AdamwReplicatedReferenceIdeal.τ) (Cert.AdamwReplicatedReferenceIdeal.main (F := Ideal))) ⟨m, fun _ => 0, g⟩ (fun r => (∀ c : Dev Cert.AdamwReplicatedReferenceIdeal.nD,
      r.2.mem ((c.tc : Thread Cert.AdamwReplicatedReferenceIdeal.nD Cert.AdamwReplicatedReferenceIdeal.τ).loc Cert.AdamwReplicatedReferenceIdeal.main_arg0) = m ((c.tc : Thread Cert.AdamwReplicatedReferenceIdeal.nD Cert.AdamwReplicatedReferenceIdeal.τ).loc Cert.AdamwReplicatedReferenceIdeal.main_arg0)
      ∧ r.2.mem ((c.tc : Thread Cert.AdamwReplicatedReferenceIdeal.nD Cert.AdamwReplicatedReferenceIdeal.τ).loc Cert.AdamwReplicatedReferenceIdeal.main_arg1) = m ((c.tc : Thread Cert.AdamwReplicatedReferenceIdeal.nD Cert.AdamwReplicatedReferenceIdeal.τ).loc Cert.AdamwReplicatedReferenceIdeal.main_arg1)
      ∧ r.2.mem ((c.tc : Thread Cert.AdamwReplicatedReferenceIdeal.nD Cert.AdamwReplicatedReferenceIdeal.τ).loc Cert.AdamwReplicatedReferenceIdeal.main_arg2) = m ((c.tc : Thread Cert.AdamwReplicatedReferenceIdeal.nD Cert.AdamwReplicatedReferenceIdeal.τ).loc Cert.AdamwReplicatedReferenceIdeal.main_arg2)
      ∧ r.2.mem ((c.tc : Thread Cert.AdamwReplicatedReferenceIdeal.nD Cert.AdamwReplicatedReferenceIdeal.τ).loc Cert.AdamwReplicatedReferenceIdeal.main_arg3) = m ((c.tc : Thread Cert.AdamwReplicatedReferenceIdeal.nD Cert.AdamwReplicatedReferenceIdeal.τ).loc Cert.AdamwReplicatedReferenceIdeal.main_arg3))
      ∧ r.2.sem = fun _ => 0)

def quiescent_ReduceSumKernel [hReduceSumKernel : Cert.ReduceSumKernel.Facts] : Prop :=
  ∀ (m : (ℓ : Loc Cert.ReduceSumKernel.nD Cert.ReduceSumKernel.τ Cert.ReduceSumKernel.sig) → Buf (Elt Bits) ℓ) (g : Dev Cert.ReduceSumKernel.nD → PrngReg), Pre_ReduceSumKernel m →
    θ_run (Cert.ReduceSumKernel.defs (F := Bits)) (onTc (τ := Cert.ReduceSumKernel.τ) (Cert.ReduceSumKernel.main (F := Bits))) ⟨m, fun _ => 0, g⟩ (fun r => (∀ c : Dev Cert.ReduceSumKernel.nD,
      r.2.mem ((c.tc : Thread Cert.ReduceSumKernel.nD Cert.ReduceSumKernel.τ).loc Cert.ReduceSumKernel.main_arg0) = m ((c.tc : Thread Cert.ReduceSumKernel.nD Cert.ReduceSumKernel.τ).loc Cert.ReduceSumKernel.main_arg0))
      ∧ r.2.sem = fun _ => 0)

def quiescent_ReduceSumKernelIdeal [hReduceSumKernelIdeal : Cert.ReduceSumKernelIdeal.Facts] : Prop :=
  ∀ (m : (ℓ : Loc Cert.ReduceSumKernelIdeal.nD Cert.ReduceSumKernelIdeal.τ Cert.ReduceSumKernelIdeal.sig) → Buf (Elt Ideal) ℓ) (g : Dev Cert.ReduceSumKernelIdeal.nD → PrngReg), Pre_ReduceSumKernelIdeal m →
    θ_run (Cert.ReduceSumKernelIdeal.defs (F := Ideal)) (onTc (τ := Cert.ReduceSumKernelIdeal.τ) (Cert.ReduceSumKernelIdeal.main (F := Ideal))) ⟨m, fun _ => 0, g⟩ (fun r => (∀ c : Dev Cert.ReduceSumKernelIdeal.nD,
      r.2.mem ((c.tc : Thread Cert.ReduceSumKernelIdeal.nD Cert.ReduceSumKernelIdeal.τ).loc Cert.ReduceSumKernelIdeal.main_arg0) = m ((c.tc : Thread Cert.ReduceSumKernelIdeal.nD Cert.ReduceSumKernelIdeal.τ).loc Cert.ReduceSumKernelIdeal.main_arg0))
      ∧ r.2.sem = fun _ => 0)

def quiescent_ReduceSumReferenceIdeal [hReduceSumReferenceIdeal : Cert.ReduceSumReferenceIdeal.Facts] : Prop :=
  ∀ (m : (ℓ : Loc Cert.ReduceSumReferenceIdeal.nD Cert.ReduceSumReferenceIdeal.τ Cert.ReduceSumReferenceIdeal.sig) → Buf (Elt Ideal) ℓ) (g : Dev Cert.ReduceSumReferenceIdeal.nD → PrngReg), Pre_ReduceSumReferenceIdeal m →
    θ_run (Cert.ReduceSumReferenceIdeal.defs (F := Ideal)) (onTc (τ := Cert.ReduceSumReferenceIdeal.τ) (Cert.ReduceSumReferenceIdeal.main (F := Ideal))) ⟨m, fun _ => 0, g⟩ (fun r => (∀ c : Dev Cert.ReduceSumReferenceIdeal.nD,
      r.2.mem ((c.tc : Thread Cert.ReduceSumReferenceIdeal.nD Cert.ReduceSumReferenceIdeal.τ).loc Cert.ReduceSumReferenceIdeal.main_arg0) = m ((c.tc : Thread Cert.ReduceSumReferenceIdeal.nD Cert.ReduceSumReferenceIdeal.τ).loc Cert.ReduceSumReferenceIdeal.main_arg0))
      ∧ r.2.sem = fun _ => 0)

def quiescent_SmallSumKernel [hSmallSumKernel : Cert.SmallSumKernel.Facts] : Prop :=
  ∀ (m : (ℓ : Loc Cert.SmallSumKernel.nD Cert.SmallSumKernel.τ Cert.SmallSumKernel.sig) → Buf (Elt Bits) ℓ) (g : Dev Cert.SmallSumKernel.nD → PrngReg), Pre_SmallSumKernel m →
    θ_run (Cert.SmallSumKernel.defs (F := Bits)) (onTc (τ := Cert.SmallSumKernel.τ) (Cert.SmallSumKernel.main (F := Bits))) ⟨m, fun _ => 0, g⟩ (fun r => (∀ c : Dev Cert.SmallSumKernel.nD,
      r.2.mem ((c.tc : Thread Cert.SmallSumKernel.nD Cert.SmallSumKernel.τ).loc Cert.SmallSumKernel.main_arg0) = m ((c.tc : Thread Cert.SmallSumKernel.nD Cert.SmallSumKernel.τ).loc Cert.SmallSumKernel.main_arg0))
      ∧ r.2.sem = fun _ => 0)

def quiescent_SmallSumKernelIdeal [hSmallSumKernelIdeal : Cert.SmallSumKernelIdeal.Facts] : Prop :=
  ∀ (m : (ℓ : Loc Cert.SmallSumKernelIdeal.nD Cert.SmallSumKernelIdeal.τ Cert.SmallSumKernelIdeal.sig) → Buf (Elt Ideal) ℓ) (g : Dev Cert.SmallSumKernelIdeal.nD → PrngReg), Pre_SmallSumKernelIdeal m →
    θ_run (Cert.SmallSumKernelIdeal.defs (F := Ideal)) (onTc (τ := Cert.SmallSumKernelIdeal.τ) (Cert.SmallSumKernelIdeal.main (F := Ideal))) ⟨m, fun _ => 0, g⟩ (fun r => (∀ c : Dev Cert.SmallSumKernelIdeal.nD,
      r.2.mem ((c.tc : Thread Cert.SmallSumKernelIdeal.nD Cert.SmallSumKernelIdeal.τ).loc Cert.SmallSumKernelIdeal.main_arg0) = m ((c.tc : Thread Cert.SmallSumKernelIdeal.nD Cert.SmallSumKernelIdeal.τ).loc Cert.SmallSumKernelIdeal.main_arg0))
      ∧ r.2.sem = fun _ => 0)

def quiescent_SmallSumReferenceIdeal [hSmallSumReferenceIdeal : Cert.SmallSumReferenceIdeal.Facts] : Prop :=
  ∀ (m : (ℓ : Loc Cert.SmallSumReferenceIdeal.nD Cert.SmallSumReferenceIdeal.τ Cert.SmallSumReferenceIdeal.sig) → Buf (Elt Ideal) ℓ) (g : Dev Cert.SmallSumReferenceIdeal.nD → PrngReg), Pre_SmallSumReferenceIdeal m →
    θ_run (Cert.SmallSumReferenceIdeal.defs (F := Ideal)) (onTc (τ := Cert.SmallSumReferenceIdeal.τ) (Cert.SmallSumReferenceIdeal.main (F := Ideal))) ⟨m, fun _ => 0, g⟩ (fun r => (∀ c : Dev Cert.SmallSumReferenceIdeal.nD,
      r.2.mem ((c.tc : Thread Cert.SmallSumReferenceIdeal.nD Cert.SmallSumReferenceIdeal.τ).loc Cert.SmallSumReferenceIdeal.main_arg0) = m ((c.tc : Thread Cert.SmallSumReferenceIdeal.nD Cert.SmallSumReferenceIdeal.τ).loc Cert.SmallSumReferenceIdeal.main_arg0))
      ∧ r.2.sem = fun _ => 0)

def quiescent_NormMixBwdKernel [hNormMixBwdKernel : Cert.NormMixBwdKernel.Facts] : Prop :=
  ∀ (m : (ℓ : Loc Cert.NormMixBwdKernel.nD Cert.NormMixBwdKernel.τ Cert.NormMixBwdKernel.sig) → Buf (Elt Bits) ℓ) (g : Dev Cert.NormMixBwdKernel.nD → PrngReg), Pre_NormMixBwdKernel m →
    θ_run (Cert.NormMixBwdKernel.defs (F := Bits)) (onTc (τ := Cert.NormMixBwdKernel.τ) (Cert.NormMixBwdKernel.main (F := Bits))) ⟨m, fun _ => 0, g⟩ (fun r => (∀ c : Dev Cert.NormMixBwdKernel.nD,
      r.2.mem ((c.tc : Thread Cert.NormMixBwdKernel.nD Cert.NormMixBwdKernel.τ).loc Cert.NormMixBwdKernel.main_arg0) = m ((c.tc : Thread Cert.NormMixBwdKernel.nD Cert.NormMixBwdKernel.τ).loc Cert.NormMixBwdKernel.main_arg0)
      ∧ r.2.mem ((c.tc : Thread Cert.NormMixBwdKernel.nD Cert.NormMixBwdKernel.τ).loc Cert.NormMixBwdKernel.main_arg1) = m ((c.tc : Thread Cert.NormMixBwdKernel.nD Cert.NormMixBwdKernel.τ).loc Cert.NormMixBwdKernel.main_arg1)
      ∧ r.2.mem ((c.tc : Thread Cert.NormMixBwdKernel.nD Cert.NormMixBwdKernel.τ).loc Cert.NormMixBwdKernel.main_arg2) = m ((c.tc : Thread Cert.NormMixBwdKernel.nD Cert.NormMixBwdKernel.τ).loc Cert.NormMixBwdKernel.main_arg2)
      ∧ r.2.mem ((c.tc : Thread Cert.NormMixBwdKernel.nD Cert.NormMixBwdKernel.τ).loc Cert.NormMixBwdKernel.main_arg3) = m ((c.tc : Thread Cert.NormMixBwdKernel.nD Cert.NormMixBwdKernel.τ).loc Cert.NormMixBwdKernel.main_arg3))
      ∧ r.2.sem = fun _ => 0)

def quiescent_NormMixBwdKernelIdeal [hNormMixBwdKernelIdeal : Cert.NormMixBwdKernelIdeal.Facts] : Prop :=
  ∀ (m : (ℓ : Loc Cert.NormMixBwdKernelIdeal.nD Cert.NormMixBwdKernelIdeal.τ Cert.NormMixBwdKernelIdeal.sig) → Buf (Elt Ideal) ℓ) (g : Dev Cert.NormMixBwdKernelIdeal.nD → PrngReg), Pre_NormMixBwdKernelIdeal m →
    θ_run (Cert.NormMixBwdKernelIdeal.defs (F := Ideal)) (onTc (τ := Cert.NormMixBwdKernelIdeal.τ) (Cert.NormMixBwdKernelIdeal.main (F := Ideal))) ⟨m, fun _ => 0, g⟩ (fun r => (∀ c : Dev Cert.NormMixBwdKernelIdeal.nD,
      r.2.mem ((c.tc : Thread Cert.NormMixBwdKernelIdeal.nD Cert.NormMixBwdKernelIdeal.τ).loc Cert.NormMixBwdKernelIdeal.main_arg0) = m ((c.tc : Thread Cert.NormMixBwdKernelIdeal.nD Cert.NormMixBwdKernelIdeal.τ).loc Cert.NormMixBwdKernelIdeal.main_arg0)
      ∧ r.2.mem ((c.tc : Thread Cert.NormMixBwdKernelIdeal.nD Cert.NormMixBwdKernelIdeal.τ).loc Cert.NormMixBwdKernelIdeal.main_arg1) = m ((c.tc : Thread Cert.NormMixBwdKernelIdeal.nD Cert.NormMixBwdKernelIdeal.τ).loc Cert.NormMixBwdKernelIdeal.main_arg1)
      ∧ r.2.mem ((c.tc : Thread Cert.NormMixBwdKernelIdeal.nD Cert.NormMixBwdKernelIdeal.τ).loc Cert.NormMixBwdKernelIdeal.main_arg2) = m ((c.tc : Thread Cert.NormMixBwdKernelIdeal.nD Cert.NormMixBwdKernelIdeal.τ).loc Cert.NormMixBwdKernelIdeal.main_arg2)
      ∧ r.2.mem ((c.tc : Thread Cert.NormMixBwdKernelIdeal.nD Cert.NormMixBwdKernelIdeal.τ).loc Cert.NormMixBwdKernelIdeal.main_arg3) = m ((c.tc : Thread Cert.NormMixBwdKernelIdeal.nD Cert.NormMixBwdKernelIdeal.τ).loc Cert.NormMixBwdKernelIdeal.main_arg3))
      ∧ r.2.sem = fun _ => 0)

def quiescent_NormMixBwdReferenceIdeal [hNormMixBwdReferenceIdeal : Cert.NormMixBwdReferenceIdeal.Facts] : Prop :=
  ∀ (m : (ℓ : Loc Cert.NormMixBwdReferenceIdeal.nD Cert.NormMixBwdReferenceIdeal.τ Cert.NormMixBwdReferenceIdeal.sig) → Buf (Elt Ideal) ℓ) (g : Dev Cert.NormMixBwdReferenceIdeal.nD → PrngReg), Pre_NormMixBwdReferenceIdeal m →
    θ_run (Cert.NormMixBwdReferenceIdeal.defs (F := Ideal)) (onTc (τ := Cert.NormMixBwdReferenceIdeal.τ) (Cert.NormMixBwdReferenceIdeal.main (F := Ideal))) ⟨m, fun _ => 0, g⟩ (fun r => (∀ c : Dev Cert.NormMixBwdReferenceIdeal.nD,
      r.2.mem ((c.tc : Thread Cert.NormMixBwdReferenceIdeal.nD Cert.NormMixBwdReferenceIdeal.τ).loc Cert.NormMixBwdReferenceIdeal.main_arg0) = m ((c.tc : Thread Cert.NormMixBwdReferenceIdeal.nD Cert.NormMixBwdReferenceIdeal.τ).loc Cert.NormMixBwdReferenceIdeal.main_arg0)
      ∧ r.2.mem ((c.tc : Thread Cert.NormMixBwdReferenceIdeal.nD Cert.NormMixBwdReferenceIdeal.τ).loc Cert.NormMixBwdReferenceIdeal.main_arg1) = m ((c.tc : Thread Cert.NormMixBwdReferenceIdeal.nD Cert.NormMixBwdReferenceIdeal.τ).loc Cert.NormMixBwdReferenceIdeal.main_arg1)
      ∧ r.2.mem ((c.tc : Thread Cert.NormMixBwdReferenceIdeal.nD Cert.NormMixBwdReferenceIdeal.τ).loc Cert.NormMixBwdReferenceIdeal.main_arg2) = m ((c.tc : Thread Cert.NormMixBwdReferenceIdeal.nD Cert.NormMixBwdReferenceIdeal.τ).loc Cert.NormMixBwdReferenceIdeal.main_arg2)
      ∧ r.2.mem ((c.tc : Thread Cert.NormMixBwdReferenceIdeal.nD Cert.NormMixBwdReferenceIdeal.τ).loc Cert.NormMixBwdReferenceIdeal.main_arg3) = m ((c.tc : Thread Cert.NormMixBwdReferenceIdeal.nD Cert.NormMixBwdReferenceIdeal.τ).loc Cert.NormMixBwdReferenceIdeal.main_arg3))
      ∧ r.2.sem = fun _ => 0)

def quiescent_LossHeadKernel [hLossHeadKernel : Cert.LossHeadKernel.Facts] : Prop :=
  ∀ (m : (ℓ : Loc Cert.LossHeadKernel.nD Cert.LossHeadKernel.τ Cert.LossHeadKernel.sig) → Buf (Elt Bits) ℓ) (g : Dev Cert.LossHeadKernel.nD → PrngReg), Pre_LossHeadKernel m →
    θ_run (Cert.LossHeadKernel.defs (F := Bits)) (onTc (τ := Cert.LossHeadKernel.τ) (Cert.LossHeadKernel.main (F := Bits))) ⟨m, fun _ => 0, g⟩ (fun r => (∀ c : Dev Cert.LossHeadKernel.nD,
      r.2.mem ((c.tc : Thread Cert.LossHeadKernel.nD Cert.LossHeadKernel.τ).loc Cert.LossHeadKernel.main_arg0) = m ((c.tc : Thread Cert.LossHeadKernel.nD Cert.LossHeadKernel.τ).loc Cert.LossHeadKernel.main_arg0)
      ∧ r.2.mem ((c.tc : Thread Cert.LossHeadKernel.nD Cert.LossHeadKernel.τ).loc Cert.LossHeadKernel.main_arg1) = m ((c.tc : Thread Cert.LossHeadKernel.nD Cert.LossHeadKernel.τ).loc Cert.LossHeadKernel.main_arg1)
      ∧ r.2.mem ((c.tc : Thread Cert.LossHeadKernel.nD Cert.LossHeadKernel.τ).loc Cert.LossHeadKernel.main_arg2) = m ((c.tc : Thread Cert.LossHeadKernel.nD Cert.LossHeadKernel.τ).loc Cert.LossHeadKernel.main_arg2))
      ∧ r.2.sem = fun _ => 0)

def quiescent_LossHeadKernelIdeal [hLossHeadKernelIdeal : Cert.LossHeadKernelIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg), Pre_LossHeadKernelIdeal m →
    θ_run (Cert.LossHeadKernelIdeal.defs (F := Ideal)) (onTc (τ := Cert.LossHeadKernelIdeal.τ) (Cert.LossHeadKernelIdeal.main (F := Ideal))) ⟨m, fun _ => 0, g⟩ (fun r => (∀ c : Dev Cert.LossHeadKernelIdeal.nD,
      r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
      ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1)
      ∧ r.2.mem ((c.tc : Thread Cert.LossHeadKernelIdeal.nD Cert.LossHeadKernelIdeal.τ).loc Cert.LossHeadKernelIdeal.main_arg2) = m ((c.tc : Thread Cert.LossHeadKernelIdeal.nD Cert.LossHeadKernelIdeal.τ).loc Cert.LossHeadKernelIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_NormFfnKernel [hNormFfnKernel : Cert.NormFfnKernel.Facts] : Prop :=
  ∀ (m : (ℓ : Loc Cert.NormFfnKernel.nD Cert.NormFfnKernel.τ Cert.NormFfnKernel.sig) → Buf (Elt Bits) ℓ) (g : Dev Cert.NormFfnKernel.nD → PrngReg), Pre_NormFfnKernel m →
    θ_run (Cert.NormFfnKernel.defs (F := Bits)) (onTc (τ := Cert.NormFfnKernel.τ) (Cert.NormFfnKernel.main (F := Bits))) ⟨m, fun _ => 0, g⟩ (fun r => (∀ c : Dev Cert.NormFfnKernel.nD,
      r.2.mem ((c.tc : Thread Cert.NormFfnKernel.nD Cert.NormFfnKernel.τ).loc Cert.NormFfnKernel.main_arg0) = m ((c.tc : Thread Cert.NormFfnKernel.nD Cert.NormFfnKernel.τ).loc Cert.NormFfnKernel.main_arg0)
      ∧ r.2.mem ((c.tc : Thread Cert.NormFfnKernel.nD Cert.NormFfnKernel.τ).loc Cert.NormFfnKernel.main_arg1) = m ((c.tc : Thread Cert.NormFfnKernel.nD Cert.NormFfnKernel.τ).loc Cert.NormFfnKernel.main_arg1))
      ∧ r.2.sem = fun _ => 0)

def quiescent_NormFfnKernelIdeal [hNormFfnKernelIdeal : Cert.NormFfnKernelIdeal.Facts] : Prop :=
  ∀ (m : (ℓ : Loc Cert.NormFfnKernelIdeal.nD Cert.NormFfnKernelIdeal.τ Cert.NormFfnKernelIdeal.sig) → Buf (Elt Ideal) ℓ) (g : Dev Cert.NormFfnKernelIdeal.nD → PrngReg), Pre_NormFfnKernelIdeal m →
    θ_run (Cert.NormFfnKernelIdeal.defs (F := Ideal)) (onTc (τ := Cert.NormFfnKernelIdeal.τ) (Cert.NormFfnKernelIdeal.main (F := Ideal))) ⟨m, fun _ => 0, g⟩ (fun r => (∀ c : Dev Cert.NormFfnKernelIdeal.nD,
      r.2.mem ((c.tc : Thread Cert.NormFfnKernelIdeal.nD Cert.NormFfnKernelIdeal.τ).loc Cert.NormFfnKernelIdeal.main_arg0) = m ((c.tc : Thread Cert.NormFfnKernelIdeal.nD Cert.NormFfnKernelIdeal.τ).loc Cert.NormFfnKernelIdeal.main_arg0)
      ∧ r.2.mem ((c.tc : Thread Cert.NormFfnKernelIdeal.nD Cert.NormFfnKernelIdeal.τ).loc Cert.NormFfnKernelIdeal.main_arg1) = m ((c.tc : Thread Cert.NormFfnKernelIdeal.nD Cert.NormFfnKernelIdeal.τ).loc Cert.NormFfnKernelIdeal.main_arg1))
      ∧ r.2.sem = fun _ => 0)

def quiescent_NormFfnReferenceIdeal [hNormFfnReferenceIdeal : Cert.NormFfnReferenceIdeal.Facts] : Prop :=
  ∀ (m : (ℓ : Loc Cert.NormFfnReferenceIdeal.nD Cert.NormFfnReferenceIdeal.τ Cert.NormFfnReferenceIdeal.sig) → Buf (Elt Ideal) ℓ) (g : Dev Cert.NormFfnReferenceIdeal.nD → PrngReg), Pre_NormFfnReferenceIdeal m →
    θ_run (Cert.NormFfnReferenceIdeal.defs (F := Ideal)) (onTc (τ := Cert.NormFfnReferenceIdeal.τ) (Cert.NormFfnReferenceIdeal.main (F := Ideal))) ⟨m, fun _ => 0, g⟩ (fun r => (∀ c : Dev Cert.NormFfnReferenceIdeal.nD,
      r.2.mem ((c.tc : Thread Cert.NormFfnReferenceIdeal.nD Cert.NormFfnReferenceIdeal.τ).loc Cert.NormFfnReferenceIdeal.main_arg0) = m ((c.tc : Thread Cert.NormFfnReferenceIdeal.nD Cert.NormFfnReferenceIdeal.τ).loc Cert.NormFfnReferenceIdeal.main_arg0)
      ∧ r.2.mem ((c.tc : Thread Cert.NormFfnReferenceIdeal.nD Cert.NormFfnReferenceIdeal.τ).loc Cert.NormFfnReferenceIdeal.main_arg1) = m ((c.tc : Thread Cert.NormFfnReferenceIdeal.nD Cert.NormFfnReferenceIdeal.τ).loc Cert.NormFfnReferenceIdeal.main_arg1))
      ∧ r.2.sem = fun _ => 0)

def quiescent_NormMemKernel [hNormMemKernel : Cert.NormMemKernel.Facts] : Prop :=
  ∀ (m : (ℓ : Loc Cert.NormMemKernel.nD Cert.NormMemKernel.τ Cert.NormMemKernel.sig) → Buf (Elt Bits) ℓ) (g : Dev Cert.NormMemKernel.nD → PrngReg), Pre_NormMemKernel m →
    θ_run (Cert.NormMemKernel.defs (F := Bits)) (onTc (τ := Cert.NormMemKernel.τ) (Cert.NormMemKernel.main (F := Bits))) ⟨m, fun _ => 0, g⟩ (fun r => (∀ c : Dev Cert.NormMemKernel.nD,
      r.2.mem ((c.tc : Thread Cert.NormMemKernel.nD Cert.NormMemKernel.τ).loc Cert.NormMemKernel.main_arg0) = m ((c.tc : Thread Cert.NormMemKernel.nD Cert.NormMemKernel.τ).loc Cert.NormMemKernel.main_arg0)
      ∧ r.2.mem ((c.tc : Thread Cert.NormMemKernel.nD Cert.NormMemKernel.τ).loc Cert.NormMemKernel.main_arg1) = m ((c.tc : Thread Cert.NormMemKernel.nD Cert.NormMemKernel.τ).loc Cert.NormMemKernel.main_arg1))
      ∧ r.2.sem = fun _ => 0)

def quiescent_NormMemKernelIdeal [hNormMemKernelIdeal : Cert.NormMemKernelIdeal.Facts] : Prop :=
  ∀ (m : (ℓ : Loc Cert.NormMemKernelIdeal.nD Cert.NormMemKernelIdeal.τ Cert.NormMemKernelIdeal.sig) → Buf (Elt Ideal) ℓ) (g : Dev Cert.NormMemKernelIdeal.nD → PrngReg), Pre_NormMemKernelIdeal m →
    θ_run (Cert.NormMemKernelIdeal.defs (F := Ideal)) (onTc (τ := Cert.NormMemKernelIdeal.τ) (Cert.NormMemKernelIdeal.main (F := Ideal))) ⟨m, fun _ => 0, g⟩ (fun r => (∀ c : Dev Cert.NormMemKernelIdeal.nD,
      r.2.mem ((c.tc : Thread Cert.NormMemKernelIdeal.nD Cert.NormMemKernelIdeal.τ).loc Cert.NormMemKernelIdeal.main_arg0) = m ((c.tc : Thread Cert.NormMemKernelIdeal.nD Cert.NormMemKernelIdeal.τ).loc Cert.NormMemKernelIdeal.main_arg0)
      ∧ r.2.mem ((c.tc : Thread Cert.NormMemKernelIdeal.nD Cert.NormMemKernelIdeal.τ).loc Cert.NormMemKernelIdeal.main_arg1) = m ((c.tc : Thread Cert.NormMemKernelIdeal.nD Cert.NormMemKernelIdeal.τ).loc Cert.NormMemKernelIdeal.main_arg1))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1))
      ∧ r.2.sem = fun _ => 0)

def quiescent_NormMemBwdKernel [hNormMemBwdKernel : Cert.NormMemBwdKernel.Facts] : Prop :=
  ∀ (m : (ℓ : Loc Cert.NormMemBwdKernel.nD Cert.NormMemBwdKernel.τ Cert.NormMemBwdKernel.sig) → Buf (Elt Bits) ℓ) (g : Dev Cert.NormMemBwdKernel.nD → PrngReg), Pre_NormMemBwdKernel m →
    θ_run (Cert.NormMemBwdKernel.defs (F := Bits)) (onTc (τ := Cert.NormMemBwdKernel.τ) (Cert.NormMemBwdKernel.main (F := Bits))) ⟨m, fun _ => 0, g⟩ (fun r => (∀ c : Dev Cert.NormMemBwdKernel.nD,
      r.2.mem ((c.tc : Thread Cert.NormMemBwdKernel.nD Cert.NormMemBwdKernel.τ).loc Cert.NormMemBwdKernel.main_arg0) = m ((c.tc : Thread Cert.NormMemBwdKernel.nD Cert.NormMemBwdKernel.τ).loc Cert.NormMemBwdKernel.main_arg0)
      ∧ r.2.mem ((c.tc : Thread Cert.NormMemBwdKernel.nD Cert.NormMemBwdKernel.τ).loc Cert.NormMemBwdKernel.main_arg1) = m ((c.tc : Thread Cert.NormMemBwdKernel.nD Cert.NormMemBwdKernel.τ).loc Cert.NormMemBwdKernel.main_arg1)
      ∧ r.2.mem ((c.tc : Thread Cert.NormMemBwdKernel.nD Cert.NormMemBwdKernel.τ).loc Cert.NormMemBwdKernel.main_arg2) = m ((c.tc : Thread Cert.NormMemBwdKernel.nD Cert.NormMemBwdKernel.τ).loc Cert.NormMemBwdKernel.main_arg2))
      ∧ r.2.sem = fun _ => 0)

def quiescent_NormMemBwdKernelIdeal [hNormMemBwdKernelIdeal : Cert.NormMemBwdKernelIdeal.Facts] : Prop :=
  ∀ (m : (ℓ : Loc Cert.NormMemBwdKernelIdeal.nD Cert.NormMemBwdKernelIdeal.τ Cert.NormMemBwdKernelIdeal.sig) → Buf (Elt Ideal) ℓ) (g : Dev Cert.NormMemBwdKernelIdeal.nD → PrngReg), Pre_NormMemBwdKernelIdeal m →
    θ_run (Cert.NormMemBwdKernelIdeal.defs (F := Ideal)) (onTc (τ := Cert.NormMemBwdKernelIdeal.τ) (Cert.NormMemBwdKernelIdeal.main (F := Ideal))) ⟨m, fun _ => 0, g⟩ (fun r => (∀ c : Dev Cert.NormMemBwdKernelIdeal.nD,
      r.2.mem ((c.tc : Thread Cert.NormMemBwdKernelIdeal.nD Cert.NormMemBwdKernelIdeal.τ).loc Cert.NormMemBwdKernelIdeal.main_arg0) = m ((c.tc : Thread Cert.NormMemBwdKernelIdeal.nD Cert.NormMemBwdKernelIdeal.τ).loc Cert.NormMemBwdKernelIdeal.main_arg0)
      ∧ r.2.mem ((c.tc : Thread Cert.NormMemBwdKernelIdeal.nD Cert.NormMemBwdKernelIdeal.τ).loc Cert.NormMemBwdKernelIdeal.main_arg1) = m ((c.tc : Thread Cert.NormMemBwdKernelIdeal.nD Cert.NormMemBwdKernelIdeal.τ).loc Cert.NormMemBwdKernelIdeal.main_arg1)
      ∧ r.2.mem ((c.tc : Thread Cert.NormMemBwdKernelIdeal.nD Cert.NormMemBwdKernelIdeal.τ).loc Cert.NormMemBwdKernelIdeal.main_arg2) = m ((c.tc : Thread Cert.NormMemBwdKernelIdeal.nD Cert.NormMemBwdKernelIdeal.τ).loc Cert.NormMemBwdKernelIdeal.main_arg2))
      ∧ r.2.sem = fun _ => 0)

def quiescent_NormMemBwdReferenceIdeal [hNormMemBwdReferenceIdeal : Cert.NormMemBwdReferenceIdeal.Facts] : Prop :=
  ∀ (m : (ℓ : Loc Cert.NormMemBwdReferenceIdeal.nD Cert.NormMemBwdReferenceIdeal.τ Cert.NormMemBwdReferenceIdeal.sig) → Buf (Elt Ideal) ℓ) (g : Dev Cert.NormMemBwdReferenceIdeal.nD → PrngReg), Pre_NormMemBwdReferenceIdeal m →
    θ_run (Cert.NormMemBwdReferenceIdeal.defs (F := Ideal)) (onTc (τ := Cert.NormMemBwdReferenceIdeal.τ) (Cert.NormMemBwdReferenceIdeal.main (F := Ideal))) ⟨m, fun _ => 0, g⟩ (fun r => (∀ c : Dev Cert.NormMemBwdReferenceIdeal.nD,
      r.2.mem ((c.tc : Thread Cert.NormMemBwdReferenceIdeal.nD Cert.NormMemBwdReferenceIdeal.τ).loc Cert.NormMemBwdReferenceIdeal.main_arg0) = m ((c.tc : Thread Cert.NormMemBwdReferenceIdeal.nD Cert.NormMemBwdReferenceIdeal.τ).loc Cert.NormMemBwdReferenceIdeal.main_arg0)
      ∧ r.2.mem ((c.tc : Thread Cert.NormMemBwdReferenceIdeal.nD Cert.NormMemBwdReferenceIdeal.τ).loc Cert.NormMemBwdReferenceIdeal.main_arg1) = m ((c.tc : Thread Cert.NormMemBwdReferenceIdeal.nD Cert.NormMemBwdReferenceIdeal.τ).loc Cert.NormMemBwdReferenceIdeal.main_arg1)
      ∧ r.2.mem ((c.tc : Thread Cert.NormMemBwdReferenceIdeal.nD Cert.NormMemBwdReferenceIdeal.τ).loc Cert.NormMemBwdReferenceIdeal.main_arg2) = m ((c.tc : Thread Cert.NormMemBwdReferenceIdeal.nD Cert.NormMemBwdReferenceIdeal.τ).loc Cert.NormMemBwdReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DactKernel [hDactKernel : Cert.DactKernel.Facts] : Prop :=
  ∀ (m : (ℓ : Loc Cert.DactKernel.nD Cert.DactKernel.τ Cert.DactKernel.sig) → Buf (Elt Bits) ℓ) (g : Dev Cert.DactKernel.nD → PrngReg), Pre_DactKernel m →
    θ_run (Cert.DactKernel.defs (F := Bits)) (onTc (τ := Cert.DactKernel.τ) (Cert.DactKernel.main (F := Bits))) ⟨m, fun _ => 0, g⟩ (fun r => (∀ c : Dev Cert.DactKernel.nD,
      r.2.mem ((c.tc : Thread Cert.DactKernel.nD Cert.DactKernel.τ).loc Cert.DactKernel.main_arg0) = m ((c.tc : Thread Cert.DactKernel.nD Cert.DactKernel.τ).loc Cert.DactKernel.main_arg0)
      ∧ r.2.mem ((c.tc : Thread Cert.DactKernel.nD Cert.DactKernel.τ).loc Cert.DactKernel.main_arg1) = m ((c.tc : Thread Cert.DactKernel.nD Cert.DactKernel.τ).loc Cert.DactKernel.main_arg1))
      ∧ r.2.sem = fun _ => 0)

def quiescent_DactKernelIdeal [hDactKernelIdeal : Cert.DactKernelIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg), Pre_DactKernelIdeal m →
    θ_run (Cert.DactKernelIdeal.defs (F := Ideal)) (onTc (τ := Cert.DactKernelIdeal.τ) (Cert.DactKernelIdeal.main (F := Ideal))) ⟨m, fun _ => 0, g⟩ (fun r => (∀ c : Dev Cert.DactKernelIdeal.nD,
      r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
      ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_DwDownKernel [hDwDownKernel : Cert.DwDownKernel.Facts] : Prop :=
  ∀ (m : (ℓ : Loc Cert.DwDownKernel.nD Cert.DwDownKernel.τ Cert.DwDownKernel.sig) → Buf (Elt Bits) ℓ) (g : Dev Cert.DwDownKernel.nD → PrngReg), Pre_DwDownKernel m →
    θ_run (Cert.DwDownKernel.defs (F := Bits)) (onTc (τ := Cert.DwDownKernel.τ) (Cert.DwDownKernel.main (F := Bits))) ⟨m, fun _ => 0, g⟩ (fun r => (∀ c : Dev Cert.DwDownKernel.nD,
      r.2.mem ((c.tc : Thread Cert.DwDownKernel.nD Cert.DwDownKernel.τ).loc Cert.DwDownKernel.main_arg0) = m ((c.tc : Thread Cert.DwDownKernel.nD Cert.DwDownKernel.τ).loc Cert.DwDownKernel.main_arg0)
      ∧ r.2.mem ((c.tc : Thread Cert.DwDownKernel.nD Cert.DwDownKernel.τ).loc Cert.DwDownKernel.main_arg1) = m ((c.tc : Thread Cert.DwDownKernel.nD Cert.DwDownKernel.τ).loc Cert.DwDownKernel.main_arg1))
      ∧ r.2.sem = fun _ => 0)

def quiescent_DwDownKernelIdeal [hDwDownKernelIdeal : Cert.DwDownKernelIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg), Pre_DwDownKernelIdeal m →
    θ_run (Cert.DwDownKernelIdeal.defs (F := Ideal)) (onTc (τ := Cert.DwDownKernelIdeal.τ) (Cert.DwDownKernelIdeal.main (F := Ideal))) ⟨m, fun _ => 0, g⟩ (fun r => (∀ c : Dev Cert.DwDownKernelIdeal.nD,
      r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
      ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_CqKernel [hCqKernel : Cert.CqKernel.Facts] : Prop :=
  ∀ (m : (ℓ : Loc Cert.CqKernel.nD Cert.CqKernel.τ Cert.CqKernel.sig) → Buf (Elt Bits) ℓ) (g : Dev Cert.CqKernel.nD → PrngReg), Pre_CqKernel m →
    θ_run (Cert.CqKernel.defs (F := Bits)) (onTc (τ := Cert.CqKernel.τ) (Cert.CqKernel.main (F := Bits))) ⟨m, fun _ => 0, g⟩ (fun r => (∀ c : Dev Cert.CqKernel.nD,
      r.2.mem ((c.tc : Thread Cert.CqKernel.nD Cert.CqKernel.τ).loc Cert.CqKernel.main_arg0) = m ((c.tc : Thread Cert.CqKernel.nD Cert.CqKernel.τ).loc Cert.CqKernel.main_arg0)
      ∧ r.2.mem ((c.tc : Thread Cert.CqKernel.nD Cert.CqKernel.τ).loc Cert.CqKernel.main_arg1) = m ((c.tc : Thread Cert.CqKernel.nD Cert.CqKernel.τ).loc Cert.CqKernel.main_arg1))
      ∧ r.2.sem = fun _ => 0)

def quiescent_CqKernelIdeal [hCqKernelIdeal : Cert.CqKernelIdeal.Facts] : Prop :=
  ∀ (m : (ℓ : Loc Cert.CqKernelIdeal.nD Cert.CqKernelIdeal.τ Cert.CqKernelIdeal.sig) → Buf (Elt Ideal) ℓ) (g : Dev Cert.CqKernelIdeal.nD → PrngReg), Pre_CqKernelIdeal m →
    θ_run (Cert.CqKernelIdeal.defs (F := Ideal)) (onTc (τ := Cert.CqKernelIdeal.τ) (Cert.CqKernelIdeal.main (F := Ideal))) ⟨m, fun _ => 0, g⟩ (fun r => (∀ c : Dev Cert.CqKernelIdeal.nD,
      r.2.mem ((c.tc : Thread Cert.CqKernelIdeal.nD Cert.CqKernelIdeal.τ).loc Cert.CqKernelIdeal.main_arg0) = m ((c.tc : Thread Cert.CqKernelIdeal.nD Cert.CqKernelIdeal.τ).loc Cert.CqKernelIdeal.main_arg0)
      ∧ r.2.mem ((c.tc : Thread Cert.CqKernelIdeal.nD Cert.CqKernelIdeal.τ).loc Cert.CqKernelIdeal.main_arg1) = m ((c.tc : Thread Cert.CqKernelIdeal.nD Cert.CqKernelIdeal.τ).loc Cert.CqKernelIdeal.main_arg1))
      ∧ r.2.sem = fun _ => 0)

def quiescent_CqReferenceIdeal [hCqReferenceIdeal : Cert.CqReferenceIdeal.Facts] : Prop :=
  ∀ (m : (ℓ : Loc Cert.CqReferenceIdeal.nD Cert.CqReferenceIdeal.τ Cert.CqReferenceIdeal.sig) → Buf (Elt Ideal) ℓ) (g : Dev Cert.CqReferenceIdeal.nD → PrngReg), Pre_CqReferenceIdeal m →
    θ_run (Cert.CqReferenceIdeal.defs (F := Ideal)) (onTc (τ := Cert.CqReferenceIdeal.τ) (Cert.CqReferenceIdeal.main (F := Ideal))) ⟨m, fun _ => 0, g⟩ (fun r => (∀ c : Dev Cert.CqReferenceIdeal.nD,
      r.2.mem ((c.tc : Thread Cert.CqReferenceIdeal.nD Cert.CqReferenceIdeal.τ).loc Cert.CqReferenceIdeal.main_arg0) = m ((c.tc : Thread Cert.CqReferenceIdeal.nD Cert.CqReferenceIdeal.τ).loc Cert.CqReferenceIdeal.main_arg0)
      ∧ r.2.mem ((c.tc : Thread Cert.CqReferenceIdeal.nD Cert.CqReferenceIdeal.τ).loc Cert.CqReferenceIdeal.main_arg1) = m ((c.tc : Thread Cert.CqReferenceIdeal.nD Cert.CqReferenceIdeal.τ).loc Cert.CqReferenceIdeal.main_arg1))
      ∧ r.2.sem = fun _ => 0)

def quiescent_CkKernel [hCkKernel : Cert.CkKernel.Facts] : Prop :=
  ∀ (m : (ℓ : Loc Cert.CkKernel.nD Cert.CkKernel.τ Cert.CkKernel.sig) → Buf (Elt Bits) ℓ) (g : Dev Cert.CkKernel.nD → PrngReg), Pre_CkKernel m →
    θ_run (Cert.CkKernel.defs (F := Bits)) (onTc (τ := Cert.CkKernel.τ) (Cert.CkKernel.main (F := Bits))) ⟨m, fun _ => 0, g⟩ (fun r => (∀ c : Dev Cert.CkKernel.nD,
      r.2.mem ((c.tc : Thread Cert.CkKernel.nD Cert.CkKernel.τ).loc Cert.CkKernel.main_arg0) = m ((c.tc : Thread Cert.CkKernel.nD Cert.CkKernel.τ).loc Cert.CkKernel.main_arg0)
      ∧ r.2.mem ((c.tc : Thread Cert.CkKernel.nD Cert.CkKernel.τ).loc Cert.CkKernel.main_arg1) = m ((c.tc : Thread Cert.CkKernel.nD Cert.CkKernel.τ).loc Cert.CkKernel.main_arg1))
      ∧ r.2.sem = fun _ => 0)

def quiescent_CkKernelIdeal [hCkKernelIdeal : Cert.CkKernelIdeal.Facts] : Prop :=
  ∀ (m : (ℓ : Loc Cert.CkKernelIdeal.nD Cert.CkKernelIdeal.τ Cert.CkKernelIdeal.sig) → Buf (Elt Ideal) ℓ) (g : Dev Cert.CkKernelIdeal.nD → PrngReg), Pre_CkKernelIdeal m →
    θ_run (Cert.CkKernelIdeal.defs (F := Ideal)) (onTc (τ := Cert.CkKernelIdeal.τ) (Cert.CkKernelIdeal.main (F := Ideal))) ⟨m, fun _ => 0, g⟩ (fun r => (∀ c : Dev Cert.CkKernelIdeal.nD,
      r.2.mem ((c.tc : Thread Cert.CkKernelIdeal.nD Cert.CkKernelIdeal.τ).loc Cert.CkKernelIdeal.main_arg0) = m ((c.tc : Thread Cert.CkKernelIdeal.nD Cert.CkKernelIdeal.τ).loc Cert.CkKernelIdeal.main_arg0)
      ∧ r.2.mem ((c.tc : Thread Cert.CkKernelIdeal.nD Cert.CkKernelIdeal.τ).loc Cert.CkKernelIdeal.main_arg1) = m ((c.tc : Thread Cert.CkKernelIdeal.nD Cert.CkKernelIdeal.τ).loc Cert.CkKernelIdeal.main_arg1))
      ∧ r.2.sem = fun _ => 0)

def quiescent_CkReferenceIdeal [hCkReferenceIdeal : Cert.CkReferenceIdeal.Facts] : Prop :=
  ∀ (m : (ℓ : Loc Cert.CkReferenceIdeal.nD Cert.CkReferenceIdeal.τ Cert.CkReferenceIdeal.sig) → Buf (Elt Ideal) ℓ) (g : Dev Cert.CkReferenceIdeal.nD → PrngReg), Pre_CkReferenceIdeal m →
    θ_run (Cert.CkReferenceIdeal.defs (F := Ideal)) (onTc (τ := Cert.CkReferenceIdeal.τ) (Cert.CkReferenceIdeal.main (F := Ideal))) ⟨m, fun _ => 0, g⟩ (fun r => (∀ c : Dev Cert.CkReferenceIdeal.nD,
      r.2.mem ((c.tc : Thread Cert.CkReferenceIdeal.nD Cert.CkReferenceIdeal.τ).loc Cert.CkReferenceIdeal.main_arg0) = m ((c.tc : Thread Cert.CkReferenceIdeal.nD Cert.CkReferenceIdeal.τ).loc Cert.CkReferenceIdeal.main_arg0)
      ∧ r.2.mem ((c.tc : Thread Cert.CkReferenceIdeal.nD Cert.CkReferenceIdeal.τ).loc Cert.CkReferenceIdeal.main_arg1) = m ((c.tc : Thread Cert.CkReferenceIdeal.nD Cert.CkReferenceIdeal.τ).loc Cert.CkReferenceIdeal.main_arg1))
      ∧ r.2.sem = fun _ => 0)

def quiescent_CoKernel [hCoKernel : Cert.CoKernel.Facts] : Prop :=
  ∀ (m : (ℓ : Loc Cert.CoKernel.nD Cert.CoKernel.τ Cert.CoKernel.sig) → Buf (Elt Bits) ℓ) (g : Dev Cert.CoKernel.nD → PrngReg), Pre_CoKernel m →
    θ_run (Cert.CoKernel.defs (F := Bits)) (onTc (τ := Cert.CoKernel.τ) (Cert.CoKernel.main (F := Bits))) ⟨m, fun _ => 0, g⟩ (fun r => (∀ c : Dev Cert.CoKernel.nD,
      r.2.mem ((c.tc : Thread Cert.CoKernel.nD Cert.CoKernel.τ).loc Cert.CoKernel.main_arg0) = m ((c.tc : Thread Cert.CoKernel.nD Cert.CoKernel.τ).loc Cert.CoKernel.main_arg0)
      ∧ r.2.mem ((c.tc : Thread Cert.CoKernel.nD Cert.CoKernel.τ).loc Cert.CoKernel.main_arg1) = m ((c.tc : Thread Cert.CoKernel.nD Cert.CoKernel.τ).loc Cert.CoKernel.main_arg1)
      ∧ r.2.mem ((c.tc : Thread Cert.CoKernel.nD Cert.CoKernel.τ).loc Cert.CoKernel.main_arg2) = m ((c.tc : Thread Cert.CoKernel.nD Cert.CoKernel.τ).loc Cert.CoKernel.main_arg2))
      ∧ r.2.sem = fun _ => 0)

def quiescent_CoKernelIdeal [hCoKernelIdeal : Cert.CoKernelIdeal.Facts] : Prop :=
  ∀ (m : (ℓ : Loc Cert.CoKernelIdeal.nD Cert.CoKernelIdeal.τ Cert.CoKernelIdeal.sig) → Buf (Elt Ideal) ℓ) (g : Dev Cert.CoKernelIdeal.nD → PrngReg), Pre_CoKernelIdeal m →
    θ_run (Cert.CoKernelIdeal.defs (F := Ideal)) (onTc (τ := Cert.CoKernelIdeal.τ) (Cert.CoKernelIdeal.main (F := Ideal))) ⟨m, fun _ => 0, g⟩ (fun r => (∀ c : Dev Cert.CoKernelIdeal.nD,
      r.2.mem ((c.tc : Thread Cert.CoKernelIdeal.nD Cert.CoKernelIdeal.τ).loc Cert.CoKernelIdeal.main_arg0) = m ((c.tc : Thread Cert.CoKernelIdeal.nD Cert.CoKernelIdeal.τ).loc Cert.CoKernelIdeal.main_arg0)
      ∧ r.2.mem ((c.tc : Thread Cert.CoKernelIdeal.nD Cert.CoKernelIdeal.τ).loc Cert.CoKernelIdeal.main_arg1) = m ((c.tc : Thread Cert.CoKernelIdeal.nD Cert.CoKernelIdeal.τ).loc Cert.CoKernelIdeal.main_arg1)
      ∧ r.2.mem ((c.tc : Thread Cert.CoKernelIdeal.nD Cert.CoKernelIdeal.τ).loc Cert.CoKernelIdeal.main_arg2) = m ((c.tc : Thread Cert.CoKernelIdeal.nD Cert.CoKernelIdeal.τ).loc Cert.CoKernelIdeal.main_arg2))
      ∧ r.2.sem = fun _ => 0)

def quiescent_CoReferenceIdeal [hCoReferenceIdeal : Cert.CoReferenceIdeal.Facts] : Prop :=
  ∀ (m : (ℓ : Loc Cert.CoReferenceIdeal.nD Cert.CoReferenceIdeal.τ Cert.CoReferenceIdeal.sig) → Buf (Elt Ideal) ℓ) (g : Dev Cert.CoReferenceIdeal.nD → PrngReg), Pre_CoReferenceIdeal m →
    θ_run (Cert.CoReferenceIdeal.defs (F := Ideal)) (onTc (τ := Cert.CoReferenceIdeal.τ) (Cert.CoReferenceIdeal.main (F := Ideal))) ⟨m, fun _ => 0, g⟩ (fun r => (∀ c : Dev Cert.CoReferenceIdeal.nD,
      r.2.mem ((c.tc : Thread Cert.CoReferenceIdeal.nD Cert.CoReferenceIdeal.τ).loc Cert.CoReferenceIdeal.main_arg0) = m ((c.tc : Thread Cert.CoReferenceIdeal.nD Cert.CoReferenceIdeal.τ).loc Cert.CoReferenceIdeal.main_arg0)
      ∧ r.2.mem ((c.tc : Thread Cert.CoReferenceIdeal.nD Cert.CoReferenceIdeal.τ).loc Cert.CoReferenceIdeal.main_arg1) = m ((c.tc : Thread Cert.CoReferenceIdeal.nD Cert.CoReferenceIdeal.τ).loc Cert.CoReferenceIdeal.main_arg1)
      ∧ r.2.mem ((c.tc : Thread Cert.CoReferenceIdeal.nD Cert.CoReferenceIdeal.τ).loc Cert.CoReferenceIdeal.main_arg2) = m ((c.tc : Thread Cert.CoReferenceIdeal.nD Cert.CoReferenceIdeal.τ).loc Cert.CoReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DhnKernel [hDhnKernel : Cert.DhnKernel.Facts] : Prop :=
  ∀ (m : (ℓ : Loc Cert.DhnKernel.nD Cert.DhnKernel.τ Cert.DhnKernel.sig) → Buf (Elt Bits) ℓ) (g : Dev Cert.DhnKernel.nD → PrngReg), Pre_DhnKernel m →
    θ_run (Cert.DhnKernel.defs (F := Bits)) (onTc (τ := Cert.DhnKernel.τ) (Cert.DhnKernel.main (F := Bits))) ⟨m, fun _ => 0, g⟩ (fun r => (∀ c : Dev Cert.DhnKernel.nD,
      r.2.mem ((c.tc : Thread Cert.DhnKernel.nD Cert.DhnKernel.τ).loc Cert.DhnKernel.main_arg0) = m ((c.tc : Thread Cert.DhnKernel.nD Cert.DhnKernel.τ).loc Cert.DhnKernel.main_arg0)
      ∧ r.2.mem ((c.tc : Thread Cert.DhnKernel.nD Cert.DhnKernel.τ).loc Cert.DhnKernel.main_arg1) = m ((c.tc : Thread Cert.DhnKernel.nD Cert.DhnKernel.τ).loc Cert.DhnKernel.main_arg1))
      ∧ r.2.sem = fun _ => 0)

def quiescent_DhnKernelIdeal [hDhnKernelIdeal : Cert.DhnKernelIdeal.Facts] : Prop :=
  ∀ (m : (ℓ : Loc Cert.DhnKernelIdeal.nD Cert.DhnKernelIdeal.τ Cert.DhnKernelIdeal.sig) → Buf (Elt Ideal) ℓ) (g : Dev Cert.DhnKernelIdeal.nD → PrngReg), Pre_DhnKernelIdeal m →
    θ_run (Cert.DhnKernelIdeal.defs (F := Ideal)) (onTc (τ := Cert.DhnKernelIdeal.τ) (Cert.DhnKernelIdeal.main (F := Ideal))) ⟨m, fun _ => 0, g⟩ (fun r => (∀ c : Dev Cert.DhnKernelIdeal.nD,
      r.2.mem ((c.tc : Thread Cert.DhnKernelIdeal.nD Cert.DhnKernelIdeal.τ).loc Cert.DhnKernelIdeal.main_arg0) = m ((c.tc : Thread Cert.DhnKernelIdeal.nD Cert.DhnKernelIdeal.τ).loc Cert.DhnKernelIdeal.main_arg0)
      ∧ r.2.mem ((c.tc : Thread Cert.DhnKernelIdeal.nD Cert.DhnKernelIdeal.τ).loc Cert.DhnKernelIdeal.main_arg1) = m ((c.tc : Thread Cert.DhnKernelIdeal.nD Cert.DhnKernelIdeal.τ).loc Cert.DhnKernelIdeal.main_arg1))
      ∧ r.2.sem = fun _ => 0)

def quiescent_DhnReferenceIdeal [hDhnReferenceIdeal : Cert.DhnReferenceIdeal.Facts] : Prop :=
  ∀ (m : (ℓ : Loc Cert.DhnReferenceIdeal.nD Cert.DhnReferenceIdeal.τ Cert.DhnReferenceIdeal.sig) → Buf (Elt Ideal) ℓ) (g : Dev Cert.DhnReferenceIdeal.nD → PrngReg), Pre_DhnReferenceIdeal m →
    θ_run (Cert.DhnReferenceIdeal.defs (F := Ideal)) (onTc (τ := Cert.DhnReferenceIdeal.τ) (Cert.DhnReferenceIdeal.main (F := Ideal))) ⟨m, fun _ => 0, g⟩ (fun r => (∀ c : Dev Cert.DhnReferenceIdeal.nD,
      r.2.mem ((c.tc : Thread Cert.DhnReferenceIdeal.nD Cert.DhnReferenceIdeal.τ).loc Cert.DhnReferenceIdeal.main_arg0) = m ((c.tc : Thread Cert.DhnReferenceIdeal.nD Cert.DhnReferenceIdeal.τ).loc Cert.DhnReferenceIdeal.main_arg0)
      ∧ r.2.mem ((c.tc : Thread Cert.DhnReferenceIdeal.nD Cert.DhnReferenceIdeal.τ).loc Cert.DhnReferenceIdeal.main_arg1) = m ((c.tc : Thread Cert.DhnReferenceIdeal.nD Cert.DhnReferenceIdeal.τ).loc Cert.DhnReferenceIdeal.main_arg1))
      ∧ r.2.sem = fun _ => 0)

def quiescent_DocKernel [hDocKernel : Cert.DocKernel.Facts] : Prop :=
  ∀ (m : (ℓ : Loc Cert.DocKernel.nD Cert.DocKernel.τ Cert.DocKernel.sig) → Buf (Elt Bits) ℓ) (g : Dev Cert.DocKernel.nD → PrngReg), Pre_DocKernel m →
    θ_run (Cert.DocKernel.defs (F := Bits)) (onTc (τ := Cert.DocKernel.τ) (Cert.DocKernel.main (F := Bits))) ⟨m, fun _ => 0, g⟩ (fun r => (∀ c : Dev Cert.DocKernel.nD,
      r.2.mem ((c.tc : Thread Cert.DocKernel.nD Cert.DocKernel.τ).loc Cert.DocKernel.main_arg0) = m ((c.tc : Thread Cert.DocKernel.nD Cert.DocKernel.τ).loc Cert.DocKernel.main_arg0)
      ∧ r.2.mem ((c.tc : Thread Cert.DocKernel.nD Cert.DocKernel.τ).loc Cert.DocKernel.main_arg1) = m ((c.tc : Thread Cert.DocKernel.nD Cert.DocKernel.τ).loc Cert.DocKernel.main_arg1))
      ∧ r.2.sem = fun _ => 0)

def quiescent_DocKernelIdeal [hDocKernelIdeal : Cert.DocKernelIdeal.Facts] : Prop :=
  ∀ (m : (ℓ : Loc Cert.DocKernelIdeal.nD Cert.DocKernelIdeal.τ Cert.DocKernelIdeal.sig) → Buf (Elt Ideal) ℓ) (g : Dev Cert.DocKernelIdeal.nD → PrngReg), Pre_DocKernelIdeal m →
    θ_run (Cert.DocKernelIdeal.defs (F := Ideal)) (onTc (τ := Cert.DocKernelIdeal.τ) (Cert.DocKernelIdeal.main (F := Ideal))) ⟨m, fun _ => 0, g⟩ (fun r => (∀ c : Dev Cert.DocKernelIdeal.nD,
      r.2.mem ((c.tc : Thread Cert.DocKernelIdeal.nD Cert.DocKernelIdeal.τ).loc Cert.DocKernelIdeal.main_arg0) = m ((c.tc : Thread Cert.DocKernelIdeal.nD Cert.DocKernelIdeal.τ).loc Cert.DocKernelIdeal.main_arg0)
      ∧ r.2.mem ((c.tc : Thread Cert.DocKernelIdeal.nD Cert.DocKernelIdeal.τ).loc Cert.DocKernelIdeal.main_arg1) = m ((c.tc : Thread Cert.DocKernelIdeal.nD Cert.DocKernelIdeal.τ).loc Cert.DocKernelIdeal.main_arg1))
      ∧ r.2.sem = fun _ => 0)

def quiescent_DocReferenceIdeal [hDocReferenceIdeal : Cert.DocReferenceIdeal.Facts] : Prop :=
  ∀ (m : (ℓ : Loc Cert.DocReferenceIdeal.nD Cert.DocReferenceIdeal.τ Cert.DocReferenceIdeal.sig) → Buf (Elt Ideal) ℓ) (g : Dev Cert.DocReferenceIdeal.nD → PrngReg), Pre_DocReferenceIdeal m →
    θ_run (Cert.DocReferenceIdeal.defs (F := Ideal)) (onTc (τ := Cert.DocReferenceIdeal.τ) (Cert.DocReferenceIdeal.main (F := Ideal))) ⟨m, fun _ => 0, g⟩ (fun r => (∀ c : Dev Cert.DocReferenceIdeal.nD,
      r.2.mem ((c.tc : Thread Cert.DocReferenceIdeal.nD Cert.DocReferenceIdeal.τ).loc Cert.DocReferenceIdeal.main_arg0) = m ((c.tc : Thread Cert.DocReferenceIdeal.nD Cert.DocReferenceIdeal.τ).loc Cert.DocReferenceIdeal.main_arg0)
      ∧ r.2.mem ((c.tc : Thread Cert.DocReferenceIdeal.nD Cert.DocReferenceIdeal.τ).loc Cert.DocReferenceIdeal.main_arg1) = m ((c.tc : Thread Cert.DocReferenceIdeal.nD Cert.DocReferenceIdeal.τ).loc Cert.DocReferenceIdeal.main_arg1))
      ∧ r.2.sem = fun _ => 0)

def quiescent_DhqKernel [hDhqKernel : Cert.DhqKernel.Facts] : Prop :=
  ∀ (m : (ℓ : Loc Cert.DhqKernel.nD Cert.DhqKernel.τ Cert.DhqKernel.sig) → Buf (Elt Bits) ℓ) (g : Dev Cert.DhqKernel.nD → PrngReg), Pre_DhqKernel m →
    θ_run (Cert.DhqKernel.defs (F := Bits)) (onTc (τ := Cert.DhqKernel.τ) (Cert.DhqKernel.main (F := Bits))) ⟨m, fun _ => 0, g⟩ (fun r => (∀ c : Dev Cert.DhqKernel.nD,
      r.2.mem ((c.tc : Thread Cert.DhqKernel.nD Cert.DhqKernel.τ).loc Cert.DhqKernel.main_arg0) = m ((c.tc : Thread Cert.DhqKernel.nD Cert.DhqKernel.τ).loc Cert.DhqKernel.main_arg0)
      ∧ r.2.mem ((c.tc : Thread Cert.DhqKernel.nD Cert.DhqKernel.τ).loc Cert.DhqKernel.main_arg1) = m ((c.tc : Thread Cert.DhqKernel.nD Cert.DhqKernel.τ).loc Cert.DhqKernel.main_arg1))
      ∧ r.2.sem = fun _ => 0)

def quiescent_DhqKernelIdeal [hDhqKernelIdeal : Cert.DhqKernelIdeal.Facts] : Prop :=
  ∀ (m : (ℓ : Loc Cert.DhqKernelIdeal.nD Cert.DhqKernelIdeal.τ Cert.DhqKernelIdeal.sig) → Buf (Elt Ideal) ℓ) (g : Dev Cert.DhqKernelIdeal.nD → PrngReg), Pre_DhqKernelIdeal m →
    θ_run (Cert.DhqKernelIdeal.defs (F := Ideal)) (onTc (τ := Cert.DhqKernelIdeal.τ) (Cert.DhqKernelIdeal.main (F := Ideal))) ⟨m, fun _ => 0, g⟩ (fun r => (∀ c : Dev Cert.DhqKernelIdeal.nD,
      r.2.mem ((c.tc : Thread Cert.DhqKernelIdeal.nD Cert.DhqKernelIdeal.τ).loc Cert.DhqKernelIdeal.main_arg0) = m ((c.tc : Thread Cert.DhqKernelIdeal.nD Cert.DhqKernelIdeal.τ).loc Cert.DhqKernelIdeal.main_arg0)
      ∧ r.2.mem ((c.tc : Thread Cert.DhqKernelIdeal.nD Cert.DhqKernelIdeal.τ).loc Cert.DhqKernelIdeal.main_arg1) = m ((c.tc : Thread Cert.DhqKernelIdeal.nD Cert.DhqKernelIdeal.τ).loc Cert.DhqKernelIdeal.main_arg1))
      ∧ r.2.sem = fun _ => 0)

def quiescent_DhqReferenceIdeal [hDhqReferenceIdeal : Cert.DhqReferenceIdeal.Facts] : Prop :=
  ∀ (m : (ℓ : Loc Cert.DhqReferenceIdeal.nD Cert.DhqReferenceIdeal.τ Cert.DhqReferenceIdeal.sig) → Buf (Elt Ideal) ℓ) (g : Dev Cert.DhqReferenceIdeal.nD → PrngReg), Pre_DhqReferenceIdeal m →
    θ_run (Cert.DhqReferenceIdeal.defs (F := Ideal)) (onTc (τ := Cert.DhqReferenceIdeal.τ) (Cert.DhqReferenceIdeal.main (F := Ideal))) ⟨m, fun _ => 0, g⟩ (fun r => (∀ c : Dev Cert.DhqReferenceIdeal.nD,
      r.2.mem ((c.tc : Thread Cert.DhqReferenceIdeal.nD Cert.DhqReferenceIdeal.τ).loc Cert.DhqReferenceIdeal.main_arg0) = m ((c.tc : Thread Cert.DhqReferenceIdeal.nD Cert.DhqReferenceIdeal.τ).loc Cert.DhqReferenceIdeal.main_arg0)
      ∧ r.2.mem ((c.tc : Thread Cert.DhqReferenceIdeal.nD Cert.DhqReferenceIdeal.τ).loc Cert.DhqReferenceIdeal.main_arg1) = m ((c.tc : Thread Cert.DhqReferenceIdeal.nD Cert.DhqReferenceIdeal.τ).loc Cert.DhqReferenceIdeal.main_arg1))
      ∧ r.2.sem = fun _ => 0)

def quiescent_DmemKKernel [hDmemKKernel : Cert.DmemKKernel.Facts] : Prop :=
  ∀ (m : (ℓ : Loc Cert.DmemKKernel.nD Cert.DmemKKernel.τ Cert.DmemKKernel.sig) → Buf (Elt Bits) ℓ) (g : Dev Cert.DmemKKernel.nD → PrngReg), Pre_DmemKKernel m →
    θ_run (Cert.DmemKKernel.defs (F := Bits)) (onTc (τ := Cert.DmemKKernel.τ) (Cert.DmemKKernel.main (F := Bits))) ⟨m, fun _ => 0, g⟩ (fun r => (∀ c : Dev Cert.DmemKKernel.nD,
      r.2.mem ((c.tc : Thread Cert.DmemKKernel.nD Cert.DmemKKernel.τ).loc Cert.DmemKKernel.main_arg0) = m ((c.tc : Thread Cert.DmemKKernel.nD Cert.DmemKKernel.τ).loc Cert.DmemKKernel.main_arg0)
      ∧ r.2.mem ((c.tc : Thread Cert.DmemKKernel.nD Cert.DmemKKernel.τ).loc Cert.DmemKKernel.main_arg1) = m ((c.tc : Thread Cert.DmemKKernel.nD Cert.DmemKKernel.τ).loc Cert.DmemKKernel.main_arg1))
      ∧ r.2.sem = fun _ => 0)

def quiescent_DmemKKernelIdeal [hDmemKKernelIdeal : Cert.DmemKKernelIdeal.Facts] : Prop :=
  ∀ (m : (ℓ : Loc Cert.DmemKKernelIdeal.nD Cert.DmemKKernelIdeal.τ Cert.DmemKKernelIdeal.sig) → Buf (Elt Ideal) ℓ) (g : Dev Cert.DmemKKernelIdeal.nD → PrngReg), Pre_DmemKKernelIdeal m →
    θ_run (Cert.DmemKKernelIdeal.defs (F := Ideal)) (onTc (τ := Cert.DmemKKernelIdeal.τ) (Cert.DmemKKernelIdeal.main (F := Ideal))) ⟨m, fun _ => 0, g⟩ (fun r => (∀ c : Dev Cert.DmemKKernelIdeal.nD,
      r.2.mem ((c.tc : Thread Cert.DmemKKernelIdeal.nD Cert.DmemKKernelIdeal.τ).loc Cert.DmemKKernelIdeal.main_arg0) = m ((c.tc : Thread Cert.DmemKKernelIdeal.nD Cert.DmemKKernelIdeal.τ).loc Cert.DmemKKernelIdeal.main_arg0)
      ∧ r.2.mem ((c.tc : Thread Cert.DmemKKernelIdeal.nD Cert.DmemKKernelIdeal.τ).loc Cert.DmemKKernelIdeal.main_arg1) = m ((c.tc : Thread Cert.DmemKKernelIdeal.nD Cert.DmemKKernelIdeal.τ).loc Cert.DmemKKernelIdeal.main_arg1))
      ∧ r.2.sem = fun _ => 0)

def quiescent_DmemKReferenceIdeal [hDmemKReferenceIdeal : Cert.DmemKReferenceIdeal.Facts] : Prop :=
  ∀ (m : (ℓ : Loc Cert.DmemKReferenceIdeal.nD Cert.DmemKReferenceIdeal.τ Cert.DmemKReferenceIdeal.sig) → Buf (Elt Ideal) ℓ) (g : Dev Cert.DmemKReferenceIdeal.nD → PrngReg), Pre_DmemKReferenceIdeal m →
    θ_run (Cert.DmemKReferenceIdeal.defs (F := Ideal)) (onTc (τ := Cert.DmemKReferenceIdeal.τ) (Cert.DmemKReferenceIdeal.main (F := Ideal))) ⟨m, fun _ => 0, g⟩ (fun r => (∀ c : Dev Cert.DmemKReferenceIdeal.nD,
      r.2.mem ((c.tc : Thread Cert.DmemKReferenceIdeal.nD Cert.DmemKReferenceIdeal.τ).loc Cert.DmemKReferenceIdeal.main_arg0) = m ((c.tc : Thread Cert.DmemKReferenceIdeal.nD Cert.DmemKReferenceIdeal.τ).loc Cert.DmemKReferenceIdeal.main_arg0)
      ∧ r.2.mem ((c.tc : Thread Cert.DmemKReferenceIdeal.nD Cert.DmemKReferenceIdeal.τ).loc Cert.DmemKReferenceIdeal.main_arg1) = m ((c.tc : Thread Cert.DmemKReferenceIdeal.nD Cert.DmemKReferenceIdeal.τ).loc Cert.DmemKReferenceIdeal.main_arg1))
      ∧ r.2.sem = fun _ => 0)

def quiescent_DmemVKernel [hDmemVKernel : Cert.DmemVKernel.Facts] : Prop :=
  ∀ (m : (ℓ : Loc Cert.DmemVKernel.nD Cert.DmemVKernel.τ Cert.DmemVKernel.sig) → Buf (Elt Bits) ℓ) (g : Dev Cert.DmemVKernel.nD → PrngReg), Pre_DmemVKernel m →
    θ_run (Cert.DmemVKernel.defs (F := Bits)) (onTc (τ := Cert.DmemVKernel.τ) (Cert.DmemVKernel.main (F := Bits))) ⟨m, fun _ => 0, g⟩ (fun r => (∀ c : Dev Cert.DmemVKernel.nD,
      r.2.mem ((c.tc : Thread Cert.DmemVKernel.nD Cert.DmemVKernel.τ).loc Cert.DmemVKernel.main_arg0) = m ((c.tc : Thread Cert.DmemVKernel.nD Cert.DmemVKernel.τ).loc Cert.DmemVKernel.main_arg0)
      ∧ r.2.mem ((c.tc : Thread Cert.DmemVKernel.nD Cert.DmemVKernel.τ).loc Cert.DmemVKernel.main_arg1) = m ((c.tc : Thread Cert.DmemVKernel.nD Cert.DmemVKernel.τ).loc Cert.DmemVKernel.main_arg1)
      ∧ r.2.mem ((c.tc : Thread Cert.DmemVKernel.nD Cert.DmemVKernel.τ).loc Cert.DmemVKernel.main_arg2) = m ((c.tc : Thread Cert.DmemVKernel.nD Cert.DmemVKernel.τ).loc Cert.DmemVKernel.main_arg2))
      ∧ r.2.sem = fun _ => 0)

def quiescent_DmemVKernelIdeal [hDmemVKernelIdeal : Cert.DmemVKernelIdeal.Facts] : Prop :=
  ∀ (m : (ℓ : Loc Cert.DmemVKernelIdeal.nD Cert.DmemVKernelIdeal.τ Cert.DmemVKernelIdeal.sig) → Buf (Elt Ideal) ℓ) (g : Dev Cert.DmemVKernelIdeal.nD → PrngReg), Pre_DmemVKernelIdeal m →
    θ_run (Cert.DmemVKernelIdeal.defs (F := Ideal)) (onTc (τ := Cert.DmemVKernelIdeal.τ) (Cert.DmemVKernelIdeal.main (F := Ideal))) ⟨m, fun _ => 0, g⟩ (fun r => (∀ c : Dev Cert.DmemVKernelIdeal.nD,
      r.2.mem ((c.tc : Thread Cert.DmemVKernelIdeal.nD Cert.DmemVKernelIdeal.τ).loc Cert.DmemVKernelIdeal.main_arg0) = m ((c.tc : Thread Cert.DmemVKernelIdeal.nD Cert.DmemVKernelIdeal.τ).loc Cert.DmemVKernelIdeal.main_arg0)
      ∧ r.2.mem ((c.tc : Thread Cert.DmemVKernelIdeal.nD Cert.DmemVKernelIdeal.τ).loc Cert.DmemVKernelIdeal.main_arg1) = m ((c.tc : Thread Cert.DmemVKernelIdeal.nD Cert.DmemVKernelIdeal.τ).loc Cert.DmemVKernelIdeal.main_arg1)
      ∧ r.2.mem ((c.tc : Thread Cert.DmemVKernelIdeal.nD Cert.DmemVKernelIdeal.τ).loc Cert.DmemVKernelIdeal.main_arg2) = m ((c.tc : Thread Cert.DmemVKernelIdeal.nD Cert.DmemVKernelIdeal.τ).loc Cert.DmemVKernelIdeal.main_arg2))
      ∧ r.2.sem = fun _ => 0)

def quiescent_DmemVReferenceIdeal [hDmemVReferenceIdeal : Cert.DmemVReferenceIdeal.Facts] : Prop :=
  ∀ (m : (ℓ : Loc Cert.DmemVReferenceIdeal.nD Cert.DmemVReferenceIdeal.τ Cert.DmemVReferenceIdeal.sig) → Buf (Elt Ideal) ℓ) (g : Dev Cert.DmemVReferenceIdeal.nD → PrngReg), Pre_DmemVReferenceIdeal m →
    θ_run (Cert.DmemVReferenceIdeal.defs (F := Ideal)) (onTc (τ := Cert.DmemVReferenceIdeal.τ) (Cert.DmemVReferenceIdeal.main (F := Ideal))) ⟨m, fun _ => 0, g⟩ (fun r => (∀ c : Dev Cert.DmemVReferenceIdeal.nD,
      r.2.mem ((c.tc : Thread Cert.DmemVReferenceIdeal.nD Cert.DmemVReferenceIdeal.τ).loc Cert.DmemVReferenceIdeal.main_arg0) = m ((c.tc : Thread Cert.DmemVReferenceIdeal.nD Cert.DmemVReferenceIdeal.τ).loc Cert.DmemVReferenceIdeal.main_arg0)
      ∧ r.2.mem ((c.tc : Thread Cert.DmemVReferenceIdeal.nD Cert.DmemVReferenceIdeal.τ).loc Cert.DmemVReferenceIdeal.main_arg1) = m ((c.tc : Thread Cert.DmemVReferenceIdeal.nD Cert.DmemVReferenceIdeal.τ).loc Cert.DmemVReferenceIdeal.main_arg1)
      ∧ r.2.mem ((c.tc : Thread Cert.DmemVReferenceIdeal.nD Cert.DmemVReferenceIdeal.τ).loc Cert.DmemVReferenceIdeal.main_arg2) = m ((c.tc : Thread Cert.DmemVReferenceIdeal.nD Cert.DmemVReferenceIdeal.τ).loc Cert.DmemVReferenceIdeal.main_arg2))
      ∧ r.2.sem = fun _ => 0)

def quiescent_DmixedKernel [hDmixedKernel : Cert.DmixedKernel.Facts] : Prop :=
  ∀ (m : (ℓ : Loc Cert.DmixedKernel.nD Cert.DmixedKernel.τ Cert.DmixedKernel.sig) → Buf (Elt Bits) ℓ) (g : Dev Cert.DmixedKernel.nD → PrngReg), Pre_DmixedKernel m →
    θ_run (Cert.DmixedKernel.defs (F := Bits)) (onTc (τ := Cert.DmixedKernel.τ) (Cert.DmixedKernel.main (F := Bits))) ⟨m, fun _ => 0, g⟩ (fun r => (∀ c : Dev Cert.DmixedKernel.nD,
      r.2.mem ((c.tc : Thread Cert.DmixedKernel.nD Cert.DmixedKernel.τ).loc Cert.DmixedKernel.main_arg0) = m ((c.tc : Thread Cert.DmixedKernel.nD Cert.DmixedKernel.τ).loc Cert.DmixedKernel.main_arg0)
      ∧ r.2.mem ((c.tc : Thread Cert.DmixedKernel.nD Cert.DmixedKernel.τ).loc Cert.DmixedKernel.main_arg1) = m ((c.tc : Thread Cert.DmixedKernel.nD Cert.DmixedKernel.τ).loc Cert.DmixedKernel.main_arg1))
      ∧ r.2.sem = fun _ => 0)

def quiescent_DmixedKernelIdeal [hDmixedKernelIdeal : Cert.DmixedKernelIdeal.Facts] : Prop :=
  ∀ (m : (ℓ : Loc Cert.DmixedKernelIdeal.nD Cert.DmixedKernelIdeal.τ Cert.DmixedKernelIdeal.sig) → Buf (Elt Ideal) ℓ) (g : Dev Cert.DmixedKernelIdeal.nD → PrngReg), Pre_DmixedKernelIdeal m →
    θ_run (Cert.DmixedKernelIdeal.defs (F := Ideal)) (onTc (τ := Cert.DmixedKernelIdeal.τ) (Cert.DmixedKernelIdeal.main (F := Ideal))) ⟨m, fun _ => 0, g⟩ (fun r => (∀ c : Dev Cert.DmixedKernelIdeal.nD,
      r.2.mem ((c.tc : Thread Cert.DmixedKernelIdeal.nD Cert.DmixedKernelIdeal.τ).loc Cert.DmixedKernelIdeal.main_arg0) = m ((c.tc : Thread Cert.DmixedKernelIdeal.nD Cert.DmixedKernelIdeal.τ).loc Cert.DmixedKernelIdeal.main_arg0)
      ∧ r.2.mem ((c.tc : Thread Cert.DmixedKernelIdeal.nD Cert.DmixedKernelIdeal.τ).loc Cert.DmixedKernelIdeal.main_arg1) = m ((c.tc : Thread Cert.DmixedKernelIdeal.nD Cert.DmixedKernelIdeal.τ).loc Cert.DmixedKernelIdeal.main_arg1))
      ∧ r.2.sem = fun _ => 0)

def quiescent_DmixedReferenceIdeal [hDmixedReferenceIdeal : Cert.DmixedReferenceIdeal.Facts] : Prop :=
  ∀ (m : (ℓ : Loc Cert.DmixedReferenceIdeal.nD Cert.DmixedReferenceIdeal.τ Cert.DmixedReferenceIdeal.sig) → Buf (Elt Ideal) ℓ) (g : Dev Cert.DmixedReferenceIdeal.nD → PrngReg), Pre_DmixedReferenceIdeal m →
    θ_run (Cert.DmixedReferenceIdeal.defs (F := Ideal)) (onTc (τ := Cert.DmixedReferenceIdeal.τ) (Cert.DmixedReferenceIdeal.main (F := Ideal))) ⟨m, fun _ => 0, g⟩ (fun r => (∀ c : Dev Cert.DmixedReferenceIdeal.nD,
      r.2.mem ((c.tc : Thread Cert.DmixedReferenceIdeal.nD Cert.DmixedReferenceIdeal.τ).loc Cert.DmixedReferenceIdeal.main_arg0) = m ((c.tc : Thread Cert.DmixedReferenceIdeal.nD Cert.DmixedReferenceIdeal.τ).loc Cert.DmixedReferenceIdeal.main_arg0)
      ∧ r.2.mem ((c.tc : Thread Cert.DmixedReferenceIdeal.nD Cert.DmixedReferenceIdeal.τ).loc Cert.DmixedReferenceIdeal.main_arg1) = m ((c.tc : Thread Cert.DmixedReferenceIdeal.nD Cert.DmixedReferenceIdeal.τ).loc Cert.DmixedReferenceIdeal.main_arg1))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_DwUpKernel [hDwUpKernel : Cert.DwUpKernel.Facts] : Prop :=
  ∀ (m : (ℓ : Loc Cert.DwUpKernel.nD Cert.DwUpKernel.τ Cert.DwUpKernel.sig) → Buf (Elt Bits) ℓ) (g : Dev Cert.DwUpKernel.nD → PrngReg), Pre_DwUpKernel m →
    θ_run (Cert.DwUpKernel.defs (F := Bits)) (onTc (τ := Cert.DwUpKernel.τ) (Cert.DwUpKernel.main (F := Bits))) ⟨m, fun _ => 0, g⟩ (fun r => (∀ c : Dev Cert.DwUpKernel.nD,
      r.2.mem ((c.tc : Thread Cert.DwUpKernel.nD Cert.DwUpKernel.τ).loc Cert.DwUpKernel.main_arg0) = m ((c.tc : Thread Cert.DwUpKernel.nD Cert.DwUpKernel.τ).loc Cert.DwUpKernel.main_arg0)
      ∧ r.2.mem ((c.tc : Thread Cert.DwUpKernel.nD Cert.DwUpKernel.τ).loc Cert.DwUpKernel.main_arg1) = m ((c.tc : Thread Cert.DwUpKernel.nD Cert.DwUpKernel.τ).loc Cert.DwUpKernel.main_arg1))
      ∧ r.2.sem = fun _ => 0)

def quiescent_DwUpKernelIdeal [hDwUpKernelIdeal : Cert.DwUpKernelIdeal.Facts] : Prop :=
  ∀ (m : (ℓ : Loc Cert.DwUpKernelIdeal.nD Cert.DwUpKernelIdeal.τ Cert.DwUpKernelIdeal.sig) → Buf (Elt Ideal) ℓ) (g : Dev Cert.DwUpKernelIdeal.nD → PrngReg), Pre_DwUpKernelIdeal m →
    θ_run (Cert.DwUpKernelIdeal.defs (F := Ideal)) (onTc (τ := Cert.DwUpKernelIdeal.τ) (Cert.DwUpKernelIdeal.main (F := Ideal))) ⟨m, fun _ => 0, g⟩ (fun r => (∀ c : Dev Cert.DwUpKernelIdeal.nD,
      r.2.mem ((c.tc : Thread Cert.DwUpKernelIdeal.nD Cert.DwUpKernelIdeal.τ).loc Cert.DwUpKernelIdeal.main_arg0) = m ((c.tc : Thread Cert.DwUpKernelIdeal.nD Cert.DwUpKernelIdeal.τ).loc Cert.DwUpKernelIdeal.main_arg0)
      ∧ r.2.mem ((c.tc : Thread Cert.DwUpKernelIdeal.nD Cert.DwUpKernelIdeal.τ).loc Cert.DwUpKernelIdeal.main_arg1) = m ((c.tc : Thread Cert.DwUpKernelIdeal.nD Cert.DwUpKernelIdeal.τ).loc Cert.DwUpKernelIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwCoKernel [hDwCoKernel : Cert.DwCoKernel.Facts] : Prop :=
  ∀ (m : (ℓ : Loc Cert.DwCoKernel.nD Cert.DwCoKernel.τ Cert.DwCoKernel.sig) → Buf (Elt Bits) ℓ) (g : Dev Cert.DwCoKernel.nD → PrngReg), Pre_DwCoKernel m →
    θ_run (Cert.DwCoKernel.defs (F := Bits)) (onTc (τ := Cert.DwCoKernel.τ) (Cert.DwCoKernel.main (F := Bits))) ⟨m, fun _ => 0, g⟩ (fun r => (∀ c : Dev Cert.DwCoKernel.nD,
      r.2.mem ((c.tc : Thread Cert.DwCoKernel.nD Cert.DwCoKernel.τ).loc Cert.DwCoKernel.main_arg0) = m ((c.tc : Thread Cert.DwCoKernel.nD Cert.DwCoKernel.τ).loc Cert.DwCoKernel.main_arg0)
      ∧ r.2.mem ((c.tc : Thread Cert.DwCoKernel.nD Cert.DwCoKernel.τ).loc Cert.DwCoKernel.main_arg1) = m ((c.tc : Thread Cert.DwCoKernel.nD Cert.DwCoKernel.τ).loc Cert.DwCoKernel.main_arg1))
      ∧ r.2.sem = fun _ => 0)

def quiescent_DwCoKernelIdeal [hDwCoKernelIdeal : Cert.DwCoKernelIdeal.Facts] : Prop :=
  ∀ (m : (ℓ : Loc Cert.DwCoKernelIdeal.nD Cert.DwCoKernelIdeal.τ Cert.DwCoKernelIdeal.sig) → Buf (Elt Ideal) ℓ) (g : Dev Cert.DwCoKernelIdeal.nD → PrngReg), Pre_DwCoKernelIdeal m →
    θ_run (Cert.DwCoKernelIdeal.defs (F := Ideal)) (onTc (τ := Cert.DwCoKernelIdeal.τ) (Cert.DwCoKernelIdeal.main (F := Ideal))) ⟨m, fun _ => 0, g⟩ (fun r => (∀ c : Dev Cert.DwCoKernelIdeal.nD,
      r.2.mem ((c.tc : Thread Cert.DwCoKernelIdeal.nD Cert.DwCoKernelIdeal.τ).loc Cert.DwCoKernelIdeal.main_arg0) = m ((c.tc : Thread Cert.DwCoKernelIdeal.nD Cert.DwCoKernelIdeal.τ).loc Cert.DwCoKernelIdeal.main_arg0)
      ∧ r.2.mem ((c.tc : Thread Cert.DwCoKernelIdeal.nD Cert.DwCoKernelIdeal.τ).loc Cert.DwCoKernelIdeal.main_arg1) = m ((c.tc : Thread Cert.DwCoKernelIdeal.nD Cert.DwCoKernelIdeal.τ).loc Cert.DwCoKernelIdeal.main_arg1))
      ∧ r.2.sem = fun _ => 0)

def quiescent_DwCoReferenceIdeal [hDwCoReferenceIdeal : Cert.DwCoReferenceIdeal.Facts] : Prop :=
  ∀ (m : (ℓ : Loc Cert.DwCoReferenceIdeal.nD Cert.DwCoReferenceIdeal.τ Cert.DwCoReferenceIdeal.sig) → Buf (Elt Ideal) ℓ) (g : Dev Cert.DwCoReferenceIdeal.nD → PrngReg), Pre_DwCoReferenceIdeal m →
    θ_run (Cert.DwCoReferenceIdeal.defs (F := Ideal)) (onTc (τ := Cert.DwCoReferenceIdeal.τ) (Cert.DwCoReferenceIdeal.main (F := Ideal))) ⟨m, fun _ => 0, g⟩ (fun r => (∀ c : Dev Cert.DwCoReferenceIdeal.nD,
      r.2.mem ((c.tc : Thread Cert.DwCoReferenceIdeal.nD Cert.DwCoReferenceIdeal.τ).loc Cert.DwCoReferenceIdeal.main_arg0) = m ((c.tc : Thread Cert.DwCoReferenceIdeal.nD Cert.DwCoReferenceIdeal.τ).loc Cert.DwCoReferenceIdeal.main_arg0)
      ∧ r.2.mem ((c.tc : Thread Cert.DwCoReferenceIdeal.nD Cert.DwCoReferenceIdeal.τ).loc Cert.DwCoReferenceIdeal.main_arg1) = m ((c.tc : Thread Cert.DwCoReferenceIdeal.nD Cert.DwCoReferenceIdeal.τ).loc Cert.DwCoReferenceIdeal.main_arg1))
      ∧ r.2.sem = fun _ => 0)

def quiescent_DwCqKernel [hDwCqKernel : Cert.DwCqKernel.Facts] : Prop :=
  ∀ (m : (ℓ : Loc Cert.DwCqKernel.nD Cert.DwCqKernel.τ Cert.DwCqKernel.sig) → Buf (Elt Bits) ℓ) (g : Dev Cert.DwCqKernel.nD → PrngReg), Pre_DwCqKernel m →
    θ_run (Cert.DwCqKernel.defs (F := Bits)) (onTc (τ := Cert.DwCqKernel.τ) (Cert.DwCqKernel.main (F := Bits))) ⟨m, fun _ => 0, g⟩ (fun r => (∀ c : Dev Cert.DwCqKernel.nD,
      r.2.mem ((c.tc : Thread Cert.DwCqKernel.nD Cert.DwCqKernel.τ).loc Cert.DwCqKernel.main_arg0) = m ((c.tc : Thread Cert.DwCqKernel.nD Cert.DwCqKernel.τ).loc Cert.DwCqKernel.main_arg0)
      ∧ r.2.mem ((c.tc : Thread Cert.DwCqKernel.nD Cert.DwCqKernel.τ).loc Cert.DwCqKernel.main_arg1) = m ((c.tc : Thread Cert.DwCqKernel.nD Cert.DwCqKernel.τ).loc Cert.DwCqKernel.main_arg1))
      ∧ r.2.sem = fun _ => 0)

def quiescent_DwCqKernelIdeal [hDwCqKernelIdeal : Cert.DwCqKernelIdeal.Facts] : Prop :=
  ∀ (m : (ℓ : Loc Cert.DwCqKernelIdeal.nD Cert.DwCqKernelIdeal.τ Cert.DwCqKernelIdeal.sig) → Buf (Elt Ideal) ℓ) (g : Dev Cert.DwCqKernelIdeal.nD → PrngReg), Pre_DwCqKernelIdeal m →
    θ_run (Cert.DwCqKernelIdeal.defs (F := Ideal)) (onTc (τ := Cert.DwCqKernelIdeal.τ) (Cert.DwCqKernelIdeal.main (F := Ideal))) ⟨m, fun _ => 0, g⟩ (fun r => (∀ c : Dev Cert.DwCqKernelIdeal.nD,
      r.2.mem ((c.tc : Thread Cert.DwCqKernelIdeal.nD Cert.DwCqKernelIdeal.τ).loc Cert.DwCqKernelIdeal.main_arg0) = m ((c.tc : Thread Cert.DwCqKernelIdeal.nD Cert.DwCqKernelIdeal.τ).loc Cert.DwCqKernelIdeal.main_arg0)
      ∧ r.2.mem ((c.tc : Thread Cert.DwCqKernelIdeal.nD Cert.DwCqKernelIdeal.τ).loc Cert.DwCqKernelIdeal.main_arg1) = m ((c.tc : Thread Cert.DwCqKernelIdeal.nD Cert.DwCqKernelIdeal.τ).loc Cert.DwCqKernelIdeal.main_arg1))
      ∧ r.2.sem = fun _ => 0)

def quiescent_DwCqReferenceIdeal [hDwCqReferenceIdeal : Cert.DwCqReferenceIdeal.Facts] : Prop :=
  ∀ (m : (ℓ : Loc Cert.DwCqReferenceIdeal.nD Cert.DwCqReferenceIdeal.τ Cert.DwCqReferenceIdeal.sig) → Buf (Elt Ideal) ℓ) (g : Dev Cert.DwCqReferenceIdeal.nD → PrngReg), Pre_DwCqReferenceIdeal m →
    θ_run (Cert.DwCqReferenceIdeal.defs (F := Ideal)) (onTc (τ := Cert.DwCqReferenceIdeal.τ) (Cert.DwCqReferenceIdeal.main (F := Ideal))) ⟨m, fun _ => 0, g⟩ (fun r => (∀ c : Dev Cert.DwCqReferenceIdeal.nD,
      r.2.mem ((c.tc : Thread Cert.DwCqReferenceIdeal.nD Cert.DwCqReferenceIdeal.τ).loc Cert.DwCqReferenceIdeal.main_arg0) = m ((c.tc : Thread Cert.DwCqReferenceIdeal.nD Cert.DwCqReferenceIdeal.τ).loc Cert.DwCqReferenceIdeal.main_arg0)
      ∧ r.2.mem ((c.tc : Thread Cert.DwCqReferenceIdeal.nD Cert.DwCqReferenceIdeal.τ).loc Cert.DwCqReferenceIdeal.main_arg1) = m ((c.tc : Thread Cert.DwCqReferenceIdeal.nD Cert.DwCqReferenceIdeal.τ).loc Cert.DwCqReferenceIdeal.main_arg1))
      ∧ r.2.sem = fun _ => 0)

def quiescent_DwCkKernel [hDwCkKernel : Cert.DwCkKernel.Facts] : Prop :=
  ∀ (m : (ℓ : Loc Cert.DwCkKernel.nD Cert.DwCkKernel.τ Cert.DwCkKernel.sig) → Buf (Elt Bits) ℓ) (g : Dev Cert.DwCkKernel.nD → PrngReg), Pre_DwCkKernel m →
    θ_run (Cert.DwCkKernel.defs (F := Bits)) (onTc (τ := Cert.DwCkKernel.τ) (Cert.DwCkKernel.main (F := Bits))) ⟨m, fun _ => 0, g⟩ (fun r => (∀ c : Dev Cert.DwCkKernel.nD,
      r.2.mem ((c.tc : Thread Cert.DwCkKernel.nD Cert.DwCkKernel.τ).loc Cert.DwCkKernel.main_arg0) = m ((c.tc : Thread Cert.DwCkKernel.nD Cert.DwCkKernel.τ).loc Cert.DwCkKernel.main_arg0)
      ∧ r.2.mem ((c.tc : Thread Cert.DwCkKernel.nD Cert.DwCkKernel.τ).loc Cert.DwCkKernel.main_arg1) = m ((c.tc : Thread Cert.DwCkKernel.nD Cert.DwCkKernel.τ).loc Cert.DwCkKernel.main_arg1))
      ∧ r.2.sem = fun _ => 0)

def quiescent_DwCkKernelIdeal [hDwCkKernelIdeal : Cert.DwCkKernelIdeal.Facts] : Prop :=
  ∀ (m : (ℓ : Loc Cert.DwCkKernelIdeal.nD Cert.DwCkKernelIdeal.τ Cert.DwCkKernelIdeal.sig) → Buf (Elt Ideal) ℓ) (g : Dev Cert.DwCkKernelIdeal.nD → PrngReg), Pre_DwCkKernelIdeal m →
    θ_run (Cert.DwCkKernelIdeal.defs (F := Ideal)) (onTc (τ := Cert.DwCkKernelIdeal.τ) (Cert.DwCkKernelIdeal.main (F := Ideal))) ⟨m, fun _ => 0, g⟩ (fun r => (∀ c : Dev Cert.DwCkKernelIdeal.nD,
      r.2.mem ((c.tc : Thread Cert.DwCkKernelIdeal.nD Cert.DwCkKernelIdeal.τ).loc Cert.DwCkKernelIdeal.main_arg0) = m ((c.tc : Thread Cert.DwCkKernelIdeal.nD Cert.DwCkKernelIdeal.τ).loc Cert.DwCkKernelIdeal.main_arg0)
      ∧ r.2.mem ((c.tc : Thread Cert.DwCkKernelIdeal.nD Cert.DwCkKernelIdeal.τ).loc Cert.DwCkKernelIdeal.main_arg1) = m ((c.tc : Thread Cert.DwCkKernelIdeal.nD Cert.DwCkKernelIdeal.τ).loc Cert.DwCkKernelIdeal.main_arg1))
      ∧ r.2.sem = fun _ => 0)

def quiescent_DwCkReferenceIdeal [hDwCkReferenceIdeal : Cert.DwCkReferenceIdeal.Facts] : Prop :=
  ∀ (m : (ℓ : Loc Cert.DwCkReferenceIdeal.nD Cert.DwCkReferenceIdeal.τ Cert.DwCkReferenceIdeal.sig) → Buf (Elt Ideal) ℓ) (g : Dev Cert.DwCkReferenceIdeal.nD → PrngReg), Pre_DwCkReferenceIdeal m →
    θ_run (Cert.DwCkReferenceIdeal.defs (F := Ideal)) (onTc (τ := Cert.DwCkReferenceIdeal.τ) (Cert.DwCkReferenceIdeal.main (F := Ideal))) ⟨m, fun _ => 0, g⟩ (fun r => (∀ c : Dev Cert.DwCkReferenceIdeal.nD,
      r.2.mem ((c.tc : Thread Cert.DwCkReferenceIdeal.nD Cert.DwCkReferenceIdeal.τ).loc Cert.DwCkReferenceIdeal.main_arg0) = m ((c.tc : Thread Cert.DwCkReferenceIdeal.nD Cert.DwCkReferenceIdeal.τ).loc Cert.DwCkReferenceIdeal.main_arg0)
      ∧ r.2.mem ((c.tc : Thread Cert.DwCkReferenceIdeal.nD Cert.DwCkReferenceIdeal.τ).loc Cert.DwCkReferenceIdeal.main_arg1) = m ((c.tc : Thread Cert.DwCkReferenceIdeal.nD Cert.DwCkReferenceIdeal.τ).loc Cert.DwCkReferenceIdeal.main_arg1))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_FfnActKernel [hFfnActKernel : Cert.FfnActKernel.Facts] : Prop :=
  ∀ (m : (ℓ : Loc Cert.FfnActKernel.nD Cert.FfnActKernel.τ Cert.FfnActKernel.sig) → Buf (Elt Bits) ℓ) (g : Dev Cert.FfnActKernel.nD → PrngReg), Pre_FfnActKernel m →
    θ_run (Cert.FfnActKernel.defs (F := Bits)) (onTc (τ := Cert.FfnActKernel.τ) (Cert.FfnActKernel.main (F := Bits))) ⟨m, fun _ => 0, g⟩ (fun r => (∀ c : Dev Cert.FfnActKernel.nD,
      r.2.mem ((c.tc : Thread Cert.FfnActKernel.nD Cert.FfnActKernel.τ).loc Cert.FfnActKernel.main_arg0) = m ((c.tc : Thread Cert.FfnActKernel.nD Cert.FfnActKernel.τ).loc Cert.FfnActKernel.main_arg0)
      ∧ r.2.mem ((c.tc : Thread Cert.FfnActKernel.nD Cert.FfnActKernel.τ).loc Cert.FfnActKernel.main_arg1) = m ((c.tc : Thread Cert.FfnActKernel.nD Cert.FfnActKernel.τ).loc Cert.FfnActKernel.main_arg1)
      ∧ r.2.mem ((c.tc : Thread Cert.FfnActKernel.nD Cert.FfnActKernel.τ).loc Cert.FfnActKernel.main_arg2) = m ((c.tc : Thread Cert.FfnActKernel.nD Cert.FfnActKernel.τ).loc Cert.FfnActKernel.main_arg2))
      ∧ r.2.sem = fun _ => 0)

def quiescent_FfnActKernelIdeal [hFfnActKernelIdeal : Cert.FfnActKernelIdeal.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg), Pre_FfnActKernelIdeal m →
    θ_run (Cert.FfnActKernelIdeal.defs (F := Ideal)) (onTc (τ := Cert.FfnActKernelIdeal.τ) (Cert.FfnActKernelIdeal.main (F := Ideal))) ⟨m, fun _ => 0, g⟩ (fun r => (∀ c : Dev Cert.FfnActKernelIdeal.nD,
      r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
      ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1)
      ∧ r.2.mem ((c.tc : Thread Cert.FfnActKernelIdeal.nD Cert.FfnActKernelIdeal.τ).loc Cert.FfnActKernelIdeal.main_arg2) = m ((c.tc : Thread Cert.FfnActKernelIdeal.nD Cert.FfnActKernelIdeal.τ).loc Cert.FfnActKernelIdeal.main_arg2))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2))
      ∧ r.2.sem = fun _ => 0)

def quiescent_ConvTKernel [hConvTKernel : Cert.ConvTKernel.Facts] : Prop :=
  ∀ (m : (ℓ : Loc Cert.ConvTKernel.nD Cert.ConvTKernel.τ Cert.ConvTKernel.sig) → Buf (Elt Bits) ℓ) (g : Dev Cert.ConvTKernel.nD → PrngReg), Pre_ConvTKernel m →
    θ_run (Cert.ConvTKernel.defs (F := Bits)) (onTc (τ := Cert.ConvTKernel.τ) (Cert.ConvTKernel.main (F := Bits))) ⟨m, fun _ => 0, g⟩ (fun r => (∀ c : Dev Cert.ConvTKernel.nD,
      r.2.mem ((c.tc : Thread Cert.ConvTKernel.nD Cert.ConvTKernel.τ).loc Cert.ConvTKernel.main_arg0) = m ((c.tc : Thread Cert.ConvTKernel.nD Cert.ConvTKernel.τ).loc Cert.ConvTKernel.main_arg0)
      ∧ r.2.mem ((c.tc : Thread Cert.ConvTKernel.nD Cert.ConvTKernel.τ).loc Cert.ConvTKernel.main_arg1) = m ((c.tc : Thread Cert.ConvTKernel.nD Cert.ConvTKernel.τ).loc Cert.ConvTKernel.main_arg1)
      ∧ r.2.mem ((c.tc : Thread Cert.ConvTKernel.nD Cert.ConvTKernel.τ).loc Cert.ConvTKernel.main_arg2) = m ((c.tc : Thread Cert.ConvTKernel.nD Cert.ConvTKernel.τ).loc Cert.ConvTKernel.main_arg2))
      ∧ r.2.sem = fun _ => 0)

def quiescent_ConvTKernelIdeal [hConvTKernelIdeal : Cert.ConvTKernelIdeal.Facts] : Prop :=
  ∀ (m : (ℓ : Loc Cert.ConvTKernelIdeal.nD Cert.ConvTKernelIdeal.τ Cert.ConvTKernelIdeal.sig) → Buf (Elt Ideal) ℓ) (g : Dev Cert.ConvTKernelIdeal.nD → PrngReg), Pre_ConvTKernelIdeal m →
    θ_run (Cert.ConvTKernelIdeal.defs (F := Ideal)) (onTc (τ := Cert.ConvTKernelIdeal.τ) (Cert.ConvTKernelIdeal.main (F := Ideal))) ⟨m, fun _ => 0, g⟩ (fun r => (∀ c : Dev Cert.ConvTKernelIdeal.nD,
      r.2.mem ((c.tc : Thread Cert.ConvTKernelIdeal.nD Cert.ConvTKernelIdeal.τ).loc Cert.ConvTKernelIdeal.main_arg0) = m ((c.tc : Thread Cert.ConvTKernelIdeal.nD Cert.ConvTKernelIdeal.τ).loc Cert.ConvTKernelIdeal.main_arg0)
      ∧ r.2.mem ((c.tc : Thread Cert.ConvTKernelIdeal.nD Cert.ConvTKernelIdeal.τ).loc Cert.ConvTKernelIdeal.main_arg1) = m ((c.tc : Thread Cert.ConvTKernelIdeal.nD Cert.ConvTKernelIdeal.τ).loc Cert.ConvTKernelIdeal.main_arg1)
      ∧ r.2.mem ((c.tc : Thread Cert.ConvTKernelIdeal.nD Cert.ConvTKernelIdeal.τ).loc Cert.ConvTKernelIdeal.main_arg2) = m ((c.tc : Thread Cert.ConvTKernelIdeal.nD Cert.ConvTKernelIdeal.τ).loc Cert.ConvTKernelIdeal.main_arg2))
      ∧ r.2.sem = fun _ => 0)

def quiescent_ConvTReferenceIdeal [hConvTReferenceIdeal : Cert.ConvTReferenceIdeal.Facts] : Prop :=
  ∀ (m : (ℓ : Loc Cert.ConvTReferenceIdeal.nD Cert.ConvTReferenceIdeal.τ Cert.ConvTReferenceIdeal.sig) → Buf (Elt Ideal) ℓ) (g : Dev Cert.ConvTReferenceIdeal.nD → PrngReg), Pre_ConvTReferenceIdeal m →
    θ_run (Cert.ConvTReferenceIdeal.defs (F := Ideal)) (onTc (τ := Cert.ConvTReferenceIdeal.τ) (Cert.ConvTReferenceIdeal.main (F := Ideal))) ⟨m, fun _ => 0, g⟩ (fun r => (∀ c : Dev Cert.ConvTReferenceIdeal.nD,
      r.2.mem ((c.tc : Thread Cert.ConvTReferenceIdeal.nD Cert.ConvTReferenceIdeal.τ).loc Cert.ConvTReferenceIdeal.main_arg0) = m ((c.tc : Thread Cert.ConvTReferenceIdeal.nD Cert.ConvTReferenceIdeal.τ).loc Cert.ConvTReferenceIdeal.main_arg0)
      ∧ r.2.mem ((c.tc : Thread Cert.ConvTReferenceIdeal.nD Cert.ConvTReferenceIdeal.τ).loc Cert.ConvTReferenceIdeal.main_arg1) = m ((c.tc : Thread Cert.ConvTReferenceIdeal.nD Cert.ConvTReferenceIdeal.τ).loc Cert.ConvTReferenceIdeal.main_arg1)
      ∧ r.2.mem ((c.tc : Thread Cert.ConvTReferenceIdeal.nD Cert.ConvTReferenceIdeal.τ).loc Cert.ConvTReferenceIdeal.main_arg2) = m ((c.tc : Thread Cert.ConvTReferenceIdeal.nD Cert.ConvTReferenceIdeal.τ).loc Cert.ConvTReferenceIdeal.main_arg2))
      ∧ r.2.sem = fun _ => 0)

def quiescent_ReduceAdd0Kernel [hReduceAdd0Kernel : Cert.ReduceAdd0Kernel.Facts] : Prop :=
  ∀ (m : (ℓ : Loc Cert.ReduceAdd0Kernel.nD Cert.ReduceAdd0Kernel.τ Cert.ReduceAdd0Kernel.sig) → Buf (Elt Bits) ℓ) (g : Dev Cert.ReduceAdd0Kernel.nD → PrngReg), Pre_ReduceAdd0Kernel m →
    θ_run (Cert.ReduceAdd0Kernel.defs (F := Bits)) (onTc (τ := Cert.ReduceAdd0Kernel.τ) (Cert.ReduceAdd0Kernel.main (F := Bits))) ⟨m, fun _ => 0, g⟩ (fun r => (∀ c : Dev Cert.ReduceAdd0Kernel.nD,
      r.2.mem ((c.tc : Thread Cert.ReduceAdd0Kernel.nD Cert.ReduceAdd0Kernel.τ).loc Cert.ReduceAdd0Kernel.main_arg0) = m ((c.tc : Thread Cert.ReduceAdd0Kernel.nD Cert.ReduceAdd0Kernel.τ).loc Cert.ReduceAdd0Kernel.main_arg0)
      ∧ r.2.mem ((c.tc : Thread Cert.ReduceAdd0Kernel.nD Cert.ReduceAdd0Kernel.τ).loc Cert.ReduceAdd0Kernel.main_arg1) = m ((c.tc : Thread Cert.ReduceAdd0Kernel.nD Cert.ReduceAdd0Kernel.τ).loc Cert.ReduceAdd0Kernel.main_arg1))
      ∧ r.2.sem = fun _ => 0)

def quiescent_ReduceAdd0KernelIdeal [hReduceAdd0KernelIdeal : Cert.ReduceAdd0KernelIdeal.Facts] : Prop :=
  ∀ (m : (ℓ : Loc Cert.ReduceAdd0KernelIdeal.nD Cert.ReduceAdd0KernelIdeal.τ Cert.ReduceAdd0KernelIdeal.sig) → Buf (Elt Ideal) ℓ) (g : Dev Cert.ReduceAdd0KernelIdeal.nD → PrngReg), Pre_ReduceAdd0KernelIdeal m →
    θ_run (Cert.ReduceAdd0KernelIdeal.defs (F := Ideal)) (onTc (τ := Cert.ReduceAdd0KernelIdeal.τ) (Cert.ReduceAdd0KernelIdeal.main (F := Ideal))) ⟨m, fun _ => 0, g⟩ (fun r => (∀ c : Dev Cert.ReduceAdd0KernelIdeal.nD,
      r.2.mem ((c.tc : Thread Cert.ReduceAdd0KernelIdeal.nD Cert.ReduceAdd0KernelIdeal.τ).loc Cert.ReduceAdd0KernelIdeal.main_arg0) = m ((c.tc : Thread Cert.ReduceAdd0KernelIdeal.nD Cert.ReduceAdd0KernelIdeal.τ).loc Cert.ReduceAdd0KernelIdeal.main_arg0)
      ∧ r.2.mem ((c.tc : Thread Cert.ReduceAdd0KernelIdeal.nD Cert.ReduceAdd0KernelIdeal.τ).loc Cert.ReduceAdd0KernelIdeal.main_arg1) = m ((c.tc : Thread Cert.ReduceAdd0KernelIdeal.nD Cert.ReduceAdd0KernelIdeal.τ).loc Cert.ReduceAdd0KernelIdeal.main_arg1))
      ∧ r.2.sem = fun _ => 0)

def quiescent_ReduceAdd0ReferenceIdeal [hReduceAdd0ReferenceIdeal : Cert.ReduceAdd0ReferenceIdeal.Facts] : Prop :=
  ∀ (m : (ℓ : Loc Cert.ReduceAdd0ReferenceIdeal.nD Cert.ReduceAdd0ReferenceIdeal.τ Cert.ReduceAdd0ReferenceIdeal.sig) → Buf (Elt Ideal) ℓ) (g : Dev Cert.ReduceAdd0ReferenceIdeal.nD → PrngReg), Pre_ReduceAdd0ReferenceIdeal m →
    θ_run (Cert.ReduceAdd0ReferenceIdeal.defs (F := Ideal)) (onTc (τ := Cert.ReduceAdd0ReferenceIdeal.τ) (Cert.ReduceAdd0ReferenceIdeal.main (F := Ideal))) ⟨m, fun _ => 0, g⟩ (fun r => (∀ c : Dev Cert.ReduceAdd0ReferenceIdeal.nD,
      r.2.mem ((c.tc : Thread Cert.ReduceAdd0ReferenceIdeal.nD Cert.ReduceAdd0ReferenceIdeal.τ).loc Cert.ReduceAdd0ReferenceIdeal.main_arg0) = m ((c.tc : Thread Cert.ReduceAdd0ReferenceIdeal.nD Cert.ReduceAdd0ReferenceIdeal.τ).loc Cert.ReduceAdd0ReferenceIdeal.main_arg0)
      ∧ r.2.mem ((c.tc : Thread Cert.ReduceAdd0ReferenceIdeal.nD Cert.ReduceAdd0ReferenceIdeal.τ).loc Cert.ReduceAdd0ReferenceIdeal.main_arg1) = m ((c.tc : Thread Cert.ReduceAdd0ReferenceIdeal.nD Cert.ReduceAdd0ReferenceIdeal.τ).loc Cert.ReduceAdd0ReferenceIdeal.main_arg1))
      ∧ r.2.sem = fun _ => 0)

def quiescent_ReduceAdd1Kernel [hReduceAdd1Kernel : Cert.ReduceAdd1Kernel.Facts] : Prop :=
  ∀ (m : (ℓ : Loc Cert.ReduceAdd1Kernel.nD Cert.ReduceAdd1Kernel.τ Cert.ReduceAdd1Kernel.sig) → Buf (Elt Bits) ℓ) (g : Dev Cert.ReduceAdd1Kernel.nD → PrngReg), Pre_ReduceAdd1Kernel m →
    θ_run (Cert.ReduceAdd1Kernel.defs (F := Bits)) (onTc (τ := Cert.ReduceAdd1Kernel.τ) (Cert.ReduceAdd1Kernel.main (F := Bits))) ⟨m, fun _ => 0, g⟩ (fun r => (∀ c : Dev Cert.ReduceAdd1Kernel.nD,
      r.2.mem ((c.tc : Thread Cert.ReduceAdd1Kernel.nD Cert.ReduceAdd1Kernel.τ).loc Cert.ReduceAdd1Kernel.main_arg0) = m ((c.tc : Thread Cert.ReduceAdd1Kernel.nD Cert.ReduceAdd1Kernel.τ).loc Cert.ReduceAdd1Kernel.main_arg0)
      ∧ r.2.mem ((c.tc : Thread Cert.ReduceAdd1Kernel.nD Cert.ReduceAdd1Kernel.τ).loc Cert.ReduceAdd1Kernel.main_arg1) = m ((c.tc : Thread Cert.ReduceAdd1Kernel.nD Cert.ReduceAdd1Kernel.τ).loc Cert.ReduceAdd1Kernel.main_arg1))
      ∧ r.2.sem = fun _ => 0)

def quiescent_ReduceAdd1KernelIdeal [hReduceAdd1KernelIdeal : Cert.ReduceAdd1KernelIdeal.Facts] : Prop :=
  ∀ (m : (ℓ : Loc Cert.ReduceAdd1KernelIdeal.nD Cert.ReduceAdd1KernelIdeal.τ Cert.ReduceAdd1KernelIdeal.sig) → Buf (Elt Ideal) ℓ) (g : Dev Cert.ReduceAdd1KernelIdeal.nD → PrngReg), Pre_ReduceAdd1KernelIdeal m →
    θ_run (Cert.ReduceAdd1KernelIdeal.defs (F := Ideal)) (onTc (τ := Cert.ReduceAdd1KernelIdeal.τ) (Cert.ReduceAdd1KernelIdeal.main (F := Ideal))) ⟨m, fun _ => 0, g⟩ (fun r => (∀ c : Dev Cert.ReduceAdd1KernelIdeal.nD,
      r.2.mem ((c.tc : Thread Cert.ReduceAdd1KernelIdeal.nD Cert.ReduceAdd1KernelIdeal.τ).loc Cert.ReduceAdd1KernelIdeal.main_arg0) = m ((c.tc : Thread Cert.ReduceAdd1KernelIdeal.nD Cert.ReduceAdd1KernelIdeal.τ).loc Cert.ReduceAdd1KernelIdeal.main_arg0)
      ∧ r.2.mem ((c.tc : Thread Cert.ReduceAdd1KernelIdeal.nD Cert.ReduceAdd1KernelIdeal.τ).loc Cert.ReduceAdd1KernelIdeal.main_arg1) = m ((c.tc : Thread Cert.ReduceAdd1KernelIdeal.nD Cert.ReduceAdd1KernelIdeal.τ).loc Cert.ReduceAdd1KernelIdeal.main_arg1))
      ∧ r.2.sem = fun _ => 0)

def quiescent_ReduceAdd1ReferenceIdeal [hReduceAdd1ReferenceIdeal : Cert.ReduceAdd1ReferenceIdeal.Facts] : Prop :=
  ∀ (m : (ℓ : Loc Cert.ReduceAdd1ReferenceIdeal.nD Cert.ReduceAdd1ReferenceIdeal.τ Cert.ReduceAdd1ReferenceIdeal.sig) → Buf (Elt Ideal) ℓ) (g : Dev Cert.ReduceAdd1ReferenceIdeal.nD → PrngReg), Pre_ReduceAdd1ReferenceIdeal m →
    θ_run (Cert.ReduceAdd1ReferenceIdeal.defs (F := Ideal)) (onTc (τ := Cert.ReduceAdd1ReferenceIdeal.τ) (Cert.ReduceAdd1ReferenceIdeal.main (F := Ideal))) ⟨m, fun _ => 0, g⟩ (fun r => (∀ c : Dev Cert.ReduceAdd1ReferenceIdeal.nD,
      r.2.mem ((c.tc : Thread Cert.ReduceAdd1ReferenceIdeal.nD Cert.ReduceAdd1ReferenceIdeal.τ).loc Cert.ReduceAdd1ReferenceIdeal.main_arg0) = m ((c.tc : Thread Cert.ReduceAdd1ReferenceIdeal.nD Cert.ReduceAdd1ReferenceIdeal.τ).loc Cert.ReduceAdd1ReferenceIdeal.main_arg0)
      ∧ r.2.mem ((c.tc : Thread Cert.ReduceAdd1ReferenceIdeal.nD Cert.ReduceAdd1ReferenceIdeal.τ).loc Cert.ReduceAdd1ReferenceIdeal.main_arg1) = m ((c.tc : Thread Cert.ReduceAdd1ReferenceIdeal.nD Cert.ReduceAdd1ReferenceIdeal.τ).loc Cert.ReduceAdd1ReferenceIdeal.main_arg1))
      ∧ r.2.sem = fun _ => 0)

def preserves_ReduceShareKernel_ReduceShareKernelIdeal : Prop :=
  True

def algebraic_ReduceShareKernelIdeal_ReduceShareReferenceIdeal [hReduceShareKernelIdeal : Cert.ReduceShareKernelIdeal.Facts] [hReduceShareReferenceIdeal : Cert.ReduceShareReferenceIdeal.Facts] : Prop :=
  ∀ (m : (ℓ : Loc Cert.ReduceShareKernelIdeal.nD Cert.ReduceShareKernelIdeal.τ Cert.ReduceShareKernelIdeal.sig) → Buf (Elt Ideal) ℓ) (g : Dev Cert.ReduceShareKernelIdeal.nD → PrngReg)
    (m' : (ℓ : Loc Cert.ReduceShareReferenceIdeal.nD Cert.ReduceShareReferenceIdeal.τ Cert.ReduceShareReferenceIdeal.sig) → Buf (Elt Ideal) ℓ) (g' : Dev Cert.ReduceShareReferenceIdeal.nD → PrngReg), Pre_ReduceShareKernelIdeal m →
    (∀ c : Dev Cert.ReduceShareKernelIdeal.nD,
      m ((c.tc : Thread Cert.ReduceShareKernelIdeal.nD Cert.ReduceShareKernelIdeal.τ).loc Cert.ReduceShareKernelIdeal.main_arg0) = Layout.block ⟨2, ![3456, 1024]⟩ ⟨2, ![27648, 1024]⟩ 0 8 c (m' (((0 : Dev Cert.ReduceShareReferenceIdeal.nD).tc : Thread Cert.ReduceShareReferenceIdeal.nD Cert.ReduceShareReferenceIdeal.τ).loc Cert.ReduceShareReferenceIdeal.main_arg0))) →
    ∃ (v0 : Buf (Elt Ideal) (((0 : Dev Cert.ReduceShareReferenceIdeal.nD).tc : Thread Cert.ReduceShareReferenceIdeal.nD Cert.ReduceShareReferenceIdeal.τ).loc Cert.ReduceShareReferenceIdeal.main_v0)),
      θ_run (Cert.ReduceShareKernelIdeal.defs (F := Ideal)) (onTc (τ := Cert.ReduceShareKernelIdeal.τ) (Cert.ReduceShareKernelIdeal.main (F := Ideal))) ⟨m, fun _ => 0, g⟩ (fun r => ∀ c : Dev Cert.ReduceShareKernelIdeal.nD,
          r.2.mem ((c.tc : Thread Cert.ReduceShareKernelIdeal.nD Cert.ReduceShareKernelIdeal.τ).loc Cert.ReduceShareKernelIdeal.main_v1) = Layout.blockN ⟨3, ![2, 3456, 1024]⟩ ⟨3, ![8, 3456, 1024]⟩ (Layout.meshBlock [2, 2, 2] ![[0, 1], [], []] c) v0
          ∧ r.2.mem ((c.tc : Thread Cert.ReduceShareKernelIdeal.nD Cert.ReduceShareKernelIdeal.τ).loc Cert.ReduceShareKernelIdeal.main_arg0) = m ((c.tc : Thread Cert.ReduceShareKernelIdeal.nD Cert.ReduceShareKernelIdeal.τ).loc Cert.ReduceShareKernelIdeal.main_arg0))
      ∧ θ_run (Cert.ReduceShareReferenceIdeal.defs (F := Ideal)) (onTc (τ := Cert.ReduceShareReferenceIdeal.τ) (Cert.ReduceShareReferenceIdeal.main (F := Ideal))) ⟨m', fun _ => 0, g'⟩ (fun r =>
          r.2.mem (((0 : Dev Cert.ReduceShareReferenceIdeal.nD).tc : Thread Cert.ReduceShareReferenceIdeal.nD Cert.ReduceShareReferenceIdeal.τ).loc Cert.ReduceShareReferenceIdeal.main_v0) = v0
          ∧ r.2.mem (((0 : Dev Cert.ReduceShareReferenceIdeal.nD).tc : Thread Cert.ReduceShareReferenceIdeal.nD Cert.ReduceShareReferenceIdeal.τ).loc Cert.ReduceShareReferenceIdeal.main_arg0) = m' (((0 : Dev Cert.ReduceShareReferenceIdeal.nD).tc : Thread Cert.ReduceShareReferenceIdeal.nD Cert.ReduceShareReferenceIdeal.τ).loc Cert.ReduceShareReferenceIdeal.main_arg0))

def bitexact_ReduceShareKernel_ReduceShareReference [hReduceShareKernel : Cert.ReduceShareKernel.Facts] [hReduceShareReference : Cert.ReduceShareReference.Facts] : Prop :=
  ∀ (m : (ℓ : Loc Cert.ReduceShareKernel.nD Cert.ReduceShareKernel.τ Cert.ReduceShareKernel.sig) → Buf (Elt Bits) ℓ) (g : Dev Cert.ReduceShareKernel.nD → PrngReg)
    (m' : (ℓ : Loc Cert.ReduceShareReference.nD Cert.ReduceShareReference.τ Cert.ReduceShareReference.sig) → Buf (Elt Bits) ℓ) (g' : Dev Cert.ReduceShareReference.nD → PrngReg), Pre_ReduceShareKernel m →
    (∀ c : Dev Cert.ReduceShareKernel.nD,
      m ((c.tc : Thread Cert.ReduceShareKernel.nD Cert.ReduceShareKernel.τ).loc Cert.ReduceShareKernel.main_arg0) = Layout.block ⟨2, ![3456, 1024]⟩ ⟨2, ![27648, 1024]⟩ 0 8 c (m' (((0 : Dev Cert.ReduceShareReference.nD).tc : Thread Cert.ReduceShareReference.nD Cert.ReduceShareReference.τ).loc Cert.ReduceShareReference.main_arg0))) →
    ∃ (v0 : Buf (Elt Bits) (((0 : Dev Cert.ReduceShareReference.nD).tc : Thread Cert.ReduceShareReference.nD Cert.ReduceShareReference.τ).loc Cert.ReduceShareReference.main_v0)),
      θ_run (Cert.ReduceShareKernel.defs (F := Bits)) (onTc (τ := Cert.ReduceShareKernel.τ) (Cert.ReduceShareKernel.main (F := Bits))) ⟨m, fun _ => 0, g⟩ (fun r => ∀ c : Dev Cert.ReduceShareKernel.nD,
          r.2.mem ((c.tc : Thread Cert.ReduceShareKernel.nD Cert.ReduceShareKernel.τ).loc Cert.ReduceShareKernel.main_v1) = Layout.blockN ⟨3, ![2, 3456, 1024]⟩ ⟨3, ![8, 3456, 1024]⟩ (Layout.meshBlock [2, 2, 2] ![[0, 1], [], []] c) v0
          ∧ r.2.mem ((c.tc : Thread Cert.ReduceShareKernel.nD Cert.ReduceShareKernel.τ).loc Cert.ReduceShareKernel.main_arg0) = m ((c.tc : Thread Cert.ReduceShareKernel.nD Cert.ReduceShareKernel.τ).loc Cert.ReduceShareKernel.main_arg0))
      ∧ θ_run (Cert.ReduceShareReference.defs (F := Bits)) (onTc (τ := Cert.ReduceShareReference.τ) (Cert.ReduceShareReference.main (F := Bits))) ⟨m', fun _ => 0, g'⟩ (fun r =>
          r.2.mem (((0 : Dev Cert.ReduceShareReference.nD).tc : Thread Cert.ReduceShareReference.nD Cert.ReduceShareReference.τ).loc Cert.ReduceShareReference.main_v0) = v0
          ∧ r.2.mem (((0 : Dev Cert.ReduceShareReference.nD).tc : Thread Cert.ReduceShareReference.nD Cert.ReduceShareReference.τ).loc Cert.ReduceShareReference.main_arg0) = m' (((0 : Dev Cert.ReduceShareReference.nD).tc : Thread Cert.ReduceShareReference.nD Cert.ReduceShareReference.τ).loc Cert.ReduceShareReference.main_arg0))

def preserves_GatherChipsKernel_GatherChipsKernelIdeal : Prop :=
  True

def algebraic_GatherChipsKernelIdeal_GatherChipsReferenceIdeal [hGatherChipsKernelIdeal : Cert.GatherChipsKernelIdeal.Facts] [hGatherChipsReferenceIdeal : Cert.GatherChipsReferenceIdeal.Facts] : Prop :=
  ∀ (m : (ℓ : Loc Cert.GatherChipsKernelIdeal.nD Cert.GatherChipsKernelIdeal.τ Cert.GatherChipsKernelIdeal.sig) → Buf (Elt Ideal) ℓ) (g : Dev Cert.GatherChipsKernelIdeal.nD → PrngReg)
    (m' : (ℓ : Loc Cert.GatherChipsReferenceIdeal.nD Cert.GatherChipsReferenceIdeal.τ Cert.GatherChipsReferenceIdeal.sig) → Buf (Elt Ideal) ℓ) (g' : Dev Cert.GatherChipsReferenceIdeal.nD → PrngReg), Pre_GatherChipsKernelIdeal m →
    (∀ c : Dev Cert.GatherChipsKernelIdeal.nD,
      m ((c.tc : Thread Cert.GatherChipsKernelIdeal.nD Cert.GatherChipsKernelIdeal.τ).loc Cert.GatherChipsKernelIdeal.main_arg0) = Layout.blockN ⟨2, ![6912, 1024]⟩ ⟨2, ![27648, 1024]⟩ (Layout.meshBlock [2, 2, 2] ![[0, 1], []] c) (m' (((0 : Dev Cert.GatherChipsReferenceIdeal.nD).tc : Thread Cert.GatherChipsReferenceIdeal.nD Cert.GatherChipsReferenceIdeal.τ).loc Cert.GatherChipsReferenceIdeal.main_arg0))) →
    ∃ (v0 : Buf (Elt Ideal) (((0 : Dev Cert.GatherChipsReferenceIdeal.nD).tc : Thread Cert.GatherChipsReferenceIdeal.nD Cert.GatherChipsReferenceIdeal.τ).loc Cert.GatherChipsReferenceIdeal.main_v0)),
      θ_run (Cert.GatherChipsKernelIdeal.defs (F := Ideal)) (onTc (τ := Cert.GatherChipsKernelIdeal.τ) (Cert.GatherChipsKernelIdeal.main (F := Ideal))) ⟨m, fun _ => 0, g⟩ (fun r => ∀ c : Dev Cert.GatherChipsKernelIdeal.nD,
          r.2.mem ((c.tc : Thread Cert.GatherChipsKernelIdeal.nD Cert.GatherChipsKernelIdeal.τ).loc Cert.GatherChipsKernelIdeal.main_v1) = Layout.blockN ⟨3, ![4, 3456, 1024]⟩ ⟨3, ![4, 6912, 1024]⟩ (Layout.meshBlock [2, 2, 2] ![[], [2], []] c) v0
          ∧ r.2.mem ((c.tc : Thread Cert.GatherChipsKernelIdeal.nD Cert.GatherChipsKernelIdeal.τ).loc Cert.GatherChipsKernelIdeal.main_arg0) = m ((c.tc : Thread Cert.GatherChipsKernelIdeal.nD Cert.GatherChipsKernelIdeal.τ).loc Cert.GatherChipsKernelIdeal.main_arg0))
      ∧ θ_run (Cert.GatherChipsReferenceIdeal.defs (F := Ideal)) (onTc (τ := Cert.GatherChipsReferenceIdeal.τ) (Cert.GatherChipsReferenceIdeal.main (F := Ideal))) ⟨m', fun _ => 0, g'⟩ (fun r =>
          r.2.mem (((0 : Dev Cert.GatherChipsReferenceIdeal.nD).tc : Thread Cert.GatherChipsReferenceIdeal.nD Cert.GatherChipsReferenceIdeal.τ).loc Cert.GatherChipsReferenceIdeal.main_v0) = v0
          ∧ r.2.mem (((0 : Dev Cert.GatherChipsReferenceIdeal.nD).tc : Thread Cert.GatherChipsReferenceIdeal.nD Cert.GatherChipsReferenceIdeal.τ).loc Cert.GatherChipsReferenceIdeal.main_arg0) = m' (((0 : Dev Cert.GatherChipsReferenceIdeal.nD).tc : Thread Cert.GatherChipsReferenceIdeal.nD Cert.GatherChipsReferenceIdeal.τ).loc Cert.GatherChipsReferenceIdeal.main_arg0))

def bitexact_GatherChipsKernel_GatherChipsReference [hGatherChipsKernel : Cert.GatherChipsKernel.Facts] [hGatherChipsReference : Cert.GatherChipsReference.Facts] : Prop :=
  ∀ (m : (ℓ : Loc Cert.GatherChipsKernel.nD Cert.GatherChipsKernel.τ Cert.GatherChipsKernel.sig) → Buf (Elt Bits) ℓ) (g : Dev Cert.GatherChipsKernel.nD → PrngReg)
    (m' : (ℓ : Loc Cert.GatherChipsReference.nD Cert.GatherChipsReference.τ Cert.GatherChipsReference.sig) → Buf (Elt Bits) ℓ) (g' : Dev Cert.GatherChipsReference.nD → PrngReg), Pre_GatherChipsKernel m →
    (∀ c : Dev Cert.GatherChipsKernel.nD,
      m ((c.tc : Thread Cert.GatherChipsKernel.nD Cert.GatherChipsKernel.τ).loc Cert.GatherChipsKernel.main_arg0) = Layout.blockN ⟨2, ![6912, 1024]⟩ ⟨2, ![27648, 1024]⟩ (Layout.meshBlock [2, 2, 2] ![[0, 1], []] c) (m' (((0 : Dev Cert.GatherChipsReference.nD).tc : Thread Cert.GatherChipsReference.nD Cert.GatherChipsReference.τ).loc Cert.GatherChipsReference.main_arg0))) →
    ∃ (v0 : Buf (Elt Bits) (((0 : Dev Cert.GatherChipsReference.nD).tc : Thread Cert.GatherChipsReference.nD Cert.GatherChipsReference.τ).loc Cert.GatherChipsReference.main_v0)),
      θ_run (Cert.GatherChipsKernel.defs (F := Bits)) (onTc (τ := Cert.GatherChipsKernel.τ) (Cert.GatherChipsKernel.main (F := Bits))) ⟨m, fun _ => 0, g⟩ (fun r => ∀ c : Dev Cert.GatherChipsKernel.nD,
          r.2.mem ((c.tc : Thread Cert.GatherChipsKernel.nD Cert.GatherChipsKernel.τ).loc Cert.GatherChipsKernel.main_v1) = Layout.blockN ⟨3, ![4, 3456, 1024]⟩ ⟨3, ![4, 6912, 1024]⟩ (Layout.meshBlock [2, 2, 2] ![[], [2], []] c) v0
          ∧ r.2.mem ((c.tc : Thread Cert.GatherChipsKernel.nD Cert.GatherChipsKernel.τ).loc Cert.GatherChipsKernel.main_arg0) = m ((c.tc : Thread Cert.GatherChipsKernel.nD Cert.GatherChipsKernel.τ).loc Cert.GatherChipsKernel.main_arg0))
      ∧ θ_run (Cert.GatherChipsReference.defs (F := Bits)) (onTc (τ := Cert.GatherChipsReference.τ) (Cert.GatherChipsReference.main (F := Bits))) ⟨m', fun _ => 0, g'⟩ (fun r =>
          r.2.mem (((0 : Dev Cert.GatherChipsReference.nD).tc : Thread Cert.GatherChipsReference.nD Cert.GatherChipsReference.τ).loc Cert.GatherChipsReference.main_v0) = v0
          ∧ r.2.mem (((0 : Dev Cert.GatherChipsReference.nD).tc : Thread Cert.GatherChipsReference.nD Cert.GatherChipsReference.τ).loc Cert.GatherChipsReference.main_arg0) = m' (((0 : Dev Cert.GatherChipsReference.nD).tc : Thread Cert.GatherChipsReference.nD Cert.GatherChipsReference.τ).loc Cert.GatherChipsReference.main_arg0))

def preserves_GatherSiblingKernel_GatherSiblingKernelIdeal : Prop :=
  True

def algebraic_GatherSiblingKernelIdeal_GatherSiblingReferenceIdeal [hGatherSiblingKernelIdeal : Cert.GatherSiblingKernelIdeal.Facts] [hGatherSiblingReferenceIdeal : Cert.GatherSiblingReferenceIdeal.Facts] : Prop :=
  ∀ (m : (ℓ : Loc Cert.GatherSiblingKernelIdeal.nD Cert.GatherSiblingKernelIdeal.τ Cert.GatherSiblingKernelIdeal.sig) → Buf (Elt Ideal) ℓ) (g : Dev Cert.GatherSiblingKernelIdeal.nD → PrngReg)
    (m' : (ℓ : Loc Cert.GatherSiblingReferenceIdeal.nD Cert.GatherSiblingReferenceIdeal.τ Cert.GatherSiblingReferenceIdeal.sig) → Buf (Elt Ideal) ℓ) (g' : Dev Cert.GatherSiblingReferenceIdeal.nD → PrngReg), Pre_GatherSiblingKernelIdeal m →
    (∀ c : Dev Cert.GatherSiblingKernelIdeal.nD,
      m ((c.tc : Thread Cert.GatherSiblingKernelIdeal.nD Cert.GatherSiblingKernelIdeal.τ).loc Cert.GatherSiblingKernelIdeal.main_arg0) = Layout.blockN ⟨3, ![4, 3456, 1024]⟩ ⟨3, ![4, 6912, 1024]⟩ (Layout.meshBlock [2, 2, 2] ![[], [2], []] c) (m' (((0 : Dev Cert.GatherSiblingReferenceIdeal.nD).tc : Thread Cert.GatherSiblingReferenceIdeal.nD Cert.GatherSiblingReferenceIdeal.τ).loc Cert.GatherSiblingReferenceIdeal.main_arg0))) →
    ∃ (v0 : Buf (Elt Ideal) (((0 : Dev Cert.GatherSiblingReferenceIdeal.nD).tc : Thread Cert.GatherSiblingReferenceIdeal.nD Cert.GatherSiblingReferenceIdeal.τ).loc Cert.GatherSiblingReferenceIdeal.main_v1)),
      θ_run (Cert.GatherSiblingKernelIdeal.defs (F := Ideal)) (onTc (τ := Cert.GatherSiblingKernelIdeal.τ) (Cert.GatherSiblingKernelIdeal.main (F := Ideal))) ⟨m, fun _ => 0, g⟩ (fun r => ∀ c : Dev Cert.GatherSiblingKernelIdeal.nD,
          r.2.mem ((c.tc : Thread Cert.GatherSiblingKernelIdeal.nD Cert.GatherSiblingKernelIdeal.τ).loc Cert.GatherSiblingKernelIdeal.main_v1) = v0
          ∧ r.2.mem ((c.tc : Thread Cert.GatherSiblingKernelIdeal.nD Cert.GatherSiblingKernelIdeal.τ).loc Cert.GatherSiblingKernelIdeal.main_arg0) = m ((c.tc : Thread Cert.GatherSiblingKernelIdeal.nD Cert.GatherSiblingKernelIdeal.τ).loc Cert.GatherSiblingKernelIdeal.main_arg0))
      ∧ θ_run (Cert.GatherSiblingReferenceIdeal.defs (F := Ideal)) (onTc (τ := Cert.GatherSiblingReferenceIdeal.τ) (Cert.GatherSiblingReferenceIdeal.main (F := Ideal))) ⟨m', fun _ => 0, g'⟩ (fun r =>
          r.2.mem (((0 : Dev Cert.GatherSiblingReferenceIdeal.nD).tc : Thread Cert.GatherSiblingReferenceIdeal.nD Cert.GatherSiblingReferenceIdeal.τ).loc Cert.GatherSiblingReferenceIdeal.main_v1) = v0
          ∧ r.2.mem (((0 : Dev Cert.GatherSiblingReferenceIdeal.nD).tc : Thread Cert.GatherSiblingReferenceIdeal.nD Cert.GatherSiblingReferenceIdeal.τ).loc Cert.GatherSiblingReferenceIdeal.main_arg0) = m' (((0 : Dev Cert.GatherSiblingReferenceIdeal.nD).tc : Thread Cert.GatherSiblingReferenceIdeal.nD Cert.GatherSiblingReferenceIdeal.τ).loc Cert.GatherSiblingReferenceIdeal.main_arg0))

def bitexact_GatherSiblingKernel_GatherSiblingReference [hGatherSiblingKernel : Cert.GatherSiblingKernel.Facts] [hGatherSiblingReference : Cert.GatherSiblingReference.Facts] : Prop :=
  ∀ (m : (ℓ : Loc Cert.GatherSiblingKernel.nD Cert.GatherSiblingKernel.τ Cert.GatherSiblingKernel.sig) → Buf (Elt Bits) ℓ) (g : Dev Cert.GatherSiblingKernel.nD → PrngReg)
    (m' : (ℓ : Loc Cert.GatherSiblingReference.nD Cert.GatherSiblingReference.τ Cert.GatherSiblingReference.sig) → Buf (Elt Bits) ℓ) (g' : Dev Cert.GatherSiblingReference.nD → PrngReg), Pre_GatherSiblingKernel m →
    (∀ c : Dev Cert.GatherSiblingKernel.nD,
      m ((c.tc : Thread Cert.GatherSiblingKernel.nD Cert.GatherSiblingKernel.τ).loc Cert.GatherSiblingKernel.main_arg0) = Layout.blockN ⟨3, ![4, 3456, 1024]⟩ ⟨3, ![4, 6912, 1024]⟩ (Layout.meshBlock [2, 2, 2] ![[], [2], []] c) (m' (((0 : Dev Cert.GatherSiblingReference.nD).tc : Thread Cert.GatherSiblingReference.nD Cert.GatherSiblingReference.τ).loc Cert.GatherSiblingReference.main_arg0))) →
    ∃ (v0 : Buf (Elt Bits) (((0 : Dev Cert.GatherSiblingReference.nD).tc : Thread Cert.GatherSiblingReference.nD Cert.GatherSiblingReference.τ).loc Cert.GatherSiblingReference.main_v1)),
      θ_run (Cert.GatherSiblingKernel.defs (F := Bits)) (onTc (τ := Cert.GatherSiblingKernel.τ) (Cert.GatherSiblingKernel.main (F := Bits))) ⟨m, fun _ => 0, g⟩ (fun r => ∀ c : Dev Cert.GatherSiblingKernel.nD,
          r.2.mem ((c.tc : Thread Cert.GatherSiblingKernel.nD Cert.GatherSiblingKernel.τ).loc Cert.GatherSiblingKernel.main_v1) = v0
          ∧ r.2.mem ((c.tc : Thread Cert.GatherSiblingKernel.nD Cert.GatherSiblingKernel.τ).loc Cert.GatherSiblingKernel.main_arg0) = m ((c.tc : Thread Cert.GatherSiblingKernel.nD Cert.GatherSiblingKernel.τ).loc Cert.GatherSiblingKernel.main_arg0))
      ∧ θ_run (Cert.GatherSiblingReference.defs (F := Bits)) (onTc (τ := Cert.GatherSiblingReference.τ) (Cert.GatherSiblingReference.main (F := Bits))) ⟨m', fun _ => 0, g'⟩ (fun r =>
          r.2.mem (((0 : Dev Cert.GatherSiblingReference.nD).tc : Thread Cert.GatherSiblingReference.nD Cert.GatherSiblingReference.τ).loc Cert.GatherSiblingReference.main_v1) = v0
          ∧ r.2.mem (((0 : Dev Cert.GatherSiblingReference.nD).tc : Thread Cert.GatherSiblingReference.nD Cert.GatherSiblingReference.τ).loc Cert.GatherSiblingReference.main_arg0) = m' (((0 : Dev Cert.GatherSiblingReference.nD).tc : Thread Cert.GatherSiblingReference.nD Cert.GatherSiblingReference.τ).loc Cert.GatherSiblingReference.main_arg0))

def preserves_GatherConvKernel_GatherConvKernelIdeal : Prop :=
  True

def algebraic_GatherConvKernelIdeal_GatherConvReferenceIdeal [hGatherConvKernelIdeal : Cert.GatherConvKernelIdeal.Facts] [hGatherConvReferenceIdeal : Cert.GatherConvReferenceIdeal.Facts] : Prop :=
  ∀ (m : (ℓ : Loc Cert.GatherConvKernelIdeal.nD Cert.GatherConvKernelIdeal.τ Cert.GatherConvKernelIdeal.sig) → Buf (Elt Ideal) ℓ) (g : Dev Cert.GatherConvKernelIdeal.nD → PrngReg)
    (m' : (ℓ : Loc Cert.GatherConvReferenceIdeal.nD Cert.GatherConvReferenceIdeal.τ Cert.GatherConvReferenceIdeal.sig) → Buf (Elt Ideal) ℓ) (g' : Dev Cert.GatherConvReferenceIdeal.nD → PrngReg), Pre_GatherConvKernelIdeal m →
    (∀ c : Dev Cert.GatherConvKernelIdeal.nD,
      m ((c.tc : Thread Cert.GatherConvKernelIdeal.nD Cert.GatherConvKernelIdeal.τ).loc Cert.GatherConvKernelIdeal.main_arg0) = Layout.blockN ⟨2, ![16, 1024]⟩ ⟨2, ![64, 1024]⟩ (Layout.meshBlock [2, 2, 2] ![[0, 1], []] c) (m' (((0 : Dev Cert.GatherConvReferenceIdeal.nD).tc : Thread Cert.GatherConvReferenceIdeal.nD Cert.GatherConvReferenceIdeal.τ).loc Cert.GatherConvReferenceIdeal.main_arg0))) →
    ∃ (v0 : Buf (Elt Ideal) (((0 : Dev Cert.GatherConvReferenceIdeal.nD).tc : Thread Cert.GatherConvReferenceIdeal.nD Cert.GatherConvReferenceIdeal.τ).loc Cert.GatherConvReferenceIdeal.main_v0)),
      θ_run (Cert.GatherConvKernelIdeal.defs (F := Ideal)) (onTc (τ := Cert.GatherConvKernelIdeal.τ) (Cert.GatherConvKernelIdeal.main (F := Ideal))) ⟨m, fun _ => 0, g⟩ (fun r => ∀ c : Dev Cert.GatherConvKernelIdeal.nD,
          r.2.mem ((c.tc : Thread Cert.GatherConvKernelIdeal.nD Cert.GatherConvKernelIdeal.τ).loc Cert.GatherConvKernelIdeal.main_v1) = v0
          ∧ r.2.mem ((c.tc : Thread Cert.GatherConvKernelIdeal.nD Cert.GatherConvKernelIdeal.τ).loc Cert.GatherConvKernelIdeal.main_arg0) = m ((c.tc : Thread Cert.GatherConvKernelIdeal.nD Cert.GatherConvKernelIdeal.τ).loc Cert.GatherConvKernelIdeal.main_arg0))
      ∧ θ_run (Cert.GatherConvReferenceIdeal.defs (F := Ideal)) (onTc (τ := Cert.GatherConvReferenceIdeal.τ) (Cert.GatherConvReferenceIdeal.main (F := Ideal))) ⟨m', fun _ => 0, g'⟩ (fun r =>
          r.2.mem (((0 : Dev Cert.GatherConvReferenceIdeal.nD).tc : Thread Cert.GatherConvReferenceIdeal.nD Cert.GatherConvReferenceIdeal.τ).loc Cert.GatherConvReferenceIdeal.main_v0) = v0
          ∧ r.2.mem (((0 : Dev Cert.GatherConvReferenceIdeal.nD).tc : Thread Cert.GatherConvReferenceIdeal.nD Cert.GatherConvReferenceIdeal.τ).loc Cert.GatherConvReferenceIdeal.main_arg0) = m' (((0 : Dev Cert.GatherConvReferenceIdeal.nD).tc : Thread Cert.GatherConvReferenceIdeal.nD Cert.GatherConvReferenceIdeal.τ).loc Cert.GatherConvReferenceIdeal.main_arg0))

def bitexact_GatherConvKernel_GatherConvReference [hGatherConvKernel : Cert.GatherConvKernel.Facts] [hGatherConvReference : Cert.GatherConvReference.Facts] : Prop :=
  ∀ (m : (ℓ : Loc Cert.GatherConvKernel.nD Cert.GatherConvKernel.τ Cert.GatherConvKernel.sig) → Buf (Elt Bits) ℓ) (g : Dev Cert.GatherConvKernel.nD → PrngReg)
    (m' : (ℓ : Loc Cert.GatherConvReference.nD Cert.GatherConvReference.τ Cert.GatherConvReference.sig) → Buf (Elt Bits) ℓ) (g' : Dev Cert.GatherConvReference.nD → PrngReg), Pre_GatherConvKernel m →
    (∀ c : Dev Cert.GatherConvKernel.nD,
      m ((c.tc : Thread Cert.GatherConvKernel.nD Cert.GatherConvKernel.τ).loc Cert.GatherConvKernel.main_arg0) = Layout.blockN ⟨2, ![16, 1024]⟩ ⟨2, ![64, 1024]⟩ (Layout.meshBlock [2, 2, 2] ![[0, 1], []] c) (m' (((0 : Dev Cert.GatherConvReference.nD).tc : Thread Cert.GatherConvReference.nD Cert.GatherConvReference.τ).loc Cert.GatherConvReference.main_arg0))) →
    ∃ (v0 : Buf (Elt Bits) (((0 : Dev Cert.GatherConvReference.nD).tc : Thread Cert.GatherConvReference.nD Cert.GatherConvReference.τ).loc Cert.GatherConvReference.main_v0)),
      θ_run (Cert.GatherConvKernel.defs (F := Bits)) (onTc (τ := Cert.GatherConvKernel.τ) (Cert.GatherConvKernel.main (F := Bits))) ⟨m, fun _ => 0, g⟩ (fun r => ∀ c : Dev Cert.GatherConvKernel.nD,
          r.2.mem ((c.tc : Thread Cert.GatherConvKernel.nD Cert.GatherConvKernel.τ).loc Cert.GatherConvKernel.main_v1) = v0
          ∧ r.2.mem ((c.tc : Thread Cert.GatherConvKernel.nD Cert.GatherConvKernel.τ).loc Cert.GatherConvKernel.main_arg0) = m ((c.tc : Thread Cert.GatherConvKernel.nD Cert.GatherConvKernel.τ).loc Cert.GatherConvKernel.main_arg0))
      ∧ θ_run (Cert.GatherConvReference.defs (F := Bits)) (onTc (τ := Cert.GatherConvReference.τ) (Cert.GatherConvReference.main (F := Bits))) ⟨m', fun _ => 0, g'⟩ (fun r =>
          r.2.mem (((0 : Dev Cert.GatherConvReference.nD).tc : Thread Cert.GatherConvReference.nD Cert.GatherConvReference.τ).loc Cert.GatherConvReference.main_v0) = v0
          ∧ r.2.mem (((0 : Dev Cert.GatherConvReference.nD).tc : Thread Cert.GatherConvReference.nD Cert.GatherConvReference.τ).loc Cert.GatherConvReference.main_arg0) = m' (((0 : Dev Cert.GatherConvReference.nD).tc : Thread Cert.GatherConvReference.nD Cert.GatherConvReference.τ).loc Cert.GatherConvReference.main_arg0))

def preserves_ReduceSiblingKernel_ReduceSiblingKernelIdeal : Prop :=
  True

def algebraic_ReduceSiblingKernelIdeal_ReduceSiblingReferenceIdeal [hReduceSiblingKernelIdeal : Cert.ReduceSiblingKernelIdeal.Facts] [hReduceSiblingReferenceIdeal : Cert.ReduceSiblingReferenceIdeal.Facts] : Prop :=
  ∀ (m : (ℓ : Loc Cert.ReduceSiblingKernelIdeal.nD Cert.ReduceSiblingKernelIdeal.τ Cert.ReduceSiblingKernelIdeal.sig) → Buf (Elt Ideal) ℓ) (g : Dev Cert.ReduceSiblingKernelIdeal.nD → PrngReg)
    (m' : (ℓ : Loc Cert.ReduceSiblingReferenceIdeal.nD Cert.ReduceSiblingReferenceIdeal.τ Cert.ReduceSiblingReferenceIdeal.sig) → Buf (Elt Ideal) ℓ) (g' : Dev Cert.ReduceSiblingReferenceIdeal.nD → PrngReg), Pre_ReduceSiblingKernelIdeal m →
    (∀ c : Dev Cert.ReduceSiblingKernelIdeal.nD,
      m ((c.tc : Thread Cert.ReduceSiblingKernelIdeal.nD Cert.ReduceSiblingKernelIdeal.τ).loc Cert.ReduceSiblingKernelIdeal.main_arg0) = Layout.block ⟨3, ![4, 6912, 1024]⟩ ⟨3, ![32, 6912, 1024]⟩ 0 8 c (m' (((0 : Dev Cert.ReduceSiblingReferenceIdeal.nD).tc : Thread Cert.ReduceSiblingReferenceIdeal.nD Cert.ReduceSiblingReferenceIdeal.τ).loc Cert.ReduceSiblingReferenceIdeal.main_arg0))) →
    ∃ (v0 : Buf (Elt Ideal) (((0 : Dev Cert.ReduceSiblingReferenceIdeal.nD).tc : Thread Cert.ReduceSiblingReferenceIdeal.nD Cert.ReduceSiblingReferenceIdeal.τ).loc Cert.ReduceSiblingReferenceIdeal.main_v8)),
      θ_run (Cert.ReduceSiblingKernelIdeal.defs (F := Ideal)) (onTc (τ := Cert.ReduceSiblingKernelIdeal.τ) (Cert.ReduceSiblingKernelIdeal.main (F := Ideal))) ⟨m, fun _ => 0, g⟩ (fun r => ∀ c : Dev Cert.ReduceSiblingKernelIdeal.nD,
          r.2.mem ((c.tc : Thread Cert.ReduceSiblingKernelIdeal.nD Cert.ReduceSiblingKernelIdeal.τ).loc Cert.ReduceSiblingKernelIdeal.main_v1) = Layout.blockN ⟨3, ![4, 3456, 1024]⟩ ⟨3, ![16, 6912, 1024]⟩ (Layout.meshBlock [2, 2, 2] ![[0, 1], [2], []] c) v0
          ∧ r.2.mem ((c.tc : Thread Cert.ReduceSiblingKernelIdeal.nD Cert.ReduceSiblingKernelIdeal.τ).loc Cert.ReduceSiblingKernelIdeal.main_arg0) = m ((c.tc : Thread Cert.ReduceSiblingKernelIdeal.nD Cert.ReduceSiblingKernelIdeal.τ).loc Cert.ReduceSiblingKernelIdeal.main_arg0))
      ∧ θ_run (Cert.ReduceSiblingReferenceIdeal.defs (F := Ideal)) (onTc (τ := Cert.ReduceSiblingReferenceIdeal.τ) (Cert.ReduceSiblingReferenceIdeal.main (F := Ideal))) ⟨m', fun _ => 0, g'⟩ (fun r =>
          r.2.mem (((0 : Dev Cert.ReduceSiblingReferenceIdeal.nD).tc : Thread Cert.ReduceSiblingReferenceIdeal.nD Cert.ReduceSiblingReferenceIdeal.τ).loc Cert.ReduceSiblingReferenceIdeal.main_v8) = v0
          ∧ r.2.mem (((0 : Dev Cert.ReduceSiblingReferenceIdeal.nD).tc : Thread Cert.ReduceSiblingReferenceIdeal.nD Cert.ReduceSiblingReferenceIdeal.τ).loc Cert.ReduceSiblingReferenceIdeal.main_arg0) = m' (((0 : Dev Cert.ReduceSiblingReferenceIdeal.nD).tc : Thread Cert.ReduceSiblingReferenceIdeal.nD Cert.ReduceSiblingReferenceIdeal.τ).loc Cert.ReduceSiblingReferenceIdeal.main_arg0))

def bitexact_ReduceSiblingKernel_ReduceSiblingReference [hReduceSiblingKernel : Cert.ReduceSiblingKernel.Facts] [hReduceSiblingReference : Cert.ReduceSiblingReference.Facts] : Prop :=
  ∀ (m : (ℓ : Loc Cert.ReduceSiblingKernel.nD Cert.ReduceSiblingKernel.τ Cert.ReduceSiblingKernel.sig) → Buf (Elt Bits) ℓ) (g : Dev Cert.ReduceSiblingKernel.nD → PrngReg)
    (m' : (ℓ : Loc Cert.ReduceSiblingReference.nD Cert.ReduceSiblingReference.τ Cert.ReduceSiblingReference.sig) → Buf (Elt Bits) ℓ) (g' : Dev Cert.ReduceSiblingReference.nD → PrngReg), Pre_ReduceSiblingKernel m →
    (∀ c : Dev Cert.ReduceSiblingKernel.nD,
      m ((c.tc : Thread Cert.ReduceSiblingKernel.nD Cert.ReduceSiblingKernel.τ).loc Cert.ReduceSiblingKernel.main_arg0) = Layout.block ⟨3, ![4, 6912, 1024]⟩ ⟨3, ![32, 6912, 1024]⟩ 0 8 c (m' (((0 : Dev Cert.ReduceSiblingReference.nD).tc : Thread Cert.ReduceSiblingReference.nD Cert.ReduceSiblingReference.τ).loc Cert.ReduceSiblingReference.main_arg0))) →
    ∃ (v0 : Buf (Elt Bits) (((0 : Dev Cert.ReduceSiblingReference.nD).tc : Thread Cert.ReduceSiblingReference.nD Cert.ReduceSiblingReference.τ).loc Cert.ReduceSiblingReference.main_v8)),
      θ_run (Cert.ReduceSiblingKernel.defs (F := Bits)) (onTc (τ := Cert.ReduceSiblingKernel.τ) (Cert.ReduceSiblingKernel.main (F := Bits))) ⟨m, fun _ => 0, g⟩ (fun r => ∀ c : Dev Cert.ReduceSiblingKernel.nD,
          r.2.mem ((c.tc : Thread Cert.ReduceSiblingKernel.nD Cert.ReduceSiblingKernel.τ).loc Cert.ReduceSiblingKernel.main_v1) = Layout.blockN ⟨3, ![4, 3456, 1024]⟩ ⟨3, ![16, 6912, 1024]⟩ (Layout.meshBlock [2, 2, 2] ![[0, 1], [2], []] c) v0
          ∧ r.2.mem ((c.tc : Thread Cert.ReduceSiblingKernel.nD Cert.ReduceSiblingKernel.τ).loc Cert.ReduceSiblingKernel.main_arg0) = m ((c.tc : Thread Cert.ReduceSiblingKernel.nD Cert.ReduceSiblingKernel.τ).loc Cert.ReduceSiblingKernel.main_arg0))
      ∧ θ_run (Cert.ReduceSiblingReference.defs (F := Bits)) (onTc (τ := Cert.ReduceSiblingReference.τ) (Cert.ReduceSiblingReference.main (F := Bits))) ⟨m', fun _ => 0, g'⟩ (fun r =>
          r.2.mem (((0 : Dev Cert.ReduceSiblingReference.nD).tc : Thread Cert.ReduceSiblingReference.nD Cert.ReduceSiblingReference.τ).loc Cert.ReduceSiblingReference.main_v8) = v0
          ∧ r.2.mem (((0 : Dev Cert.ReduceSiblingReference.nD).tc : Thread Cert.ReduceSiblingReference.nD Cert.ReduceSiblingReference.τ).loc Cert.ReduceSiblingReference.main_arg0) = m' (((0 : Dev Cert.ReduceSiblingReference.nD).tc : Thread Cert.ReduceSiblingReference.nD Cert.ReduceSiblingReference.τ).loc Cert.ReduceSiblingReference.main_arg0))

def preserves_ReduceChipsKernel_ReduceChipsKernelIdeal : Prop :=
  True

def algebraic_ReduceChipsKernelIdeal_ReduceChipsReferenceIdeal [hReduceChipsKernelIdeal : Cert.ReduceChipsKernelIdeal.Facts] [hReduceChipsReferenceIdeal : Cert.ReduceChipsReferenceIdeal.Facts] : Prop :=
  ∀ (m : (ℓ : Loc Cert.ReduceChipsKernelIdeal.nD Cert.ReduceChipsKernelIdeal.τ Cert.ReduceChipsKernelIdeal.sig) → Buf (Elt Ideal) ℓ) (g : Dev Cert.ReduceChipsKernelIdeal.nD → PrngReg)
    (m' : (ℓ : Loc Cert.ReduceChipsReferenceIdeal.nD Cert.ReduceChipsReferenceIdeal.τ Cert.ReduceChipsReferenceIdeal.sig) → Buf (Elt Ideal) ℓ) (g' : Dev Cert.ReduceChipsReferenceIdeal.nD → PrngReg), Pre_ReduceChipsKernelIdeal m →
    (∀ c : Dev Cert.ReduceChipsKernelIdeal.nD,
      m ((c.tc : Thread Cert.ReduceChipsKernelIdeal.nD Cert.ReduceChipsKernelIdeal.τ).loc Cert.ReduceChipsKernelIdeal.main_arg0) = Layout.blockN ⟨3, ![4, 3456, 1024]⟩ ⟨3, ![16, 6912, 1024]⟩ (Layout.meshBlock [2, 2, 2] ![[0, 1], [2], []] c) (m' (((0 : Dev Cert.ReduceChipsReferenceIdeal.nD).tc : Thread Cert.ReduceChipsReferenceIdeal.nD Cert.ReduceChipsReferenceIdeal.τ).loc Cert.ReduceChipsReferenceIdeal.main_arg0))) →
    ∃ (v0 : Buf (Elt Ideal) (((0 : Dev Cert.ReduceChipsReferenceIdeal.nD).tc : Thread Cert.ReduceChipsReferenceIdeal.nD Cert.ReduceChipsReferenceIdeal.τ).loc Cert.ReduceChipsReferenceIdeal.main_v2)),
      θ_run (Cert.ReduceChipsKernelIdeal.defs (F := Ideal)) (onTc (τ := Cert.ReduceChipsKernelIdeal.τ) (Cert.ReduceChipsKernelIdeal.main (F := Ideal))) ⟨m, fun _ => 0, g⟩ (fun r => ∀ c : Dev Cert.ReduceChipsKernelIdeal.nD,
          r.2.mem ((c.tc : Thread Cert.ReduceChipsKernelIdeal.nD Cert.ReduceChipsKernelIdeal.τ).loc Cert.ReduceChipsKernelIdeal.main_v1) = Layout.blockN ⟨3, ![4, 3456, 1024]⟩ ⟨3, ![16, 6912, 1024]⟩ (Layout.meshBlock [2, 2, 2] ![[0, 1], [2], []] c) v0
          ∧ r.2.mem ((c.tc : Thread Cert.ReduceChipsKernelIdeal.nD Cert.ReduceChipsKernelIdeal.τ).loc Cert.ReduceChipsKernelIdeal.main_arg0) = m ((c.tc : Thread Cert.ReduceChipsKernelIdeal.nD Cert.ReduceChipsKernelIdeal.τ).loc Cert.ReduceChipsKernelIdeal.main_arg0))
      ∧ θ_run (Cert.ReduceChipsReferenceIdeal.defs (F := Ideal)) (onTc (τ := Cert.ReduceChipsReferenceIdeal.τ) (Cert.ReduceChipsReferenceIdeal.main (F := Ideal))) ⟨m', fun _ => 0, g'⟩ (fun r =>
          r.2.mem (((0 : Dev Cert.ReduceChipsReferenceIdeal.nD).tc : Thread Cert.ReduceChipsReferenceIdeal.nD Cert.ReduceChipsReferenceIdeal.τ).loc Cert.ReduceChipsReferenceIdeal.main_v2) = v0
          ∧ r.2.mem (((0 : Dev Cert.ReduceChipsReferenceIdeal.nD).tc : Thread Cert.ReduceChipsReferenceIdeal.nD Cert.ReduceChipsReferenceIdeal.τ).loc Cert.ReduceChipsReferenceIdeal.main_arg0) = m' (((0 : Dev Cert.ReduceChipsReferenceIdeal.nD).tc : Thread Cert.ReduceChipsReferenceIdeal.nD Cert.ReduceChipsReferenceIdeal.τ).loc Cert.ReduceChipsReferenceIdeal.main_arg0))

def bitexact_ReduceChipsKernel_ReduceChipsReference [hReduceChipsKernel : Cert.ReduceChipsKernel.Facts] [hReduceChipsReference : Cert.ReduceChipsReference.Facts] : Prop :=
  ∀ (m : (ℓ : Loc Cert.ReduceChipsKernel.nD Cert.ReduceChipsKernel.τ Cert.ReduceChipsKernel.sig) → Buf (Elt Bits) ℓ) (g : Dev Cert.ReduceChipsKernel.nD → PrngReg)
    (m' : (ℓ : Loc Cert.ReduceChipsReference.nD Cert.ReduceChipsReference.τ Cert.ReduceChipsReference.sig) → Buf (Elt Bits) ℓ) (g' : Dev Cert.ReduceChipsReference.nD → PrngReg), Pre_ReduceChipsKernel m →
    (∀ c : Dev Cert.ReduceChipsKernel.nD,
      m ((c.tc : Thread Cert.ReduceChipsKernel.nD Cert.ReduceChipsKernel.τ).loc Cert.ReduceChipsKernel.main_arg0) = Layout.blockN ⟨3, ![4, 3456, 1024]⟩ ⟨3, ![16, 6912, 1024]⟩ (Layout.meshBlock [2, 2, 2] ![[0, 1], [2], []] c) (m' (((0 : Dev Cert.ReduceChipsReference.nD).tc : Thread Cert.ReduceChipsReference.nD Cert.ReduceChipsReference.τ).loc Cert.ReduceChipsReference.main_arg0))) →
    ∃ (v0 : Buf (Elt Bits) (((0 : Dev Cert.ReduceChipsReference.nD).tc : Thread Cert.ReduceChipsReference.nD Cert.ReduceChipsReference.τ).loc Cert.ReduceChipsReference.main_v2)),
      θ_run (Cert.ReduceChipsKernel.defs (F := Bits)) (onTc (τ := Cert.ReduceChipsKernel.τ) (Cert.ReduceChipsKernel.main (F := Bits))) ⟨m, fun _ => 0, g⟩ (fun r => ∀ c : Dev Cert.ReduceChipsKernel.nD,
          r.2.mem ((c.tc : Thread Cert.ReduceChipsKernel.nD Cert.ReduceChipsKernel.τ).loc Cert.ReduceChipsKernel.main_v1) = Layout.blockN ⟨3, ![4, 3456, 1024]⟩ ⟨3, ![16, 6912, 1024]⟩ (Layout.meshBlock [2, 2, 2] ![[0, 1], [2], []] c) v0
          ∧ r.2.mem ((c.tc : Thread Cert.ReduceChipsKernel.nD Cert.ReduceChipsKernel.τ).loc Cert.ReduceChipsKernel.main_arg0) = m ((c.tc : Thread Cert.ReduceChipsKernel.nD Cert.ReduceChipsKernel.τ).loc Cert.ReduceChipsKernel.main_arg0))
      ∧ θ_run (Cert.ReduceChipsReference.defs (F := Bits)) (onTc (τ := Cert.ReduceChipsReference.τ) (Cert.ReduceChipsReference.main (F := Bits))) ⟨m', fun _ => 0, g'⟩ (fun r =>
          r.2.mem (((0 : Dev Cert.ReduceChipsReference.nD).tc : Thread Cert.ReduceChipsReference.nD Cert.ReduceChipsReference.τ).loc Cert.ReduceChipsReference.main_v2) = v0
          ∧ r.2.mem (((0 : Dev Cert.ReduceChipsReference.nD).tc : Thread Cert.ReduceChipsReference.nD Cert.ReduceChipsReference.τ).loc Cert.ReduceChipsReference.main_arg0) = m' (((0 : Dev Cert.ReduceChipsReference.nD).tc : Thread Cert.ReduceChipsReference.nD Cert.ReduceChipsReference.τ).loc Cert.ReduceChipsReference.main_arg0))

def preserves_SmallSiblingKernel_SmallSiblingKernelIdeal : Prop :=
  True

def algebraic_SmallSiblingKernelIdeal_SmallSiblingReferenceIdeal [hSmallSiblingKernelIdeal : Cert.SmallSiblingKernelIdeal.Facts] [hSmallSiblingReferenceIdeal : Cert.SmallSiblingReferenceIdeal.Facts] : Prop :=
  ∀ (m : (ℓ : Loc Cert.SmallSiblingKernelIdeal.nD Cert.SmallSiblingKernelIdeal.τ Cert.SmallSiblingKernelIdeal.sig) → Buf (Elt Ideal) ℓ) (g : Dev Cert.SmallSiblingKernelIdeal.nD → PrngReg)
    (m' : (ℓ : Loc Cert.SmallSiblingReferenceIdeal.nD Cert.SmallSiblingReferenceIdeal.τ Cert.SmallSiblingReferenceIdeal.sig) → Buf (Elt Ideal) ℓ) (g' : Dev Cert.SmallSiblingReferenceIdeal.nD → PrngReg), Pre_SmallSiblingKernelIdeal m →
    (∀ c : Dev Cert.SmallSiblingKernelIdeal.nD,
      m ((c.tc : Thread Cert.SmallSiblingKernelIdeal.nD Cert.SmallSiblingKernelIdeal.τ).loc Cert.SmallSiblingKernelIdeal.main_arg0) = Layout.block ⟨2, ![96, 1024]⟩ ⟨2, ![768, 1024]⟩ 0 8 c (m' (((0 : Dev Cert.SmallSiblingReferenceIdeal.nD).tc : Thread Cert.SmallSiblingReferenceIdeal.nD Cert.SmallSiblingReferenceIdeal.τ).loc Cert.SmallSiblingReferenceIdeal.main_arg0))) →
    ∃ (v0 : Buf (Elt Ideal) (((0 : Dev Cert.SmallSiblingReferenceIdeal.nD).tc : Thread Cert.SmallSiblingReferenceIdeal.nD Cert.SmallSiblingReferenceIdeal.τ).loc Cert.SmallSiblingReferenceIdeal.main_v0)),
      θ_run (Cert.SmallSiblingKernelIdeal.defs (F := Ideal)) (onTc (τ := Cert.SmallSiblingKernelIdeal.τ) (Cert.SmallSiblingKernelIdeal.main (F := Ideal))) ⟨m, fun _ => 0, g⟩ (fun r => ∀ c : Dev Cert.SmallSiblingKernelIdeal.nD,
          r.2.mem ((c.tc : Thread Cert.SmallSiblingKernelIdeal.nD Cert.SmallSiblingKernelIdeal.τ).loc Cert.SmallSiblingKernelIdeal.main_v1) = Layout.blockN ⟨3, ![2, 96, 1024]⟩ ⟨3, ![8, 96, 1024]⟩ (Layout.meshBlock [2, 2, 2] ![[0, 1], [], []] c) v0
          ∧ r.2.mem ((c.tc : Thread Cert.SmallSiblingKernelIdeal.nD Cert.SmallSiblingKernelIdeal.τ).loc Cert.SmallSiblingKernelIdeal.main_arg0) = m ((c.tc : Thread Cert.SmallSiblingKernelIdeal.nD Cert.SmallSiblingKernelIdeal.τ).loc Cert.SmallSiblingKernelIdeal.main_arg0))
      ∧ θ_run (Cert.SmallSiblingReferenceIdeal.defs (F := Ideal)) (onTc (τ := Cert.SmallSiblingReferenceIdeal.τ) (Cert.SmallSiblingReferenceIdeal.main (F := Ideal))) ⟨m', fun _ => 0, g'⟩ (fun r =>
          r.2.mem (((0 : Dev Cert.SmallSiblingReferenceIdeal.nD).tc : Thread Cert.SmallSiblingReferenceIdeal.nD Cert.SmallSiblingReferenceIdeal.τ).loc Cert.SmallSiblingReferenceIdeal.main_v0) = v0
          ∧ r.2.mem (((0 : Dev Cert.SmallSiblingReferenceIdeal.nD).tc : Thread Cert.SmallSiblingReferenceIdeal.nD Cert.SmallSiblingReferenceIdeal.τ).loc Cert.SmallSiblingReferenceIdeal.main_arg0) = m' (((0 : Dev Cert.SmallSiblingReferenceIdeal.nD).tc : Thread Cert.SmallSiblingReferenceIdeal.nD Cert.SmallSiblingReferenceIdeal.τ).loc Cert.SmallSiblingReferenceIdeal.main_arg0))

def bitexact_SmallSiblingKernel_SmallSiblingReference [hSmallSiblingKernel : Cert.SmallSiblingKernel.Facts] [hSmallSiblingReference : Cert.SmallSiblingReference.Facts] : Prop :=
  ∀ (m : (ℓ : Loc Cert.SmallSiblingKernel.nD Cert.SmallSiblingKernel.τ Cert.SmallSiblingKernel.sig) → Buf (Elt Bits) ℓ) (g : Dev Cert.SmallSiblingKernel.nD → PrngReg)
    (m' : (ℓ : Loc Cert.SmallSiblingReference.nD Cert.SmallSiblingReference.τ Cert.SmallSiblingReference.sig) → Buf (Elt Bits) ℓ) (g' : Dev Cert.SmallSiblingReference.nD → PrngReg), Pre_SmallSiblingKernel m →
    (∀ c : Dev Cert.SmallSiblingKernel.nD,
      m ((c.tc : Thread Cert.SmallSiblingKernel.nD Cert.SmallSiblingKernel.τ).loc Cert.SmallSiblingKernel.main_arg0) = Layout.block ⟨2, ![96, 1024]⟩ ⟨2, ![768, 1024]⟩ 0 8 c (m' (((0 : Dev Cert.SmallSiblingReference.nD).tc : Thread Cert.SmallSiblingReference.nD Cert.SmallSiblingReference.τ).loc Cert.SmallSiblingReference.main_arg0))) →
    ∃ (v0 : Buf (Elt Bits) (((0 : Dev Cert.SmallSiblingReference.nD).tc : Thread Cert.SmallSiblingReference.nD Cert.SmallSiblingReference.τ).loc Cert.SmallSiblingReference.main_v0)),
      θ_run (Cert.SmallSiblingKernel.defs (F := Bits)) (onTc (τ := Cert.SmallSiblingKernel.τ) (Cert.SmallSiblingKernel.main (F := Bits))) ⟨m, fun _ => 0, g⟩ (fun r => ∀ c : Dev Cert.SmallSiblingKernel.nD,
          r.2.mem ((c.tc : Thread Cert.SmallSiblingKernel.nD Cert.SmallSiblingKernel.τ).loc Cert.SmallSiblingKernel.main_v1) = Layout.blockN ⟨3, ![2, 96, 1024]⟩ ⟨3, ![8, 96, 1024]⟩ (Layout.meshBlock [2, 2, 2] ![[0, 1], [], []] c) v0
          ∧ r.2.mem ((c.tc : Thread Cert.SmallSiblingKernel.nD Cert.SmallSiblingKernel.τ).loc Cert.SmallSiblingKernel.main_arg0) = m ((c.tc : Thread Cert.SmallSiblingKernel.nD Cert.SmallSiblingKernel.τ).loc Cert.SmallSiblingKernel.main_arg0))
      ∧ θ_run (Cert.SmallSiblingReference.defs (F := Bits)) (onTc (τ := Cert.SmallSiblingReference.τ) (Cert.SmallSiblingReference.main (F := Bits))) ⟨m', fun _ => 0, g'⟩ (fun r =>
          r.2.mem (((0 : Dev Cert.SmallSiblingReference.nD).tc : Thread Cert.SmallSiblingReference.nD Cert.SmallSiblingReference.τ).loc Cert.SmallSiblingReference.main_v0) = v0
          ∧ r.2.mem (((0 : Dev Cert.SmallSiblingReference.nD).tc : Thread Cert.SmallSiblingReference.nD Cert.SmallSiblingReference.τ).loc Cert.SmallSiblingReference.main_arg0) = m' (((0 : Dev Cert.SmallSiblingReference.nD).tc : Thread Cert.SmallSiblingReference.nD Cert.SmallSiblingReference.τ).loc Cert.SmallSiblingReference.main_arg0))

def preserves_SmallChipsKernel_SmallChipsKernelIdeal : Prop :=
  True

def algebraic_SmallChipsKernelIdeal_SmallChipsReferenceIdeal [hSmallChipsKernelIdeal : Cert.SmallChipsKernelIdeal.Facts] [hSmallChipsReferenceIdeal : Cert.SmallChipsReferenceIdeal.Facts] : Prop :=
  ∀ (m : (ℓ : Loc Cert.SmallChipsKernelIdeal.nD Cert.SmallChipsKernelIdeal.τ Cert.SmallChipsKernelIdeal.sig) → Buf (Elt Ideal) ℓ) (g : Dev Cert.SmallChipsKernelIdeal.nD → PrngReg)
    (m' : (ℓ : Loc Cert.SmallChipsReferenceIdeal.nD Cert.SmallChipsReferenceIdeal.τ Cert.SmallChipsReferenceIdeal.sig) → Buf (Elt Ideal) ℓ) (g' : Dev Cert.SmallChipsReferenceIdeal.nD → PrngReg), Pre_SmallChipsKernelIdeal m →
    (∀ c : Dev Cert.SmallChipsKernelIdeal.nD,
      m ((c.tc : Thread Cert.SmallChipsKernelIdeal.nD Cert.SmallChipsKernelIdeal.τ).loc Cert.SmallChipsKernelIdeal.main_arg0) = Layout.blockN ⟨3, ![2, 96, 1024]⟩ ⟨3, ![8, 96, 1024]⟩ (Layout.meshBlock [2, 2, 2] ![[0, 1], [], []] c) (m' (((0 : Dev Cert.SmallChipsReferenceIdeal.nD).tc : Thread Cert.SmallChipsReferenceIdeal.nD Cert.SmallChipsReferenceIdeal.τ).loc Cert.SmallChipsReferenceIdeal.main_arg0))) →
    ∃ (v0 : Buf (Elt Ideal) (((0 : Dev Cert.SmallChipsReferenceIdeal.nD).tc : Thread Cert.SmallChipsReferenceIdeal.nD Cert.SmallChipsReferenceIdeal.τ).loc Cert.SmallChipsReferenceIdeal.main_v0)),
      θ_run (Cert.SmallChipsKernelIdeal.defs (F := Ideal)) (onTc (τ := Cert.SmallChipsKernelIdeal.τ) (Cert.SmallChipsKernelIdeal.main (F := Ideal))) ⟨m, fun _ => 0, g⟩ (fun r => ∀ c : Dev Cert.SmallChipsKernelIdeal.nD,
          r.2.mem ((c.tc : Thread Cert.SmallChipsKernelIdeal.nD Cert.SmallChipsKernelIdeal.τ).loc Cert.SmallChipsKernelIdeal.main_v1) = v0
          ∧ r.2.mem ((c.tc : Thread Cert.SmallChipsKernelIdeal.nD Cert.SmallChipsKernelIdeal.τ).loc Cert.SmallChipsKernelIdeal.main_arg0) = m ((c.tc : Thread Cert.SmallChipsKernelIdeal.nD Cert.SmallChipsKernelIdeal.τ).loc Cert.SmallChipsKernelIdeal.main_arg0))
      ∧ θ_run (Cert.SmallChipsReferenceIdeal.defs (F := Ideal)) (onTc (τ := Cert.SmallChipsReferenceIdeal.τ) (Cert.SmallChipsReferenceIdeal.main (F := Ideal))) ⟨m', fun _ => 0, g'⟩ (fun r =>
          r.2.mem (((0 : Dev Cert.SmallChipsReferenceIdeal.nD).tc : Thread Cert.SmallChipsReferenceIdeal.nD Cert.SmallChipsReferenceIdeal.τ).loc Cert.SmallChipsReferenceIdeal.main_v0) = v0
          ∧ r.2.mem (((0 : Dev Cert.SmallChipsReferenceIdeal.nD).tc : Thread Cert.SmallChipsReferenceIdeal.nD Cert.SmallChipsReferenceIdeal.τ).loc Cert.SmallChipsReferenceIdeal.main_arg0) = m' (((0 : Dev Cert.SmallChipsReferenceIdeal.nD).tc : Thread Cert.SmallChipsReferenceIdeal.nD Cert.SmallChipsReferenceIdeal.τ).loc Cert.SmallChipsReferenceIdeal.main_arg0))

def bitexact_SmallChipsKernel_SmallChipsReference [hSmallChipsKernel : Cert.SmallChipsKernel.Facts] [hSmallChipsReference : Cert.SmallChipsReference.Facts] : Prop :=
  ∀ (m : (ℓ : Loc Cert.SmallChipsKernel.nD Cert.SmallChipsKernel.τ Cert.SmallChipsKernel.sig) → Buf (Elt Bits) ℓ) (g : Dev Cert.SmallChipsKernel.nD → PrngReg)
    (m' : (ℓ : Loc Cert.SmallChipsReference.nD Cert.SmallChipsReference.τ Cert.SmallChipsReference.sig) → Buf (Elt Bits) ℓ) (g' : Dev Cert.SmallChipsReference.nD → PrngReg), Pre_SmallChipsKernel m →
    (∀ c : Dev Cert.SmallChipsKernel.nD,
      m ((c.tc : Thread Cert.SmallChipsKernel.nD Cert.SmallChipsKernel.τ).loc Cert.SmallChipsKernel.main_arg0) = Layout.blockN ⟨3, ![2, 96, 1024]⟩ ⟨3, ![8, 96, 1024]⟩ (Layout.meshBlock [2, 2, 2] ![[0, 1], [], []] c) (m' (((0 : Dev Cert.SmallChipsReference.nD).tc : Thread Cert.SmallChipsReference.nD Cert.SmallChipsReference.τ).loc Cert.SmallChipsReference.main_arg0))) →
    ∃ (v0 : Buf (Elt Bits) (((0 : Dev Cert.SmallChipsReference.nD).tc : Thread Cert.SmallChipsReference.nD Cert.SmallChipsReference.τ).loc Cert.SmallChipsReference.main_v0)),
      θ_run (Cert.SmallChipsKernel.defs (F := Bits)) (onTc (τ := Cert.SmallChipsKernel.τ) (Cert.SmallChipsKernel.main (F := Bits))) ⟨m, fun _ => 0, g⟩ (fun r => ∀ c : Dev Cert.SmallChipsKernel.nD,
          r.2.mem ((c.tc : Thread Cert.SmallChipsKernel.nD Cert.SmallChipsKernel.τ).loc Cert.SmallChipsKernel.main_v1) = v0
          ∧ r.2.mem ((c.tc : Thread Cert.SmallChipsKernel.nD Cert.SmallChipsKernel.τ).loc Cert.SmallChipsKernel.main_arg0) = m ((c.tc : Thread Cert.SmallChipsKernel.nD Cert.SmallChipsKernel.τ).loc Cert.SmallChipsKernel.main_arg0))
      ∧ θ_run (Cert.SmallChipsReference.defs (F := Bits)) (onTc (τ := Cert.SmallChipsReference.τ) (Cert.SmallChipsReference.main (F := Bits))) ⟨m', fun _ => 0, g'⟩ (fun r =>
          r.2.mem (((0 : Dev Cert.SmallChipsReference.nD).tc : Thread Cert.SmallChipsReference.nD Cert.SmallChipsReference.τ).loc Cert.SmallChipsReference.main_v0) = v0
          ∧ r.2.mem (((0 : Dev Cert.SmallChipsReference.nD).tc : Thread Cert.SmallChipsReference.nD Cert.SmallChipsReference.τ).loc Cert.SmallChipsReference.main_arg0) = m' (((0 : Dev Cert.SmallChipsReference.nD).tc : Thread Cert.SmallChipsReference.nD Cert.SmallChipsReference.τ).loc Cert.SmallChipsReference.main_arg0))

def preserves_AdamwShardedKernel_AdamwShardedKernelIdeal : Prop :=
  True

def algebraic_AdamwShardedKernelIdeal_AdamwShardedReferenceIdeal [hAdamwShardedKernelIdeal : Cert.AdamwShardedKernelIdeal.Facts] [hAdamwShardedReferenceIdeal : Cert.AdamwShardedReferenceIdeal.Facts] : Prop :=
  ∀ (m : (ℓ : Loc Cert.AdamwShardedKernelIdeal.nD Cert.AdamwShardedKernelIdeal.τ Cert.AdamwShardedKernelIdeal.sig) → Buf (Elt Ideal) ℓ) (g : Dev Cert.AdamwShardedKernelIdeal.nD → PrngReg)
    (m' : (ℓ : Loc Cert.AdamwShardedReferenceIdeal.nD Cert.AdamwShardedReferenceIdeal.τ Cert.AdamwShardedReferenceIdeal.sig) → Buf (Elt Ideal) ℓ) (g' : Dev Cert.AdamwShardedReferenceIdeal.nD → PrngReg), Pre_AdamwShardedKernelIdeal m →
    (∀ c : Dev Cert.AdamwShardedKernelIdeal.nD,
      m' ((c.tc : Thread Cert.AdamwShardedReferenceIdeal.nD Cert.AdamwShardedReferenceIdeal.τ).loc Cert.AdamwShardedReferenceIdeal.main_arg0) = m ((c.tc : Thread Cert.AdamwShardedKernelIdeal.nD Cert.AdamwShardedKernelIdeal.τ).loc Cert.AdamwShardedKernelIdeal.main_arg0)
      ∧ m' ((c.tc : Thread Cert.AdamwShardedReferenceIdeal.nD Cert.AdamwShardedReferenceIdeal.τ).loc Cert.AdamwShardedReferenceIdeal.main_arg1) = m ((c.tc : Thread Cert.AdamwShardedKernelIdeal.nD Cert.AdamwShardedKernelIdeal.τ).loc Cert.AdamwShardedKernelIdeal.main_arg1)
      ∧ m' ((c.tc : Thread Cert.AdamwShardedReferenceIdeal.nD Cert.AdamwShardedReferenceIdeal.τ).loc Cert.AdamwShardedReferenceIdeal.main_arg2) = m ((c.tc : Thread Cert.AdamwShardedKernelIdeal.nD Cert.AdamwShardedKernelIdeal.τ).loc Cert.AdamwShardedKernelIdeal.main_arg2)
      ∧ m' ((c.tc : Thread Cert.AdamwShardedReferenceIdeal.nD Cert.AdamwShardedReferenceIdeal.τ).loc Cert.AdamwShardedReferenceIdeal.main_arg3) = m ((c.tc : Thread Cert.AdamwShardedKernelIdeal.nD Cert.AdamwShardedKernelIdeal.τ).loc Cert.AdamwShardedKernelIdeal.main_arg3)) →
    ∃ (v0 : (c : Dev Cert.AdamwShardedKernelIdeal.nD) → Buf (Elt Ideal) ((c.tc : Thread Cert.AdamwShardedKernelIdeal.nD Cert.AdamwShardedKernelIdeal.τ).loc Cert.AdamwShardedKernelIdeal.main_v0_0)) (v1 : (c : Dev Cert.AdamwShardedKernelIdeal.nD) → Buf (Elt Ideal) ((c.tc : Thread Cert.AdamwShardedKernelIdeal.nD Cert.AdamwShardedKernelIdeal.τ).loc Cert.AdamwShardedKernelIdeal.main_v0_1)) (v2 : (c : Dev Cert.AdamwShardedKernelIdeal.nD) → Buf (Elt Ideal) ((c.tc : Thread Cert.AdamwShardedKernelIdeal.nD Cert.AdamwShardedKernelIdeal.τ).loc Cert.AdamwShardedKernelIdeal.main_v0_2)),
      θ_run (Cert.AdamwShardedKernelIdeal.defs (F := Ideal)) (onTc (τ := Cert.AdamwShardedKernelIdeal.τ) (Cert.AdamwShardedKernelIdeal.main (F := Ideal))) ⟨m, fun _ => 0, g⟩ (fun r => ∀ c : Dev Cert.AdamwShardedKernelIdeal.nD,
          r.2.mem ((c.tc : Thread Cert.AdamwShardedKernelIdeal.nD Cert.AdamwShardedKernelIdeal.τ).loc Cert.AdamwShardedKernelIdeal.main_v0_0) = v0 c
          ∧ r.2.mem ((c.tc : Thread Cert.AdamwShardedKernelIdeal.nD Cert.AdamwShardedKernelIdeal.τ).loc Cert.AdamwShardedKernelIdeal.main_v0_1) = v1 c
          ∧ r.2.mem ((c.tc : Thread Cert.AdamwShardedKernelIdeal.nD Cert.AdamwShardedKernelIdeal.τ).loc Cert.AdamwShardedKernelIdeal.main_v0_2) = v2 c
          ∧ r.2.mem ((c.tc : Thread Cert.AdamwShardedKernelIdeal.nD Cert.AdamwShardedKernelIdeal.τ).loc Cert.AdamwShardedKernelIdeal.main_arg0) = m ((c.tc : Thread Cert.AdamwShardedKernelIdeal.nD Cert.AdamwShardedKernelIdeal.τ).loc Cert.AdamwShardedKernelIdeal.main_arg0)
          ∧ r.2.mem ((c.tc : Thread Cert.AdamwShardedKernelIdeal.nD Cert.AdamwShardedKernelIdeal.τ).loc Cert.AdamwShardedKernelIdeal.main_arg1) = m ((c.tc : Thread Cert.AdamwShardedKernelIdeal.nD Cert.AdamwShardedKernelIdeal.τ).loc Cert.AdamwShardedKernelIdeal.main_arg1)
          ∧ r.2.mem ((c.tc : Thread Cert.AdamwShardedKernelIdeal.nD Cert.AdamwShardedKernelIdeal.τ).loc Cert.AdamwShardedKernelIdeal.main_arg2) = m ((c.tc : Thread Cert.AdamwShardedKernelIdeal.nD Cert.AdamwShardedKernelIdeal.τ).loc Cert.AdamwShardedKernelIdeal.main_arg2)
          ∧ r.2.mem ((c.tc : Thread Cert.AdamwShardedKernelIdeal.nD Cert.AdamwShardedKernelIdeal.τ).loc Cert.AdamwShardedKernelIdeal.main_arg3) = m ((c.tc : Thread Cert.AdamwShardedKernelIdeal.nD Cert.AdamwShardedKernelIdeal.τ).loc Cert.AdamwShardedKernelIdeal.main_arg3))
      ∧ θ_run (Cert.AdamwShardedReferenceIdeal.defs (F := Ideal)) (onTc (τ := Cert.AdamwShardedReferenceIdeal.τ) (Cert.AdamwShardedReferenceIdeal.main (F := Ideal))) ⟨m', fun _ => 0, g'⟩ (fun r => ∀ c : Dev Cert.AdamwShardedReferenceIdeal.nD,
          r.2.mem ((c.tc : Thread Cert.AdamwShardedReferenceIdeal.nD Cert.AdamwShardedReferenceIdeal.τ).loc Cert.AdamwShardedReferenceIdeal.main_v23) = v0 c
          ∧ r.2.mem ((c.tc : Thread Cert.AdamwShardedReferenceIdeal.nD Cert.AdamwShardedReferenceIdeal.τ).loc Cert.AdamwShardedReferenceIdeal.main_v4) = v1 c
          ∧ r.2.mem ((c.tc : Thread Cert.AdamwShardedReferenceIdeal.nD Cert.AdamwShardedReferenceIdeal.τ).loc Cert.AdamwShardedReferenceIdeal.main_v10) = v2 c
          ∧ r.2.mem ((c.tc : Thread Cert.AdamwShardedReferenceIdeal.nD Cert.AdamwShardedReferenceIdeal.τ).loc Cert.AdamwShardedReferenceIdeal.main_arg0) = m' ((c.tc : Thread Cert.AdamwShardedReferenceIdeal.nD Cert.AdamwShardedReferenceIdeal.τ).loc Cert.AdamwShardedReferenceIdeal.main_arg0)
          ∧ r.2.mem ((c.tc : Thread Cert.AdamwShardedReferenceIdeal.nD Cert.AdamwShardedReferenceIdeal.τ).loc Cert.AdamwShardedReferenceIdeal.main_arg1) = m' ((c.tc : Thread Cert.AdamwShardedReferenceIdeal.nD Cert.AdamwShardedReferenceIdeal.τ).loc Cert.AdamwShardedReferenceIdeal.main_arg1)
          ∧ r.2.mem ((c.tc : Thread Cert.AdamwShardedReferenceIdeal.nD Cert.AdamwShardedReferenceIdeal.τ).loc Cert.AdamwShardedReferenceIdeal.main_arg2) = m' ((c.tc : Thread Cert.AdamwShardedReferenceIdeal.nD Cert.AdamwShardedReferenceIdeal.τ).loc Cert.AdamwShardedReferenceIdeal.main_arg2)
          ∧ r.2.mem ((c.tc : Thread Cert.AdamwShardedReferenceIdeal.nD Cert.AdamwShardedReferenceIdeal.τ).loc Cert.AdamwShardedReferenceIdeal.main_arg3) = m' ((c.tc : Thread Cert.AdamwShardedReferenceIdeal.nD Cert.AdamwShardedReferenceIdeal.τ).loc Cert.AdamwShardedReferenceIdeal.main_arg3))

def preserves_AdamwReplicatedKernel_AdamwReplicatedKernelIdeal : Prop :=
  True

def algebraic_AdamwReplicatedKernelIdeal_AdamwReplicatedReferenceIdeal [hAdamwReplicatedKernelIdeal : Cert.AdamwReplicatedKernelIdeal.Facts] [hAdamwReplicatedReferenceIdeal : Cert.AdamwReplicatedReferenceIdeal.Facts] : Prop :=
  ∀ (m : (ℓ : Loc Cert.AdamwReplicatedKernelIdeal.nD Cert.AdamwReplicatedKernelIdeal.τ Cert.AdamwReplicatedKernelIdeal.sig) → Buf (Elt Ideal) ℓ) (g : Dev Cert.AdamwReplicatedKernelIdeal.nD → PrngReg)
    (m' : (ℓ : Loc Cert.AdamwReplicatedReferenceIdeal.nD Cert.AdamwReplicatedReferenceIdeal.τ Cert.AdamwReplicatedReferenceIdeal.sig) → Buf (Elt Ideal) ℓ) (g' : Dev Cert.AdamwReplicatedReferenceIdeal.nD → PrngReg), Pre_AdamwReplicatedKernelIdeal m →
    (∀ c : Dev Cert.AdamwReplicatedKernelIdeal.nD,
      m' ((c.tc : Thread Cert.AdamwReplicatedReferenceIdeal.nD Cert.AdamwReplicatedReferenceIdeal.τ).loc Cert.AdamwReplicatedReferenceIdeal.main_arg0) = m ((c.tc : Thread Cert.AdamwReplicatedKernelIdeal.nD Cert.AdamwReplicatedKernelIdeal.τ).loc Cert.AdamwReplicatedKernelIdeal.main_arg0)
      ∧ m' ((c.tc : Thread Cert.AdamwReplicatedReferenceIdeal.nD Cert.AdamwReplicatedReferenceIdeal.τ).loc Cert.AdamwReplicatedReferenceIdeal.main_arg1) = m ((c.tc : Thread Cert.AdamwReplicatedKernelIdeal.nD Cert.AdamwReplicatedKernelIdeal.τ).loc Cert.AdamwReplicatedKernelIdeal.main_arg1)
      ∧ m' ((c.tc : Thread Cert.AdamwReplicatedReferenceIdeal.nD Cert.AdamwReplicatedReferenceIdeal.τ).loc Cert.AdamwReplicatedReferenceIdeal.main_arg2) = m ((c.tc : Thread Cert.AdamwReplicatedKernelIdeal.nD Cert.AdamwReplicatedKernelIdeal.τ).loc Cert.AdamwReplicatedKernelIdeal.main_arg2)
      ∧ m' ((c.tc : Thread Cert.AdamwReplicatedReferenceIdeal.nD Cert.AdamwReplicatedReferenceIdeal.τ).loc Cert.AdamwReplicatedReferenceIdeal.main_arg3) = m ((c.tc : Thread Cert.AdamwReplicatedKernelIdeal.nD Cert.AdamwReplicatedKernelIdeal.τ).loc Cert.AdamwReplicatedKernelIdeal.main_arg3)) →
    ∃ (v0 : (c : Dev Cert.AdamwReplicatedKernelIdeal.nD) → Buf (Elt Ideal) ((c.tc : Thread Cert.AdamwReplicatedKernelIdeal.nD Cert.AdamwReplicatedKernelIdeal.τ).loc Cert.AdamwReplicatedKernelIdeal.main_v0_0)) (v1 : (c : Dev Cert.AdamwReplicatedKernelIdeal.nD) → Buf (Elt Ideal) ((c.tc : Thread Cert.AdamwReplicatedKernelIdeal.nD Cert.AdamwReplicatedKernelIdeal.τ).loc Cert.AdamwReplicatedKernelIdeal.main_v0_1)) (v2 : (c : Dev Cert.AdamwReplicatedKernelIdeal.nD) → Buf (Elt Ideal) ((c.tc : Thread Cert.AdamwReplicatedKernelIdeal.nD Cert.AdamwReplicatedKernelIdeal.τ).loc Cert.AdamwReplicatedKernelIdeal.main_v0_2)),
      θ_run (Cert.AdamwReplicatedKernelIdeal.defs (F := Ideal)) (onTc (τ := Cert.AdamwReplicatedKernelIdeal.τ) (Cert.AdamwReplicatedKernelIdeal.main (F := Ideal))) ⟨m, fun _ => 0, g⟩ (fun r => ∀ c : Dev Cert.AdamwReplicatedKernelIdeal.nD,
          r.2.mem ((c.tc : Thread Cert.AdamwReplicatedKernelIdeal.nD Cert.AdamwReplicatedKernelIdeal.τ).loc Cert.AdamwReplicatedKernelIdeal.main_v0_0) = v0 c
          ∧ r.2.mem ((c.tc : Thread Cert.AdamwReplicatedKernelIdeal.nD Cert.AdamwReplicatedKernelIdeal.τ).loc Cert.AdamwReplicatedKernelIdeal.main_v0_1) = v1 c
          ∧ r.2.mem ((c.tc : Thread Cert.AdamwReplicatedKernelIdeal.nD Cert.AdamwReplicatedKernelIdeal.τ).loc Cert.AdamwReplicatedKernelIdeal.main_v0_2) = v2 c
          ∧ r.2.mem ((c.tc : Thread Cert.AdamwReplicatedKernelIdeal.nD Cert.AdamwReplicatedKernelIdeal.τ).loc Cert.AdamwReplicatedKernelIdeal.main_arg0) = m ((c.tc : Thread Cert.AdamwReplicatedKernelIdeal.nD Cert.AdamwReplicatedKernelIdeal.τ).loc Cert.AdamwReplicatedKernelIdeal.main_arg0)
          ∧ r.2.mem ((c.tc : Thread Cert.AdamwReplicatedKernelIdeal.nD Cert.AdamwReplicatedKernelIdeal.τ).loc Cert.AdamwReplicatedKernelIdeal.main_arg1) = m ((c.tc : Thread Cert.AdamwReplicatedKernelIdeal.nD Cert.AdamwReplicatedKernelIdeal.τ).loc Cert.AdamwReplicatedKernelIdeal.main_arg1)
          ∧ r.2.mem ((c.tc : Thread Cert.AdamwReplicatedKernelIdeal.nD Cert.AdamwReplicatedKernelIdeal.τ).loc Cert.AdamwReplicatedKernelIdeal.main_arg2) = m ((c.tc : Thread Cert.AdamwReplicatedKernelIdeal.nD Cert.AdamwReplicatedKernelIdeal.τ).loc Cert.AdamwReplicatedKernelIdeal.main_arg2)
          ∧ r.2.mem ((c.tc : Thread Cert.AdamwReplicatedKernelIdeal.nD Cert.AdamwReplicatedKernelIdeal.τ).loc Cert.AdamwReplicatedKernelIdeal.main_arg3) = m ((c.tc : Thread Cert.AdamwReplicatedKernelIdeal.nD Cert.AdamwReplicatedKernelIdeal.τ).loc Cert.AdamwReplicatedKernelIdeal.main_arg3))
      ∧ θ_run (Cert.AdamwReplicatedReferenceIdeal.defs (F := Ideal)) (onTc (τ := Cert.AdamwReplicatedReferenceIdeal.τ) (Cert.AdamwReplicatedReferenceIdeal.main (F := Ideal))) ⟨m', fun _ => 0, g'⟩ (fun r => ∀ c : Dev Cert.AdamwReplicatedReferenceIdeal.nD,
          r.2.mem ((c.tc : Thread Cert.AdamwReplicatedReferenceIdeal.nD Cert.AdamwReplicatedReferenceIdeal.τ).loc Cert.AdamwReplicatedReferenceIdeal.main_v23) = v0 c
          ∧ r.2.mem ((c.tc : Thread Cert.AdamwReplicatedReferenceIdeal.nD Cert.AdamwReplicatedReferenceIdeal.τ).loc Cert.AdamwReplicatedReferenceIdeal.main_v4) = v1 c
          ∧ r.2.mem ((c.tc : Thread Cert.AdamwReplicatedReferenceIdeal.nD Cert.AdamwReplicatedReferenceIdeal.τ).loc Cert.AdamwReplicatedReferenceIdeal.main_v10) = v2 c
          ∧ r.2.mem ((c.tc : Thread Cert.AdamwReplicatedReferenceIdeal.nD Cert.AdamwReplicatedReferenceIdeal.τ).loc Cert.AdamwReplicatedReferenceIdeal.main_arg0) = m' ((c.tc : Thread Cert.AdamwReplicatedReferenceIdeal.nD Cert.AdamwReplicatedReferenceIdeal.τ).loc Cert.AdamwReplicatedReferenceIdeal.main_arg0)
          ∧ r.2.mem ((c.tc : Thread Cert.AdamwReplicatedReferenceIdeal.nD Cert.AdamwReplicatedReferenceIdeal.τ).loc Cert.AdamwReplicatedReferenceIdeal.main_arg1) = m' ((c.tc : Thread Cert.AdamwReplicatedReferenceIdeal.nD Cert.AdamwReplicatedReferenceIdeal.τ).loc Cert.AdamwReplicatedReferenceIdeal.main_arg1)
          ∧ r.2.mem ((c.tc : Thread Cert.AdamwReplicatedReferenceIdeal.nD Cert.AdamwReplicatedReferenceIdeal.τ).loc Cert.AdamwReplicatedReferenceIdeal.main_arg2) = m' ((c.tc : Thread Cert.AdamwReplicatedReferenceIdeal.nD Cert.AdamwReplicatedReferenceIdeal.τ).loc Cert.AdamwReplicatedReferenceIdeal.main_arg2)
          ∧ r.2.mem ((c.tc : Thread Cert.AdamwReplicatedReferenceIdeal.nD Cert.AdamwReplicatedReferenceIdeal.τ).loc Cert.AdamwReplicatedReferenceIdeal.main_arg3) = m' ((c.tc : Thread Cert.AdamwReplicatedReferenceIdeal.nD Cert.AdamwReplicatedReferenceIdeal.τ).loc Cert.AdamwReplicatedReferenceIdeal.main_arg3))

def preserves_ReduceSumKernel_ReduceSumKernelIdeal : Prop :=
  True

def algebraic_ReduceSumKernelIdeal_ReduceSumReferenceIdeal [hReduceSumKernelIdeal : Cert.ReduceSumKernelIdeal.Facts] [hReduceSumReferenceIdeal : Cert.ReduceSumReferenceIdeal.Facts] : Prop :=
  ∀ (m : (ℓ : Loc Cert.ReduceSumKernelIdeal.nD Cert.ReduceSumKernelIdeal.τ Cert.ReduceSumKernelIdeal.sig) → Buf (Elt Ideal) ℓ) (g : Dev Cert.ReduceSumKernelIdeal.nD → PrngReg)
    (m' : (ℓ : Loc Cert.ReduceSumReferenceIdeal.nD Cert.ReduceSumReferenceIdeal.τ Cert.ReduceSumReferenceIdeal.sig) → Buf (Elt Ideal) ℓ) (g' : Dev Cert.ReduceSumReferenceIdeal.nD → PrngReg), Pre_ReduceSumKernelIdeal m →
    (∀ c : Dev Cert.ReduceSumKernelIdeal.nD,
      m' ((c.tc : Thread Cert.ReduceSumReferenceIdeal.nD Cert.ReduceSumReferenceIdeal.τ).loc Cert.ReduceSumReferenceIdeal.main_arg0) = m ((c.tc : Thread Cert.ReduceSumKernelIdeal.nD Cert.ReduceSumKernelIdeal.τ).loc Cert.ReduceSumKernelIdeal.main_arg0)) →
    ∃ (v0 : (c : Dev Cert.ReduceSumKernelIdeal.nD) → Buf (Elt Ideal) ((c.tc : Thread Cert.ReduceSumKernelIdeal.nD Cert.ReduceSumKernelIdeal.τ).loc Cert.ReduceSumKernelIdeal.main_v0)),
      θ_run (Cert.ReduceSumKernelIdeal.defs (F := Ideal)) (onTc (τ := Cert.ReduceSumKernelIdeal.τ) (Cert.ReduceSumKernelIdeal.main (F := Ideal))) ⟨m, fun _ => 0, g⟩ (fun r => ∀ c : Dev Cert.ReduceSumKernelIdeal.nD,
          r.2.mem ((c.tc : Thread Cert.ReduceSumKernelIdeal.nD Cert.ReduceSumKernelIdeal.τ).loc Cert.ReduceSumKernelIdeal.main_v0) = v0 c
          ∧ r.2.mem ((c.tc : Thread Cert.ReduceSumKernelIdeal.nD Cert.ReduceSumKernelIdeal.τ).loc Cert.ReduceSumKernelIdeal.main_arg0) = m ((c.tc : Thread Cert.ReduceSumKernelIdeal.nD Cert.ReduceSumKernelIdeal.τ).loc Cert.ReduceSumKernelIdeal.main_arg0))
      ∧ θ_run (Cert.ReduceSumReferenceIdeal.defs (F := Ideal)) (onTc (τ := Cert.ReduceSumReferenceIdeal.τ) (Cert.ReduceSumReferenceIdeal.main (F := Ideal))) ⟨m', fun _ => 0, g'⟩ (fun r => ∀ c : Dev Cert.ReduceSumReferenceIdeal.nD,
          r.2.mem ((c.tc : Thread Cert.ReduceSumReferenceIdeal.nD Cert.ReduceSumReferenceIdeal.τ).loc Cert.ReduceSumReferenceIdeal.main_v1) = v0 c
          ∧ r.2.mem ((c.tc : Thread Cert.ReduceSumReferenceIdeal.nD Cert.ReduceSumReferenceIdeal.τ).loc Cert.ReduceSumReferenceIdeal.main_arg0) = m' ((c.tc : Thread Cert.ReduceSumReferenceIdeal.nD Cert.ReduceSumReferenceIdeal.τ).loc Cert.ReduceSumReferenceIdeal.main_arg0))

def preserves_SmallSumKernel_SmallSumKernelIdeal : Prop :=
  True

def algebraic_SmallSumKernelIdeal_SmallSumReferenceIdeal [hSmallSumKernelIdeal : Cert.SmallSumKernelIdeal.Facts] [hSmallSumReferenceIdeal : Cert.SmallSumReferenceIdeal.Facts] : Prop :=
  ∀ (m : (ℓ : Loc Cert.SmallSumKernelIdeal.nD Cert.SmallSumKernelIdeal.τ Cert.SmallSumKernelIdeal.sig) → Buf (Elt Ideal) ℓ) (g : Dev Cert.SmallSumKernelIdeal.nD → PrngReg)
    (m' : (ℓ : Loc Cert.SmallSumReferenceIdeal.nD Cert.SmallSumReferenceIdeal.τ Cert.SmallSumReferenceIdeal.sig) → Buf (Elt Ideal) ℓ) (g' : Dev Cert.SmallSumReferenceIdeal.nD → PrngReg), Pre_SmallSumKernelIdeal m →
    (∀ c : Dev Cert.SmallSumKernelIdeal.nD,
      m' ((c.tc : Thread Cert.SmallSumReferenceIdeal.nD Cert.SmallSumReferenceIdeal.τ).loc Cert.SmallSumReferenceIdeal.main_arg0) = m ((c.tc : Thread Cert.SmallSumKernelIdeal.nD Cert.SmallSumKernelIdeal.τ).loc Cert.SmallSumKernelIdeal.main_arg0)) →
    ∃ (v0 : (c : Dev Cert.SmallSumKernelIdeal.nD) → Buf (Elt Ideal) ((c.tc : Thread Cert.SmallSumKernelIdeal.nD Cert.SmallSumKernelIdeal.τ).loc Cert.SmallSumKernelIdeal.main_v1)),
      θ_run (Cert.SmallSumKernelIdeal.defs (F := Ideal)) (onTc (τ := Cert.SmallSumKernelIdeal.τ) (Cert.SmallSumKernelIdeal.main (F := Ideal))) ⟨m, fun _ => 0, g⟩ (fun r => ∀ c : Dev Cert.SmallSumKernelIdeal.nD,
          r.2.mem ((c.tc : Thread Cert.SmallSumKernelIdeal.nD Cert.SmallSumKernelIdeal.τ).loc Cert.SmallSumKernelIdeal.main_v1) = v0 c
          ∧ r.2.mem ((c.tc : Thread Cert.SmallSumKernelIdeal.nD Cert.SmallSumKernelIdeal.τ).loc Cert.SmallSumKernelIdeal.main_arg0) = m ((c.tc : Thread Cert.SmallSumKernelIdeal.nD Cert.SmallSumKernelIdeal.τ).loc Cert.SmallSumKernelIdeal.main_arg0))
      ∧ θ_run (Cert.SmallSumReferenceIdeal.defs (F := Ideal)) (onTc (τ := Cert.SmallSumReferenceIdeal.τ) (Cert.SmallSumReferenceIdeal.main (F := Ideal))) ⟨m', fun _ => 0, g'⟩ (fun r => ∀ c : Dev Cert.SmallSumReferenceIdeal.nD,
          r.2.mem ((c.tc : Thread Cert.SmallSumReferenceIdeal.nD Cert.SmallSumReferenceIdeal.τ).loc Cert.SmallSumReferenceIdeal.main_v1) = v0 c
          ∧ r.2.mem ((c.tc : Thread Cert.SmallSumReferenceIdeal.nD Cert.SmallSumReferenceIdeal.τ).loc Cert.SmallSumReferenceIdeal.main_arg0) = m' ((c.tc : Thread Cert.SmallSumReferenceIdeal.nD Cert.SmallSumReferenceIdeal.τ).loc Cert.SmallSumReferenceIdeal.main_arg0))

def preserves_NormMixBwdKernel_NormMixBwdKernelIdeal : Prop :=
  True

def algebraic_NormMixBwdKernelIdeal_NormMixBwdReferenceIdeal [hNormMixBwdKernelIdeal : Cert.NormMixBwdKernelIdeal.Facts] [hNormMixBwdReferenceIdeal : Cert.NormMixBwdReferenceIdeal.Facts] : Prop :=
  ∀ (m : (ℓ : Loc Cert.NormMixBwdKernelIdeal.nD Cert.NormMixBwdKernelIdeal.τ Cert.NormMixBwdKernelIdeal.sig) → Buf (Elt Ideal) ℓ) (g : Dev Cert.NormMixBwdKernelIdeal.nD → PrngReg)
    (m' : (ℓ : Loc Cert.NormMixBwdReferenceIdeal.nD Cert.NormMixBwdReferenceIdeal.τ Cert.NormMixBwdReferenceIdeal.sig) → Buf (Elt Ideal) ℓ) (g' : Dev Cert.NormMixBwdReferenceIdeal.nD → PrngReg), Pre_NormMixBwdKernelIdeal m →
    (∀ c : Dev Cert.NormMixBwdKernelIdeal.nD,
      m' ((c.tc : Thread Cert.NormMixBwdReferenceIdeal.nD Cert.NormMixBwdReferenceIdeal.τ).loc Cert.NormMixBwdReferenceIdeal.main_arg0) = m ((c.tc : Thread Cert.NormMixBwdKernelIdeal.nD Cert.NormMixBwdKernelIdeal.τ).loc Cert.NormMixBwdKernelIdeal.main_arg0)
      ∧ m' ((c.tc : Thread Cert.NormMixBwdReferenceIdeal.nD Cert.NormMixBwdReferenceIdeal.τ).loc Cert.NormMixBwdReferenceIdeal.main_arg1) = m ((c.tc : Thread Cert.NormMixBwdKernelIdeal.nD Cert.NormMixBwdKernelIdeal.τ).loc Cert.NormMixBwdKernelIdeal.main_arg1)
      ∧ m' ((c.tc : Thread Cert.NormMixBwdReferenceIdeal.nD Cert.NormMixBwdReferenceIdeal.τ).loc Cert.NormMixBwdReferenceIdeal.main_arg2) = m ((c.tc : Thread Cert.NormMixBwdKernelIdeal.nD Cert.NormMixBwdKernelIdeal.τ).loc Cert.NormMixBwdKernelIdeal.main_arg2)
      ∧ m' ((c.tc : Thread Cert.NormMixBwdReferenceIdeal.nD Cert.NormMixBwdReferenceIdeal.τ).loc Cert.NormMixBwdReferenceIdeal.main_arg3) = m ((c.tc : Thread Cert.NormMixBwdKernelIdeal.nD Cert.NormMixBwdKernelIdeal.τ).loc Cert.NormMixBwdKernelIdeal.main_arg3)) →
    ∃ (v0 : (c : Dev Cert.NormMixBwdKernelIdeal.nD) → Buf (Elt Ideal) ((c.tc : Thread Cert.NormMixBwdKernelIdeal.nD Cert.NormMixBwdKernelIdeal.τ).loc Cert.NormMixBwdKernelIdeal.main_v1_0)) (v1 : (c : Dev Cert.NormMixBwdKernelIdeal.nD) → Buf (Elt Ideal) ((c.tc : Thread Cert.NormMixBwdKernelIdeal.nD Cert.NormMixBwdKernelIdeal.τ).loc Cert.NormMixBwdKernelIdeal.main_v1_1)),
      θ_run (Cert.NormMixBwdKernelIdeal.defs (F := Ideal)) (onTc (τ := Cert.NormMixBwdKernelIdeal.τ) (Cert.NormMixBwdKernelIdeal.main (F := Ideal))) ⟨m, fun _ => 0, g⟩ (fun r => ∀ c : Dev Cert.NormMixBwdKernelIdeal.nD,
          r.2.mem ((c.tc : Thread Cert.NormMixBwdKernelIdeal.nD Cert.NormMixBwdKernelIdeal.τ).loc Cert.NormMixBwdKernelIdeal.main_v1_0) = v0 c
          ∧ r.2.mem ((c.tc : Thread Cert.NormMixBwdKernelIdeal.nD Cert.NormMixBwdKernelIdeal.τ).loc Cert.NormMixBwdKernelIdeal.main_v1_1) = v1 c
          ∧ r.2.mem ((c.tc : Thread Cert.NormMixBwdKernelIdeal.nD Cert.NormMixBwdKernelIdeal.τ).loc Cert.NormMixBwdKernelIdeal.main_arg0) = m ((c.tc : Thread Cert.NormMixBwdKernelIdeal.nD Cert.NormMixBwdKernelIdeal.τ).loc Cert.NormMixBwdKernelIdeal.main_arg0)
          ∧ r.2.mem ((c.tc : Thread Cert.NormMixBwdKernelIdeal.nD Cert.NormMixBwdKernelIdeal.τ).loc Cert.NormMixBwdKernelIdeal.main_arg1) = m ((c.tc : Thread Cert.NormMixBwdKernelIdeal.nD Cert.NormMixBwdKernelIdeal.τ).loc Cert.NormMixBwdKernelIdeal.main_arg1)
          ∧ r.2.mem ((c.tc : Thread Cert.NormMixBwdKernelIdeal.nD Cert.NormMixBwdKernelIdeal.τ).loc Cert.NormMixBwdKernelIdeal.main_arg2) = m ((c.tc : Thread Cert.NormMixBwdKernelIdeal.nD Cert.NormMixBwdKernelIdeal.τ).loc Cert.NormMixBwdKernelIdeal.main_arg2)
          ∧ r.2.mem ((c.tc : Thread Cert.NormMixBwdKernelIdeal.nD Cert.NormMixBwdKernelIdeal.τ).loc Cert.NormMixBwdKernelIdeal.main_arg3) = m ((c.tc : Thread Cert.NormMixBwdKernelIdeal.nD Cert.NormMixBwdKernelIdeal.τ).loc Cert.NormMixBwdKernelIdeal.main_arg3))
      ∧ θ_run (Cert.NormMixBwdReferenceIdeal.defs (F := Ideal)) (onTc (τ := Cert.NormMixBwdReferenceIdeal.τ) (Cert.NormMixBwdReferenceIdeal.main (F := Ideal))) ⟨m', fun _ => 0, g'⟩ (fun r => ∀ c : Dev Cert.NormMixBwdReferenceIdeal.nD,
          r.2.mem ((c.tc : Thread Cert.NormMixBwdReferenceIdeal.nD Cert.NormMixBwdReferenceIdeal.τ).loc Cert.NormMixBwdReferenceIdeal.main_v36) = v0 c
          ∧ r.2.mem ((c.tc : Thread Cert.NormMixBwdReferenceIdeal.nD Cert.NormMixBwdReferenceIdeal.τ).loc Cert.NormMixBwdReferenceIdeal.main_v37) = v1 c
          ∧ r.2.mem ((c.tc : Thread Cert.NormMixBwdReferenceIdeal.nD Cert.NormMixBwdReferenceIdeal.τ).loc Cert.NormMixBwdReferenceIdeal.main_arg0) = m' ((c.tc : Thread Cert.NormMixBwdReferenceIdeal.nD Cert.NormMixBwdReferenceIdeal.τ).loc Cert.NormMixBwdReferenceIdeal.main_arg0)
          ∧ r.2.mem ((c.tc : Thread Cert.NormMixBwdReferenceIdeal.nD Cert.NormMixBwdReferenceIdeal.τ).loc Cert.NormMixBwdReferenceIdeal.main_arg1) = m' ((c.tc : Thread Cert.NormMixBwdReferenceIdeal.nD Cert.NormMixBwdReferenceIdeal.τ).loc Cert.NormMixBwdReferenceIdeal.main_arg1)
          ∧ r.2.mem ((c.tc : Thread Cert.NormMixBwdReferenceIdeal.nD Cert.NormMixBwdReferenceIdeal.τ).loc Cert.NormMixBwdReferenceIdeal.main_arg2) = m' ((c.tc : Thread Cert.NormMixBwdReferenceIdeal.nD Cert.NormMixBwdReferenceIdeal.τ).loc Cert.NormMixBwdReferenceIdeal.main_arg2)
          ∧ r.2.mem ((c.tc : Thread Cert.NormMixBwdReferenceIdeal.nD Cert.NormMixBwdReferenceIdeal.τ).loc Cert.NormMixBwdReferenceIdeal.main_arg3) = m' ((c.tc : Thread Cert.NormMixBwdReferenceIdeal.nD Cert.NormMixBwdReferenceIdeal.τ).loc Cert.NormMixBwdReferenceIdeal.main_arg3))

def preserves_LossHeadKernel_LossHeadKernelIdeal : Prop :=
  True

def algebraic_LossHeadKernelIdeal_LossHeadReferenceIdeal [hLossHeadKernelIdeal : Cert.LossHeadKernelIdeal.Facts] [hLossHeadReferenceIdeal : Cert.LossHeadReferenceIdeal.Facts] : Prop :=
  ∀ (m : (ℓ : Loc Cert.LossHeadKernelIdeal.nD Cert.LossHeadKernelIdeal.τ Cert.LossHeadKernelIdeal.sig) → Buf (Elt Ideal) ℓ) (g : Dev Cert.LossHeadKernelIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadKernelIdeal m →
    (∀ c : Dev Cert.LossHeadKernelIdeal.nD,
      m' ((c.tc : Thread Cert.LossHeadReferenceIdeal.nD Cert.LossHeadReferenceIdeal.τ).loc Cert.LossHeadReferenceIdeal.main_arg0) = m ((c.tc : Thread Cert.LossHeadKernelIdeal.nD Cert.LossHeadKernelIdeal.τ).loc Cert.LossHeadKernelIdeal.main_arg0)
      ∧ m' ((c.tc : Thread Cert.LossHeadReferenceIdeal.nD Cert.LossHeadReferenceIdeal.τ).loc Cert.LossHeadReferenceIdeal.main_arg1) = m ((c.tc : Thread Cert.LossHeadKernelIdeal.nD Cert.LossHeadKernelIdeal.τ).loc Cert.LossHeadKernelIdeal.main_arg1)
      ∧ m' ((c.tc : Thread Cert.LossHeadReferenceIdeal.nD Cert.LossHeadReferenceIdeal.τ).loc Cert.LossHeadReferenceIdeal.main_arg2) = m ((c.tc : Thread Cert.LossHeadKernelIdeal.nD Cert.LossHeadKernelIdeal.τ).loc Cert.LossHeadKernelIdeal.main_arg2)) →
    ∃ (v0 : (c : Dev Cert.LossHeadKernelIdeal.nD) → Buf (Elt Ideal) ((c.tc : Thread Cert.LossHeadKernelIdeal.nD Cert.LossHeadKernelIdeal.τ).loc Cert.LossHeadKernelIdeal.main_v1_2)) (v1 : (c : Dev Cert.LossHeadKernelIdeal.nD) → Buf (Elt Ideal) ((c.tc : Thread Cert.LossHeadKernelIdeal.nD Cert.LossHeadKernelIdeal.τ).loc Cert.LossHeadKernelIdeal.main_v1_0)) (v2 : (c : Dev Cert.LossHeadKernelIdeal.nD) → Buf (Elt Ideal) ((c.tc : Thread Cert.LossHeadKernelIdeal.nD Cert.LossHeadKernelIdeal.τ).loc Cert.LossHeadKernelIdeal.main_v1_1)),
      θ_run (Cert.LossHeadKernelIdeal.defs (F := Ideal)) (onTc (τ := Cert.LossHeadKernelIdeal.τ) (Cert.LossHeadKernelIdeal.main (F := Ideal))) ⟨m, fun _ => 0, g⟩ (fun r => ∀ c : Dev Cert.LossHeadKernelIdeal.nD,
          r.2.mem ((c.tc : Thread Cert.LossHeadKernelIdeal.nD Cert.LossHeadKernelIdeal.τ).loc Cert.LossHeadKernelIdeal.main_v1_2) = v0 c
          ∧ r.2.mem ((c.tc : Thread Cert.LossHeadKernelIdeal.nD Cert.LossHeadKernelIdeal.τ).loc Cert.LossHeadKernelIdeal.main_v1_0) = v1 c
          ∧ r.2.mem ((c.tc : Thread Cert.LossHeadKernelIdeal.nD Cert.LossHeadKernelIdeal.τ).loc Cert.LossHeadKernelIdeal.main_v1_1) = v2 c
          ∧ r.2.mem ((c.tc : Thread Cert.LossHeadKernelIdeal.nD Cert.LossHeadKernelIdeal.τ).loc Cert.LossHeadKernelIdeal.main_arg0) = m ((c.tc : Thread Cert.LossHeadKernelIdeal.nD Cert.LossHeadKernelIdeal.τ).loc Cert.LossHeadKernelIdeal.main_arg0)
          ∧ r.2.mem ((c.tc : Thread Cert.LossHeadKernelIdeal.nD Cert.LossHeadKernelIdeal.τ).loc Cert.LossHeadKernelIdeal.main_arg1) = m ((c.tc : Thread Cert.LossHeadKernelIdeal.nD Cert.LossHeadKernelIdeal.τ).loc Cert.LossHeadKernelIdeal.main_arg1)
          ∧ r.2.mem ((c.tc : Thread Cert.LossHeadKernelIdeal.nD Cert.LossHeadKernelIdeal.τ).loc Cert.LossHeadKernelIdeal.main_arg2) = m ((c.tc : Thread Cert.LossHeadKernelIdeal.nD Cert.LossHeadKernelIdeal.τ).loc Cert.LossHeadKernelIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v51) = v0 c
          ∧ r.2.mem ((c.tc : Thread Cert.LossHeadReferenceIdeal.nD Cert.LossHeadReferenceIdeal.τ).loc Cert.LossHeadReferenceIdeal.main_v50) = v1 c
          ∧ r.2.mem ((c.tc : Thread Cert.LossHeadReferenceIdeal.nD Cert.LossHeadReferenceIdeal.τ).loc Cert.LossHeadReferenceIdeal.main_v52) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_NormFfnKernel_NormFfnKernelIdeal : Prop :=
  True

def algebraic_NormFfnKernelIdeal_NormFfnReferenceIdeal [hNormFfnKernelIdeal : Cert.NormFfnKernelIdeal.Facts] [hNormFfnReferenceIdeal : Cert.NormFfnReferenceIdeal.Facts] : Prop :=
  ∀ (m : (ℓ : Loc Cert.NormFfnKernelIdeal.nD Cert.NormFfnKernelIdeal.τ Cert.NormFfnKernelIdeal.sig) → Buf (Elt Ideal) ℓ) (g : Dev Cert.NormFfnKernelIdeal.nD → PrngReg)
    (m' : (ℓ : Loc Cert.NormFfnReferenceIdeal.nD Cert.NormFfnReferenceIdeal.τ Cert.NormFfnReferenceIdeal.sig) → Buf (Elt Ideal) ℓ) (g' : Dev Cert.NormFfnReferenceIdeal.nD → PrngReg), Pre_NormFfnKernelIdeal m →
    (∀ c : Dev Cert.NormFfnKernelIdeal.nD,
      m' ((c.tc : Thread Cert.NormFfnReferenceIdeal.nD Cert.NormFfnReferenceIdeal.τ).loc Cert.NormFfnReferenceIdeal.main_arg0) = m ((c.tc : Thread Cert.NormFfnKernelIdeal.nD Cert.NormFfnKernelIdeal.τ).loc Cert.NormFfnKernelIdeal.main_arg0)
      ∧ m' ((c.tc : Thread Cert.NormFfnReferenceIdeal.nD Cert.NormFfnReferenceIdeal.τ).loc Cert.NormFfnReferenceIdeal.main_arg1) = m ((c.tc : Thread Cert.NormFfnKernelIdeal.nD Cert.NormFfnKernelIdeal.τ).loc Cert.NormFfnKernelIdeal.main_arg1)) →
    ∃ (v0 : (c : Dev Cert.NormFfnKernelIdeal.nD) → Buf (Elt Ideal) ((c.tc : Thread Cert.NormFfnKernelIdeal.nD Cert.NormFfnKernelIdeal.τ).loc Cert.NormFfnKernelIdeal.main_v1)),
      θ_run (Cert.NormFfnKernelIdeal.defs (F := Ideal)) (onTc (τ := Cert.NormFfnKernelIdeal.τ) (Cert.NormFfnKernelIdeal.main (F := Ideal))) ⟨m, fun _ => 0, g⟩ (fun r => ∀ c : Dev Cert.NormFfnKernelIdeal.nD,
          r.2.mem ((c.tc : Thread Cert.NormFfnKernelIdeal.nD Cert.NormFfnKernelIdeal.τ).loc Cert.NormFfnKernelIdeal.main_v1) = v0 c
          ∧ r.2.mem ((c.tc : Thread Cert.NormFfnKernelIdeal.nD Cert.NormFfnKernelIdeal.τ).loc Cert.NormFfnKernelIdeal.main_arg0) = m ((c.tc : Thread Cert.NormFfnKernelIdeal.nD Cert.NormFfnKernelIdeal.τ).loc Cert.NormFfnKernelIdeal.main_arg0)
          ∧ r.2.mem ((c.tc : Thread Cert.NormFfnKernelIdeal.nD Cert.NormFfnKernelIdeal.τ).loc Cert.NormFfnKernelIdeal.main_arg1) = m ((c.tc : Thread Cert.NormFfnKernelIdeal.nD Cert.NormFfnKernelIdeal.τ).loc Cert.NormFfnKernelIdeal.main_arg1))
      ∧ θ_run (Cert.NormFfnReferenceIdeal.defs (F := Ideal)) (onTc (τ := Cert.NormFfnReferenceIdeal.τ) (Cert.NormFfnReferenceIdeal.main (F := Ideal))) ⟨m', fun _ => 0, g'⟩ (fun r => ∀ c : Dev Cert.NormFfnReferenceIdeal.nD,
          r.2.mem ((c.tc : Thread Cert.NormFfnReferenceIdeal.nD Cert.NormFfnReferenceIdeal.τ).loc Cert.NormFfnReferenceIdeal.main_v12) = v0 c
          ∧ r.2.mem ((c.tc : Thread Cert.NormFfnReferenceIdeal.nD Cert.NormFfnReferenceIdeal.τ).loc Cert.NormFfnReferenceIdeal.main_arg0) = m' ((c.tc : Thread Cert.NormFfnReferenceIdeal.nD Cert.NormFfnReferenceIdeal.τ).loc Cert.NormFfnReferenceIdeal.main_arg0)
          ∧ r.2.mem ((c.tc : Thread Cert.NormFfnReferenceIdeal.nD Cert.NormFfnReferenceIdeal.τ).loc Cert.NormFfnReferenceIdeal.main_arg1) = m' ((c.tc : Thread Cert.NormFfnReferenceIdeal.nD Cert.NormFfnReferenceIdeal.τ).loc Cert.NormFfnReferenceIdeal.main_arg1))

def preserves_NormMemKernel_NormMemKernelIdeal : Prop :=
  True

def algebraic_NormMemKernelIdeal_NormMemReferenceIdeal [hNormMemKernelIdeal : Cert.NormMemKernelIdeal.Facts] [hNormMemReferenceIdeal : Cert.NormMemReferenceIdeal.Facts] : Prop :=
  ∀ (m : (ℓ : Loc Cert.NormMemKernelIdeal.nD Cert.NormMemKernelIdeal.τ Cert.NormMemKernelIdeal.sig) → Buf (Elt Ideal) ℓ) (g : Dev Cert.NormMemKernelIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemKernelIdeal m →
    (∀ c : Dev Cert.NormMemKernelIdeal.nD,
      m' ((c.tc : Thread Cert.NormMemReferenceIdeal.nD Cert.NormMemReferenceIdeal.τ).loc Cert.NormMemReferenceIdeal.main_arg0) = m ((c.tc : Thread Cert.NormMemKernelIdeal.nD Cert.NormMemKernelIdeal.τ).loc Cert.NormMemKernelIdeal.main_arg0)
      ∧ m' ((c.tc : Thread Cert.NormMemReferenceIdeal.nD Cert.NormMemReferenceIdeal.τ).loc Cert.NormMemReferenceIdeal.main_arg1) = m ((c.tc : Thread Cert.NormMemKernelIdeal.nD Cert.NormMemKernelIdeal.τ).loc Cert.NormMemKernelIdeal.main_arg1)) →
    ∃ (v0 : (c : Dev Cert.NormMemKernelIdeal.nD) → Buf (Elt Ideal) ((c.tc : Thread Cert.NormMemKernelIdeal.nD Cert.NormMemKernelIdeal.τ).loc Cert.NormMemKernelIdeal.main_v1)),
      θ_run (Cert.NormMemKernelIdeal.defs (F := Ideal)) (onTc (τ := Cert.NormMemKernelIdeal.τ) (Cert.NormMemKernelIdeal.main (F := Ideal))) ⟨m, fun _ => 0, g⟩ (fun r => ∀ c : Dev Cert.NormMemKernelIdeal.nD,
          r.2.mem ((c.tc : Thread Cert.NormMemKernelIdeal.nD Cert.NormMemKernelIdeal.τ).loc Cert.NormMemKernelIdeal.main_v1) = v0 c
          ∧ r.2.mem ((c.tc : Thread Cert.NormMemKernelIdeal.nD Cert.NormMemKernelIdeal.τ).loc Cert.NormMemKernelIdeal.main_arg0) = m ((c.tc : Thread Cert.NormMemKernelIdeal.nD Cert.NormMemKernelIdeal.τ).loc Cert.NormMemKernelIdeal.main_arg0)
          ∧ r.2.mem ((c.tc : Thread Cert.NormMemKernelIdeal.nD Cert.NormMemKernelIdeal.τ).loc Cert.NormMemKernelIdeal.main_arg1) = m ((c.tc : Thread Cert.NormMemKernelIdeal.nD Cert.NormMemKernelIdeal.τ).loc Cert.NormMemKernelIdeal.main_arg1))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v12) = v0 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1))

def preserves_NormMemBwdKernel_NormMemBwdKernelIdeal : Prop :=
  True

def algebraic_NormMemBwdKernelIdeal_NormMemBwdReferenceIdeal [hNormMemBwdKernelIdeal : Cert.NormMemBwdKernelIdeal.Facts] [hNormMemBwdReferenceIdeal : Cert.NormMemBwdReferenceIdeal.Facts] : Prop :=
  ∀ (m : (ℓ : Loc Cert.NormMemBwdKernelIdeal.nD Cert.NormMemBwdKernelIdeal.τ Cert.NormMemBwdKernelIdeal.sig) → Buf (Elt Ideal) ℓ) (g : Dev Cert.NormMemBwdKernelIdeal.nD → PrngReg)
    (m' : (ℓ : Loc Cert.NormMemBwdReferenceIdeal.nD Cert.NormMemBwdReferenceIdeal.τ Cert.NormMemBwdReferenceIdeal.sig) → Buf (Elt Ideal) ℓ) (g' : Dev Cert.NormMemBwdReferenceIdeal.nD → PrngReg), Pre_NormMemBwdKernelIdeal m →
    (∀ c : Dev Cert.NormMemBwdKernelIdeal.nD,
      m' ((c.tc : Thread Cert.NormMemBwdReferenceIdeal.nD Cert.NormMemBwdReferenceIdeal.τ).loc Cert.NormMemBwdReferenceIdeal.main_arg0) = m ((c.tc : Thread Cert.NormMemBwdKernelIdeal.nD Cert.NormMemBwdKernelIdeal.τ).loc Cert.NormMemBwdKernelIdeal.main_arg0)
      ∧ m' ((c.tc : Thread Cert.NormMemBwdReferenceIdeal.nD Cert.NormMemBwdReferenceIdeal.τ).loc Cert.NormMemBwdReferenceIdeal.main_arg1) = m ((c.tc : Thread Cert.NormMemBwdKernelIdeal.nD Cert.NormMemBwdKernelIdeal.τ).loc Cert.NormMemBwdKernelIdeal.main_arg1)
      ∧ m' ((c.tc : Thread Cert.NormMemBwdReferenceIdeal.nD Cert.NormMemBwdReferenceIdeal.τ).loc Cert.NormMemBwdReferenceIdeal.main_arg2) = m ((c.tc : Thread Cert.NormMemBwdKernelIdeal.nD Cert.NormMemBwdKernelIdeal.τ).loc Cert.NormMemBwdKernelIdeal.main_arg2)) →
    ∃ (v0 : (c : Dev Cert.NormMemBwdKernelIdeal.nD) → Buf (Elt Ideal) ((c.tc : Thread Cert.NormMemBwdKernelIdeal.nD Cert.NormMemBwdKernelIdeal.τ).loc Cert.NormMemBwdKernelIdeal.main_v1_0)) (v1 : (c : Dev Cert.NormMemBwdKernelIdeal.nD) → Buf (Elt Ideal) ((c.tc : Thread Cert.NormMemBwdKernelIdeal.nD Cert.NormMemBwdKernelIdeal.τ).loc Cert.NormMemBwdKernelIdeal.main_v1_1)),
      θ_run (Cert.NormMemBwdKernelIdeal.defs (F := Ideal)) (onTc (τ := Cert.NormMemBwdKernelIdeal.τ) (Cert.NormMemBwdKernelIdeal.main (F := Ideal))) ⟨m, fun _ => 0, g⟩ (fun r => ∀ c : Dev Cert.NormMemBwdKernelIdeal.nD,
          r.2.mem ((c.tc : Thread Cert.NormMemBwdKernelIdeal.nD Cert.NormMemBwdKernelIdeal.τ).loc Cert.NormMemBwdKernelIdeal.main_v1_0) = v0 c
          ∧ r.2.mem ((c.tc : Thread Cert.NormMemBwdKernelIdeal.nD Cert.NormMemBwdKernelIdeal.τ).loc Cert.NormMemBwdKernelIdeal.main_v1_1) = v1 c
          ∧ r.2.mem ((c.tc : Thread Cert.NormMemBwdKernelIdeal.nD Cert.NormMemBwdKernelIdeal.τ).loc Cert.NormMemBwdKernelIdeal.main_arg0) = m ((c.tc : Thread Cert.NormMemBwdKernelIdeal.nD Cert.NormMemBwdKernelIdeal.τ).loc Cert.NormMemBwdKernelIdeal.main_arg0)
          ∧ r.2.mem ((c.tc : Thread Cert.NormMemBwdKernelIdeal.nD Cert.NormMemBwdKernelIdeal.τ).loc Cert.NormMemBwdKernelIdeal.main_arg1) = m ((c.tc : Thread Cert.NormMemBwdKernelIdeal.nD Cert.NormMemBwdKernelIdeal.τ).loc Cert.NormMemBwdKernelIdeal.main_arg1)
          ∧ r.2.mem ((c.tc : Thread Cert.NormMemBwdKernelIdeal.nD Cert.NormMemBwdKernelIdeal.τ).loc Cert.NormMemBwdKernelIdeal.main_arg2) = m ((c.tc : Thread Cert.NormMemBwdKernelIdeal.nD Cert.NormMemBwdKernelIdeal.τ).loc Cert.NormMemBwdKernelIdeal.main_arg2))
      ∧ θ_run (Cert.NormMemBwdReferenceIdeal.defs (F := Ideal)) (onTc (τ := Cert.NormMemBwdReferenceIdeal.τ) (Cert.NormMemBwdReferenceIdeal.main (F := Ideal))) ⟨m', fun _ => 0, g'⟩ (fun r => ∀ c : Dev Cert.NormMemBwdReferenceIdeal.nD,
          r.2.mem ((c.tc : Thread Cert.NormMemBwdReferenceIdeal.nD Cert.NormMemBwdReferenceIdeal.τ).loc Cert.NormMemBwdReferenceIdeal.main_v35) = v0 c
          ∧ r.2.mem ((c.tc : Thread Cert.NormMemBwdReferenceIdeal.nD Cert.NormMemBwdReferenceIdeal.τ).loc Cert.NormMemBwdReferenceIdeal.main_v36) = v1 c
          ∧ r.2.mem ((c.tc : Thread Cert.NormMemBwdReferenceIdeal.nD Cert.NormMemBwdReferenceIdeal.τ).loc Cert.NormMemBwdReferenceIdeal.main_arg0) = m' ((c.tc : Thread Cert.NormMemBwdReferenceIdeal.nD Cert.NormMemBwdReferenceIdeal.τ).loc Cert.NormMemBwdReferenceIdeal.main_arg0)
          ∧ r.2.mem ((c.tc : Thread Cert.NormMemBwdReferenceIdeal.nD Cert.NormMemBwdReferenceIdeal.τ).loc Cert.NormMemBwdReferenceIdeal.main_arg1) = m' ((c.tc : Thread Cert.NormMemBwdReferenceIdeal.nD Cert.NormMemBwdReferenceIdeal.τ).loc Cert.NormMemBwdReferenceIdeal.main_arg1)
          ∧ r.2.mem ((c.tc : Thread Cert.NormMemBwdReferenceIdeal.nD Cert.NormMemBwdReferenceIdeal.τ).loc Cert.NormMemBwdReferenceIdeal.main_arg2) = m' ((c.tc : Thread Cert.NormMemBwdReferenceIdeal.nD Cert.NormMemBwdReferenceIdeal.τ).loc Cert.NormMemBwdReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DactKernel_DactKernelIdeal : Prop :=
  True

def algebraic_DactKernelIdeal_DactReferenceIdeal [hDactKernelIdeal : Cert.DactKernelIdeal.Facts] [hDactReferenceIdeal : Cert.DactReferenceIdeal.Facts] : Prop :=
  ∀ (m : (ℓ : Loc Cert.DactKernelIdeal.nD Cert.DactKernelIdeal.τ Cert.DactKernelIdeal.sig) → Buf (Elt Ideal) ℓ) (g : Dev Cert.DactKernelIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactKernelIdeal m →
    (∀ c : Dev Cert.DactKernelIdeal.nD,
      m' ((c.tc : Thread Cert.DactReferenceIdeal.nD Cert.DactReferenceIdeal.τ).loc Cert.DactReferenceIdeal.main_arg0) = m ((c.tc : Thread Cert.DactKernelIdeal.nD Cert.DactKernelIdeal.τ).loc Cert.DactKernelIdeal.main_arg0)
      ∧ m' ((c.tc : Thread Cert.DactReferenceIdeal.nD Cert.DactReferenceIdeal.τ).loc Cert.DactReferenceIdeal.main_arg1) = m ((c.tc : Thread Cert.DactKernelIdeal.nD Cert.DactKernelIdeal.τ).loc Cert.DactKernelIdeal.main_arg1)) →
    ∃ (v0 : (c : Dev Cert.DactKernelIdeal.nD) → Buf (Elt Ideal) ((c.tc : Thread Cert.DactKernelIdeal.nD Cert.DactKernelIdeal.τ).loc Cert.DactKernelIdeal.main_v0)),
      θ_run (Cert.DactKernelIdeal.defs (F := Ideal)) (onTc (τ := Cert.DactKernelIdeal.τ) (Cert.DactKernelIdeal.main (F := Ideal))) ⟨m, fun _ => 0, g⟩ (fun r => ∀ c : Dev Cert.DactKernelIdeal.nD,
          r.2.mem ((c.tc : Thread Cert.DactKernelIdeal.nD Cert.DactKernelIdeal.τ).loc Cert.DactKernelIdeal.main_v0) = v0 c
          ∧ r.2.mem ((c.tc : Thread Cert.DactKernelIdeal.nD Cert.DactKernelIdeal.τ).loc Cert.DactKernelIdeal.main_arg0) = m ((c.tc : Thread Cert.DactKernelIdeal.nD Cert.DactKernelIdeal.τ).loc Cert.DactKernelIdeal.main_arg0)
          ∧ r.2.mem ((c.tc : Thread Cert.DactKernelIdeal.nD Cert.DactKernelIdeal.τ).loc Cert.DactKernelIdeal.main_arg1) = m ((c.tc : Thread Cert.DactKernelIdeal.nD Cert.DactKernelIdeal.τ).loc Cert.DactKernelIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v3) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_DwDownKernel_DwDownKernelIdeal : Prop :=
  True

def algebraic_DwDownKernelIdeal_DwDownReferenceIdeal [hDwDownKernelIdeal : Cert.DwDownKernelIdeal.Facts] [hDwDownReferenceIdeal : Cert.DwDownReferenceIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownKernelIdeal m →
    (∀ c : Dev Cert.DwDownKernelIdeal.nD,
      m' ((c.tc : Thread Cert.DwDownReferenceIdeal.nD Cert.DwDownReferenceIdeal.τ).loc Cert.DwDownReferenceIdeal.main_arg0) = m ((c.tc : Thread Cert.DwDownKernelIdeal.nD Cert.DwDownKernelIdeal.τ).loc Cert.DwDownKernelIdeal.main_arg0)
      ∧ m' ((c.tc : Thread Cert.DwDownReferenceIdeal.nD Cert.DwDownReferenceIdeal.τ).loc Cert.DwDownReferenceIdeal.main_arg1) = m ((c.tc : Thread Cert.DwDownKernelIdeal.nD Cert.DwDownKernelIdeal.τ).loc Cert.DwDownKernelIdeal.main_arg1)) →
    ∃ (v0 : (c : Dev Cert.DwDownKernelIdeal.nD) → Buf (Elt Ideal) ((c.tc : Thread Cert.DwDownKernelIdeal.nD Cert.DwDownKernelIdeal.τ).loc Cert.DwDownKernelIdeal.main_v0)),
      θ_run (Cert.DwDownKernelIdeal.defs (F := Ideal)) (onTc (τ := Cert.DwDownKernelIdeal.τ) (Cert.DwDownKernelIdeal.main (F := Ideal))) ⟨m, fun _ => 0, g⟩ (fun r => ∀ c : Dev Cert.DwDownKernelIdeal.nD,
          r.2.mem ((c.tc : Thread Cert.DwDownKernelIdeal.nD Cert.DwDownKernelIdeal.τ).loc Cert.DwDownKernelIdeal.main_v0) = v0 c
          ∧ r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
          ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v3) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_CqKernel_CqKernelIdeal : Prop :=
  True

def algebraic_CqKernelIdeal_CqReferenceIdeal [hCqKernelIdeal : Cert.CqKernelIdeal.Facts] [hCqReferenceIdeal : Cert.CqReferenceIdeal.Facts] : Prop :=
  ∀ (m : (ℓ : Loc Cert.CqKernelIdeal.nD Cert.CqKernelIdeal.τ Cert.CqKernelIdeal.sig) → Buf (Elt Ideal) ℓ) (g : Dev Cert.CqKernelIdeal.nD → PrngReg)
    (m' : (ℓ : Loc Cert.CqReferenceIdeal.nD Cert.CqReferenceIdeal.τ Cert.CqReferenceIdeal.sig) → Buf (Elt Ideal) ℓ) (g' : Dev Cert.CqReferenceIdeal.nD → PrngReg), Pre_CqKernelIdeal m →
    (∀ c : Dev Cert.CqKernelIdeal.nD,
      m' ((c.tc : Thread Cert.CqReferenceIdeal.nD Cert.CqReferenceIdeal.τ).loc Cert.CqReferenceIdeal.main_arg0) = m ((c.tc : Thread Cert.CqKernelIdeal.nD Cert.CqKernelIdeal.τ).loc Cert.CqKernelIdeal.main_arg0)
      ∧ m' ((c.tc : Thread Cert.CqReferenceIdeal.nD Cert.CqReferenceIdeal.τ).loc Cert.CqReferenceIdeal.main_arg1) = m ((c.tc : Thread Cert.CqKernelIdeal.nD Cert.CqKernelIdeal.τ).loc Cert.CqKernelIdeal.main_arg1)) →
    ∃ (v0 : (c : Dev Cert.CqKernelIdeal.nD) → Buf (Elt Ideal) ((c.tc : Thread Cert.CqKernelIdeal.nD Cert.CqKernelIdeal.τ).loc Cert.CqKernelIdeal.main_v0)),
      θ_run (Cert.CqKernelIdeal.defs (F := Ideal)) (onTc (τ := Cert.CqKernelIdeal.τ) (Cert.CqKernelIdeal.main (F := Ideal))) ⟨m, fun _ => 0, g⟩ (fun r => ∀ c : Dev Cert.CqKernelIdeal.nD,
          r.2.mem ((c.tc : Thread Cert.CqKernelIdeal.nD Cert.CqKernelIdeal.τ).loc Cert.CqKernelIdeal.main_v0) = v0 c
          ∧ r.2.mem ((c.tc : Thread Cert.CqKernelIdeal.nD Cert.CqKernelIdeal.τ).loc Cert.CqKernelIdeal.main_arg0) = m ((c.tc : Thread Cert.CqKernelIdeal.nD Cert.CqKernelIdeal.τ).loc Cert.CqKernelIdeal.main_arg0)
          ∧ r.2.mem ((c.tc : Thread Cert.CqKernelIdeal.nD Cert.CqKernelIdeal.τ).loc Cert.CqKernelIdeal.main_arg1) = m ((c.tc : Thread Cert.CqKernelIdeal.nD Cert.CqKernelIdeal.τ).loc Cert.CqKernelIdeal.main_arg1))
      ∧ θ_run (Cert.CqReferenceIdeal.defs (F := Ideal)) (onTc (τ := Cert.CqReferenceIdeal.τ) (Cert.CqReferenceIdeal.main (F := Ideal))) ⟨m', fun _ => 0, g'⟩ (fun r => ∀ c : Dev Cert.CqReferenceIdeal.nD,
          r.2.mem ((c.tc : Thread Cert.CqReferenceIdeal.nD Cert.CqReferenceIdeal.τ).loc Cert.CqReferenceIdeal.main_v1) = v0 c
          ∧ r.2.mem ((c.tc : Thread Cert.CqReferenceIdeal.nD Cert.CqReferenceIdeal.τ).loc Cert.CqReferenceIdeal.main_arg0) = m' ((c.tc : Thread Cert.CqReferenceIdeal.nD Cert.CqReferenceIdeal.τ).loc Cert.CqReferenceIdeal.main_arg0)
          ∧ r.2.mem ((c.tc : Thread Cert.CqReferenceIdeal.nD Cert.CqReferenceIdeal.τ).loc Cert.CqReferenceIdeal.main_arg1) = m' ((c.tc : Thread Cert.CqReferenceIdeal.nD Cert.CqReferenceIdeal.τ).loc Cert.CqReferenceIdeal.main_arg1))

def preserves_CkKernel_CkKernelIdeal : Prop :=
  True

def algebraic_CkKernelIdeal_CkReferenceIdeal [hCkKernelIdeal : Cert.CkKernelIdeal.Facts] [hCkReferenceIdeal : Cert.CkReferenceIdeal.Facts] : Prop :=
  ∀ (m : (ℓ : Loc Cert.CkKernelIdeal.nD Cert.CkKernelIdeal.τ Cert.CkKernelIdeal.sig) → Buf (Elt Ideal) ℓ) (g : Dev Cert.CkKernelIdeal.nD → PrngReg)
    (m' : (ℓ : Loc Cert.CkReferenceIdeal.nD Cert.CkReferenceIdeal.τ Cert.CkReferenceIdeal.sig) → Buf (Elt Ideal) ℓ) (g' : Dev Cert.CkReferenceIdeal.nD → PrngReg), Pre_CkKernelIdeal m →
    (∀ c : Dev Cert.CkKernelIdeal.nD,
      m' ((c.tc : Thread Cert.CkReferenceIdeal.nD Cert.CkReferenceIdeal.τ).loc Cert.CkReferenceIdeal.main_arg0) = m ((c.tc : Thread Cert.CkKernelIdeal.nD Cert.CkKernelIdeal.τ).loc Cert.CkKernelIdeal.main_arg0)
      ∧ m' ((c.tc : Thread Cert.CkReferenceIdeal.nD Cert.CkReferenceIdeal.τ).loc Cert.CkReferenceIdeal.main_arg1) = m ((c.tc : Thread Cert.CkKernelIdeal.nD Cert.CkKernelIdeal.τ).loc Cert.CkKernelIdeal.main_arg1)) →
    ∃ (v0 : (c : Dev Cert.CkKernelIdeal.nD) → Buf (Elt Ideal) ((c.tc : Thread Cert.CkKernelIdeal.nD Cert.CkKernelIdeal.τ).loc Cert.CkKernelIdeal.main_v0)),
      θ_run (Cert.CkKernelIdeal.defs (F := Ideal)) (onTc (τ := Cert.CkKernelIdeal.τ) (Cert.CkKernelIdeal.main (F := Ideal))) ⟨m, fun _ => 0, g⟩ (fun r => ∀ c : Dev Cert.CkKernelIdeal.nD,
          r.2.mem ((c.tc : Thread Cert.CkKernelIdeal.nD Cert.CkKernelIdeal.τ).loc Cert.CkKernelIdeal.main_v0) = v0 c
          ∧ r.2.mem ((c.tc : Thread Cert.CkKernelIdeal.nD Cert.CkKernelIdeal.τ).loc Cert.CkKernelIdeal.main_arg0) = m ((c.tc : Thread Cert.CkKernelIdeal.nD Cert.CkKernelIdeal.τ).loc Cert.CkKernelIdeal.main_arg0)
          ∧ r.2.mem ((c.tc : Thread Cert.CkKernelIdeal.nD Cert.CkKernelIdeal.τ).loc Cert.CkKernelIdeal.main_arg1) = m ((c.tc : Thread Cert.CkKernelIdeal.nD Cert.CkKernelIdeal.τ).loc Cert.CkKernelIdeal.main_arg1))
      ∧ θ_run (Cert.CkReferenceIdeal.defs (F := Ideal)) (onTc (τ := Cert.CkReferenceIdeal.τ) (Cert.CkReferenceIdeal.main (F := Ideal))) ⟨m', fun _ => 0, g'⟩ (fun r => ∀ c : Dev Cert.CkReferenceIdeal.nD,
          r.2.mem ((c.tc : Thread Cert.CkReferenceIdeal.nD Cert.CkReferenceIdeal.τ).loc Cert.CkReferenceIdeal.main_v1) = v0 c
          ∧ r.2.mem ((c.tc : Thread Cert.CkReferenceIdeal.nD Cert.CkReferenceIdeal.τ).loc Cert.CkReferenceIdeal.main_arg0) = m' ((c.tc : Thread Cert.CkReferenceIdeal.nD Cert.CkReferenceIdeal.τ).loc Cert.CkReferenceIdeal.main_arg0)
          ∧ r.2.mem ((c.tc : Thread Cert.CkReferenceIdeal.nD Cert.CkReferenceIdeal.τ).loc Cert.CkReferenceIdeal.main_arg1) = m' ((c.tc : Thread Cert.CkReferenceIdeal.nD Cert.CkReferenceIdeal.τ).loc Cert.CkReferenceIdeal.main_arg1))

def preserves_CoKernel_CoKernelIdeal : Prop :=
  True

def algebraic_CoKernelIdeal_CoReferenceIdeal [hCoKernelIdeal : Cert.CoKernelIdeal.Facts] [hCoReferenceIdeal : Cert.CoReferenceIdeal.Facts] : Prop :=
  ∀ (m : (ℓ : Loc Cert.CoKernelIdeal.nD Cert.CoKernelIdeal.τ Cert.CoKernelIdeal.sig) → Buf (Elt Ideal) ℓ) (g : Dev Cert.CoKernelIdeal.nD → PrngReg)
    (m' : (ℓ : Loc Cert.CoReferenceIdeal.nD Cert.CoReferenceIdeal.τ Cert.CoReferenceIdeal.sig) → Buf (Elt Ideal) ℓ) (g' : Dev Cert.CoReferenceIdeal.nD → PrngReg), Pre_CoKernelIdeal m →
    (∀ c : Dev Cert.CoKernelIdeal.nD,
      m' ((c.tc : Thread Cert.CoReferenceIdeal.nD Cert.CoReferenceIdeal.τ).loc Cert.CoReferenceIdeal.main_arg0) = m ((c.tc : Thread Cert.CoKernelIdeal.nD Cert.CoKernelIdeal.τ).loc Cert.CoKernelIdeal.main_arg0)
      ∧ m' ((c.tc : Thread Cert.CoReferenceIdeal.nD Cert.CoReferenceIdeal.τ).loc Cert.CoReferenceIdeal.main_arg1) = m ((c.tc : Thread Cert.CoKernelIdeal.nD Cert.CoKernelIdeal.τ).loc Cert.CoKernelIdeal.main_arg1)
      ∧ m' ((c.tc : Thread Cert.CoReferenceIdeal.nD Cert.CoReferenceIdeal.τ).loc Cert.CoReferenceIdeal.main_arg2) = m ((c.tc : Thread Cert.CoKernelIdeal.nD Cert.CoKernelIdeal.τ).loc Cert.CoKernelIdeal.main_arg2)) →
    ∃ (v0 : (c : Dev Cert.CoKernelIdeal.nD) → Buf (Elt Ideal) ((c.tc : Thread Cert.CoKernelIdeal.nD Cert.CoKernelIdeal.τ).loc Cert.CoKernelIdeal.main_v0)),
      θ_run (Cert.CoKernelIdeal.defs (F := Ideal)) (onTc (τ := Cert.CoKernelIdeal.τ) (Cert.CoKernelIdeal.main (F := Ideal))) ⟨m, fun _ => 0, g⟩ (fun r => ∀ c : Dev Cert.CoKernelIdeal.nD,
          r.2.mem ((c.tc : Thread Cert.CoKernelIdeal.nD Cert.CoKernelIdeal.τ).loc Cert.CoKernelIdeal.main_v0) = v0 c
          ∧ r.2.mem ((c.tc : Thread Cert.CoKernelIdeal.nD Cert.CoKernelIdeal.τ).loc Cert.CoKernelIdeal.main_arg0) = m ((c.tc : Thread Cert.CoKernelIdeal.nD Cert.CoKernelIdeal.τ).loc Cert.CoKernelIdeal.main_arg0)
          ∧ r.2.mem ((c.tc : Thread Cert.CoKernelIdeal.nD Cert.CoKernelIdeal.τ).loc Cert.CoKernelIdeal.main_arg1) = m ((c.tc : Thread Cert.CoKernelIdeal.nD Cert.CoKernelIdeal.τ).loc Cert.CoKernelIdeal.main_arg1)
          ∧ r.2.mem ((c.tc : Thread Cert.CoKernelIdeal.nD Cert.CoKernelIdeal.τ).loc Cert.CoKernelIdeal.main_arg2) = m ((c.tc : Thread Cert.CoKernelIdeal.nD Cert.CoKernelIdeal.τ).loc Cert.CoKernelIdeal.main_arg2))
      ∧ θ_run (Cert.CoReferenceIdeal.defs (F := Ideal)) (onTc (τ := Cert.CoReferenceIdeal.τ) (Cert.CoReferenceIdeal.main (F := Ideal))) ⟨m', fun _ => 0, g'⟩ (fun r => ∀ c : Dev Cert.CoReferenceIdeal.nD,
          r.2.mem ((c.tc : Thread Cert.CoReferenceIdeal.nD Cert.CoReferenceIdeal.τ).loc Cert.CoReferenceIdeal.main_v2) = v0 c
          ∧ r.2.mem ((c.tc : Thread Cert.CoReferenceIdeal.nD Cert.CoReferenceIdeal.τ).loc Cert.CoReferenceIdeal.main_arg0) = m' ((c.tc : Thread Cert.CoReferenceIdeal.nD Cert.CoReferenceIdeal.τ).loc Cert.CoReferenceIdeal.main_arg0)
          ∧ r.2.mem ((c.tc : Thread Cert.CoReferenceIdeal.nD Cert.CoReferenceIdeal.τ).loc Cert.CoReferenceIdeal.main_arg1) = m' ((c.tc : Thread Cert.CoReferenceIdeal.nD Cert.CoReferenceIdeal.τ).loc Cert.CoReferenceIdeal.main_arg1)
          ∧ r.2.mem ((c.tc : Thread Cert.CoReferenceIdeal.nD Cert.CoReferenceIdeal.τ).loc Cert.CoReferenceIdeal.main_arg2) = m' ((c.tc : Thread Cert.CoReferenceIdeal.nD Cert.CoReferenceIdeal.τ).loc Cert.CoReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DhnKernel_DhnKernelIdeal : Prop :=
  True

def algebraic_DhnKernelIdeal_DhnReferenceIdeal [hDhnKernelIdeal : Cert.DhnKernelIdeal.Facts] [hDhnReferenceIdeal : Cert.DhnReferenceIdeal.Facts] : Prop :=
  ∀ (m : (ℓ : Loc Cert.DhnKernelIdeal.nD Cert.DhnKernelIdeal.τ Cert.DhnKernelIdeal.sig) → Buf (Elt Ideal) ℓ) (g : Dev Cert.DhnKernelIdeal.nD → PrngReg)
    (m' : (ℓ : Loc Cert.DhnReferenceIdeal.nD Cert.DhnReferenceIdeal.τ Cert.DhnReferenceIdeal.sig) → Buf (Elt Ideal) ℓ) (g' : Dev Cert.DhnReferenceIdeal.nD → PrngReg), Pre_DhnKernelIdeal m →
    (∀ c : Dev Cert.DhnKernelIdeal.nD,
      m' ((c.tc : Thread Cert.DhnReferenceIdeal.nD Cert.DhnReferenceIdeal.τ).loc Cert.DhnReferenceIdeal.main_arg0) = m ((c.tc : Thread Cert.DhnKernelIdeal.nD Cert.DhnKernelIdeal.τ).loc Cert.DhnKernelIdeal.main_arg0)
      ∧ m' ((c.tc : Thread Cert.DhnReferenceIdeal.nD Cert.DhnReferenceIdeal.τ).loc Cert.DhnReferenceIdeal.main_arg1) = m ((c.tc : Thread Cert.DhnKernelIdeal.nD Cert.DhnKernelIdeal.τ).loc Cert.DhnKernelIdeal.main_arg1)) →
    ∃ (v0 : (c : Dev Cert.DhnKernelIdeal.nD) → Buf (Elt Ideal) ((c.tc : Thread Cert.DhnKernelIdeal.nD Cert.DhnKernelIdeal.τ).loc Cert.DhnKernelIdeal.main_v0)),
      θ_run (Cert.DhnKernelIdeal.defs (F := Ideal)) (onTc (τ := Cert.DhnKernelIdeal.τ) (Cert.DhnKernelIdeal.main (F := Ideal))) ⟨m, fun _ => 0, g⟩ (fun r => ∀ c : Dev Cert.DhnKernelIdeal.nD,
          r.2.mem ((c.tc : Thread Cert.DhnKernelIdeal.nD Cert.DhnKernelIdeal.τ).loc Cert.DhnKernelIdeal.main_v0) = v0 c
          ∧ r.2.mem ((c.tc : Thread Cert.DhnKernelIdeal.nD Cert.DhnKernelIdeal.τ).loc Cert.DhnKernelIdeal.main_arg0) = m ((c.tc : Thread Cert.DhnKernelIdeal.nD Cert.DhnKernelIdeal.τ).loc Cert.DhnKernelIdeal.main_arg0)
          ∧ r.2.mem ((c.tc : Thread Cert.DhnKernelIdeal.nD Cert.DhnKernelIdeal.τ).loc Cert.DhnKernelIdeal.main_arg1) = m ((c.tc : Thread Cert.DhnKernelIdeal.nD Cert.DhnKernelIdeal.τ).loc Cert.DhnKernelIdeal.main_arg1))
      ∧ θ_run (Cert.DhnReferenceIdeal.defs (F := Ideal)) (onTc (τ := Cert.DhnReferenceIdeal.τ) (Cert.DhnReferenceIdeal.main (F := Ideal))) ⟨m', fun _ => 0, g'⟩ (fun r => ∀ c : Dev Cert.DhnReferenceIdeal.nD,
          r.2.mem ((c.tc : Thread Cert.DhnReferenceIdeal.nD Cert.DhnReferenceIdeal.τ).loc Cert.DhnReferenceIdeal.main_v3) = v0 c
          ∧ r.2.mem ((c.tc : Thread Cert.DhnReferenceIdeal.nD Cert.DhnReferenceIdeal.τ).loc Cert.DhnReferenceIdeal.main_arg0) = m' ((c.tc : Thread Cert.DhnReferenceIdeal.nD Cert.DhnReferenceIdeal.τ).loc Cert.DhnReferenceIdeal.main_arg0)
          ∧ r.2.mem ((c.tc : Thread Cert.DhnReferenceIdeal.nD Cert.DhnReferenceIdeal.τ).loc Cert.DhnReferenceIdeal.main_arg1) = m' ((c.tc : Thread Cert.DhnReferenceIdeal.nD Cert.DhnReferenceIdeal.τ).loc Cert.DhnReferenceIdeal.main_arg1))

def preserves_DocKernel_DocKernelIdeal : Prop :=
  True

def algebraic_DocKernelIdeal_DocReferenceIdeal [hDocKernelIdeal : Cert.DocKernelIdeal.Facts] [hDocReferenceIdeal : Cert.DocReferenceIdeal.Facts] : Prop :=
  ∀ (m : (ℓ : Loc Cert.DocKernelIdeal.nD Cert.DocKernelIdeal.τ Cert.DocKernelIdeal.sig) → Buf (Elt Ideal) ℓ) (g : Dev Cert.DocKernelIdeal.nD → PrngReg)
    (m' : (ℓ : Loc Cert.DocReferenceIdeal.nD Cert.DocReferenceIdeal.τ Cert.DocReferenceIdeal.sig) → Buf (Elt Ideal) ℓ) (g' : Dev Cert.DocReferenceIdeal.nD → PrngReg), Pre_DocKernelIdeal m →
    (∀ c : Dev Cert.DocKernelIdeal.nD,
      m' ((c.tc : Thread Cert.DocReferenceIdeal.nD Cert.DocReferenceIdeal.τ).loc Cert.DocReferenceIdeal.main_arg0) = m ((c.tc : Thread Cert.DocKernelIdeal.nD Cert.DocKernelIdeal.τ).loc Cert.DocKernelIdeal.main_arg0)
      ∧ m' ((c.tc : Thread Cert.DocReferenceIdeal.nD Cert.DocReferenceIdeal.τ).loc Cert.DocReferenceIdeal.main_arg1) = m ((c.tc : Thread Cert.DocKernelIdeal.nD Cert.DocKernelIdeal.τ).loc Cert.DocKernelIdeal.main_arg1)) →
    ∃ (v0 : (c : Dev Cert.DocKernelIdeal.nD) → Buf (Elt Ideal) ((c.tc : Thread Cert.DocKernelIdeal.nD Cert.DocKernelIdeal.τ).loc Cert.DocKernelIdeal.main_v0)),
      θ_run (Cert.DocKernelIdeal.defs (F := Ideal)) (onTc (τ := Cert.DocKernelIdeal.τ) (Cert.DocKernelIdeal.main (F := Ideal))) ⟨m, fun _ => 0, g⟩ (fun r => ∀ c : Dev Cert.DocKernelIdeal.nD,
          r.2.mem ((c.tc : Thread Cert.DocKernelIdeal.nD Cert.DocKernelIdeal.τ).loc Cert.DocKernelIdeal.main_v0) = v0 c
          ∧ r.2.mem ((c.tc : Thread Cert.DocKernelIdeal.nD Cert.DocKernelIdeal.τ).loc Cert.DocKernelIdeal.main_arg0) = m ((c.tc : Thread Cert.DocKernelIdeal.nD Cert.DocKernelIdeal.τ).loc Cert.DocKernelIdeal.main_arg0)
          ∧ r.2.mem ((c.tc : Thread Cert.DocKernelIdeal.nD Cert.DocKernelIdeal.τ).loc Cert.DocKernelIdeal.main_arg1) = m ((c.tc : Thread Cert.DocKernelIdeal.nD Cert.DocKernelIdeal.τ).loc Cert.DocKernelIdeal.main_arg1))
      ∧ θ_run (Cert.DocReferenceIdeal.defs (F := Ideal)) (onTc (τ := Cert.DocReferenceIdeal.τ) (Cert.DocReferenceIdeal.main (F := Ideal))) ⟨m', fun _ => 0, g'⟩ (fun r => ∀ c : Dev Cert.DocReferenceIdeal.nD,
          r.2.mem ((c.tc : Thread Cert.DocReferenceIdeal.nD Cert.DocReferenceIdeal.τ).loc Cert.DocReferenceIdeal.main_v3) = v0 c
          ∧ r.2.mem ((c.tc : Thread Cert.DocReferenceIdeal.nD Cert.DocReferenceIdeal.τ).loc Cert.DocReferenceIdeal.main_arg0) = m' ((c.tc : Thread Cert.DocReferenceIdeal.nD Cert.DocReferenceIdeal.τ).loc Cert.DocReferenceIdeal.main_arg0)
          ∧ r.2.mem ((c.tc : Thread Cert.DocReferenceIdeal.nD Cert.DocReferenceIdeal.τ).loc Cert.DocReferenceIdeal.main_arg1) = m' ((c.tc : Thread Cert.DocReferenceIdeal.nD Cert.DocReferenceIdeal.τ).loc Cert.DocReferenceIdeal.main_arg1))

def preserves_DhqKernel_DhqKernelIdeal : Prop :=
  True

def algebraic_DhqKernelIdeal_DhqReferenceIdeal [hDhqKernelIdeal : Cert.DhqKernelIdeal.Facts] [hDhqReferenceIdeal : Cert.DhqReferenceIdeal.Facts] : Prop :=
  ∀ (m : (ℓ : Loc Cert.DhqKernelIdeal.nD Cert.DhqKernelIdeal.τ Cert.DhqKernelIdeal.sig) → Buf (Elt Ideal) ℓ) (g : Dev Cert.DhqKernelIdeal.nD → PrngReg)
    (m' : (ℓ : Loc Cert.DhqReferenceIdeal.nD Cert.DhqReferenceIdeal.τ Cert.DhqReferenceIdeal.sig) → Buf (Elt Ideal) ℓ) (g' : Dev Cert.DhqReferenceIdeal.nD → PrngReg), Pre_DhqKernelIdeal m →
    (∀ c : Dev Cert.DhqKernelIdeal.nD,
      m' ((c.tc : Thread Cert.DhqReferenceIdeal.nD Cert.DhqReferenceIdeal.τ).loc Cert.DhqReferenceIdeal.main_arg0) = m ((c.tc : Thread Cert.DhqKernelIdeal.nD Cert.DhqKernelIdeal.τ).loc Cert.DhqKernelIdeal.main_arg0)
      ∧ m' ((c.tc : Thread Cert.DhqReferenceIdeal.nD Cert.DhqReferenceIdeal.τ).loc Cert.DhqReferenceIdeal.main_arg1) = m ((c.tc : Thread Cert.DhqKernelIdeal.nD Cert.DhqKernelIdeal.τ).loc Cert.DhqKernelIdeal.main_arg1)) →
    ∃ (v0 : (c : Dev Cert.DhqKernelIdeal.nD) → Buf (Elt Ideal) ((c.tc : Thread Cert.DhqKernelIdeal.nD Cert.DhqKernelIdeal.τ).loc Cert.DhqKernelIdeal.main_v0)),
      θ_run (Cert.DhqKernelIdeal.defs (F := Ideal)) (onTc (τ := Cert.DhqKernelIdeal.τ) (Cert.DhqKernelIdeal.main (F := Ideal))) ⟨m, fun _ => 0, g⟩ (fun r => ∀ c : Dev Cert.DhqKernelIdeal.nD,
          r.2.mem ((c.tc : Thread Cert.DhqKernelIdeal.nD Cert.DhqKernelIdeal.τ).loc Cert.DhqKernelIdeal.main_v0) = v0 c
          ∧ r.2.mem ((c.tc : Thread Cert.DhqKernelIdeal.nD Cert.DhqKernelIdeal.τ).loc Cert.DhqKernelIdeal.main_arg0) = m ((c.tc : Thread Cert.DhqKernelIdeal.nD Cert.DhqKernelIdeal.τ).loc Cert.DhqKernelIdeal.main_arg0)
          ∧ r.2.mem ((c.tc : Thread Cert.DhqKernelIdeal.nD Cert.DhqKernelIdeal.τ).loc Cert.DhqKernelIdeal.main_arg1) = m ((c.tc : Thread Cert.DhqKernelIdeal.nD Cert.DhqKernelIdeal.τ).loc Cert.DhqKernelIdeal.main_arg1))
      ∧ θ_run (Cert.DhqReferenceIdeal.defs (F := Ideal)) (onTc (τ := Cert.DhqReferenceIdeal.τ) (Cert.DhqReferenceIdeal.main (F := Ideal))) ⟨m', fun _ => 0, g'⟩ (fun r => ∀ c : Dev Cert.DhqReferenceIdeal.nD,
          r.2.mem ((c.tc : Thread Cert.DhqReferenceIdeal.nD Cert.DhqReferenceIdeal.τ).loc Cert.DhqReferenceIdeal.main_v3) = v0 c
          ∧ r.2.mem ((c.tc : Thread Cert.DhqReferenceIdeal.nD Cert.DhqReferenceIdeal.τ).loc Cert.DhqReferenceIdeal.main_arg0) = m' ((c.tc : Thread Cert.DhqReferenceIdeal.nD Cert.DhqReferenceIdeal.τ).loc Cert.DhqReferenceIdeal.main_arg0)
          ∧ r.2.mem ((c.tc : Thread Cert.DhqReferenceIdeal.nD Cert.DhqReferenceIdeal.τ).loc Cert.DhqReferenceIdeal.main_arg1) = m' ((c.tc : Thread Cert.DhqReferenceIdeal.nD Cert.DhqReferenceIdeal.τ).loc Cert.DhqReferenceIdeal.main_arg1))

def preserves_DmemKKernel_DmemKKernelIdeal : Prop :=
  True

def algebraic_DmemKKernelIdeal_DmemKReferenceIdeal [hDmemKKernelIdeal : Cert.DmemKKernelIdeal.Facts] [hDmemKReferenceIdeal : Cert.DmemKReferenceIdeal.Facts] : Prop :=
  ∀ (m : (ℓ : Loc Cert.DmemKKernelIdeal.nD Cert.DmemKKernelIdeal.τ Cert.DmemKKernelIdeal.sig) → Buf (Elt Ideal) ℓ) (g : Dev Cert.DmemKKernelIdeal.nD → PrngReg)
    (m' : (ℓ : Loc Cert.DmemKReferenceIdeal.nD Cert.DmemKReferenceIdeal.τ Cert.DmemKReferenceIdeal.sig) → Buf (Elt Ideal) ℓ) (g' : Dev Cert.DmemKReferenceIdeal.nD → PrngReg), Pre_DmemKKernelIdeal m →
    (∀ c : Dev Cert.DmemKKernelIdeal.nD,
      m' ((c.tc : Thread Cert.DmemKReferenceIdeal.nD Cert.DmemKReferenceIdeal.τ).loc Cert.DmemKReferenceIdeal.main_arg0) = m ((c.tc : Thread Cert.DmemKKernelIdeal.nD Cert.DmemKKernelIdeal.τ).loc Cert.DmemKKernelIdeal.main_arg0)
      ∧ m' ((c.tc : Thread Cert.DmemKReferenceIdeal.nD Cert.DmemKReferenceIdeal.τ).loc Cert.DmemKReferenceIdeal.main_arg1) = m ((c.tc : Thread Cert.DmemKKernelIdeal.nD Cert.DmemKKernelIdeal.τ).loc Cert.DmemKKernelIdeal.main_arg1)) →
    ∃ (v0 : (c : Dev Cert.DmemKKernelIdeal.nD) → Buf (Elt Ideal) ((c.tc : Thread Cert.DmemKKernelIdeal.nD Cert.DmemKKernelIdeal.τ).loc Cert.DmemKKernelIdeal.main_v0)),
      θ_run (Cert.DmemKKernelIdeal.defs (F := Ideal)) (onTc (τ := Cert.DmemKKernelIdeal.τ) (Cert.DmemKKernelIdeal.main (F := Ideal))) ⟨m, fun _ => 0, g⟩ (fun r => ∀ c : Dev Cert.DmemKKernelIdeal.nD,
          r.2.mem ((c.tc : Thread Cert.DmemKKernelIdeal.nD Cert.DmemKKernelIdeal.τ).loc Cert.DmemKKernelIdeal.main_v0) = v0 c
          ∧ r.2.mem ((c.tc : Thread Cert.DmemKKernelIdeal.nD Cert.DmemKKernelIdeal.τ).loc Cert.DmemKKernelIdeal.main_arg0) = m ((c.tc : Thread Cert.DmemKKernelIdeal.nD Cert.DmemKKernelIdeal.τ).loc Cert.DmemKKernelIdeal.main_arg0)
          ∧ r.2.mem ((c.tc : Thread Cert.DmemKKernelIdeal.nD Cert.DmemKKernelIdeal.τ).loc Cert.DmemKKernelIdeal.main_arg1) = m ((c.tc : Thread Cert.DmemKKernelIdeal.nD Cert.DmemKKernelIdeal.τ).loc Cert.DmemKKernelIdeal.main_arg1))
      ∧ θ_run (Cert.DmemKReferenceIdeal.defs (F := Ideal)) (onTc (τ := Cert.DmemKReferenceIdeal.τ) (Cert.DmemKReferenceIdeal.main (F := Ideal))) ⟨m', fun _ => 0, g'⟩ (fun r => ∀ c : Dev Cert.DmemKReferenceIdeal.nD,
          r.2.mem ((c.tc : Thread Cert.DmemKReferenceIdeal.nD Cert.DmemKReferenceIdeal.τ).loc Cert.DmemKReferenceIdeal.main_v3) = v0 c
          ∧ r.2.mem ((c.tc : Thread Cert.DmemKReferenceIdeal.nD Cert.DmemKReferenceIdeal.τ).loc Cert.DmemKReferenceIdeal.main_arg0) = m' ((c.tc : Thread Cert.DmemKReferenceIdeal.nD Cert.DmemKReferenceIdeal.τ).loc Cert.DmemKReferenceIdeal.main_arg0)
          ∧ r.2.mem ((c.tc : Thread Cert.DmemKReferenceIdeal.nD Cert.DmemKReferenceIdeal.τ).loc Cert.DmemKReferenceIdeal.main_arg1) = m' ((c.tc : Thread Cert.DmemKReferenceIdeal.nD Cert.DmemKReferenceIdeal.τ).loc Cert.DmemKReferenceIdeal.main_arg1))

def preserves_DmemVKernel_DmemVKernelIdeal : Prop :=
  True

def algebraic_DmemVKernelIdeal_DmemVReferenceIdeal [hDmemVKernelIdeal : Cert.DmemVKernelIdeal.Facts] [hDmemVReferenceIdeal : Cert.DmemVReferenceIdeal.Facts] : Prop :=
  ∀ (m : (ℓ : Loc Cert.DmemVKernelIdeal.nD Cert.DmemVKernelIdeal.τ Cert.DmemVKernelIdeal.sig) → Buf (Elt Ideal) ℓ) (g : Dev Cert.DmemVKernelIdeal.nD → PrngReg)
    (m' : (ℓ : Loc Cert.DmemVReferenceIdeal.nD Cert.DmemVReferenceIdeal.τ Cert.DmemVReferenceIdeal.sig) → Buf (Elt Ideal) ℓ) (g' : Dev Cert.DmemVReferenceIdeal.nD → PrngReg), Pre_DmemVKernelIdeal m →
    (∀ c : Dev Cert.DmemVKernelIdeal.nD,
      m' ((c.tc : Thread Cert.DmemVReferenceIdeal.nD Cert.DmemVReferenceIdeal.τ).loc Cert.DmemVReferenceIdeal.main_arg0) = m ((c.tc : Thread Cert.DmemVKernelIdeal.nD Cert.DmemVKernelIdeal.τ).loc Cert.DmemVKernelIdeal.main_arg0)
      ∧ m' ((c.tc : Thread Cert.DmemVReferenceIdeal.nD Cert.DmemVReferenceIdeal.τ).loc Cert.DmemVReferenceIdeal.main_arg1) = m ((c.tc : Thread Cert.DmemVKernelIdeal.nD Cert.DmemVKernelIdeal.τ).loc Cert.DmemVKernelIdeal.main_arg1)
      ∧ m' ((c.tc : Thread Cert.DmemVReferenceIdeal.nD Cert.DmemVReferenceIdeal.τ).loc Cert.DmemVReferenceIdeal.main_arg2) = m ((c.tc : Thread Cert.DmemVKernelIdeal.nD Cert.DmemVKernelIdeal.τ).loc Cert.DmemVKernelIdeal.main_arg2)) →
    ∃ (v0 : (c : Dev Cert.DmemVKernelIdeal.nD) → Buf (Elt Ideal) ((c.tc : Thread Cert.DmemVKernelIdeal.nD Cert.DmemVKernelIdeal.τ).loc Cert.DmemVKernelIdeal.main_v0)),
      θ_run (Cert.DmemVKernelIdeal.defs (F := Ideal)) (onTc (τ := Cert.DmemVKernelIdeal.τ) (Cert.DmemVKernelIdeal.main (F := Ideal))) ⟨m, fun _ => 0, g⟩ (fun r => ∀ c : Dev Cert.DmemVKernelIdeal.nD,
          r.2.mem ((c.tc : Thread Cert.DmemVKernelIdeal.nD Cert.DmemVKernelIdeal.τ).loc Cert.DmemVKernelIdeal.main_v0) = v0 c
          ∧ r.2.mem ((c.tc : Thread Cert.DmemVKernelIdeal.nD Cert.DmemVKernelIdeal.τ).loc Cert.DmemVKernelIdeal.main_arg0) = m ((c.tc : Thread Cert.DmemVKernelIdeal.nD Cert.DmemVKernelIdeal.τ).loc Cert.DmemVKernelIdeal.main_arg0)
          ∧ r.2.mem ((c.tc : Thread Cert.DmemVKernelIdeal.nD Cert.DmemVKernelIdeal.τ).loc Cert.DmemVKernelIdeal.main_arg1) = m ((c.tc : Thread Cert.DmemVKernelIdeal.nD Cert.DmemVKernelIdeal.τ).loc Cert.DmemVKernelIdeal.main_arg1)
          ∧ r.2.mem ((c.tc : Thread Cert.DmemVKernelIdeal.nD Cert.DmemVKernelIdeal.τ).loc Cert.DmemVKernelIdeal.main_arg2) = m ((c.tc : Thread Cert.DmemVKernelIdeal.nD Cert.DmemVKernelIdeal.τ).loc Cert.DmemVKernelIdeal.main_arg2))
      ∧ θ_run (Cert.DmemVReferenceIdeal.defs (F := Ideal)) (onTc (τ := Cert.DmemVReferenceIdeal.τ) (Cert.DmemVReferenceIdeal.main (F := Ideal))) ⟨m', fun _ => 0, g'⟩ (fun r => ∀ c : Dev Cert.DmemVReferenceIdeal.nD,
          r.2.mem ((c.tc : Thread Cert.DmemVReferenceIdeal.nD Cert.DmemVReferenceIdeal.τ).loc Cert.DmemVReferenceIdeal.main_v4) = v0 c
          ∧ r.2.mem ((c.tc : Thread Cert.DmemVReferenceIdeal.nD Cert.DmemVReferenceIdeal.τ).loc Cert.DmemVReferenceIdeal.main_arg0) = m' ((c.tc : Thread Cert.DmemVReferenceIdeal.nD Cert.DmemVReferenceIdeal.τ).loc Cert.DmemVReferenceIdeal.main_arg0)
          ∧ r.2.mem ((c.tc : Thread Cert.DmemVReferenceIdeal.nD Cert.DmemVReferenceIdeal.τ).loc Cert.DmemVReferenceIdeal.main_arg1) = m' ((c.tc : Thread Cert.DmemVReferenceIdeal.nD Cert.DmemVReferenceIdeal.τ).loc Cert.DmemVReferenceIdeal.main_arg1)
          ∧ r.2.mem ((c.tc : Thread Cert.DmemVReferenceIdeal.nD Cert.DmemVReferenceIdeal.τ).loc Cert.DmemVReferenceIdeal.main_arg2) = m' ((c.tc : Thread Cert.DmemVReferenceIdeal.nD Cert.DmemVReferenceIdeal.τ).loc Cert.DmemVReferenceIdeal.main_arg2))

def preserves_DmixedKernel_DmixedKernelIdeal : Prop :=
  True

def algebraic_DmixedKernelIdeal_DmixedReferenceIdeal [hDmixedKernelIdeal : Cert.DmixedKernelIdeal.Facts] [hDmixedReferenceIdeal : Cert.DmixedReferenceIdeal.Facts] : Prop :=
  ∀ (m : (ℓ : Loc Cert.DmixedKernelIdeal.nD Cert.DmixedKernelIdeal.τ Cert.DmixedKernelIdeal.sig) → Buf (Elt Ideal) ℓ) (g : Dev Cert.DmixedKernelIdeal.nD → PrngReg)
    (m' : (ℓ : Loc Cert.DmixedReferenceIdeal.nD Cert.DmixedReferenceIdeal.τ Cert.DmixedReferenceIdeal.sig) → Buf (Elt Ideal) ℓ) (g' : Dev Cert.DmixedReferenceIdeal.nD → PrngReg), Pre_DmixedKernelIdeal m →
    (∀ c : Dev Cert.DmixedKernelIdeal.nD,
      m' ((c.tc : Thread Cert.DmixedReferenceIdeal.nD Cert.DmixedReferenceIdeal.τ).loc Cert.DmixedReferenceIdeal.main_arg0) = m ((c.tc : Thread Cert.DmixedKernelIdeal.nD Cert.DmixedKernelIdeal.τ).loc Cert.DmixedKernelIdeal.main_arg0)
      ∧ m' ((c.tc : Thread Cert.DmixedReferenceIdeal.nD Cert.DmixedReferenceIdeal.τ).loc Cert.DmixedReferenceIdeal.main_arg1) = m ((c.tc : Thread Cert.DmixedKernelIdeal.nD Cert.DmixedKernelIdeal.τ).loc Cert.DmixedKernelIdeal.main_arg1)) →
    ∃ (v0 : (c : Dev Cert.DmixedKernelIdeal.nD) → Buf (Elt Ideal) ((c.tc : Thread Cert.DmixedKernelIdeal.nD Cert.DmixedKernelIdeal.τ).loc Cert.DmixedKernelIdeal.main_v0)),
      θ_run (Cert.DmixedKernelIdeal.defs (F := Ideal)) (onTc (τ := Cert.DmixedKernelIdeal.τ) (Cert.DmixedKernelIdeal.main (F := Ideal))) ⟨m, fun _ => 0, g⟩ (fun r => ∀ c : Dev Cert.DmixedKernelIdeal.nD,
          r.2.mem ((c.tc : Thread Cert.DmixedKernelIdeal.nD Cert.DmixedKernelIdeal.τ).loc Cert.DmixedKernelIdeal.main_v0) = v0 c
          ∧ r.2.mem ((c.tc : Thread Cert.DmixedKernelIdeal.nD Cert.DmixedKernelIdeal.τ).loc Cert.DmixedKernelIdeal.main_arg0) = m ((c.tc : Thread Cert.DmixedKernelIdeal.nD Cert.DmixedKernelIdeal.τ).loc Cert.DmixedKernelIdeal.main_arg0)
          ∧ r.2.mem ((c.tc : Thread Cert.DmixedKernelIdeal.nD Cert.DmixedKernelIdeal.τ).loc Cert.DmixedKernelIdeal.main_arg1) = m ((c.tc : Thread Cert.DmixedKernelIdeal.nD Cert.DmixedKernelIdeal.τ).loc Cert.DmixedKernelIdeal.main_arg1))
      ∧ θ_run (Cert.DmixedReferenceIdeal.defs (F := Ideal)) (onTc (τ := Cert.DmixedReferenceIdeal.τ) (Cert.DmixedReferenceIdeal.main (F := Ideal))) ⟨m', fun _ => 0, g'⟩ (fun r => ∀ c : Dev Cert.DmixedReferenceIdeal.nD,
          r.2.mem ((c.tc : Thread Cert.DmixedReferenceIdeal.nD Cert.DmixedReferenceIdeal.τ).loc Cert.DmixedReferenceIdeal.main_v3) = v0 c
          ∧ r.2.mem ((c.tc : Thread Cert.DmixedReferenceIdeal.nD Cert.DmixedReferenceIdeal.τ).loc Cert.DmixedReferenceIdeal.main_arg0) = m' ((c.tc : Thread Cert.DmixedReferenceIdeal.nD Cert.DmixedReferenceIdeal.τ).loc Cert.DmixedReferenceIdeal.main_arg0)
          ∧ r.2.mem ((c.tc : Thread Cert.DmixedReferenceIdeal.nD Cert.DmixedReferenceIdeal.τ).loc Cert.DmixedReferenceIdeal.main_arg1) = m' ((c.tc : Thread Cert.DmixedReferenceIdeal.nD Cert.DmixedReferenceIdeal.τ).loc Cert.DmixedReferenceIdeal.main_arg1))

def preserves_DhKernel_DhKernelIdeal : Prop :=
  True

def algebraic_DhKernelIdeal_DhReferenceIdeal [hDhKernelIdeal : Cert.DhKernelIdeal.Facts] [hDhReferenceIdeal : Cert.DhReferenceIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)) →
    ∃ (v0 : (c : Dev Cert.DhKernelIdeal.nD) → Buf (Elt Ideal) ((c.tc : Thread Cert.DhKernelIdeal.nD Cert.DhKernelIdeal.τ).loc Cert.DhKernelIdeal.main_v0)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v0) = v0 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v3) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_DwUpKernel_DwUpKernelIdeal : Prop :=
  True

def algebraic_DwUpKernelIdeal_DwUpReferenceIdeal [hDwUpKernelIdeal : Cert.DwUpKernelIdeal.Facts] [hDwUpReferenceIdeal : Cert.DwUpReferenceIdeal.Facts] : Prop :=
  ∀ (m : (ℓ : Loc Cert.DwUpKernelIdeal.nD Cert.DwUpKernelIdeal.τ Cert.DwUpKernelIdeal.sig) → Buf (Elt Ideal) ℓ) (g : Dev Cert.DwUpKernelIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpKernelIdeal m →
    (∀ c : Dev Cert.DwUpKernelIdeal.nD,
      m' ((c.tc : Thread Cert.DwUpReferenceIdeal.nD Cert.DwUpReferenceIdeal.τ).loc Cert.DwUpReferenceIdeal.main_arg0) = m ((c.tc : Thread Cert.DwUpKernelIdeal.nD Cert.DwUpKernelIdeal.τ).loc Cert.DwUpKernelIdeal.main_arg0)
      ∧ m' ((c.tc : Thread Cert.DwUpReferenceIdeal.nD Cert.DwUpReferenceIdeal.τ).loc Cert.DwUpReferenceIdeal.main_arg1) = m ((c.tc : Thread Cert.DwUpKernelIdeal.nD Cert.DwUpKernelIdeal.τ).loc Cert.DwUpKernelIdeal.main_arg1)) →
    ∃ (v0 : (c : Dev Cert.DwUpKernelIdeal.nD) → Buf (Elt Ideal) ((c.tc : Thread Cert.DwUpKernelIdeal.nD Cert.DwUpKernelIdeal.τ).loc Cert.DwUpKernelIdeal.main_v0)),
      θ_run (Cert.DwUpKernelIdeal.defs (F := Ideal)) (onTc (τ := Cert.DwUpKernelIdeal.τ) (Cert.DwUpKernelIdeal.main (F := Ideal))) ⟨m, fun _ => 0, g⟩ (fun r => ∀ c : Dev Cert.DwUpKernelIdeal.nD,
          r.2.mem ((c.tc : Thread Cert.DwUpKernelIdeal.nD Cert.DwUpKernelIdeal.τ).loc Cert.DwUpKernelIdeal.main_v0) = v0 c
          ∧ r.2.mem ((c.tc : Thread Cert.DwUpKernelIdeal.nD Cert.DwUpKernelIdeal.τ).loc Cert.DwUpKernelIdeal.main_arg0) = m ((c.tc : Thread Cert.DwUpKernelIdeal.nD Cert.DwUpKernelIdeal.τ).loc Cert.DwUpKernelIdeal.main_arg0)
          ∧ r.2.mem ((c.tc : Thread Cert.DwUpKernelIdeal.nD Cert.DwUpKernelIdeal.τ).loc Cert.DwUpKernelIdeal.main_arg1) = m ((c.tc : Thread Cert.DwUpKernelIdeal.nD Cert.DwUpKernelIdeal.τ).loc Cert.DwUpKernelIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v3) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwCoKernel_DwCoKernelIdeal : Prop :=
  True

def algebraic_DwCoKernelIdeal_DwCoReferenceIdeal [hDwCoKernelIdeal : Cert.DwCoKernelIdeal.Facts] [hDwCoReferenceIdeal : Cert.DwCoReferenceIdeal.Facts] : Prop :=
  ∀ (m : (ℓ : Loc Cert.DwCoKernelIdeal.nD Cert.DwCoKernelIdeal.τ Cert.DwCoKernelIdeal.sig) → Buf (Elt Ideal) ℓ) (g : Dev Cert.DwCoKernelIdeal.nD → PrngReg)
    (m' : (ℓ : Loc Cert.DwCoReferenceIdeal.nD Cert.DwCoReferenceIdeal.τ Cert.DwCoReferenceIdeal.sig) → Buf (Elt Ideal) ℓ) (g' : Dev Cert.DwCoReferenceIdeal.nD → PrngReg), Pre_DwCoKernelIdeal m →
    (∀ c : Dev Cert.DwCoKernelIdeal.nD,
      m' ((c.tc : Thread Cert.DwCoReferenceIdeal.nD Cert.DwCoReferenceIdeal.τ).loc Cert.DwCoReferenceIdeal.main_arg0) = m ((c.tc : Thread Cert.DwCoKernelIdeal.nD Cert.DwCoKernelIdeal.τ).loc Cert.DwCoKernelIdeal.main_arg0)
      ∧ m' ((c.tc : Thread Cert.DwCoReferenceIdeal.nD Cert.DwCoReferenceIdeal.τ).loc Cert.DwCoReferenceIdeal.main_arg1) = m ((c.tc : Thread Cert.DwCoKernelIdeal.nD Cert.DwCoKernelIdeal.τ).loc Cert.DwCoKernelIdeal.main_arg1)) →
    ∃ (v0 : (c : Dev Cert.DwCoKernelIdeal.nD) → Buf (Elt Ideal) ((c.tc : Thread Cert.DwCoKernelIdeal.nD Cert.DwCoKernelIdeal.τ).loc Cert.DwCoKernelIdeal.main_v0)),
      θ_run (Cert.DwCoKernelIdeal.defs (F := Ideal)) (onTc (τ := Cert.DwCoKernelIdeal.τ) (Cert.DwCoKernelIdeal.main (F := Ideal))) ⟨m, fun _ => 0, g⟩ (fun r => ∀ c : Dev Cert.DwCoKernelIdeal.nD,
          r.2.mem ((c.tc : Thread Cert.DwCoKernelIdeal.nD Cert.DwCoKernelIdeal.τ).loc Cert.DwCoKernelIdeal.main_v0) = v0 c
          ∧ r.2.mem ((c.tc : Thread Cert.DwCoKernelIdeal.nD Cert.DwCoKernelIdeal.τ).loc Cert.DwCoKernelIdeal.main_arg0) = m ((c.tc : Thread Cert.DwCoKernelIdeal.nD Cert.DwCoKernelIdeal.τ).loc Cert.DwCoKernelIdeal.main_arg0)
          ∧ r.2.mem ((c.tc : Thread Cert.DwCoKernelIdeal.nD Cert.DwCoKernelIdeal.τ).loc Cert.DwCoKernelIdeal.main_arg1) = m ((c.tc : Thread Cert.DwCoKernelIdeal.nD Cert.DwCoKernelIdeal.τ).loc Cert.DwCoKernelIdeal.main_arg1))
      ∧ θ_run (Cert.DwCoReferenceIdeal.defs (F := Ideal)) (onTc (τ := Cert.DwCoReferenceIdeal.τ) (Cert.DwCoReferenceIdeal.main (F := Ideal))) ⟨m', fun _ => 0, g'⟩ (fun r => ∀ c : Dev Cert.DwCoReferenceIdeal.nD,
          r.2.mem ((c.tc : Thread Cert.DwCoReferenceIdeal.nD Cert.DwCoReferenceIdeal.τ).loc Cert.DwCoReferenceIdeal.main_v3) = v0 c
          ∧ r.2.mem ((c.tc : Thread Cert.DwCoReferenceIdeal.nD Cert.DwCoReferenceIdeal.τ).loc Cert.DwCoReferenceIdeal.main_arg0) = m' ((c.tc : Thread Cert.DwCoReferenceIdeal.nD Cert.DwCoReferenceIdeal.τ).loc Cert.DwCoReferenceIdeal.main_arg0)
          ∧ r.2.mem ((c.tc : Thread Cert.DwCoReferenceIdeal.nD Cert.DwCoReferenceIdeal.τ).loc Cert.DwCoReferenceIdeal.main_arg1) = m' ((c.tc : Thread Cert.DwCoReferenceIdeal.nD Cert.DwCoReferenceIdeal.τ).loc Cert.DwCoReferenceIdeal.main_arg1))

def preserves_DwCqKernel_DwCqKernelIdeal : Prop :=
  True

def algebraic_DwCqKernelIdeal_DwCqReferenceIdeal [hDwCqKernelIdeal : Cert.DwCqKernelIdeal.Facts] [hDwCqReferenceIdeal : Cert.DwCqReferenceIdeal.Facts] : Prop :=
  ∀ (m : (ℓ : Loc Cert.DwCqKernelIdeal.nD Cert.DwCqKernelIdeal.τ Cert.DwCqKernelIdeal.sig) → Buf (Elt Ideal) ℓ) (g : Dev Cert.DwCqKernelIdeal.nD → PrngReg)
    (m' : (ℓ : Loc Cert.DwCqReferenceIdeal.nD Cert.DwCqReferenceIdeal.τ Cert.DwCqReferenceIdeal.sig) → Buf (Elt Ideal) ℓ) (g' : Dev Cert.DwCqReferenceIdeal.nD → PrngReg), Pre_DwCqKernelIdeal m →
    (∀ c : Dev Cert.DwCqKernelIdeal.nD,
      m' ((c.tc : Thread Cert.DwCqReferenceIdeal.nD Cert.DwCqReferenceIdeal.τ).loc Cert.DwCqReferenceIdeal.main_arg0) = m ((c.tc : Thread Cert.DwCqKernelIdeal.nD Cert.DwCqKernelIdeal.τ).loc Cert.DwCqKernelIdeal.main_arg0)
      ∧ m' ((c.tc : Thread Cert.DwCqReferenceIdeal.nD Cert.DwCqReferenceIdeal.τ).loc Cert.DwCqReferenceIdeal.main_arg1) = m ((c.tc : Thread Cert.DwCqKernelIdeal.nD Cert.DwCqKernelIdeal.τ).loc Cert.DwCqKernelIdeal.main_arg1)) →
    ∃ (v0 : (c : Dev Cert.DwCqKernelIdeal.nD) → Buf (Elt Ideal) ((c.tc : Thread Cert.DwCqKernelIdeal.nD Cert.DwCqKernelIdeal.τ).loc Cert.DwCqKernelIdeal.main_v0)),
      θ_run (Cert.DwCqKernelIdeal.defs (F := Ideal)) (onTc (τ := Cert.DwCqKernelIdeal.τ) (Cert.DwCqKernelIdeal.main (F := Ideal))) ⟨m, fun _ => 0, g⟩ (fun r => ∀ c : Dev Cert.DwCqKernelIdeal.nD,
          r.2.mem ((c.tc : Thread Cert.DwCqKernelIdeal.nD Cert.DwCqKernelIdeal.τ).loc Cert.DwCqKernelIdeal.main_v0) = v0 c
          ∧ r.2.mem ((c.tc : Thread Cert.DwCqKernelIdeal.nD Cert.DwCqKernelIdeal.τ).loc Cert.DwCqKernelIdeal.main_arg0) = m ((c.tc : Thread Cert.DwCqKernelIdeal.nD Cert.DwCqKernelIdeal.τ).loc Cert.DwCqKernelIdeal.main_arg0)
          ∧ r.2.mem ((c.tc : Thread Cert.DwCqKernelIdeal.nD Cert.DwCqKernelIdeal.τ).loc Cert.DwCqKernelIdeal.main_arg1) = m ((c.tc : Thread Cert.DwCqKernelIdeal.nD Cert.DwCqKernelIdeal.τ).loc Cert.DwCqKernelIdeal.main_arg1))
      ∧ θ_run (Cert.DwCqReferenceIdeal.defs (F := Ideal)) (onTc (τ := Cert.DwCqReferenceIdeal.τ) (Cert.DwCqReferenceIdeal.main (F := Ideal))) ⟨m', fun _ => 0, g'⟩ (fun r => ∀ c : Dev Cert.DwCqReferenceIdeal.nD,
          r.2.mem ((c.tc : Thread Cert.DwCqReferenceIdeal.nD Cert.DwCqReferenceIdeal.τ).loc Cert.DwCqReferenceIdeal.main_v3) = v0 c
          ∧ r.2.mem ((c.tc : Thread Cert.DwCqReferenceIdeal.nD Cert.DwCqReferenceIdeal.τ).loc Cert.DwCqReferenceIdeal.main_arg0) = m' ((c.tc : Thread Cert.DwCqReferenceIdeal.nD Cert.DwCqReferenceIdeal.τ).loc Cert.DwCqReferenceIdeal.main_arg0)
          ∧ r.2.mem ((c.tc : Thread Cert.DwCqReferenceIdeal.nD Cert.DwCqReferenceIdeal.τ).loc Cert.DwCqReferenceIdeal.main_arg1) = m' ((c.tc : Thread Cert.DwCqReferenceIdeal.nD Cert.DwCqReferenceIdeal.τ).loc Cert.DwCqReferenceIdeal.main_arg1))

def preserves_DwCkKernel_DwCkKernelIdeal : Prop :=
  True

def algebraic_DwCkKernelIdeal_DwCkReferenceIdeal [hDwCkKernelIdeal : Cert.DwCkKernelIdeal.Facts] [hDwCkReferenceIdeal : Cert.DwCkReferenceIdeal.Facts] : Prop :=
  ∀ (m : (ℓ : Loc Cert.DwCkKernelIdeal.nD Cert.DwCkKernelIdeal.τ Cert.DwCkKernelIdeal.sig) → Buf (Elt Ideal) ℓ) (g : Dev Cert.DwCkKernelIdeal.nD → PrngReg)
    (m' : (ℓ : Loc Cert.DwCkReferenceIdeal.nD Cert.DwCkReferenceIdeal.τ Cert.DwCkReferenceIdeal.sig) → Buf (Elt Ideal) ℓ) (g' : Dev Cert.DwCkReferenceIdeal.nD → PrngReg), Pre_DwCkKernelIdeal m →
    (∀ c : Dev Cert.DwCkKernelIdeal.nD,
      m' ((c.tc : Thread Cert.DwCkReferenceIdeal.nD Cert.DwCkReferenceIdeal.τ).loc Cert.DwCkReferenceIdeal.main_arg0) = m ((c.tc : Thread Cert.DwCkKernelIdeal.nD Cert.DwCkKernelIdeal.τ).loc Cert.DwCkKernelIdeal.main_arg0)
      ∧ m' ((c.tc : Thread Cert.DwCkReferenceIdeal.nD Cert.DwCkReferenceIdeal.τ).loc Cert.DwCkReferenceIdeal.main_arg1) = m ((c.tc : Thread Cert.DwCkKernelIdeal.nD Cert.DwCkKernelIdeal.τ).loc Cert.DwCkKernelIdeal.main_arg1)) →
    ∃ (v0 : (c : Dev Cert.DwCkKernelIdeal.nD) → Buf (Elt Ideal) ((c.tc : Thread Cert.DwCkKernelIdeal.nD Cert.DwCkKernelIdeal.τ).loc Cert.DwCkKernelIdeal.main_v0)),
      θ_run (Cert.DwCkKernelIdeal.defs (F := Ideal)) (onTc (τ := Cert.DwCkKernelIdeal.τ) (Cert.DwCkKernelIdeal.main (F := Ideal))) ⟨m, fun _ => 0, g⟩ (fun r => ∀ c : Dev Cert.DwCkKernelIdeal.nD,
          r.2.mem ((c.tc : Thread Cert.DwCkKernelIdeal.nD Cert.DwCkKernelIdeal.τ).loc Cert.DwCkKernelIdeal.main_v0) = v0 c
          ∧ r.2.mem ((c.tc : Thread Cert.DwCkKernelIdeal.nD Cert.DwCkKernelIdeal.τ).loc Cert.DwCkKernelIdeal.main_arg0) = m ((c.tc : Thread Cert.DwCkKernelIdeal.nD Cert.DwCkKernelIdeal.τ).loc Cert.DwCkKernelIdeal.main_arg0)
          ∧ r.2.mem ((c.tc : Thread Cert.DwCkKernelIdeal.nD Cert.DwCkKernelIdeal.τ).loc Cert.DwCkKernelIdeal.main_arg1) = m ((c.tc : Thread Cert.DwCkKernelIdeal.nD Cert.DwCkKernelIdeal.τ).loc Cert.DwCkKernelIdeal.main_arg1))
      ∧ θ_run (Cert.DwCkReferenceIdeal.defs (F := Ideal)) (onTc (τ := Cert.DwCkReferenceIdeal.τ) (Cert.DwCkReferenceIdeal.main (F := Ideal))) ⟨m', fun _ => 0, g'⟩ (fun r => ∀ c : Dev Cert.DwCkReferenceIdeal.nD,
          r.2.mem ((c.tc : Thread Cert.DwCkReferenceIdeal.nD Cert.DwCkReferenceIdeal.τ).loc Cert.DwCkReferenceIdeal.main_v3) = v0 c
          ∧ r.2.mem ((c.tc : Thread Cert.DwCkReferenceIdeal.nD Cert.DwCkReferenceIdeal.τ).loc Cert.DwCkReferenceIdeal.main_arg0) = m' ((c.tc : Thread Cert.DwCkReferenceIdeal.nD Cert.DwCkReferenceIdeal.τ).loc Cert.DwCkReferenceIdeal.main_arg0)
          ∧ r.2.mem ((c.tc : Thread Cert.DwCkReferenceIdeal.nD Cert.DwCkReferenceIdeal.τ).loc Cert.DwCkReferenceIdeal.main_arg1) = m' ((c.tc : Thread Cert.DwCkReferenceIdeal.nD Cert.DwCkReferenceIdeal.τ).loc Cert.DwCkReferenceIdeal.main_arg1))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v0)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v0) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v3) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)) →
    ∃ (v0 : (c : Dev Cert.DwInKernelIdeal.nD) → Buf (Elt Ideal) ((c.tc : Thread Cert.DwInKernelIdeal.nD Cert.DwInKernelIdeal.τ).loc Cert.DwInKernelIdeal.main_v0)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v0) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v3) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_FfnActKernel_FfnActKernelIdeal : Prop :=
  True

def algebraic_FfnActKernelIdeal_FfnActReferenceIdeal [hFfnActKernelIdeal : Cert.FfnActKernelIdeal.Facts] [hFfnActReferenceIdeal : Cert.FfnActReferenceIdeal.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActKernelIdeal m →
    (∀ c : Dev Cert.FfnActKernelIdeal.nD,
      m' ((c.tc : Thread Cert.FfnActReferenceIdeal.nD Cert.FfnActReferenceIdeal.τ).loc Cert.FfnActReferenceIdeal.main_arg0) = m ((c.tc : Thread Cert.FfnActKernelIdeal.nD Cert.FfnActKernelIdeal.τ).loc Cert.FfnActKernelIdeal.main_arg0)
      ∧ m' ((c.tc : Thread Cert.FfnActReferenceIdeal.nD Cert.FfnActReferenceIdeal.τ).loc Cert.FfnActReferenceIdeal.main_arg1) = m ((c.tc : Thread Cert.FfnActKernelIdeal.nD Cert.FfnActKernelIdeal.τ).loc Cert.FfnActKernelIdeal.main_arg1)
      ∧ m' ((c.tc : Thread Cert.FfnActReferenceIdeal.nD Cert.FfnActReferenceIdeal.τ).loc Cert.FfnActReferenceIdeal.main_arg2) = m ((c.tc : Thread Cert.FfnActKernelIdeal.nD Cert.FfnActKernelIdeal.τ).loc Cert.FfnActKernelIdeal.main_arg2)) →
    ∃ (v0 : (c : Dev Cert.FfnActKernelIdeal.nD) → Buf (Elt Ideal) ((c.tc : Thread Cert.FfnActKernelIdeal.nD Cert.FfnActKernelIdeal.τ).loc Cert.FfnActKernelIdeal.main_v3)),
      θ_run (Cert.FfnActKernelIdeal.defs (F := Ideal)) (onTc (τ := Cert.FfnActKernelIdeal.τ) (Cert.FfnActKernelIdeal.main (F := Ideal))) ⟨m, fun _ => 0, g⟩ (fun r => ∀ c : Dev Cert.FfnActKernelIdeal.nD,
          r.2.mem ((c.tc : Thread Cert.FfnActKernelIdeal.nD Cert.FfnActKernelIdeal.τ).loc Cert.FfnActKernelIdeal.main_v3) = v0 c
          ∧ r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
          ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1)
          ∧ r.2.mem ((c.tc : Thread Cert.FfnActKernelIdeal.nD Cert.FfnActKernelIdeal.τ).loc Cert.FfnActKernelIdeal.main_arg2) = m ((c.tc : Thread Cert.FfnActKernelIdeal.nD Cert.FfnActKernelIdeal.τ).loc Cert.FfnActKernelIdeal.main_arg2))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v36) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1)
          ∧ r.2.mem ((c.tc : Thread Cert.FfnActReferenceIdeal.nD Cert.FfnActReferenceIdeal.τ).loc Cert.FfnActReferenceIdeal.main_arg2) = m' ((c.tc : Thread Cert.FfnActReferenceIdeal.nD Cert.FfnActReferenceIdeal.τ).loc Cert.FfnActReferenceIdeal.main_arg2))

def preserves_ConvTKernel_ConvTKernelIdeal : Prop :=
  True

def algebraic_ConvTKernelIdeal_ConvTReferenceIdeal [hConvTKernelIdeal : Cert.ConvTKernelIdeal.Facts] [hConvTReferenceIdeal : Cert.ConvTReferenceIdeal.Facts] : Prop :=
  ∀ (m : (ℓ : Loc Cert.ConvTKernelIdeal.nD Cert.ConvTKernelIdeal.τ Cert.ConvTKernelIdeal.sig) → Buf (Elt Ideal) ℓ) (g : Dev Cert.ConvTKernelIdeal.nD → PrngReg)
    (m' : (ℓ : Loc Cert.ConvTReferenceIdeal.nD Cert.ConvTReferenceIdeal.τ Cert.ConvTReferenceIdeal.sig) → Buf (Elt Ideal) ℓ) (g' : Dev Cert.ConvTReferenceIdeal.nD → PrngReg), Pre_ConvTKernelIdeal m →
    (∀ c : Dev Cert.ConvTKernelIdeal.nD,
      m' ((c.tc : Thread Cert.ConvTReferenceIdeal.nD Cert.ConvTReferenceIdeal.τ).loc Cert.ConvTReferenceIdeal.main_arg0) = m ((c.tc : Thread Cert.ConvTKernelIdeal.nD Cert.ConvTKernelIdeal.τ).loc Cert.ConvTKernelIdeal.main_arg0)
      ∧ m' ((c.tc : Thread Cert.ConvTReferenceIdeal.nD Cert.ConvTReferenceIdeal.τ).loc Cert.ConvTReferenceIdeal.main_arg1) = m ((c.tc : Thread Cert.ConvTKernelIdeal.nD Cert.ConvTKernelIdeal.τ).loc Cert.ConvTKernelIdeal.main_arg1)
      ∧ m' ((c.tc : Thread Cert.ConvTReferenceIdeal.nD Cert.ConvTReferenceIdeal.τ).loc Cert.ConvTReferenceIdeal.main_arg2) = m ((c.tc : Thread Cert.ConvTKernelIdeal.nD Cert.ConvTKernelIdeal.τ).loc Cert.ConvTKernelIdeal.main_arg2)) →
    ∃ (v0 : (c : Dev Cert.ConvTKernelIdeal.nD) → Buf (Elt Ideal) ((c.tc : Thread Cert.ConvTKernelIdeal.nD Cert.ConvTKernelIdeal.τ).loc Cert.ConvTKernelIdeal.main_v3)),
      θ_run (Cert.ConvTKernelIdeal.defs (F := Ideal)) (onTc (τ := Cert.ConvTKernelIdeal.τ) (Cert.ConvTKernelIdeal.main (F := Ideal))) ⟨m, fun _ => 0, g⟩ (fun r => ∀ c : Dev Cert.ConvTKernelIdeal.nD,
          r.2.mem ((c.tc : Thread Cert.ConvTKernelIdeal.nD Cert.ConvTKernelIdeal.τ).loc Cert.ConvTKernelIdeal.main_v3) = v0 c
          ∧ r.2.mem ((c.tc : Thread Cert.ConvTKernelIdeal.nD Cert.ConvTKernelIdeal.τ).loc Cert.ConvTKernelIdeal.main_arg0) = m ((c.tc : Thread Cert.ConvTKernelIdeal.nD Cert.ConvTKernelIdeal.τ).loc Cert.ConvTKernelIdeal.main_arg0)
          ∧ r.2.mem ((c.tc : Thread Cert.ConvTKernelIdeal.nD Cert.ConvTKernelIdeal.τ).loc Cert.ConvTKernelIdeal.main_arg1) = m ((c.tc : Thread Cert.ConvTKernelIdeal.nD Cert.ConvTKernelIdeal.τ).loc Cert.ConvTKernelIdeal.main_arg1)
          ∧ r.2.mem ((c.tc : Thread Cert.ConvTKernelIdeal.nD Cert.ConvTKernelIdeal.τ).loc Cert.ConvTKernelIdeal.main_arg2) = m ((c.tc : Thread Cert.ConvTKernelIdeal.nD Cert.ConvTKernelIdeal.τ).loc Cert.ConvTKernelIdeal.main_arg2))
      ∧ θ_run (Cert.ConvTReferenceIdeal.defs (F := Ideal)) (onTc (τ := Cert.ConvTReferenceIdeal.τ) (Cert.ConvTReferenceIdeal.main (F := Ideal))) ⟨m', fun _ => 0, g'⟩ (fun r => ∀ c : Dev Cert.ConvTReferenceIdeal.nD,
          r.2.mem ((c.tc : Thread Cert.ConvTReferenceIdeal.nD Cert.ConvTReferenceIdeal.τ).loc Cert.ConvTReferenceIdeal.main_v43) = v0 c
          ∧ r.2.mem ((c.tc : Thread Cert.ConvTReferenceIdeal.nD Cert.ConvTReferenceIdeal.τ).loc Cert.ConvTReferenceIdeal.main_arg0) = m' ((c.tc : Thread Cert.ConvTReferenceIdeal.nD Cert.ConvTReferenceIdeal.τ).loc Cert.ConvTReferenceIdeal.main_arg0)
          ∧ r.2.mem ((c.tc : Thread Cert.ConvTReferenceIdeal.nD Cert.ConvTReferenceIdeal.τ).loc Cert.ConvTReferenceIdeal.main_arg1) = m' ((c.tc : Thread Cert.ConvTReferenceIdeal.nD Cert.ConvTReferenceIdeal.τ).loc Cert.ConvTReferenceIdeal.main_arg1)
          ∧ r.2.mem ((c.tc : Thread Cert.ConvTReferenceIdeal.nD Cert.ConvTReferenceIdeal.τ).loc Cert.ConvTReferenceIdeal.main_arg2) = m' ((c.tc : Thread Cert.ConvTReferenceIdeal.nD Cert.ConvTReferenceIdeal.τ).loc Cert.ConvTReferenceIdeal.main_arg2))

def preserves_ReduceAdd0Kernel_ReduceAdd0KernelIdeal : Prop :=
  True

def algebraic_ReduceAdd0KernelIdeal_ReduceAdd0ReferenceIdeal [hReduceAdd0KernelIdeal : Cert.ReduceAdd0KernelIdeal.Facts] [hReduceAdd0ReferenceIdeal : Cert.ReduceAdd0ReferenceIdeal.Facts] : Prop :=
  ∀ (m : (ℓ : Loc Cert.ReduceAdd0KernelIdeal.nD Cert.ReduceAdd0KernelIdeal.τ Cert.ReduceAdd0KernelIdeal.sig) → Buf (Elt Ideal) ℓ) (g : Dev Cert.ReduceAdd0KernelIdeal.nD → PrngReg)
    (m' : (ℓ : Loc Cert.ReduceAdd0ReferenceIdeal.nD Cert.ReduceAdd0ReferenceIdeal.τ Cert.ReduceAdd0ReferenceIdeal.sig) → Buf (Elt Ideal) ℓ) (g' : Dev Cert.ReduceAdd0ReferenceIdeal.nD → PrngReg), Pre_ReduceAdd0KernelIdeal m →
    (∀ c : Dev Cert.ReduceAdd0KernelIdeal.nD,
      m' ((c.tc : Thread Cert.ReduceAdd0ReferenceIdeal.nD Cert.ReduceAdd0ReferenceIdeal.τ).loc Cert.ReduceAdd0ReferenceIdeal.main_arg0) = m ((c.tc : Thread Cert.ReduceAdd0KernelIdeal.nD Cert.ReduceAdd0KernelIdeal.τ).loc Cert.ReduceAdd0KernelIdeal.main_arg0)
      ∧ m' ((c.tc : Thread Cert.ReduceAdd0ReferenceIdeal.nD Cert.ReduceAdd0ReferenceIdeal.τ).loc Cert.ReduceAdd0ReferenceIdeal.main_arg1) = m ((c.tc : Thread Cert.ReduceAdd0KernelIdeal.nD Cert.ReduceAdd0KernelIdeal.τ).loc Cert.ReduceAdd0KernelIdeal.main_arg1)) →
    ∃ (v0 : (c : Dev Cert.ReduceAdd0KernelIdeal.nD) → Buf (Elt Ideal) ((c.tc : Thread Cert.ReduceAdd0KernelIdeal.nD Cert.ReduceAdd0KernelIdeal.τ).loc Cert.ReduceAdd0KernelIdeal.main_v1)),
      θ_run (Cert.ReduceAdd0KernelIdeal.defs (F := Ideal)) (onTc (τ := Cert.ReduceAdd0KernelIdeal.τ) (Cert.ReduceAdd0KernelIdeal.main (F := Ideal))) ⟨m, fun _ => 0, g⟩ (fun r => ∀ c : Dev Cert.ReduceAdd0KernelIdeal.nD,
          r.2.mem ((c.tc : Thread Cert.ReduceAdd0KernelIdeal.nD Cert.ReduceAdd0KernelIdeal.τ).loc Cert.ReduceAdd0KernelIdeal.main_v1) = v0 c
          ∧ r.2.mem ((c.tc : Thread Cert.ReduceAdd0KernelIdeal.nD Cert.ReduceAdd0KernelIdeal.τ).loc Cert.ReduceAdd0KernelIdeal.main_arg0) = m ((c.tc : Thread Cert.ReduceAdd0KernelIdeal.nD Cert.ReduceAdd0KernelIdeal.τ).loc Cert.ReduceAdd0KernelIdeal.main_arg0)
          ∧ r.2.mem ((c.tc : Thread Cert.ReduceAdd0KernelIdeal.nD Cert.ReduceAdd0KernelIdeal.τ).loc Cert.ReduceAdd0KernelIdeal.main_arg1) = m ((c.tc : Thread Cert.ReduceAdd0KernelIdeal.nD Cert.ReduceAdd0KernelIdeal.τ).loc Cert.ReduceAdd0KernelIdeal.main_arg1))
      ∧ θ_run (Cert.ReduceAdd0ReferenceIdeal.defs (F := Ideal)) (onTc (τ := Cert.ReduceAdd0ReferenceIdeal.τ) (Cert.ReduceAdd0ReferenceIdeal.main (F := Ideal))) ⟨m', fun _ => 0, g'⟩ (fun r => ∀ c : Dev Cert.ReduceAdd0ReferenceIdeal.nD,
          r.2.mem ((c.tc : Thread Cert.ReduceAdd0ReferenceIdeal.nD Cert.ReduceAdd0ReferenceIdeal.τ).loc Cert.ReduceAdd0ReferenceIdeal.main_v2) = v0 c
          ∧ r.2.mem ((c.tc : Thread Cert.ReduceAdd0ReferenceIdeal.nD Cert.ReduceAdd0ReferenceIdeal.τ).loc Cert.ReduceAdd0ReferenceIdeal.main_arg0) = m' ((c.tc : Thread Cert.ReduceAdd0ReferenceIdeal.nD Cert.ReduceAdd0ReferenceIdeal.τ).loc Cert.ReduceAdd0ReferenceIdeal.main_arg0)
          ∧ r.2.mem ((c.tc : Thread Cert.ReduceAdd0ReferenceIdeal.nD Cert.ReduceAdd0ReferenceIdeal.τ).loc Cert.ReduceAdd0ReferenceIdeal.main_arg1) = m' ((c.tc : Thread Cert.ReduceAdd0ReferenceIdeal.nD Cert.ReduceAdd0ReferenceIdeal.τ).loc Cert.ReduceAdd0ReferenceIdeal.main_arg1))

def preserves_ReduceAdd1Kernel_ReduceAdd1KernelIdeal : Prop :=
  True

def algebraic_ReduceAdd1KernelIdeal_ReduceAdd1ReferenceIdeal [hReduceAdd1KernelIdeal : Cert.ReduceAdd1KernelIdeal.Facts] [hReduceAdd1ReferenceIdeal : Cert.ReduceAdd1ReferenceIdeal.Facts] : Prop :=
  ∀ (m : (ℓ : Loc Cert.ReduceAdd1KernelIdeal.nD Cert.ReduceAdd1KernelIdeal.τ Cert.ReduceAdd1KernelIdeal.sig) → Buf (Elt Ideal) ℓ) (g : Dev Cert.ReduceAdd1KernelIdeal.nD → PrngReg)
    (m' : (ℓ : Loc Cert.ReduceAdd1ReferenceIdeal.nD Cert.ReduceAdd1ReferenceIdeal.τ Cert.ReduceAdd1ReferenceIdeal.sig) → Buf (Elt Ideal) ℓ) (g' : Dev Cert.ReduceAdd1ReferenceIdeal.nD → PrngReg), Pre_ReduceAdd1KernelIdeal m →
    (∀ c : Dev Cert.ReduceAdd1KernelIdeal.nD,
      m' ((c.tc : Thread Cert.ReduceAdd1ReferenceIdeal.nD Cert.ReduceAdd1ReferenceIdeal.τ).loc Cert.ReduceAdd1ReferenceIdeal.main_arg0) = m ((c.tc : Thread Cert.ReduceAdd1KernelIdeal.nD Cert.ReduceAdd1KernelIdeal.τ).loc Cert.ReduceAdd1KernelIdeal.main_arg0)
      ∧ m' ((c.tc : Thread Cert.ReduceAdd1ReferenceIdeal.nD Cert.ReduceAdd1ReferenceIdeal.τ).loc Cert.ReduceAdd1ReferenceIdeal.main_arg1) = m ((c.tc : Thread Cert.ReduceAdd1KernelIdeal.nD Cert.ReduceAdd1KernelIdeal.τ).loc Cert.ReduceAdd1KernelIdeal.main_arg1)) →
    ∃ (v0 : (c : Dev Cert.ReduceAdd1KernelIdeal.nD) → Buf (Elt Ideal) ((c.tc : Thread Cert.ReduceAdd1KernelIdeal.nD Cert.ReduceAdd1KernelIdeal.τ).loc Cert.ReduceAdd1KernelIdeal.main_v1)),
      θ_run (Cert.ReduceAdd1KernelIdeal.defs (F := Ideal)) (onTc (τ := Cert.ReduceAdd1KernelIdeal.τ) (Cert.ReduceAdd1KernelIdeal.main (F := Ideal))) ⟨m, fun _ => 0, g⟩ (fun r => ∀ c : Dev Cert.ReduceAdd1KernelIdeal.nD,
          r.2.mem ((c.tc : Thread Cert.ReduceAdd1KernelIdeal.nD Cert.ReduceAdd1KernelIdeal.τ).loc Cert.ReduceAdd1KernelIdeal.main_v1) = v0 c
          ∧ r.2.mem ((c.tc : Thread Cert.ReduceAdd1KernelIdeal.nD Cert.ReduceAdd1KernelIdeal.τ).loc Cert.ReduceAdd1KernelIdeal.main_arg0) = m ((c.tc : Thread Cert.ReduceAdd1KernelIdeal.nD Cert.ReduceAdd1KernelIdeal.τ).loc Cert.ReduceAdd1KernelIdeal.main_arg0)
          ∧ r.2.mem ((c.tc : Thread Cert.ReduceAdd1KernelIdeal.nD Cert.ReduceAdd1KernelIdeal.τ).loc Cert.ReduceAdd1KernelIdeal.main_arg1) = m ((c.tc : Thread Cert.ReduceAdd1KernelIdeal.nD Cert.ReduceAdd1KernelIdeal.τ).loc Cert.ReduceAdd1KernelIdeal.main_arg1))
      ∧ θ_run (Cert.ReduceAdd1ReferenceIdeal.defs (F := Ideal)) (onTc (τ := Cert.ReduceAdd1ReferenceIdeal.τ) (Cert.ReduceAdd1ReferenceIdeal.main (F := Ideal))) ⟨m', fun _ => 0, g'⟩ (fun r => ∀ c : Dev Cert.ReduceAdd1ReferenceIdeal.nD,
          r.2.mem ((c.tc : Thread Cert.ReduceAdd1ReferenceIdeal.nD Cert.ReduceAdd1ReferenceIdeal.τ).loc Cert.ReduceAdd1ReferenceIdeal.main_v2) = v0 c
          ∧ r.2.mem ((c.tc : Thread Cert.ReduceAdd1ReferenceIdeal.nD Cert.ReduceAdd1ReferenceIdeal.τ).loc Cert.ReduceAdd1ReferenceIdeal.main_arg0) = m' ((c.tc : Thread Cert.ReduceAdd1ReferenceIdeal.nD Cert.ReduceAdd1ReferenceIdeal.τ).loc Cert.ReduceAdd1ReferenceIdeal.main_arg0)
          ∧ r.2.mem ((c.tc : Thread Cert.ReduceAdd1ReferenceIdeal.nD Cert.ReduceAdd1ReferenceIdeal.τ).loc Cert.ReduceAdd1ReferenceIdeal.main_arg1) = m' ((c.tc : Thread Cert.ReduceAdd1ReferenceIdeal.nD Cert.ReduceAdd1ReferenceIdeal.τ).loc Cert.ReduceAdd1ReferenceIdeal.main_arg1))

def Claim : Prop :=
  ∃ (hReduceShareKernel : Cert.ReduceShareKernel.Facts) (hReduceShareKernelIdeal : Cert.ReduceShareKernelIdeal.Facts) (hReduceShareReferenceIdeal : Cert.ReduceShareReferenceIdeal.Facts) (hReduceShareReference : Cert.ReduceShareReference.Facts) (hGatherChipsKernel : Cert.GatherChipsKernel.Facts) (hGatherChipsKernelIdeal : Cert.GatherChipsKernelIdeal.Facts) (hGatherChipsReferenceIdeal : Cert.GatherChipsReferenceIdeal.Facts) (hGatherChipsReference : Cert.GatherChipsReference.Facts) (hGatherSiblingKernel : Cert.GatherSiblingKernel.Facts) (hGatherSiblingKernelIdeal : Cert.GatherSiblingKernelIdeal.Facts) (hGatherSiblingReferenceIdeal : Cert.GatherSiblingReferenceIdeal.Facts) (hGatherSiblingReference : Cert.GatherSiblingReference.Facts) (hGatherConvKernel : Cert.GatherConvKernel.Facts) (hGatherConvKernelIdeal : Cert.GatherConvKernelIdeal.Facts) (hGatherConvReferenceIdeal : Cert.GatherConvReferenceIdeal.Facts) (hGatherConvReference : Cert.GatherConvReference.Facts) (hReduceSiblingKernel : Cert.ReduceSiblingKernel.Facts) (hReduceSiblingKernelIdeal : Cert.ReduceSiblingKernelIdeal.Facts) (hReduceSiblingReferenceIdeal : Cert.ReduceSiblingReferenceIdeal.Facts) (hReduceSiblingReference : Cert.ReduceSiblingReference.Facts) (hReduceChipsKernel : Cert.ReduceChipsKernel.Facts) (hReduceChipsKernelIdeal : Cert.ReduceChipsKernelIdeal.Facts) (hReduceChipsReferenceIdeal : Cert.ReduceChipsReferenceIdeal.Facts) (hReduceChipsReference : Cert.ReduceChipsReference.Facts) (hSmallSiblingKernel : Cert.SmallSiblingKernel.Facts) (hSmallSiblingKernelIdeal : Cert.SmallSiblingKernelIdeal.Facts) (hSmallSiblingReferenceIdeal : Cert.SmallSiblingReferenceIdeal.Facts) (hSmallSiblingReference : Cert.SmallSiblingReference.Facts) (hSmallChipsKernel : Cert.SmallChipsKernel.Facts) (hSmallChipsKernelIdeal : Cert.SmallChipsKernelIdeal.Facts) (hSmallChipsReferenceIdeal : Cert.SmallChipsReferenceIdeal.Facts) (hSmallChipsReference : Cert.SmallChipsReference.Facts) (hAdamwShardedKernel : Cert.AdamwShardedKernel.Facts) (hAdamwShardedKernelIdeal : Cert.AdamwShardedKernelIdeal.Facts) (hAdamwShardedReferenceIdeal : Cert.AdamwShardedReferenceIdeal.Facts) (hAdamwReplicatedKernel : Cert.AdamwReplicatedKernel.Facts) (hAdamwReplicatedKernelIdeal : Cert.AdamwReplicatedKernelIdeal.Facts) (hAdamwReplicatedReferenceIdeal : Cert.AdamwReplicatedReferenceIdeal.Facts) (hReduceSumKernel : Cert.ReduceSumKernel.Facts) (hReduceSumKernelIdeal : Cert.ReduceSumKernelIdeal.Facts) (hReduceSumReferenceIdeal : Cert.ReduceSumReferenceIdeal.Facts) (hSmallSumKernel : Cert.SmallSumKernel.Facts) (hSmallSumKernelIdeal : Cert.SmallSumKernelIdeal.Facts) (hSmallSumReferenceIdeal : Cert.SmallSumReferenceIdeal.Facts) (hNormMixBwdKernel : Cert.NormMixBwdKernel.Facts) (hNormMixBwdKernelIdeal : Cert.NormMixBwdKernelIdeal.Facts) (hNormMixBwdReferenceIdeal : Cert.NormMixBwdReferenceIdeal.Facts) (hLossHeadKernel : Cert.LossHeadKernel.Facts) (hLossHeadKernelIdeal : Cert.LossHeadKernelIdeal.Facts) (hLossHeadReferenceIdeal : Cert.LossHeadReferenceIdeal.Facts) (hNormFfnKernel : Cert.NormFfnKernel.Facts) (hNormFfnKernelIdeal : Cert.NormFfnKernelIdeal.Facts) (hNormFfnReferenceIdeal : Cert.NormFfnReferenceIdeal.Facts) (hNormMemKernel : Cert.NormMemKernel.Facts) (hNormMemKernelIdeal : Cert.NormMemKernelIdeal.Facts) (hNormMemReferenceIdeal : Cert.NormMemReferenceIdeal.Facts) (hNormMemBwdKernel : Cert.NormMemBwdKernel.Facts) (hNormMemBwdKernelIdeal : Cert.NormMemBwdKernelIdeal.Facts) (hNormMemBwdReferenceIdeal : Cert.NormMemBwdReferenceIdeal.Facts) (hDownKernel : Cert.DownKernel.Facts) (hDownKernelIdeal : Cert.DownKernelIdeal.Facts) (hDownReferenceIdeal : Cert.DownReferenceIdeal.Facts) (hDactKernel : Cert.DactKernel.Facts) (hDactKernelIdeal : Cert.DactKernelIdeal.Facts) (hDactReferenceIdeal : Cert.DactReferenceIdeal.Facts) (hDwDownKernel : Cert.DwDownKernel.Facts) (hDwDownKernelIdeal : Cert.DwDownKernelIdeal.Facts) (hDwDownReferenceIdeal : Cert.DwDownReferenceIdeal.Facts) (hProjKernel : Cert.ProjKernel.Facts) (hProjKernelIdeal : Cert.ProjKernelIdeal.Facts) (hProjReferenceIdeal : Cert.ProjReferenceIdeal.Facts) (hOutKernel : Cert.OutKernel.Facts) (hOutKernelIdeal : Cert.OutKernelIdeal.Facts) (hOutReferenceIdeal : Cert.OutReferenceIdeal.Facts) (hCqKernel : Cert.CqKernel.Facts) (hCqKernelIdeal : Cert.CqKernelIdeal.Facts) (hCqReferenceIdeal : Cert.CqReferenceIdeal.Facts) (hCkKernel : Cert.CkKernel.Facts) (hCkKernelIdeal : Cert.CkKernelIdeal.Facts) (hCkReferenceIdeal : Cert.CkReferenceIdeal.Facts) (hCoKernel : Cert.CoKernel.Facts) (hCoKernelIdeal : Cert.CoKernelIdeal.Facts) (hCoReferenceIdeal : Cert.CoReferenceIdeal.Facts) (hUpKernel : Cert.UpKernel.Facts) (hUpKernelIdeal : Cert.UpKernelIdeal.Facts) (hUpReferenceIdeal : Cert.UpReferenceIdeal.Facts) (hDhnKernel : Cert.DhnKernel.Facts) (hDhnKernelIdeal : Cert.DhnKernelIdeal.Facts) (hDhnReferenceIdeal : Cert.DhnReferenceIdeal.Facts) (hDocKernel : Cert.DocKernel.Facts) (hDocKernelIdeal : Cert.DocKernelIdeal.Facts) (hDocReferenceIdeal : Cert.DocReferenceIdeal.Facts) (hDhqKernel : Cert.DhqKernel.Facts) (hDhqKernelIdeal : Cert.DhqKernelIdeal.Facts) (hDhqReferenceIdeal : Cert.DhqReferenceIdeal.Facts) (hDmemKKernel : Cert.DmemKKernel.Facts) (hDmemKKernelIdeal : Cert.DmemKKernelIdeal.Facts) (hDmemKReferenceIdeal : Cert.DmemKReferenceIdeal.Facts) (hDmemVKernel : Cert.DmemVKernel.Facts) (hDmemVKernelIdeal : Cert.DmemVKernelIdeal.Facts) (hDmemVReferenceIdeal : Cert.DmemVReferenceIdeal.Facts) (hDmixedKernel : Cert.DmixedKernel.Facts) (hDmixedKernelIdeal : Cert.DmixedKernelIdeal.Facts) (hDmixedReferenceIdeal : Cert.DmixedReferenceIdeal.Facts) (hDhKernel : Cert.DhKernel.Facts) (hDhKernelIdeal : Cert.DhKernelIdeal.Facts) (hDhReferenceIdeal : Cert.DhReferenceIdeal.Facts) (hDwUpKernel : Cert.DwUpKernel.Facts) (hDwUpKernelIdeal : Cert.DwUpKernelIdeal.Facts) (hDwUpReferenceIdeal : Cert.DwUpReferenceIdeal.Facts) (hDwCoKernel : Cert.DwCoKernel.Facts) (hDwCoKernelIdeal : Cert.DwCoKernelIdeal.Facts) (hDwCoReferenceIdeal : Cert.DwCoReferenceIdeal.Facts) (hDwCqKernel : Cert.DwCqKernel.Facts) (hDwCqKernelIdeal : Cert.DwCqKernelIdeal.Facts) (hDwCqReferenceIdeal : Cert.DwCqReferenceIdeal.Facts) (hDwCkKernel : Cert.DwCkKernel.Facts) (hDwCkKernelIdeal : Cert.DwCkKernelIdeal.Facts) (hDwCkReferenceIdeal : Cert.DwCkReferenceIdeal.Facts) (hDwOutKernel : Cert.DwOutKernel.Facts) (hDwOutKernelIdeal : Cert.DwOutKernelIdeal.Facts) (hDwOutReferenceIdeal : Cert.DwOutReferenceIdeal.Facts) (hDwInKernel : Cert.DwInKernel.Facts) (hDwInKernelIdeal : Cert.DwInKernelIdeal.Facts) (hDwInReferenceIdeal : Cert.DwInReferenceIdeal.Facts) (hFfnActKernel : Cert.FfnActKernel.Facts) (hFfnActKernelIdeal : Cert.FfnActKernelIdeal.Facts) (hFfnActReferenceIdeal : Cert.FfnActReferenceIdeal.Facts) (hConvTKernel : Cert.ConvTKernel.Facts) (hConvTKernelIdeal : Cert.ConvTKernelIdeal.Facts) (hConvTReferenceIdeal : Cert.ConvTReferenceIdeal.Facts) (hReduceAdd0Kernel : Cert.ReduceAdd0Kernel.Facts) (hReduceAdd0KernelIdeal : Cert.ReduceAdd0KernelIdeal.Facts) (hReduceAdd0ReferenceIdeal : Cert.ReduceAdd0ReferenceIdeal.Facts) (hReduceAdd1Kernel : Cert.ReduceAdd1Kernel.Facts) (hReduceAdd1KernelIdeal : Cert.ReduceAdd1KernelIdeal.Facts) (hReduceAdd1ReferenceIdeal : Cert.ReduceAdd1ReferenceIdeal.Facts),
    quiescent_ReduceShareKernel (hReduceShareKernel := hReduceShareKernel)
    ∧ quiescent_ReduceShareKernelIdeal (hReduceShareKernelIdeal := hReduceShareKernelIdeal)
    ∧ quiescent_ReduceShareReferenceIdeal (hReduceShareReferenceIdeal := hReduceShareReferenceIdeal)
    ∧ quiescent_ReduceShareReference (hReduceShareReference := hReduceShareReference)
    ∧ quiescent_GatherChipsKernel (hGatherChipsKernel := hGatherChipsKernel)
    ∧ quiescent_GatherChipsKernelIdeal (hGatherChipsKernelIdeal := hGatherChipsKernelIdeal)
    ∧ quiescent_GatherChipsReferenceIdeal (hGatherChipsReferenceIdeal := hGatherChipsReferenceIdeal)
    ∧ quiescent_GatherChipsReference (hGatherChipsReference := hGatherChipsReference)
    ∧ quiescent_GatherSiblingKernel (hGatherSiblingKernel := hGatherSiblingKernel)
    ∧ quiescent_GatherSiblingKernelIdeal (hGatherSiblingKernelIdeal := hGatherSiblingKernelIdeal)
    ∧ quiescent_GatherSiblingReferenceIdeal (hGatherSiblingReferenceIdeal := hGatherSiblingReferenceIdeal)
    ∧ quiescent_GatherSiblingReference (hGatherSiblingReference := hGatherSiblingReference)
    ∧ quiescent_GatherConvKernel (hGatherConvKernel := hGatherConvKernel)
    ∧ quiescent_GatherConvKernelIdeal (hGatherConvKernelIdeal := hGatherConvKernelIdeal)
    ∧ quiescent_GatherConvReferenceIdeal (hGatherConvReferenceIdeal := hGatherConvReferenceIdeal)
    ∧ quiescent_GatherConvReference (hGatherConvReference := hGatherConvReference)
    ∧ quiescent_ReduceSiblingKernel (hReduceSiblingKernel := hReduceSiblingKernel)
    ∧ quiescent_ReduceSiblingKernelIdeal (hReduceSiblingKernelIdeal := hReduceSiblingKernelIdeal)
    ∧ quiescent_ReduceSiblingReferenceIdeal (hReduceSiblingReferenceIdeal := hReduceSiblingReferenceIdeal)
    ∧ quiescent_ReduceSiblingReference (hReduceSiblingReference := hReduceSiblingReference)
    ∧ quiescent_ReduceChipsKernel (hReduceChipsKernel := hReduceChipsKernel)
    ∧ quiescent_ReduceChipsKernelIdeal (hReduceChipsKernelIdeal := hReduceChipsKernelIdeal)
    ∧ quiescent_ReduceChipsReferenceIdeal (hReduceChipsReferenceIdeal := hReduceChipsReferenceIdeal)
    ∧ quiescent_ReduceChipsReference (hReduceChipsReference := hReduceChipsReference)
    ∧ quiescent_SmallSiblingKernel (hSmallSiblingKernel := hSmallSiblingKernel)
    ∧ quiescent_SmallSiblingKernelIdeal (hSmallSiblingKernelIdeal := hSmallSiblingKernelIdeal)
    ∧ quiescent_SmallSiblingReferenceIdeal (hSmallSiblingReferenceIdeal := hSmallSiblingReferenceIdeal)
    ∧ quiescent_SmallSiblingReference (hSmallSiblingReference := hSmallSiblingReference)
    ∧ quiescent_SmallChipsKernel (hSmallChipsKernel := hSmallChipsKernel)
    ∧ quiescent_SmallChipsKernelIdeal (hSmallChipsKernelIdeal := hSmallChipsKernelIdeal)
    ∧ quiescent_SmallChipsReferenceIdeal (hSmallChipsReferenceIdeal := hSmallChipsReferenceIdeal)
    ∧ quiescent_SmallChipsReference (hSmallChipsReference := hSmallChipsReference)
    ∧ quiescent_AdamwShardedKernel (hAdamwShardedKernel := hAdamwShardedKernel)
    ∧ quiescent_AdamwShardedKernelIdeal (hAdamwShardedKernelIdeal := hAdamwShardedKernelIdeal)
    ∧ quiescent_AdamwShardedReferenceIdeal (hAdamwShardedReferenceIdeal := hAdamwShardedReferenceIdeal)
    ∧ quiescent_AdamwReplicatedKernel (hAdamwReplicatedKernel := hAdamwReplicatedKernel)
    ∧ quiescent_AdamwReplicatedKernelIdeal (hAdamwReplicatedKernelIdeal := hAdamwReplicatedKernelIdeal)
    ∧ quiescent_AdamwReplicatedReferenceIdeal (hAdamwReplicatedReferenceIdeal := hAdamwReplicatedReferenceIdeal)
    ∧ quiescent_ReduceSumKernel (hReduceSumKernel := hReduceSumKernel)
    ∧ quiescent_ReduceSumKernelIdeal (hReduceSumKernelIdeal := hReduceSumKernelIdeal)
    ∧ quiescent_ReduceSumReferenceIdeal (hReduceSumReferenceIdeal := hReduceSumReferenceIdeal)
    ∧ quiescent_SmallSumKernel (hSmallSumKernel := hSmallSumKernel)
    ∧ quiescent_SmallSumKernelIdeal (hSmallSumKernelIdeal := hSmallSumKernelIdeal)
    ∧ quiescent_SmallSumReferenceIdeal (hSmallSumReferenceIdeal := hSmallSumReferenceIdeal)
    ∧ quiescent_NormMixBwdKernel (hNormMixBwdKernel := hNormMixBwdKernel)
    ∧ quiescent_NormMixBwdKernelIdeal (hNormMixBwdKernelIdeal := hNormMixBwdKernelIdeal)
    ∧ quiescent_NormMixBwdReferenceIdeal (hNormMixBwdReferenceIdeal := hNormMixBwdReferenceIdeal)
    ∧ quiescent_LossHeadKernel (hLossHeadKernel := hLossHeadKernel)
    ∧ quiescent_LossHeadKernelIdeal (hLossHeadKernelIdeal := hLossHeadKernelIdeal)
    ∧ quiescent_LossHeadReferenceIdeal (hLossHeadReferenceIdeal := hLossHeadReferenceIdeal)
    ∧ quiescent_NormFfnKernel (hNormFfnKernel := hNormFfnKernel)
    ∧ quiescent_NormFfnKernelIdeal (hNormFfnKernelIdeal := hNormFfnKernelIdeal)
    ∧ quiescent_NormFfnReferenceIdeal (hNormFfnReferenceIdeal := hNormFfnReferenceIdeal)
    ∧ quiescent_NormMemKernel (hNormMemKernel := hNormMemKernel)
    ∧ quiescent_NormMemKernelIdeal (hNormMemKernelIdeal := hNormMemKernelIdeal)
    ∧ quiescent_NormMemReferenceIdeal (hNormMemReferenceIdeal := hNormMemReferenceIdeal)
    ∧ quiescent_NormMemBwdKernel (hNormMemBwdKernel := hNormMemBwdKernel)
    ∧ quiescent_NormMemBwdKernelIdeal (hNormMemBwdKernelIdeal := hNormMemBwdKernelIdeal)
    ∧ quiescent_NormMemBwdReferenceIdeal (hNormMemBwdReferenceIdeal := hNormMemBwdReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DactKernel (hDactKernel := hDactKernel)
    ∧ quiescent_DactKernelIdeal (hDactKernelIdeal := hDactKernelIdeal)
    ∧ quiescent_DactReferenceIdeal (hDactReferenceIdeal := hDactReferenceIdeal)
    ∧ quiescent_DwDownKernel (hDwDownKernel := hDwDownKernel)
    ∧ quiescent_DwDownKernelIdeal (hDwDownKernelIdeal := hDwDownKernelIdeal)
    ∧ quiescent_DwDownReferenceIdeal (hDwDownReferenceIdeal := hDwDownReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_CqKernel (hCqKernel := hCqKernel)
    ∧ quiescent_CqKernelIdeal (hCqKernelIdeal := hCqKernelIdeal)
    ∧ quiescent_CqReferenceIdeal (hCqReferenceIdeal := hCqReferenceIdeal)
    ∧ quiescent_CkKernel (hCkKernel := hCkKernel)
    ∧ quiescent_CkKernelIdeal (hCkKernelIdeal := hCkKernelIdeal)
    ∧ quiescent_CkReferenceIdeal (hCkReferenceIdeal := hCkReferenceIdeal)
    ∧ quiescent_CoKernel (hCoKernel := hCoKernel)
    ∧ quiescent_CoKernelIdeal (hCoKernelIdeal := hCoKernelIdeal)
    ∧ quiescent_CoReferenceIdeal (hCoReferenceIdeal := hCoReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DhnKernel (hDhnKernel := hDhnKernel)
    ∧ quiescent_DhnKernelIdeal (hDhnKernelIdeal := hDhnKernelIdeal)
    ∧ quiescent_DhnReferenceIdeal (hDhnReferenceIdeal := hDhnReferenceIdeal)
    ∧ quiescent_DocKernel (hDocKernel := hDocKernel)
    ∧ quiescent_DocKernelIdeal (hDocKernelIdeal := hDocKernelIdeal)
    ∧ quiescent_DocReferenceIdeal (hDocReferenceIdeal := hDocReferenceIdeal)
    ∧ quiescent_DhqKernel (hDhqKernel := hDhqKernel)
    ∧ quiescent_DhqKernelIdeal (hDhqKernelIdeal := hDhqKernelIdeal)
    ∧ quiescent_DhqReferenceIdeal (hDhqReferenceIdeal := hDhqReferenceIdeal)
    ∧ quiescent_DmemKKernel (hDmemKKernel := hDmemKKernel)
    ∧ quiescent_DmemKKernelIdeal (hDmemKKernelIdeal := hDmemKKernelIdeal)
    ∧ quiescent_DmemKReferenceIdeal (hDmemKReferenceIdeal := hDmemKReferenceIdeal)
    ∧ quiescent_DmemVKernel (hDmemVKernel := hDmemVKernel)
    ∧ quiescent_DmemVKernelIdeal (hDmemVKernelIdeal := hDmemVKernelIdeal)
    ∧ quiescent_DmemVReferenceIdeal (hDmemVReferenceIdeal := hDmemVReferenceIdeal)
    ∧ quiescent_DmixedKernel (hDmixedKernel := hDmixedKernel)
    ∧ quiescent_DmixedKernelIdeal (hDmixedKernelIdeal := hDmixedKernelIdeal)
    ∧ quiescent_DmixedReferenceIdeal (hDmixedReferenceIdeal := hDmixedReferenceIdeal)
    ∧ quiescent_DhKernel (hDhKernel := hDhKernel)
    ∧ quiescent_DhKernelIdeal (hDhKernelIdeal := hDhKernelIdeal)
    ∧ quiescent_DhReferenceIdeal (hDhReferenceIdeal := hDhReferenceIdeal)
    ∧ quiescent_DwUpKernel (hDwUpKernel := hDwUpKernel)
    ∧ quiescent_DwUpKernelIdeal (hDwUpKernelIdeal := hDwUpKernelIdeal)
    ∧ quiescent_DwUpReferenceIdeal (hDwUpReferenceIdeal := hDwUpReferenceIdeal)
    ∧ quiescent_DwCoKernel (hDwCoKernel := hDwCoKernel)
    ∧ quiescent_DwCoKernelIdeal (hDwCoKernelIdeal := hDwCoKernelIdeal)
    ∧ quiescent_DwCoReferenceIdeal (hDwCoReferenceIdeal := hDwCoReferenceIdeal)
    ∧ quiescent_DwCqKernel (hDwCqKernel := hDwCqKernel)
    ∧ quiescent_DwCqKernelIdeal (hDwCqKernelIdeal := hDwCqKernelIdeal)
    ∧ quiescent_DwCqReferenceIdeal (hDwCqReferenceIdeal := hDwCqReferenceIdeal)
    ∧ quiescent_DwCkKernel (hDwCkKernel := hDwCkKernel)
    ∧ quiescent_DwCkKernelIdeal (hDwCkKernelIdeal := hDwCkKernelIdeal)
    ∧ quiescent_DwCkReferenceIdeal (hDwCkReferenceIdeal := hDwCkReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_FfnActKernel (hFfnActKernel := hFfnActKernel)
    ∧ quiescent_FfnActKernelIdeal (hFfnActKernelIdeal := hFfnActKernelIdeal)
    ∧ quiescent_FfnActReferenceIdeal (hFfnActReferenceIdeal := hFfnActReferenceIdeal)
    ∧ quiescent_ConvTKernel (hConvTKernel := hConvTKernel)
    ∧ quiescent_ConvTKernelIdeal (hConvTKernelIdeal := hConvTKernelIdeal)
    ∧ quiescent_ConvTReferenceIdeal (hConvTReferenceIdeal := hConvTReferenceIdeal)
    ∧ quiescent_ReduceAdd0Kernel (hReduceAdd0Kernel := hReduceAdd0Kernel)
    ∧ quiescent_ReduceAdd0KernelIdeal (hReduceAdd0KernelIdeal := hReduceAdd0KernelIdeal)
    ∧ quiescent_ReduceAdd0ReferenceIdeal (hReduceAdd0ReferenceIdeal := hReduceAdd0ReferenceIdeal)
    ∧ quiescent_ReduceAdd1Kernel (hReduceAdd1Kernel := hReduceAdd1Kernel)
    ∧ quiescent_ReduceAdd1KernelIdeal (hReduceAdd1KernelIdeal := hReduceAdd1KernelIdeal)
    ∧ quiescent_ReduceAdd1ReferenceIdeal (hReduceAdd1ReferenceIdeal := hReduceAdd1ReferenceIdeal)
    ∧ preserves_ReduceShareKernel_ReduceShareKernelIdeal
    ∧ algebraic_ReduceShareKernelIdeal_ReduceShareReferenceIdeal (hReduceShareKernelIdeal := hReduceShareKernelIdeal) (hReduceShareReferenceIdeal := hReduceShareReferenceIdeal)
    ∧ bitexact_ReduceShareKernel_ReduceShareReference (hReduceShareKernel := hReduceShareKernel) (hReduceShareReference := hReduceShareReference)
    ∧ preserves_GatherChipsKernel_GatherChipsKernelIdeal
    ∧ algebraic_GatherChipsKernelIdeal_GatherChipsReferenceIdeal (hGatherChipsKernelIdeal := hGatherChipsKernelIdeal) (hGatherChipsReferenceIdeal := hGatherChipsReferenceIdeal)
    ∧ bitexact_GatherChipsKernel_GatherChipsReference (hGatherChipsKernel := hGatherChipsKernel) (hGatherChipsReference := hGatherChipsReference)
    ∧ preserves_GatherSiblingKernel_GatherSiblingKernelIdeal
    ∧ algebraic_GatherSiblingKernelIdeal_GatherSiblingReferenceIdeal (hGatherSiblingKernelIdeal := hGatherSiblingKernelIdeal) (hGatherSiblingReferenceIdeal := hGatherSiblingReferenceIdeal)
    ∧ bitexact_GatherSiblingKernel_GatherSiblingReference (hGatherSiblingKernel := hGatherSiblingKernel) (hGatherSiblingReference := hGatherSiblingReference)
    ∧ preserves_GatherConvKernel_GatherConvKernelIdeal
    ∧ algebraic_GatherConvKernelIdeal_GatherConvReferenceIdeal (hGatherConvKernelIdeal := hGatherConvKernelIdeal) (hGatherConvReferenceIdeal := hGatherConvReferenceIdeal)
    ∧ bitexact_GatherConvKernel_GatherConvReference (hGatherConvKernel := hGatherConvKernel) (hGatherConvReference := hGatherConvReference)
    ∧ preserves_ReduceSiblingKernel_ReduceSiblingKernelIdeal
    ∧ algebraic_ReduceSiblingKernelIdeal_ReduceSiblingReferenceIdeal (hReduceSiblingKernelIdeal := hReduceSiblingKernelIdeal) (hReduceSiblingReferenceIdeal := hReduceSiblingReferenceIdeal)
    ∧ bitexact_ReduceSiblingKernel_ReduceSiblingReference (hReduceSiblingKernel := hReduceSiblingKernel) (hReduceSiblingReference := hReduceSiblingReference)
    ∧ preserves_ReduceChipsKernel_ReduceChipsKernelIdeal
    ∧ algebraic_ReduceChipsKernelIdeal_ReduceChipsReferenceIdeal (hReduceChipsKernelIdeal := hReduceChipsKernelIdeal) (hReduceChipsReferenceIdeal := hReduceChipsReferenceIdeal)
    ∧ bitexact_ReduceChipsKernel_ReduceChipsReference (hReduceChipsKernel := hReduceChipsKernel) (hReduceChipsReference := hReduceChipsReference)
    ∧ preserves_SmallSiblingKernel_SmallSiblingKernelIdeal
    ∧ algebraic_SmallSiblingKernelIdeal_SmallSiblingReferenceIdeal (hSmallSiblingKernelIdeal := hSmallSiblingKernelIdeal) (hSmallSiblingReferenceIdeal := hSmallSiblingReferenceIdeal)
    ∧ bitexact_SmallSiblingKernel_SmallSiblingReference (hSmallSiblingKernel := hSmallSiblingKernel) (hSmallSiblingReference := hSmallSiblingReference)
    ∧ preserves_SmallChipsKernel_SmallChipsKernelIdeal
    ∧ algebraic_SmallChipsKernelIdeal_SmallChipsReferenceIdeal (hSmallChipsKernelIdeal := hSmallChipsKernelIdeal) (hSmallChipsReferenceIdeal := hSmallChipsReferenceIdeal)
    ∧ bitexact_SmallChipsKernel_SmallChipsReference (hSmallChipsKernel := hSmallChipsKernel) (hSmallChipsReference := hSmallChipsReference)
    ∧ preserves_AdamwShardedKernel_AdamwShardedKernelIdeal
    ∧ algebraic_AdamwShardedKernelIdeal_AdamwShardedReferenceIdeal (hAdamwShardedKernelIdeal := hAdamwShardedKernelIdeal) (hAdamwShardedReferenceIdeal := hAdamwShardedReferenceIdeal)
    ∧ preserves_AdamwReplicatedKernel_AdamwReplicatedKernelIdeal
    ∧ algebraic_AdamwReplicatedKernelIdeal_AdamwReplicatedReferenceIdeal (hAdamwReplicatedKernelIdeal := hAdamwReplicatedKernelIdeal) (hAdamwReplicatedReferenceIdeal := hAdamwReplicatedReferenceIdeal)
    ∧ preserves_ReduceSumKernel_ReduceSumKernelIdeal
    ∧ algebraic_ReduceSumKernelIdeal_ReduceSumReferenceIdeal (hReduceSumKernelIdeal := hReduceSumKernelIdeal) (hReduceSumReferenceIdeal := hReduceSumReferenceIdeal)
    ∧ preserves_SmallSumKernel_SmallSumKernelIdeal
    ∧ algebraic_SmallSumKernelIdeal_SmallSumReferenceIdeal (hSmallSumKernelIdeal := hSmallSumKernelIdeal) (hSmallSumReferenceIdeal := hSmallSumReferenceIdeal)
    ∧ preserves_NormMixBwdKernel_NormMixBwdKernelIdeal
    ∧ algebraic_NormMixBwdKernelIdeal_NormMixBwdReferenceIdeal (hNormMixBwdKernelIdeal := hNormMixBwdKernelIdeal) (hNormMixBwdReferenceIdeal := hNormMixBwdReferenceIdeal)
    ∧ preserves_LossHeadKernel_LossHeadKernelIdeal
    ∧ algebraic_LossHeadKernelIdeal_LossHeadReferenceIdeal (hLossHeadKernelIdeal := hLossHeadKernelIdeal) (hLossHeadReferenceIdeal := hLossHeadReferenceIdeal)
    ∧ preserves_NormFfnKernel_NormFfnKernelIdeal
    ∧ algebraic_NormFfnKernelIdeal_NormFfnReferenceIdeal (hNormFfnKernelIdeal := hNormFfnKernelIdeal) (hNormFfnReferenceIdeal := hNormFfnReferenceIdeal)
    ∧ preserves_NormMemKernel_NormMemKernelIdeal
    ∧ algebraic_NormMemKernelIdeal_NormMemReferenceIdeal (hNormMemKernelIdeal := hNormMemKernelIdeal) (hNormMemReferenceIdeal := hNormMemReferenceIdeal)
    ∧ preserves_NormMemBwdKernel_NormMemBwdKernelIdeal
    ∧ algebraic_NormMemBwdKernelIdeal_NormMemBwdReferenceIdeal (hNormMemBwdKernelIdeal := hNormMemBwdKernelIdeal) (hNormMemBwdReferenceIdeal := hNormMemBwdReferenceIdeal)
    ∧ preserves_DownKernel_DownKernelIdeal
    ∧ algebraic_DownKernelIdeal_DownReferenceIdeal (hDownKernelIdeal := hDownKernelIdeal) (hDownReferenceIdeal := hDownReferenceIdeal)
    ∧ preserves_DactKernel_DactKernelIdeal
    ∧ algebraic_DactKernelIdeal_DactReferenceIdeal (hDactKernelIdeal := hDactKernelIdeal) (hDactReferenceIdeal := hDactReferenceIdeal)
    ∧ preserves_DwDownKernel_DwDownKernelIdeal
    ∧ algebraic_DwDownKernelIdeal_DwDownReferenceIdeal (hDwDownKernelIdeal := hDwDownKernelIdeal) (hDwDownReferenceIdeal := hDwDownReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_OutKernel_OutKernelIdeal
    ∧ algebraic_OutKernelIdeal_OutReferenceIdeal (hOutKernelIdeal := hOutKernelIdeal) (hOutReferenceIdeal := hOutReferenceIdeal)
    ∧ preserves_CqKernel_CqKernelIdeal
    ∧ algebraic_CqKernelIdeal_CqReferenceIdeal (hCqKernelIdeal := hCqKernelIdeal) (hCqReferenceIdeal := hCqReferenceIdeal)
    ∧ preserves_CkKernel_CkKernelIdeal
    ∧ algebraic_CkKernelIdeal_CkReferenceIdeal (hCkKernelIdeal := hCkKernelIdeal) (hCkReferenceIdeal := hCkReferenceIdeal)
    ∧ preserves_CoKernel_CoKernelIdeal
    ∧ algebraic_CoKernelIdeal_CoReferenceIdeal (hCoKernelIdeal := hCoKernelIdeal) (hCoReferenceIdeal := hCoReferenceIdeal)
    ∧ preserves_UpKernel_UpKernelIdeal
    ∧ algebraic_UpKernelIdeal_UpReferenceIdeal (hUpKernelIdeal := hUpKernelIdeal) (hUpReferenceIdeal := hUpReferenceIdeal)
    ∧ preserves_DhnKernel_DhnKernelIdeal
    ∧ algebraic_DhnKernelIdeal_DhnReferenceIdeal (hDhnKernelIdeal := hDhnKernelIdeal) (hDhnReferenceIdeal := hDhnReferenceIdeal)
    ∧ preserves_DocKernel_DocKernelIdeal
    ∧ algebraic_DocKernelIdeal_DocReferenceIdeal (hDocKernelIdeal := hDocKernelIdeal) (hDocReferenceIdeal := hDocReferenceIdeal)
    ∧ preserves_DhqKernel_DhqKernelIdeal
    ∧ algebraic_DhqKernelIdeal_DhqReferenceIdeal (hDhqKernelIdeal := hDhqKernelIdeal) (hDhqReferenceIdeal := hDhqReferenceIdeal)
    ∧ preserves_DmemKKernel_DmemKKernelIdeal
    ∧ algebraic_DmemKKernelIdeal_DmemKReferenceIdeal (hDmemKKernelIdeal := hDmemKKernelIdeal) (hDmemKReferenceIdeal := hDmemKReferenceIdeal)
    ∧ preserves_DmemVKernel_DmemVKernelIdeal
    ∧ algebraic_DmemVKernelIdeal_DmemVReferenceIdeal (hDmemVKernelIdeal := hDmemVKernelIdeal) (hDmemVReferenceIdeal := hDmemVReferenceIdeal)
    ∧ preserves_DmixedKernel_DmixedKernelIdeal
    ∧ algebraic_DmixedKernelIdeal_DmixedReferenceIdeal (hDmixedKernelIdeal := hDmixedKernelIdeal) (hDmixedReferenceIdeal := hDmixedReferenceIdeal)
    ∧ preserves_DhKernel_DhKernelIdeal
    ∧ algebraic_DhKernelIdeal_DhReferenceIdeal (hDhKernelIdeal := hDhKernelIdeal) (hDhReferenceIdeal := hDhReferenceIdeal)
    ∧ preserves_DwUpKernel_DwUpKernelIdeal
    ∧ algebraic_DwUpKernelIdeal_DwUpReferenceIdeal (hDwUpKernelIdeal := hDwUpKernelIdeal) (hDwUpReferenceIdeal := hDwUpReferenceIdeal)
    ∧ preserves_DwCoKernel_DwCoKernelIdeal
    ∧ algebraic_DwCoKernelIdeal_DwCoReferenceIdeal (hDwCoKernelIdeal := hDwCoKernelIdeal) (hDwCoReferenceIdeal := hDwCoReferenceIdeal)
    ∧ preserves_DwCqKernel_DwCqKernelIdeal
    ∧ algebraic_DwCqKernelIdeal_DwCqReferenceIdeal (hDwCqKernelIdeal := hDwCqKernelIdeal) (hDwCqReferenceIdeal := hDwCqReferenceIdeal)
    ∧ preserves_DwCkKernel_DwCkKernelIdeal
    ∧ algebraic_DwCkKernelIdeal_DwCkReferenceIdeal (hDwCkKernelIdeal := hDwCkKernelIdeal) (hDwCkReferenceIdeal := hDwCkReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DwInKernel_DwInKernelIdeal
    ∧ algebraic_DwInKernelIdeal_DwInReferenceIdeal (hDwInKernelIdeal := hDwInKernelIdeal) (hDwInReferenceIdeal := hDwInReferenceIdeal)
    ∧ preserves_FfnActKernel_FfnActKernelIdeal
    ∧ algebraic_FfnActKernelIdeal_FfnActReferenceIdeal (hFfnActKernelIdeal := hFfnActKernelIdeal) (hFfnActReferenceIdeal := hFfnActReferenceIdeal)
    ∧ preserves_ConvTKernel_ConvTKernelIdeal
    ∧ algebraic_ConvTKernelIdeal_ConvTReferenceIdeal (hConvTKernelIdeal := hConvTKernelIdeal) (hConvTReferenceIdeal := hConvTReferenceIdeal)
    ∧ preserves_ReduceAdd0Kernel_ReduceAdd0KernelIdeal
    ∧ algebraic_ReduceAdd0KernelIdeal_ReduceAdd0ReferenceIdeal (hReduceAdd0KernelIdeal := hReduceAdd0KernelIdeal) (hReduceAdd0ReferenceIdeal := hReduceAdd0ReferenceIdeal)
    ∧ preserves_ReduceAdd1Kernel_ReduceAdd1KernelIdeal
    ∧ algebraic_ReduceAdd1KernelIdeal_ReduceAdd1ReferenceIdeal (hReduceAdd1KernelIdeal := hReduceAdd1KernelIdeal) (hReduceAdd1ReferenceIdeal := hReduceAdd1ReferenceIdeal)
-- ==== ReduceShareKernel.lean ====
abbrev S3456x1024 : Shape := ⟨2, ![3456, 1024]⟩
abbrev S2x3456x1024 : Shape := ⟨3, ![2, 3456, 1024]⟩
abbrev S_ : Shape := ⟨0, ![]⟩
abbrev S1x3456x1024 : Shape := ⟨3, ![1, 3456, 1024]⟩

abbrev nBuf : Space → Nat
  | .hbm => 2
  | .vmem => 0
  | .smem => 0
  | _ => 0

abbrev bufTy : (tb : Table) → Fin (tcTables nBuf tb) → BufTy
  | .hbm, ⟨0, _⟩ => ⟨S3456x1024, .f32⟩
  | .hbm, ⟨1, _⟩ => ⟨S2x3456x1024, .f32⟩
  | _, _ => ⟨S3456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== ReduceShareKernelIdeal.lean ====
abbrev S3456x1024 : Shape := ⟨2, ![3456, 1024]⟩
abbrev S2x3456x1024 : Shape := ⟨3, ![2, 3456, 1024]⟩
abbrev S_ : Shape := ⟨0, ![]⟩
abbrev S1x3456x1024 : Shape := ⟨3, ![1, 3456, 1024]⟩

abbrev nBuf : Space → Nat
  | .hbm => 2
  | .vmem => 0
  | .smem => 0
  | _ => 0

abbrev bufTy : (tb : Table) → Fin (tcTables nBuf tb) → BufTy
  | .hbm, ⟨0, _⟩ => ⟨S3456x1024, .f32⟩
  | .hbm, ⟨1, _⟩ => ⟨S2x3456x1024, .f32⟩
  | _, _ => ⟨S3456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== ReduceShareReference.lean ====
abbrev S27648x1024 : Shape := ⟨2, ![27648, 1024]⟩
abbrev S8x3456x1024 : Shape := ⟨3, ![8, 3456, 1024]⟩

abbrev nBuf : Space → Nat
  | .hbm => 2
  | .vmem => 0
  | .smem => 0
  | _ => 0

abbrev bufTy : (tb : Table) → Fin (tcTables nBuf tb) → BufTy
  | .hbm, ⟨0, _⟩ => ⟨S27648x1024, .f32⟩
  | .hbm, ⟨1, _⟩ => ⟨S8x3456x1024, .f32⟩
  | _, _ => ⟨S27648x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherChipsKernel.lean ====
abbrev S6912x1024 : Shape := ⟨2, ![6912, 1024]⟩
abbrev S4x3456x1024 : Shape := ⟨3, ![4, 3456, 1024]⟩
abbrev S3 : Shape := ⟨1, ![3]⟩
abbrev S_ : Shape := ⟨0, ![]⟩
abbrev S1x3456x1024 : Shape := ⟨3, ![1, 3456, 1024]⟩
abbrev S3456x1024 : Shape := ⟨2, ![3456, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S6912x1024, .bf16⟩
  | .hbm, ⟨1, _⟩ => ⟨S4x3456x1024, .bf16⟩
  | _, _ => ⟨S6912x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3456_i32 : BitVec 32 := 3456#32
  let v11 : BitVec 32 := Scalar.muli v8 c3456_i32
  let c0_i32_5 : BitVec 32 := 0#32
  ![v11.toNat, 0]
def k0_dev1 (d0 : Dev nD) : Nat :=
  let c0_i32_14 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_13 : BitVec 32 := 4#32
  let v20 : BitVec 32 := Scalar.muli v15 c4_i32_13
  let v21 : BitVec 32 := Scalar.addi c0_i32_14 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v22 : BitVec 32 := Scalar.muli v5 c2_i32_15
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v24 : BitVec 32 := Scalar.muli v8 c1_i32_16
  let v25 : BitVec 32 := Scalar.addi v23 v24
  v25.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v34 : BitVec 32 := Scalar.muli v2 c4_i32_23
  let v35 : BitVec 32 := Scalar.addi c0_i32_24 v34
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_25 : BitVec 32 := 2#32
  let v36 : BitVec 32 := Scalar.muli v16 c2_i32_25
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v38 : BitVec 32 := Scalar.muli v8 c1_i32_26
  let v39 : BitVec 32 := Scalar.addi v37 v38
  v39.toNat
def k0_dev3 (d0 : Dev nD) : Nat :=
  let c0_i32_34 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_33 : BitVec 32 := 4#32
  let v48 : BitVec 32 := Scalar.muli v17 c4_i32_33
  let v49 : BitVec 32 := Scalar.addi c0_i32_34 v48
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_35 : BitVec 32 := 2#32
  let v50 : BitVec 32 := Scalar.muli v18 c2_i32_35
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v52 : BitVec 32 := Scalar.muli v8 c1_i32_36
  let v53 : BitVec 32 := Scalar.addi v51 v52
  v53.toNat
def k0_off3 (d0 : Dev nD) : Fin 3 → Nat :=
  let c2_i32_40 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let v61 : BitVec 32 := Scalar.muli c2_i32_40 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.addi v61 v5
  let c0_i32_48 : BitVec 32 := 0#32
  let c0_i32_49 : BitVec 32 := 0#32
  ![v62.toNat, 0, 0]
def k0_off4 (d0 : Dev nD) : Fin 3 → Nat :=
  let c2_i32_51 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c2_i32_51 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v76 : BitVec 32 := Scalar.addi v75 v16
  let c0_i32_59 : BitVec 32 := 0#32
  let c0_i32_60 : BitVec 32 := 0#32
  ![v76.toNat, 0, 0]
def k0_off5 (d0 : Dev nD) : Fin 3 → Nat :=
  let c2_i32_62 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v89 : BitVec 32 := Scalar.muli c2_i32_62 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v90 : BitVec 32 := Scalar.addi v89 v18
  let c0_i32_70 : BitVec 32 := 0#32
  let c0_i32_71 : BitVec 32 := 0#32
  ![v90.toNat, 0, 0]
-- ==== GatherChipsKernelIdeal.lean ====
abbrev S6912x1024 : Shape := ⟨2, ![6912, 1024]⟩
abbrev S4x3456x1024 : Shape := ⟨3, ![4, 3456, 1024]⟩
abbrev S3 : Shape := ⟨1, ![3]⟩
abbrev S_ : Shape := ⟨0, ![]⟩
abbrev S1x3456x1024 : Shape := ⟨3, ![1, 3456, 1024]⟩
abbrev S3456x1024 : Shape := ⟨2, ![3456, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S6912x1024, .bf16⟩
  | .hbm, ⟨1, _⟩ => ⟨S4x3456x1024, .bf16⟩
  | _, _ => ⟨S6912x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3456_i32 : BitVec 32 := 3456#32
  let v11 : BitVec 32 := Scalar.muli v8 c3456_i32
  let c0_i32_5 : BitVec 32 := 0#32
  ![v11.toNat, 0]
def k0_dev1 (d0 : Dev nD) : Nat :=
  let c0_i32_14 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_13 : BitVec 32 := 4#32
  let v20 : BitVec 32 := Scalar.muli v15 c4_i32_13
  let v21 : BitVec 32 := Scalar.addi c0_i32_14 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v22 : BitVec 32 := Scalar.muli v5 c2_i32_15
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v24 : BitVec 32 := Scalar.muli v8 c1_i32_16
  let v25 : BitVec 32 := Scalar.addi v23 v24
  v25.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v34 : BitVec 32 := Scalar.muli v2 c4_i32_23
  let v35 : BitVec 32 := Scalar.addi c0_i32_24 v34
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_25 : BitVec 32 := 2#32
  let v36 : BitVec 32 := Scalar.muli v16 c2_i32_25
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v38 : BitVec 32 := Scalar.muli v8 c1_i32_26
  let v39 : BitVec 32 := Scalar.addi v37 v38
  v39.toNat
def k0_dev3 (d0 : Dev nD) : Nat :=
  let c0_i32_34 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_33 : BitVec 32 := 4#32
  let v48 : BitVec 32 := Scalar.muli v17 c4_i32_33
  let v49 : BitVec 32 := Scalar.addi c0_i32_34 v48
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_35 : BitVec 32 := 2#32
  let v50 : BitVec 32 := Scalar.muli v18 c2_i32_35
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v52 : BitVec 32 := Scalar.muli v8 c1_i32_36
  let v53 : BitVec 32 := Scalar.addi v51 v52
  v53.toNat
def k0_off3 (d0 : Dev nD) : Fin 3 → Nat :=
  let c2_i32_40 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let v61 : BitVec 32 := Scalar.muli c2_i32_40 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.addi v61 v5
  let c0_i32_48 : BitVec 32 := 0#32
  let c0_i32_49 : BitVec 32 := 0#32
  ![v62.toNat, 0, 0]
def k0_off4 (d0 : Dev nD) : Fin 3 → Nat :=
  let c2_i32_51 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.muli c2_i32_51 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let v76 : BitVec 32 := Scalar.addi v75 v16
  let c0_i32_59 : BitVec 32 := 0#32
  let c0_i32_60 : BitVec 32 := 0#32
  ![v76.toNat, 0, 0]
def k0_off5 (d0 : Dev nD) : Fin 3 → Nat :=
  let c2_i32_62 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v89 : BitVec 32 := Scalar.muli c2_i32_62 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v90 : BitVec 32 := Scalar.addi v89 v18
  let c0_i32_70 : BitVec 32 := 0#32
  let c0_i32_71 : BitVec 32 := 0#32
  ![v90.toNat, 0, 0]
-- ==== GatherChipsReference.lean ====
abbrev S27648x1024 : Shape := ⟨2, ![27648, 1024]⟩
abbrev S4x6912x1024 : Shape := ⟨3, ![4, 6912, 1024]⟩

abbrev nBuf : Space → Nat
  | .hbm => 2
  | .vmem => 0
  | .smem => 0
  | _ => 0

abbrev bufTy : (tb : Table) → Fin (tcTables nBuf tb) → BufTy
  | .hbm, ⟨0, _⟩ => ⟨S27648x1024, .bf16⟩
  | .hbm, ⟨1, _⟩ => ⟨S4x6912x1024, .bf16⟩
  | _, _ => ⟨S27648x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSiblingKernel.lean ====
abbrev S4x3456x1024 : Shape := ⟨3, ![4, 3456, 1024]⟩
abbrev S2x4x3456x1024 : Shape := ⟨4, ![2, 4, 3456, 1024]⟩
abbrev S_ : Shape := ⟨0, ![]⟩
abbrev S1x4x3456x1024 : Shape := ⟨4, ![1, 4, 3456, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x3456x1024, .bf16⟩
  | .hbm, ⟨1, _⟩ => ⟨S2x4x3456x1024, .bf16⟩
  | _, _ => ⟨S4x3456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  let c0_i32_4 : BitVec 32 := 0#32
  ![v8.toNat, 0, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_9 : BitVec 32 := 1#32
  let v16 : BitVec 32 := Scalar.muli v11 c1_i32_9
  let v17 : BitVec 32 := Scalar.addi v15 v16
  v17.toNat
-- ==== GatherSiblingKernelIdeal.lean ====
abbrev S4x3456x1024 : Shape := ⟨3, ![4, 3456, 1024]⟩
abbrev S2x4x3456x1024 : Shape := ⟨4, ![2, 4, 3456, 1024]⟩
abbrev S_ : Shape := ⟨0, ![]⟩
abbrev S1x4x3456x1024 : Shape := ⟨4, ![1, 4, 3456, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x3456x1024, .bf16⟩
  | .hbm, ⟨1, _⟩ => ⟨S2x4x3456x1024, .bf16⟩
  | _, _ => ⟨S4x3456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  let c0_i32_4 : BitVec 32 := 0#32
  ![v8.toNat, 0, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_9 : BitVec 32 := 1#32
  let v16 : BitVec 32 := Scalar.muli v11 c1_i32_9
  let v17 : BitVec 32 := Scalar.addi v15 v16
  v17.toNat
-- ==== GatherSiblingReference.lean ====
abbrev S4x6912x1024 : Shape := ⟨3, ![4, 6912, 1024]⟩
abbrev S4x2x3456x1024 : Shape := ⟨4, ![4, 2, 3456, 1024]⟩
abbrev S2x4x3456x1024 : Shape := ⟨4, ![2, 4, 3456, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x6912x1024, .bf16⟩
  | .hbm, ⟨1, _⟩ => ⟨S4x2x3456x1024, .bf16⟩
  | .hbm, ⟨2, _⟩ => ⟨S2x4x3456x1024, .bf16⟩
  | _, _ => ⟨S4x6912x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== GatherConvKernel.lean ====
abbrev S16x1024 : Shape := ⟨2, ![16, 1024]⟩
abbrev S4x16x1024 : Shape := ⟨3, ![4, 16, 1024]⟩
abbrev S3 : Shape := ⟨1, ![3]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_dev1 (d0 : Dev nD) : Nat :=
  let c0_i32_12 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_11 : BitVec 32 := 4#32
  let v17 : BitVec 32 := Scalar.muli v13 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_21 : BitVec 32 := 2#32
  let v31 : BitVec 32 := Scalar.muli v14 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_28 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_27 : BitVec 32 := 4#32
  let v41 : BitVec 32 := Scalar.muli v15 c4_i32_27
  let v42 : BitVec 32 := Scalar.addi c0_i32_28 v41
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_29 : BitVec 32 := 2#32
  let v43 : BitVec 32 := Scalar.muli v16 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_off2 (d0 : Dev nD) : Fin 3 → Nat :=
  let c2_i32_33 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let v53 : BitVec 32 := Scalar.muli c2_i32_33 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.addi v53 v5
  let c0_i32_40 : BitVec 32 := 0#32
  let c0_i32_41 : BitVec 32 := 0#32
  ![v54.toNat, 0, 0]
def k0_off3 (d0 : Dev nD) : Fin 3 → Nat :=
  let c2_i32_42 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c2_i32_42 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v66 : BitVec 32 := Scalar.addi v65 v14
  let c0_i32_49 : BitVec 32 := 0#32
  let c0_i32_50 : BitVec 32 := 0#32
  ![v66.toNat, 0, 0]
def k0_off4 (d0 : Dev nD) : Fin 3 → Nat :=
  let c2_i32_51 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v77 : BitVec 32 := Scalar.muli c2_i32_51 v15
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v78 : BitVec 32 := Scalar.addi v77 v16
  let c0_i32_58 : BitVec 32 := 0#32
  let c0_i32_59 : BitVec 32 := 0#32
  ![v78.toNat, 0, 0]
-- ==== GatherConvKernelIdeal.lean ====
abbrev S16x1024 : Shape := ⟨2, ![16, 1024]⟩
abbrev S4x16x1024 : Shape := ⟨3, ![4, 16, 1024]⟩
abbrev S3 : Shape := ⟨1, ![3]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_dev1 (d0 : Dev nD) : Nat :=
  let c0_i32_12 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_11 : BitVec 32 := 4#32
  let v17 : BitVec 32 := Scalar.muli v13 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v29 : BitVec 32 := Scalar.muli v2 c4_i32_19
  let v30 : BitVec 32 := Scalar.addi c0_i32_20 v29
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_21 : BitVec 32 := 2#32
  let v31 : BitVec 32 := Scalar.muli v14 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev3 (d0 : Dev nD) : Nat :=
  let c0_i32_28 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_27 : BitVec 32 := 4#32
  let v41 : BitVec 32 := Scalar.muli v15 c4_i32_27
  let v42 : BitVec 32 := Scalar.addi c0_i32_28 v41
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_29 : BitVec 32 := 2#32
  let v43 : BitVec 32 := Scalar.muli v16 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_off2 (d0 : Dev nD) : Fin 3 → Nat :=
  let c2_i32_33 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let v53 : BitVec 32 := Scalar.muli c2_i32_33 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.addi v53 v5
  let c0_i32_40 : BitVec 32 := 0#32
  let c0_i32_41 : BitVec 32 := 0#32
  ![v54.toNat, 0, 0]
def k0_off3 (d0 : Dev nD) : Fin 3 → Nat :=
  let c2_i32_42 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c2_i32_42 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v66 : BitVec 32 := Scalar.addi v65 v14
  let c0_i32_49 : BitVec 32 := 0#32
  let c0_i32_50 : BitVec 32 := 0#32
  ![v66.toNat, 0, 0]
def k0_off4 (d0 : Dev nD) : Fin 3 → Nat :=
  let c2_i32_51 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v77 : BitVec 32 := Scalar.muli c2_i32_51 v15
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v78 : BitVec 32 := Scalar.addi v77 v16
  let c0_i32_58 : BitVec 32 := 0#32
  let c0_i32_59 : BitVec 32 := 0#32
  ![v78.toNat, 0, 0]
-- ==== GatherConvReference.lean ====
abbrev S64x1024 : Shape := ⟨2, ![64, 1024]⟩
abbrev S4x16x1024 : Shape := ⟨3, ![4, 16, 1024]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S4x16x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ReduceSiblingKernel.lean ====
abbrev S4x6912x1024 : Shape := ⟨3, ![4, 6912, 1024]⟩
abbrev S4x3456x1024 : Shape := ⟨3, ![4, 3456, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | _, _ => ⟨S4x6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c3456_i32 : BitVec 32 := 3456#32
  let v10 : BitVec 32 := Scalar.muli v9 c3456_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== ReduceSiblingKernelIdeal.lean ====
abbrev S4x6912x1024 : Shape := ⟨3, ![4, 6912, 1024]⟩
abbrev S4x3456x1024 : Shape := ⟨3, ![4, 3456, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | _, _ => ⟨S4x6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c3456_i32 : BitVec 32 := 3456#32
  let v10 : BitVec 32 := Scalar.muli v9 c3456_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== ReduceSiblingReference.lean ====
abbrev S32x6912x1024 : Shape := ⟨3, ![32, 6912, 1024]⟩
abbrev S4x2x4x2x3456x1024 : Shape := ⟨6, ![4, 2, 4, 2, 3456, 1024]⟩
abbrev S4x1x4x1x3456x1024 : Shape := ⟨6, ![4, 1, 4, 1, 3456, 1024]⟩
abbrev S4x4x3456x1024 : Shape := ⟨4, ![4, 4, 3456, 1024]⟩
abbrev S4x4x1x3456x1024 : Shape := ⟨5, ![4, 4, 1, 3456, 1024]⟩
abbrev S4x4x2x3456x1024 : Shape := ⟨5, ![4, 4, 2, 3456, 1024]⟩
abbrev S16x6912x1024 : Shape := ⟨3, ![16, 6912, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x6912x1024, .f32⟩
  | .hbm, ⟨1, _⟩ => ⟨S4x2x4x2x3456x1024, .f32⟩
  | .hbm, ⟨2, _⟩ => ⟨S4x1x4x1x3456x1024, .f32⟩
  | .hbm, ⟨3, _⟩ => ⟨S4x4x3456x1024, .f32⟩
  | .hbm, ⟨4, _⟩ => ⟨S4x1x4x1x3456x1024, .f32⟩
  | .hbm, ⟨5, _⟩ => ⟨S4x4x3456x1024, .f32⟩
  | .hbm, ⟨6, _⟩ => ⟨S4x4x1x3456x1024, .f32⟩
  | .hbm, ⟨7, _⟩ => ⟨S4x4x1x3456x1024, .f32⟩
  | .hbm, ⟨8, _⟩ => ⟨S4x4x2x3456x1024, .f32⟩
  | .hbm, ⟨9, _⟩ => ⟨S16x6912x1024, .f32⟩
  | _, _ => ⟨S32x6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== ReduceChipsKernel.lean ====
abbrev S4x3456x1024 : Shape := ⟨3, ![4, 3456, 1024]⟩
abbrev S3 : Shape := ⟨1, ![3]⟩
abbrev S_ : Shape := ⟨0, ![]⟩
abbrev S1x3456x1024 : Shape := ⟨3, ![1, 3456, 1024]⟩
abbrev S3456x1024 : Shape := ⟨2, ![3456, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x3456x1024, .bf16⟩
  | .hbm, ⟨1, _⟩ => ⟨S4x3456x1024, .bf16⟩
  | _, _ => ⟨S4x3456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_11 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v19 : BitVec 32 := Scalar.muli c2_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_14 : BitVec 32 := 4#32
  let v21 : BitVec 32 := Scalar.muli v15 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v36 : BitVec 32 := Scalar.addi v35 v16
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_27 : BitVec 32 := 2#32
  let v39 : BitVec 32 := Scalar.muli v16 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v51 : BitVec 32 := Scalar.muli c2_i32_33 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v52 : BitVec 32 := Scalar.addi v51 v18
  let c0_i32_42 : BitVec 32 := 0#32
  let c0_i32_43 : BitVec 32 := 0#32
  ![v52.toNat, 0, 0]
def k0_dev3 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v53 : BitVec 32 := Scalar.muli v17 c4_i32_36
  let v54 : BitVec 32 := Scalar.addi c0_i32_37 v53
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_38 : BitVec 32 := 2#32
  let v55 : BitVec 32 := Scalar.muli v18 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ReduceChipsKernelIdeal.lean ====
abbrev S4x3456x1024 : Shape := ⟨3, ![4, 3456, 1024]⟩
abbrev S3 : Shape := ⟨1, ![3]⟩
abbrev S_ : Shape := ⟨0, ![]⟩
abbrev S1x3456x1024 : Shape := ⟨3, ![1, 3456, 1024]⟩
abbrev S3456x1024 : Shape := ⟨2, ![3456, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x3456x1024, .bf16⟩
  | .hbm, ⟨1, _⟩ => ⟨S4x3456x1024, .bf16⟩
  | _, _ => ⟨S4x3456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  ![v10.toNat, 0, 0]
def k0_off2 (d0 : Dev nD) : Fin 3 → Nat :=
  let c2_i32_11 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v19 : BitVec 32 := Scalar.muli c2_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_14 : BitVec 32 := 4#32
  let v21 : BitVec 32 := Scalar.muli v15 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let v36 : BitVec 32 := Scalar.addi v35 v16
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_8 v5
  let c2_i32_27 : BitVec 32 := 2#32
  let v39 : BitVec 32 := Scalar.muli v16 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v51 : BitVec 32 := Scalar.muli c2_i32_33 v17
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v52 : BitVec 32 := Scalar.addi v51 v18
  let c0_i32_42 : BitVec 32 := 0#32
  let c0_i32_43 : BitVec 32 := 0#32
  ![v52.toNat, 0, 0]
def k0_dev3 (d0 : Dev nD) : Nat :=
  let c0_i32_37 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_36 : BitVec 32 := 4#32
  let v53 : BitVec 32 := Scalar.muli v17 c4_i32_36
  let v54 : BitVec 32 := Scalar.addi c0_i32_37 v53
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let c2_i32_38 : BitVec 32 := 2#32
  let v55 : BitVec 32 := Scalar.muli v18 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ReduceChipsReference.lean ====
abbrev S16x6912x1024 : Shape := ⟨3, ![16, 6912, 1024]⟩
abbrev S4x4x6912x1024 : Shape := ⟨4, ![4, 4, 6912, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x6912x1024, .bf16⟩
  | .hbm, ⟨1, _⟩ => ⟨S4x4x6912x1024, .bf16⟩
  | .hbm, ⟨2, _⟩ => ⟨S4x4x6912x1024, .bf16⟩
  | .hbm, ⟨3, _⟩ => ⟨S16x6912x1024, .bf16⟩
  | _, _ => ⟨S16x6912x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== SmallSiblingKernel.lean ====
abbrev S96x1024 : Shape := ⟨2, ![96, 1024]⟩
abbrev S2x96x1024 : Shape := ⟨3, ![2, 96, 1024]⟩
abbrev S_ : Shape := ⟨0, ![]⟩
abbrev S1x96x1024 : Shape := ⟨3, ![1, 96, 1024]⟩

abbrev nBuf : Space → Nat
  | .hbm => 2
  | .vmem => 0
  | .smem => 0
  | _ => 0

abbrev bufTy : (tb : Table) → Fin (tcTables nBuf tb) → BufTy
  | .hbm, ⟨0, _⟩ => ⟨S96x1024, .f32⟩
  | .hbm, ⟨1, _⟩ => ⟨S2x96x1024, .f32⟩
  | _, _ => ⟨S96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== SmallSiblingKernelIdeal.lean ====
abbrev S96x1024 : Shape := ⟨2, ![96, 1024]⟩
abbrev S2x96x1024 : Shape := ⟨3, ![2, 96, 1024]⟩
abbrev S_ : Shape := ⟨0, ![]⟩
abbrev S1x96x1024 : Shape := ⟨3, ![1, 96, 1024]⟩

abbrev nBuf : Space → Nat
  | .hbm => 2
  | .vmem => 0
  | .smem => 0
  | _ => 0

abbrev bufTy : (tb : Table) → Fin (tcTables nBuf tb) → BufTy
  | .hbm, ⟨0, _⟩ => ⟨S96x1024, .f32⟩
  | .hbm, ⟨1, _⟩ => ⟨S2x96x1024, .f32⟩
  | _, _ => ⟨S96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== SmallSiblingReference.lean ====
abbrev S768x1024 : Shape := ⟨2, ![768, 1024]⟩
abbrev S8x96x1024 : Shape := ⟨3, ![8, 96, 1024]⟩

abbrev nBuf : Space → Nat
  | .hbm => 2
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S8x96x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SmallChipsKernel.lean ====
abbrev S2x96x1024 : Shape := ⟨3, ![2, 96, 1024]⟩
abbrev S4x2x96x1024 : Shape := ⟨4, ![4, 2, 96, 1024]⟩
abbrev S3 : Shape := ⟨1, ![3]⟩
abbrev S_ : Shape := ⟨0, ![]⟩
abbrev S1x2x96x1024 : Shape := ⟨4, ![1, 2, 96, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2x96x1024, .f32⟩
  | .hbm, ⟨1, _⟩ => ⟨S4x2x96x1024, .f32⟩
  | _, _ => ⟨S2x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  let c0_i32_5 : BitVec 32 := 0#32
  ![v10.toNat, 0, 0, 0]
def k0_dev1 (d0 : Dev nD) : Nat :=
  let c0_i32_13 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_12 : BitVec 32 := 4#32
  let v17 : BitVec 32 := Scalar.muli v13 c4_i32_12
  let v18 : BitVec 32 := Scalar.addi c0_i32_13 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v19 : BitVec 32 := Scalar.muli v5 c2_i32_14
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v21 : BitVec 32 := Scalar.muli v8 c1_i32_15
  let v22 : BitVec 32 := Scalar.addi v20 v21
  v22.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v29 : BitVec 32 := Scalar.muli v2 c4_i32_21
  let v30 : BitVec 32 := Scalar.addi c0_i32_22 v29
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_23 : BitVec 32 := 2#32
  let v31 : BitVec 32 := Scalar.muli v14 c2_i32_23
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.muli v8 c1_i32_24
  let v34 : BitVec 32 := Scalar.addi v32 v33
  v34.toNat
def k0_dev3 (d0 : Dev nD) : Nat :=
  let c0_i32_31 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c4_i32_30 : BitVec 32 := 4#32
  let v41 : BitVec 32 := Scalar.muli v15 c4_i32_30
  let v42 : BitVec 32 := Scalar.addi c0_i32_31 v41
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let c2_i32_32 : BitVec 32 := 2#32
  let v43 : BitVec 32 := Scalar.muli v16 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v45 : BitVec 32 := Scalar.muli v8 c1_i32_33
  let v46 : BitVec 32 := Scalar.addi v44 v45
  v46.toNat
def k0_off2 (d0 : Dev nD) : Fin 4 → Nat :=
  let c2_i32_37 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v53 : BitVec 32 := Scalar.muli c2_i32_37 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.addi v53 v5
  let c0_i32_44 : BitVec 32 := 0#32
  let c0_i32_45 : BitVec 32 := 0#32
  let c0_i32_46 : BitVec 32 := 0#32
  ![v54.toNat, 0, 0, 0]
def k0_off3 (d0 : Dev nD) : Fin 4 → Nat :=
  let c2_i32_47 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c2_i32_47 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v66 : BitVec 32 := Scalar.addi v65 v14
  let c0_i32_54 : BitVec 32 := 0#32
  let c0_i32_55 : BitVec 32 := 0#32
  let c0_i32_56 : BitVec 32 := 0#32
  ![v66.toNat, 0, 0, 0]
def k0_off4 (d0 : Dev nD) : Fin 4 → Nat :=
  let c2_i32_57 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v77 : BitVec 32 := Scalar.muli c2_i32_57 v15
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v78 : BitVec 32 := Scalar.addi v77 v16
  let c0_i32_64 : BitVec 32 := 0#32
  let c0_i32_65 : BitVec 32 := 0#32
  let c0_i32_66 : BitVec 32 := 0#32
  ![v78.toNat, 0, 0, 0]
-- ==== SmallChipsKernelIdeal.lean ====
abbrev S2x96x1024 : Shape := ⟨3, ![2, 96, 1024]⟩
abbrev S4x2x96x1024 : Shape := ⟨4, ![4, 2, 96, 1024]⟩
abbrev S3 : Shape := ⟨1, ![3]⟩
abbrev S_ : Shape := ⟨0, ![]⟩
abbrev S1x2x96x1024 : Shape := ⟨4, ![1, 2, 96, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2x96x1024, .f32⟩
  | .hbm, ⟨1, _⟩ => ⟨S4x2x96x1024, .f32⟩
  | _, _ => ⟨S2x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_4 : BitVec 32 := 0#32
  let c0_i32_5 : BitVec 32 := 0#32
  ![v10.toNat, 0, 0, 0]
def k0_dev1 (d0 : Dev nD) : Nat :=
  let c0_i32_13 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_12 : BitVec 32 := 4#32
  let v17 : BitVec 32 := Scalar.muli v13 c4_i32_12
  let v18 : BitVec 32 := Scalar.addi c0_i32_13 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v19 : BitVec 32 := Scalar.muli v5 c2_i32_14
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v21 : BitVec 32 := Scalar.muli v8 c1_i32_15
  let v22 : BitVec 32 := Scalar.addi v20 v21
  v22.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v29 : BitVec 32 := Scalar.muli v2 c4_i32_21
  let v30 : BitVec 32 := Scalar.addi c0_i32_22 v29
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_23 : BitVec 32 := 2#32
  let v31 : BitVec 32 := Scalar.muli v14 c2_i32_23
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.muli v8 c1_i32_24
  let v34 : BitVec 32 := Scalar.addi v32 v33
  v34.toNat
def k0_dev3 (d0 : Dev nD) : Nat :=
  let c0_i32_31 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c4_i32_30 : BitVec 32 := 4#32
  let v41 : BitVec 32 := Scalar.muli v15 c4_i32_30
  let v42 : BitVec 32 := Scalar.addi c0_i32_31 v41
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let c2_i32_32 : BitVec 32 := 2#32
  let v43 : BitVec 32 := Scalar.muli v16 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v45 : BitVec 32 := Scalar.muli v8 c1_i32_33
  let v46 : BitVec 32 := Scalar.addi v44 v45
  v46.toNat
def k0_off2 (d0 : Dev nD) : Fin 4 → Nat :=
  let c2_i32_37 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v53 : BitVec 32 := Scalar.muli c2_i32_37 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.addi v53 v5
  let c0_i32_44 : BitVec 32 := 0#32
  let c0_i32_45 : BitVec 32 := 0#32
  let c0_i32_46 : BitVec 32 := 0#32
  ![v54.toNat, 0, 0, 0]
def k0_off3 (d0 : Dev nD) : Fin 4 → Nat :=
  let c2_i32_47 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c2_i32_47 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v66 : BitVec 32 := Scalar.addi v65 v14
  let c0_i32_54 : BitVec 32 := 0#32
  let c0_i32_55 : BitVec 32 := 0#32
  let c0_i32_56 : BitVec 32 := 0#32
  ![v66.toNat, 0, 0, 0]
def k0_off4 (d0 : Dev nD) : Fin 4 → Nat :=
  let c2_i32_57 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let v77 : BitVec 32 := Scalar.muli c2_i32_57 v15
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v78 : BitVec 32 := Scalar.addi v77 v16
  let c0_i32_64 : BitVec 32 := 0#32
  let c0_i32_65 : BitVec 32 := 0#32
  let c0_i32_66 : BitVec 32 := 0#32
  ![v78.toNat, 0, 0, 0]
-- ==== SmallChipsReference.lean ====
abbrev S8x96x1024 : Shape := ⟨3, ![8, 96, 1024]⟩
abbrev S4x2x96x1024 : Shape := ⟨4, ![4, 2, 96, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x96x1024, .f32⟩
  | .hbm, ⟨1, _⟩ => ⟨S4x2x96x1024, .f32⟩
  | _, _ => ⟨S8x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamwShardedKernel.lean ====
abbrev S6912x1024 : Shape := ⟨2, ![6912, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S6912x1024, .f32⟩
  | .hbm, ⟨1, _⟩ => ⟨S6912x1024, .f32⟩
  | .hbm, ⟨2, _⟩ => ⟨S6912x1024, .f32⟩
  | .hbm, ⟨3, _⟩ => ⟨S6912x1024, .f32⟩
  | .hbm, ⟨4, _⟩ => ⟨S6912x1024, .f32⟩
  | .hbm, ⟨5, _⟩ => ⟨S6912x1024, .f32⟩
  | .hbm, ⟨6, _⟩ => ⟨S6912x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S6912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwShardedReferenceIdeal.lean ====
abbrev S6912x1024 : Shape := ⟨2, ![6912, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6912x1024, .f32⟩
  | .hbm, ⟨1, _⟩ => ⟨S6912x1024, .f32⟩
  | .hbm, ⟨2, _⟩ => ⟨S6912x1024, .f32⟩
  | .hbm, ⟨3, _⟩ => ⟨S6912x1024, .f32⟩
  | .hbm, ⟨4, _⟩ => ⟨S_, .f32⟩
  | .hbm, ⟨5, _⟩ => ⟨S6912x1024, .f32⟩
  | .hbm, ⟨6, _⟩ => ⟨S6912x1024, .f32⟩
  | .hbm, ⟨7, _⟩ => ⟨S_, .f32⟩
  | .hbm, ⟨8, _⟩ => ⟨S6912x1024, .f32⟩
  | .hbm, ⟨9, _⟩ => ⟨S6912x1024, .f32⟩
  | .hbm, ⟨10, _⟩ => ⟨S6912x1024, .f32⟩
  | .hbm, ⟨11, _⟩ => ⟨S_, .f32⟩
  | .hbm, ⟨12, _⟩ => ⟨S6912x1024, .f32⟩
  | .hbm, ⟨13, _⟩ => ⟨S6912x1024, .f32⟩
  | .hbm, ⟨14, _⟩ => ⟨S6912x1024, .f32⟩
  | .hbm, ⟨15, _⟩ => ⟨S_, .f32⟩
  | .hbm, ⟨16, _⟩ => ⟨S6912x1024, .f32⟩
  | .hbm, ⟨17, _⟩ => ⟨S6912x1024, .f32⟩
  | .hbm, ⟨18, _⟩ => ⟨S6912x1024, .f32⟩
  | .hbm, ⟨19, _⟩ => ⟨S_, .f32⟩
  | .hbm, ⟨20, _⟩ => ⟨S6912x1024, .f32⟩
  | .hbm, ⟨21, _⟩ => ⟨S6912x1024, .f32⟩
  | .hbm, ⟨22, _⟩ => ⟨S_, .f32⟩
  | .hbm, ⟨23, _⟩ => ⟨S6912x1024, .f32⟩
  | .hbm, ⟨24, _⟩ => ⟨S6912x1024, .f32⟩
  | .hbm, ⟨25, _⟩ => ⟨S6912x1024, .f32⟩
  | .hbm, ⟨26, _⟩ => ⟨S_, .f32⟩
  | .hbm, ⟨27, _⟩ => ⟨S6912x1024, .f32⟩
  | .hbm, ⟨28, _⟩ => ⟨S6912x1024, .f32⟩
  | .hbm, ⟨29, _⟩ => ⟨S6912x1024, .f32⟩
  | .hbm, ⟨30, _⟩ => ⟨S_, .f32⟩
  | .hbm, ⟨31, _⟩ => ⟨S6912x1024, .f32⟩
  | .hbm, ⟨32, _⟩ => ⟨S6912x1024, .f32⟩
  | .hbm, ⟨33, _⟩ => ⟨S6912x1024, .f32⟩
  | .hbm, ⟨34, _⟩ => ⟨S_, .f32⟩
  | .hbm, ⟨35, _⟩ => ⟨S6912x1024, .f32⟩
  | .hbm, ⟨36, _⟩ => ⟨S6912x1024, .f32⟩
  | _, _ => ⟨S6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwReplicatedKernel.lean ====
abbrev S96x1024 : Shape := ⟨2, ![96, 1024]⟩

abbrev nBuf : Space → Nat
  | .hbm => 7
  | .vmem => 7
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S96x1024, .f32⟩
  | .hbm, ⟨5, _⟩ => ⟨S96x1024, .f32⟩
  | .hbm, ⟨6, _⟩ => ⟨S96x1024, .f32⟩
  | .local _ .vmem, ⟨0, _⟩ => ⟨S96x1024, .f32⟩
  | .local _ .vmem, ⟨1, _⟩ => ⟨S96x1024, .f32⟩
  | .local _ .vmem, ⟨2, _⟩ => ⟨S96x1024, .f32⟩
  | .local _ .vmem, ⟨3, _⟩ => ⟨S96x1024, .f32⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | _, _ => ⟨S96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwReplicatedReferenceIdeal.lean ====
abbrev S96x1024 : Shape := ⟨2, ![96, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x1024, .f32⟩
  | .hbm, ⟨1, _⟩ => ⟨S96x1024, .f32⟩
  | .hbm, ⟨2, _⟩ => ⟨S96x1024, .f32⟩
  | .hbm, ⟨3, _⟩ => ⟨S96x1024, .f32⟩
  | .hbm, ⟨4, _⟩ => ⟨S_, .f32⟩
  | .hbm, ⟨5, _⟩ => ⟨S96x1024, .f32⟩
  | .hbm, ⟨6, _⟩ => ⟨S96x1024, .f32⟩
  | .hbm, ⟨7, _⟩ => ⟨S_, .f32⟩
  | .hbm, ⟨8, _⟩ => ⟨S96x1024, .f32⟩
  | .hbm, ⟨9, _⟩ => ⟨S96x1024, .f32⟩
  | .hbm, ⟨10, _⟩ => ⟨S96x1024, .f32⟩
  | .hbm, ⟨11, _⟩ => ⟨S_, .f32⟩
  | .hbm, ⟨12, _⟩ => ⟨S96x1024, .f32⟩
  | .hbm, ⟨13, _⟩ => ⟨S96x1024, .f32⟩
  | .hbm, ⟨14, _⟩ => ⟨S96x1024, .f32⟩
  | .hbm, ⟨15, _⟩ => ⟨S_, .f32⟩
  | .hbm, ⟨16, _⟩ => ⟨S96x1024, .f32⟩
  | .hbm, ⟨17, _⟩ => ⟨S96x1024, .f32⟩
  | .hbm, ⟨18, _⟩ => ⟨S96x1024, .f32⟩
  | .hbm, ⟨19, _⟩ => ⟨S_, .f32⟩
  | .hbm, ⟨20, _⟩ => ⟨S96x1024, .f32⟩
  | .hbm, ⟨21, _⟩ => ⟨S96x1024, .f32⟩
  | .hbm, ⟨22, _⟩ => ⟨S_, .f32⟩
  | .hbm, ⟨23, _⟩ => ⟨S96x1024, .f32⟩
  | .hbm, ⟨24, _⟩ => ⟨S96x1024, .f32⟩
  | .hbm, ⟨25, _⟩ => ⟨S96x1024, .f32⟩
  | .hbm, ⟨26, _⟩ => ⟨S_, .f32⟩
  | .hbm, ⟨27, _⟩ => ⟨S96x1024, .f32⟩
  | .hbm, ⟨28, _⟩ => ⟨S96x1024, .f32⟩
  | .hbm, ⟨29, _⟩ => ⟨S96x1024, .f32⟩
  | .hbm, ⟨30, _⟩ => ⟨S_, .f32⟩
  | .hbm, ⟨31, _⟩ => ⟨S96x1024, .f32⟩
  | .hbm, ⟨32, _⟩ => ⟨S96x1024, .f32⟩
  | .hbm, ⟨33, _⟩ => ⟨S96x1024, .f32⟩
  | .hbm, ⟨34, _⟩ => ⟨S_, .f32⟩
  | .hbm, ⟨35, _⟩ => ⟨S96x1024, .f32⟩
  | .hbm, ⟨36, _⟩ => ⟨S96x1024, .f32⟩
  | _, _ => ⟨S96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ReduceSumKernel.lean ====
abbrev S4x3456x1024 : Shape := ⟨3, ![4, 3456, 1024]⟩
abbrev S3456x1024 : Shape := ⟨2, ![3456, 1024]⟩
abbrev S4x384x1024 : Shape := ⟨3, ![4, 384, 1024]⟩
abbrev S384x1024 : Shape := ⟨2, ![384, 1024]⟩
abbrev S1x384x1024 : Shape := ⟨3, ![1, 384, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x3456x1024, .bf16⟩
  | .hbm, ⟨1, _⟩ => ⟨S3456x1024, .f32⟩
  | .local _ .vmem, ⟨0, _⟩ => ⟨S4x384x1024, .bf16⟩
  | .local _ .vmem, ⟨1, _⟩ => ⟨S4x384x1024, .bf16⟩
  | .local _ .vmem, ⟨2, _⟩ => ⟨S384x1024, .f32⟩
  | .local _ .vmem, ⟨3, _⟩ => ⟨S384x1024, .f32⟩
  | _, _ => ⟨S4x3456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReduceSumReferenceIdeal.lean ====
abbrev S4x3456x1024 : Shape := ⟨3, ![4, 3456, 1024]⟩
abbrev S_ : Shape := ⟨0, ![]⟩
abbrev S3456x1024 : Shape := ⟨2, ![3456, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x3456x1024, .bf16⟩
  | .hbm, ⟨1, _⟩ => ⟨S4x3456x1024, .f32⟩
  | .hbm, ⟨2, _⟩ => ⟨S_, .f32⟩
  | .hbm, ⟨3, _⟩ => ⟨S3456x1024, .f32⟩
  | _, _ => ⟨S4x3456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SmallSumKernel.lean ====
abbrev S4x2x96x1024 : Shape := ⟨4, ![4, 2, 96, 1024]⟩
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x2x96x1024, .f32⟩
  | .hbm, ⟨1, _⟩ => ⟨S8x96x1024, .f32⟩
  | .hbm, ⟨2, _⟩ => ⟨S96x1024, .f32⟩
  | .local _ .vmem, ⟨0, _⟩ => ⟨S8x96x1024, .f32⟩
  | .local _ .vmem, ⟨1, _⟩ => ⟨S96x1024, .f32⟩
  | _, _ => ⟨S4x2x96x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumReferenceIdeal.lean ====
abbrev S4x2x96x1024 : Shape := ⟨4, ![4, 2, 96, 1024]⟩
abbrev S_ : Shape := ⟨0, ![]⟩
abbrev S4x96x1024 : Shape := ⟨3, ![4, 96, 1024]⟩
abbrev S96x1024 : Shape := ⟨2, ![96, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x2x96x1024, .f32⟩
  | .hbm, ⟨1, _⟩ => ⟨S_, .f32⟩
  | .hbm, ⟨2, _⟩ => ⟨S4x96x1024, .f32⟩
  | .hbm, ⟨3, _⟩ => ⟨S_, .f32⟩
  | .hbm, ⟨4, _⟩ => ⟨S96x1024, .f32⟩
  | _, _ => ⟨S4x2x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormMixBwdKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixBwdReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== LossHeadKernel.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== NormFfnKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFfnReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemKernel.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1x1024, .f32⟩
  | .hbm, ⟨3, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S1x1024, .f32⟩
  | .hbm, ⟨16, _⟩ => ⟨S512x1024, .f32⟩
  | .hbm, ⟨17, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMemBwdKernel.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024, .f32⟩
  | .hbm, ⟨3, _⟩ => ⟨S1x1024, .f32⟩
  | .hbm, ⟨4, _⟩ => ⟨S512x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemBwdReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S1024, .f32⟩
  | .hbm, ⟨31, _⟩ => ⟨S512x1024, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S512x1024, .f32⟩
  | .hbm, ⟨36, _⟩ => ⟨S512x1024, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S_, .f32⟩
  | .hbm, ⟨42, _⟩ => ⟨S512, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x512 : Shape := ⟨2, ![1408, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .f32⟩
  | .local _ .vmem, ⟨1, _⟩ => ⟨S512x1408, .f32⟩
  | .local _ .vmem, ⟨2, _⟩ => ⟨S1408x512, .bf16⟩
  | .local _ .vmem, ⟨3, _⟩ => ⟨S1408x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S4096x1024, .f32⟩
  | .hbm, ⟨5, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DactKernel.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDownKernel.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjKernel.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjKernelIdeal.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .bf16⟩
  | .hbm, ⟨2, _⟩ => ⟨S1024x3072, .f32⟩
  | .hbm, ⟨3, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutKernelIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CqKernel.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqKernelIdeal.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqReferenceIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S1024x256, .f32⟩
  | .hbm, ⟨3, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CkKernel.lean ====
abbrev S512x1024 : Shape := ⟨2, ![512, 1024]⟩
abbrev S1024x256 : Shape := ⟨2, ![1024, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x256, .bf16⟩
  | .hbm, ⟨2, _⟩ => ⟨S512x256, .f32⟩
  | .local _ .vmem, ⟨0, _⟩ => ⟨S512x1024, .f32⟩
  | .local _ .vmem, ⟨1, _⟩ => ⟨S1024x256, .bf16⟩
  | .local _ .vmem, ⟨2, _⟩ => ⟨S512x256, .f32⟩
  | .local _ .vmem, ⟨3, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CkKernelIdeal.lean ====
abbrev S512x1024 : Shape := ⟨2, ![512, 1024]⟩
abbrev S1024x256 : Shape := ⟨2, ![1024, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x256, .bf16⟩
  | .hbm, ⟨2, _⟩ => ⟨S512x256, .f32⟩
  | .local _ .vmem, ⟨0, _⟩ => ⟨S512x1024, .f32⟩
  | .local _ .vmem, ⟨1, _⟩ => ⟨S1024x256, .bf16⟩
  | .local _ .vmem, ⟨2, _⟩ => ⟨S512x256, .f32⟩
  | .local _ .vmem, ⟨3, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CkReferenceIdeal.lean ====
abbrev S512x1024 : Shape := ⟨2, ![512, 1024]⟩
abbrev S1024x256 : Shape := ⟨2, ![1024, 256]⟩
abbrev S512x256 : Shape := ⟨2, ![512, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x256, .bf16⟩
  | .hbm, ⟨2, _⟩ => ⟨S1024x256, .f32⟩
  | .hbm, ⟨3, _⟩ => ⟨S512x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CoKernel.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .hbm, ⟨3, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CoKernelIdeal.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .hbm, ⟨3, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CoReferenceIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .hbm, ⟨3, _⟩ => ⟨S256x1024, .f32⟩
  | .hbm, ⟨4, _⟩ => ⟨S4096x1024, .f32⟩
  | .hbm, ⟨5, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpKernel.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpKernelIdeal.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S1024x5632, .f32⟩
  | .hbm, ⟨3, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DhnKernel.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .bf16⟩
  | .hbm, ⟨2, _⟩ => ⟨S4096x1024, .f32⟩
  | .local _ .vmem, ⟨0, _⟩ => ⟨S512x1408, .f32⟩
  | .local _ .vmem, ⟨1, _⟩ => ⟨S512x1408, .f32⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnKernelIdeal.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .bf16⟩
  | .hbm, ⟨2, _⟩ => ⟨S4096x1024, .f32⟩
  | .local _ .vmem, ⟨0, _⟩ => ⟨S512x1408, .f32⟩
  | .local _ .vmem, ⟨1, _⟩ => ⟨S512x1408, .f32⟩
  | .local _ .vmem, ⟨2, _⟩ => ⟨S512x1408, .bf16⟩
  | .local _ .vmem, ⟨3, _⟩ => ⟨S512x1408, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnReferenceIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DocKernel.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DocKernelIdeal.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DocReferenceIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhqKernel.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhqKernelIdeal.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhqReferenceIdeal.lean ====
abbrev S4096x256 : Shape := ⟨2, ![4096, 256]⟩
abbrev S1024x256 : Shape := ⟨2, ![1024, 256]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .bf16⟩
  | .hbm, ⟨2, _⟩ => ⟨S_, .f32⟩
  | .hbm, ⟨3, _⟩ => ⟨S4096x1024, .f32⟩
  | .hbm, ⟨4, _⟩ => ⟨S1024x256, .f32⟩
  | .hbm, ⟨5, _⟩ => ⟨S4096x256, .f32⟩
  | .hbm, ⟨6, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DmemKKernel.lean ====
abbrev S512x256 : Shape := ⟨2, ![512, 256]⟩
abbrev S1024x256 : Shape := ⟨2, ![1024, 256]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S512x1024, .f32⟩
  | .local _ .vmem, ⟨0, _⟩ => ⟨S512x256, .f32⟩
  | .local _ .vmem, ⟨1, _⟩ => ⟨S512x256, .bf16⟩
  | .local _ .vmem, ⟨2, _⟩ => ⟨S512x256, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemKKernelIdeal.lean ====
abbrev S512x256 : Shape := ⟨2, ![512, 256]⟩
abbrev S1024x256 : Shape := ⟨2, ![1024, 256]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S512x1024, .f32⟩
  | .local _ .vmem, ⟨0, _⟩ => ⟨S512x256, .f32⟩
  | .local _ .vmem, ⟨1, _⟩ => ⟨S512x256, .bf16⟩
  | .local _ .vmem, ⟨2, _⟩ => ⟨S512x256, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmemKReferenceIdeal.lean ====
abbrev S512x256 : Shape := ⟨2, ![512, 256]⟩
abbrev S1024x256 : Shape := ⟨2, ![1024, 256]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S_, .f32⟩
  | .hbm, ⟨3, _⟩ => ⟨S512x1024, .f32⟩
  | .hbm, ⟨4, _⟩ => ⟨S1024x256, .f32⟩
  | .hbm, ⟨5, _⟩ => ⟨S512x256, .f32⟩
  | .hbm, ⟨6, _⟩ => ⟨S512x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DmemVKernel.lean ====
abbrev S512x256 : Shape := ⟨2, ![512, 256]⟩
abbrev S1024x256 : Shape := ⟨2, ![1024, 256]⟩
abbrev S512x1024 : Shape := ⟨2, ![512, 1024]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S512x1024, .f32⟩
  | .hbm, ⟨3, _⟩ => ⟨S512x1024, .f32⟩
  | .local _ .vmem, ⟨0, _⟩ => ⟨S512x256, .f32⟩
  | .local _ .vmem, ⟨1, _⟩ => ⟨S512x256, .bf16⟩
  | .local _ .vmem, ⟨2, _⟩ => ⟨S512x256, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DmemVKernelIdeal.lean ====
abbrev S512x256 : Shape := ⟨2, ![512, 256]⟩
abbrev S1024x256 : Shape := ⟨2, ![1024, 256]⟩
abbrev S512x1024 : Shape := ⟨2, ![512, 1024]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S512x1024, .f32⟩
  | .hbm, ⟨3, _⟩ => ⟨S512x1024, .f32⟩
  | .local _ .vmem, ⟨0, _⟩ => ⟨S512x256, .f32⟩
  | .local _ .vmem, ⟨1, _⟩ => ⟨S512x256, .bf16⟩
  | .local _ .vmem, ⟨2, _⟩ => ⟨S512x256, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DmemVReferenceIdeal.lean ====
abbrev S512x256 : Shape := ⟨2, ![512, 256]⟩
abbrev S1024x256 : Shape := ⟨2, ![1024, 256]⟩
abbrev S512x1024 : Shape := ⟨2, ![512, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1024x256, .bf16⟩
  | .hbm, ⟨2, _⟩ => ⟨S512x1024, .f32⟩
  | .hbm, ⟨3, _⟩ => ⟨S_, .f32⟩
  | .hbm, ⟨4, _⟩ => ⟨S512x1024, .f32⟩
  | .hbm, ⟨5, _⟩ => ⟨S1024x256, .f32⟩
  | .hbm, ⟨6, _⟩ => ⟨S512x256, .f32⟩
  | .hbm, ⟨7, _⟩ => ⟨S512x1024, .f32⟩
  | .hbm, ⟨8, _⟩ => ⟨S512x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DmixedKernel.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixedKernelIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixedReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DhKernel.lean ====
abbrev S4096x3072 : Shape := ⟨2, ![4096, 3072]⟩
abbrev S1024x3072 : Shape := ⟨2, ![1024, 3072]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhKernelIdeal.lean ====
abbrev S4096x3072 : Shape := ⟨2, ![4096, 3072]⟩
abbrev S1024x3072 : Shape := ⟨2, ![1024, 3072]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwUpKernel.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpKernelIdeal.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwCoKernel.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCoKernelIdeal.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCoReferenceIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwCqKernel.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1024x256, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCqKernelIdeal.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1024x256, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCqReferenceIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S1024x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwCkKernel.lean ====
abbrev S512x1024 : Shape := ⟨2, ![512, 1024]⟩
abbrev S512x256 : Shape := ⟨2, ![512, 256]⟩
abbrev S1024x256 : Shape := ⟨2, ![1024, 256]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S1024x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCkKernelIdeal.lean ====
abbrev S512x1024 : Shape := ⟨2, ![512, 1024]⟩
abbrev S512x256 : Shape := ⟨2, ![512, 256]⟩
abbrev S1024x256 : Shape := ⟨2, ![1024, 256]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S1024x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCkReferenceIdeal.lean ====
abbrev S512x1024 : Shape := ⟨2, ![512, 1024]⟩
abbrev S512x256 : Shape := ⟨2, ![512, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x256, .f32⟩
  | .hbm, ⟨2, _⟩ => ⟨S_, .f32⟩
  | .hbm, ⟨3, _⟩ => ⟨S1024x256, .f32⟩
  | .hbm, ⟨4, _⟩ => ⟨S512x256, .f32⟩
  | .hbm, ⟨5, _⟩ => ⟨S256x1024, .f32⟩
  | .hbm, ⟨6, _⟩ => ⟨S1024x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOutKernel.lean ====
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutKernelIdeal.lean ====
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwInKernel.lean ====
abbrev S4096x1024 : Shape := ⟨2, ![4096, 1024]⟩
abbrev S4096x3072 : Shape := ⟨2, ![4096, 3072]⟩
abbrev S1024x3072 : Shape := ⟨2, ![1024, 3072]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1024x3072, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnActKernel.lean ====
abbrev S4096x5632 : Shape := ⟨2, ![4096, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S4096x2816 : Shape := ⟨2, ![4096, 2816]⟩
abbrev S512x256 : Shape := ⟨2, ![512, 256]⟩
abbrev S8x256 : Shape := ⟨2, ![8, 256]⟩
abbrev S512x1 : Shape := ⟨2, ![512, 1]⟩
abbrev S520x256 : Shape := ⟨2, ![520, 256]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S_, .f32⟩
  | .hbm, ⟨5, _⟩ => ⟨S4x5632, .f32⟩
  | .hbm, ⟨6, _⟩ => ⟨S8x5632, .f32⟩
  | .hbm, ⟨7, _⟩ => ⟨S4096x2816, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S512x256, .f32⟩
  | .local _ .vmem, ⟨13, _⟩ => ⟨S512x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnActReferenceIdeal.lean ====
abbrev S4096x5632 : Shape := ⟨2, ![4096, 5632]⟩
abbrev S3x5632 : Shape := ⟨2, ![3, 5632]⟩
abbrev S5632 : Shape := ⟨1, ![5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S4096x2816 : Shape := ⟨2, ![4096, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S2x2048x5632, .f32⟩
  | .hbm, ⟨4, _⟩ => ⟨S_, .f32⟩
  | .hbm, ⟨5, _⟩ => ⟨S2x2x5632, .f32⟩
  | .hbm, ⟨6, _⟩ => ⟨S2x2050x5632, .f32⟩
  | .hbm, ⟨7, _⟩ => ⟨S1x5632, .f32⟩
  | .hbm, ⟨8, _⟩ => ⟨S5632, .f32⟩
  | .hbm, ⟨9, _⟩ => ⟨S2x2048x5632, .f32⟩
  | .hbm, ⟨10, _⟩ => ⟨S1x1x5632, .f32⟩
  | .hbm, ⟨11, _⟩ => ⟨S2x2048x5632, .f32⟩
  | .hbm, ⟨12, _⟩ => ⟨S2x2048x5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S1x5632, .f32⟩
  | .hbm, ⟨17, _⟩ => ⟨S5632, .f32⟩
  | .hbm, ⟨18, _⟩ => ⟨S2x2048x5632, .f32⟩
  | .hbm, ⟨19, _⟩ => ⟨S1x1x5632, .f32⟩
  | .hbm, ⟨20, _⟩ => ⟨S2x2048x5632, .f32⟩
  | .hbm, ⟨21, _⟩ => ⟨S2x2048x5632, .f32⟩
  | .hbm, ⟨22, _⟩ => ⟨S2x2048x5632, .f32⟩
  | .hbm, ⟨23, _⟩ => ⟨S1x5632, .f32⟩
  | .hbm, ⟨24, _⟩ => ⟨S5632, .f32⟩
  | .hbm, ⟨25, _⟩ => ⟨S2x2048x5632, .f32⟩
  | .hbm, ⟨26, _⟩ => ⟨S1x1x5632, .f32⟩
  | .hbm, ⟨27, _⟩ => ⟨S2x2048x5632, .f32⟩
  | .hbm, ⟨28, _⟩ => ⟨S2x2048x5632, .f32⟩
  | .hbm, ⟨29, _⟩ => ⟨S2x2048x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== ConvTKernel.lean ====
abbrev S4096x5632 : Shape := ⟨2, ![4096, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S512x256 : Shape := ⟨2, ![512, 256]⟩
abbrev S8x256 : Shape := ⟨2, ![8, 256]⟩
abbrev S512x1 : Shape := ⟨2, ![512, 1]⟩
abbrev S520x256 : Shape := ⟨2, ![520, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S_, .f32⟩
  | .hbm, ⟨5, _⟩ => ⟨S4x5632, .f32⟩
  | .hbm, ⟨6, _⟩ => ⟨S8x5632, .f32⟩
  | .hbm, ⟨7, _⟩ => ⟨S4096x5632, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S512x256, .f32⟩
  | .local _ .vmem, ⟨7, _⟩ => ⟨S512x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvTReferenceIdeal.lean ====
abbrev S4096x5632 : Shape := ⟨2, ![4096, 5632]⟩
abbrev S3x5632 : Shape := ⟨2, ![3, 5632]⟩
abbrev S5632 : Shape := ⟨1, ![5632]⟩
abbrev S_ : Shape := ⟨0, ![]⟩
abbrev S2x2048x5632 : Shape := ⟨3, ![2, 2048, 5632]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S4096x5632, .f32⟩
  | .hbm, ⟨5, _⟩ => ⟨S2x2048x5632, .f32⟩
  | .hbm, ⟨6, _⟩ => ⟨S_, .f32⟩
  | .hbm, ⟨7, _⟩ => ⟨S2x2x5632, .f32⟩
  | .hbm, ⟨8, _⟩ => ⟨S2x2050x5632, .f32⟩
  | .hbm, ⟨9, _⟩ => ⟨S_, .f32⟩
  | .hbm, ⟨10, _⟩ => ⟨S2x2x5632, .f32⟩
  | .hbm, ⟨11, _⟩ => ⟨S1x5632, .f32⟩
  | .hbm, ⟨12, _⟩ => ⟨S5632, .f32⟩
  | .hbm, ⟨13, _⟩ => ⟨S2x2048x5632, .f32⟩
  | .hbm, ⟨14, _⟩ => ⟨S1x1x5632, .f32⟩
  | .hbm, ⟨15, _⟩ => ⟨S2x2048x5632, .f32⟩
  | .hbm, ⟨16, _⟩ => ⟨S2x2048x5632, .f32⟩
  | .hbm, ⟨17, _⟩ => ⟨S1x1x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S2x2048x5632, .f32⟩
  | .hbm, ⟨23, _⟩ => ⟨S1x1x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S4096x5632, .f32⟩
  | .hbm, ⟨35, _⟩ => ⟨S2x2048x5632, .f32⟩
  | .hbm, ⟨36, _⟩ => ⟨S2x2048x5632, .f32⟩
  | .hbm, ⟨37, _⟩ => ⟨S2x2048x5632, .f32⟩
  | .hbm, ⟨38, _⟩ => ⟨S_, .f32⟩
  | .hbm, ⟨39, _⟩ => ⟨S2x2050x5632, .f32⟩
  | .hbm, ⟨40, _⟩ => ⟨S2x2048x5632, .f32⟩
  | .hbm, ⟨41, _⟩ => ⟨S2x2048x5632, .f32⟩
  | .hbm, ⟨42, _⟩ => ⟨S_, .f32⟩
  | .hbm, ⟨43, _⟩ => ⟨S2x2050x5632, .f32⟩
  | .hbm, ⟨44, _⟩ => ⟨S2x2050x5632, .f32⟩
  | .hbm, ⟨45, _⟩ => ⟨S2x2048x5632, .f32⟩
  | .hbm, ⟨46, _⟩ => ⟨S2x2048x5632, .f32⟩
  | .hbm, ⟨47, _⟩ => ⟨S_, .f32⟩
  | .hbm, ⟨48, _⟩ => ⟨S2x2050x5632, .f32⟩
  | .hbm, ⟨49, _⟩ => ⟨S2x2050x5632, .f32⟩
  | .hbm, ⟨50, _⟩ => ⟨S2x2x5632, .f32⟩
  | .hbm, ⟨51, _⟩ => ⟨S2x2048x5632, .f32⟩
  | .hbm, ⟨52, _⟩ => ⟨S4096x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== ReduceAdd0Kernel.lean ====
abbrev S4x6912x1024 : Shape := ⟨3, ![4, 6912, 1024]⟩
abbrev S4x3456x1024 : Shape := ⟨3, ![4, 3456, 1024]⟩
abbrev S_ : Shape := ⟨0, ![]⟩
abbrev S1 : Shape := ⟨1, ![1]⟩
abbrev S1x384x1024 : Shape := ⟨3, ![1, 384, 1024]⟩
abbrev S384x1024 : Shape := ⟨2, ![384, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | .hbm, ⟨2, _⟩ => ⟨S_, .i32⟩
  | .hbm, ⟨3, _⟩ => ⟨S4x3456x1024, .bf16⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .bf16⟩
  | .local _ .vmem, ⟨5, _⟩ => ⟨S1x384x1024, .bf16⟩
  | .local _ .smem, ⟨0, _⟩ => ⟨S1, .i32⟩
  | _, _ => ⟨S4x6912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c9_i32 : BitVec 32 := 9#32
  let v1 : BitVec 32 := Scalar.muli v0 c9_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReduceAdd0ReferenceIdeal.lean ====
abbrev S4x6912x1024 : Shape := ⟨3, ![4, 6912, 1024]⟩
abbrev S4x3456x1024 : Shape := ⟨3, ![4, 3456, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | .hbm, ⟨2, _⟩ => ⟨S4x3456x1024, .f32⟩
  | .hbm, ⟨3, _⟩ => ⟨S4x3456x1024, .f32⟩
  | .hbm, ⟨4, _⟩ => ⟨S4x3456x1024, .bf16⟩
  | _, _ => ⟨S4x6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ReduceAdd1Kernel.lean ====
abbrev S4x6912x1024 : Shape := ⟨3, ![4, 6912, 1024]⟩
abbrev S4x3456x1024 : Shape := ⟨3, ![4, 3456, 1024]⟩
abbrev S_ : Shape := ⟨0, ![]⟩
abbrev S1 : Shape := ⟨1, ![1]⟩
abbrev S1x384x1024 : Shape := ⟨3, ![1, 384, 1024]⟩
abbrev S384x1024 : Shape := ⟨2, ![384, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | .hbm, ⟨2, _⟩ => ⟨S_, .i32⟩
  | .hbm, ⟨3, _⟩ => ⟨S4x3456x1024, .bf16⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .bf16⟩
  | .local _ .vmem, ⟨5, _⟩ => ⟨S1x384x1024, .bf16⟩
  | .local _ .smem, ⟨0, _⟩ => ⟨S1, .i32⟩
  | _, _ => ⟨S4x6912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c9_i32 : BitVec 32 := 9#32
  let v1 : BitVec 32 := Scalar.muli v0 c9_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReduceAdd1ReferenceIdeal.lean ====
abbrev S4x6912x1024 : Shape := ⟨3, ![4, 6912, 1024]⟩
abbrev S4x3456x1024 : Shape := ⟨3, ![4, 3456, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x6912x1024, .f32⟩
  | .hbm, ⟨1, _⟩ => ⟨S4x3456x1024, .f32⟩
  | .hbm, ⟨2, _⟩ => ⟨S4x3456x1024, .f32⟩
  | .hbm, ⟨3, _⟩ => ⟨S4x3456x1024, .f32⟩
  | .hbm, ⟨4, _⟩ => ⟨S4x3456x1024, .bf16⟩
  | _, _ => ⟨S4x6912x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Alone.lean ====
/-
# A launch whose program is one region without staged windows

Every device's program is a single kernel call, the kernel addresses its arrays where they lie, and no buffer is
staged. The devices talk from the first operation on, so the launch gathers every device's semaphores and every
device's arrays at once, and one step over all devices deals them out again: a device starts with shares of its own
arrays and with the parts of the other devices' arrays that it writes.
-/
module

public import Idealize.ShloMosaic.Lib.Pipeline.Launch
public import Idealize.ShloMosaic.Lib.Pipeline.Kit
public import Idealize.ShloMosaic.Lib.Quiescent
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Launch

variable {nD : Nat} {τ : Topo} {sig : RefSig} {Val : EltTy → Type} [∀ e, Nonempty (Val e)]
variable {U : Type} [URA U]

local notation "𝕄" => MT nD τ sig Unit Val ℕ U ℕ

variable {Λ₀ : Idealize.SL.Sem.Labels} (cfgs : Fin 1 → Cfg sig Λ₀)
  (dats : (p : Fin 1) → (c : Dev nD) → Dat τ Val Unit ℕ U ℕ (cfgs p) c)
  (hinj : Function.Injective (cellOf (nD := nD) (τ := τ) cfgs))
  (E : Emb (URounds (GSem nD τ sig) Unit) (MT nD τ sig Unit Val ℕ U ℕ))
  (defs₀ : Defs nD τ sig Val Λ₀) (𝒱₀ : Variants)

/-- A conjunction over no index is nothing. -/
theorem bigSep_none {M : Type} [URA M] {I : Type} [Fintype I] [IsEmpty I] (Φ : I → sProp M) :
    bigSep Finset.univ Φ = (BI.emp : sProp M) := by
  rw [Finset.univ_eq_empty, BI.bigSep_empty]

include hinj E in
/-- The launch: from the zero counters, every fair execution ends, every final memory satisfies what the devices' holdings say
of it, and every counter is at zero again. -/
theorem run_alone [IsEmpty (Fin (cfgs 0).W)]
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (hbody : ∀ c, BodyObligation (dats 0 c) defs₀ 𝒱₀ () Set.univ)
    (O₀ : Dev nD → CellTallies nD τ sig Unit) (howed₀ : ∀ c, (dats 0 c).owed 0 = O₀ c)
    (howedN : ∀ c, (dats 0 c).owed (Fin.last _) = 0)
    (u₀ : U) (G G' Y : Dev nD → sProp 𝕄)
    (hu₀ : (ownU u₀ : sProp 𝕄) ⊢ |={Set.univ}=> bigSep Finset.univ G)
    (hglob : (bigSep Finset.univ fun c : Dev nD => iprop(scopedSems0 (c.tc : Thread nD τ)
        ∗ unscopedBufs c (fun b => m ((c.tc : Thread nD τ).loc b)) ∗ G c) : sProp 𝕄) ⊢ |={Set.univ}=> bigSep Finset.univ G')
    (hin : ∀ c, iprop(scopedBufs (c.tc : Thread nD τ) ∗ launchCred O₀ c ∗ G' c) ⊢ (dats 0 c).Φ 0)
    (hout : ∀ c, (dats 0 c).Φ (Fin.last (cfgs 0).N)
      ⊢ iprop(Y c ∗ scopedSems0 (c.tc : Thread nD τ) ∗ scopedBufs (c.tc : Thread nD τ)))
    (hsem : ∀ sm : SemLoc sig, sm.isScoped .tc = true)
    (QY : Dev nD → MemSt nD τ sig Val → Prop)
    (hY : ∀ c (s' : Phys nD τ sig Val), iprop(Y c ∗ SI s') ⊢ |={Set.univ}=> iprop(⌜QY c s'.mem⌝ ∗ SI s')) :
    θ_run (Pipeline.defs (fun p => (cfgs p).toPCfg (Val := Val)) defs₀) (onTc main) ⟨m, fun _ => 0, g⟩
      (fun r => (∀ c, QY c r.2) ∧ r.2.sem = fun _ => 0) := by
  classical
  have hnone (p : Fin 1) : IsEmpty (Fin (cfgs p).W) := by rw [Subsingleton.elim p 0]; infer_instance
  let start : Dev nD → sProp 𝕄 := fun c =>
    iprop(scopedBufs (c.tc : Thread nD τ) ∗ owes (c.tc : Thread nD τ) (O₀ c) ∅ ∗ launchCred O₀ c ∗ G' c)
  let done : Dev nD → sProp 𝕄 := fun c => iprop(Y c ∗ scopedSems0 (c.tc : Thread nD τ))
  refine adequate_tpu _ _ _ _
    (reflect_intro_fupd_tc_sems (X := Unit) (Variants.lift 𝒱₀) (owing O₀) 0 (noBookings fun _ => le_rfl) (owing_of_ne O₀) u₀
      (fun _ => start) (fun _ => done) (fun _ => iprop(emp)) Set.univ ?_ (fun _ c => ?_) fun _ => ?_)
  · -- every device's holdings, gathered and dealt again
    have hcores : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ (bigSep Finset.univ fun c : Dev nD => iprop((scopedBufs (c.tc : Thread nD τ) ∗ owes (c.tc : Thread nD τ) (O₀ c) ∅ ∗ launchCred O₀ c)
            ∗ scopedSems0 (c.tc : Thread nD τ) ∗ unscopedBufs c (fun b => m ((c.tc : Thread nD τ).loc b))) : sProp 𝕄) := by
      refine bigSep_mono fun c _ => (coreInit_boundary_owing O₀ m g c).trans ?_
      unfold boundary
      iintro ⟨⟨Hb, Hs, -⟩, Hu, -, Ho, -, -, Hc⟩
      isplitl [Hb Ho Hc]
      · isplitl [Hb]; · iexact Hb
        isplitl [Ho] <;> iassumption
      · isplitl [Hs] <;> iassumption
    iintro ⟨Hcores, Hu⟩
    ihave H := hcores $$ Hcores
    ihave H' := (Entails.of_eq ((bigSep_sep' _ _ _).trans (congrArg (BIBase.sep _) (bigSep_sep' _ _ _)))) $$ H
    icases H' with ⟨Hkept, Hs, Hb⟩
    imod hu₀ $$ Hu with HG
    imod hglob $$ [Hs Hb HG] with HG'
    · rw [bigSep_sep', bigSep_sep']
      isplitl [Hs]; · iexact Hs
      isplitl [Hb] <;> iassumption
    imodintro
    iexists ()
    isplitr []
    · simp only [start, bigSep_sep']
      icases Hkept with ⟨H1, H2, H3⟩
      isplitl [H1]; · iexact H1
      isplitl [H2]; · iexact H2
      isplitl [H3] <;> iassumption
    · iempintro
  · -- one device's program
    have hbufs : (scopedBufs (c.tc : Thread nD τ) : sProp 𝕄) ⊢ iprop(Dat.staging (cfgs 0) c ∗ scopedBufs (c.tc : Thread nD τ)) := by
      unfold Dat.staging
      rw [bigSep_none]
      iintro H
      isplitr; · iempintro
      iexact H
    have hin' : iprop((launchCred O₀ c ∗ G' c) ∗ prefHeld ((cfgs 0).toPCfg (Val := Val)).pre c (fun k => k.elim0) ((cfgs 0).toPCfg_adm).1
        ∗ scopedBufs (c.tc : Thread nD τ)) ⊢ (dats 0 c).Φ 0 := by
      refine BIBase.Entails.trans ?_ (hin c)
      iintro ⟨⟨Hc, HG⟩, -, Hb⟩
      isplitl [Hb]; · iexact Hb
      isplitl [Hc] <;> iassumption
    have hout' : iprop((dats 0 c).Φ (Fin.last (cfgs 0).N) ∗ cellsSems0 cfgs 0 c ∗ Dat.staging (cfgs 0) c)
        ⊢ iprop(Y c ∗ scopedSems0 (c.tc : Thread nD τ) ∗ scopedBufs (c.tc : Thread nD τ)) := by
      refine BIBase.Entails.trans ?_ (hout c)
      iintro ⟨H, -⟩
      iexact H
    simp only [start]
    rw [hmain c]
    iintro ⟨Hb, Ho, Hc, HG⟩
    iapply (wp_customCall_entry (fun p => (cfgs p).toPCfg (Val := Val)) (fun p => (cfgs p).toPCfg_adm) dats () E (fun _ => 0) hinj (0 : Fin 1) defs₀ 𝒱₀ (fun k => k.elim0) c Set.univ
        (fun w => isEmptyElim w) (hbody c).loose (fun w => isEmptyElim w) none (fun u h => nomatch h)
        (X := iprop(launchCred O₀ c ∗ G' c)) (Y := iprop(Y c)) (R := scopedBufs (c.tc : Thread nD τ))
        (k := fun _ => .ret ⟨⟩) (Q := fun _ => post (liftTc done BI.emp) (c.tc : Thread nD τ)) hbufs hin' hout') $$ [Hb Ho Hc HG]
    · isplitl [Ho]
      · unfold EntryPre PerCore.EntryPre Dat.owesAt owesWithin Dat.arrays PerCore.cellsWaits PerCore.cellsInit PerCore.toksInit
        unfold PerCore.RDat.cellsWaits PerCore.RDat.cellsInit
        rw [howed₀ c]
        isplitr
        · iapply (Entails.of_eq (@bigSep_none _ _ (Fin (cfgs 0).W) _ _ _).symm); iempintro
        isplitl [Ho]
        · iexists ∅; isplitr; · ipureintro; rw [Finset.coe_empty]; exact Set.empty_subset _
          iexact Ho
        isplitr
        · iapply (Entails.of_eq (@bigSep_none _ _ (Fin (cfgs 0).W) _ _ _).symm); iempintro
        isplitr
        · iapply (Entails.of_eq (@bigSep_none _ _ (Fin (cfgs 0).W) _ _ _).symm); iempintro
        · iapply (Entails.of_eq (@bigSep_none _ _ (Fin (cfgs 0).W) _ _ _).symm); iempintro
      isplitr
      · unfold prefHeld
        iapply (Entails.of_eq (@bigSep_none _ _ (Fin 0) _ _ _).symm); iempintro
      isplitl [Hc HG]
      · isplitl [Hc] <;> iassumption
      iexact Hb
    iintro ⟨Hpost, HY, HZ, -⟩
    rw [wp_ret]; imodintro
    unfold post; simp only [liftTc_tc, done]
    unfold EntryPost PerCore.EntryPost Dat.owesAt owesWithin
    rw [howedN c]
    icases Hpost with ⟨-, ⟨%W, -, HW⟩⟩
    isplitl [HY HZ]
    · isplitl [HY] <;> iassumption
    iexists W; iexact HW
  · -- the results and the counters, read off a final memory
    have hcore (c : Dev nD) (s' : Phys nD τ sig Val) : iprop(done c ∗ SI s') ⊢ |={Set.univ}=>
        iprop(⌜QY c s'.mem ∧ ∀ sm : SemLoc sig, sm.isScoped .tc = true → s'.mem.sem ((c.tc : Thread nD τ), sm) = 0⌝ ∗ SI s') := by
      simp only [done]
      iintro ⟨⟨HY, HZ⟩, HSI⟩
      ihave %hz := (tcScoped_read_pers c s') $$ [HZ HSI]
      · isplitl [HZ] <;> iassumption
      imod (hY c s') $$ [HY HSI] with ⟨%hy, HSI⟩
      · isplitl [HY] <;> iassumption
      imodintro
      isplitr; · ipureintro; exact ⟨hy, hz⟩
      iexact HSI
    iintro ⟨H, -, Hrest⟩ %s' HSI
    ihave %hrest := (scSems_read_zero m g s') $$ [Hrest HSI]
    · isplitl [Hrest] <;> iassumption
    imod (posts_fupd Finset.univ hcore s') $$ [H HSI] with %h
    · isplitl [H] <;> iassumption
    imodintro
    ipureintro
    exact ⟨fun c => (h c (Finset.mem_univ c)).1,
      sem_eq_zero_of_scoped hsem (sems_of_reads (fun c => (h c (Finset.mem_univ c)).2) hrest)⟩

end Launch

end Cert.Exchange

end
-- ==== Proof.Exchange.lean ====
/-
# Exchanges of blocks between devices

A kernel that only moves blocks: each device starts some copies to other devices ("remote", one per `r : R`) and some
within itself ("local", one per `l : L`), and waits for all of them, for its own and for those that reach it. Every
copy of every device is started once; a semaphore of a device counts one copy. So each semaphore is a cell with one
round and one duty, and the program needs no further synchronisation: a device begins with the parts of the other
devices' arrays that it will write, and gets its own parts back, written, with its waits.

`Plan` says which semaphores, where the copies go and what each copy reads, overwrites and leaves. `Held` is what a
device has in hand after some of its steps; `start_remote`, `start_local` and `await` are the three kinds of step;
`deal` is the launch.
-/
module

public import proofs.«01_k».proof.Proof.Alone

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The ghost state: the rounds of the cells, beside the pipeline's unused part. -/
abbrev Ghost (nD : Nat) (τ : Topo) (sig : RefSig) : Type := UR sig nD τ × UR sig nD τ

/-- Assertions over it. -/
abbrev Asrt (nD : Nat) (τ : Topo) (sig : RefSig) (Val : EltTy → Type) : Type :=
  sProp (MT nD τ sig Unit Val ℕ (Ghost nD τ sig) ℕ)

/-- An assertion that a cell may keep. -/
abbrev Keeps {nD : Nat} {τ : Topo} {sig : RefSig} {Val : EltTy → Type} (P : Asrt nD τ sig Val) : Prop :=
  BI.Storable (upEmb : UEmb _ (MT nD τ sig Unit Val ℕ (Ghost nD τ sig) ℕ)) P

/-- An exchange: the cells (a remote copy's at the sender, a remote copy's at the receiver, a local copy's), the bytes
    of a copy, where the remote copies go, and what the copies read (`src`), overwrite (`slot`) and leave (`land`).
    `slotR r d` and `landR r d` lie on the receiving device `d`. -/
structure Plan (nD : Nat) (τ : Topo) (sig : RefSig) (Val : EltTy → Type) (R L : Type) where
  cell : R ⊕ R ⊕ L → SemLoc sig
  cell_inj : Function.Injective cell
  amt : ℕ
  amt_pos : 0 < amt
  dest : R → Dev nD ≃ Dev nD
  srcR : R → Dev nD → Asrt nD τ sig Val
  slotR : R → Dev nD → Asrt nD τ sig Val
  landR : R → Dev nD → Asrt nD τ sig Val
  srcL : L → Dev nD → Asrt nD τ sig Val
  slotL : L → Dev nD → Asrt nD τ sig Val
  landL : L → Dev nD → Asrt nD τ sig Val
  keeps_srcR : ∀ r c, Keeps (srcR r c)
  keeps_landR : ∀ r c, Keeps (landR r c)
  keeps_srcL : ∀ l c, Keeps (srcL l c)
  keeps_landL : ∀ l c, Keeps (landL l c)

section Exchange

variable {nD : Nat} {τ : Topo} {sig : RefSig} {Val : EltTy → Type} [∀ e, Nonempty (Val e)]

local notation "𝕄" => MT nD τ sig Unit Val ℕ (Ghost nD τ sig) ℕ

abbrev ER : Emb (UR sig nD τ) (MT nD τ sig Unit Val ℕ (Ghost nD τ sig) ℕ) := embR

variable {R L : Type} [Fintype R] [DecidableEq R] [Fintype L] [DecidableEq L]

/-- A conjunction with one conjunct apart; -/
theorem bigSep_pull {M : Type} [URA M] {I : Type} [DecidableEq I] {s : Finset I} {i : I} (h : i ∈ s) (Φ : I → sProp M) :
    bigSep s Φ = iprop(Φ i ∗ bigSep (s.erase i) Φ) := bigSep_erase h

/-- and with one more conjunct. -/
theorem bigSep_push {M : Type} [URA M] {I : Type} [DecidableEq I] {s : Finset I} {i : I} (h : i ∉ s) (Φ : I → sProp M) :
    bigSep (insert i s) Φ = iprop(Φ i ∗ bigSep s Φ) := bigSep_insert h

namespace Plan

variable (P : Plan nD τ sig Val R L)

/-- Cell `k` of device `c`. -/
abbrev at' (c : Dev nD) (k : R ⊕ R ⊕ L) : GSem nD τ sig := ((c.tc : Thread nD τ), P.cell k)

/-- What the copy counted by cell `k` of device `c` hands to `c`. -/
def pay (c : Dev nD) : R ⊕ R ⊕ L → Asrt nD τ sig Val
  | .inl r => P.srcR r c
  | .inr (.inl r) => P.landR r c
  | .inr (.inr l) => iprop(P.landL l c ∗ P.srcL l c)

instance keeps_pay (c : Dev nD) (k : R ⊕ R ⊕ L) : Keeps (P.pay c k) := by
  have h1 := P.keeps_srcR; have h2 := P.keeps_landR; have h3 := P.keeps_srcL; have h4 := P.keeps_landL
  rcases k with r | r | l
  · exact h1 r c
  · exact h2 r c
  · unfold pay; have := h3 l c; have := h4 l c; infer_instance

open Classical in
/-- One round of one duty for every cell. -/
def rd : Rounds.Schedule (GSem nD τ sig) Unit 𝕄 where
  duties g r := if r = 0 ∧ g.1.2 = .tc ∧ ∃ k, g.2 = P.cell k then {()} else ∅
  unitless _ := False
  amount _ _ _ := P.amt
  payload g _ _ := if h : ∃ k, g.2 = P.cell k then P.pay g.1.1 h.choose else iprop(emp)
  amount_pos _ _ _ _ := P.amt_pos

instance keeps_payload (g : GSem nD τ sig) (r : ℕ) (d : Unit) : BI.Storable (upEmb : UEmb _ 𝕄) (P.rd.payload g r d) := by
  classical
  show BI.Storable upEmb (if h : ∃ k, g.2 = P.cell k then P.pay g.1.1 h.choose else iprop(emp))
  split
  · exact P.keeps_pay _ _
  · infer_instance

theorem duties_at (c : Dev nD) (k : R ⊕ R ⊕ L) : P.rd.duties (P.at' c k) 0 = {()} := by
  dsimp only [rd]; exact if_pos ⟨rfl, rfl, k, rfl⟩

theorem duties_later (g : GSem nD τ sig) : ∀ r, 1 ≤ r → P.rd.duties g r = ∅ :=
  fun r hr => by dsimp only [rd]; exact if_neg fun h => by omega

theorem expect_at (c : Dev nD) (k : R ⊕ R ⊕ L) : P.rd.expect (P.at' c k) 0 = P.amt := by
  unfold Schedule.expect Schedule.amountOf; rw [duties_at, Finset.sum_singleton]; rfl

theorem payload_at (c : Dev nD) (k : R ⊕ R ⊕ L) (u : Unit) : P.rd.payload (P.at' c k) 0 u = P.pay c k := by
  have h : ∃ k', P.cell k = P.cell k' := ⟨k, rfl⟩
  dsimp only [rd]
  rw [dif_pos h]
  exact congrArg (P.pay c) (P.cell_inj h.choose_spec).symm

theorem rest_at (c : Dev nD) (k : R ⊕ R ⊕ L) :
    bigSep (P.rd.duties (P.at' c k) 0 \ ∅) (fun u => P.rd.payload (P.at' c k) 0 u) = P.pay c k := by
  rw [Finset.sdiff_empty, duties_at, bigSep_singleton, payload_at]

/-! ## What a device holds -/

/-- What device `c` owes for the remote copies `S` that it has still to start. -/
def due (c : Dev nD) (S : Finset R) : CellTallies nD τ sig Unit :=
  ∑ r ∈ S, tallyAt (P.at' (P.dest r c) (.inr (.inl r))) () P.amt

/-- The cells' invariants. -/
def records (κ : Dev nD × (R ⊕ R ⊕ L) → ℕ) : sProp 𝕄 :=
  iprop((bigSep Finset.univ fun ck => cellInv ER P.rd (κ ck) (P.at' ck.1 ck.2))
    ∗ bigSep Finset.univ fun ck : Dev nD × (R ⊕ R ⊕ L) => reached ER (P.at' ck.1 ck.2) 0)

instance records_persistent (κ : Dev nD × (R ⊕ R ⊕ L) → ℕ) : BI.Persistent (P.records κ) := by
  unfold records; infer_instance

/-- What a remote copy still to be started needs. -/
def readyR (c : Dev nD) (r : R) : sProp 𝕄 :=
  iprop(P.srcR r c ∗ P.slotR r (P.dest r c) ∗ dutyTok ER (P.at' c (.inl r)) 0 ()
    ∗ dutyTok ER (P.at' (P.dest r c) (.inr (.inl r))) 0 ())

/-- What a local copy still to be started needs. -/
def readyL (c : Dev nD) (l : L) : sProp 𝕄 :=
  iprop(P.srcL l c ∗ P.slotL l c ∗ dutyTok ER (P.at' c (.inr (.inr l))) 0 ())

/-- Device `c` with the remote copies `S` and the local copies `T` still to be started, `W` still to be waited for,
    those of `C` on their way, and those of `D` waited for. -/
def Held (c : Dev nD) (S : Finset R) (T : Finset L) (W C D : Finset (R ⊕ R ⊕ L)) : sProp 𝕄 :=
  iprop((∃ κ, P.records κ) ∗ bigSep S (P.readyR c) ∗ bigSep T (P.readyL c)
    ∗ bigSep W (fun k => atPos ER (P.at' c k) 0 ∅ 0)
    ∗ bigSep C (fun k => cred (tallyAt (P.at' c k) () P.amt))
    ∗ bigSep D (fun k => iprop(P.pay c k ∗ semVal (P.at' c k) 0)))

/-- The same, with what the device owes. -/
def Run (c : Dev nD) (S : Finset R) (T : Finset L) (W C D : Finset (R ⊕ R ⊕ L)) : sProp 𝕄 :=
  iprop(P.Held c S T W C D ∗ ∃ Ws, owes (c.tc : Thread nD τ) (P.due c S) Ws)

theorem due_erase (c : Dev nD) {S : Finset R} {r : R} (h : r ∈ S) :
    P.due c S = P.due c (S.erase r) + tallyAt (P.at' (P.dest r c) (.inr (.inl r))) () P.amt := by
  unfold due; rw [Finset.sum_erase_add S _ h]

theorem inv_at (κ : Dev nD × (R ⊕ R ⊕ L) → ℕ) (c : Dev nD) (k : R ⊕ R ⊕ L) :
    P.records κ ⊢ iprop(cellInv ER P.rd (κ (c, k)) (P.at' c k) ∗ reached ER (P.at' c k) 0) := by
  unfold records
  exact BIClass.sep_mono (bigSep_elim (Finset.mem_univ (c, k))) (bigSep_elim (Finset.mem_univ (c, k)))

/-! ## The steps -/

variable {Λ₀ : Idealize.SL.Sem.Labels} (defs₀ : Defs nD τ sig Val Λ₀) (𝒱₀ : Variants)

/-- Starting a remote copy. -/
theorem start_remote (c n : Dev nD) (r : R) (hn : n = P.dest r c) {S : Finset R} {T : Finset L} {W C D : Finset (R ⊕ R ⊕ L)}
    (hr : r ∈ S) (hC : (.inl r : R ⊕ R ⊕ L) ∉ C)
    {sp sp' : Space} {s : Shape} {e : EltTy} {src : Memref sig .tc sp s e} {dst : Memref sig .tc sp' s e}
    {hsc : dst.view.ref.isScScratch = false} {sS sR : SemLoc sig} (hS : sS = P.cell (.inl r)) (hR : sR = P.cell (.inr (.inl r)))
    {hsrc : src.view.WordExact} {hdst : dst.view.WordExact}
    {hsem : DmaTarget.Typed sp sR (.remote (Dev.tc n : Thread nD τ) dst sS hsc)}
    {α : Type} {Q : α → sProp 𝕄} {k : PUnit → Prog (TpuEff nD τ sig Val Λ₀ .tc) α}
    {q : PosShare TreeShare} {fs : Buf Val (src.view.loc (c.tc : Thread nD τ))} {fd : Buf Val (dst.view.loc (n.tc : Thread nD τ))}
    (hN : dst.view.amount sR = P.amt)
    (hrd : P.srcR r c = (src.view.loc (c.tc : Thread nD τ) ↦[src.view.set]{q} fs : sProp 𝕄))
    (hsl : P.slotR r n = (dst.view.loc (n.tc : Thread nD τ) ↦[dst.view.set]{fullShare} fd : sProp 𝕄))
    (hld : (dst.view.loc (n.tc : Thread nD τ) ↦[dst.view.set]{fullShare} (dst.view.write Val fd (src.view.read Val fs) Finset.univ) : sProp 𝕄)
      ⊢ P.landR r n) :
    P.Run c S T W C D
      ⊢ iprop((P.Run c (S.erase r) T W (insert (.inl r) C) D -∗ wp frame (wpE defs₀ 𝒱₀ (c.tc : Thread nD τ) none) Set.univ (k ⟨⟩) Q)
          -∗ wp frame (wpE defs₀ 𝒱₀ (c.tc : Thread nD τ) none) Set.univ
              (.op (.enqueueDma src (.remote (Dev.tc n : Thread nD τ) dst sS hsc) sR hsrc hdst hsem) k) Q) := by
  subst hn; subst hS; subst hR
  unfold Run Held
  rw [bigSep_pull hr, bigSep_push hC, P.due_erase c hr]
  iintro ⟨⟨⟨%κ, #Hrec⟩, ⟨Hr, HS⟩, HT, HW, HC, HD⟩, ⟨%Ws, HO⟩⟩
  iintro Hk
  ihave #H1 := (P.inv_at κ c (.inl r)) $$ Hrec
  ihave #H2 := (P.inv_at κ (P.dest r c) (.inr (.inl r))) $$ Hrec
  icases H1 with ⟨#HI1, #HR1⟩
  icases H2 with ⟨#HI2, #HR2⟩
  ihave Hr' := (Entails.of_eq (show P.readyR c r = iprop((src.view.loc (c.tc : Thread nD τ) ↦[src.view.set]{q} fs) ∗ (dst.view.loc ((P.dest r c).tc : Thread nD τ) ↦[dst.view.set]{fullShare} fd) ∗ dutyTok ER (P.at' c (.inl r)) 0 ()
    ∗ dutyTok ER (P.at' (P.dest r c) (.inr (.inl r))) 0 ()) from by unfold readyR; rw [hrd, hsl])) $$ Hr
  icases Hr' with ⟨Hsrc, Hdst, Ht1, Ht2⟩
  iapply (Rounds.wp_send_pointsTo 𝒱₀ ER P.rd (c.tc : Thread nD τ) none (c' := ((P.dest r c).tc : Thread nD τ)) (κ₁ := κ (c, .inl r)) (κ₂ := κ (P.dest r c, .inr (.inl r)))
    (r₁ := 0) (r₂ := 0) (d₁ := ()) (d₂ := ()) (fd := fd)
    (by rw [P.duties_at c (.inl r)]; exact Finset.mem_singleton_self _) (by rw [P.duties_at (P.dest r c) (.inr (.inl r))]; exact Finset.mem_singleton_self _)
    () () P.amt hN rfl rfl (P.due c (S.erase r)) rfl (W := Ws)
    (by rw [P.payload_at c (.inl r)]; exact Entails.of_eq hrd.symm)
    (by rw [P.payload_at (P.dest r c) (.inr (.inl r))]; exact hld)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hc, HO⟩
  iapply Hk
  isplitr [HO]
  · isplitr; · iexists κ; iexact Hrec
    isplitl [HS]; · iexact HS
    isplitl [HT]; · iexact HT
    isplitl [HW]; · iexact HW
    isplitl [HC Hc]
    · isplitl [Hc] <;> iassumption
    iexact HD
  · iexists Ws; iexact HO

/-- Starting a local copy. -/
theorem start_local (c : Dev nD) (l : L) {S : Finset R} {T : Finset L} {W C D : Finset (R ⊕ R ⊕ L)}
    (hl : l ∈ T) (hC : (.inr (.inr l) : R ⊕ R ⊕ L) ∉ C)
    {sp sp' : Space} {s : Shape} {e : EltTy} {src : Memref sig (c.tc : Thread nD τ).2.kind sp s e} {dst : Memref sig (c.tc : Thread nD τ).2.kind sp' s e} {sm : SemLoc sig}
    (hS : sm = P.cell (.inr (.inr l))) {hsrc : src.view.WordExact} {hdst : dst.view.WordExact} {hsem : DmaTarget.Typed (nD := nD) (τ := τ) sp sm (.here dst)}
    {α : Type} {Q : α → sProp 𝕄} {k : PUnit → Prog (TpuEff nD τ sig Val Λ₀ .tc) α}
    {q : PosShare TreeShare} {fs : Buf Val (src.view.loc (c.tc : Thread nD τ))} {fd : Buf Val (dst.view.loc (c.tc : Thread nD τ))}
    (hN : dst.view.amount sm = P.amt)
    (hrd : P.srcL l c = (src.view.loc (c.tc : Thread nD τ) ↦[src.view.set]{q} fs : sProp 𝕄))
    (hsl : P.slotL l c = (dst.view.loc (c.tc : Thread nD τ) ↦[dst.view.set]{fullShare} fd : sProp 𝕄))
    (hld : (dst.view.loc (c.tc : Thread nD τ) ↦[dst.view.set]{fullShare} (dst.view.write Val fd (src.view.read Val fs) Finset.univ) : sProp 𝕄)
      ⊢ P.landL l c) :
    P.Run c S T W C D
      ⊢ iprop((P.Run c S (T.erase l) W (insert (.inr (.inr l)) C) D -∗ wp frame (wpE defs₀ 𝒱₀ (c.tc : Thread nD τ) none) Set.univ (k ⟨⟩) Q)
          -∗ wp frame (wpE defs₀ 𝒱₀ (c.tc : Thread nD τ) none) Set.univ
              (.op (.enqueueDma src (.here dst) sm hsrc hdst hsem) k) Q) := by
  subst hS
  unfold Run Held
  rw [bigSep_pull hl, bigSep_push hC]
  iintro ⟨⟨⟨%κ, #Hrec⟩, HS, ⟨Hl, HT⟩, HW, HC, HD⟩, HO⟩
  iintro Hk
  ihave #H1 := (P.inv_at κ c (.inr (.inr l))) $$ Hrec
  icases H1 with ⟨#HI1, #HR1⟩
  ihave Hl' := (Entails.of_eq (show P.readyL c l = iprop((src.view.loc (c.tc : Thread nD τ) ↦[src.view.set]{q} fs) ∗ (dst.view.loc (c.tc : Thread nD τ) ↦[dst.view.set]{fullShare} fd)
    ∗ dutyTok ER (P.at' c (.inr (.inr l))) 0 ()) from by unfold readyL; rw [hrd, hsl])) $$ Hl
  icases Hl' with ⟨Hsrc, Hdst, Ht⟩
  iapply (Rounds.wp_copy_pointsTo 𝒱₀ ER P.rd (c.tc : Thread nD τ) none (κ := κ (c, .inr (.inr l))) (r := 0) (d := ()) (fd := fd)
    (by rw [P.duties_at c (.inr (.inr l))]; exact Finset.mem_singleton_self _) () P.amt hN rfl
    (by rw [P.payload_at c (.inr (.inr l))]; exact BIClass.sep_mono hld (Entails.of_eq hrd.symm))) $$ [Hsrc Hdst Ht]
  · isplitr; · iexact HI1
    isplitl [Hsrc]; · iexact Hsrc
    isplitl [Hdst]; · iexact Hdst
    isplitl [Ht]; · iexact Ht
    iexact HR1
  iintro Hc
  iapply Hk
  isplitr [HO]
  · isplitr; · iexists κ; iexact Hrec
    isplitl [HS]; · iexact HS
    isplitl [HT]; · iexact HT
    isplitl [HW]; · iexact HW
    isplitl [HC Hc]
    · isplitl [Hc] <;> iassumption
    iexact HD
  · iexact HO

/-- Waiting for a copy, when all remote copies are started. -/
theorem await (c : Dev nD) (j : R ⊕ R ⊕ L) {S : Finset R} {T : Finset L} {W C D : Finset (R ⊕ R ⊕ L)} (hS : S = ∅)
    (hW : j ∈ W) (hC : j ∈ C) (hD : j ∉ D)
    {sp sp' : Space} {s s' : Shape} {e e' : EltTy} {sem : DmaSem sig} (hsm : SemLoc.dma sem = P.cell j)
    {src : Memref sig .tc sp' s' e'} {κ' : Kind} {dst : Memref sig κ' sp s e} {hsrc : src.view.WordExact} {hdst : dst.view.WordExact}
    {α : Type} {Q : α → sProp 𝕄} {k : PUnit → Prog (TpuEff nD τ sig Val Λ₀ .tc) α}
    (hN : dst.view.dmaCredit = P.amt) :
    P.Run c S T W C D
      ⊢ iprop((P.Run c ∅ T (W.erase j) (C.erase j) (insert j D) -∗ wp frame (wpE defs₀ 𝒱₀ (c.tc : Thread nD τ) none) Set.univ (k ⟨⟩) Q)
          -∗ wp frame (wpE defs₀ 𝒱₀ (c.tc : Thread nD τ) none) Set.univ (.op (.waitDma2 sem src dst hsrc hdst) k) Q) := by
  subst hS
  unfold Run Held
  rw [bigSep_pull hW, bigSep_pull hC, bigSep_push hD]
  rw [show P.due c ∅ = 0 from by unfold due; exact Finset.sum_empty]
  iintro ⟨⟨⟨%κ, #Hrec⟩, HS, HT, ⟨Hat, HW⟩, ⟨Hc, HC⟩, HD⟩, ⟨%Ws, HO⟩⟩
  iintro Hk
  ihave #H1 := (P.inv_at κ c j) $$ Hrec
  icases H1 with ⟨#HI1, #HR1⟩
  rw [← hN]
  unfold at'
  rw [← hsm]
  iapply (Rounds.wp_wait_rest_token 𝒱₀ ER P.rd (c.tc : Thread nD τ) none (κ := κ (c, j))
      (wpE_waitDma2_eq 𝒱₀ (c.tc : Thread nD τ) none Set.univ) (Set.mem_univ _) () (O := 0) (W := Ws) (R := 0) (m := 0) (T := ∅)
      (by rw [Nat.zero_add, hsm, P.expect_at c j, hN])) $$ [Hc HO Hat]
  · isplitr; · iexact HI1
    isplitl [Hc]; · iexact Hc
    isplitl [HO]; · iexact HO
    isplitr; · rw [MayWait_zero]; iempintro
    iexact Hat
  iintro ⟨HO, Hat, -, Hpay⟩
  ihave Hp := (Entails.of_eq (show bigSep (P.rd.duties ((c.tc : Thread nD τ), SemLoc.dma sem) 0 \ ∅) (fun u => P.rd.payload ((c.tc : Thread nD τ), SemLoc.dma sem) 0 u) = P.pay c j
    from by rw [hsm]; exact P.rest_at c j)) $$ Hpay
  imod (Rounds.cell_close ER P.rd (Set.mem_univ (κ (c, j))) (fun h => h) (R := 0 + 1) (P.duties_later ((c.tc : Thread nD τ), SemLoc.dma sem))) $$ [Hat] with Hz
  · isplitr; · iexact HI1
    iexact Hat
  iapply Hk
  isplitr [HO]
  · isplitr; · iexists κ; iexact Hrec
    isplitl [HS]; · iexact HS
    isplitl [HT]; · iexact HT
    isplitl [HW]; · iexact HW
    isplitl [HC]; · iexact HC
    isplitl [Hp Hz]
    · isplitl [Hp] <;> iassumption
    iexact HD
  · iexists (insert (SemLoc.dma sem, ()) Ws); iexact HO

end Plan

end Exchange

end Cert.Exchange

end
-- ==== Proof.Deal.lean ====
/-
# Launching an exchange

Every device's semaphores become cells, every device's arrays are cut and dealt: the part of an array that a remote copy
writes goes to the device that sends it, and the right to count on a semaphore to the device that will. Then each
device runs its program from `Plan.Run` with everything still to do to `Plan.Run` with everything done, and the final
memory is read off what the copies left.
-/
module

public import proofs.«01_k».proof.Proof.Exchange

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

section Launch

variable {nD : Nat} {τ : Topo} {sig : RefSig} {Val : EltTy → Type} [∀ e, Nonempty (Val e)]

local notation "𝕄" => MT nD τ sig Unit Val ℕ (Ghost nD τ sig) ℕ

variable {R L : Type} [Fintype R] [DecidableEq R] [Fintype L] [DecidableEq L]

namespace Plan

variable (P : Plan nD τ sig Val R L)

theorem at'_injective : Function.Injective fun ck : Dev nD × (R ⊕ R ⊕ L) => P.at' ck.1 ck.2 := by
  rintro ⟨c, k⟩ ⟨c', k'⟩ h
  have h1 : c = c' := congrArg (fun g : GSem nD τ sig => g.1.1) h
  have h2 : k = k' := P.cell_inj (congrArg Prod.snd h)
  rw [h1, h2]

/-- All cells, -/
def cells : Finset (GSem nD τ sig) := Finset.univ.map ⟨_, P.at'_injective⟩

/-- and the right to count on each. -/
def toks : Finset (GSem nD τ sig × ℕ × Unit) :=
  Finset.univ.map ⟨fun ck : Dev nD × (R ⊕ R ⊕ L) => (P.at' ck.1 ck.2, 0, ()), fun _ _ h => P.at'_injective (congrArg Prod.fst h)⟩

def ghost₀ : Ghost nD τ sig := (initOf ∅ ∅, initOf P.cells P.toks)

/-- What the ghost state gives a device. -/
def fresh (c : Dev nD) : sProp 𝕄 :=
  iprop((bigSep Finset.univ fun k => roundState ER P.rd (P.at' c k) 0)
    ∗ (bigSep Finset.univ fun k => reached ER (P.at' c k) 0)
    ∗ (bigSep Finset.univ fun k => atPos ER (P.at' c k) 0 ∅ 0)
    ∗ (bigSep Finset.univ fun k => dutyTok ER (P.at' c k) 0 ()))

theorem fund_fresh : (ownU P.ghost₀ : sProp 𝕄) ⊢ |={Set.univ}=> bigSep Finset.univ P.fresh := by
  have hX (Φ : GSem nD τ sig → sProp 𝕄) : bigSep P.cells Φ = bigSep Finset.univ fun c : Dev nD => bigSep Finset.univ fun k => Φ (P.at' c k) := by
    unfold cells; rw [bigSep_map, bigSep_univ_prod]; rfl
  have hT : bigSep P.toks (fun x => (dutyTok ER x.1 x.2.1 x.2.2 : sProp 𝕄))
      = bigSep Finset.univ fun c : Dev nD => bigSep Finset.univ fun k => dutyTok ER (P.at' c k) 0 () := by
    unfold toks; rw [bigSep_map, bigSep_univ_prod]; rfl
  unfold ghost₀
  iintro Hu
  ihave H := (ownU_pair _ _) $$ Hu
  icases H with ⟨-, HX⟩
  imod (Rounds.fund ER P.rd P.cells P.toks) $$ HX with ⟨Hst, Hr, Hat, Htok⟩
  imodintro
  ihave Hst' := (Entails.of_eq (hX fun g => roundState ER P.rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold fresh; simp only [bigSep_sep']
  isplitl [Hst']; · iexact Hst'
  isplitl [Hr']; · iexact Hr'
  isplitl [Hat']; · iexact Hat'
  iexact Htok'

/-- The cells that a device's copies from elsewhere count on. -/
def arriving : Finset (R ⊕ R ⊕ L) := Finset.univ.image fun r => .inr (.inl r)

/-- What a device starts with, but for the credit of the copies that will reach it. -/
abbrev Start (c : Dev nD) : sProp 𝕄 := P.Held c Finset.univ Finset.univ Finset.univ ∅ ∅

theorem bigSep_kinds (Φ : R ⊕ R ⊕ L → sProp 𝕄) :
    bigSep Finset.univ Φ = iprop((bigSep Finset.univ fun r : R => Φ (.inl r)) ∗ (bigSep Finset.univ fun r : R => Φ (.inr (.inl r)))
      ∗ (bigSep Finset.univ fun l : L => Φ (.inr (.inr l)))) := by
  rw [bigSep_univ_sum, bigSep_univ_sum (fun x : R ⊕ L => Φ (.inr x))]; rfl

/-- A family over copies and receiving devices, by the sending device. -/
theorem by_sender (Φ : R → Dev nD → sProp 𝕄) :
    (bigSep Finset.univ fun c : Dev nD => bigSep Finset.univ fun r : R => Φ r c)
      = bigSep Finset.univ fun c : Dev nD => bigSep Finset.univ fun r : R => Φ r (P.dest r c) := by
  rw [BI.bigSep_univ_comm, BI.bigSep_univ_comm (fun (c : Dev nD) (r : R) => Φ r (P.dest r c))]
  exact bigSep_congr fun r _ => bigSep_univ_equiv (P.dest r) _

/-- The pieces of its arrays that a device begins with. -/
def pieces (c : Dev nD) : sProp 𝕄 :=
  iprop((bigSep Finset.univ fun r => P.srcR r c) ∗ (bigSep Finset.univ fun r => P.slotR r c)
    ∗ (bigSep Finset.univ fun l => P.srcL l c) ∗ (bigSep Finset.univ fun l => P.slotL l c))

theorem alloc (c : Dev nD) :
    iprop((bigSep Finset.univ fun k => semVal (P.at' c k) 0) ∗ P.fresh c)
      ⊢ |={Set.univ}=> iprop((bigSep Finset.univ fun k => iprop(∃ κ : ℕ, cellInv ER P.rd κ (P.at' c k)))
          ∗ (bigSep Finset.univ fun k => reached ER (P.at' c k) 0)
          ∗ (bigSep Finset.univ fun k => atPos ER (P.at' c k) 0 ∅ 0)
          ∗ (bigSep Finset.univ fun k => dutyTok ER (P.at' c k) 0 ())) := by
  unfold fresh
  iintro ⟨Hv, Hst, Hr, Hat, Htok⟩
  imod (show iprop((bigSep Finset.univ fun k => semVal (P.at' c k) 0) ∗ bigSep Finset.univ fun k => roundState ER P.rd (P.at' c k) 0)
      ⊢ (|={Set.univ}=> bigSep Finset.univ fun k => iprop(∃ κ : ℕ, cellInv ER P.rd κ (P.at' c k)) : sProp 𝕄) from by
        rw [← bigSep_sep']
        exact (bigSep_mono fun k _ => (Rounds.body_intro ER P.rd (P.at' c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- What one device takes of the tokens and pieces dealt by the sending device. -/
def dealt (c : Dev nD) : sProp 𝕄 :=
  iprop((bigSep Finset.univ fun k => atPos ER (P.at' c k) 0 ∅ 0) ∗ (bigSep Finset.univ (P.readyR c)) ∗ (bigSep Finset.univ (P.readyL c)))

theorem start_intro (κ : Dev nD × (R ⊕ R ⊕ L) → ℕ) (c : Dev nD) : iprop(P.records κ ∗ P.dealt c) ⊢ P.Start c := by
  unfold dealt Start Held
  rw [BI.bigSep_empty, BI.bigSep_empty]
  iintro ⟨#Hrec, Hat, HR, HL⟩
  isplitr; · iexists κ; iexact Hrec
  isplitl [HR]; · iexact HR
  isplitl [HL]; · iexact HL
  isplitl [Hat]; · iexact Hat
  isplitr <;> iempintro

theorem deal_toks :
    iprop((bigSep Finset.univ fun c : Dev nD => bigSep Finset.univ fun k => atPos ER (P.at' c k) 0 ∅ 0)
        ∗ (bigSep Finset.univ fun c : Dev nD => bigSep Finset.univ fun k => dutyTok ER (P.at' c k) 0 ())
        ∗ bigSep Finset.univ P.pieces)
      ⊢ (bigSep Finset.univ P.dealt : sProp 𝕄) := by
  unfold pieces dealt
  simp only [show P.readyR = fun c r => iprop(P.srcR r c ∗ P.slotR r (P.dest r c) ∗ dutyTok ER (P.at' c (.inl r)) 0 ()
    ∗ dutyTok ER (P.at' (P.dest r c) (.inr (.inl r))) 0 ()) from rfl,
    show P.readyL = fun c l => iprop(P.srcL l c ∗ P.slotL l c ∗ dutyTok ER (P.at' c (.inr (.inr l))) 0 ()) from rfl]
  simp only [bigSep_sep']
  rw [show (bigSep Finset.univ fun c : Dev nD => bigSep Finset.univ fun k => (dutyTok ER (P.at' c k) 0 () : sProp 𝕄)) = _ from
    bigSep_congr fun c _ => bigSep_kinds (fun k => dutyTok ER (P.at' c k) 0 ())]
  simp only [bigSep_sep']
  rw [P.by_sender (fun r c => dutyTok ER (P.at' c (.inr (.inl r))) 0 ()), P.by_sender (fun r c => P.slotR r c)]
  iintro ⟨H1, ⟨H2, H3, H4⟩, H5, H6, H7, H8⟩
  isplitl [H1]; · iexact H1
  isplitl [H2 H3 H5 H6]
  · isplitl [H5]; · iexact H5
    isplitl [H6]; · iexact H6
    isplitl [H2] <;> iassumption
  isplitl [H7]; · iexact H7
  isplitl [H8] <;> iassumption

/-- The step over all devices. -/
theorem deal (X keep : Dev nD → sProp 𝕄) (sems bufs : Dev nD → sProp 𝕄)
    (hsems : ∀ c, sems c ⊢ iprop((bigSep Finset.univ fun k => semVal (P.at' c k) 0) ∗ X c))
    (hbufs : ∀ c, bufs c ⊢ iprop(P.pieces c ∗ keep c)) :
    (bigSep Finset.univ fun c : Dev nD => iprop(sems c ∗ bufs c ∗ P.fresh c) : sProp 𝕄)
      ⊢ |={Set.univ}=> bigSep Finset.univ fun c => iprop(P.Start c ∗ X c ∗ keep c) := by
  have h1 (c : Dev nD) : iprop(sems c ∗ bufs c ∗ P.fresh c)
      ⊢ |={Set.univ}=> iprop(((bigSep Finset.univ fun k => iprop(∃ κ : ℕ, cellInv ER P.rd κ (P.at' c k)))
          ∗ (bigSep Finset.univ fun k => reached ER (P.at' c k) 0)
          ∗ (bigSep Finset.univ fun k => atPos ER (P.at' c k) 0 ∅ 0)
          ∗ (bigSep Finset.univ fun k => dutyTok ER (P.at' c k) 0 ())) ∗ P.pieces c ∗ X c ∗ keep c) := by
    iintro ⟨Hs, Hb, Hf⟩
    ihave Hs' := (hsems c) $$ Hs
    icases Hs' with ⟨Hv, HX⟩
    ihave Hb' := (hbufs c) $$ Hb
    icases Hb' with ⟨Hp, Hk⟩
    imod (P.alloc c) $$ [Hv Hf] with Ha
    · isplitl [Hv] <;> iassumption
    imodintro
    isplitl [Ha]; · iexact Ha
    isplitl [Hp]; · iexact Hp
    isplitl [HX] <;> iassumption
  refine ((bigSep_mono fun c _ => h1 c).trans (bigSep_fupd _ _)).trans ?_
  refine (show ∀ {A B : sProp 𝕄}, (A ⊢ B) → ((|={Set.univ}=> A) ⊢ |={Set.univ}=> B) from fun h => Idealize.SL.BI.fupd_mono h) ?_
  simp only [bigSep_sep']
  rw [← bigSep_univ_prod (fun ck : Dev nD × (R ⊕ R ⊕ L) => iprop(∃ κ : ℕ, cellInv ER P.rd κ (P.at' ck.1 ck.2))),
    ← bigSep_univ_prod (fun ck : Dev nD × (R ⊕ R ⊕ L) => (reached ER (P.at' ck.1 ck.2) 0 : sProp 𝕄))]
  iintro ⟨⟨HI, #HR, Hat, Htok⟩, Hp, HX, Hk⟩
  ihave HK := (BI.bigSep_exists_pi Finset.univ (fun (ck : Dev nD × (R ⊕ R ⊕ L)) (κ : ℕ) => (cellInv ER P.rd κ (P.at' ck.1 ck.2) : sProp 𝕄))) $$ HI
  icases HK with ⟨%κ, #HI⟩
  isplitl [Hat Htok Hp]
  · ihave Hd := (P.deal_toks) $$ [Hat Htok Hp]
    · isplitl [Hat]; · iexact Hat
      isplitl [Htok] <;> iassumption
    ihave #Hrec := (show iprop((bigSep Finset.univ fun ck => cellInv ER P.rd (κ ck) (P.at' ck.1 ck.2))
        ∗ bigSep Finset.univ fun ck : Dev nD × (R ⊕ R ⊕ L) => reached ER (P.at' ck.1 ck.2) 0) ⊢ (P.records κ : sProp 𝕄) from Entails.of_eq rfl) $$ []
    · isplitl; · iexact HI
      iexact HR
    iapply ((Entails.of_eq (bigSep_sep' Finset.univ (fun _ : Dev nD => P.records κ) P.dealt).symm).trans (bigSep_mono fun c _ => P.start_intro κ c))
    isplitr; · iapply (BI.bigSep_of_persistent Finset.univ (P.records κ)); iexact Hrec
    iexact Hd
  isplitl [HX] <;> iassumption

/-! ## The credit of the copies that reach a device -/

theorem due_at (d c : Dev nD) (r : R) :
    P.due d Finset.univ (P.at' c (.inr (.inl r))) () = if d = (P.dest r).symm c then P.amt else 0 := by
  unfold due
  rw [Finset.sum_apply, Finsupp.finsetSum_apply, Finset.sum_eq_single r]
  · rw [tallyAt_apply]
    by_cases h : d = (P.dest r).symm c
    · subst h; rw [Equiv.apply_symm_apply, if_pos ⟨rfl, rfl⟩, if_pos rfl]
    · rw [if_neg h, if_neg]
      rintro ⟨h1, -⟩
      have h2 : c = P.dest r d := congrArg (fun g : GSem nD τ sig => g.1.1) h1
      exact h (by rw [h2, Equiv.symm_apply_apply])
  · intro r' _ hr
    rw [tallyAt_ne_cell, Finsupp.zero_apply]
    intro h
    have h2 := P.cell_inj (congrArg Prod.snd h)
    exact hr (by injection h2 with h3; injection h3 with h4; exact h4.symm)
  · intro h; exact absurd (Finset.mem_univ _) h

theorem credit_at (c : Dev nD) (r : R) :
    tallyOn (P.at' c (.inr (.inl r))) (launchCredit (Pipeline.owing fun d => P.due d Finset.univ) 0 (P.at' c (.inr (.inl r))))
      = (tallyAt (P.at' c (.inr (.inl r))) () P.amt : CellTallies nD τ sig Unit) := by
  unfold tallyAt; refine congrArg _ (Finsupp.ext fun u => ?_); cases u
  rw [Pipeline.launchCredit_owing, Finsupp.single_eq_same, Finset.sum_congr rfl fun d _ => P.due_at d c r,
    Finset.sum_ite_eq' Finset.univ ((P.dest r).symm c) fun _ => P.amt, if_pos (Finset.mem_univ _)]

theorem creds (c : Dev nD) : (Pipeline.launchCred (fun d => P.due d Finset.univ) c : sProp 𝕄)
    ⊢ bigSep arriving fun k => cred (tallyAt (P.at' c k) () P.amt) := by
  classical
  unfold Pipeline.launchCred arriving
  have hsub : (Finset.univ.image fun r : R => P.cell (.inr (.inl r))) ⊆ Finset.univ := Finset.subset_univ _
  refine (bigSep_subset hsub).trans ?_
  have h1 : (Finset.univ.image fun r : R => P.cell (.inr (.inl r))) = Finset.univ.map ⟨fun r : R => P.cell (.inr (.inl r)), fun a b h => by
      have := P.cell_inj h; injection this with h3; injection h3⟩ := by rw [Finset.map_eq_image]; rfl
  have h2 : (Finset.univ.image fun r : R => (.inr (.inl r) : R ⊕ R ⊕ L)) = Finset.univ.map ⟨fun r : R => .inr (.inl r), fun a b h => by
      injection h with h3; injection h3⟩ := by rw [Finset.map_eq_image]; rfl
  rw [h1, h2, bigSep_map, bigSep_map]
  exact bigSep_mono fun r _ => Entails.of_eq (congrArg cred (P.credit_at c r))

/-! ## The run -/

variable {Λ₀ : Idealize.SL.Sem.Labels} (cfgs : Fin 1 → Cfg sig Λ₀)

/-- What a device holds before its program, -/
def before (X keep : Dev nD → sProp 𝕄) (c : Dev nD) : sProp 𝕄 :=
  iprop(P.Held c Finset.univ Finset.univ Finset.univ arriving ∅ ∗ X c ∗ keep c)

/-- and after it. -/
def afterwards (X keep : Dev nD → sProp 𝕄) (c : Dev nD) : sProp 𝕄 := iprop(P.Held c ∅ ∅ ∅ ∅ Finset.univ ∗ X c ∗ keep c)

/-- The run's proof data: nothing is staged, the one point takes a device from all to do to all done. -/
def dats [∀ p, IsEmpty (Fin (cfgs p).W)] (X keep : Dev nD → sProp 𝕄) (p : Fin 1) (c : Dev nD) :
    Dat τ Val Unit ℕ (Ghost nD τ sig) ℕ (cfgs p) c where
  A w := isEmptyElim w
  after w := isEmptyElim w
  Φ t := if t.val = 0 then P.before X keep c else P.afterwards X keep c
  q w := isEmptyElim w
  owed t := if t.val = 0 then P.due c Finset.univ else 0

/-- From the zero counters, every fair execution of an exchange ends, and every final memory satisfies `QY`, what the
    pieces that a device ends with say of it. -/
theorem run [∀ p, IsEmpty (Fin (cfgs p).W)] (hinj : Function.Injective (cellOf (nD := nD) (τ := τ) cfgs))
    (hN : (cfgs 0).N = 1) (defs₀ : Defs nD τ sig Val Λ₀) (𝒱₀ : Variants)
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (X keep Y : Dev nD → sProp 𝕄)
    (hsems : ∀ c : Dev nD, (scopedSems0 (c.tc : Thread nD τ) : sProp 𝕄) = iprop((bigSep Finset.univ fun k => semVal (P.at' c k) 0) ∗ X c))
    (hscoped : ∀ c : Dev nD, (scopedBufs (c.tc : Thread nD τ) : sProp 𝕄) = BI.emp)
    (hbufs : ∀ c : Dev nD, unscopedBufs c (fun b => m ((c.tc : Thread nD τ).loc b)) ⊢ iprop(P.pieces c ∗ keep c))
    (hbody : ∀ (c : Dev nD) (t : Fin (cfgs 0).N), P.Run c Finset.univ Finset.univ Finset.univ arriving ∅
      ⊢ wp frame (wpE defs₀ 𝒱₀ (c.tc : Thread nD τ) none) Set.univ (defs₀ .tc (cfgs 0).body ((cfgs 0).bodyArgs t ((cfgs 0).slots t)))
          fun _ => P.Run c ∅ ∅ ∅ ∅ Finset.univ)
    (hback : ∀ c, iprop((bigSep Finset.univ (P.pay c)) ∗ keep c) ⊢ Y c)
    (hsem : ∀ sm : SemLoc sig, sm.isScoped .tc = true)
    (QY : Dev nD → MemSt nD τ sig Val → Prop)
    (hY : ∀ c (s' : Phys nD τ sig Val), iprop(Y c ∗ SI s') ⊢ |={Set.univ}=> iprop(⌜QY c s'.mem⌝ ∗ SI s')) :
    θ_run (Pipeline.defs (fun p => (cfgs p).toPCfg (Val := Val)) defs₀) (onTc main) ⟨m, fun _ => 0, g⟩
      (fun r => (∀ c, QY c r.2) ∧ r.2.sem = fun _ => 0) := by
  have hlast (p : Fin 1) : (Fin.last (cfgs p).N).val ≠ 0 := by rw [Subsingleton.elim p 0, Fin.val_last, hN]; decide
  have hzero : (0 : Fin ((cfgs 0).N + 1)).val = 0 := rfl
  have h0 (c : Dev nD) : (P.dats cfgs X keep 0 c).owed 0 = P.due c Finset.univ :=
    if_pos (t := P.due c Finset.univ) (e := 0) hzero
  have h1 (c : Dev nD) : (P.dats cfgs X keep 0 c).owed (Fin.last (cfgs 0).N) = 0 :=
    if_neg (t := P.due c Finset.univ) (e := 0) (hlast 0)
  refine run_alone cfgs (P.dats cfgs X keep) hinj embL defs₀ 𝒱₀ m g main hmain (fun c t => ?_)
    (fun d => P.due d Finset.univ) (fun c => h0 c) (fun c => h1 c) P.ghost₀ P.fresh
    (fun c => iprop(P.Start c ∗ X c ∗ keep c)) Y P.fund_fresh
    (P.deal X keep _ _ (fun c => Entails.of_eq (hsems c)) hbufs) (fun c => ?_) (fun c => ?_) hsem QY hY
  · -- the body
    have hs : t.succ.val ≠ 0 := by rw [Fin.val_succ]; exact Nat.succ_ne_zero _
    have ht : t.val = 0 := by have := t.isLt; omega
    have h0 : (P.dats cfgs X keep 0 c).Φ t.castSucc = P.before X keep c := if_pos (t := P.before X keep c) (e := P.afterwards X keep c) ht
    have h1 : (P.dats cfgs X keep 0 c).Φ t.succ = P.afterwards X keep c := if_neg (t := P.before X keep c) (e := P.afterwards X keep c) hs
    have o0 : (P.dats cfgs X keep 0 c).owed t.castSucc = P.due c Finset.univ := if_pos (t := P.due c Finset.univ) (e := 0) ht
    have o1 : (P.dats cfgs X keep 0 c).owed t.succ = P.due c ∅ := (if_neg (t := P.due c Finset.univ) (e := 0) hs).trans Finset.sum_empty.symm
    unfold Dat.owesAt owesWithin
    rw [h0, h1, o0, o1, bigSep_none, bigSep_none]
    unfold before afterwards
    iintro ⟨⟨HH, HX, Hk⟩, ⟨%W, -, HO⟩, -⟩
    iapply (wp_wand_r Idealize.ShloMosaic.frame _ Set.univ)
    isplitl [HH HO]
    · iapply (hbody c t)
      unfold Run
      isplitl [HH]; · iexact HH
      iexists W; iexact HO
    · iintro %u HR
      unfold Run
      icases HR with ⟨HH, ⟨%W', HO⟩⟩
      isplitl [HH HX Hk]
      · isplitl [HH]; · iexact HH
        isplitl [HX] <;> iassumption
      isplitl [HO]
      · iexists W'
        isplitr; · ipureintro; exact fun _ _ => Or.inl trivial
        iexact HO
      · iempintro
  · -- what a device begins with
    rw [show (P.dats cfgs X keep 0 c).Φ 0 = P.before X keep c from if_pos (t := P.before X keep c) (e := P.afterwards X keep c) hzero]
    iintro ⟨-, Hc, HS, HX, Hk⟩
    ihave Hc' := (P.creds c) $$ Hc
    unfold Start before Held
    icases HS with ⟨H1, H2, H3, H4, -, H6⟩
    isplitr [HX Hk]
    · isplitl [H1]; · iexact H1
      isplitl [H2]; · iexact H2
      isplitl [H3]; · iexact H3
      isplitl [H4]; · iexact H4
      isplitl [Hc'] <;> iassumption
    isplitl [HX] <;> iassumption
  · -- what it ends with
    rw [show (P.dats cfgs X keep 0 c).Φ (Fin.last (cfgs 0).N) = P.afterwards X keep c from if_neg (t := P.before X keep c) (e := P.afterwards X keep c) (hlast 0), hsems c, hscoped c]
    unfold afterwards Held
    rw [bigSep_sep']
    iintro ⟨⟨-, -, -, -, -, Hp, Hz⟩, HX, Hk⟩
    isplitl [Hp Hk]
    · iapply (hback c); isplitl [Hp] <;> iassumption
    isplitl [Hz HX]
    · isplitl [Hz] <;> iassumption
    · iempintro

end Plan

end Launch

end Cert.Exchange

end
-- ==== Proof.Moves.lean ====
/-
# Exchanges that read one array and fill another

The kernels here read an array `a` and write every element of an array `o`, by copies that write disjoint parts of it.
`Moves` says for each copy which elements it reads and which it writes, and what `o` holds at the end; `Moves.run` is the
launch of such an exchange, and its result: `a` as it was, and `o` as it was said.
-/
module

public import proofs.«01_k».proof.Proof.Deal
public import Idealize.ShloMosaic.Lib.Transfers

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Transfers

/-- An exchange from the array `a` into the array `o`, in the memory `m`: copy `k` started by device `c` reads the
    elements `rd k c` of its `a`; the copy `k` that reaches device `c` writes the elements `wr k c` of its `o`; device
    `c`'s `o` is to be `fin c`. -/
structure Moves (nD : Nat) (τ : Topo) (sig : RefSig) (Val : EltTy → Type) (R L : Type) where
  a : Ref sig .tc
  o : Ref sig .tc
  cell : R ⊕ R ⊕ L → SemLoc sig
  cell_inj : Function.Injective cell
  amt : ℕ
  amt_pos : 0 < amt
  dest : R → Dev nD ≃ Dev nD
  m : (ℓ : Loc nD τ sig) → Buf Val ℓ
  rd : R ⊕ L → (c : Dev nD) → Finset (Idx ((c.tc : Thread nD τ).loc a))
  wr : R ⊕ L → (c : Dev nD) → Finset (Idx ((c.tc : Thread nD τ).loc o))
  fin : (c : Dev nD) → Buf Val ((c.tc : Thread nD τ).loc o)

section Moves

variable {nD : Nat} {τ : Topo} {sig : RefSig} {Val : EltTy → Type} [∀ e, Nonempty (Val e)]

local notation "𝕄" => MT nD τ sig Unit Val ℕ (Ghost nD τ sig) ℕ

/-- A buffer held at a set of elements, at an equal set. -/
theorem pts_set {ℓ : Loc nD τ sig} {I J : Finset (Idx ℓ)} (h : I = J) (q : PosShare TreeShare) (f : Buf Val ℓ) :
    (ℓ ↦[I]{q} f : sProp 𝕄) = (ℓ ↦[J]{q} f) := by rw [h]

/-- What is held after a write through a view, if the written elements are `g`'s. -/
theorem pts_land {ℓ : Loc nD τ sig} {I J : Finset (Idx ℓ)} {f g : Buf Val ℓ} {q : PosShare TreeShare} (h : I = J) (hfg : ∀ i ∈ I, f i = g i) :
    (ℓ ↦[I]{q} f : sProp 𝕄) ⊢ (ℓ ↦[J]{q} g) := by subst h; rw [pointsTo_congr hfg]

/-- The elements written through a view. -/
theorem write_is {κ : Kind} {sp : Space} {s : Shape} {e : EltTy} (v : View sig κ sp s e) (fd g : v.ty.Contents Val) (w : s.Idx → Val e)
    (h : ∀ i, g (v.emb i) = _root_.cast (congrArg Val v.elt_eq.symm) (w i)) : ∀ j ∈ v.set, v.write Val fd w Finset.univ j = g j := by
  intro j hj
  obtain ⟨i, -, rfl⟩ := Finset.mem_map.mp hj
  rw [View.write_emb_of_mem _ _ (Finset.mem_univ _), h]

variable {R L : Type} [Fintype R] [DecidableEq R] [Fintype L] [DecidableEq L]

namespace Moves

variable (M : Moves nD τ sig Val R L)

/-- The share of `a` that a copy reads. -/
def share (k : R ⊕ L) : PosShare TreeShare := shareTok (fullShare : PosShare TreeShare).right (Fintype.card (R ⊕ L)) (Fintype.equivFin (R ⊕ L) k)

/-- The part of `a` that copy `k` reads, -/
def src (k : R ⊕ L) (c : Dev nD) : Asrt nD τ sig Val := (c.tc : Thread nD τ).loc M.a ↦[M.rd k c]{share k} M.m ((c.tc : Thread nD τ).loc M.a)

/-- the part of `o` that it writes, before, -/
def slot (k : R ⊕ L) (c : Dev nD) : Asrt nD τ sig Val := (c.tc : Thread nD τ).loc M.o ↦[M.wr k c]{fullShare} M.m ((c.tc : Thread nD τ).loc M.o)

/-- and after. -/
def land (k : R ⊕ L) (c : Dev nD) : Asrt nD τ sig Val := (c.tc : Thread nD τ).loc M.o ↦[M.wr k c]{fullShare} M.fin c

/-- Its protocol. -/
def plan : Plan nD τ sig Val R L where
  cell := M.cell
  cell_inj := M.cell_inj
  amt := M.amt
  amt_pos := M.amt_pos
  dest := M.dest
  srcR r := M.src (.inl r)
  slotR r := M.slot (.inl r)
  landR r := M.land (.inl r)
  srcL l := M.src (.inr l)
  slotL l := M.slot (.inr l)
  landL l := M.land (.inr l)
  keeps_srcR r c := by unfold src; infer_instance
  keeps_landR r c := by unfold land; infer_instance
  keeps_srcL r c := by unfold src; infer_instance
  keeps_landL r c := by unfold land; infer_instance

/-- What a device keeps of `a` meanwhile. -/
def keep (c : Dev nD) : sProp 𝕄 := (c.tc : Thread nD τ).loc M.a ↦{(fullShare : PosShare TreeShare).left} M.m ((c.tc : Thread nD τ).loc M.a)

/-- What it ends with. -/
def final (c : Dev nD) : sProp 𝕄 := iprop(M.keep c ∗ ((c.tc : Thread nD τ).loc M.o ↦{fullShare} M.fin c))

/-- The semaphores that the exchange does not use. -/
def spare (c : Dev nD) : sProp 𝕄 :=
  bigSep ((Finset.univ.filter fun sm : SemLoc sig => sm.isScoped .tc) \ Finset.univ.map ⟨M.cell, M.cell_inj⟩) fun sm => semVal ((c.tc : Thread nD τ), sm) 0

theorem sems (hs : ∀ k, (M.cell k).isScoped .tc = true) (c : Dev nD) :
    (scopedSems0 (c.tc : Thread nD τ) : sProp 𝕄) = iprop((bigSep Finset.univ fun k => semVal (M.plan.at' c k) 0) ∗ M.spare c) := by
  have hA : Finset.univ.map ⟨M.cell, M.cell_inj⟩ ⊆ Finset.univ.filter fun sm : SemLoc sig => sm.isScoped .tc := fun b hb => by
    obtain ⟨k, -, rfl⟩ := Finset.mem_map.mp hb; exact Finset.mem_filter.mpr ⟨Finset.mem_univ _, hs k⟩
  rw [show (scopedSems0 (c.tc : Thread nD τ) : sProp 𝕄) = _ from scopedSems0_tc c, bigSep_sdiff_split hA, bigSep_map]
  rfl

theorem bufs_scoped (hb : ∀ b : Ref sig .tc, b.isScoped = false) (c : Dev nD) : (scopedBufs (c.tc : Thread nD τ) : sProp 𝕄) = BI.emp := by
  rw [show (scopedBufs (c.tc : Thread nD τ) : sProp 𝕄) = _ from scopedBufs_tc c, Finset.filter_false_of_mem (fun b _ => by rw [hb b]; decide), BI.bigSep_empty]

theorem bufs (hb : ∀ b : Ref sig .tc, b.isScoped = false) (hao : M.a ≠ M.o) (c : Dev nD) :
    (unscopedBufs c (fun b => M.m ((c.tc : Thread nD τ).loc b)) : sProp 𝕄)
      ⊢ iprop(((c.tc : Thread nD τ).loc M.a ↦{fullShare} M.m ((c.tc : Thread nD τ).loc M.a)) ∗ ((c.tc : Thread nD τ).loc M.o ↦{fullShare} M.m ((c.tc : Thread nD τ).loc M.o))) := by
  unfold unscopedBufs
  rw [Finset.filter_true_of_mem (fun b _ => by rw [hb b]; decide)]
  refine (bigSep_subset (Finset.subset_univ {M.a, M.o})).trans ?_
  rw [BI.bigSep_insert (by rw [Finset.mem_singleton]; exact hao), BI.bigSep_singleton]
  exact (show ∀ P : sProp 𝕄, P ⊢ P from fun P => Entails.of_eq rfl) _

/-- The copies' sets cut the array. -/
structure Cuts : Prop where
  disj : ∀ c k k', k ≠ k' → Disjoint (M.wr k c) (M.wr k' c)
  cover : ∀ c, Finset.univ.biUnion (fun k => M.wr k c) = Finset.univ

theorem sum_kinds (Φ : R ⊕ L → sProp 𝕄) :
    bigSep Finset.univ Φ = iprop((bigSep Finset.univ fun r : R => Φ (.inl r)) ∗ (bigSep Finset.univ fun l : L => Φ (.inr l))) := by
  rw [bigSep_univ_sum]; rfl

/-- The launch's pieces, -/
theorem cut (hc : M.Cuts) (c : Dev nD) :
    iprop(((c.tc : Thread nD τ).loc M.a ↦{fullShare} M.m ((c.tc : Thread nD τ).loc M.a)) ∗ ((c.tc : Thread nD τ).loc M.o ↦{fullShare} M.m ((c.tc : Thread nD τ).loc M.o)))
      ⊢ (iprop(M.plan.pieces c ∗ M.keep c) : sProp 𝕄) := by
  have hO : ((c.tc : Thread nD τ).loc M.o ↦{fullShare} M.m ((c.tc : Thread nD τ).loc M.o) : sProp 𝕄)
      = iprop((bigSep Finset.univ fun r : R => M.slot (.inl r) c) ∗ (bigSep Finset.univ fun l : L => M.slot (.inr l) c)) := by
    rw [← sum_kinds (fun k => M.slot k c)]
    unfold slot
    rw [← pointsTo_biUnion Finset.univ (fun k => M.wr k c) (fun k _ k' _ h => hc.disj c k k' h), hc.cover c]
  have hA : ((c.tc : Thread nD τ).loc M.a ↦{(fullShare : PosShare TreeShare).right} M.m ((c.tc : Thread nD τ).loc M.a) : sProp 𝕄)
      ⊢ iprop((bigSep Finset.univ fun r : R => M.src (.inl r) c) ∗ (bigSep Finset.univ fun l : L => M.src (.inr l) c)) := by
    rw [← sum_kinds (fun k => M.src k c), bigSep_univ_equiv (Fintype.equivFin (R ⊕ L)).symm]
    refine (pointsTo_toks_split _ (Fintype.card (R ⊕ L))).trans ?_
    refine (show ∀ P Q : sProp 𝕄, iprop(P ∗ Q) ⊢ Q from fun P Q => by iintro ⟨-, H⟩; iexact H) _ _ |>.trans ?_
    refine bigSep_mono fun i _ => ?_
    unfold src share
    rw [Equiv.apply_symm_apply]
    refine (pointsTo_split_subset (Finset.subset_univ (M.rd ((Fintype.equivFin (R ⊕ L)).symm i) c))).1.trans ?_
    iintro ⟨H, -⟩; iexact H
  iintro ⟨Ha, Ho⟩
  ihave Ha' := (pointsTo_share (PosShare.mem_left_op_right _)).1 $$ Ha
  icases Ha' with ⟨Hk, Hr⟩
  ihave HA := hA $$ Hr
  icases HA with ⟨H1, H2⟩
  ihave HO := (Entails.of_eq hO) $$ Ho
  icases HO with ⟨H3, H4⟩
  unfold Plan.pieces keep
  isplitr [Hk]
  · isplitl [H1]; · iexact H1
    isplitl [H3]; · iexact H3
    isplitl [H2]; · iexact H2
    iexact H4
  · iexact Hk

/-- and the waits' pieces put together. -/
theorem join (hc : M.Cuts) (c : Dev nD) : iprop((bigSep Finset.univ (M.plan.pay c)) ∗ M.keep c) ⊢ M.final c := by
  have hO : ((c.tc : Thread nD τ).loc M.o ↦{fullShare} M.fin c : sProp 𝕄)
      = iprop((bigSep Finset.univ fun r : R => M.land (.inl r) c) ∗ (bigSep Finset.univ fun l : L => M.land (.inr l) c)) := by
    rw [← sum_kinds (fun k => M.land k c)]
    unfold land
    rw [← pointsTo_biUnion Finset.univ (fun k => M.wr k c) (fun k _ k' _ h => hc.disj c k k' h), hc.cover c]
  unfold final
  rw [hO, Plan.bigSep_kinds,
    show (bigSep Finset.univ fun l : L => M.plan.pay c (.inr (.inr l))) = bigSep Finset.univ fun l : L => iprop(M.land (.inr l) c ∗ M.src (.inr l) c) from rfl, bigSep_sep']
  iintro ⟨⟨-, H1, H2, -⟩, Hk⟩
  isplitl [Hk]; · iexact Hk
  isplitl [H1]; · iexact H1
  iexact H2

theorem read (c : Dev nD) (s' : Phys nD τ sig Val) :
    iprop(M.final c ∗ SI s') ⊢ |={Set.univ}=> iprop(⌜s'.mem.mem ((c.tc : Thread nD τ).loc M.a) = M.m ((c.tc : Thread nD τ).loc M.a)
      ∧ s'.mem.mem ((c.tc : Thread nD τ).loc M.o) = M.fin c⌝ ∗ (SI s' : sProp 𝕄)) := by
  unfold final keep
  iintro ⟨⟨Ha, Ho⟩, HS⟩
  icombine HS Ha gives %h1
  icombine HS Ho gives %h2
  imodintro
  isplitr
  · ipureintro; exact ⟨funext fun i => h1 i (Finset.mem_univ i), funext fun i => h2 i (Finset.mem_univ i)⟩
  · iexact HS

variable {Λ₀ : Idealize.SL.Sem.Labels} (cfgs : Fin 1 → Cfg sig Λ₀)

/-- From the zero counters, every fair execution of the exchange ends, with `a` as it was and `o` as it was to be. -/
theorem run [∀ p, IsEmpty (Fin (cfgs p).W)] (hinj : Function.Injective (cellOf (nD := nD) (τ := τ) cfgs))
    (hN : (cfgs 0).N = 1) (defs₀ : Defs nD τ sig Val Λ₀) (𝒱₀ : Variants) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (hs : ∀ sm : SemLoc sig, sm.isScoped .tc = true) (hb : ∀ b : Ref sig .tc, b.isScoped = false) (hao : M.a ≠ M.o) (hc : M.Cuts)
    (hbody : ∀ (c : Dev nD) (t : Fin (cfgs 0).N), M.plan.Run c Finset.univ Finset.univ Finset.univ Plan.arriving ∅
      ⊢ wp frame (wpE defs₀ 𝒱₀ (c.tc : Thread nD τ) none) Set.univ (defs₀ .tc (cfgs 0).body ((cfgs 0).bodyArgs t ((cfgs 0).slots t)))
          fun _ => M.plan.Run c ∅ ∅ ∅ ∅ Finset.univ) :
    θ_run (Pipeline.defs (fun p => (cfgs p).toPCfg (Val := Val)) defs₀) (onTc main) ⟨M.m, fun _ => 0, g⟩ (fun r => (∀ c : Dev nD,
      r.2.mem ((c.tc : Thread nD τ).loc M.a) = M.m ((c.tc : Thread nD τ).loc M.a) ∧ r.2.mem ((c.tc : Thread nD τ).loc M.o) = M.fin c)
      ∧ r.2.sem = fun _ => 0) :=
  M.plan.run cfgs hinj hN defs₀ 𝒱₀ M.m g main hmain M.spare M.keep M.final (M.sems fun k => hs (M.cell k)) (bufs_scoped hb)
    (fun c => (M.bufs hb hao c).trans (M.cut hc c)) hbody (M.join hc) hs
    (fun c s => s.mem ((c.tc : Thread nD τ).loc M.a) = M.m ((c.tc : Thread nD τ).loc M.a) ∧ s.mem ((c.tc : Thread nD τ).loc M.o) = M.fin c)
    M.read

end Moves

end Moves

end Cert.Exchange

end
-- ==== Proof.Mesh.lean ====
/-
# The eight devices

Device `d` of the mesh `(x, y, c)` of sizes `(2, 2, 2)` is core `d % 2` of chip `d / 2`.
-/
module

public import Idealize.ShloMosaic.Lib.Layout
public import Idealize.ShloMosaic.Lib.Pipeline.Value

@[expose] public section

namespace Cert.Exchange

open Idealize.ShloMosaic

/-- An axis cut along the chips: the block's number is the chip's. -/
theorem chip_block (d : Fin 8) : Layout.meshLin [2, 2, 2] d.val [0, 1] = d.val / 2 := by revert d; decide

/-- An axis cut along the cores of a chip: the block's number is the core's. -/
theorem core_block (d : Fin 8) : Layout.meshLin [2, 2, 2] d.val [2] = d.val % 2 := by revert d; decide

/-- An axis not cut. -/
theorem no_block (d : Fin 8) : Layout.meshLin [2, 2, 2] d.val [] = 0 := rfl

/-! ## Chips

The chips are the corners of a square. A device's peers are the devices of its core's number on the other three chips. -/

/-- The peers of device `d`: over the first axis, over the second, and over both. -/
def peer (r : Fin 3) : Fin 8 ≃ Fin 8 where
  toFun d := ⟨(d.val ^^^ (2 * (2 - r.val) + 6 * (r.val / 2))) % 8, Nat.mod_lt _ (by decide)⟩
  invFun d := ⟨(d.val ^^^ (2 * (2 - r.val) + 6 * (r.val / 2))) % 8, Nat.mod_lt _ (by decide)⟩
  left_inv := by revert r; decide
  right_inv := by revert r; decide

/-- Where a device's copies go: to a peer, or to itself. -/
def reach : Fin 3 ⊕ Unit → Fin 8 → Fin 8
  | .inl r, d => peer r d
  | .inr _, d => d

theorem reach_reach (k : Fin 3 ⊕ Unit) (d : Fin 8) : reach k (reach k d) = d := by revert k d; decide

theorem reach_core (k : Fin 3 ⊕ Unit) (d : Fin 8) : (reach k d).val % 2 = d.val % 2 := by revert k d; decide

/-- A device's copies go to different chips, -/
theorem reach_ne (d : Fin 8) (k k' : Fin 3 ⊕ Unit) : k ≠ k' → (reach k d).val / 2 ≠ (reach k' d).val / 2 := by revert k k' d; decide

/-- and to all of them. -/
theorem reach_all (d : Fin 8) (i : Fin 4) : ∃ k, (reach k d).val / 2 = i.val := by revert d i; decide

/-- The device of the core of `d` on chip `i`. -/
def onChip (d : Fin 8) (i : Fin 4) : Fin 8 := ⟨2 * i.val + d.val % 2, by omega⟩

theorem onChip_reach (k : Fin 3 ⊕ Unit) (d : Fin 8) : onChip (reach k d) ⟨d.val / 2, by omega⟩ = d := by revert k d; decide

end Cert.Exchange

end
-- ==== Proof.ReduceShare.lean ====
/-
# The two devices of a chip share their rows

Each device writes its rows into its slot of both result arrays of its chip: its own, and its sibling's.
-/
module

public import proofs.«01_k».proof.Proof.Moves
public import proofs.«01_k».proof.Proof.Mesh
public import proofs.«01_k».proof.Proof.Gen.ReduceShareReferenceIdeal.Run
public import proofs.«01_k».proof.Proof.Gen.ReduceShareKernelIdeal.Launch
public import proofs.«01_k».proof.Proof.Gen.ReduceShareKernelIdeal.Skeleton
public import proofs.«01_k».proof.Proof.Gen.ReduceShareKernelIdeal.Points

@[expose] public section

noncomputable section

namespace Cert.ReduceShareKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.ReduceShareKernelIdeal.Gen

variable {F : FTy → Type} [FloatOps F]

/-- The sibling. -/
def sib : Dev nD ≃ Dev nD where
  toFun d := ⟨k0_dev1 d, k0_dev1_lt d⟩
  invFun d := ⟨k0_dev1 d, k0_dev1_lt d⟩
  left_inv := by decide +kernel
  right_inv := by decide +kernel

/-- The device `k` of the chip of `c`. -/
def mate (c : Dev nD) (k : Fin 2) : Dev nD := ⟨2 * (c.val / 2) + k.val, by have h : c.val < 8 := c.isLt; show _ < 8; omega⟩

theorem mate_self (c : Dev nD) : mate c ⟨c.val % 2, by omega⟩ = c := Fin.ext (show 2 * (c.val / 2) + c.val % 2 = c.val by omega)

theorem sib_mod (c : Dev nD) : (sib c).val % 2 = 1 - c.val % 2 := by revert c; decide +kernel

theorem mate_sib (c : Dev nD) : mate (sib c) ⟨c.val % 2, by omega⟩ = c := by revert c; decide +kernel

/-- The slot of a device in a result array. -/
def slot (d : Dev nD) : Finset main_v1.ty.Idx := Finset.univ.filter fun j => (j (0 : Fin 3)).val = d.val % 2

/-- It as the kernel addresses it. -/
abbrev slotRef (d : Dev nD) : Memref sig .tc .hbm S3456x1024 .f32 :=
  ((Memref.whole main_v1).slice (Rect.unit (s := S2x3456x1024) (k0_off1 d) S1x3456x1024.size (k0_off1_inb d)) (fun _ => rfl)).squeeze S3456x1024 squeezes_S1x3456x1024_S3456x1024

theorem slot_set (d : Dev nD) : (slotRef d).view.set = slot d := by
  refine (View.set_reshape _ _).trans ((View.set_slice_whole _ _).trans (Finset.ext fun j => ?_))
  rw [Rect.mem_set_unit, k0_off1_eq, slot, Finset.mem_filter]
  refine ⟨fun h => ⟨Finset.mem_univ _, ?_⟩, fun h a => ?_⟩
  · have h0 : d.val % 2 ≤ (j (0 : Fin 3)).val ∧ (j (0 : Fin 3)).val < d.val % 2 + 1 := h 0
    omega
  · have h1 := (j (1 : Fin 3)).isLt
    have h2 := (j (2 : Fin 3)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩

theorem slot_emb (d : Dev nD) (i : S3456x1024.Idx) :
    ((slotRef d).view.emb i (0 : Fin 3)).val = d.val % 2 ∧ (fun a : Fin 2 => (slotRef d).view.emb i a.succ) = i := by
  have e (a : Fin 3) : ((slotRef d).view.emb i a).val = (![d.val % 2, 0, 0] : Fin 3 → ℕ) a + 1 * (Shape.reshapeEquiv squeezes_S1x3456x1024_S3456x1024.numel_eq i a).val := by
    rw [← k0_off1_eq]; rfl
  have r := Shape.reshapeEquiv_cons_one (d := S3456x1024.size) squeezes_S1x3456x1024_S3456x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)

variable (m : (ℓ : Loc nD τ sig) → Buf (Elt F) ℓ) (ρ : Dev nD → PrngReg)

/-- What a device's result array holds at the end: in slot `k` the rows of device `k` of its chip. -/
def result (c : Dev nD) : Buf (Elt F) ((c.tc : Thread nD τ).loc main_v1) :=
  fun j => m (((mate c (j (0 : Fin 3))).tc : Thread nD τ).loc main_arg0) (fun a : Fin 2 => j a.succ)

/-- The copies. -/
def moves : Moves nD τ sig (Elt F) Unit Unit where
  a := main_arg0
  o := main_v1
  cell | .inl _ => .dma cc0_scratch0.sem | .inr (.inl _) => .dma cc0_scratch1.sem | .inr (.inr _) => .dma cc0_scratch2.sem
  cell_inj := by decide
  amt := RefSig.tileCredit S3456x1024 .f32
  amt_pos := RefSig.tileCredit_pos _ _ (by decide)
  dest _ := sib
  m := m
  rd _ c := (Memref.whole main_arg0).view.set
  wr | .inl _, c => slot (sib c) | .inr _, c => slot c
  fin := result m

theorem cuts : (moves m).Cuts where
  disj := by
    have h (c : Dev nD) : Disjoint (slot (sib c)) (slot c) := Finset.disjoint_left.mpr fun j h1 h2 => by
      have e1 := (Finset.mem_filter.mp h1).2
      have e2 := (Finset.mem_filter.mp h2).2
      have := sib_mod c
      omega
    rintro c (⟨⟩ | ⟨⟩) (⟨⟩ | ⟨⟩) hk
    · exact absurd rfl hk
    · exact h c
    · exact (h c).symm
    · exact absurd rfl hk
  cover c := by
    refine Finset.eq_univ_of_forall fun j => Finset.mem_biUnion.mpr ?_
    have hj : (j (0 : Fin 3)).val < 2 := (j (0 : Fin 3)).isLt
    have hc := sib_mod c
    by_cases h : (j (0 : Fin 3)).val = c.val % 2
    · exact ⟨.inr (), Finset.mem_univ _, Finset.mem_filter.mpr ⟨Finset.mem_univ _, h⟩⟩
    · exact ⟨.inl (), Finset.mem_univ _, Finset.mem_filter.mpr ⟨Finset.mem_univ _, by omega⟩⟩

/-- What a copy from device `d` leaves on device `n` of the same chip. -/
theorem landed (d n : Dev nD) (h : mate n ⟨d.val % 2, by omega⟩ = d) (fd : Buf (Elt F) ((slotRef d).view.loc (n.tc : Thread nD τ))) :
    ∀ j ∈ (slotRef d).view.set,
      (slotRef d).view.write (Elt F) fd ((Memref.whole main_arg0).view.read (Elt F) (m ((d.tc : Thread nD τ).loc main_arg0))) Finset.univ j = result m n j := by
  refine write_is _ _ _ _ fun i => ?_
  obtain ⟨h0, h1⟩ := slot_emb d i
  have hk : ((slotRef d).view.emb i (0 : Fin 3)) = (⟨d.val % 2, by omega⟩ : Fin 2) := Fin.ext h0
  unfold result
  rw [hk, h1, h]
  rfl

theorem credit_slot (d : Dev nD) (sm : DmaSem sig) : (slotRef d).view.amount (.dma sm) = (moves m).plan.amt := rfl

theorem credit_whole : (Memref.whole main_arg0).view.dmaCredit = (moves m).plan.amt := rfl

theorem read_here (c : Dev nD) : (moves m).plan.srcL () c
    = ((Memref.whole main_arg0).view.loc (c.tc : Thread nD τ) ↦[(Memref.whole main_arg0).view.set]{Moves.share (R := Unit) (L := Unit) (.inr ())} m ((c.tc : Thread nD τ).loc main_arg0)) := rfl

theorem read_there (c : Dev nD) : (moves m).plan.srcR () c
    = ((Memref.whole main_arg0).view.loc (c.tc : Thread nD τ) ↦[(Memref.whole main_arg0).view.set]{Moves.share (R := Unit) (L := Unit) (.inl ())} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (c : Dev nD) : (moves m).plan.slotR () (sib c)
    = ((slotRef c).view.loc ((sib c).tc : Thread nD τ) ↦[(slotRef c).view.set]{fullShare} m (((sib c).tc : Thread nD τ).loc main_v1)) :=
  pts_set ((congrArg slot (sib.left_inv c)).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((Memref.whole main_arg0).view.read (Elt F) (m ((c.tc : Thread nD τ).loc main_arg0))) Finset.univ)
      ⊢ (moves m).plan.landL () c :=
  pts_land (slot_set c) (landed m c c (mate_self c) fd)

theorem land_there (c : Dev nD) (fd : Buf (Elt F) ((slotRef c).view.loc ((sib c).tc : Thread nD τ))) :
    ((slotRef c).view.loc ((sib c).tc : Thread nD τ) ↦[(slotRef c).view.set]{fullShare}
        (slotRef c).view.write (Elt F) fd ((Memref.whole main_arg0).view.read (Elt F) (m ((c.tc : Thread nD τ).loc main_arg0))) Finset.univ)
      ⊢ (moves m).plan.landR () (sib c) :=
  pts_land ((slot_set c).trans (congrArg slot (sib.left_inv c)).symm) (landed m c (sib c) (mate_sib c) fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_reduce_share_eq_skeleton]
  unfold cc0_reduce_share_skel
  simp only [k0_part1_eq_skeleton]
  unfold k0_part1_skel
  simp only [Prog.lift, Prog.bind_op, Prog.bind_ret, Prog.pure_eq_ret, wp_deviceId]
  iintro HR
  iapply (Plan.start_local (moves m).plan defs₀ Variants.none c () (Finset.mem_univ _) (by decide) rfl (credit_slot m c _) (read_here m c) (slot_here m c)
    (land_here m c _)) $$ HR
  iintro HR
  iapply (Plan.start_remote (moves m).plan defs₀ Variants.none c (sib c) () rfl (Finset.mem_univ _) (by decide) rfl rfl (credit_slot m c _) (read_there m c) (slot_there m c)
    (land_there m c _)) $$ HR
  iintro HR
  iapply (Plan.await (moves m).plan defs₀ Variants.none c (.inl ()) (by decide) (by decide) (by decide) (by decide) rfl (credit_whole m)) $$ HR
  iintro HR
  iapply (Plan.await (moves m).plan defs₀ Variants.none c (.inr (.inl ())) (by decide) (by decide) (by decide) (by decide) rfl (credit_slot m c cc0_scratch1.sem)) $$ HR
  iintro HR
  iapply (Plan.await (moves m).plan defs₀ Variants.none c (.inr (.inr ())) (by decide) (by decide) (by decide) (by decide) rfl (credit_slot m c cc0_scratch2.sem)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of rows that the devices hold in order, a device's result is its chip's part. -/
theorem result_eq (w : (⟨2, ![27648, 1024]⟩ : Shape).Idx → Elt F .f32)
    (h : ∀ c : Dev nD, m ((c.tc : Thread nD τ).loc main_arg0) = Layout.block ⟨2, ![3456, 1024]⟩ ⟨2, ![27648, 1024]⟩ 0 8 c w)
    (hs : (⟨2, ![27648, 1024]⟩ : Shape).ShapeCasts ⟨3, ![8, 3456, 1024]⟩) (c : Dev nD) :
    result m c = Layout.blockN ⟨3, ![2, 3456, 1024]⟩ ⟨3, ![8, 3456, 1024]⟩ (Layout.meshBlock [2, 2, 2] ![[0, 1], [], []] c) (shapeCast ⟨3, ![8, 3456, 1024]⟩ w hs) := by
  funext j
  unfold result
  rw [h]
  refine (shapeCast_apply w hs _ _ ?_).symm
  rw [Shape.rowMajor_val_two, Shape.rowMajor_val_three]
  have e0 := chip_block c
  have e1 := no_block c
  show ((2 * (c.val / 2) + (j (0 : Fin 3)).val) * 3456 + (j (1 : Fin 3)).val) * 1024 + (j (2 : Fin 3)).val
    = ((Layout.meshLin [2, 2, 2] c.val [0, 1] * 2 + (j (0 : Fin 3)).val) * 3456 + (Layout.meshLin [2, 2, 2] c.val [] * 3456 + (j (1 : Fin 3)).val)) * 1024
      + (Layout.meshLin [2, 2, 2] c.val [] * 1024 + (j (2 : Fin 3)).val)
  rw [e0, e1]
  omega

/-- The kernel and its reference, over any values. -/
theorem agrees (m' : (ℓ : Loc Cert.ReduceShareReferenceIdeal.nD Cert.ReduceShareReferenceIdeal.τ Cert.ReduceShareReferenceIdeal.sig) → Buf (Elt F) ℓ)
    (ρ' : Dev Cert.ReduceShareReferenceIdeal.nD → PrngReg)
    (h : ∀ c : Dev nD, m ((c.tc : Thread nD τ).loc main_arg0) = Layout.block ⟨2, ![3456, 1024]⟩ ⟨2, ![27648, 1024]⟩ 0 8 c
      (m' (((0 : Dev Cert.ReduceShareReferenceIdeal.nD).tc : Thread _ Cert.ReduceShareReferenceIdeal.τ).loc Cert.ReduceShareReferenceIdeal.main_arg0))) :
    ∃ v : Buf (Elt F) (((0 : Dev Cert.ReduceShareReferenceIdeal.nD).tc : Thread _ Cert.ReduceShareReferenceIdeal.τ).loc Cert.ReduceShareReferenceIdeal.main_v0),
      θ_run defs (onTc (τ := τ) (main (F := F))) ⟨m, fun _ => 0, ρ⟩ (fun r => ∀ c : Dev nD,
        r.2.mem ((c.tc : Thread nD τ).loc main_v1) = Layout.blockN ⟨3, ![2, 3456, 1024]⟩ ⟨3, ![8, 3456, 1024]⟩ (Layout.meshBlock [2, 2, 2] ![[0, 1], [], []] c) v
        ∧ r.2.mem ((c.tc : Thread nD τ).loc main_arg0) = m ((c.tc : Thread nD τ).loc main_arg0))
      ∧ θ_run Cert.ReduceShareReferenceIdeal.defs (onTc (τ := Cert.ReduceShareReferenceIdeal.τ) (Cert.ReduceShareReferenceIdeal.main (F := F))) ⟨m', fun _ => 0, ρ'⟩ (fun r =>
        r.2.mem (((0 : Dev Cert.ReduceShareReferenceIdeal.nD).tc : Thread _ Cert.ReduceShareReferenceIdeal.τ).loc Cert.ReduceShareReferenceIdeal.main_v0) = v
        ∧ r.2.mem (((0 : Dev Cert.ReduceShareReferenceIdeal.nD).tc : Thread _ Cert.ReduceShareReferenceIdeal.τ).loc Cert.ReduceShareReferenceIdeal.main_arg0)
          = m' (((0 : Dev Cert.ReduceShareReferenceIdeal.nD).tc : Thread _ Cert.ReduceShareReferenceIdeal.τ).loc Cert.ReduceShareReferenceIdeal.main_arg0)) :=
  ⟨_, (θ_run _ _ _).mono (fun r hr c => ⟨(hr.1 c).2.trans (result_eq m _ h _ c), (hr.1 c).1⟩) (run_main m ρ),
    (θ_run _ _ _).mono (fun r hr => hr 0) (Cert.ReduceShareReferenceIdeal.Value.run m' ρ')⟩

end Cert.ReduceShareKernelIdeal

end
-- ==== Proof.GatherChips.lean ====
/-
# The half of every chip's shard for every device

A device sends its core's half of its chip's rows to its three peers, and keeps a copy: slot `i` of a result is the half of
the rows of chip `i` for the device's core.
-/
module

public import proofs.«01_k».proof.Proof.Moves
public import proofs.«01_k».proof.Proof.Mesh
public import proofs.«01_k».proof.Proof.Gen.GatherChipsReferenceIdeal.Run
public import proofs.«01_k».proof.Proof.Gen.GatherChipsKernelIdeal.Launch
public import proofs.«01_k».proof.Proof.Gen.GatherChipsKernelIdeal.Skeleton
public import proofs.«01_k».proof.Proof.Gen.GatherChipsKernelIdeal.Points

@[expose] public section

noncomputable section

namespace Cert.GatherChipsKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherChipsKernelIdeal.Gen

variable {F : FTy → Type} [FloatOps F]

theorem dev1 (d : Dev nD) : (⟨k0_dev1 d, k0_dev1_lt d⟩ : Dev nD) = peer 0 d := by revert d; decide +kernel

theorem dev2 (d : Dev nD) : (⟨k0_dev2 d, k0_dev2_lt d⟩ : Dev nD) = peer 1 d := by revert d; decide +kernel

theorem dev3 (d : Dev nD) : (⟨k0_dev3 d, k0_dev3_lt d⟩ : Dev nD) = peer 2 d := by revert d; decide +kernel

theorem own (d : Dev nD) : k0_off1 d = ![d.val / 2, 0, 0] := by revert d; decide +kernel

/-- The semaphores of the three sends, or of the three receipts. -/
@[reducible] def sems (s : DmaSems sig S3) : Fin 3 → DmaSem sig
  | 0 => ((s.slice (Rect.unit (s := S3) ![0] S1.size inb_S3_S1_0)).squeeze S_ squeezes_S1_S_).sem
  | 1 => ((s.slice (Rect.unit (s := S3) ![1] S1.size inb_S3_S1_1)).squeeze S_ squeezes_S1_S_).sem
  | 2 => ((s.slice (Rect.unit (s := S3) ![2] S1.size inb_S3_S1_2)).squeeze S_ squeezes_S1_S_).sem

/-- The slot, in a result array, of the chip of a device. -/
def slot (d : Dev nD) : Finset main_v1.ty.Idx := Finset.univ.filter fun j => (j (0 : Fin 3)).val = d.val / 2

/-- It as the kernel addresses it. -/
abbrev slotRef (d : Dev nD) : Memref sig .tc .hbm S3456x1024 .bf16 :=
  ((Memref.whole main_v1).slice (Rect.unit (s := S4x3456x1024) (k0_off1 d) S1x3456x1024.size (k0_off1_inb d)) (fun _ => rfl)).squeeze S3456x1024 squeezes_S1x3456x1024_S3456x1024

theorem slot_set (d : Dev nD) : (slotRef d).view.set = slot d := by
  refine (View.set_reshape _ _).trans ((View.set_slice_whole _ _).trans (Finset.ext fun j => ?_))
  rw [Rect.mem_set_unit, own, slot, Finset.mem_filter]
  refine ⟨fun h => ⟨Finset.mem_univ _, ?_⟩, fun h a => ?_⟩
  · have h0 : d.val / 2 ≤ (j (0 : Fin 3)).val ∧ (j (0 : Fin 3)).val < d.val / 2 + 1 := h 0
    omega
  · have h1 := (j (1 : Fin 3)).isLt
    have h2 := (j (2 : Fin 3)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩

theorem slot_emb (d : Dev nD) (i : S3456x1024.Idx) :
    ((slotRef d).view.emb i (0 : Fin 3)).val = d.val / 2 ∧ (fun a : Fin 2 => (slotRef d).view.emb i a.succ) = i := by
  have e (a : Fin 3) : ((slotRef d).view.emb i a).val = (![d.val / 2, 0, 0] : Fin 3 → ℕ) a + 1 * (Shape.reshapeEquiv squeezes_S1x3456x1024_S3456x1024.numel_eq i a).val := by
    rw [← own]; rfl
  have r := Shape.reshapeEquiv_cons_one (d := S3456x1024.size) squeezes_S1x3456x1024_S3456x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)

/-- What a device's copies read: its core's half of the rows. -/
abbrev inp (k : Fin 3 ⊕ Unit) (d : Dev nD) : Memref sig .tc .hbm S3456x1024 .bf16 :=
  (Memref.whole main_arg0).slice (Rect.unit (s := S6912x1024) (k0_off2 d) S3456x1024.size (k0_off2_inb d)) (fun _ => rfl)

/-- Where, in the array of the sender, the element is that comes to `i` of a slot on device `n`. -/
def place (n : Dev nD) (i : S3456x1024.Idx) : main_arg0.ty.Idx := fun
  | 0 => (⟨3456 * (n.val % 2) + (i (0 : Fin 2)).val, by
      have h : (i (0 : Fin 2)).val < 3456 := (i (0 : Fin 2)).isLt
      omega⟩ : Fin 6912)
  | 1 => i (1 : Fin 2)

theorem inp_emb (k : Fin 3 ⊕ Unit) (d : Dev nD) (i : S3456x1024.Idx) : (inp k d).view.emb i = place (reach k d) i := by
  have e (a : Fin 2) : ((inp k d).view.emb i a).val = (![3456 * (d.val % 2), 0] : Fin 2 → ℕ) a + 1 * (i a).val := by
    rw [← k0_off2_eq]; rfl
  refine funext fun a => Fin.ext ?_
  rw [e]
  match a with
  | 0 =>
    show 3456 * (d.val % 2) + 1 * (i (0 : Fin 2)).val = 3456 * ((reach k d).val % 2) + (i (0 : Fin 2)).val
    rw [reach_core k d, Nat.one_mul]
  | 1 => exact (Nat.zero_add _).trans (Nat.one_mul _)

variable (m : (ℓ : Loc nD τ sig) → Buf (Elt F) ℓ) (ρ : Dev nD → PrngReg)

/-- The device whose copy fills slot `i`. -/
def sender (c : Dev nD) (i : Fin 4) : Dev nD := onChip c i

theorem sender_reach (k : Fin 3 ⊕ Unit) (d : Dev nD) (h : d.val / 2 < 4) : sender (reach k d) ⟨d.val / 2, h⟩ = d := onChip_reach k d

/-- What a device's result array holds at the end: in slot `i` its core's half of the rows of chip `i`. -/
def result (c : Dev nD) : Buf (Elt F) ((c.tc : Thread nD τ).loc main_v1) :=
  fun j => m (((sender c (j (0 : Fin 3))).tc : Thread nD τ).loc main_arg0) (place c fun a : Fin 2 => j a.succ)

/-- The copies. -/
def moves : Moves nD τ sig (Elt F) (Fin 3) Unit where
  a := main_arg0
  o := main_v1
  cell | .inl r => .dma (sems cc0_scratch0 r) | .inr (.inl r) => .dma (sems cc0_scratch1 r) | .inr (.inr _) => .dma cc0_scratch2.sem
  cell_inj := by decide
  amt := RefSig.tileCredit S3456x1024 .bf16
  amt_pos := RefSig.tileCredit_pos _ _ (by decide)
  dest r := peer r
  m := m
  rd k c := (inp k c).view.set
  wr k c := slot (reach k c)
  fin := result m

theorem cuts : (moves m).Cuts where
  disj c k k' hk := Finset.disjoint_left.mpr fun j h1 h2 =>
    reach_ne c k k' hk ((Finset.mem_filter.mp h1).2.symm.trans (Finset.mem_filter.mp h2).2)
  cover c := by
    refine Finset.eq_univ_of_forall fun j => Finset.mem_biUnion.mpr ?_
    obtain ⟨k, hk⟩ := reach_all c (j (0 : Fin 3))
    exact ⟨k, Finset.mem_univ _, Finset.mem_filter.mpr ⟨Finset.mem_univ _, hk.symm⟩⟩

/-- What copy `k` from device `d` leaves where it goes. -/
theorem landed (k : Fin 3 ⊕ Unit) (d n : Dev nD) (hn : n = reach k d) (fd : Buf (Elt F) ((slotRef d).view.loc (n.tc : Thread nD τ))) :
    ∀ j ∈ (slotRef d).view.set,
      (slotRef d).view.write (Elt F) fd ((inp k d).view.read (Elt F) (m ((d.tc : Thread nD τ).loc main_arg0))) Finset.univ j = result m n j := by
  subst hn
  refine write_is _ _ _ _ fun i => ?_
  obtain ⟨h0, h1⟩ := slot_emb d i
  have hk : ((slotRef d).view.emb i (0 : Fin 3)) = (⟨d.val / 2, by have h : d.val < 8 := d.isLt; omega⟩ : Fin 4) := Fin.ext h0
  unfold result
  rw [hk, h1, sender_reach, ← inp_emb]
  rfl

theorem slot_reach (k : Fin 3 ⊕ Unit) (c n : Dev nD) (hn : n = reach k c) : slot (reach k n) = slot c := by
  subst hn; rw [reach_reach]

/-- Every part that a copy moves is of one size. -/
theorem credit_slot (off : Fin 3 → ℕ) (h : ∀ a, off a + S1x3456x1024.size a ≤ S4x3456x1024.size a) :
    (((Memref.whole main_v1).slice (Rect.unit (s := S4x3456x1024) off S1x3456x1024.size h) (fun _ => rfl)).squeeze S3456x1024 squeezes_S1x3456x1024_S3456x1024).view.dmaCredit = (moves m).plan.amt := rfl

theorem credit_write (d : Dev nD) (sm : DmaSem sig) : (slotRef d).view.amount (.dma sm) = (moves m).plan.amt := rfl

theorem credit_inp (k : Fin 3 ⊕ Unit) (d : Dev nD) : (inp k d).view.dmaCredit = (moves m).plan.amt := rfl

theorem read_here (c : Dev nD) : (moves m).plan.srcL () c
    = ((inp (.inr ()) c).view.loc (c.tc : Thread nD τ) ↦[(inp (.inr ()) c).view.set]{Moves.share (R := Fin 3) (L := Unit) (.inr ())} m ((c.tc : Thread nD τ).loc main_arg0)) := rfl

theorem read_there (r : Fin 3) (c : Dev nD) : (moves m).plan.srcR r c
    = ((inp (.inl r) c).view.loc (c.tc : Thread nD τ) ↦[(inp (.inl r) c).view.set]{Moves.share (R := Fin 3) (L := Unit) (.inl r)} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (r : Fin 3) (c n : Dev nD) (hn : n = peer r c) : (moves m).plan.slotR r n
    = ((slotRef c).view.loc (n.tc : Thread nD τ) ↦[(slotRef c).view.set]{fullShare} m ((n.tc : Thread nD τ).loc main_v1)) :=
  pts_set ((slot_reach (.inl r) c n hn).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((inp (.inr ()) c).view.read (Elt F) (m ((c.tc : Thread nD τ).loc main_arg0))) Finset.univ)
      ⊢ (moves m).plan.landL () c :=
  pts_land (slot_set c) (landed m (.inr ()) c c rfl fd)

theorem land_there (r : Fin 3) (c n : Dev nD) (hn : n = peer r c) (fd : Buf (Elt F) ((slotRef c).view.loc (n.tc : Thread nD τ))) :
    ((slotRef c).view.loc (n.tc : Thread nD τ) ↦[(slotRef c).view.set]{fullShare}
        (slotRef c).view.write (Elt F) fd ((inp (.inl r) c).view.read (Elt F) (m ((c.tc : Thread nD τ).loc main_arg0))) Finset.univ)
      ⊢ (moves m).plan.landR r n :=
  pts_land ((slot_set c).trans (slot_reach (.inl r) c n hn).symm) (landed m (.inl r) c n hn fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_gather_chips_eq_skeleton]
  unfold cc0_gather_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  iintro HR
  iapply (Plan.start_local (moves m).plan defs₀ Variants.none c () (Finset.mem_univ _) (by decide) rfl (credit_write m c _) (read_here m c) (slot_here m c)
    (land_here m c _)) $$ HR
  iintro HR
  iapply (Plan.start_remote (moves m).plan defs₀ Variants.none c _ 0 (dev1 c) (by decide) (by decide) rfl rfl (credit_write m c _) (read_there m 0 c)
    (slot_there m 0 c _ (dev1 c)) (land_there m 0 c _ (dev1 c) _)) $$ HR
  iintro HR
  iapply (Plan.start_remote (moves m).plan defs₀ Variants.none c _ 1 (dev2 c) (by decide) (by decide) rfl rfl (credit_write m c _) (read_there m 1 c)
    (slot_there m 1 c _ (dev2 c)) (land_there m 1 c _ (dev2 c) _)) $$ HR
  iintro HR
  iapply (Plan.start_remote (moves m).plan defs₀ Variants.none c _ 2 (dev3 c) (by decide) (by decide) rfl rfl (credit_write m c _) (read_there m 2 c)
    (slot_there m 2 c _ (dev3 c)) (land_there m 2 c _ (dev3 c) _)) $$ HR
  iintro HR
  iapply (Plan.await (moves m).plan defs₀ Variants.none c (.inr (.inl 0)) (by decide) (by decide) (by decide) (by decide) rfl (credit_slot m _ _)) $$ HR
  iintro HR
  iapply (Plan.await (moves m).plan defs₀ Variants.none c (.inr (.inl 1)) (by decide) (by decide) (by decide) (by decide) rfl (credit_slot m _ _)) $$ HR
  iintro HR
  iapply (Plan.await (moves m).plan defs₀ Variants.none c (.inr (.inl 2)) (by decide) (by decide) (by decide) (by decide) rfl (credit_slot m _ _)) $$ HR
  iintro HR
  iapply (Plan.await (moves m).plan defs₀ Variants.none c (.inl 0) (by decide) (by decide) (by decide) (by decide) rfl (credit_inp m (.inl 0) c)) $$ HR
  iintro HR
  iapply (Plan.await (moves m).plan defs₀ Variants.none c (.inl 1) (by decide) (by decide) (by decide) (by decide) rfl (credit_inp m (.inl 1) c)) $$ HR
  iintro HR
  iapply (Plan.await (moves m).plan defs₀ Variants.none c (.inl 2) (by decide) (by decide) (by decide) (by decide) rfl (credit_inp m (.inl 2) c)) $$ HR
  iintro HR
  iapply (Plan.await (moves m).plan defs₀ Variants.none c (.inr (.inr ())) (by decide) (by decide) (by decide) (by decide) rfl (credit_slot m _ _)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of an array cut along the chips, a device's result is its core's half of the rows. -/
theorem result_eq (w : (⟨2, ![27648, 1024]⟩ : Shape).Idx → Elt F .bf16)
    (h : ∀ c : Dev nD, m ((c.tc : Thread nD τ).loc main_arg0) = Layout.blockN ⟨2, ![6912, 1024]⟩ ⟨2, ![27648, 1024]⟩ (Layout.meshBlock [2, 2, 2] ![[0, 1], []] c) w)
    (hs : (⟨2, ![27648, 1024]⟩ : Shape).ShapeCasts ⟨3, ![4, 6912, 1024]⟩) (c : Dev nD) :
    result m c = Layout.blockN ⟨3, ![4, 3456, 1024]⟩ ⟨3, ![4, 6912, 1024]⟩ (Layout.meshBlock [2, 2, 2] ![[], [2], []] c) (shapeCast ⟨3, ![4, 6912, 1024]⟩ w hs) := by
  funext j
  unfold result
  rw [h]
  refine (shapeCast_apply w hs _ _ ?_).symm
  rw [Shape.rowMajor_val_two, Shape.rowMajor_val_three]
  have b0 : (j (0 : Fin 3)).val < 4 := (j (0 : Fin 3)).isLt
  have e0 : Layout.meshLin [2, 2, 2] (onChip c (j (0 : Fin 3))).val [0, 1] = (j (0 : Fin 3)).val := by
    rw [chip_block]
    show (2 * (j (0 : Fin 3)).val + c.val % 2) / 2 = _
    omega
  have e1 := no_block (onChip c (j (0 : Fin 3)))
  have e2 := core_block c
  have e3 := no_block c
  show (Layout.meshLin [2, 2, 2] (onChip c (j (0 : Fin 3))).val [0, 1] * 6912 + (3456 * (c.val % 2) + (j (1 : Fin 3)).val)) * 1024
      + (Layout.meshLin [2, 2, 2] (onChip c (j (0 : Fin 3))).val [] * 1024 + (j (2 : Fin 3)).val)
    = ((Layout.meshLin [2, 2, 2] c.val [] * 4 + (j (0 : Fin 3)).val) * 6912 + (Layout.meshLin [2, 2, 2] c.val [2] * 3456 + (j (1 : Fin 3)).val)) * 1024
      + (Layout.meshLin [2, 2, 2] c.val [] * 1024 + (j (2 : Fin 3)).val)
  rw [e0, e1, e2, e3]
  omega

/-- The kernel and its reference, over any values. -/
theorem agrees (m' : (ℓ : Loc Cert.GatherChipsReferenceIdeal.nD Cert.GatherChipsReferenceIdeal.τ Cert.GatherChipsReferenceIdeal.sig) → Buf (Elt F) ℓ)
    (ρ' : Dev Cert.GatherChipsReferenceIdeal.nD → PrngReg)
    (h : ∀ c : Dev nD, m ((c.tc : Thread nD τ).loc main_arg0) = Layout.blockN ⟨2, ![6912, 1024]⟩ ⟨2, ![27648, 1024]⟩ (Layout.meshBlock [2, 2, 2] ![[0, 1], []] c)
      (m' (((0 : Dev Cert.GatherChipsReferenceIdeal.nD).tc : Thread _ Cert.GatherChipsReferenceIdeal.τ).loc Cert.GatherChipsReferenceIdeal.main_arg0))) :
    ∃ v : Buf (Elt F) (((0 : Dev Cert.GatherChipsReferenceIdeal.nD).tc : Thread _ Cert.GatherChipsReferenceIdeal.τ).loc Cert.GatherChipsReferenceIdeal.main_v0),
      θ_run defs (onTc (τ := τ) (main (F := F))) ⟨m, fun _ => 0, ρ⟩ (fun r => ∀ c : Dev nD,
        r.2.mem ((c.tc : Thread nD τ).loc main_v1) = Layout.blockN ⟨3, ![4, 3456, 1024]⟩ ⟨3, ![4, 6912, 1024]⟩ (Layout.meshBlock [2, 2, 2] ![[], [2], []] c) v
        ∧ r.2.mem ((c.tc : Thread nD τ).loc main_arg0) = m ((c.tc : Thread nD τ).loc main_arg0))
      ∧ θ_run Cert.GatherChipsReferenceIdeal.defs (onTc (τ := Cert.GatherChipsReferenceIdeal.τ) (Cert.GatherChipsReferenceIdeal.main (F := F))) ⟨m', fun _ => 0, ρ'⟩ (fun r =>
        r.2.mem (((0 : Dev Cert.GatherChipsReferenceIdeal.nD).tc : Thread _ Cert.GatherChipsReferenceIdeal.τ).loc Cert.GatherChipsReferenceIdeal.main_v0) = v
        ∧ r.2.mem (((0 : Dev Cert.GatherChipsReferenceIdeal.nD).tc : Thread _ Cert.GatherChipsReferenceIdeal.τ).loc Cert.GatherChipsReferenceIdeal.main_arg0)
          = m' (((0 : Dev Cert.GatherChipsReferenceIdeal.nD).tc : Thread _ Cert.GatherChipsReferenceIdeal.τ).loc Cert.GatherChipsReferenceIdeal.main_arg0)) :=
  ⟨_, (θ_run _ _ _).mono (fun r hr c => ⟨(hr.1 c).2.trans (result_eq m _ h _ c), (hr.1 c).1⟩) (run_main m ρ),
    (θ_run _ _ _).mono (fun r hr => hr 0) (Cert.GatherChipsReferenceIdeal.Value.run m' ρ')⟩

end Cert.GatherChipsKernelIdeal

end
-- ==== Proof.GatherSibling.lean ====
/-
# The two devices of a chip give each other their halves

Each device holds one half of the rows of every chip's shard, and writes it into its slot of both result arrays of its chip:
its own, and its sibling's. So every device ends with all the rows.
-/
module

public import proofs.«01_k».proof.Proof.Moves
public import proofs.«01_k».proof.Proof.Mesh
public import proofs.«01_k».proof.Proof.Gen.GatherSiblingReferenceIdeal.Run
public import proofs.«01_k».proof.Proof.Gen.GatherSiblingKernelIdeal.Launch
public import proofs.«01_k».proof.Proof.Gen.GatherSiblingKernelIdeal.Skeleton
public import proofs.«01_k».proof.Proof.Gen.GatherSiblingKernelIdeal.Points

@[expose] public section

noncomputable section

namespace Cert.GatherSiblingKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherSiblingKernelIdeal.Gen

variable {F : FTy → Type} [FloatOps F]

/-- The sibling. -/
def sib : Dev nD ≃ Dev nD where
  toFun d := ⟨k0_dev1 d, k0_dev1_lt d⟩
  invFun d := ⟨k0_dev1 d, k0_dev1_lt d⟩
  left_inv := by decide +kernel
  right_inv := by decide +kernel

/-- The device `k` of the chip of `c`. -/
def mate (c : Dev nD) (k : Fin 2) : Dev nD := ⟨2 * (c.val / 2) + k.val, by have h : c.val < 8 := c.isLt; show _ < 8; omega⟩

theorem mate_self (c : Dev nD) : mate c ⟨c.val % 2, by omega⟩ = c := Fin.ext (show 2 * (c.val / 2) + c.val % 2 = c.val by omega)

theorem sib_mod (c : Dev nD) : (sib c).val % 2 = 1 - c.val % 2 := by revert c; decide +kernel

theorem mate_sib (c : Dev nD) : mate (sib c) ⟨c.val % 2, by omega⟩ = c := by revert c; decide +kernel

/-- The slot of a device in a result array. -/
def slot (d : Dev nD) : Finset main_v1.ty.Idx := Finset.univ.filter fun j => (j (0 : Fin 4)).val = d.val % 2

/-- It as the kernel addresses it. -/
abbrev slotRef (d : Dev nD) : Memref sig .tc .hbm S4x3456x1024 .bf16 :=
  ((Memref.whole main_v1).slice (Rect.unit (s := S2x4x3456x1024) (k0_off1 d) S1x4x3456x1024.size (k0_off1_inb d)) (fun _ => rfl)).squeeze S4x3456x1024 squeezes_S1x4x3456x1024_S4x3456x1024

theorem slot_set (d : Dev nD) : (slotRef d).view.set = slot d := by
  refine (View.set_reshape _ _).trans ((View.set_slice_whole _ _).trans (Finset.ext fun j => ?_))
  rw [Rect.mem_set_unit, k0_off1_eq, slot, Finset.mem_filter]
  refine ⟨fun h => ⟨Finset.mem_univ _, ?_⟩, fun h a => ?_⟩
  · have h0 : d.val % 2 ≤ (j (0 : Fin 4)).val ∧ (j (0 : Fin 4)).val < d.val % 2 + 1 := h 0
    omega
  · have h1 := (j (1 : Fin 4)).isLt
    have h2 := (j (2 : Fin 4)).isLt
    have h3 := (j (3 : Fin 4)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩
    | 3 => exact ⟨Nat.zero_le _, (Nat.zero_add _).symm ▸ h3⟩

theorem slot_emb (d : Dev nD) (i : S4x3456x1024.Idx) :
    ((slotRef d).view.emb i (0 : Fin 4)).val = d.val % 2 ∧ (fun a : Fin 3 => (slotRef d).view.emb i a.succ) = i := by
  have e (a : Fin 4) : ((slotRef d).view.emb i a).val = (![d.val % 2, 0, 0, 0] : Fin 4 → ℕ) a + 1 * (Shape.reshapeEquiv squeezes_S1x4x3456x1024_S4x3456x1024.numel_eq i a).val := by
    rw [← k0_off1_eq]; rfl
  have r := Shape.reshapeEquiv_cons_one (d := S4x3456x1024.size) squeezes_S1x4x3456x1024_S4x3456x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)
    | 2 => exact (Nat.zero_add _).trans (Nat.one_mul _)

variable (m : (ℓ : Loc nD τ sig) → Buf (Elt F) ℓ) (ρ : Dev nD → PrngReg)

/-- What a device's result array holds at the end: in slot `k` the half of device `k` of its chip. -/
def result (c : Dev nD) : Buf (Elt F) ((c.tc : Thread nD τ).loc main_v1) :=
  fun j => m (((mate c (j (0 : Fin 4))).tc : Thread nD τ).loc main_arg0) (fun a : Fin 3 => j a.succ)

/-- The copies. -/
def moves : Moves nD τ sig (Elt F) Unit Unit where
  a := main_arg0
  o := main_v1
  cell | .inl _ => .dma cc0_scratch0.sem | .inr (.inl _) => .dma cc0_scratch1.sem | .inr (.inr _) => .dma cc0_scratch2.sem
  cell_inj := by decide
  amt := RefSig.tileCredit S4x3456x1024 .bf16
  amt_pos := RefSig.tileCredit_pos _ _ (by decide)
  dest _ := sib
  m := m
  rd _ c := (Memref.whole main_arg0).view.set
  wr | .inl _, c => slot (sib c) | .inr _, c => slot c
  fin := result m

theorem cuts : (moves m).Cuts where
  disj := by
    have h (c : Dev nD) : Disjoint (slot (sib c)) (slot c) := Finset.disjoint_left.mpr fun j h1 h2 => by
      have e1 := (Finset.mem_filter.mp h1).2
      have e2 := (Finset.mem_filter.mp h2).2
      have := sib_mod c
      omega
    rintro c (⟨⟩ | ⟨⟩) (⟨⟩ | ⟨⟩) hk
    · exact absurd rfl hk
    · exact h c
    · exact (h c).symm
    · exact absurd rfl hk
  cover c := by
    refine Finset.eq_univ_of_forall fun j => Finset.mem_biUnion.mpr ?_
    have hj : (j (0 : Fin 4)).val < 2 := (j (0 : Fin 4)).isLt
    have hc := sib_mod c
    by_cases h : (j (0 : Fin 4)).val = c.val % 2
    · exact ⟨.inr (), Finset.mem_univ _, Finset.mem_filter.mpr ⟨Finset.mem_univ _, h⟩⟩
    · exact ⟨.inl (), Finset.mem_univ _, Finset.mem_filter.mpr ⟨Finset.mem_univ _, by omega⟩⟩

/-- What a copy from device `d` leaves on device `n` of the same chip. -/
theorem landed (d n : Dev nD) (h : mate n ⟨d.val % 2, by omega⟩ = d) (fd : Buf (Elt F) ((slotRef d).view.loc (n.tc : Thread nD τ))) :
    ∀ j ∈ (slotRef d).view.set,
      (slotRef d).view.write (Elt F) fd ((Memref.whole main_arg0).view.read (Elt F) (m ((d.tc : Thread nD τ).loc main_arg0))) Finset.univ j = result m n j := by
  refine write_is _ _ _ _ fun i => ?_
  obtain ⟨h0, h1⟩ := slot_emb d i
  have hk : ((slotRef d).view.emb i (0 : Fin 4)) = (⟨d.val % 2, by omega⟩ : Fin 2) := Fin.ext h0
  unfold result
  rw [hk, h1, h]
  rfl

theorem credit_slot (d : Dev nD) (sm : DmaSem sig) : (slotRef d).view.amount (.dma sm) = (moves m).plan.amt := rfl

theorem credit_whole : (Memref.whole main_arg0).view.dmaCredit = (moves m).plan.amt := rfl

theorem read_here (c : Dev nD) : (moves m).plan.srcL () c
    = ((Memref.whole main_arg0).view.loc (c.tc : Thread nD τ) ↦[(Memref.whole main_arg0).view.set]{Moves.share (R := Unit) (L := Unit) (.inr ())} m ((c.tc : Thread nD τ).loc main_arg0)) := rfl

theorem read_there (c : Dev nD) : (moves m).plan.srcR () c
    = ((Memref.whole main_arg0).view.loc (c.tc : Thread nD τ) ↦[(Memref.whole main_arg0).view.set]{Moves.share (R := Unit) (L := Unit) (.inl ())} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (c : Dev nD) : (moves m).plan.slotR () (sib c)
    = ((slotRef c).view.loc ((sib c).tc : Thread nD τ) ↦[(slotRef c).view.set]{fullShare} m (((sib c).tc : Thread nD τ).loc main_v1)) :=
  pts_set ((congrArg slot (sib.left_inv c)).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((Memref.whole main_arg0).view.read (Elt F) (m ((c.tc : Thread nD τ).loc main_arg0))) Finset.univ)
      ⊢ (moves m).plan.landL () c :=
  pts_land (slot_set c) (landed m c c (mate_self c) fd)

theorem land_there (c : Dev nD) (fd : Buf (Elt F) ((slotRef c).view.loc ((sib c).tc : Thread nD τ))) :
    ((slotRef c).view.loc ((sib c).tc : Thread nD τ) ↦[(slotRef c).view.set]{fullShare}
        (slotRef c).view.write (Elt F) fd ((Memref.whole main_arg0).view.read (Elt F) (m ((c.tc : Thread nD τ).loc main_arg0))) Finset.univ)
      ⊢ (moves m).plan.landR () (sib c) :=
  pts_land ((slot_set c).trans (congrArg slot (sib.left_inv c)).symm) (landed m c (sib c) (mate_sib c) fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_gather_sibling_eq_skeleton]
  unfold cc0_gather_sibling_skel
  simp only [k0_part1_eq_skeleton]
  unfold k0_part1_skel
  simp only [Prog.lift, Prog.bind_op, Prog.bind_ret, Prog.pure_eq_ret, wp_deviceId]
  iintro HR
  iapply (Plan.start_local (moves m).plan defs₀ Variants.none c () (Finset.mem_univ _) (by decide) rfl (credit_slot m c _) (read_here m c) (slot_here m c)
    (land_here m c _)) $$ HR
  iintro HR
  iapply (Plan.start_remote (moves m).plan defs₀ Variants.none c (sib c) () rfl (Finset.mem_univ _) (by decide) rfl rfl (credit_slot m c _) (read_there m c) (slot_there m c)
    (land_there m c _)) $$ HR
  iintro HR
  iapply (Plan.await (moves m).plan defs₀ Variants.none c (.inl ()) (by decide) (by decide) (by decide) (by decide) rfl (credit_whole m)) $$ HR
  iintro HR
  iapply (Plan.await (moves m).plan defs₀ Variants.none c (.inr (.inl ())) (by decide) (by decide) (by decide) (by decide) rfl (credit_slot m c cc0_scratch1.sem)) $$ HR
  iintro HR
  iapply (Plan.await (moves m).plan defs₀ Variants.none c (.inr (.inr ())) (by decide) (by decide) (by decide) (by decide) rfl (credit_slot m c cc0_scratch2.sem)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of an array whose halves the two devices of every chip hold, a device's result is the halves, the first one first. -/
theorem result_eq (w : (⟨3, ![4, 6912, 1024]⟩ : Shape).Idx → Elt F .bf16)
    (h : ∀ c : Dev nD, m ((c.tc : Thread nD τ).loc main_arg0) = Layout.blockN ⟨3, ![4, 3456, 1024]⟩ ⟨3, ![4, 6912, 1024]⟩ (Layout.meshBlock [2, 2, 2] ![[], [2], []] c) w)
    (hs : (⟨3, ![4, 6912, 1024]⟩ : Shape).ShapeCasts ⟨4, ![4, 2, 3456, 1024]⟩)
    (ht : (⟨4, ![4, 2, 3456, 1024]⟩ : Shape).Transposes [1, 0, 2, 3] ⟨4, ![2, 4, 3456, 1024]⟩) (c : Dev nD) :
    result m c = transpose ⟨4, ![2, 4, 3456, 1024]⟩ [1, 0, 2, 3] (shapeCast ⟨4, ![4, 2, 3456, 1024]⟩ w hs) ht := by
  funext j
  unfold result
  rw [h]
  refine ((transpose_apply [1, 0, 2, 3] _ ht j (k := fun | 0 => j 1 | 1 => j 0 | 2 => j 2 | 3 => j 3) ?_).trans ?_).symm
  · intro b
    match b with
    | 0 => rfl
    | 1 => rfl
    | 2 => rfl
    | 3 => rfl
  refine shapeCast_apply w hs _ _ ?_
  rw [Shape.rowMajor_val_three, Shape.rowMajor_val_four]
  have e0 : Layout.meshLin [2, 2, 2] (mate c (j (0 : Fin 4))).val [2] = (j (0 : Fin 4)).val := by
    rw [core_block]
    have h2 : (j (0 : Fin 4)).val < 2 := (j (0 : Fin 4)).isLt
    show (2 * (c.val / 2) + (j (0 : Fin 4)).val) % 2 = _
    omega
  have e1 := no_block (mate c (j (0 : Fin 4)))
  show ((Layout.meshLin [2, 2, 2] (mate c (j (0 : Fin 4))).val [] * 4 + (j (1 : Fin 4)).val) * 6912
      + (Layout.meshLin [2, 2, 2] (mate c (j (0 : Fin 4))).val [2] * 3456 + (j (2 : Fin 4)).val)) * 1024
      + (Layout.meshLin [2, 2, 2] (mate c (j (0 : Fin 4))).val [] * 1024 + (j (3 : Fin 4)).val)
    = (((j (1 : Fin 4)).val * 2 + (j (0 : Fin 4)).val) * 3456 + (j (2 : Fin 4)).val) * 1024 + (j (3 : Fin 4)).val
  rw [e0, e1]
  omega

/-- The kernel and its reference, over any values. -/
theorem agrees (m' : (ℓ : Loc Cert.GatherSiblingReferenceIdeal.nD Cert.GatherSiblingReferenceIdeal.τ Cert.GatherSiblingReferenceIdeal.sig) → Buf (Elt F) ℓ)
    (ρ' : Dev Cert.GatherSiblingReferenceIdeal.nD → PrngReg)
    (h : ∀ c : Dev nD, m ((c.tc : Thread nD τ).loc main_arg0) = Layout.blockN ⟨3, ![4, 3456, 1024]⟩ ⟨3, ![4, 6912, 1024]⟩ (Layout.meshBlock [2, 2, 2] ![[], [2], []] c)
      (m' (((0 : Dev Cert.GatherSiblingReferenceIdeal.nD).tc : Thread _ Cert.GatherSiblingReferenceIdeal.τ).loc Cert.GatherSiblingReferenceIdeal.main_arg0))) :
    ∃ v : Buf (Elt F) (((0 : Dev Cert.GatherSiblingReferenceIdeal.nD).tc : Thread _ Cert.GatherSiblingReferenceIdeal.τ).loc Cert.GatherSiblingReferenceIdeal.main_v1),
      θ_run defs (onTc (τ := τ) (main (F := F))) ⟨m, fun _ => 0, ρ⟩ (fun r => ∀ c : Dev nD,
        r.2.mem ((c.tc : Thread nD τ).loc main_v1) = v
        ∧ r.2.mem ((c.tc : Thread nD τ).loc main_arg0) = m ((c.tc : Thread nD τ).loc main_arg0))
      ∧ θ_run Cert.GatherSiblingReferenceIdeal.defs (onTc (τ := Cert.GatherSiblingReferenceIdeal.τ) (Cert.GatherSiblingReferenceIdeal.main (F := F))) ⟨m', fun _ => 0, ρ'⟩ (fun r =>
        r.2.mem (((0 : Dev Cert.GatherSiblingReferenceIdeal.nD).tc : Thread _ Cert.GatherSiblingReferenceIdeal.τ).loc Cert.GatherSiblingReferenceIdeal.main_v1) = v
        ∧ r.2.mem (((0 : Dev Cert.GatherSiblingReferenceIdeal.nD).tc : Thread _ Cert.GatherSiblingReferenceIdeal.τ).loc Cert.GatherSiblingReferenceIdeal.main_arg0)
          = m' (((0 : Dev Cert.GatherSiblingReferenceIdeal.nD).tc : Thread _ Cert.GatherSiblingReferenceIdeal.τ).loc Cert.GatherSiblingReferenceIdeal.main_arg0)) :=
  ⟨_, (θ_run _ _ _).mono (fun r hr c => ⟨(hr.1 c).2.trans (result_eq m _ h _ _ c), (hr.1 c).1⟩) (run_main m ρ),
    (θ_run _ _ _).mono (fun r hr => hr 0) (Cert.GatherSiblingReferenceIdeal.Value.run m' ρ')⟩

end Cert.GatherSiblingKernelIdeal

end
-- ==== Proof.GatherConv.lean ====
/-
# Every chip's packed weights for every device

A device sends its chip's array to its three peers, and keeps a copy: slot `i` of a result is the array of chip `i`.
-/
module

public import proofs.«01_k».proof.Proof.Moves
public import proofs.«01_k».proof.Proof.Mesh
public import proofs.«01_k».proof.Proof.Gen.GatherConvReferenceIdeal.Run
public import proofs.«01_k».proof.Proof.Gen.GatherConvKernelIdeal.Launch
public import proofs.«01_k».proof.Proof.Gen.GatherConvKernelIdeal.Skeleton
public import proofs.«01_k».proof.Proof.Gen.GatherConvKernelIdeal.Points

@[expose] public section

noncomputable section

namespace Cert.GatherConvKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.GatherConvKernelIdeal.Gen

variable {F : FTy → Type} [FloatOps F]

theorem dev1 (d : Dev nD) : (⟨k0_dev1 d, k0_dev1_lt d⟩ : Dev nD) = peer 0 d := by revert d; decide +kernel

theorem dev2 (d : Dev nD) : (⟨k0_dev2 d, k0_dev2_lt d⟩ : Dev nD) = peer 1 d := by revert d; decide +kernel

theorem dev3 (d : Dev nD) : (⟨k0_dev3 d, k0_dev3_lt d⟩ : Dev nD) = peer 2 d := by revert d; decide +kernel

theorem own (d : Dev nD) : k0_off1 d = ![d.val / 2, 0, 0] := by revert d; decide +kernel

/-- The semaphores of the three sends, or of the three receipts. -/
@[reducible] def sems (s : DmaSems sig S3) : Fin 3 → DmaSem sig
  | 0 => ((s.slice (Rect.unit (s := S3) ![0] S1.size inb_S3_S1_0)).squeeze S_ squeezes_S1_S_).sem
  | 1 => ((s.slice (Rect.unit (s := S3) ![1] S1.size inb_S3_S1_1)).squeeze S_ squeezes_S1_S_).sem
  | 2 => ((s.slice (Rect.unit (s := S3) ![2] S1.size inb_S3_S1_2)).squeeze S_ squeezes_S1_S_).sem

/-- The slot, in a result array, of the chip of a device. -/
def slot (d : Dev nD) : Finset main_v1.ty.Idx := Finset.univ.filter fun j => (j (0 : Fin 3)).val = d.val / 2

/-- It as the kernel addresses it. -/
abbrev slotRef (d : Dev nD) : Memref sig .tc .hbm S16x1024 .f32 :=
  ((Memref.whole main_v1).slice (Rect.unit (s := S4x16x1024) (k0_off1 d) S1x16x1024.size (k0_off1_inb d)) (fun _ => rfl)).squeeze S16x1024 squeezes_S1x16x1024_S16x1024

theorem slot_set (d : Dev nD) : (slotRef d).view.set = slot d := by
  refine (View.set_reshape _ _).trans ((View.set_slice_whole _ _).trans (Finset.ext fun j => ?_))
  rw [Rect.mem_set_unit, own, slot, Finset.mem_filter]
  refine ⟨fun h => ⟨Finset.mem_univ _, ?_⟩, fun h a => ?_⟩
  · have h0 : d.val / 2 ≤ (j (0 : Fin 3)).val ∧ (j (0 : Fin 3)).val < d.val / 2 + 1 := h 0
    omega
  · have h1 := (j (1 : Fin 3)).isLt
    have h2 := (j (2 : Fin 3)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩

theorem slot_emb (d : Dev nD) (i : S16x1024.Idx) :
    ((slotRef d).view.emb i (0 : Fin 3)).val = d.val / 2 ∧ (fun a : Fin 2 => (slotRef d).view.emb i a.succ) = i := by
  have e (a : Fin 3) : ((slotRef d).view.emb i a).val = (![d.val / 2, 0, 0] : Fin 3 → ℕ) a + 1 * (Shape.reshapeEquiv squeezes_S1x16x1024_S16x1024.numel_eq i a).val := by
    rw [← own]; rfl
  have r := Shape.reshapeEquiv_cons_one (d := S16x1024.size) squeezes_S1x16x1024_S16x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)

/-- What a device's copies read: the whole array. -/
abbrev inp (k : Fin 3 ⊕ Unit) (d : Dev nD) : Memref sig .tc .hbm S16x1024 .f32 := Memref.whole main_arg0

/-- Where, in the array of the sender, the element is that comes to `i` of a slot on device `n`. -/
def place (n : Dev nD) (i : S16x1024.Idx) : main_arg0.ty.Idx := i

theorem inp_emb (k : Fin 3 ⊕ Unit) (d : Dev nD) (i : S16x1024.Idx) : (inp k d).view.emb i = place (reach k d) i := rfl

variable (m : (ℓ : Loc nD τ sig) → Buf (Elt F) ℓ) (ρ : Dev nD → PrngReg)

/-- The device whose copy fills slot `i`. -/
def sender (c : Dev nD) (i : Fin 4) : Dev nD := onChip c i

theorem sender_reach (k : Fin 3 ⊕ Unit) (d : Dev nD) (h : d.val / 2 < 4) : sender (reach k d) ⟨d.val / 2, h⟩ = d := onChip_reach k d

/-- What a device's result array holds at the end: in slot `i` the array of chip `i`. -/
def result (c : Dev nD) : Buf (Elt F) ((c.tc : Thread nD τ).loc main_v1) :=
  fun j => m (((sender c (j (0 : Fin 3))).tc : Thread nD τ).loc main_arg0) (place c fun a : Fin 2 => j a.succ)

/-- The copies. -/
def moves : Moves nD τ sig (Elt F) (Fin 3) Unit where
  a := main_arg0
  o := main_v1
  cell | .inl r => .dma (sems cc0_scratch0 r) | .inr (.inl r) => .dma (sems cc0_scratch1 r) | .inr (.inr _) => .dma cc0_scratch2.sem
  cell_inj := by decide
  amt := RefSig.tileCredit S16x1024 .f32
  amt_pos := RefSig.tileCredit_pos _ _ (by decide)
  dest r := peer r
  m := m
  rd k c := (inp k c).view.set
  wr k c := slot (reach k c)
  fin := result m

theorem cuts : (moves m).Cuts where
  disj c k k' hk := Finset.disjoint_left.mpr fun j h1 h2 =>
    reach_ne c k k' hk ((Finset.mem_filter.mp h1).2.symm.trans (Finset.mem_filter.mp h2).2)
  cover c := by
    refine Finset.eq_univ_of_forall fun j => Finset.mem_biUnion.mpr ?_
    obtain ⟨k, hk⟩ := reach_all c (j (0 : Fin 3))
    exact ⟨k, Finset.mem_univ _, Finset.mem_filter.mpr ⟨Finset.mem_univ _, hk.symm⟩⟩

/-- What copy `k` from device `d` leaves where it goes. -/
theorem landed (k : Fin 3 ⊕ Unit) (d n : Dev nD) (hn : n = reach k d) (fd : Buf (Elt F) ((slotRef d).view.loc (n.tc : Thread nD τ))) :
    ∀ j ∈ (slotRef d).view.set,
      (slotRef d).view.write (Elt F) fd ((inp k d).view.read (Elt F) (m ((d.tc : Thread nD τ).loc main_arg0))) Finset.univ j = result m n j := by
  subst hn
  refine write_is _ _ _ _ fun i => ?_
  obtain ⟨h0, h1⟩ := slot_emb d i
  have hk : ((slotRef d).view.emb i (0 : Fin 3)) = (⟨d.val / 2, by have h : d.val < 8 := d.isLt; omega⟩ : Fin 4) := Fin.ext h0
  unfold result
  rw [hk, h1, sender_reach, ← inp_emb]
  rfl

theorem slot_reach (k : Fin 3 ⊕ Unit) (c n : Dev nD) (hn : n = reach k c) : slot (reach k n) = slot c := by
  subst hn; rw [reach_reach]

/-- Every part that a copy moves is of one size. -/
theorem credit_slot (off : Fin 3 → ℕ) (h : ∀ a, off a + S1x16x1024.size a ≤ S4x16x1024.size a) :
    (((Memref.whole main_v1).slice (Rect.unit (s := S4x16x1024) off S1x16x1024.size h) (fun _ => rfl)).squeeze S16x1024 squeezes_S1x16x1024_S16x1024).view.dmaCredit = (moves m).plan.amt := rfl

theorem credit_write (d : Dev nD) (sm : DmaSem sig) : (slotRef d).view.amount (.dma sm) = (moves m).plan.amt := rfl

theorem credit_inp (k : Fin 3 ⊕ Unit) (d : Dev nD) : (inp k d).view.dmaCredit = (moves m).plan.amt := rfl

theorem read_here (c : Dev nD) : (moves m).plan.srcL () c
    = ((inp (.inr ()) c).view.loc (c.tc : Thread nD τ) ↦[(inp (.inr ()) c).view.set]{Moves.share (R := Fin 3) (L := Unit) (.inr ())} m ((c.tc : Thread nD τ).loc main_arg0)) := rfl

theorem read_there (r : Fin 3) (c : Dev nD) : (moves m).plan.srcR r c
    = ((inp (.inl r) c).view.loc (c.tc : Thread nD τ) ↦[(inp (.inl r) c).view.set]{Moves.share (R := Fin 3) (L := Unit) (.inl r)} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (r : Fin 3) (c n : Dev nD) (hn : n = peer r c) : (moves m).plan.slotR r n
    = ((slotRef c).view.loc (n.tc : Thread nD τ) ↦[(slotRef c).view.set]{fullShare} m ((n.tc : Thread nD τ).loc main_v1)) :=
  pts_set ((slot_reach (.inl r) c n hn).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((inp (.inr ()) c).view.read (Elt F) (m ((c.tc : Thread nD τ).loc main_arg0))) Finset.univ)
      ⊢ (moves m).plan.landL () c :=
  pts_land (slot_set c) (landed m (.inr ()) c c rfl fd)

theorem land_there (r : Fin 3) (c n : Dev nD) (hn : n = peer r c) (fd : Buf (Elt F) ((slotRef c).view.loc (n.tc : Thread nD τ))) :
    ((slotRef c).view.loc (n.tc : Thread nD τ) ↦[(slotRef c).view.set]{fullShare}
        (slotRef c).view.write (Elt F) fd ((inp (.inl r) c).view.read (Elt F) (m ((c.tc : Thread nD τ).loc main_arg0))) Finset.univ)
      ⊢ (moves m).plan.landR r n :=
  pts_land ((slot_set c).trans (slot_reach (.inl r) c n hn).symm) (landed m (.inl r) c n hn fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_gather_conv_eq_skeleton]
  unfold cc0_gather_conv_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  iintro HR
  iapply (Plan.start_local (moves m).plan defs₀ Variants.none c () (Finset.mem_univ _) (by decide) rfl (credit_write m c _) (read_here m c) (slot_here m c)
    (land_here m c _)) $$ HR
  iintro HR
  iapply (Plan.start_remote (moves m).plan defs₀ Variants.none c _ 0 (dev1 c) (by decide) (by decide) rfl rfl (credit_write m c _) (read_there m 0 c)
    (slot_there m 0 c _ (dev1 c)) (land_there m 0 c _ (dev1 c) _)) $$ HR
  iintro HR
  iapply (Plan.start_remote (moves m).plan defs₀ Variants.none c _ 1 (dev2 c) (by decide) (by decide) rfl rfl (credit_write m c _) (read_there m 1 c)
    (slot_there m 1 c _ (dev2 c)) (land_there m 1 c _ (dev2 c) _)) $$ HR
  iintro HR
  iapply (Plan.start_remote (moves m).plan defs₀ Variants.none c _ 2 (dev3 c) (by decide) (by decide) rfl rfl (credit_write m c _) (read_there m 2 c)
    (slot_there m 2 c _ (dev3 c)) (land_there m 2 c _ (dev3 c) _)) $$ HR
  iintro HR
  iapply (Plan.await (moves m).plan defs₀ Variants.none c (.inr (.inl 0)) (by decide) (by decide) (by decide) (by decide) rfl (credit_slot m _ _)) $$ HR
  iintro HR
  iapply (Plan.await (moves m).plan defs₀ Variants.none c (.inr (.inl 1)) (by decide) (by decide) (by decide) (by decide) rfl (credit_slot m _ _)) $$ HR
  iintro HR
  iapply (Plan.await (moves m).plan defs₀ Variants.none c (.inr (.inl 2)) (by decide) (by decide) (by decide) (by decide) rfl (credit_slot m _ _)) $$ HR
  iintro HR
  iapply (Plan.await (moves m).plan defs₀ Variants.none c (.inl 0) (by decide) (by decide) (by decide) (by decide) rfl (credit_inp m (.inl 0) c)) $$ HR
  iintro HR
  iapply (Plan.await (moves m).plan defs₀ Variants.none c (.inl 1) (by decide) (by decide) (by decide) (by decide) rfl (credit_inp m (.inl 1) c)) $$ HR
  iintro HR
  iapply (Plan.await (moves m).plan defs₀ Variants.none c (.inl 2) (by decide) (by decide) (by decide) (by decide) rfl (credit_inp m (.inl 2) c)) $$ HR
  iintro HR
  iapply (Plan.await (moves m).plan defs₀ Variants.none c (.inr (.inr ())) (by decide) (by decide) (by decide) (by decide) rfl (credit_slot m _ _)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of an array cut along the chips, every device's result is the whole. -/
theorem result_eq (w : (⟨2, ![64, 1024]⟩ : Shape).Idx → Elt F .f32)
    (h : ∀ c : Dev nD, m ((c.tc : Thread nD τ).loc main_arg0) = Layout.blockN ⟨2, ![16, 1024]⟩ ⟨2, ![64, 1024]⟩ (Layout.meshBlock [2, 2, 2] ![[0, 1], []] c) w)
    (hs : (⟨2, ![64, 1024]⟩ : Shape).ShapeCasts ⟨3, ![4, 16, 1024]⟩) (c : Dev nD) :
    result m c = shapeCast ⟨3, ![4, 16, 1024]⟩ w hs := by
  funext j
  unfold result
  rw [h]
  refine (shapeCast_apply w hs _ _ ?_).symm
  rw [Shape.rowMajor_val_two, Shape.rowMajor_val_three]
  have b0 : (j (0 : Fin 3)).val < 4 := (j (0 : Fin 3)).isLt
  have e0 : Layout.meshLin [2, 2, 2] (onChip c (j (0 : Fin 3))).val [0, 1] = (j (0 : Fin 3)).val := by
    rw [chip_block]
    show (2 * (j (0 : Fin 3)).val + c.val % 2) / 2 = _
    omega
  have e1 := no_block (onChip c (j (0 : Fin 3)))
  show (Layout.meshLin [2, 2, 2] (onChip c (j (0 : Fin 3))).val [0, 1] * 16 + (j (1 : Fin 3)).val) * 1024 + (Layout.meshLin [2, 2, 2] (onChip c (j (0 : Fin 3))).val [] * 1024 + (j (2 : Fin 3)).val)
    = ((j (0 : Fin 3)).val * 16 + (j (1 : Fin 3)).val) * 1024 + (j (2 : Fin 3)).val
  rw [e0, e1]
  omega

/-- The kernel and its reference, over any values. -/
theorem agrees (m' : (ℓ : Loc Cert.GatherConvReferenceIdeal.nD Cert.GatherConvReferenceIdeal.τ Cert.GatherConvReferenceIdeal.sig) → Buf (Elt F) ℓ)
    (ρ' : Dev Cert.GatherConvReferenceIdeal.nD → PrngReg)
    (h : ∀ c : Dev nD, m ((c.tc : Thread nD τ).loc main_arg0) = Layout.blockN ⟨2, ![16, 1024]⟩ ⟨2, ![64, 1024]⟩ (Layout.meshBlock [2, 2, 2] ![[0, 1], []] c)
      (m' (((0 : Dev Cert.GatherConvReferenceIdeal.nD).tc : Thread _ Cert.GatherConvReferenceIdeal.τ).loc Cert.GatherConvReferenceIdeal.main_arg0))) :
    ∃ v : Buf (Elt F) (((0 : Dev Cert.GatherConvReferenceIdeal.nD).tc : Thread _ Cert.GatherConvReferenceIdeal.τ).loc Cert.GatherConvReferenceIdeal.main_v0),
      θ_run defs (onTc (τ := τ) (main (F := F))) ⟨m, fun _ => 0, ρ⟩ (fun r => ∀ c : Dev nD,
        r.2.mem ((c.tc : Thread nD τ).loc main_v1) = v
        ∧ r.2.mem ((c.tc : Thread nD τ).loc main_arg0) = m ((c.tc : Thread nD τ).loc main_arg0))
      ∧ θ_run Cert.GatherConvReferenceIdeal.defs (onTc (τ := Cert.GatherConvReferenceIdeal.τ) (Cert.GatherConvReferenceIdeal.main (F := F))) ⟨m', fun _ => 0, ρ'⟩ (fun r =>
        r.2.mem (((0 : Dev Cert.GatherConvReferenceIdeal.nD).tc : Thread _ Cert.GatherConvReferenceIdeal.τ).loc Cert.GatherConvReferenceIdeal.main_v0) = v
        ∧ r.2.mem (((0 : Dev Cert.GatherConvReferenceIdeal.nD).tc : Thread _ Cert.GatherConvReferenceIdeal.τ).loc Cert.GatherConvReferenceIdeal.main_arg0)
          = m' (((0 : Dev Cert.GatherConvReferenceIdeal.nD).tc : Thread _ Cert.GatherConvReferenceIdeal.τ).loc Cert.GatherConvReferenceIdeal.main_arg0)) :=
  ⟨_, (θ_run _ _ _).mono (fun r hr c => ⟨(hr.1 c).2.trans (result_eq m _ h _ c), (hr.1 c).1⟩) (run_main m ρ),
    (θ_run _ _ _).mono (fun r hr => hr 0) (Cert.GatherConvReferenceIdeal.Value.run m' ρ')⟩

end Cert.GatherConvKernelIdeal

end
-- ==== Proof.ReduceSibling.lean ====
/-
# Each device gets from its sibling the half of the rows that it sums

A device holds a gradient of all rows, for each of four slots. It sends its sibling the sibling's half of the rows, and
gets its own half of its sibling's gradient.
-/
module

public import proofs.«01_k».proof.Proof.Moves
public import proofs.«01_k».proof.Proof.Mesh
public import Idealize.ShloMosaic.Lib.ValueIdxRank6
public import proofs.«01_k».proof.Proof.Gen.ReduceSiblingReferenceIdeal.Run
public import proofs.«01_k».proof.Proof.Gen.ReduceSiblingKernelIdeal.Launch
public import proofs.«01_k».proof.Proof.Gen.ReduceSiblingKernelIdeal.Skeleton
public import proofs.«01_k».proof.Proof.Gen.ReduceSiblingKernelIdeal.Points

@[expose] public section

noncomputable section

namespace Cert.ReduceSiblingKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.ReduceSiblingKernelIdeal.Gen

variable {F : FTy → Type} [FloatOps F]

/-- The sibling. -/
def sib : Dev nD ≃ Dev nD where
  toFun d := ⟨k0_dev1 d, k0_dev1_lt d⟩
  invFun d := ⟨k0_dev1 d, k0_dev1_lt d⟩
  left_inv := by decide +kernel
  right_inv := by decide +kernel

theorem sib_mod (c : Dev nD) : (sib c).val % 2 = 1 - c.val % 2 := by revert c; decide +kernel

theorem sib_val (c : Dev nD) : (sib c).val = 2 * (c.val / 2) + (1 - c.val % 2) := by revert c; decide +kernel

theorem sib_sib (c : Dev nD) : sib (sib c) = c := sib.left_inv c

/-- The rows that a device sends, as the kernel addresses them. -/
abbrev sent (d : Dev nD) : Memref sig .tc .hbm S4x3456x1024 .f32 :=
  (Memref.whole main_arg0).slice (Rect.unit (s := S4x6912x1024) (k0_off1 d) S4x3456x1024.size (k0_off1_inb d)) (fun _ => rfl)

/-- Where an element of a half lies in the whole, for the half of device `c`. -/
def half (c : Dev nD) (j : main_v1.ty.Idx) : main_arg0.ty.Idx := fun
  | 0 => j (0 : Fin 3)
  | 1 => (⟨3456 * (c.val % 2) + (j (1 : Fin 3)).val, by
      have h : (j (1 : Fin 3)).val < 3456 := (j (1 : Fin 3)).isLt
      omega⟩ : Fin 6912)
  | 2 => j (2 : Fin 3)

theorem sent_emb (d : Dev nD) (i : S4x3456x1024.Idx) : (sent d).view.emb i = half (sib d) i := by
  have e (a : Fin 3) : ((sent d).view.emb i a).val = (![0, 3456 - 3456 * (d.val % 2), 0] : Fin 3 → ℕ) a + 1 * (i a).val := by
    rw [← k0_off1_eq]; rfl
  have hc := sib_mod d
  refine funext fun a => Fin.ext ?_
  rw [e]
  match a with
  | 0 => exact (Nat.zero_add _).trans (Nat.one_mul _)
  | 1 =>
    show 3456 - 3456 * (d.val % 2) + 1 * (i (1 : Fin 3)).val = 3456 * ((sib d).val % 2) + (i (1 : Fin 3)).val
    omega
  | 2 => exact (Nat.zero_add _).trans (Nat.one_mul _)

variable (m : (ℓ : Loc nD τ sig) → Buf (Elt F) ℓ) (ρ : Dev nD → PrngReg)

/-- What a device's result array holds at the end: its half of its sibling's rows. -/
def result (c : Dev nD) : Buf (Elt F) ((c.tc : Thread nD τ).loc main_v1) :=
  fun j => m (((sib c).tc : Thread nD τ).loc main_arg0) (half c j)

/-- Every element of a result array. -/
def every : Finset main_v1.ty.Idx := Finset.univ

theorem out_set : (Memref.whole main_v1).view.set = every := View.set_whole _

/-- The copy. -/
def moves : Moves nD τ sig (Elt F) Unit Empty where
  a := main_arg0
  o := main_v1
  cell | .inl _ => .dma cc0_scratch0.sem | .inr (.inl _) => .dma cc0_scratch1.sem
  cell_inj := by decide
  amt := RefSig.tileCredit S4x3456x1024 .f32
  amt_pos := RefSig.tileCredit_pos _ _ (by decide)
  dest _ := sib
  m := m
  rd _ c := (sent c).view.set
  wr _ c := every
  fin := result m

theorem cuts : (moves m).Cuts where
  disj := by
    rintro c (⟨⟩ | ⟨⟨⟩⟩) (⟨⟩ | ⟨⟨⟩⟩) hk
    exact absurd rfl hk
  cover c := Finset.eq_univ_of_forall fun j => Finset.mem_biUnion.mpr ⟨.inl (), Finset.mem_univ _, (Finset.mem_univ _ : j ∈ every)⟩

/-- What the copy from device `c` leaves on its sibling. -/
theorem landed (c : Dev nD) (fd : Buf (Elt F) ((Memref.whole main_v1).view.loc ((sib c).tc : Thread nD τ))) :
    ∀ j ∈ (Memref.whole main_v1).view.set,
      (Memref.whole main_v1).view.write (Elt F) fd ((sent c).view.read (Elt F) (m ((c.tc : Thread nD τ).loc main_arg0))) Finset.univ j = result m (sib c) j := by
  refine write_is _ _ _ _ fun i => ?_
  show m (((sib (sib c)).tc : Thread nD τ).loc main_arg0) (half (sib c) i) = m ((c.tc : Thread nD τ).loc main_arg0) ((sent c).view.emb i)
  rw [sent_emb, sib_sib]

theorem credit_out (sm : DmaSem sig) : (Memref.whole main_v1).view.amount (.dma sm) = (moves m).plan.amt := rfl

theorem credit_sent (c : Dev nD) : (sent c).view.dmaCredit = (moves m).plan.amt := rfl

theorem read_there (c : Dev nD) : (moves m).plan.srcR () c
    = ((sent c).view.loc (c.tc : Thread nD τ) ↦[(sent c).view.set]{Moves.share (R := Unit) (L := Empty) (.inl ())} m ((c.tc : Thread nD τ).loc main_arg0)) := rfl

theorem out_there (c : Dev nD) : (moves m).plan.slotR () (sib c)
    = ((Memref.whole main_v1).view.loc ((sib c).tc : Thread nD τ) ↦[(Memref.whole main_v1).view.set]{fullShare} m (((sib c).tc : Thread nD τ).loc main_v1)) :=
  pts_set out_set.symm _ _

theorem land_there (c : Dev nD) (fd : Buf (Elt F) ((Memref.whole main_v1).view.loc ((sib c).tc : Thread nD τ))) :
    ((Memref.whole main_v1).view.loc ((sib c).tc : Thread nD τ) ↦[(Memref.whole main_v1).view.set]{fullShare}
        (Memref.whole main_v1).view.write (Elt F) fd ((sent c).view.read (Elt F) (m ((c.tc : Thread nD τ).loc main_arg0))) Finset.univ)
      ⊢ (moves m).plan.landR () (sib c) :=
  pts_land out_set (landed m c fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_reduce_sibling_eq_skeleton]
  unfold cc0_reduce_sibling_skel
  simp only [Prog.lift, Prog.bind_op, Prog.bind_ret, Prog.pure_eq_ret, wp_deviceId]
  iintro HR
  iapply (Plan.start_remote (moves m).plan defs₀ Variants.none c (sib c) () rfl (Finset.mem_univ _) (by decide) rfl rfl (credit_out m _) (read_there m c) (out_there m c)
    (land_there m c _)) $$ HR
  iintro HR
  iapply (Plan.await (moves m).plan defs₀ Variants.none c (.inl ()) (by decide) (by decide) (by decide) (by decide) rfl (credit_sent m c)) $$ HR
  iintro HR
  iapply (Plan.await (moves m).plan defs₀ Variants.none c (.inr (.inl ())) (by decide) (by decide) (by decide) (by decide) rfl (credit_out m cc0_scratch1.sem)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- The rows of the reference that core `1 - p` of every chip is to hold: the half `q` of the gradients of core `p`. -/
theorem piece (w : (⟨3, ![32, 6912, 1024]⟩ : Shape).Idx → Elt F .f32) (p q : Fin 2)
    (h1 : (⟨3, ![32, 6912, 1024]⟩ : Shape).ShapeCasts ⟨6, ![4, 2, 4, 2, 3456, 1024]⟩)
    (h2 : (⟨6, ![4, 2, 4, 2, 3456, 1024]⟩ : Shape).Slices ![0, p.val, 0, q.val, 0, 0] ⟨6, ![4, 1, 4, 1, 3456, 1024]⟩)
    (h3 : (⟨6, ![4, 1, 4, 1, 3456, 1024]⟩ : Shape).ShapeCasts ⟨4, ![4, 4, 3456, 1024]⟩)
    (h4 : (⟨4, ![4, 4, 3456, 1024]⟩ : Shape).BroadcastsInDim ⟨5, ![4, 4, 1, 3456, 1024]⟩ ![0, 1, 3, 4])
    (j : (⟨5, ![4, 4, 1, 3456, 1024]⟩ : Shape).Idx) (k : (⟨3, ![32, 6912, 1024]⟩ : Shape).Idx)
    (k0 : (k (0 : Fin 3)).val = ((j (0 : Fin 5)).val * 2 + p.val) * 4 + (j (1 : Fin 5)).val)
    (k1 : (k (1 : Fin 3)).val = q.val * 3456 + (j (3 : Fin 5)).val)
    (k2 : (k (2 : Fin 3)).val = (j (4 : Fin 5)).val) :
    broadcastInDim ⟨5, ![4, 4, 1, 3456, 1024]⟩ ![0, 1, 3, 4] h4 (shapeCast ⟨4, ![4, 4, 3456, 1024]⟩
      (extractStridedSlice ⟨6, ![4, 1, 4, 1, 3456, 1024]⟩ ![0, p.val, 0, q.val, 0, 0] (shapeCast ⟨6, ![4, 2, 4, 2, 3456, 1024]⟩ w h1) h2) h3) j = w k := by
  refine (broadcastInDim_apply _ h4 _ j (k := fun | 0 => j 0 | 1 => j 1 | 2 => j 3 | 3 => j 4) ?_).trans ?_
  · intro a
    match a with
    | 0 => rfl
    | 1 => rfl
    | 2 => rfl
    | 3 => rfl
  refine (shapeCast_apply _ h3 _ (k := fun | 0 => j 0 | 1 => (0 : Fin 1) | 2 => j 1 | 3 => (0 : Fin 1) | 4 => j 3 | 5 => j 4) ?_).trans ?_
  · rw [Shape.rowMajor_val_six, Shape.rowMajor_val_four]
    show (((((j 0).val * 1 + 0) * 4 + (j 1).val) * 1 + 0) * 3456 + (j 3).val) * 1024 + (j 4).val
      = (((j 0).val * 4 + (j 1).val) * 3456 + (j 3).val) * 1024 + (j 4).val
    omega
  refine (extractStridedSlice_apply _ _ h2 _ (k := fun | 0 => j 0 | 1 => p | 2 => j 1 | 3 => q | 4 => j 3 | 5 => j 4) ?_).trans ?_
  · intro a
    match a with
    | 0 => exact (Nat.zero_add _).symm
    | 1 => rfl
    | 2 => exact (Nat.zero_add _).symm
    | 3 => rfl
    | 4 => exact (Nat.zero_add _).symm
    | 5 => exact (Nat.zero_add _).symm
  refine shapeCast_apply w h1 _ _ ?_
  rw [Shape.rowMajor_val_six, Shape.rowMajor_val_three, k0, k1, k2]
  show ((((j 0).val * 2 + p.val) * 4 + (j 1).val) * 6912 + (q.val * 3456 + (j 3).val)) * 1024 + (j 4).val
    = (((((j 0).val * 2 + p.val) * 4 + (j 1).val) * 2 + q.val) * 3456 + (j 3).val) * 1024 + (j 4).val
  omega

/-- The two pieces as the reference stacks them, as one function of the whole array. -/
theorem stacked (w : (⟨3, ![32, 6912, 1024]⟩ : Shape).Idx → Elt F .f32)
    (h1 : (⟨3, ![32, 6912, 1024]⟩ : Shape).ShapeCasts ⟨6, ![4, 2, 4, 2, 3456, 1024]⟩)
    (h2 : (⟨6, ![4, 2, 4, 2, 3456, 1024]⟩ : Shape).Slices ![0, 1, 0, 0, 0, 0] ⟨6, ![4, 1, 4, 1, 3456, 1024]⟩)
    (h2' : (⟨6, ![4, 2, 4, 2, 3456, 1024]⟩ : Shape).Slices ![0, 0, 0, 1, 0, 0] ⟨6, ![4, 1, 4, 1, 3456, 1024]⟩)
    (h3 : (⟨6, ![4, 1, 4, 1, 3456, 1024]⟩ : Shape).ShapeCasts ⟨4, ![4, 4, 3456, 1024]⟩)
    (h4 : (⟨4, ![4, 4, 3456, 1024]⟩ : Shape).BroadcastsInDim ⟨5, ![4, 4, 1, 3456, 1024]⟩ ![0, 1, 3, 4])
    (h5 : Shape.Concatenates [⟨5, ![4, 4, 1, 3456, 1024]⟩, ⟨5, ![4, 4, 1, 3456, 1024]⟩] ⟨5, ![4, 4, 2, 3456, 1024]⟩ (2 : Fin 5))
    (j : (⟨5, ![4, 4, 2, 3456, 1024]⟩ : Shape).Idx) (k : (⟨3, ![32, 6912, 1024]⟩ : Shape).Idx)
    (k0 : (k (0 : Fin 3)).val = ((j (0 : Fin 5)).val * 2 + (1 - (j (2 : Fin 5)).val)) * 4 + (j (1 : Fin 5)).val)
    (k1 : (k (1 : Fin 3)).val = (j (2 : Fin 5)).val * 3456 + (j (3 : Fin 5)).val)
    (k2 : (k (2 : Fin 3)).val = (j (4 : Fin 5)).val) :
    concatenate ⟨5, ![4, 4, 2, 3456, 1024]⟩ (2 : Fin 5)
        [⟨⟨5, ![4, 4, 1, 3456, 1024]⟩, broadcastInDim ⟨5, ![4, 4, 1, 3456, 1024]⟩ ![0, 1, 3, 4] h4 (shapeCast ⟨4, ![4, 4, 3456, 1024]⟩
          (extractStridedSlice ⟨6, ![4, 1, 4, 1, 3456, 1024]⟩ ![0, 1, 0, 0, 0, 0] (shapeCast ⟨6, ![4, 2, 4, 2, 3456, 1024]⟩ w h1) h2) h3)⟩,
         ⟨⟨5, ![4, 4, 1, 3456, 1024]⟩, broadcastInDim ⟨5, ![4, 4, 1, 3456, 1024]⟩ ![0, 1, 3, 4] h4 (shapeCast ⟨4, ![4, 4, 3456, 1024]⟩
          (extractStridedSlice ⟨6, ![4, 1, 4, 1, 3456, 1024]⟩ ![0, 0, 0, 1, 0, 0] (shapeCast ⟨6, ![4, 2, 4, 2, 3456, 1024]⟩ w h1) h2') h3)⟩] h5 j = w k := by
  have b2 : (j (2 : Fin 5)).val < 2 := (j (2 : Fin 5)).isLt
  rcases Nat.lt_or_ge (j (2 : Fin 5)).val 1 with hm | hm
  · have e2 : (j (2 : Fin 5)).val = 0 := by omega
    refine (concatenate_pair_apply_left (t := ⟨5, ![4, 4, 2, 3456, 1024]⟩) (s₁ := ⟨5, ![4, 4, 1, 3456, 1024]⟩) (s₂ := ⟨5, ![4, 4, 1, 3456, 1024]⟩) (2 : Fin 5) _ _ h5 j rfl
      (i := fun | 0 => j (0 : Fin 5) | 1 => j (1 : Fin 5) | 2 => (0 : Fin 1) | 3 => j (3 : Fin 5) | 4 => j (4 : Fin 5)) ?_).trans ?_
    · intro b
      match b with
      | 0 => rfl
      | 1 => rfl
      | 2 => exact e2.symm
      | 3 => rfl
      | 4 => rfl
    rw [e2] at k0 k1
    exact piece w 1 0 h1 h2 h3 h4 _ k k0 k1 k2
  · have e2 : (j (2 : Fin 5)).val = 1 := by omega
    refine (concatenate_pair_apply_right (t := ⟨5, ![4, 4, 2, 3456, 1024]⟩) (s₁ := ⟨5, ![4, 4, 1, 3456, 1024]⟩) (s₂ := ⟨5, ![4, 4, 1, 3456, 1024]⟩) (2 : Fin 5) _ _ h5 j rfl rfl
      (i := fun | 0 => j (0 : Fin 5) | 1 => j (1 : Fin 5) | 2 => (0 : Fin 1) | 3 => j (3 : Fin 5) | 4 => j (4 : Fin 5)) ?_ ?_).trans ?_
    · intro b hb
      match b with
      | 0 => rfl
      | 1 => rfl
      | 2 => exact absurd rfl hb
      | 3 => rfl
      | 4 => rfl
    · exact e2.symm
    rw [e2] at k0 k1
    exact piece w 0 1 h1 h2' h3 h4 _ k k0 k1 k2

/-- Of gradients that the devices hold in order, a device's result is its part of the reference's. -/
theorem result_eq (w : (⟨3, ![32, 6912, 1024]⟩ : Shape).Idx → Elt F .f32)
    (h : ∀ c : Dev nD, m ((c.tc : Thread nD τ).loc main_arg0) = Layout.block ⟨3, ![4, 6912, 1024]⟩ ⟨3, ![32, 6912, 1024]⟩ 0 8 c w)
    (v : (⟨5, ![4, 4, 2, 3456, 1024]⟩ : Shape).Idx → Elt F .f32)
    (hv : ∀ (j : (⟨5, ![4, 4, 2, 3456, 1024]⟩ : Shape).Idx) (k : (⟨3, ![32, 6912, 1024]⟩ : Shape).Idx),
      (k (0 : Fin 3)).val = ((j (0 : Fin 5)).val * 2 + (1 - (j (2 : Fin 5)).val)) * 4 + (j (1 : Fin 5)).val →
      (k (1 : Fin 3)).val = (j (2 : Fin 5)).val * 3456 + (j (3 : Fin 5)).val → (k (2 : Fin 3)).val = (j (4 : Fin 5)).val → v j = w k)
    (h6 : (⟨5, ![4, 4, 2, 3456, 1024]⟩ : Shape).ShapeCasts ⟨3, ![16, 6912, 1024]⟩) (c : Dev nD) :
    result m c = Layout.blockN ⟨3, ![4, 3456, 1024]⟩ ⟨3, ![16, 6912, 1024]⟩ (Layout.meshBlock [2, 2, 2] ![[0, 1], [2], []] c) (shapeCast ⟨3, ![16, 6912, 1024]⟩ v h6) := by
  funext j
  unfold result
  rw [h]
  have hc : c.val < 8 := c.isLt
  have hs := sib_val c
  have e0 := chip_block c
  have e1 := core_block c
  have e2 := no_block c
  refine ((shapeCast_apply v h6 _ (k := fun
    | 0 => (⟨c.val / 2, by omega⟩ : Fin 4) | 1 => j (0 : Fin 3) | 2 => (⟨c.val % 2, by omega⟩ : Fin 2) | 3 => j (1 : Fin 3) | 4 => j (2 : Fin 3)) ?_).trans (hv _ _ ?_ ?_ ?_)).symm
  · rw [Shape.rowMajor_val_five, Shape.rowMajor_val_three]
    show (((c.val / 2 * 4 + (j (0 : Fin 3)).val) * 2 + c.val % 2) * 3456 + (j (1 : Fin 3)).val) * 1024 + (j (2 : Fin 3)).val
      = ((Layout.meshLin [2, 2, 2] c.val [0, 1] * 4 + (j (0 : Fin 3)).val) * 6912 + (Layout.meshLin [2, 2, 2] c.val [2] * 3456 + (j (1 : Fin 3)).val)) * 1024
        + (Layout.meshLin [2, 2, 2] c.val [] * 1024 + (j (2 : Fin 3)).val)
    rw [e0, e1, e2]
    omega
  · show (sib c).val * 4 + (j (0 : Fin 3)).val = (c.val / 2 * 2 + (1 - c.val % 2)) * 4 + (j (0 : Fin 3)).val
    rw [hs, Nat.mul_comm 2]
  · show 3456 * (c.val % 2) + (j (1 : Fin 3)).val = c.val % 2 * 3456 + (j (1 : Fin 3)).val
    rw [Nat.mul_comm]
  · rfl

/-- The kernel and its reference, over any values. -/
theorem agrees (m' : (ℓ : Loc Cert.ReduceSiblingReferenceIdeal.nD Cert.ReduceSiblingReferenceIdeal.τ Cert.ReduceSiblingReferenceIdeal.sig) → Buf (Elt F) ℓ)
    (ρ' : Dev Cert.ReduceSiblingReferenceIdeal.nD → PrngReg)
    (h : ∀ c : Dev nD, m ((c.tc : Thread nD τ).loc main_arg0) = Layout.block ⟨3, ![4, 6912, 1024]⟩ ⟨3, ![32, 6912, 1024]⟩ 0 8 c
      (m' (((0 : Dev Cert.ReduceSiblingReferenceIdeal.nD).tc : Thread _ Cert.ReduceSiblingReferenceIdeal.τ).loc Cert.ReduceSiblingReferenceIdeal.main_arg0))) :
    ∃ v : Buf (Elt F) (((0 : Dev Cert.ReduceSiblingReferenceIdeal.nD).tc : Thread _ Cert.ReduceSiblingReferenceIdeal.τ).loc Cert.ReduceSiblingReferenceIdeal.main_v8),
      θ_run defs (onTc (τ := τ) (main (F := F))) ⟨m, fun _ => 0, ρ⟩ (fun r => ∀ c : Dev nD,
        r.2.mem ((c.tc : Thread nD τ).loc main_v1) = Layout.blockN ⟨3, ![4, 3456, 1024]⟩ ⟨3, ![16, 6912, 1024]⟩ (Layout.meshBlock [2, 2, 2] ![[0, 1], [2], []] c) v
        ∧ r.2.mem ((c.tc : Thread nD τ).loc main_arg0) = m ((c.tc : Thread nD τ).loc main_arg0))
      ∧ θ_run Cert.ReduceSiblingReferenceIdeal.defs (onTc (τ := Cert.ReduceSiblingReferenceIdeal.τ) (Cert.ReduceSiblingReferenceIdeal.main (F := F))) ⟨m', fun _ => 0, ρ'⟩ (fun r =>
        r.2.mem (((0 : Dev Cert.ReduceSiblingReferenceIdeal.nD).tc : Thread _ Cert.ReduceSiblingReferenceIdeal.τ).loc Cert.ReduceSiblingReferenceIdeal.main_v8) = v
        ∧ r.2.mem (((0 : Dev Cert.ReduceSiblingReferenceIdeal.nD).tc : Thread _ Cert.ReduceSiblingReferenceIdeal.τ).loc Cert.ReduceSiblingReferenceIdeal.main_arg0)
          = m' (((0 : Dev Cert.ReduceSiblingReferenceIdeal.nD).tc : Thread _ Cert.ReduceSiblingReferenceIdeal.τ).loc Cert.ReduceSiblingReferenceIdeal.main_arg0)) :=
  ⟨_, (θ_run _ _ _).mono (fun r hr c => ⟨(hr.1 c).2.trans (result_eq m _ h _ (fun j k => stacked _ _ _ _ _ _ _ j k) _ c), (hr.1 c).1⟩) (run_main m ρ),
    (θ_run _ _ _).mono (fun r hr => hr 0) (Cert.ReduceSiblingReferenceIdeal.Value.run m' ρ')⟩

end Cert.ReduceSiblingKernelIdeal

end
-- ==== Proof.ReduceChips.lean ====
/-
# Every chip gets the sums that are its own

A device holds a sum for every chip, of its core's half of the rows. It sends each peer the sum for the peer's chip, and keeps
its own: slot `i` of a result is the sum that the device of its core on chip `i` held for its chip.
-/
module

public import proofs.«01_k».proof.Proof.Moves
public import proofs.«01_k».proof.Proof.Mesh
public import proofs.«01_k».proof.Proof.Gen.ReduceChipsReferenceIdeal.Run
public import proofs.«01_k».proof.Proof.Gen.ReduceChipsKernelIdeal.Launch
public import proofs.«01_k».proof.Proof.Gen.ReduceChipsKernelIdeal.Skeleton
public import proofs.«01_k».proof.Proof.Gen.ReduceChipsKernelIdeal.Points

@[expose] public section

noncomputable section

namespace Cert.ReduceChipsKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.ReduceChipsKernelIdeal.Gen

variable {F : FTy → Type} [FloatOps F]

theorem dev1 (d : Dev nD) : (⟨k0_dev1 d, k0_dev1_lt d⟩ : Dev nD) = peer 0 d := by revert d; decide +kernel

theorem dev2 (d : Dev nD) : (⟨k0_dev2 d, k0_dev2_lt d⟩ : Dev nD) = peer 1 d := by revert d; decide +kernel

theorem dev3 (d : Dev nD) : (⟨k0_dev3 d, k0_dev3_lt d⟩ : Dev nD) = peer 2 d := by revert d; decide +kernel

theorem own (d : Dev nD) : k0_off1 d = ![d.val / 2, 0, 0] := by revert d; decide +kernel

/-- The semaphores of the three sends, or of the three receipts. -/
@[reducible] def sems (s : DmaSems sig S3) : Fin 3 → DmaSem sig
  | 0 => ((s.slice (Rect.unit (s := S3) ![0] S1.size inb_S3_S1_0)).squeeze S_ squeezes_S1_S_).sem
  | 1 => ((s.slice (Rect.unit (s := S3) ![1] S1.size inb_S3_S1_1)).squeeze S_ squeezes_S1_S_).sem
  | 2 => ((s.slice (Rect.unit (s := S3) ![2] S1.size inb_S3_S1_2)).squeeze S_ squeezes_S1_S_).sem

/-- The slot, in a result array, of the chip of a device. -/
def slot (d : Dev nD) : Finset main_v1.ty.Idx := Finset.univ.filter fun j => (j (0 : Fin 3)).val = d.val / 2

/-- It as the kernel addresses it. -/
abbrev slotRef (d : Dev nD) : Memref sig .tc .hbm S3456x1024 .bf16 :=
  ((Memref.whole main_v1).slice (Rect.unit (s := S4x3456x1024) (k0_off1 d) S1x3456x1024.size (k0_off1_inb d)) (fun _ => rfl)).squeeze S3456x1024 squeezes_S1x3456x1024_S3456x1024

theorem slot_set (d : Dev nD) : (slotRef d).view.set = slot d := by
  refine (View.set_reshape _ _).trans ((View.set_slice_whole _ _).trans (Finset.ext fun j => ?_))
  rw [Rect.mem_set_unit, own, slot, Finset.mem_filter]
  refine ⟨fun h => ⟨Finset.mem_univ _, ?_⟩, fun h a => ?_⟩
  · have h0 : d.val / 2 ≤ (j (0 : Fin 3)).val ∧ (j (0 : Fin 3)).val < d.val / 2 + 1 := h 0
    omega
  · have h1 := (j (1 : Fin 3)).isLt
    have h2 := (j (2 : Fin 3)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩

theorem slot_emb (d : Dev nD) (i : S3456x1024.Idx) :
    ((slotRef d).view.emb i (0 : Fin 3)).val = d.val / 2 ∧ (fun a : Fin 2 => (slotRef d).view.emb i a.succ) = i := by
  have e (a : Fin 3) : ((slotRef d).view.emb i a).val = (![d.val / 2, 0, 0] : Fin 3 → ℕ) a + 1 * (Shape.reshapeEquiv squeezes_S1x3456x1024_S3456x1024.numel_eq i a).val := by
    rw [← own]; rfl
  have r := Shape.reshapeEquiv_cons_one (d := S3456x1024.size) squeezes_S1x3456x1024_S3456x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)

/-- The offsets of the slot that a copy reads: that of the chip it goes to. -/
@[reducible] def off : Fin 3 ⊕ Unit → Dev nD → Fin 3 → ℕ
  | .inl 0, d => k0_off2 d
  | .inl 1, d => k0_off3 d
  | .inl 2, d => k0_off4 d
  | .inr _, d => k0_off1 d

theorem off_inb : ∀ (k : Fin 3 ⊕ Unit) (d : Dev nD), ∀ a, off k d a + S1x3456x1024.size a ≤ S4x3456x1024.size a
  | .inl 0, d => k0_off2_inb d
  | .inl 1, d => k0_off3_inb d
  | .inl 2, d => k0_off4_inb d
  | .inr _, d => k0_off1_inb d

theorem off_eq (k : Fin 3 ⊕ Unit) (d : Dev nD) : off k d = ![(reach k d).val / 2, 0, 0] := by revert k d; decide +kernel

/-- What a device's copies read. -/
abbrev inp (k : Fin 3 ⊕ Unit) (d : Dev nD) : Memref sig .tc .hbm S3456x1024 .bf16 :=
  ((Memref.whole main_arg0).slice (Rect.unit (s := S4x3456x1024) (off k d) S1x3456x1024.size (off_inb k d)) (fun _ => rfl)).squeeze S3456x1024 squeezes_S1x3456x1024_S3456x1024

/-- Where, in the array of the sender, the element is that comes to `i` of a slot on device `n`. -/
def place (n : Dev nD) (i : S3456x1024.Idx) : main_arg0.ty.Idx := fun
  | 0 => (⟨n.val / 2, by have h : n.val < 8 := n.isLt; omega⟩ : Fin 4)
  | 1 => i (0 : Fin 2)
  | 2 => i (1 : Fin 2)

theorem inp_emb (k : Fin 3 ⊕ Unit) (d : Dev nD) (i : S3456x1024.Idx) : (inp k d).view.emb i = place (reach k d) i := by
  have e (a : Fin 3) : ((inp k d).view.emb i a).val = (![(reach k d).val / 2, 0, 0] : Fin 3 → ℕ) a + 1 * (Shape.reshapeEquiv squeezes_S1x3456x1024_S3456x1024.numel_eq i a).val := by
    rw [← off_eq]; rfl
  have r := Shape.reshapeEquiv_cons_one (d := S3456x1024.size) squeezes_S1x3456x1024_S3456x1024.numel_eq i
  refine funext fun a => Fin.ext ?_
  rw [e, r]
  match a with
  | 0 => rfl
  | 1 => exact (Nat.zero_add _).trans (Nat.one_mul _)
  | 2 => exact (Nat.zero_add _).trans (Nat.one_mul _)

variable (m : (ℓ : Loc nD τ sig) → Buf (Elt F) ℓ) (ρ : Dev nD → PrngReg)

/-- The device whose copy fills slot `i`. -/
def sender (c : Dev nD) (i : Fin 4) : Dev nD := onChip c i

theorem sender_reach (k : Fin 3 ⊕ Unit) (d : Dev nD) (h : d.val / 2 < 4) : sender (reach k d) ⟨d.val / 2, h⟩ = d := onChip_reach k d

/-- What a device's result array holds at the end: in slot `i` the sum that chip `i` made for it. -/
def result (c : Dev nD) : Buf (Elt F) ((c.tc : Thread nD τ).loc main_v1) :=
  fun j => m (((sender c (j (0 : Fin 3))).tc : Thread nD τ).loc main_arg0) (place c fun a : Fin 2 => j a.succ)

/-- The copies. -/
def moves : Moves nD τ sig (Elt F) (Fin 3) Unit where
  a := main_arg0
  o := main_v1
  cell | .inl r => .dma (sems cc0_scratch0 r) | .inr (.inl r) => .dma (sems cc0_scratch1 r) | .inr (.inr _) => .dma cc0_scratch2.sem
  cell_inj := by decide
  amt := RefSig.tileCredit S3456x1024 .bf16
  amt_pos := RefSig.tileCredit_pos _ _ (by decide)
  dest r := peer r
  m := m
  rd k c := (inp k c).view.set
  wr k c := slot (reach k c)
  fin := result m

theorem cuts : (moves m).Cuts where
  disj c k k' hk := Finset.disjoint_left.mpr fun j h1 h2 =>
    reach_ne c k k' hk ((Finset.mem_filter.mp h1).2.symm.trans (Finset.mem_filter.mp h2).2)
  cover c := by
    refine Finset.eq_univ_of_forall fun j => Finset.mem_biUnion.mpr ?_
    obtain ⟨k, hk⟩ := reach_all c (j (0 : Fin 3))
    exact ⟨k, Finset.mem_univ _, Finset.mem_filter.mpr ⟨Finset.mem_univ _, hk.symm⟩⟩

/-- What copy `k` from device `d` leaves where it goes. -/
theorem landed (k : Fin 3 ⊕ Unit) (d n : Dev nD) (hn : n = reach k d) (fd : Buf (Elt F) ((slotRef d).view.loc (n.tc : Thread nD τ))) :
    ∀ j ∈ (slotRef d).view.set,
      (slotRef d).view.write (Elt F) fd ((inp k d).view.read (Elt F) (m ((d.tc : Thread nD τ).loc main_arg0))) Finset.univ j = result m n j := by
  subst hn
  refine write_is _ _ _ _ fun i => ?_
  obtain ⟨h0, h1⟩ := slot_emb d i
  have hk : ((slotRef d).view.emb i (0 : Fin 3)) = (⟨d.val / 2, by have h : d.val < 8 := d.isLt; omega⟩ : Fin 4) := Fin.ext h0
  unfold result
  rw [hk, h1, sender_reach, ← inp_emb]
  rfl

theorem slot_reach (k : Fin 3 ⊕ Unit) (c n : Dev nD) (hn : n = reach k c) : slot (reach k n) = slot c := by
  subst hn; rw [reach_reach]

/-- Every part that a copy moves is of one size. -/
theorem credit_slot (off : Fin 3 → ℕ) (h : ∀ a, off a + S1x3456x1024.size a ≤ S4x3456x1024.size a) :
    (((Memref.whole main_v1).slice (Rect.unit (s := S4x3456x1024) off S1x3456x1024.size h) (fun _ => rfl)).squeeze S3456x1024 squeezes_S1x3456x1024_S3456x1024).view.dmaCredit = (moves m).plan.amt := rfl

theorem credit_write (d : Dev nD) (sm : DmaSem sig) : (slotRef d).view.amount (.dma sm) = (moves m).plan.amt := rfl

theorem credit_inp (k : Fin 3 ⊕ Unit) (d : Dev nD) : (inp k d).view.dmaCredit = (moves m).plan.amt := rfl

theorem read_here (c : Dev nD) : (moves m).plan.srcL () c
    = ((inp (.inr ()) c).view.loc (c.tc : Thread nD τ) ↦[(inp (.inr ()) c).view.set]{Moves.share (R := Fin 3) (L := Unit) (.inr ())} m ((c.tc : Thread nD τ).loc main_arg0)) := rfl

theorem read_there (r : Fin 3) (c : Dev nD) : (moves m).plan.srcR r c
    = ((inp (.inl r) c).view.loc (c.tc : Thread nD τ) ↦[(inp (.inl r) c).view.set]{Moves.share (R := Fin 3) (L := Unit) (.inl r)} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (r : Fin 3) (c n : Dev nD) (hn : n = peer r c) : (moves m).plan.slotR r n
    = ((slotRef c).view.loc (n.tc : Thread nD τ) ↦[(slotRef c).view.set]{fullShare} m ((n.tc : Thread nD τ).loc main_v1)) :=
  pts_set ((slot_reach (.inl r) c n hn).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((inp (.inr ()) c).view.read (Elt F) (m ((c.tc : Thread nD τ).loc main_arg0))) Finset.univ)
      ⊢ (moves m).plan.landL () c :=
  pts_land (slot_set c) (landed m (.inr ()) c c rfl fd)

theorem land_there (r : Fin 3) (c n : Dev nD) (hn : n = peer r c) (fd : Buf (Elt F) ((slotRef c).view.loc (n.tc : Thread nD τ))) :
    ((slotRef c).view.loc (n.tc : Thread nD τ) ↦[(slotRef c).view.set]{fullShare}
        (slotRef c).view.write (Elt F) fd ((inp (.inl r) c).view.read (Elt F) (m ((c.tc : Thread nD τ).loc main_arg0))) Finset.univ)
      ⊢ (moves m).plan.landR r n :=
  pts_land ((slot_set c).trans (slot_reach (.inl r) c n hn).symm) (landed m (.inl r) c n hn fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_reduce_chips_eq_skeleton]
  unfold cc0_reduce_chips_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro HR
  iapply (Plan.start_local (moves m).plan defs₀ Variants.none c () (Finset.mem_univ _) (by decide) rfl (credit_write m c _) (read_here m c) (slot_here m c)
    (land_here m c _)) $$ HR
  iintro HR
  iapply (Plan.start_remote (moves m).plan defs₀ Variants.none c _ 0 (dev1 c) (by decide) (by decide) rfl rfl (credit_write m c _) (read_there m 0 c)
    (slot_there m 0 c _ (dev1 c)) (land_there m 0 c _ (dev1 c) _)) $$ HR
  iintro HR
  iapply (Plan.start_remote (moves m).plan defs₀ Variants.none c _ 1 (dev2 c) (by decide) (by decide) rfl rfl (credit_write m c _) (read_there m 1 c)
    (slot_there m 1 c _ (dev2 c)) (land_there m 1 c _ (dev2 c) _)) $$ HR
  iintro HR
  iapply (Plan.start_remote (moves m).plan defs₀ Variants.none c _ 2 (dev3 c) (by decide) (by decide) rfl rfl (credit_write m c _) (read_there m 2 c)
    (slot_there m 2 c _ (dev3 c)) (land_there m 2 c _ (dev3 c) _)) $$ HR
  iintro HR
  iapply (Plan.await (moves m).plan defs₀ Variants.none c (.inr (.inl 0)) (by decide) (by decide) (by decide) (by decide) rfl (credit_slot m _ _)) $$ HR
  iintro HR
  iapply (Plan.await (moves m).plan defs₀ Variants.none c (.inr (.inl 1)) (by decide) (by decide) (by decide) (by decide) rfl (credit_slot m _ _)) $$ HR
  iintro HR
  iapply (Plan.await (moves m).plan defs₀ Variants.none c (.inr (.inl 2)) (by decide) (by decide) (by decide) (by decide) rfl (credit_slot m _ _)) $$ HR
  iintro HR
  iapply (Plan.await (moves m).plan defs₀ Variants.none c (.inl 0) (by decide) (by decide) (by decide) (by decide) rfl (credit_inp m (.inl 0) c)) $$ HR
  iintro HR
  iapply (Plan.await (moves m).plan defs₀ Variants.none c (.inl 1) (by decide) (by decide) (by decide) (by decide) rfl (credit_inp m (.inl 1) c)) $$ HR
  iintro HR
  iapply (Plan.await (moves m).plan defs₀ Variants.none c (.inl 2) (by decide) (by decide) (by decide) (by decide) rfl (credit_inp m (.inl 2) c)) $$ HR
  iintro HR
  iapply (Plan.await (moves m).plan defs₀ Variants.none c (.inr (.inr ())) (by decide) (by decide) (by decide) (by decide) rfl (credit_slot m _ _)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of sums that the devices hold, a device's result is its part of the sums with the chips' and the slots' axes exchanged. -/
theorem result_eq (w : (⟨3, ![16, 6912, 1024]⟩ : Shape).Idx → Elt F .bf16)
    (h : ∀ c : Dev nD, m ((c.tc : Thread nD τ).loc main_arg0)
      = Layout.blockN ⟨3, ![4, 3456, 1024]⟩ ⟨3, ![16, 6912, 1024]⟩ (Layout.meshBlock [2, 2, 2] ![[0, 1], [2], []] c) w)
    (h1 : (⟨3, ![16, 6912, 1024]⟩ : Shape).ShapeCasts ⟨4, ![4, 4, 6912, 1024]⟩)
    (h2 : (⟨4, ![4, 4, 6912, 1024]⟩ : Shape).Transposes [1, 0, 2, 3] ⟨4, ![4, 4, 6912, 1024]⟩)
    (h3 : (⟨4, ![4, 4, 6912, 1024]⟩ : Shape).ShapeCasts ⟨3, ![16, 6912, 1024]⟩) (c : Dev nD) :
    result m c = Layout.blockN ⟨3, ![4, 3456, 1024]⟩ ⟨3, ![16, 6912, 1024]⟩ (Layout.meshBlock [2, 2, 2] ![[0, 1], [2], []] c)
      (shapeCast ⟨3, ![16, 6912, 1024]⟩ (transpose ⟨4, ![4, 4, 6912, 1024]⟩ [1, 0, 2, 3] (shapeCast ⟨4, ![4, 4, 6912, 1024]⟩ w h1) h2) h3) := by
  funext j
  unfold result
  rw [h]
  have hc : c.val < 8 := c.isLt
  have b0 : (j (0 : Fin 3)).val < 4 := (j (0 : Fin 3)).isLt
  have b1 : (j (1 : Fin 3)).val < 3456 := (j (1 : Fin 3)).isLt
  have e0 := chip_block c
  have e1 := core_block c
  have e2 := no_block c
  have f0 : Layout.meshLin [2, 2, 2] (onChip c (j (0 : Fin 3))).val [0, 1] = (j (0 : Fin 3)).val := by
    rw [chip_block]
    show (2 * (j (0 : Fin 3)).val + c.val % 2) / 2 = _
    omega
  have f1 : Layout.meshLin [2, 2, 2] (onChip c (j (0 : Fin 3))).val [2] = c.val % 2 := by
    rw [core_block]
    show (2 * (j (0 : Fin 3)).val + c.val % 2) % 2 = _
    omega
  have f2 := no_block (onChip c (j (0 : Fin 3)))
  refine ((shapeCast_apply _ h3 _ (k := fun
    | 0 => (⟨c.val / 2, by omega⟩ : Fin 4) | 1 => j (0 : Fin 3) | 2 => (⟨3456 * (c.val % 2) + (j (1 : Fin 3)).val, by omega⟩ : Fin 6912) | 3 => j (2 : Fin 3)) ?_).trans ?_).symm
  · rw [Shape.rowMajor_val_four, Shape.rowMajor_val_three]
    show ((c.val / 2 * 4 + (j (0 : Fin 3)).val) * 6912 + (3456 * (c.val % 2) + (j (1 : Fin 3)).val)) * 1024 + (j (2 : Fin 3)).val
      = ((Layout.meshLin [2, 2, 2] c.val [0, 1] * 4 + (j (0 : Fin 3)).val) * 6912 + (Layout.meshLin [2, 2, 2] c.val [2] * 3456 + (j (1 : Fin 3)).val)) * 1024
        + (Layout.meshLin [2, 2, 2] c.val [] * 1024 + (j (2 : Fin 3)).val)
    rw [e0, e1, e2]
    omega
  refine (transpose_apply [1, 0, 2, 3] _ h2 _ (k := fun
    | 0 => j (0 : Fin 3) | 1 => (⟨c.val / 2, by omega⟩ : Fin 4) | 2 => (⟨3456 * (c.val % 2) + (j (1 : Fin 3)).val, by omega⟩ : Fin 6912) | 3 => j (2 : Fin 3)) ?_).trans ?_
  · intro b
    match b with
    | 0 => rfl
    | 1 => rfl
    | 2 => rfl
    | 3 => rfl
  refine shapeCast_apply w h1 _ _ ?_
  rw [Shape.rowMajor_val_four, Shape.rowMajor_val_three]
  show ((Layout.meshLin [2, 2, 2] (onChip c (j (0 : Fin 3))).val [0, 1] * 4 + c.val / 2) * 6912
      + (Layout.meshLin [2, 2, 2] (onChip c (j (0 : Fin 3))).val [2] * 3456 + (j (1 : Fin 3)).val)) * 1024
      + (Layout.meshLin [2, 2, 2] (onChip c (j (0 : Fin 3))).val [] * 1024 + (j (2 : Fin 3)).val)
    = (((j (0 : Fin 3)).val * 4 + c.val / 2) * 6912 + (3456 * (c.val % 2) + (j (1 : Fin 3)).val)) * 1024 + (j (2 : Fin 3)).val
  rw [f0, f1, f2]
  omega

/-- The kernel and its reference, over any values. -/
theorem agrees (m' : (ℓ : Loc Cert.ReduceChipsReferenceIdeal.nD Cert.ReduceChipsReferenceIdeal.τ Cert.ReduceChipsReferenceIdeal.sig) → Buf (Elt F) ℓ)
    (ρ' : Dev Cert.ReduceChipsReferenceIdeal.nD → PrngReg)
    (h : ∀ c : Dev nD, m ((c.tc : Thread nD τ).loc main_arg0) = Layout.blockN ⟨3, ![4, 3456, 1024]⟩ ⟨3, ![16, 6912, 1024]⟩ (Layout.meshBlock [2, 2, 2] ![[0, 1], [2], []] c)
      (m' (((0 : Dev Cert.ReduceChipsReferenceIdeal.nD).tc : Thread _ Cert.ReduceChipsReferenceIdeal.τ).loc Cert.ReduceChipsReferenceIdeal.main_arg0))) :
    ∃ v : Buf (Elt F) (((0 : Dev Cert.ReduceChipsReferenceIdeal.nD).tc : Thread _ Cert.ReduceChipsReferenceIdeal.τ).loc Cert.ReduceChipsReferenceIdeal.main_v2),
      θ_run defs (onTc (τ := τ) (main (F := F))) ⟨m, fun _ => 0, ρ⟩ (fun r => ∀ c : Dev nD,
        r.2.mem ((c.tc : Thread nD τ).loc main_v1) = Layout.blockN ⟨3, ![4, 3456, 1024]⟩ ⟨3, ![16, 6912, 1024]⟩ (Layout.meshBlock [2, 2, 2] ![[0, 1], [2], []] c) v
        ∧ r.2.mem ((c.tc : Thread nD τ).loc main_arg0) = m ((c.tc : Thread nD τ).loc main_arg0))
      ∧ θ_run Cert.ReduceChipsReferenceIdeal.defs (onTc (τ := Cert.ReduceChipsReferenceIdeal.τ) (Cert.ReduceChipsReferenceIdeal.main (F := F))) ⟨m', fun _ => 0, ρ'⟩ (fun r =>
        r.2.mem (((0 : Dev Cert.ReduceChipsReferenceIdeal.nD).tc : Thread _ Cert.ReduceChipsReferenceIdeal.τ).loc Cert.ReduceChipsReferenceIdeal.main_v2) = v
        ∧ r.2.mem (((0 : Dev Cert.ReduceChipsReferenceIdeal.nD).tc : Thread _ Cert.ReduceChipsReferenceIdeal.τ).loc Cert.ReduceChipsReferenceIdeal.main_arg0)
          = m' (((0 : Dev Cert.ReduceChipsReferenceIdeal.nD).tc : Thread _ Cert.ReduceChipsReferenceIdeal.τ).loc Cert.ReduceChipsReferenceIdeal.main_arg0)) :=
  ⟨_, (θ_run _ _ _).mono (fun r hr c => ⟨(hr.1 c).2.trans (result_eq m _ h _ _ _ c), (hr.1 c).1⟩) (run_main m ρ),
    (θ_run _ _ _).mono (fun r hr => hr 0) (Cert.ReduceChipsReferenceIdeal.Value.run m' ρ')⟩

end Cert.ReduceChipsKernelIdeal

end
-- ==== Proof.SmallSibling.lean ====
/-
# The two devices of a chip share their rows

Each device writes its rows into its slot of both result arrays of its chip: its own, and its sibling's.
-/
module

public import proofs.«01_k».proof.Proof.Moves
public import proofs.«01_k».proof.Proof.Mesh
public import proofs.«01_k».proof.Proof.Gen.SmallSiblingReferenceIdeal.Run
public import proofs.«01_k».proof.Proof.Gen.SmallSiblingKernelIdeal.Launch
public import proofs.«01_k».proof.Proof.Gen.SmallSiblingKernelIdeal.Skeleton
public import proofs.«01_k».proof.Proof.Gen.SmallSiblingKernelIdeal.Points

@[expose] public section

noncomputable section

namespace Cert.SmallSiblingKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.SmallSiblingKernelIdeal.Gen

variable {F : FTy → Type} [FloatOps F]

/-- The sibling. -/
def sib : Dev nD ≃ Dev nD where
  toFun d := ⟨k0_dev1 d, k0_dev1_lt d⟩
  invFun d := ⟨k0_dev1 d, k0_dev1_lt d⟩
  left_inv := by decide +kernel
  right_inv := by decide +kernel

/-- The device `k` of the chip of `c`. -/
def mate (c : Dev nD) (k : Fin 2) : Dev nD := ⟨2 * (c.val / 2) + k.val, by have h : c.val < 8 := c.isLt; show _ < 8; omega⟩

theorem mate_self (c : Dev nD) : mate c ⟨c.val % 2, by omega⟩ = c := Fin.ext (show 2 * (c.val / 2) + c.val % 2 = c.val by omega)

theorem sib_mod (c : Dev nD) : (sib c).val % 2 = 1 - c.val % 2 := by revert c; decide +kernel

theorem mate_sib (c : Dev nD) : mate (sib c) ⟨c.val % 2, by omega⟩ = c := by revert c; decide +kernel

/-- The slot of a device in a result array. -/
def slot (d : Dev nD) : Finset main_v1.ty.Idx := Finset.univ.filter fun j => (j (0 : Fin 3)).val = d.val % 2

/-- It as the kernel addresses it. -/
abbrev slotRef (d : Dev nD) : Memref sig .tc .hbm S96x1024 .f32 :=
  ((Memref.whole main_v1).slice (Rect.unit (s := S2x96x1024) (k0_off1 d) S1x96x1024.size (k0_off1_inb d)) (fun _ => rfl)).squeeze S96x1024 squeezes_S1x96x1024_S96x1024

theorem slot_set (d : Dev nD) : (slotRef d).view.set = slot d := by
  refine (View.set_reshape _ _).trans ((View.set_slice_whole _ _).trans (Finset.ext fun j => ?_))
  rw [Rect.mem_set_unit, k0_off1_eq, slot, Finset.mem_filter]
  refine ⟨fun h => ⟨Finset.mem_univ _, ?_⟩, fun h a => ?_⟩
  · have h0 : d.val % 2 ≤ (j (0 : Fin 3)).val ∧ (j (0 : Fin 3)).val < d.val % 2 + 1 := h 0
    omega
  · have h1 := (j (1 : Fin 3)).isLt
    have h2 := (j (2 : Fin 3)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩

theorem slot_emb (d : Dev nD) (i : S96x1024.Idx) :
    ((slotRef d).view.emb i (0 : Fin 3)).val = d.val % 2 ∧ (fun a : Fin 2 => (slotRef d).view.emb i a.succ) = i := by
  have e (a : Fin 3) : ((slotRef d).view.emb i a).val = (![d.val % 2, 0, 0] : Fin 3 → ℕ) a + 1 * (Shape.reshapeEquiv squeezes_S1x96x1024_S96x1024.numel_eq i a).val := by
    rw [← k0_off1_eq]; rfl
  have r := Shape.reshapeEquiv_cons_one (d := S96x1024.size) squeezes_S1x96x1024_S96x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)

variable (m : (ℓ : Loc nD τ sig) → Buf (Elt F) ℓ) (ρ : Dev nD → PrngReg)

/-- What a device's result array holds at the end: in slot `k` the rows of device `k` of its chip. -/
def result (c : Dev nD) : Buf (Elt F) ((c.tc : Thread nD τ).loc main_v1) :=
  fun j => m (((mate c (j (0 : Fin 3))).tc : Thread nD τ).loc main_arg0) (fun a : Fin 2 => j a.succ)

/-- The copies. -/
def moves : Moves nD τ sig (Elt F) Unit Unit where
  a := main_arg0
  o := main_v1
  cell | .inl _ => .dma cc0_scratch0.sem | .inr (.inl _) => .dma cc0_scratch1.sem | .inr (.inr _) => .dma cc0_scratch2.sem
  cell_inj := by decide
  amt := RefSig.tileCredit S96x1024 .f32
  amt_pos := RefSig.tileCredit_pos _ _ (by decide)
  dest _ := sib
  m := m
  rd _ c := (Memref.whole main_arg0).view.set
  wr | .inl _, c => slot (sib c) | .inr _, c => slot c
  fin := result m

theorem cuts : (moves m).Cuts where
  disj := by
    have h (c : Dev nD) : Disjoint (slot (sib c)) (slot c) := Finset.disjoint_left.mpr fun j h1 h2 => by
      have e1 := (Finset.mem_filter.mp h1).2
      have e2 := (Finset.mem_filter.mp h2).2
      have := sib_mod c
      omega
    rintro c (⟨⟩ | ⟨⟩) (⟨⟩ | ⟨⟩) hk
    · exact absurd rfl hk
    · exact h c
    · exact (h c).symm
    · exact absurd rfl hk
  cover c := by
    refine Finset.eq_univ_of_forall fun j => Finset.mem_biUnion.mpr ?_
    have hj : (j (0 : Fin 3)).val < 2 := (j (0 : Fin 3)).isLt
    have hc := sib_mod c
    by_cases h : (j (0 : Fin 3)).val = c.val % 2
    · exact ⟨.inr (), Finset.mem_univ _, Finset.mem_filter.mpr ⟨Finset.mem_univ _, h⟩⟩
    · exact ⟨.inl (), Finset.mem_univ _, Finset.mem_filter.mpr ⟨Finset.mem_univ _, by omega⟩⟩

/-- What a copy from device `d` leaves on device `n` of the same chip. -/
theorem landed (d n : Dev nD) (h : mate n ⟨d.val % 2, by omega⟩ = d) (fd : Buf (Elt F) ((slotRef d).view.loc (n.tc : Thread nD τ))) :
    ∀ j ∈ (slotRef d).view.set,
      (slotRef d).view.write (Elt F) fd ((Memref.whole main_arg0).view.read (Elt F) (m ((d.tc : Thread nD τ).loc main_arg0))) Finset.univ j = result m n j := by
  refine write_is _ _ _ _ fun i => ?_
  obtain ⟨h0, h1⟩ := slot_emb d i
  have hk : ((slotRef d).view.emb i (0 : Fin 3)) = (⟨d.val % 2, by omega⟩ : Fin 2) := Fin.ext h0
  unfold result
  rw [hk, h1, h]
  rfl

theorem credit_slot (d : Dev nD) (sm : DmaSem sig) : (slotRef d).view.amount (.dma sm) = (moves m).plan.amt := rfl

theorem credit_whole : (Memref.whole main_arg0).view.dmaCredit = (moves m).plan.amt := rfl

theorem read_here (c : Dev nD) : (moves m).plan.srcL () c
    = ((Memref.whole main_arg0).view.loc (c.tc : Thread nD τ) ↦[(Memref.whole main_arg0).view.set]{Moves.share (R := Unit) (L := Unit) (.inr ())} m ((c.tc : Thread nD τ).loc main_arg0)) := rfl

theorem read_there (c : Dev nD) : (moves m).plan.srcR () c
    = ((Memref.whole main_arg0).view.loc (c.tc : Thread nD τ) ↦[(Memref.whole main_arg0).view.set]{Moves.share (R := Unit) (L := Unit) (.inl ())} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (c : Dev nD) : (moves m).plan.slotR () (sib c)
    = ((slotRef c).view.loc ((sib c).tc : Thread nD τ) ↦[(slotRef c).view.set]{fullShare} m (((sib c).tc : Thread nD τ).loc main_v1)) :=
  pts_set ((congrArg slot (sib.left_inv c)).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((Memref.whole main_arg0).view.read (Elt F) (m ((c.tc : Thread nD τ).loc main_arg0))) Finset.univ)
      ⊢ (moves m).plan.landL () c :=
  pts_land (slot_set c) (landed m c c (mate_self c) fd)

theorem land_there (c : Dev nD) (fd : Buf (Elt F) ((slotRef c).view.loc ((sib c).tc : Thread nD τ))) :
    ((slotRef c).view.loc ((sib c).tc : Thread nD τ) ↦[(slotRef c).view.set]{fullShare}
        (slotRef c).view.write (Elt F) fd ((Memref.whole main_arg0).view.read (Elt F) (m ((c.tc : Thread nD τ).loc main_arg0))) Finset.univ)
      ⊢ (moves m).plan.landR () (sib c) :=
  pts_land ((slot_set c).trans (congrArg slot (sib.left_inv c)).symm) (landed m c (sib c) (mate_sib c) fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_small_sibling_eq_skeleton]
  unfold cc0_small_sibling_skel
  simp only [k0_part1_eq_skeleton]
  unfold k0_part1_skel
  simp only [Prog.lift, Prog.bind_op, Prog.bind_ret, Prog.pure_eq_ret, wp_deviceId]
  iintro HR
  iapply (Plan.start_local (moves m).plan defs₀ Variants.none c () (Finset.mem_univ _) (by decide) rfl (credit_slot m c _) (read_here m c) (slot_here m c)
    (land_here m c _)) $$ HR
  iintro HR
  iapply (Plan.start_remote (moves m).plan defs₀ Variants.none c (sib c) () rfl (Finset.mem_univ _) (by decide) rfl rfl (credit_slot m c _) (read_there m c) (slot_there m c)
    (land_there m c _)) $$ HR
  iintro HR
  iapply (Plan.await (moves m).plan defs₀ Variants.none c (.inl ()) (by decide) (by decide) (by decide) (by decide) rfl (credit_whole m)) $$ HR
  iintro HR
  iapply (Plan.await (moves m).plan defs₀ Variants.none c (.inr (.inl ())) (by decide) (by decide) (by decide) (by decide) rfl (credit_slot m c cc0_scratch1.sem)) $$ HR
  iintro HR
  iapply (Plan.await (moves m).plan defs₀ Variants.none c (.inr (.inr ())) (by decide) (by decide) (by decide) (by decide) rfl (credit_slot m c cc0_scratch2.sem)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of rows that the devices hold in order, a device's result is its chip's part. -/
theorem result_eq (w : (⟨2, ![768, 1024]⟩ : Shape).Idx → Elt F .f32)
    (h : ∀ c : Dev nD, m ((c.tc : Thread nD τ).loc main_arg0) = Layout.block ⟨2, ![96, 1024]⟩ ⟨2, ![768, 1024]⟩ 0 8 c w)
    (hs : (⟨2, ![768, 1024]⟩ : Shape).ShapeCasts ⟨3, ![8, 96, 1024]⟩) (c : Dev nD) :
    result m c = Layout.blockN ⟨3, ![2, 96, 1024]⟩ ⟨3, ![8, 96, 1024]⟩ (Layout.meshBlock [2, 2, 2] ![[0, 1], [], []] c) (shapeCast ⟨3, ![8, 96, 1024]⟩ w hs) := by
  funext j
  unfold result
  rw [h]
  refine (shapeCast_apply w hs _ _ ?_).symm
  rw [Shape.rowMajor_val_two, Shape.rowMajor_val_three]
  have e0 := chip_block c
  have e1 := no_block c
  show ((2 * (c.val / 2) + (j (0 : Fin 3)).val) * 96 + (j (1 : Fin 3)).val) * 1024 + (j (2 : Fin 3)).val
    = ((Layout.meshLin [2, 2, 2] c.val [0, 1] * 2 + (j (0 : Fin 3)).val) * 96 + (Layout.meshLin [2, 2, 2] c.val [] * 96 + (j (1 : Fin 3)).val)) * 1024
      + (Layout.meshLin [2, 2, 2] c.val [] * 1024 + (j (2 : Fin 3)).val)
  rw [e0, e1]
  omega

/-- The kernel and its reference, over any values. -/
theorem agrees (m' : (ℓ : Loc Cert.SmallSiblingReferenceIdeal.nD Cert.SmallSiblingReferenceIdeal.τ Cert.SmallSiblingReferenceIdeal.sig) → Buf (Elt F) ℓ)
    (ρ' : Dev Cert.SmallSiblingReferenceIdeal.nD → PrngReg)
    (h : ∀ c : Dev nD, m ((c.tc : Thread nD τ).loc main_arg0) = Layout.block ⟨2, ![96, 1024]⟩ ⟨2, ![768, 1024]⟩ 0 8 c
      (m' (((0 : Dev Cert.SmallSiblingReferenceIdeal.nD).tc : Thread _ Cert.SmallSiblingReferenceIdeal.τ).loc Cert.SmallSiblingReferenceIdeal.main_arg0))) :
    ∃ v : Buf (Elt F) (((0 : Dev Cert.SmallSiblingReferenceIdeal.nD).tc : Thread _ Cert.SmallSiblingReferenceIdeal.τ).loc Cert.SmallSiblingReferenceIdeal.main_v0),
      θ_run defs (onTc (τ := τ) (main (F := F))) ⟨m, fun _ => 0, ρ⟩ (fun r => ∀ c : Dev nD,
        r.2.mem ((c.tc : Thread nD τ).loc main_v1) = Layout.blockN ⟨3, ![2, 96, 1024]⟩ ⟨3, ![8, 96, 1024]⟩ (Layout.meshBlock [2, 2, 2] ![[0, 1], [], []] c) v
        ∧ r.2.mem ((c.tc : Thread nD τ).loc main_arg0) = m ((c.tc : Thread nD τ).loc main_arg0))
      ∧ θ_run Cert.SmallSiblingReferenceIdeal.defs (onTc (τ := Cert.SmallSiblingReferenceIdeal.τ) (Cert.SmallSiblingReferenceIdeal.main (F := F))) ⟨m', fun _ => 0, ρ'⟩ (fun r =>
        r.2.mem (((0 : Dev Cert.SmallSiblingReferenceIdeal.nD).tc : Thread _ Cert.SmallSiblingReferenceIdeal.τ).loc Cert.SmallSiblingReferenceIdeal.main_v0) = v
        ∧ r.2.mem (((0 : Dev Cert.SmallSiblingReferenceIdeal.nD).tc : Thread _ Cert.SmallSiblingReferenceIdeal.τ).loc Cert.SmallSiblingReferenceIdeal.main_arg0)
          = m' (((0 : Dev Cert.SmallSiblingReferenceIdeal.nD).tc : Thread _ Cert.SmallSiblingReferenceIdeal.τ).loc Cert.SmallSiblingReferenceIdeal.main_arg0)) :=
  ⟨_, (θ_run _ _ _).mono (fun r hr c => ⟨(hr.1 c).2.trans (result_eq m _ h _ c), (hr.1 c).1⟩) (run_main m ρ),
    (θ_run _ _ _).mono (fun r hr => hr 0) (Cert.SmallSiblingReferenceIdeal.Value.run m' ρ')⟩

end Cert.SmallSiblingKernelIdeal

end
-- ==== Proof.SmallChips.lean ====
/-
# Every chip's gradients for every device

A device sends its chip's arrays to its three peers, and keeps a copy: slot `i` of a result is what chip `i` holds.
-/
module

public import proofs.«01_k».proof.Proof.Moves
public import proofs.«01_k».proof.Proof.Mesh
public import proofs.«01_k».proof.Proof.Gen.SmallChipsReferenceIdeal.Run
public import proofs.«01_k».proof.Proof.Gen.SmallChipsKernelIdeal.Launch
public import proofs.«01_k».proof.Proof.Gen.SmallChipsKernelIdeal.Skeleton
public import proofs.«01_k».proof.Proof.Gen.SmallChipsKernelIdeal.Points

@[expose] public section

noncomputable section

namespace Cert.SmallChipsKernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.SmallChipsKernelIdeal.Gen

variable {F : FTy → Type} [FloatOps F]

theorem dev1 (d : Dev nD) : (⟨k0_dev1 d, k0_dev1_lt d⟩ : Dev nD) = peer 0 d := by revert d; decide +kernel

theorem dev2 (d : Dev nD) : (⟨k0_dev2 d, k0_dev2_lt d⟩ : Dev nD) = peer 1 d := by revert d; decide +kernel

theorem dev3 (d : Dev nD) : (⟨k0_dev3 d, k0_dev3_lt d⟩ : Dev nD) = peer 2 d := by revert d; decide +kernel

theorem own (d : Dev nD) : k0_off1 d = ![d.val / 2, 0, 0, 0] := by revert d; decide +kernel

/-- The semaphores of the three sends, or of the three receipts. -/
@[reducible] def sems (s : DmaSems sig S3) : Fin 3 → DmaSem sig
  | 0 => ((s.slice (Rect.unit (s := S3) ![0] S1.size inb_S3_S1_0)).squeeze S_ squeezes_S1_S_).sem
  | 1 => ((s.slice (Rect.unit (s := S3) ![1] S1.size inb_S3_S1_1)).squeeze S_ squeezes_S1_S_).sem
  | 2 => ((s.slice (Rect.unit (s := S3) ![2] S1.size inb_S3_S1_2)).squeeze S_ squeezes_S1_S_).sem

/-- The slot, in a result array, of the chip of a device. -/
def slot (d : Dev nD) : Finset main_v1.ty.Idx := Finset.univ.filter fun j => (j (0 : Fin 4)).val = d.val / 2

/-- It as the kernel addresses it. -/
abbrev slotRef (d : Dev nD) : Memref sig .tc .hbm S2x96x1024 .f32 :=
  ((Memref.whole main_v1).slice (Rect.unit (s := S4x2x96x1024) (k0_off1 d) S1x2x96x1024.size (k0_off1_inb d)) (fun _ => rfl)).squeeze S2x96x1024 squeezes_S1x2x96x1024_S2x96x1024

theorem slot_set (d : Dev nD) : (slotRef d).view.set = slot d := by
  refine (View.set_reshape _ _).trans ((View.set_slice_whole _ _).trans (Finset.ext fun j => ?_))
  rw [Rect.mem_set_unit, own, slot, Finset.mem_filter]
  refine ⟨fun h => ⟨Finset.mem_univ _, ?_⟩, fun h a => ?_⟩
  · have h0 : d.val / 2 ≤ (j (0 : Fin 4)).val ∧ (j (0 : Fin 4)).val < d.val / 2 + 1 := h 0
    omega
  · have h1 := (j (1 : Fin 4)).isLt
    have h2 := (j (2 : Fin 4)).isLt
    have h3 := (j (3 : Fin 4)).isLt
    match a with
    | 0 => exact ⟨h.2.symm.le, h.2.trans_lt (Nat.lt_succ_self _)⟩
    | 1 => exact ⟨Nat.zero_le _, (Nat.zero_add _).symm ▸ h1⟩
    | 2 => exact ⟨Nat.zero_le _, (Nat.zero_add _).symm ▸ h2⟩
    | 3 => exact ⟨Nat.zero_le _, (Nat.zero_add _).symm ▸ h3⟩

theorem slot_emb (d : Dev nD) (i : S2x96x1024.Idx) :
    ((slotRef d).view.emb i (0 : Fin 4)).val = d.val / 2 ∧ (fun a : Fin 3 => (slotRef d).view.emb i a.succ) = i := by
  have e (a : Fin 4) : ((slotRef d).view.emb i a).val = (![d.val / 2, 0, 0, 0] : Fin 4 → ℕ) a + 1 * (Shape.reshapeEquiv squeezes_S1x2x96x1024_S2x96x1024.numel_eq i a).val := by
    rw [← own]; rfl
  have r := Shape.reshapeEquiv_cons_one (d := S2x96x1024.size) squeezes_S1x2x96x1024_S2x96x1024.numel_eq i
  refine ⟨?_, funext fun a => Fin.ext ?_⟩
  · rw [e, r]; rfl
  · rw [e, r]
    match a with
    | 0 => exact (Nat.zero_add _).trans (Nat.one_mul _)
    | 1 => exact (Nat.zero_add _).trans (Nat.one_mul _)
    | 2 => exact (Nat.zero_add _).trans (Nat.one_mul _)

/-- What a device's copies read: the whole array. -/
abbrev inp (k : Fin 3 ⊕ Unit) (d : Dev nD) : Memref sig .tc .hbm S2x96x1024 .f32 := Memref.whole main_arg0

/-- Where, in the array of the sender, the element is that comes to `i` of a slot on device `n`. -/
def place (n : Dev nD) (i : S2x96x1024.Idx) : main_arg0.ty.Idx := i

theorem inp_emb (k : Fin 3 ⊕ Unit) (d : Dev nD) (i : S2x96x1024.Idx) : (inp k d).view.emb i = place (reach k d) i := rfl

variable (m : (ℓ : Loc nD τ sig) → Buf (Elt F) ℓ) (ρ : Dev nD → PrngReg)

/-- The device whose copy fills slot `i`. -/
def sender (c : Dev nD) (i : Fin 4) : Dev nD := onChip c i

theorem sender_reach (k : Fin 3 ⊕ Unit) (d : Dev nD) (h : d.val / 2 < 4) : sender (reach k d) ⟨d.val / 2, h⟩ = d := onChip_reach k d

/-- What a device's result array holds at the end: in slot `i` the array of chip `i`. -/
def result (c : Dev nD) : Buf (Elt F) ((c.tc : Thread nD τ).loc main_v1) :=
  fun j => m (((sender c (j (0 : Fin 4))).tc : Thread nD τ).loc main_arg0) (place c fun a : Fin 3 => j a.succ)

/-- The copies. -/
def moves : Moves nD τ sig (Elt F) (Fin 3) Unit where
  a := main_arg0
  o := main_v1
  cell | .inl r => .dma (sems cc0_scratch0 r) | .inr (.inl r) => .dma (sems cc0_scratch1 r) | .inr (.inr _) => .dma cc0_scratch2.sem
  cell_inj := by decide
  amt := RefSig.tileCredit S2x96x1024 .f32
  amt_pos := RefSig.tileCredit_pos _ _ (by decide)
  dest r := peer r
  m := m
  rd k c := (inp k c).view.set
  wr k c := slot (reach k c)
  fin := result m

theorem cuts : (moves m).Cuts where
  disj c k k' hk := Finset.disjoint_left.mpr fun j h1 h2 =>
    reach_ne c k k' hk ((Finset.mem_filter.mp h1).2.symm.trans (Finset.mem_filter.mp h2).2)
  cover c := by
    refine Finset.eq_univ_of_forall fun j => Finset.mem_biUnion.mpr ?_
    obtain ⟨k, hk⟩ := reach_all c (j (0 : Fin 4))
    exact ⟨k, Finset.mem_univ _, Finset.mem_filter.mpr ⟨Finset.mem_univ _, hk.symm⟩⟩

/-- What copy `k` from device `d` leaves where it goes. -/
theorem landed (k : Fin 3 ⊕ Unit) (d n : Dev nD) (hn : n = reach k d) (fd : Buf (Elt F) ((slotRef d).view.loc (n.tc : Thread nD τ))) :
    ∀ j ∈ (slotRef d).view.set,
      (slotRef d).view.write (Elt F) fd ((inp k d).view.read (Elt F) (m ((d.tc : Thread nD τ).loc main_arg0))) Finset.univ j = result m n j := by
  subst hn
  refine write_is _ _ _ _ fun i => ?_
  obtain ⟨h0, h1⟩ := slot_emb d i
  have hk : ((slotRef d).view.emb i (0 : Fin 4)) = (⟨d.val / 2, by have h : d.val < 8 := d.isLt; omega⟩ : Fin 4) := Fin.ext h0
  unfold result
  rw [hk, h1, sender_reach, ← inp_emb]
  rfl

theorem slot_reach (k : Fin 3 ⊕ Unit) (c n : Dev nD) (hn : n = reach k c) : slot (reach k n) = slot c := by
  subst hn; rw [reach_reach]

/-- Every part that a copy moves is of one size. -/
theorem credit_slot (off : Fin 4 → ℕ) (h : ∀ a, off a + S1x2x96x1024.size a ≤ S4x2x96x1024.size a) :
    (((Memref.whole main_v1).slice (Rect.unit (s := S4x2x96x1024) off S1x2x96x1024.size h) (fun _ => rfl)).squeeze S2x96x1024 squeezes_S1x2x96x1024_S2x96x1024).view.dmaCredit = (moves m).plan.amt := rfl

theorem credit_write (d : Dev nD) (sm : DmaSem sig) : (slotRef d).view.amount (.dma sm) = (moves m).plan.amt := rfl

theorem credit_inp (k : Fin 3 ⊕ Unit) (d : Dev nD) : (inp k d).view.dmaCredit = (moves m).plan.amt := rfl

theorem read_here (c : Dev nD) : (moves m).plan.srcL () c
    = ((inp (.inr ()) c).view.loc (c.tc : Thread nD τ) ↦[(inp (.inr ()) c).view.set]{Moves.share (R := Fin 3) (L := Unit) (.inr ())} m ((c.tc : Thread nD τ).loc main_arg0)) := rfl

theorem read_there (r : Fin 3) (c : Dev nD) : (moves m).plan.srcR r c
    = ((inp (.inl r) c).view.loc (c.tc : Thread nD τ) ↦[(inp (.inl r) c).view.set]{Moves.share (R := Fin 3) (L := Unit) (.inl r)} m ((c.tc : Thread nD τ).loc main_arg0)) := rfl

theorem slot_here (c : Dev nD) : (moves m).plan.slotL () c
    = ((slotRef c).view.loc (c.tc : Thread nD τ) ↦[(slotRef c).view.set]{fullShare} m ((c.tc : Thread nD τ).loc main_v1)) :=
  pts_set (slot_set c).symm _ _

theorem slot_there (r : Fin 3) (c n : Dev nD) (hn : n = peer r c) : (moves m).plan.slotR r n
    = ((slotRef c).view.loc (n.tc : Thread nD τ) ↦[(slotRef c).view.set]{fullShare} m ((n.tc : Thread nD τ).loc main_v1)) :=
  pts_set ((slot_reach (.inl r) c n hn).trans (slot_set c).symm) _ _

theorem land_here (c : Dev nD) (fd : Buf (Elt F) ((slotRef c).view.loc (c.tc : Thread nD τ))) :
    ((slotRef c).view.loc (c.tc : Thread nD τ) ↦[(slotRef c).view.set]{fullShare}
        (slotRef c).view.write (Elt F) fd ((inp (.inr ()) c).view.read (Elt F) (m ((c.tc : Thread nD τ).loc main_arg0))) Finset.univ)
      ⊢ (moves m).plan.landL () c :=
  pts_land (slot_set c) (landed m (.inr ()) c c rfl fd)

theorem land_there (r : Fin 3) (c n : Dev nD) (hn : n = peer r c) (fd : Buf (Elt F) ((slotRef c).view.loc (n.tc : Thread nD τ))) :
    ((slotRef c).view.loc (n.tc : Thread nD τ) ↦[(slotRef c).view.set]{fullShare}
        (slotRef c).view.write (Elt F) fd ((inp (.inl r) c).view.read (Elt F) (m ((c.tc : Thread nD τ).loc main_arg0))) Finset.univ)
      ⊢ (moves m).plan.landR r n :=
  pts_land ((slot_set c).trans (slot_reach (.inl r) c n hn).symm) (landed m (.inl r) c n hn fd)

/-- The kernel on device `c`. -/
theorem body (c : Dev nD) (t : Fin cfg0.N) :
    (moves m).plan.Run c Finset.univ Finset.univ Finset.univ Plan.arriving ∅
      ⊢ wp frame (wpE defs₀ Variants.none (c.tc : Thread nD τ) none) Set.univ (bodyAt0 (F := F) t) fun _ => (moves m).plan.Run c ∅ ∅ ∅ ∅ Finset.univ := by
  unfold bodyAt0
  simp only [cc0_small_chips_eq_skeleton]
  unfold cc0_small_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  iintro HR
  iapply (Plan.start_local (moves m).plan defs₀ Variants.none c () (Finset.mem_univ _) (by decide) rfl (credit_write m c _) (read_here m c) (slot_here m c)
    (land_here m c _)) $$ HR
  iintro HR
  iapply (Plan.start_remote (moves m).plan defs₀ Variants.none c _ 0 (dev1 c) (by decide) (by decide) rfl rfl (credit_write m c _) (read_there m 0 c)
    (slot_there m 0 c _ (dev1 c)) (land_there m 0 c _ (dev1 c) _)) $$ HR
  iintro HR
  iapply (Plan.start_remote (moves m).plan defs₀ Variants.none c _ 1 (dev2 c) (by decide) (by decide) rfl rfl (credit_write m c _) (read_there m 1 c)
    (slot_there m 1 c _ (dev2 c)) (land_there m 1 c _ (dev2 c) _)) $$ HR
  iintro HR
  iapply (Plan.start_remote (moves m).plan defs₀ Variants.none c _ 2 (dev3 c) (by decide) (by decide) rfl rfl (credit_write m c _) (read_there m 2 c)
    (slot_there m 2 c _ (dev3 c)) (land_there m 2 c _ (dev3 c) _)) $$ HR
  iintro HR
  iapply (Plan.await (moves m).plan defs₀ Variants.none c (.inr (.inl 0)) (by decide) (by decide) (by decide) (by decide) rfl (credit_slot m _ _)) $$ HR
  iintro HR
  iapply (Plan.await (moves m).plan defs₀ Variants.none c (.inr (.inl 1)) (by decide) (by decide) (by decide) (by decide) rfl (credit_slot m _ _)) $$ HR
  iintro HR
  iapply (Plan.await (moves m).plan defs₀ Variants.none c (.inr (.inl 2)) (by decide) (by decide) (by decide) (by decide) rfl (credit_slot m _ _)) $$ HR
  iintro HR
  iapply (Plan.await (moves m).plan defs₀ Variants.none c (.inl 0) (by decide) (by decide) (by decide) (by decide) rfl (credit_inp m (.inl 0) c)) $$ HR
  iintro HR
  iapply (Plan.await (moves m).plan defs₀ Variants.none c (.inl 1) (by decide) (by decide) (by decide) (by decide) rfl (credit_inp m (.inl 1) c)) $$ HR
  iintro HR
  iapply (Plan.await (moves m).plan defs₀ Variants.none c (.inl 2) (by decide) (by decide) (by decide) (by decide) rfl (credit_inp m (.inl 2) c)) $$ HR
  iintro HR
  iapply (Plan.await (moves m).plan defs₀ Variants.none c (.inr (.inr ())) (by decide) (by decide) (by decide) (by decide) rfl (credit_slot m _ _)) $$ HR
  rw [wp_ret]
  iintro HR
  imodintro
  iapply (Entails.of_eq (congr (congr (congr (congrArg ((moves m).plan.Run c ∅) (by decide)) (by decide)) (by decide)) (by decide))) $$ HR

/-- From the zero counters every fair execution ends, with `main_arg0` as it was, the result as said, and the counters at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_v1) = result m c)
      ∧ r.2.sem = fun _ => 0) :=
  (moves m).run cfgs cellOf_inj N_0 defs₀ Variants.none ρ main (fun _ => rfl) (by decide) (by decide) (show main_arg0 ≠ main_v1 by decide) (cuts m) (body m)

/-- Of an array cut along the chips, every device's result is the whole. -/
theorem result_eq (w : (⟨3, ![8, 96, 1024]⟩ : Shape).Idx → Elt F .f32)
    (h : ∀ c : Dev nD, m ((c.tc : Thread nD τ).loc main_arg0) = Layout.blockN ⟨3, ![2, 96, 1024]⟩ ⟨3, ![8, 96, 1024]⟩ (Layout.meshBlock [2, 2, 2] ![[0, 1], [], []] c) w)
    (hs : (⟨3, ![8, 96, 1024]⟩ : Shape).ShapeCasts ⟨4, ![4, 2, 96, 1024]⟩) (c : Dev nD) :
    result m c = shapeCast ⟨4, ![4, 2, 96, 1024]⟩ w hs := by
  funext j
  unfold result
  rw [h]
  refine (shapeCast_apply w hs _ _ ?_).symm
  rw [Shape.rowMajor_val_three, Shape.rowMajor_val_four]
  have b0 : (j (0 : Fin 4)).val < 4 := (j (0 : Fin 4)).isLt
  have e0 : Layout.meshLin [2, 2, 2] (onChip c (j (0 : Fin 4))).val [0, 1] = (j (0 : Fin 4)).val := by
    rw [chip_block]
    show (2 * (j (0 : Fin 4)).val + c.val % 2) / 2 = _
    omega
  have e1 := no_block (onChip c (j (0 : Fin 4)))
  show ((Layout.meshLin [2, 2, 2] (onChip c (j (0 : Fin 4))).val [0, 1] * 2 + (j (1 : Fin 4)).val) * 96 + (Layout.meshLin [2, 2, 2] (onChip c (j (0 : Fin 4))).val [] * 96 + (j (2 : Fin 4)).val)) * 1024 + (Layout.meshLin [2, 2, 2] (onChip c (j (0 : Fin 4))).val [] * 1024 + (j (3 : Fin 4)).val)
    = (((j (0 : Fin 4)).val * 2 + (j (1 : Fin 4)).val) * 96 + (j (2 : Fin 4)).val) * 1024 + (j (3 : Fin 4)).val
  rw [e0, e1]
  omega

/-- The kernel and its reference, over any values. -/
theorem agrees (m' : (ℓ : Loc Cert.SmallChipsReferenceIdeal.nD Cert.SmallChipsReferenceIdeal.τ Cert.SmallChipsReferenceIdeal.sig) → Buf (Elt F) ℓ)
    (ρ' : Dev Cert.SmallChipsReferenceIdeal.nD → PrngReg)
    (h : ∀ c : Dev nD, m ((c.tc : Thread nD τ).loc main_arg0) = Layout.blockN ⟨3, ![2, 96, 1024]⟩ ⟨3, ![8, 96, 1024]⟩ (Layout.meshBlock [2, 2, 2] ![[0, 1], [], []] c)
      (m' (((0 : Dev Cert.SmallChipsReferenceIdeal.nD).tc : Thread _ Cert.SmallChipsReferenceIdeal.τ).loc Cert.SmallChipsReferenceIdeal.main_arg0))) :
    ∃ v : Buf (Elt F) (((0 : Dev Cert.SmallChipsReferenceIdeal.nD).tc : Thread _ Cert.SmallChipsReferenceIdeal.τ).loc Cert.SmallChipsReferenceIdeal.main_v0),
      θ_run defs (onTc (τ := τ) (main (F := F))) ⟨m, fun _ => 0, ρ⟩ (fun r => ∀ c : Dev nD,
        r.2.mem ((c.tc : Thread nD τ).loc main_v1) = v
        ∧ r.2.mem ((c.tc : Thread nD τ).loc main_arg0) = m ((c.tc : Thread nD τ).loc main_arg0))
      ∧ θ_run Cert.SmallChipsReferenceIdeal.defs (onTc (τ := Cert.SmallChipsReferenceIdeal.τ) (Cert.SmallChipsReferenceIdeal.main (F := F))) ⟨m', fun _ => 0, ρ'⟩ (fun r =>
        r.2.mem (((0 : Dev Cert.SmallChipsReferenceIdeal.nD).tc : Thread _ Cert.SmallChipsReferenceIdeal.τ).loc Cert.SmallChipsReferenceIdeal.main_v0) = v
        ∧ r.2.mem (((0 : Dev Cert.SmallChipsReferenceIdeal.nD).tc : Thread _ Cert.SmallChipsReferenceIdeal.τ).loc Cert.SmallChipsReferenceIdeal.main_arg0)
          = m' (((0 : Dev Cert.SmallChipsReferenceIdeal.nD).tc : Thread _ Cert.SmallChipsReferenceIdeal.τ).loc Cert.SmallChipsReferenceIdeal.main_arg0)) :=
  ⟨_, (θ_run _ _ _).mono (fun r hr c => ⟨(hr.1 c).2.trans (result_eq m _ h _ c), (hr.1 c).1⟩) (run_main m ρ),
    (θ_run _ _ _).mono (fun r hr => hr 0) (Cert.SmallChipsReferenceIdeal.Value.run m' ρ')⟩

end Cert.SmallChipsKernelIdeal

end
-- ==== Proof.Adamw.lean ====
/-
# The AdamW update, blocked by rows, against the update of the whole array

The kernel takes a block of rows of the weights, the gradient and the two moments at a time. What it leaves is the update
written element by element, and so is what the reference leaves: over the reals the two are the same expression.
-/
module

public import proofs.«01_k».proof.Defs
public import proofs.«01_k».proof.Proof.Gen.AdamwShardedKernelIdeal.Value
public import proofs.«01_k».proof.Proof.Gen.AdamwShardedReferenceIdeal.Run
public import proofs.«01_k».proof.Proof.Gen.AdamwReplicatedKernelIdeal.Value
public import proofs.«01_k».proof.Proof.Gen.AdamwReplicatedReferenceIdeal.Run
public import Idealize.ShloMosaic.PureOps.Ideal

@[expose] public section

noncomputable section

namespace Cert.Adamw

open Idealize.ShloMosaic Idealize.ShloMosaic.TcCoe Idealize.SL.Sem

/-- The update of the shard of the weights: kernel and reference leave the same step, first moment and second moment. -/
theorem adamwSharded : Cert.algebraic_AdamwShardedKernelIdeal_AdamwShardedReferenceIdeal (hAdamwShardedKernelIdeal := Cert.AdamwShardedKernelIdeal.Gen.facts) (hAdamwShardedReferenceIdeal := Cert.AdamwShardedReferenceIdeal.Gen.facts) :=
  fun m g m' g' _ h => ⟨_, _, _, Cert.AdamwShardedKernelIdeal.Value.run m g, (θ_run Cert.AdamwShardedReferenceIdeal.defs _ _).mono (fun r e c => by
    obtain ⟨e0, e1, e2, e3⟩ := e c
    obtain ⟨h0, h1, h2, h3⟩ := h c
    refine ⟨e0.trans ?_, e1.trans ?_, e2.trans ?_, e3⟩
    · rw [h0, h1, h2, h3]; rfl
    · rw [h1, h2]; rfl
    · rw [h1, h3]; rfl) (Cert.AdamwShardedReferenceIdeal.Value.run m' g')⟩

/-- The update of the replicated weights: kernel and reference leave the same step, first moment and second moment. -/
theorem adamwReplicated : Cert.algebraic_AdamwReplicatedKernelIdeal_AdamwReplicatedReferenceIdeal (hAdamwReplicatedKernelIdeal := Cert.AdamwReplicatedKernelIdeal.Gen.facts) (hAdamwReplicatedReferenceIdeal := Cert.AdamwReplicatedReferenceIdeal.Gen.facts) :=
  fun m g m' g' _ h => ⟨_, _, _, Cert.AdamwReplicatedKernelIdeal.Value.run m g, (θ_run Cert.AdamwReplicatedReferenceIdeal.defs _ _).mono (fun r e c => by
    obtain ⟨e0, e1, e2, e3⟩ := e c
    obtain ⟨h0, h1, h2, h3⟩ := h c
    refine ⟨e0.trans ?_, e1.trans ?_, e2.trans ?_, e3⟩
    · rw [h0, h1, h2, h3]; rfl
    · rw [h1, h2]; rfl
    · rw [h1, h3]; rfl) (Cert.AdamwReplicatedReferenceIdeal.Value.run m' g')⟩

end Cert.Adamw

end
-- ==== Proof.Sums.lean ====
/-
# Sums of stacked partial sums, a block of rows at a time

A kernel that adds the slices of a stack one after the other, a block of rows at each point of its grid, leaves the sum over
the stacking axes.
-/
module

public import proofs.«01_k».proof.Defs
public import proofs.«01_k».proof.Proof.Gen.ReduceSumKernelIdeal.Value
public import proofs.«01_k».proof.Proof.Gen.ReduceSumReferenceIdeal.Run
public import proofs.«01_k».proof.Proof.Gen.SmallSumKernelIdeal.Value
public import proofs.«01_k».proof.Proof.Gen.SmallSumReferenceIdeal.Run
public import Idealize.ShloMosaic.Lib.Pipeline.ValueKit
public import Idealize.ShloMosaic.Lib.Pointwise

@[expose] public section

set_option maxRecDepth 16384

noncomputable section

namespace Cert.Sums

open Idealize.ShloMosaic Idealize.ShloMosaic.TcCoe Idealize.SL.Sem

namespace ReduceSum

open Cert.ReduceSumKernelIdeal Cert.ReduceSumKernelIdeal.Gen

variable (m : (ℓ : Loc nD τ sig) → Buf (Elt Ideal) ℓ)

/-- The sum over the four chips' slices. -/
def total (x : FVec Ideal S4x3456x1024 .bf16) : FVec Ideal S3456x1024 .f32 := fun i => ∑ k : Fin 4, x (ix3 k (i 0) (i 1))

/-- Point `t` of the grid takes rows `384 t` and on of every slice. -/
theorem index_in : ∀ t : Fin cfg0.N, win0_0.index t = ![0, (grid0.coords t 0).val, 0] := (by decide +kernel : ∀ t : Fin grid0.N, _)

/-- It writes the same rows of the result. -/
theorem index_out : ∀ t : Fin cfg0.N, win0_1.index t = ![(grid0.coords t 0).val, 0] := (by decide +kernel : ∀ t : Fin grid0.N, _)

/-- Slice `k` of the rows that point `t` is given. -/
theorem slice (c : Dev nD) (t : Fin cfg0.N) (k : Fin 4) (y : S384x1024.Idx) :
    iblk m c 0 t (ix3 k (y 0) (y 1)) = m ((c.tc : Thread nD τ).loc main_arg0) (ix3 k ((win0_1.blk t).view.emb y 0) ((win0_1.blk t).view.emb y 1)) := by
  blk_simp [iblk, V]
  congr 1
  blk_ext [index_in, index_out]

/-- The array when the grid is done. -/
theorem final (c : Dev nD) : (dats m 0 c).arrAt 1 cfg0.N = total (m ((c.tc : Thread nD τ).loc main_arg0)) := by
  refine (dats m 0 c).arrAt_eq_of_covers 1 _ (by decide +kernel) fun t hf y => ?_
  blk_simp
  rw [after0_1]; frame_out
  pointwise [k0_pay1]
  rw [slice m c t 0 y, slice m c t 1 y, slice m c t 2 y, slice m c t 3 y]
  rw [total, Fin.sum_univ_four]

end ReduceSum

/-- The chips' partial sums of a device's rows: kernel and reference leave the same sum of the four slices. -/
theorem reduceSum : Cert.algebraic_ReduceSumKernelIdeal_ReduceSumReferenceIdeal (hReduceSumKernelIdeal := Cert.ReduceSumKernelIdeal.Gen.facts) (hReduceSumReferenceIdeal := Cert.ReduceSumReferenceIdeal.Gen.facts) :=
  fun m g m' g' _ h => ⟨_, Cert.ReduceSumKernelIdeal.Value.run_blocks m g, (θ_run Cert.ReduceSumReferenceIdeal.defs _ _).mono (fun r e c => by
    obtain ⟨e0, e1⟩ := e c
    refine ⟨e0.trans ?_, e1⟩
    rw [h c, ReduceSum.final m c]
    funext i
    pointwise [ReduceSum.total]) (Cert.ReduceSumReferenceIdeal.Value.run m' g')⟩

namespace SmallSum

open Cert.SmallSumKernelIdeal Cert.SmallSumKernelIdeal.Gen

variable (m : (ℓ : Loc nD τ sig) → Buf (Elt Ideal) ℓ)

/-- The sum over the four chips' two cores. -/
def total (x : FVec Ideal S4x2x96x1024 .f32) : FVec Ideal S96x1024 .f32 :=
  fun i => ∑ p : Fin 4, ∑ c : Fin 2, x (ix4 p c (i 0) (i 1))

/-- What the grid reads: the argument with chips and cores on one axis. -/
theorem stack (c : Dev nD) : V m c main_v0 = shapeCast S8x96x1024 (m ((c.tc : Thread nD τ).loc main_arg0)) shapeCasts_S4x2x96x1024_S8x96x1024 := by
  unfold_abbrev_sides
  after_results
  rfl

/-- Chip `p`'s core `c` is slice `2 p + c` of the stack. -/
theorem unstack (x : FVec Ideal S4x2x96x1024 .f32) (k : Fin 8) (p : Fin 4) (c : Fin 2) (hk : k.val = 2 * p.val + c.val) (a : Fin 96) (b : Fin 1024) :
    shapeCast S8x96x1024 x shapeCasts_S4x2x96x1024_S8x96x1024 (ix3 k a b) = x (ix4 p c a b) := by
  refine shapeCast_apply _ _ _ _ ?_
  rw [Shape.rowMajor_val_three, Shape.rowMajor_val_four]
  show ((p.val * 2 + c.val) * 96 + a.val) * 1024 + b.val = (k.val * 96 + a.val) * 1024 + b.val
  omega

/-- The slices added one after the other. -/
theorem stacked (x : FVec Ideal S4x2x96x1024 .f32) (a : Fin 96) (b : Fin 1024) :
    let z := fun k : Fin 8 => shapeCast S8x96x1024 x shapeCasts_S4x2x96x1024_S8x96x1024 (ix3 k a b)
    z 0 + z 1 + z 2 + z 3 + z 4 + z 5 + z 6 + z 7 = ∑ p : Fin 4, ∑ c : Fin 2, x (ix4 p c a b) := by
  intro z
  have e (k p c h) : z k = x (ix4 p c a b) := unstack x k p c h a b
  rw [e 0 0 0 rfl, e 1 0 1 rfl, e 2 1 0 rfl, e 3 1 1 rfl, e 4 2 0 rfl, e 5 2 1 rfl, e 6 3 0 rfl, e 7 3 1 rfl]
  simp only [Fin.sum_univ_four, Fin.sum_univ_two, ← add_assoc]

/-- The grid has one point, which takes the whole stack. -/
theorem index_in : ∀ t : Fin cfg0.N, win0_0.index t = ![0, 0, 0] := (by decide +kernel : ∀ t : Fin grid0.N, _)

/-- It writes the whole result. -/
theorem index_out : ∀ t : Fin cfg0.N, win0_1.index t = ![0, 0] := (by decide +kernel : ∀ t : Fin grid0.N, _)

/-- Slice `k` of the stack. -/
theorem slice (c : Dev nD) (t : Fin cfg0.N) (k : Fin 8) (y : S96x1024.Idx) :
    iblk m c 0 t (ix3 k (y 0) (y 1)) = V m c main_v0 (ix3 k ((win0_1.blk t).view.emb y 0) ((win0_1.blk t).view.emb y 1)) := by
  blk_simp [iblk]
  congr 1
  blk_ext [index_in, index_out]

/-- The array when the grid is done. -/
theorem final (c : Dev nD) : (dats m 0 c).arrAt 1 cfg0.N = total (m ((c.tc : Thread nD τ).loc main_arg0)) := by
  refine (dats m 0 c).arrAt_eq_of_covers 1 _ (by decide +kernel) fun t hf y => ?_
  blk_simp
  rw [after0_1]; frame_out
  pointwise [k0_pay1]
  rw [slice m c t 0 y, slice m c t 1 y, slice m c t 2 y, slice m c t 3 y, slice m c t 4 y, slice m c t 5 y, slice m c t 6 y, slice m c t 7 y, stack]
  exact stacked _ _ _

end SmallSum

/-- The partial sums of the replicated weights: kernel and reference leave the same sum over the chips' cores. -/
theorem smallSum : Cert.algebraic_SmallSumKernelIdeal_SmallSumReferenceIdeal (hSmallSumKernelIdeal := Cert.SmallSumKernelIdeal.Gen.facts) (hSmallSumReferenceIdeal := Cert.SmallSumReferenceIdeal.Gen.facts) :=
  fun m g m' g' _ h => ⟨_, Cert.SmallSumKernelIdeal.Value.run_blocks m g, (θ_run Cert.SmallSumReferenceIdeal.defs _ _).mono (fun r e c => by
    obtain ⟨e0, e1⟩ := e c
    refine ⟨e0.trans ?_, e1⟩
    rw [h c, SmallSum.final m c]
    funext i
    pointwise [SmallSum.total]) (Cert.SmallSumReferenceIdeal.Value.run m' g')⟩

end Cert.Sums

end
-- ==== Proof.Rows.lean ====
/-
# The RMS norm of one row

A row's reciprocal root mean square, the gradient of the normalised row in closed form, and the same gradient as differentiation
of the formula gives it, term by term. The two are the same on all extended reals.
-/
module

public import Idealize.ShloMosaic.PureOps.Ideal.Laws
public import Mathlib.Data.EReal.Inv

@[expose] public section

noncomputable section

namespace Cert.Rows

open Idealize.ShloMosaic

/-- The mean square of a row, and the small constant. -/
def meanSq (x : Fin 1024 → Ideal .f32) : Ideal .f32 :=
  Ideal.div (∑ k, x k * x k) (Ideal.ofBits .f32 0x44800000#32) + Ideal.ofBits .f32 0x358637BD#32

/-- The reciprocal of a row's root mean square. -/
def scale (x : Fin 1024 → Ideal .f32) : Ideal .f32 := Ideal.rsqrt (meanSq x)

/-- The gradient of a row at its element `l`, where `e` is the incoming gradient times the gain. -/
def grad (e x : Fin 1024 → Ideal .f32) (l : Fin 1024) : Ideal .f32 :=
  scale x * (e l - x l * scale x * Ideal.div (∑ k, e k * (x k * scale x)) (Ideal.ofBits .f32 0x44800000#32))

/-- What reaches each element through the mean square: the gradient of the root times half the derivative of the mean. -/
def through (e x : Fin 1024 → Ideal .f32) : Ideal .f32 :=
  Ideal.div ((∑ k, x k * e k) * (Ideal.ofBits .f32 0xBF000000#32 * Ideal.div (scale x) (meanSq x))) (Ideal.ofBits .f32 0x44800000#32)

theorem word_1024 : Ideal.ofBits .f32 0x44800000#32 = ((1024 : ℝ) : EReal) := by
  simp [Ideal.ofBits, Ideal.ieee, -EReal.coe_mul]; norm_num

theorem word_eps : ∃ r : ℝ, 0 < r ∧ Ideal.ofBits .f32 0x358637BD#32 = (r : EReal) := by
  refine ⟨_, ?_, by simp [Ideal.ofBits, Ideal.ieee, -EReal.coe_mul]; rfl⟩
  norm_num

theorem word_half : Ideal.ofBits .f32 0xBF000000#32 = ((-(1 / 2) : ℝ) : EReal) := by
  simp [Ideal.ofBits, Ideal.ieee, -EReal.coe_mul]; norm_num

theorem sq_nonneg (x : EReal) : 0 ≤ x * x := by
  rcases le_total 0 x with h | h
  · exact mul_nonneg h h
  · rw [← neg_mul_neg]; exact mul_nonneg (EReal.neg_nonneg.mpr h) (EReal.neg_nonneg.mpr h)

/-- A factor that is a nonnegative real goes out of a sum. -/
theorem sum_mul_real {n : ℕ} (f : Fin n → EReal) (r : ℝ) (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (EReal.coe_nonneg.mpr hr) (EReal.coe_ne_top r)]

/-- The mean square with its constant is a positive real or infinite. -/
theorem meanSq_cases (x : Fin 1024 → Ideal .f32) : meanSq x = (⊤ : EReal) ∨ ∃ s : ℝ, 0 < s ∧ meanSq x = (s : EReal) := by
  obtain ⟨ε, hε, e⟩ := word_eps
  have hs : (0 : EReal) ≤ ∑ k, x k * x k := Finset.sum_nonneg fun k _ => sq_nonneg (x k)
  have h0 : (0 : EReal) < meanSq x := by
    rw [meanSq, word_1024, e, Ideal.div_coe (by norm_num)]
    exact (EReal.coe_pos.mpr hε).trans_le (le_add_of_nonneg_left (mul_nonneg hs (EReal.coe_nonneg.mpr (by norm_num))))
  generalize meanSq x = s at h0
  induction s using EReal.rec with
  | bot => simp at h0
  | coe s => exact .inr ⟨s, EReal.coe_pos.mp h0, rfl⟩
  | top => exact .inl rfl

/-- Twice half a term is the term. -/
theorem halves (u : EReal) (k : ℝ) (hk : 0 ≤ k) : u * ((-k : ℝ) : EReal) + u * ((-k : ℝ) : EReal) = -(u * ((2 * k : ℝ) : EReal)) := by
  have hn (v : EReal) : -v + -v = -(v + v) := by
    induction v using EReal.rec with
    | bot => simp
    | coe v => rw [← EReal.coe_neg, ← EReal.coe_add, ← EReal.coe_add, ← EReal.coe_neg, neg_add]
    | top => simp
  rw [two_mul, EReal.coe_add, EReal.left_distrib_of_nonneg (EReal.coe_nonneg.mpr hk) (EReal.coe_nonneg.mpr hk), EReal.coe_neg, mul_neg, hn]

theorem collect (a b T : EReal) (r : ℝ) (hr : 0 ≤ r) :
    a * (r : EReal) + b * (T * (((-(1 / 2) : ℝ) : EReal) * ((r * (r * r) : ℝ) : EReal)) * ((1 / 1024 : ℝ) : EReal))
        + T * (((-(1 / 2) : ℝ) : EReal) * ((r * (r * r) : ℝ) : EReal)) * ((1 / 1024 : ℝ) : EReal) * b
      = (r : EReal) * (a - b * (r : EReal) * (T * (r : EReal) * ((1 / 1024 : ℝ) : EReal))) := by
  have e1 : T * (((-(1 / 2) : ℝ) : EReal) * ((r * (r * r) : ℝ) : EReal)) * ((1 / 1024 : ℝ) : EReal) = T * ((-(r ^ 3 / 2048) : ℝ) : EReal) := by
    rw [mul_assoc, ← EReal.coe_mul, ← EReal.coe_mul]; congr 2; ring
  have e2 : (r : EReal) * (b * (r : EReal) * (T * (r : EReal) * ((1 / 1024 : ℝ) : EReal))) = b * T * ((2 * (r ^ 3 / 2048) : ℝ) : EReal) := by
    rw [show ((2 * (r ^ 3 / 2048) : ℝ) : EReal) = r * r * r * ((1 / 1024 : ℝ) : EReal) by
      rw [← EReal.coe_mul, ← EReal.coe_mul, ← EReal.coe_mul]; congr 1; ring]
    ac_rfl
  rw [e1, sub_eq_add_neg, EReal.left_distrib_of_nonneg_of_ne_top (EReal.coe_nonneg.mpr hr) (EReal.coe_ne_top r), mul_neg, e2,
    ← halves _ _ (by positivity), add_assoc, mul_comm (T * _) b, ← mul_assoc, mul_comm a]

/-- Differentiation's three terms are the closed form. -/
theorem terms_eq (e x : Fin 1024 → Ideal .f32) (l : Fin 1024) : e l * scale x + x l * through e x + through e x * x l = grad e x l := by
  rw [grad, through, word_1024, word_half]
  rcases meanSq_cases x with h | ⟨s, hs, h⟩
  · rw [scale, h, Ideal.rsqrt_top, show Ideal.div (0 : EReal) ⊤ = 0 by simp [Ideal.div], Ideal.div_coe (by norm_num)]
    simp
  · have hr : scale x = (((Real.sqrt s)⁻¹ : ℝ) : EReal) := by
      rw [scale, h, Ideal.rsqrt_coe, if_neg (not_lt.mpr hs.le), if_neg hs.ne']
    have hq : (Real.sqrt s)⁻¹ * (1 / s) = (Real.sqrt s)⁻¹ * ((Real.sqrt s)⁻¹ * (Real.sqrt s)⁻¹) := by
      rw [← mul_inv, Real.mul_self_sqrt hs.le, one_div]
    have h0 : 0 ≤ (Real.sqrt s)⁻¹ := inv_nonneg.mpr (Real.sqrt_nonneg s)
    rw [hr, h, Ideal.div_coe hs.ne', ← EReal.coe_mul, hq]
    generalize (Real.sqrt s)⁻¹ = r at h0
    have hsum : ∑ k, e k * (x k * (r : EReal)) = (∑ k, x k * e k) * (r : EReal) := by
      rw [← sum_mul_real _ r h0]
      exact Finset.sum_congr rfl fun k _ => by rw [← mul_assoc, mul_comm (e k)]
    rw [hsum]
    generalize (∑ k, x k * e k) = T
    generalize e l = a
    generalize x l = b
    rw [Ideal.div_coe (by norm_num), Ideal.div_coe (by norm_num)]
    exact collect a b T r h0

/-- A half over the width, times twice a value: the value over the width. -/
theorem half_twice (u : EReal) : Ideal.div (Ideal.ofBits .f32 0x3F000000#32) (Ideal.ofBits .f32 0x44800000#32) *
    (Ideal.ofBits .f32 0x40000000#32 * u) = u * Ideal.ofBits .f32 0x3A800000#32 := by
  have h : Ideal.ofBits .f32 0x3F000000#32 = ((1 / 2 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [h, h2, h3, word_1024, Ideal.div_coe (by norm_num), ← EReal.coe_mul, ← mul_assoc, ← EReal.coe_mul, mul_comm]
  congr 2; norm_num

/-- A half goes out of a sum. -/
theorem sum_half {n : ℕ} (f : Fin n → EReal) : ∑ k, Ideal.ofBits .f32 0x3F000000#32 * f k = Ideal.ofBits .f32 0x3F000000#32 * ∑ k, f k := by
  have h : Ideal.ofBits .f32 0x3F000000#32 = ((1 / 2 : ℝ) : EReal) := by
    simp [Ideal.ofBits, Ideal.ieee, -EReal.coe_mul]; norm_num
  rw [h, mul_comm, ← sum_mul_real f _ (by norm_num)]
  exact Finset.sum_congr rfl fun _ _ => mul_comm _ _

end Cert.Rows

end
-- ==== Proof.Norms.lean ====
/-
# The RMS norm and its gradients, a block of rows at a time

Each row of the norm is made of that row alone, and so is each row of the gradient of the input; the gradient of the gain is a sum
over the rows. A kernel that takes the rows block by block and adds up the gain's gradient from point to point of its grid leaves
what the whole arrays give.
-/
module

public import proofs.«01_k».proof.Defs
public import proofs.«01_k».proof.Proof.Rows
public import proofs.«01_k».proof.Proof.Gen.NormMixBwdKernelIdeal.Value
public import proofs.«01_k».proof.Proof.Gen.NormMixBwdReferenceIdeal.Run
public import proofs.«01_k».proof.Proof.Gen.NormFfnKernelIdeal.Value
public import proofs.«01_k».proof.Proof.Gen.NormFfnReferenceIdeal.Run
public import Idealize.ShloMosaic.Lib.Pipeline.ValueKit
public import Idealize.ShloMosaic.Lib.Pointwise

@[expose] public section

set_option maxRecDepth 16384

noncomputable section

namespace Cert.Norms

open Idealize.ShloMosaic Idealize.ShloMosaic.TcCoe Idealize.SL.Sem Cert.Rows

namespace NormMixBwd

open Cert.NormMixBwdKernelIdeal Cert.NormMixBwdKernelIdeal.Gen

variable (m : (ℓ : Loc nD τ sig) → Buf (Elt Ideal) ℓ)

theorem pay_grad (dy x : FVec Ideal S512x1024 .f32) (g : FVec Ideal S1x1024 .f32) (r : FVec Ideal S512x1024 .f32) (a : Fin 512) (l : Fin 1024) :
    k0_pay4 dy x g r (ix2 a l) = r (ix2 a l) + grad (fun k => dy (ix2 a k) * g (ix2 0 k)) (fun k => x (ix2 a k)) l := by
  pointwise [k0_pay4, k0_pay3, k0_pay2, grad, scale, meanSq]

theorem pay_gain (dy x : FVec Ideal S512x1024 .f32) (b : FVec Ideal S1x1024 .f32) (l : Fin 1024) :
    k0_pay1 (k0_pay6 b) (k0_pay7 dy x) (ix2 0 l) = b (ix2 0 l) + ∑ a : Fin 512, dy (ix2 a l) * (x (ix2 a l) * scale (fun k => x (ix2 a k))) := by
  pointwise [k0_pay1, k0_pay6, k0_pay7, k0_pay3, k0_pay2, scale, meanSq]

/-- The gradient of the input, the residual's gradient added. -/
def dx (dy x : FVec Ideal S4096x1024 .f32) (g : FVec Ideal S1024 .f32) (r : FVec Ideal S4096x1024 .f32) : FVec Ideal S4096x1024 .f32 :=
  fun i => r i + grad (fun k => dy (ix2 (i 0) k) * g (ix1 k)) (fun k => x (ix2 (i 0) k)) (i 1)

/-- The gradient of the input with the derivative's terms apart. -/
theorem dx_terms (dy x : FVec Ideal S4096x1024 .f32) (g : FVec Ideal S1024 .f32) (r : FVec Ideal S4096x1024 .f32) (i : S4096x1024.Idx) :
    dx dy x g r i = r i + (dy (ix2 (i 0) (i 1)) * g (ix1 (i 1)) * scale (fun k => x (ix2 (i 0) k)) +
      x (ix2 (i 0) (i 1)) * through (fun k => dy (ix2 (i 0) k) * g (ix1 k)) (fun k => x (ix2 (i 0) k)) +
      through (fun k => dy (ix2 (i 0) k) * g (ix1 k)) (fun k => x (ix2 (i 0) k)) * x (ix2 (i 0) (i 1))) :=
  congrArg (r i + ·) (terms_eq (fun k => dy (ix2 (i 0) k) * g (ix1 k)) (fun k => x (ix2 (i 0) k)) (i 1)).symm

/-- The gradient of the gain: a sum over the rows. -/
def dg (dy x : FVec Ideal S4096x1024 .f32) : FVec Ideal S1x1024 .f32 :=
  fun i => ∑ a : Fin 4096, dy (ix2 a (i 1)) * (x (ix2 a (i 1)) * scale (fun k => x (ix2 a k)))

/-- Row `a` of the block of rows that point `t` of the grid takes. -/
def row (t : Fin cfg0.N) (a : Fin 512) : Fin 4096 := ⟨t.val * 512 + a.val, by have := t.isLt; have : cfg0.N = 8 := N_0; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

/-- What the grid reads of the gain: the argument as one row. -/
theorem gain (c : Dev nD) (k : Fin 1024) : V m c main_v0 (ix2 0 k) = m ((c.tc : Thread nD τ).loc main_arg2) (ix1 k) := by
  have e : V m c main_v0 = shapeCast S1x1024 (m ((c.tc : Thread nD τ).loc main_arg2)) shapeCasts_S1024_S1x1024 := by
    unfold_abbrev_sides
    after_results
    rfl
  rw [e]
  pointwise

theorem block0 (c : Dev nD) (t : Fin cfg0.N) (a : Fin 512) (k : Fin 1024) :
    iblk m c 0 t (ix2 a k) = m ((c.tc : Thread nD τ).loc main_arg0) (ix2 (row t a) k) := by
  blk_simp [iblk, V]; congr 1; blk_ext [index0, row]

theorem block1 (c : Dev nD) (t : Fin cfg0.N) (a : Fin 512) (k : Fin 1024) :
    iblk m c 1 t (ix2 a k) = m ((c.tc : Thread nD τ).loc main_arg1) (ix2 (row t a) k) := by
  blk_simp [iblk, V]; congr 1; blk_ext [index1, row]

theorem block2 (c : Dev nD) (t : Fin cfg0.N) (k : Fin 1024) :
    iblk m c 2 t (ix2 0 k) = m ((c.tc : Thread nD τ).loc main_arg2) (ix1 k) := by
  rw [← gain m c]; blk_simp [iblk]; congr 1; blk_ext [index2]

theorem block3 (c : Dev nD) (t : Fin cfg0.N) (a : Fin 512) (k : Fin 1024) :
    iblk m c 3 t (ix2 a k) = m ((c.tc : Thread nD τ).loc main_arg3) (ix2 (row t a) k) := by
  blk_simp [iblk, V]; congr 1; blk_ext [index3, row]

/-- What point `t` computes of its rows. -/
theorem rows_at (c : Dev nD) (t : Fin cfg0.N) (a : Fin 512) (l : Fin 1024) :
    k0_pay4 (iblk m c 0 t) (iblk m c 1 t) (iblk m c 2 t) (iblk m c 3 t) (ix2 a l) =
      dx (m ((c.tc : Thread nD τ).loc main_arg0)) (m ((c.tc : Thread nD τ).loc main_arg1)) (m ((c.tc : Thread nD τ).loc main_arg2)) (m ((c.tc : Thread nD τ).loc main_arg3))
        ((win0_4.blk t).view.emb (ix2 a l)) := by
  have e : (win0_4.blk t).view.emb (ix2 a l) = ix2 (row t a) l := by blk_ext [index4, row]
  rw [e, pay_grad]
  simp only [block0, block1, block2, block3]
  rfl

theorem final4 (c : Dev nD) : (dats m 0 c).arrAt 4 cfg0.N =
    dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨a, l, rfl⟩ : ∃ a l, y = ix2 a l := ⟨_, _, eq_ix2 y⟩
  blk_simp
  rw [after0_4]
  by_cases h : t.val % 8 = 0
  · rw [outsAt0_A m c t h]; frame_out; exact rows_at m c t a l
  · rw [outsAt0_B m c t h]; frame_out; exact rows_at m c t a l

/-- The part of the gain's gradient that point `t` adds. -/
def part (dy x : FVec Ideal S4096x1024 .f32) (t : Fin cfg0.N) : FVec Ideal S1x1024 .f32 :=
  fun i => ∑ a : Fin 512, dy (ix2 (row t a) (i 1)) * (x (ix2 (row t a) (i 1)) * scale (fun k => x (ix2 (row t a) k)))

/-- The parts of all the points together. -/
theorem parts (dy x : FVec Ideal S4096x1024 .f32) (i : S1x1024.Idx) : ∑ t, part dy x t i = dg dy x i :=
  Fin.sum_mul_add_congr (fun _ _ _ => rfl) (show 4096 = cfg0.N * 512 by rw [show cfg0.N = 8 from N_0])

theorem part_at (c : Dev nD) (t : Fin cfg0.N) (b : FVec Ideal S1x1024 .f32) (i : S1x1024.Idx) :
    k0_pay1 (k0_pay6 b) (k0_pay7 (iblk m c 0 t) (iblk m c 1 t)) i = b i + part (m ((c.tc : Thread nD τ).loc main_arg0)) (m ((c.tc : Thread nD τ).loc main_arg1)) t i := by
  obtain ⟨l, rfl⟩ : ∃ l, i = ix2 0 l := ⟨i 1, by blk_ext⟩
  rw [pay_gain]
  simp only [block0, block1]
  rfl

theorem zero_at (i : S1x1024.Idx) : k0_pay5 (F := Ideal) i = 0 := by
  pointwise [k0_pay5]

theorem final5 (c : Dev nD) : (dats m 0 c).arrAt 5 cfg0.N =
    dg (m ((c.tc : Thread nD τ).loc main_arg0)) (m ((c.tc : Thread nD τ).loc main_arg1)) := by
  refine (dats m 0 c).arrAt_eq_of_covers 5 _ (by decide +kernel) fun t hf y => ?_
  blk_simp
  have e : (win0_5.blk t).view.emb y = y := by blk_ext [index5]
  have ht : t = t0_7 := by revert hf; revert t; decide +kernel
  subst ht
  rw [after0_5, e, Pipeline.eq_sum_fin_of_reset_step_apply_last (fun n h => (outsAt0 m c n h).2) 8 (fun _ => 0) (part (m ((c.tc : Thread nD τ).loc main_arg0)) (m ((c.tc : Thread nD τ).loc main_arg1)))
    (fun t h j => by rw [outsAt0_A m c t h]; frame_out; rw [part_at, zero_at])
    (fun t h j => by rw [outsAt0_B m c t h]; frame_out; rw [part_at])
    (le_of_eq N_0) t0_7 rfl y, zero_add]
  exact parts _ _ y

end NormMixBwd

theorem normMixBwd : Cert.algebraic_NormMixBwdKernelIdeal_NormMixBwdReferenceIdeal (hNormMixBwdKernelIdeal := Cert.NormMixBwdKernelIdeal.Gen.facts) (hNormMixBwdReferenceIdeal := Cert.NormMixBwdReferenceIdeal.Gen.facts) :=
  fun m g m' g' _ h => ⟨_, _, Cert.NormMixBwdKernelIdeal.Value.run_blocks m g, (θ_run Cert.NormMixBwdReferenceIdeal.defs _ _).mono (fun r e c => by
    obtain ⟨e0, e1, e2⟩ := e c
    obtain ⟨h0, h1, h2, h3⟩ := h c
    refine ⟨e0.trans ?_, e1.trans ?_, e2⟩
    · rw [h0, h1, h2, h3, NormMixBwd.final4 m c]
      funext i
      rw [NormMixBwd.dx_terms]
      pointwise [through, scale, meanSq]
      simp only [Fin.sum_univ_one]
    · rw [h0, h1, NormMixBwd.final5 m c]
      funext i
      pointwise [NormMixBwd.dg, scale, meanSq]
      rw [Fin.sum_univ_one]
      exact Finset.sum_congr rfl fun _ _ => mul_comm _ _) (Cert.NormMixBwdReferenceIdeal.Value.run m' g')⟩

namespace NormFfn

open Cert.NormFfnKernelIdeal Cert.NormFfnKernelIdeal.Gen

variable (m : (ℓ : Loc nD τ sig) → Buf (Elt Ideal) ℓ)

theorem pay_norm (x : FVec Ideal S512x1024 .f32) (g : FVec Ideal S1x1024 .f32) (a : Fin 512) (l : Fin 1024) :
    k0_pay1 x g (ix2 a l) = x (ix2 a l) * scale (fun k => x (ix2 a k)) * g (ix2 0 l) := by
  pointwise [k0_pay1, scale, meanSq]

/-- The norm of every row, times the gain. -/
def norm (x : FVec Ideal S4096x1024 .f32) (g : FVec Ideal S1024 .f32) : FVec Ideal S4096x1024 .f32 :=
  fun i => x (ix2 (i 0) (i 1)) * scale (fun k => x (ix2 (i 0) k)) * g (ix1 (i 1))

/-- Row `a` of the block of rows that point `t` of the grid takes. -/
def row (t : Fin cfg0.N) (a : Fin 512) : Fin 4096 := ⟨t.val * 512 + a.val, by have := t.isLt; have : cfg0.N = 8 := N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- What the grid reads of the gain: the argument as one row. -/
theorem gain (c : Dev nD) (k : Fin 1024) : V m c main_v0 (ix2 0 k) = m ((c.tc : Thread nD τ).loc main_arg1) (ix1 k) := by
  have e : V m c main_v0 = shapeCast S1x1024 (m ((c.tc : Thread nD τ).loc main_arg1)) shapeCasts_S1024_S1x1024 := by
    unfold_abbrev_sides
    after_results
    rfl
  rw [e]
  pointwise

theorem block0 (c : Dev nD) (t : Fin cfg0.N) (a : Fin 512) (k : Fin 1024) :
    iblk m c 0 t (ix2 a k) = m ((c.tc : Thread nD τ).loc main_arg0) (ix2 (row t a) k) := by
  blk_simp [iblk, V]; congr 1; blk_ext [index0, row]

theorem block1 (c : Dev nD) (t : Fin cfg0.N) (k : Fin 1024) :
    iblk m c 1 t (ix2 0 k) = m ((c.tc : Thread nD τ).loc main_arg1) (ix1 k) := by
  rw [← gain m c]; blk_simp [iblk]; congr 1; blk_ext [index1]

theorem final (c : Dev nD) : (dats m 0 c).arrAt 2 cfg0.N = norm (m ((c.tc : Thread nD τ).loc main_arg0)) (m ((c.tc : Thread nD τ).loc main_arg1)) := by
  refine (dats m 0 c).arrAt_eq_of_covers 2 _ (by decide +kernel) fun t hf y => ?_
  obtain ⟨a, l, rfl⟩ : ∃ a l, y = ix2 a l := ⟨_, _, eq_ix2 y⟩
  blk_simp
  have e : (win0_2.blk t).view.emb (ix2 a l) = ix2 (row t a) l := by blk_ext [index2, row]
  rw [after0_2, e]
  frame_out
  rw [pay_norm]
  simp only [block0, block1]
  rfl

end NormFfn

theorem normFfn : Cert.algebraic_NormFfnKernelIdeal_NormFfnReferenceIdeal (hNormFfnKernelIdeal := Cert.NormFfnKernelIdeal.Gen.facts) (hNormFfnReferenceIdeal := Cert.NormFfnReferenceIdeal.Gen.facts) :=
  fun m g m' g' _ h => ⟨_, Cert.NormFfnKernelIdeal.Value.run_blocks m g, (θ_run Cert.NormFfnReferenceIdeal.defs _ _).mono (fun r e c => by
    obtain ⟨e0, e1⟩ := e c
    obtain ⟨h0, h1⟩ := h c
    refine ⟨e0.trans ?_, e1⟩
    rw [h0, h1, NormFfn.final m c]
    funext i
    pointwise [NormFfn.norm, scale, meanSq]) (Cert.NormFfnReferenceIdeal.Value.run m' g')⟩

end Cert.Norms

end
-- ==== Proof.Loss.lean ====
/-
# The loss and its gradients, a block of rows at a time

Each row's error and the gradient of the row are made of that row alone; the loss and the gradient of the gain are sums over the
rows. A kernel that takes the rows block by block and adds up both sums from point to point of its grid leaves what
differentiation of the loss of the whole arrays gives.
-/
module

public import proofs.«01_k».proof.Defs
public import proofs.«01_k».proof.Proof.Rows
public import proofs.«01_k».proof.Proof.Gen.LossHeadKernelIdeal.Value
public import proofs.«01_k».proof.Proof.Gen.LossHeadReferenceIdeal.Run
public import Idealize.ShloMosaic.Lib.Pipeline.ValueKit
public import Idealize.ShloMosaic.Lib.Pointwise

@[expose] public section

set_option maxRecDepth 16384

noncomputable section

namespace Cert.Loss

open Idealize.ShloMosaic Idealize.ShloMosaic.TcCoe Idealize.SL.Sem Cert.Rows

namespace LossHead

open Cert.LossHeadKernelIdeal Cert.LossHeadKernelIdeal.Gen

variable (m : (ℓ : Loc nD τ sig) → Buf (Elt Ideal) ℓ)

/-- The error of a row at its element `l`. -/
def miss (x g t : Fin 1024 → Ideal .f32) (l : Fin 1024) : Ideal .f32 := x l * scale x * g l - t l

/-- What the loss takes from the error as gradient: the error over the width. -/
def back (x g t : Fin 1024 → Ideal .f32) (l : Fin 1024) : Ideal .f32 := miss x g t l * Ideal.ofBits .f32 0x3A800000#32

/-- A row's mean square error. -/
def cost (x g t : Fin 1024 → Ideal .f32) : Ideal .f32 :=
  Ideal.div (∑ l, miss x g t l * miss x g t l) (Ideal.ofBits .f32 0x44800000#32)

theorem pay_grad (x : FVec Ideal S512x1024 .f32) (g : FVec Ideal S1x1024 .f32) (t : FVec Ideal S512x1024 .f32) (a : Fin 512) (l : Fin 1024) :
    k0_pay10 x g t (ix2 a l) =
      grad (fun k => back (fun k => x (ix2 a k)) (fun k => g (ix2 0 k)) (fun k => t (ix2 a k)) k * g (ix2 0 k)) (fun k => x (ix2 a k)) l := by
  pointwise [k0_pay10, k0_pay9, k0_pay8, k0_pay7, k0_pay6, k0_pay5, grad, back, miss, scale, meanSq]

theorem pay_gain (x : FVec Ideal S512x1024 .f32) (g : FVec Ideal S1x1024 .f32) (t : FVec Ideal S512x1024 .f32) (b : FVec Ideal S1x1024 .f32) (l : Fin 1024) :
    k0_pay3 (k0_pay11 x g t) b (ix2 0 l) = b (ix2 0 l) +
      ∑ a : Fin 512, back (fun k => x (ix2 a k)) (fun k => g (ix2 0 k)) (fun k => t (ix2 a k)) l * (x (ix2 a l) * scale (fun k => x (ix2 a k))) := by
  pointwise [k0_pay3, k0_pay11, k0_pay9, k0_pay8, k0_pay7, k0_pay6, k0_pay5, back, miss, scale, meanSq]

theorem pay_loss (x : FVec Ideal S512x1024 .f32) (g : FVec Ideal S1x1024 .f32) (t : FVec Ideal S512x1024 .f32) (b : FVec Ideal S1x1 .f32) :
    k0_pay4 (k0_pay6 x g t) b (ix2 0 0) = b (ix2 0 0) + Ideal.ofBits .f32 0x3F000000#32 *
      ∑ a : Fin 512, cost (fun k => x (ix2 a k)) (fun k => g (ix2 0 k)) (fun k => t (ix2 a k)) := by
  pointwise [k0_pay4, k0_pay6, k0_pay5, cost, miss, scale, meanSq]

/-- The gradient of the input. -/
def dx (x : FVec Ideal S4096x1024 .f32) (g : FVec Ideal S1024 .f32) (t : FVec Ideal S4096x1024 .f32) : FVec Ideal S4096x1024 .f32 :=
  fun i => grad (fun k => back (fun k => x (ix2 (i 0) k)) (fun k => g (ix1 k)) (fun k => t (ix2 (i 0) k)) k * g (ix1 k)) (fun k => x (ix2 (i 0) k)) (i 1)

/-- The gradient of the gain: a sum over the rows. -/
def dg (x : FVec Ideal S4096x1024 .f32) (g : FVec Ideal S1024 .f32) (t : FVec Ideal S4096x1024 .f32) : FVec Ideal S1x1024 .f32 :=
  fun i => ∑ a : Fin 4096, back (fun k => x (ix2 a k)) (fun k => g (ix1 k)) (fun k => t (ix2 a k)) (i 1) * (x (ix2 a (i 1)) * scale (fun k => x (ix2 a k)))

/-- The loss: half the sum of the rows' mean square errors. -/
def loss (x : FVec Ideal S4096x1024 .f32) (g : FVec Ideal S1024 .f32) (t : FVec Ideal S4096x1024 .f32) : FVec Ideal S1x1 .f32 :=
  fun _ => Ideal.ofBits .f32 0x3F000000#32 * ∑ a : Fin 4096, cost (fun k => x (ix2 a k)) (fun k => g (ix1 k)) (fun k => t (ix2 a k))

/-- Row `a` of the block of rows that point `t` of the grid takes. -/
def row (t : Fin cfg0.N) (a : Fin 512) : Fin 4096 := ⟨t.val * 512 + a.val, by have := t.isLt; have : cfg0.N = 8 := N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)

/-- What the grid reads of the gain: the argument as one row. -/
theorem gain (c : Dev nD) (k : Fin 1024) : V m c main_v0 (ix2 0 k) = m ((c.tc : Thread nD τ).loc main_arg1) (ix1 k) := by
  have e : V m c main_v0 = shapeCast S1x1024 (m ((c.tc : Thread nD τ).loc main_arg1)) shapeCasts_S1024_S1x1024 := by
    unfold_abbrev_sides
    after_results
    rfl
  rw [e]
  pointwise

theorem block0 (c : Dev nD) (t : Fin cfg0.N) (a : Fin 512) (k : Fin 1024) :
    iblk m c 0 t (ix2 a k) = m ((c.tc : Thread nD τ).loc main_arg0) (ix2 (row t a) k) := by
  blk_simp [iblk, V]; congr 1; blk_ext [index0, row]

theorem block1 (c : Dev nD) (t : Fin cfg0.N) (k : Fin 1024) :
    iblk m c 1 t (ix2 0 k) = m ((c.tc : Thread nD τ).loc main_arg1) (ix1 k) := by
  rw [← gain m c]; blk_simp [iblk]; congr 1; blk_ext [index1]

theorem block2 (c : Dev nD) (t : Fin cfg0.N) (a : Fin 512) (k : Fin 1024) :
    iblk m c 2 t (ix2 a k) = m ((c.tc : Thread nD τ).loc main_arg2) (ix2 (row t a) k) := by
  blk_simp [iblk, V]; congr 1; blk_ext [index2, row]

/-- What point `t` computes of its rows. -/
theorem rows_at (c : Dev nD) (t : Fin cfg0.N) (a : Fin 512) (l : Fin 1024) :
    k0_pay10 (iblk m c 0 t) (iblk m c 1 t) (iblk m c 2 t) (ix2 a l) =
      dx (m ((c.tc : Thread nD τ).loc main_arg0)) (m ((c.tc : Thread nD τ).loc main_arg1)) (m ((c.tc : Thread nD τ).loc main_arg2))
        ((win0_3.blk t).view.emb (ix2 a l)) := by
  have e : (win0_3.blk t).view.emb (ix2 a l) = ix2 (row t a) l := by blk_ext [index3, row]
  rw [e, pay_grad]
  simp only [block0, block1, block2]
  rfl

theorem final3 (c : Dev nD) : (dats m 0 c).arrAt 3 cfg0.N =
    dx (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, l, rfl⟩ : ∃ a l, y = ix2 a l := ⟨_, _, eq_ix2 y⟩
  blk_simp
  rw [after0_3]
  by_cases h : t.val % 8 = 0
  · rw [outsAt0_A m c t h]; frame_out; exact rows_at m c t a l
  · rw [outsAt0_B m c t h]; frame_out; exact rows_at m c t a l

/-- The part of the gain's gradient that point `t` adds. -/
def part (x : FVec Ideal S4096x1024 .f32) (g : FVec Ideal S1024 .f32) (y : FVec Ideal S4096x1024 .f32) (t : Fin cfg0.N) : FVec Ideal S1x1024 .f32 :=
  fun i => ∑ a : Fin 512, back (fun k => x (ix2 (row t a) k)) (fun k => g (ix1 k)) (fun k => y (ix2 (row t a) k)) (i 1) *
    (x (ix2 (row t a) (i 1)) * scale (fun k => x (ix2 (row t a) k)))

/-- The parts of all the points together. -/
theorem parts (x : FVec Ideal S4096x1024 .f32) (g : FVec Ideal S1024 .f32) (y : FVec Ideal S4096x1024 .f32) (i : S1x1024.Idx) :
    ∑ t, part x g y t i = dg x g y i :=
  Fin.sum_mul_add_congr (fun _ _ _ => rfl) (show 4096 = cfg0.N * 512 by rw [show cfg0.N = 8 from N_0])

theorem part_at (c : Dev nD) (t : Fin cfg0.N) (b : FVec Ideal S1x1024 .f32) (i : S1x1024.Idx) :
    k0_pay3 (k0_pay11 (iblk m c 0 t) (iblk m c 1 t) (iblk m c 2 t)) b i = b i +
      part (m ((c.tc : Thread nD τ).loc main_arg0)) (m ((c.tc : Thread nD τ).loc main_arg1)) (m ((c.tc : Thread nD τ).loc main_arg2)) t i := by
  obtain ⟨l, rfl⟩ : ∃ l, i = ix2 0 l := ⟨i 1, by blk_ext⟩
  rw [pay_gain]
  simp only [block0, block1, block2]
  rfl

theorem zero_at (i : S1x1024.Idx) : k0_pay1 (F := Ideal) i = 0 := by
  pointwise [k0_pay1]

theorem final4 (c : Dev nD) : (dats m 0 c).arrAt 4 cfg0.N =
    dg (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  have e : (win0_4.blk t).view.emb y = y := by blk_ext [index4]
  have ht : t = t0_7 := by revert hf; revert t; decide +kernel
  subst ht
  rw [after0_4, e, Pipeline.eq_sum_fin_of_reset_step_apply_last (fun n h => (outsAt0 m c n h).2.1) 8 (fun _ => 0)
    (part (m ((c.tc : Thread nD τ).loc main_arg0)) (m ((c.tc : Thread nD τ).loc main_arg1)) (m ((c.tc : Thread nD τ).loc main_arg2)))
    (fun t h j => by rw [outsAt0_A m c t h]; frame_out; rw [part_at, zero_at])
    (fun t h j => by rw [outsAt0_B m c t h]; frame_out; rw [part_at])
    (le_of_eq N_0) t0_7 rfl y, zero_add]
  exact parts _ _ _ y

/-- The part of the loss that point `t` adds. -/
def share (x : FVec Ideal S4096x1024 .f32) (g : FVec Ideal S1024 .f32) (y : FVec Ideal S4096x1024 .f32) (t : Fin cfg0.N) : FVec Ideal S1x1 .f32 :=
  fun _ => Ideal.ofBits .f32 0x3F000000#32 * ∑ a : Fin 512, cost (fun k => x (ix2 (row t a) k)) (fun k => g (ix1 k)) (fun k => y (ix2 (row t a) k))

/-- The parts of all the points together. -/
theorem shares (x : FVec Ideal S4096x1024 .f32) (g : FVec Ideal S1024 .f32) (y : FVec Ideal S4096x1024 .f32) (i : S1x1.Idx) :
    ∑ t, share x g y t i = loss x g y i :=
  (sum_half _).trans (congrArg (_ * ·) (Fin.sum_mul_add_congr (fun _ _ _ => rfl) (show 4096 = cfg0.N * 512 by rw [show cfg0.N = 8 from N_0])))

theorem share_at (c : Dev nD) (t : Fin cfg0.N) (b : FVec Ideal S1x1 .f32) (i : S1x1.Idx) :
    k0_pay4 (k0_pay6 (iblk m c 0 t) (iblk m c 1 t) (iblk m c 2 t)) b i = b i +
      share (m ((c.tc : Thread nD τ).loc main_arg0)) (m ((c.tc : Thread nD τ).loc main_arg1)) (m ((c.tc : Thread nD τ).loc main_arg2)) t i := by
  obtain rfl : i = ix2 0 0 := by blk_ext
  rw [pay_loss]
  simp only [block0, block1, block2]
  rfl

theorem none_at (i : S1x1.Idx) : k0_pay2 (F := Ideal) i = 0 := by
  pointwise [k0_pay2]

theorem index5 : ∀ t : Fin cfg0.N, win0_5.index t = ![0, 0] := (by decide +kernel : ∀ t : Fin grid0.N, _)

theorem final5 (c : Dev nD) : (dats m 0 c).arrAt 5 cfg0.N =
    loss (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  have ht : t = t0_7 := by revert hf; revert t; decide +kernel
  subst ht
  rw [after0_5, Pipeline.eq_sum_fin_of_reset_step_apply_last (fun n h => (outsAt0 m c n h).2.2) 8 (fun _ => 0)
    (share (m ((c.tc : Thread nD τ).loc main_arg0)) (m ((c.tc : Thread nD τ).loc main_arg1)) (m ((c.tc : Thread nD τ).loc main_arg2)))
    (fun t h j => by rw [outsAt0_A m c t h]; frame_out; rw [share_at, none_at])
    (fun t h j => by rw [outsAt0_B m c t h]; frame_out; rw [share_at])
    (le_of_eq N_0) t0_7 rfl y, zero_add]
  exact shares _ _ _ y

/-- What differentiation takes from the error as gradient: a half over the width, times twice the error. -/
def twice (x g t : Fin 1024 → Ideal .f32) (l : Fin 1024) : Ideal .f32 :=
  Ideal.div (Ideal.ofBits .f32 0x3F000000#32) (Ideal.ofBits .f32 0x44800000#32) * (Ideal.ofBits .f32 0x40000000#32 * miss x g t l)

theorem back_eq (x g t : Fin 1024 → Ideal .f32) (l : Fin 1024) : back x g t l = twice x g t l := (half_twice _).symm

/-- The gradient of the input with the derivative's terms apart. -/
theorem dx_terms (x : FVec Ideal S4096x1024 .f32) (g : FVec Ideal S1024 .f32) (t : FVec Ideal S4096x1024 .f32) (i : S4096x1024.Idx) :
    dx x g t i = twice (fun k => x (ix2 (i 0) k)) (fun k => g (ix1 k)) (fun k => t (ix2 (i 0) k)) (i 1) * g (ix1 (i 1)) * scale (fun k => x (ix2 (i 0) k)) +
      x (ix2 (i 0) (i 1)) * through (fun k => twice (fun k => x (ix2 (i 0) k)) (fun k => g (ix1 k)) (fun k => t (ix2 (i 0) k)) k * g (ix1 k)) (fun k => x (ix2 (i 0) k)) +
      through (fun k => twice (fun k => x (ix2 (i 0) k)) (fun k => g (ix1 k)) (fun k => t (ix2 (i 0) k)) k * g (ix1 k)) (fun k => x (ix2 (i 0) k)) * x (ix2 (i 0) (i 1)) := by
  have e := terms_eq (fun k => twice (fun k => x (ix2 (i 0) k)) (fun k => g (ix1 k)) (fun k => t (ix2 (i 0) k)) k * g (ix1 k)) (fun k => x (ix2 (i 0) k)) (i 1)
  refine Eq.trans ?_ e.symm
  simp only [← back_eq]
  rfl

/-- The gradient of the gain in differentiation's order. -/
theorem dg_terms (x : FVec Ideal S4096x1024 .f32) (g : FVec Ideal S1024 .f32) (t : FVec Ideal S4096x1024 .f32) (i : S1x1024.Idx) :
    dg x g t i = ∑ a : Fin 4096, x (ix2 a (i 1)) * scale (fun k => x (ix2 a k)) * twice (fun k => x (ix2 a k)) (fun k => g (ix1 k)) (fun k => t (ix2 a k)) (i 1) :=
  Finset.sum_congr rfl fun _ _ => (congrArg (· * _) (back_eq _ _ _ _)).trans (mul_comm _ _)

end LossHead

theorem lossHead : Cert.algebraic_LossHeadKernelIdeal_LossHeadReferenceIdeal (hLossHeadKernelIdeal := Cert.LossHeadKernelIdeal.Gen.facts) (hLossHeadReferenceIdeal := Cert.LossHeadReferenceIdeal.Gen.facts) :=
  fun m g m' g' _ h => ⟨_, _, _, (θ_run Cert.LossHeadKernelIdeal.defs _ _).mono (fun r e c => ⟨(e c).2.2.1, (e c).1, (e c).2.1, (e c).2.2.2⟩) (Cert.LossHeadKernelIdeal.Value.run_blocks m g),
    (θ_run Cert.LossHeadReferenceIdeal.defs _ _).mono (fun r e c => by
    obtain ⟨e0, e1, e2, e3⟩ := e c
    obtain ⟨h0, h1, h2⟩ := h c
    refine ⟨e0.trans ?_, e1.trans ?_, e2.trans ?_, e3⟩
    · rw [h0, h1, h2, LossHead.final5 m c]
      funext i
      pointwise [LossHead.loss, LossHead.cost, LossHead.miss, scale, meanSq]
    · rw [LossHead.final3 m c]
      funext i
      rw [LossHead.dx_terms]
      pointwise [Cert.LossHeadReferenceIdeal.Value.res_out1, Cert.LossHeadReferenceIdeal.Value.res_main_v50, LossHead.twice, LossHead.miss, through, scale, meanSq, h0, h1, h2]
      simp only [Fin.sum_univ_one]
    · rw [h0, h1, h2, LossHead.final4 m c]
      funext i
      rw [LossHead.dg_terms]
      pointwise [LossHead.twice, LossHead.miss, scale, meanSq]
      rw [Fin.sum_univ_one]) (Cert.LossHeadReferenceIdeal.Value.run m' g')⟩

end Cert.Loss

end
-- ==== Proof.MemNorm.lean ====
/-
# The RMS norm of the memory and its gradients

The same bodies as the norms of the tokens, with all 512 rows of the memory in one block: the grid has one point, and the gradient of
the gain is that point's sum, added to zero.
-/
module

public import proofs.«01_k».proof.Defs
public import proofs.«01_k».proof.Proof.Rows
public import proofs.«01_k».proof.Proof.Gen.NormMemKernelIdeal.Value
public import proofs.«01_k».proof.Proof.Gen.NormMemReferenceIdeal.Run
public import proofs.«01_k».proof.Proof.Gen.NormMemBwdKernelIdeal.Value
public import proofs.«01_k».proof.Proof.Gen.NormMemBwdReferenceIdeal.Run
public import Idealize.ShloMosaic.Lib.Pipeline.ValueKit
public import Idealize.ShloMosaic.Lib.Pointwise

@[expose] public section

set_option maxRecDepth 16384

noncomputable section

namespace Cert.MemNorm

open Idealize.ShloMosaic Idealize.ShloMosaic.TcCoe Idealize.SL.Sem Cert.Rows

namespace NormMem

open Cert.NormMemKernelIdeal Cert.NormMemKernelIdeal.Gen

variable (m : (ℓ : Loc nD τ sig) → Buf (Elt Ideal) ℓ)

theorem pay_norm (x : FVec Ideal S512x1024 .f32) (g : FVec Ideal S1x1024 .f32) (a : Fin 512) (l : Fin 1024) :
    k0_pay1 x g (ix2 a l) = x (ix2 a l) * scale (fun k => x (ix2 a k)) * g (ix2 0 l) := by
  pointwise [k0_pay1, scale, meanSq]

/-- The norm of every row, times the gain. -/
def norm (x : FVec Ideal S512x1024 .f32) (g : FVec Ideal S1024 .f32) : FVec Ideal S512x1024 .f32 :=
  fun i => x (ix2 (i 0) (i 1)) * scale (fun k => x (ix2 (i 0) k)) * g (ix1 (i 1))

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- What the grid reads of the gain: the argument as one row. -/
theorem gain (c : Dev nD) (k : Fin 1024) : V m c main_v0 (ix2 0 k) = m ((c.tc : Thread nD τ).loc main_arg1) (ix1 k) := by
  have e : V m c main_v0 = shapeCast S1x1024 (m ((c.tc : Thread nD τ).loc main_arg1)) shapeCasts_S1024_S1x1024 := by
    unfold_abbrev_sides
    after_results
    rfl
  rw [e]
  pointwise

theorem block0 (c : Dev nD) (t : Fin cfg0.N) (a : Fin 512) (k : Fin 1024) :
    iblk m c 0 t (ix2 a k) = m ((c.tc : Thread nD τ).loc main_arg0) (ix2 a k) := by
  blk_simp [iblk, V]; congr 1; blk_ext [index0]

theorem block1 (c : Dev nD) (t : Fin cfg0.N) (k : Fin 1024) :
    iblk m c 1 t (ix2 0 k) = m ((c.tc : Thread nD τ).loc main_arg1) (ix1 k) := by
  rw [← gain m c]; blk_simp [iblk]; congr 1; blk_ext [index1]

theorem final (c : Dev nD) : (dats m 0 c).arrAt 2 cfg0.N = norm (m ((c.tc : Thread nD τ).loc main_arg0)) (m ((c.tc : Thread nD τ).loc main_arg1)) := by
  refine (dats m 0 c).arrAt_eq_of_covers 2 _ (by decide +kernel) fun t hf y => ?_
  obtain ⟨a, l, rfl⟩ : ∃ a l, y = ix2 a l := ⟨_, _, eq_ix2 y⟩
  blk_simp
  have e : (win0_2.blk t).view.emb (ix2 a l) = ix2 a l := by blk_ext [index2]
  rw [after0_2, e]
  frame_out
  rw [pay_norm]
  simp only [block0, block1]
  rfl

end NormMem

theorem normMem : Cert.algebraic_NormMemKernelIdeal_NormMemReferenceIdeal (hNormMemKernelIdeal := Cert.NormMemKernelIdeal.Gen.facts) (hNormMemReferenceIdeal := Cert.NormMemReferenceIdeal.Gen.facts) :=
  fun m g m' g' _ h => ⟨_, Cert.NormMemKernelIdeal.Value.run_blocks m g, (θ_run Cert.NormMemReferenceIdeal.defs _ _).mono (fun r e c => by
    obtain ⟨e0, e1⟩ := e c
    obtain ⟨h0, h1⟩ := h c
    refine ⟨e0.trans ?_, e1⟩
    rw [h0, h1, NormMem.final m c]
    funext i
    pointwise [NormMem.norm, scale, meanSq]) (Cert.NormMemReferenceIdeal.Value.run m' g')⟩

namespace NormMemBwd

open Cert.NormMemBwdKernelIdeal Cert.NormMemBwdKernelIdeal.Gen

variable (m : (ℓ : Loc nD τ sig) → Buf (Elt Ideal) ℓ)

theorem pay_grad (dy x : FVec Ideal S512x1024 .f32) (g : FVec Ideal S1x1024 .f32) (a : Fin 512) (l : Fin 1024) :
    k0_pay3 dy x g (ix2 a l) = grad (fun k => dy (ix2 a k) * g (ix2 0 k)) (fun k => x (ix2 a k)) l := by
  pointwise [k0_pay3, k0_pay2, k0_pay1, grad, scale, meanSq]

theorem pay_gain (dy x : FVec Ideal S512x1024 .f32) (b : FVec Ideal S1x1024 .f32) (l : Fin 1024) :
    k0_pay5 dy x b (ix2 0 l) = b (ix2 0 l) + ∑ a : Fin 512, dy (ix2 a l) * (x (ix2 a l) * scale (fun k => x (ix2 a k))) := by
  pointwise [k0_pay5, k0_pay2, k0_pay1, scale, meanSq]

theorem zero_at (i : S1x1024.Idx) : k0_pay4 (F := Ideal) i = 0 := by
  pointwise [k0_pay4]

/-- The gradient of the input. -/
def dx (dy x : FVec Ideal S512x1024 .f32) (g : FVec Ideal S1024 .f32) : FVec Ideal S512x1024 .f32 :=
  fun i => grad (fun k => dy (ix2 (i 0) k) * g (ix1 k)) (fun k => x (ix2 (i 0) k)) (i 1)

/-- The gradient of the input with the derivative's terms apart. -/
theorem dx_terms (dy x : FVec Ideal S512x1024 .f32) (g : FVec Ideal S1024 .f32) (i : S512x1024.Idx) :
    dx dy x g i = dy (ix2 (i 0) (i 1)) * g (ix1 (i 1)) * scale (fun k => x (ix2 (i 0) k)) +
      x (ix2 (i 0) (i 1)) * through (fun k => dy (ix2 (i 0) k) * g (ix1 k)) (fun k => x (ix2 (i 0) k)) +
      through (fun k => dy (ix2 (i 0) k) * g (ix1 k)) (fun k => x (ix2 (i 0) k)) * x (ix2 (i 0) (i 1)) :=
  (terms_eq (fun k => dy (ix2 (i 0) k) * g (ix1 k)) (fun k => x (ix2 (i 0) k)) (i 1)).symm

/-- The gradient of the gain: a sum over the rows. -/
def dg (dy x : FVec Ideal S512x1024 .f32) : FVec Ideal S1x1024 .f32 :=
  fun i => ∑ a : Fin 512, dy (ix2 a (i 1)) * (x (ix2 a (i 1)) * scale (fun k => x (ix2 a k)))

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)

/-- What the grid reads of the gain: the argument as one row. -/
theorem gain (c : Dev nD) (k : Fin 1024) : V m c main_v0 (ix2 0 k) = m ((c.tc : Thread nD τ).loc main_arg2) (ix1 k) := by
  have e : V m c main_v0 = shapeCast S1x1024 (m ((c.tc : Thread nD τ).loc main_arg2)) shapeCasts_S1024_S1x1024 := by
    unfold_abbrev_sides
    after_results
    rfl
  rw [e]
  pointwise

theorem block0 (c : Dev nD) (t : Fin cfg0.N) (a : Fin 512) (k : Fin 1024) :
    iblk m c 0 t (ix2 a k) = m ((c.tc : Thread nD τ).loc main_arg0) (ix2 a k) := by
  blk_simp [iblk, V]; congr 1; blk_ext [index0]

theorem block1 (c : Dev nD) (t : Fin cfg0.N) (a : Fin 512) (k : Fin 1024) :
    iblk m c 1 t (ix2 a k) = m ((c.tc : Thread nD τ).loc main_arg1) (ix2 a k) := by
  blk_simp [iblk, V]; congr 1; blk_ext [index1]

theorem block2 (c : Dev nD) (t : Fin cfg0.N) (k : Fin 1024) :
    iblk m c 2 t (ix2 0 k) = m ((c.tc : Thread nD τ).loc main_arg2) (ix1 k) := by
  rw [← gain m c]; blk_simp [iblk]; congr 1; blk_ext [index2]

theorem final3 (c : Dev nD) : (dats m 0 c).arrAt 3 cfg0.N =
    dx (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨a, l, rfl⟩ : ∃ a l, y = ix2 a l := ⟨_, _, eq_ix2 y⟩
  blk_simp
  have e : (win0_3.blk t).view.emb (ix2 a l) = ix2 a l := by blk_ext [index3]
  rw [after0_3, e, outsAt0]
  frame_out
  rw [pay_grad]
  simp only [block0, block1, block2]
  rfl

theorem final4 (c : Dev nD) : (dats m 0 c).arrAt 4 cfg0.N =
    dg (m ((c.tc : Thread nD τ).loc main_arg0)) (m ((c.tc : Thread nD τ).loc main_arg1)) := by
  refine (dats m 0 c).arrAt_eq_of_covers 4 _ (by decide +kernel) fun t hf y => ?_
  obtain ⟨l, rfl⟩ : ∃ l, y = ix2 0 l := ⟨y 1, by blk_ext⟩
  blk_simp
  have e : (win0_4.blk t).view.emb (ix2 0 l) = ix2 0 l := by blk_ext [index4]
  rw [after0_4, e, outsAt0]
  frame_out
  rw [pay_gain, zero_at, zero_add]
  simp only [block0, block1]
  rfl

end NormMemBwd

theorem normMemBwd : Cert.algebraic_NormMemBwdKernelIdeal_NormMemBwdReferenceIdeal (hNormMemBwdKernelIdeal := Cert.NormMemBwdKernelIdeal.Gen.facts) (hNormMemBwdReferenceIdeal := Cert.NormMemBwdReferenceIdeal.Gen.facts) :=
  fun m g m' g' _ h => ⟨_, _, Cert.NormMemBwdKernelIdeal.Value.run_blocks m g, (θ_run Cert.NormMemBwdReferenceIdeal.defs _ _).mono (fun r e c => by
    obtain ⟨e0, e1, e2⟩ := e c
    obtain ⟨h0, h1, h2⟩ := h c
    refine ⟨e0.trans ?_, e1.trans ?_, e2⟩
    · rw [h0, h1, h2, NormMemBwd.final3 m c]
      funext i
      rw [NormMemBwd.dx_terms]
      pointwise [through, scale, meanSq]
      simp only [Fin.sum_univ_one]
    · rw [h0, h1, NormMemBwd.final4 m c]
      funext i
      pointwise [NormMemBwd.dg, scale, meanSq]
      rw [Fin.sum_univ_one]
      exact Finset.sum_congr rfl fun _ _ => mul_comm _ _) (Cert.NormMemBwdReferenceIdeal.Value.run m' g')⟩

end Cert.MemNorm

end
-- ==== Proof.Products.lean ====
/-
# Matrix products, a tile at a time

A kernel that takes a product tile by tile and adds up the tiles of the common axis in an array it carries from point to point of its
grid leaves the product of the whole matrices: each entry's sum over the common axis is the sum over its tiles of each tile's sum. A
product with a transposed factor is a gradient of the plain one.
-/
module

public import proofs.«01_k».proof.Defs
public import proofs.«01_k».proof.Proof.Gen.DownKernelIdeal.Value
public import proofs.«01_k».proof.Proof.Gen.DownReferenceIdeal.Run
public import proofs.«01_k».proof.Proof.Gen.DactKernelIdeal.Value
public import proofs.«01_k».proof.Proof.Gen.DactReferenceIdeal.Run
public import proofs.«01_k».proof.Proof.Gen.DwDownKernelIdeal.Value
public import proofs.«01_k».proof.Proof.Gen.DwDownReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Products

open Idealize.ShloMosaic Idealize.ShloMosaic.TcCoe Idealize.SL.Sem

namespace Down

open Cert.DownKernelIdeal Cert.DownKernelIdeal.Gen

variable (m : (ℓ : Loc nD τ sig) → Buf (Elt Ideal) ℓ)

theorem pay_product (s : FVec Ideal S512x512 .f32) (a : FVec Ideal S512x1408 .f32) (b : FVec Ideal S1408x512 .bf16) (i j : Fin 512) :
    k0_pay2 s a b (ix2 i j) = s (ix2 i j) + ∑ k : Fin 1408, a (ix2 i k) * b (ix2 k j) := by
  pointwise [k0_pay2]

theorem pay_zero (i : S512x512.Idx) : k0_pay1 (F := Ideal) i = 0 := by
  pointwise [k0_pay1]

theorem pay_add (r s : FVec Ideal S512x512 .f32) (i : S512x512.Idx) : k0_pay3 r s i = r i + s i := by
  pointwise [k0_pay3]

/-- An entry of the product. -/
def entry (a : FVec Ideal S4096x2816 .f32) (b : FVec Ideal S2816x1024 .bf16) (x : Fin 4096) (y : Fin 1024) : Ideal .f32 :=
  ∑ k : Fin 2816, a (ix2 x k) * b (ix2 k y)

/-- The product, the residual added. -/
def product (a : FVec Ideal S4096x2816 .f32) (b : FVec Ideal S2816x1024 .bf16) (r : FVec Ideal S4096x1024 .f32) : FVec Ideal S4096x1024 .f32 :=
  fun i => r i + entry a b (i 0) (i 1)

/-- Row `x` of the tile of rows that point `t` of the grid takes. -/
def row (t : Fin cfg0.N) (x : Fin 512) : Fin 4096 := ⟨t.val / 4 * 512 + x.val, by have := t.isLt; have : cfg0.N = 32 := N_0; omega⟩

/-- Column `y` of the tile of columns that point `t` takes. -/
def col (t : Fin cfg0.N) (y : Fin 512) : Fin 1024 := ⟨t.val / 2 % 2 * 512 + y.val, by omega⟩

/-- Position `k` of the part of the common axis that point `t` takes. -/
def mid (t : Fin cfg0.N) (k : Fin 1408) : Fin 2816 := ⟨t.val % 2 * 1408 + k.val, by omega⟩

theorem index0 : ∀ t : Fin cfg0.N, win0_0.index t = ![t.val / 4, t.val % 2] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)
theorem index3 : ∀ t : Fin cfg0.N, win0_3.index t = ![t.val / 4, t.val / 2 % 2] := (by decide +kernel : ∀ t : Fin grid0.N, _)

theorem block0 (c : Dev nD) (t : Fin cfg0.N) (x : Fin 512) (k : Fin 1408) :
    iblk m c 0 t (ix2 x k) = m ((c.tc : Thread nD τ).loc main_arg0) (ix2 (row t x) (mid t k)) := by
  blk_simp [iblk, V]; congr 1; blk_ext [index0, row, mid]

theorem block1 (c : Dev nD) (t : Fin cfg0.N) (k : Fin 1408) (y : Fin 512) :
    iblk m c 1 t (ix2 k y) = m ((c.tc : Thread nD τ).loc main_arg1) (ix2 (mid t k) (col t y)) := by
  blk_simp [iblk, V]; congr 1; blk_ext [index1, col, mid]

theorem block2 (c : Dev nD) (t : Fin cfg0.N) (x y : Fin 512) :
    iblk m c 2 t (ix2 x y) = m ((c.tc : Thread nD τ).loc main_arg2) (ix2 (row t x) (col t y)) := by
  blk_simp [iblk, V]; congr 1; blk_ext [index2, row, col]

/-- What point `t` adds to its tile of the product. -/
def part (a : FVec Ideal S4096x2816 .f32) (b : FVec Ideal S2816x1024 .bf16) (t : Fin cfg0.N) : FVec Ideal S512x512 .f32 :=
  fun i => ∑ k : Fin 1408, a (ix2 (row t (i 0)) (mid t k)) * b (ix2 (mid t k) (col t (i 1)))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x2816 .f32) (b : FVec Ideal S2816x1024 .bf16) (t : Fin cfg0.N) (i : S512x512.Idx)
    (h : ∀ s : Fin 2, 2 * (t.val / 2) + s.val < cfg0.N) :
    ∑ s : Fin 2, part a b ⟨2 * (t.val / 2) + s.val, h s⟩ i = entry a b (row t (i 0)) (col t (i 1)) := by
  refine Fin.sum_mul_add_congr (fun s k hl => ?_) (show 2816 = 2 * 1408 by rfl)
  have e0 : row ⟨2 * (t.val / 2) + s.val, h s⟩ (i 0) = row t (i 0) := Fin.ext (by simp only [row]; omega)
  have e1 : col ⟨2 * (t.val / 2) + s.val, h s⟩ (i 1) = col t (i 1) := Fin.ext (by simp only [col]; omega)
  have e2 : mid ⟨2 * (t.val / 2) + s.val, h s⟩ k = ⟨s.val * 1408 + k.val, hl⟩ := Fin.ext (by simp only [mid]; omega)
  rw [e0, e1, e2]

/-- What the kernel carries after the last point of a tile: the tile of the product. -/
theorem carried (c : Dev nD) (t : Fin cfg0.N) (ht : t.val % 2 = 1) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 2 (fun _ => 0) (part (m ((c.tc : Thread nD τ).loc main_arg0)) (m ((c.tc : Thread nD τ).loc main_arg1)))
    (fun t h j => by rw [outsAt0_A m c t h (by omega)]; frame_out; rw [part_at, pay_zero])
    (fun t h j => by rw [outsAt0_B m c t h (by omega)]; frame_out; simp only [read_unread_whole]; rw [part_at])
    t ht i, zero_add]
  exact parts _ _ t i _

theorem final (c : Dev nD) : (dats m 0 c).arrAt 3 cfg0.N = product (m ((c.tc : Thread nD τ).loc main_arg0)) (m ((c.tc : Thread nD τ).loc main_arg1)) (m ((c.tc : Thread nD τ).loc main_arg2)) := by
  refine (dats m 0 c).arrAt_eq_of_covers 3 _ (by decide +kernel) fun t hf i => ?_
  obtain ⟨x, y, rfl⟩ : ∃ x y, i = ix2 x y := ⟨_, _, eq_ix2 i⟩
  blk_simp
  have ht : t.val % 2 = 1 := by revert hf; revert t; decide +kernel
  have e : (win0_3.blk t).view.emb (ix2 x y) = ix2 (row t x) (col t y) := by blk_ext [index3, row, col]
  have o : (outsAt0 m c t.val t.isLt).1 = k0_pay3 (iblk m c 2 t) (outsAt0 m c t.val t.isLt).2 := by
    rw [outsAt0_B m c t (by omega) ht]; frame_out
  rw [after0_3, e, o, pay_add, carried m c t ht, block2]
  rfl

end Down

theorem down : Cert.algebraic_DownKernelIdeal_DownReferenceIdeal (hDownKernelIdeal := Cert.DownKernelIdeal.Gen.facts) (hDownReferenceIdeal := Cert.DownReferenceIdeal.Gen.facts) :=
  fun m g m' g' _ h => ⟨_, Cert.DownKernelIdeal.Value.run_blocks m g, (θ_run Cert.DownReferenceIdeal.defs _ _).mono (fun r e c => by
    obtain ⟨e0, e1⟩ := e c
    obtain ⟨h0, h1, h2⟩ := h c
    refine ⟨e0.trans ?_, e1⟩
    rw [h0, h1, h2, Down.final m c]
    funext i
    pointwise [Down.product, Down.entry]) (Cert.DownReferenceIdeal.Value.run m' g')⟩

namespace Dact

open Cert.DactKernelIdeal Cert.DactKernelIdeal.Gen

variable (m : (ℓ : Loc nD τ sig) → Buf (Elt Ideal) ℓ)

theorem pay_product (s : FVec Ideal S512x256 .f32) (a : FVec Ideal S512x1024 .f32) (b : FVec Ideal S256x1024 .bf16) (i : Fin 512) (j : Fin 256) :
    k0_pay2 s a b (ix2 i j) = s (ix2 i j) + ∑ k : Fin 1024, a (ix2 i k) * b (ix2 j k) := by
  pointwise [k0_pay2]

theorem pay_zero (i : S512x256.Idx) : k0_pay1 (F := Ideal) i = 0 := by
  pointwise [k0_pay1]

/-- The product with the second factor transposed. -/
def product (a : FVec Ideal S4096x1024 .f32) (b : FVec Ideal S2816x1024 .bf16) : FVec Ideal S4096x2816 .f32 :=
  fun i => ∑ k : Fin 1024, a (ix2 (i 0) k) * b (ix2 (i 1) k)

/-- Row `x` of the tile of rows that point `t` of the grid takes. -/
def row (t : Fin cfg0.N) (x : Fin 512) : Fin 4096 := ⟨t.val / 11 * 512 + x.val, by have := t.isLt; have : cfg0.N = 88 := N_0; omega⟩

/-- Column `y` of the tile of columns that point `t` takes. -/
def col (t : Fin cfg0.N) (y : Fin 256) : Fin 2816 := ⟨t.val % 11 * 256 + y.val, by omega⟩

theorem index0 : ∀ t : Fin cfg0.N, win0_0.index t = ![t.val / 11, 0] := (by decide +kernel : ∀ t : Fin grid0.N, _)
theorem index1 : ∀ t : Fin cfg0.N, win0_1.index t = ![t.val % 11, 0] := (by decide +kernel : ∀ t : Fin grid0.N, _)
theorem index2 : ∀ t : Fin cfg0.N, win0_2.index t = ![t.val / 11, t.val % 11] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 256) (k : Fin 1024) :
    iblk m c 1 t (ix2 y k) = m ((c.tc : Thread nD τ).loc main_arg1) (ix2 (col t y) k) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Dact

theorem dact : Cert.algebraic_DactKernelIdeal_DactReferenceIdeal (hDactKernelIdeal := Cert.DactKernelIdeal.Gen.facts) (hDactReferenceIdeal := Cert.DactReferenceIdeal.Gen.facts) :=
  fun m g m' g' _ h => ⟨_, Cert.DactKernelIdeal.Value.run_blocks m g, (θ_run Cert.DactReferenceIdeal.defs _ _).mono (fun r e c => by
    obtain ⟨e0, e1⟩ := e c
    obtain ⟨h0, h1⟩ := h c
    refine ⟨e0.trans ?_, e1⟩
    rw [h0, h1, Dact.final m c]
    funext i
    pointwise [Dact.product]) (Cert.DactReferenceIdeal.Value.run m' g')⟩

namespace DwDown

open Cert.DwDownKernelIdeal Cert.DwDownKernelIdeal.Gen

variable (m : (ℓ : Loc nD τ sig) → Buf (Elt Ideal) ℓ)

theorem pay_product (s : FVec Ideal S256x512 .f32) (a : FVec Ideal S1024x256 .f32) (b : FVec Ideal S1024x512 .f32) (i : Fin 256) (j : Fin 512) :
    k0_pay2 s a b (ix2 i j) = s (ix2 i j) + ∑ k : Fin 1024, a (ix2 k i) * b (ix2 k j) := by
  pointwise [k0_pay2]

theorem pay_zero (i : S256x512.Idx) : k0_pay1 (F := Ideal) i = 0 := by
  pointwise [k0_pay1]

/-- An entry of the product with the first factor transposed. -/
def entry (a : FVec Ideal S4096x2816 .f32) (b : FVec Ideal S4096x1024 .f32) (x : Fin 2816) (y : Fin 1024) : Ideal .f32 :=
  ∑ k : Fin 4096, a (ix2 k x) * b (ix2 k y)

/-- The product with the first factor transposed. -/
def product (a : FVec Ideal S4096x2816 .f32) (b : FVec Ideal S4096x1024 .f32) : FVec Ideal S2816x1024 .f32 :=
  fun i => entry a b (i 0) (i 1)

/-- Row `x` of the tile of rows that point `t` of the grid takes. -/
def row (t : Fin cfg0.N) (x : Fin 256) : Fin 2816 := ⟨t.val / 8 * 256 + x.val, by have := t.isLt; have : cfg0.N = 88 := N_0; omega⟩

/-- Column `y` of the tile of columns that point `t` takes. -/
def col (t : Fin cfg0.N) (y : Fin 512) : Fin 1024 := ⟨t.val / 4 % 2 * 512 + y.val, by omega⟩

/-- Position `k` of the part of the common axis that point `t` takes. -/
def mid (t : Fin cfg0.N) (k : Fin 1024) : Fin 4096 := ⟨t.val % 4 * 1024 + k.val, by omega⟩

theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)

theorem block0 (c : Dev nD) (t : Fin cfg0.N) (k : Fin 1024) (x : Fin 256) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 512) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x2816 .f32) (b : FVec Ideal S4096x1024 .f32) (t : Fin cfg0.N) : FVec Ideal S256x512 .f32 :=
  fun i => ∑ k : Fin 1024, a (ix2 (mid t k) (row t (i 0))) * b (ix2 (mid t k) (col t (i 1)))

theorem part_at (c : Dev nD) (t : Fin cfg0.N) (s : FVec Ideal S256x512 .f32) (i : S256x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x2816 .f32) (b : FVec Ideal S4096x1024 .f32) (t : Fin cfg0.N) (i : S256x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := Fin.ext (by simp only [row]; omega)
  have e1 : col ⟨4 * (t.val / 4) + s.val, h s⟩ (i 1) = col t (i 1) := Fin.ext (by simp only [col]; omega)
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S256x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwDown

theorem dwDown : Cert.algebraic_DwDownKernelIdeal_DwDownReferenceIdeal (hDwDownKernelIdeal := Cert.DwDownKernelIdeal.Gen.facts) (hDwDownReferenceIdeal := Cert.DwDownReferenceIdeal.Gen.facts) :=
  fun m g m' g' _ h => ⟨_, Cert.DwDownKernelIdeal.Value.run_blocks m g, (θ_run Cert.DwDownReferenceIdeal.defs _ _).mono (fun r e c => by
    obtain ⟨e0, e1⟩ := e c
    obtain ⟨h0, h1⟩ := h c
    refine ⟨e0.trans ?_, e1⟩
    rw [h0, h1, DwDown.final m c]
    funext i
    pointwise [DwDown.product, DwDown.entry]
    exact Finset.sum_congr rfl fun _ _ => mul_comm _ _) (Cert.DwDownReferenceIdeal.Value.run m' g')⟩

end Cert.Products

end
-- ==== Proof.Forward.lean ====
/-
# The products of the forward pass

The projections of a layer and the products onto the residual, each a product of a device's rows with a weight matrix. A point of the
grid takes a tile of the result and the whole common axis.
-/
module

public import proofs.«01_k».proof.Defs
public import proofs.«01_k».proof.Proof.Gen.ProjKernelIdeal.Value
public import proofs.«01_k».proof.Proof.Gen.ProjReferenceIdeal.Run
public import proofs.«01_k».proof.Proof.Gen.OutKernelIdeal.Value
public import proofs.«01_k».proof.Proof.Gen.OutReferenceIdeal.Run
public import proofs.«01_k».proof.Proof.Gen.CqKernelIdeal.Value
public import proofs.«01_k».proof.Proof.Gen.CqReferenceIdeal.Run
public import proofs.«01_k».proof.Proof.Gen.CkKernelIdeal.Value
public import proofs.«01_k».proof.Proof.Gen.CkReferenceIdeal.Run
public import proofs.«01_k».proof.Proof.Gen.CoKernelIdeal.Value
public import proofs.«01_k».proof.Proof.Gen.CoReferenceIdeal.Run
public import proofs.«01_k».proof.Proof.Gen.UpKernelIdeal.Value
public import proofs.«01_k».proof.Proof.Gen.UpReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Forward

open Idealize.ShloMosaic Idealize.ShloMosaic.TcCoe Idealize.SL.Sem

namespace Proj

open Cert.ProjKernelIdeal Cert.ProjKernelIdeal.Gen

variable (m : (ℓ : Loc nD τ sig) → Buf (Elt Ideal) ℓ)

theorem pay_product (s : FVec Ideal S512x512 .f32) (a : FVec Ideal S512x1024 .f32) (b : FVec Ideal S1024x512 .bf16) (i : Fin 512) (j : Fin 512) :
    k0_pay2 s a b (ix2 i j) = s (ix2 i j) + ∑ k : Fin 1024, a (ix2 i k) * b (ix2 k j) := by
  pointwise [k0_pay2]

theorem pay_zero (i : S512x512.Idx) : k0_pay1 (F := Ideal) i = 0 := by
  pointwise [k0_pay1]

/-- An entry of the product. -/
def entry (a : FVec Ideal S4096x1024 .f32) (b : FVec Ideal S1024x3072 .bf16) (x : Fin 4096) (y : Fin 3072) : Ideal .f32 :=
  ∑ k : Fin 1024, a (ix2 x k) * b (ix2 k y)

/-- The product. -/
def product (a : FVec Ideal S4096x1024 .f32) (b : FVec Ideal S1024x3072 .bf16) : FVec Ideal S4096x3072 .f32 :=
  fun i => entry a b (i 0) (i 1)

/-- Row `x` of the tile of rows that point `t` of the grid takes. -/
def row (t : Fin cfg0.N) (x : Fin 512) : Fin 4096 := ⟨t.val / 6 * 512 + x.val, by have := t.isLt; have : cfg0.N = 48 := N_0; omega⟩

/-- Column `y` of the tile of columns that point `t` takes. -/
def col (t : Fin cfg0.N) (y : Fin 512) : Fin 3072 := ⟨t.val % 6 * 512 + y.val, by have := t.isLt; have : cfg0.N = 48 := N_0; omega⟩

theorem index0 : ∀ t : Fin cfg0.N, win0_0.index t = ![t.val / 6, 0] := (by decide +kernel : ∀ t : Fin grid0.N, _)
theorem index1 : ∀ t : Fin cfg0.N, win0_1.index t = ![0, t.val % 6] := (by decide +kernel : ∀ t : Fin grid0.N, _)
theorem index2 : ∀ t : Fin cfg0.N, win0_2.index t = ![t.val / 6, t.val % 6] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 1024) (y : Fin 512) :
    iblk m c 1 t (ix2 k y) = m ((c.tc : Thread nD τ).loc main_arg1) (ix2 k (col t y)) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Proj

theorem proj : Cert.algebraic_ProjKernelIdeal_ProjReferenceIdeal (hProjKernelIdeal := Cert.ProjKernelIdeal.Gen.facts) (hProjReferenceIdeal := Cert.ProjReferenceIdeal.Gen.facts) :=
  fun m g m' g' _ h => ⟨_, Cert.ProjKernelIdeal.Value.run_blocks m g, (θ_run Cert.ProjReferenceIdeal.defs _ _).mono (fun r e c => by
    obtain ⟨e0, e1⟩ := e c
    obtain ⟨h0, h1⟩ := h c
    refine ⟨e0.trans ?_, e1⟩
    rw [h0, h1, Proj.final m c]
    funext i
    pointwise [Proj.product, Proj.entry]) (Cert.ProjReferenceIdeal.Value.run m' g')⟩

namespace Out

open Cert.OutKernelIdeal Cert.OutKernelIdeal.Gen

variable (m : (ℓ : Loc nD τ sig) → Buf (Elt Ideal) ℓ)

theorem pay_product (s : FVec Ideal S512x512 .f32) (a : FVec Ideal S512x1024 .f32) (b : FVec Ideal S1024x512 .bf16) (i : Fin 512) (j : Fin 512) :
    k0_pay2 s a b (ix2 i j) = s (ix2 i j) + ∑ k : Fin 1024, a (ix2 i k) * b (ix2 k j) := by
  pointwise [k0_pay2]

theorem pay_zero (i : S512x512.Idx) : k0_pay1 (F := Ideal) i = 0 := by
  pointwise [k0_pay1]

theorem pay_add (r s : FVec Ideal S512x512 .f32) (i : S512x512.Idx) : k0_pay3 r s i = r i + s i := by
  pointwise [k0_pay3]

/-- An entry of the product. -/
def entry (a : FVec Ideal S4096x1024 .f32) (b : FVec Ideal S1024x1024 .bf16) (x : Fin 4096) (y : Fin 1024) : Ideal .f32 :=
  ∑ k : Fin 1024, a (ix2 x k) * b (ix2 k y)

/-- The product, the third array added. -/
def product (a : FVec Ideal S4096x1024 .f32) (b : FVec Ideal S1024x1024 .bf16) (r : FVec Ideal S4096x1024 .f32) : FVec Ideal S4096x1024 .f32 :=
  fun i => r i + entry a b (i 0) (i 1)

/-- Row `x` of the tile of rows that point `t` of the grid takes. -/
def row (t : Fin cfg0.N) (x : Fin 512) : Fin 4096 := ⟨t.val / 2 * 512 + x.val, by have := t.isLt; have : cfg0.N = 16 := N_0; omega⟩

/-- Column `y` of the tile of columns that point `t` takes. -/
def col (t : Fin cfg0.N) (y : Fin 512) : Fin 1024 := ⟨t.val % 2 * 512 + y.val, by have := t.isLt; have : cfg0.N = 16 := N_0; omega⟩

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 1024) (y : Fin 512) :
    iblk m c 1 t (ix2 k y) = m ((c.tc : Thread nD τ).loc main_arg1) (ix2 k (col t y)) := by
  blk_simp [iblk, V]; congr 1; blk_ext [index1, col]

theorem block2 (c : Dev nD) (t : Fin cfg0.N) (x : Fin 512) (y : Fin 512) :
    iblk m c 2 t (ix2 x y) = m ((c.tc : Thread nD τ).loc main_arg2) (ix2 (row t x) (col t y)) := by
  blk_simp [iblk, V]; congr 1; blk_ext [index2, row, col]

theorem final (c : Dev nD) : (dats m 0 c).arrAt 3 cfg0.N = product (m ((c.tc : Thread nD τ).loc main_arg0)) (m ((c.tc : Thread nD τ).loc main_arg1)) (m ((c.tc : Thread nD τ).loc main_arg2)) := by
  refine (dats m 0 c).arrAt_eq_of_covers 3 _ (by decide +kernel) fun t hf i => ?_
  obtain ⟨x, y, rfl⟩ : ∃ x y, i = ix2 x y := ⟨_, _, eq_ix2 i⟩
  blk_simp
  have e : (win0_3.blk t).view.emb (ix2 x y) = ix2 (row t x) (col t y) := by blk_ext [index3, row, col]
  rw [after0_3, e]
  unfold outsAt0
  frame_out
  rw [pay_add, block2, pay_product, pay_zero, zero_add]
  simp only [block0, block1]
  rfl

end Out

theorem out : Cert.algebraic_OutKernelIdeal_OutReferenceIdeal (hOutKernelIdeal := Cert.OutKernelIdeal.Gen.facts) (hOutReferenceIdeal := Cert.OutReferenceIdeal.Gen.facts) :=
  fun m g m' g' _ h => ⟨_, Cert.OutKernelIdeal.Value.run_blocks m g, (θ_run Cert.OutReferenceIdeal.defs _ _).mono (fun r e c => by
    obtain ⟨e0, e1⟩ := e c
    obtain ⟨h0, h1, h2⟩ := h c
    refine ⟨e0.trans ?_, e1⟩
    rw [h0, h1, h2, Out.final m c]
    funext i
    pointwise [Out.product, Out.entry]) (Cert.OutReferenceIdeal.Value.run m' g')⟩

namespace Cq

open Cert.CqKernelIdeal Cert.CqKernelIdeal.Gen

variable (m : (ℓ : Loc nD τ sig) → Buf (Elt Ideal) ℓ)

theorem pay_product (s : FVec Ideal S512x256 .f32) (a : FVec Ideal S512x1024 .f32) (b : FVec Ideal S1024x256 .bf16) (i : Fin 512) (j : Fin 256) :
    k0_pay2 s a b (ix2 i j) = s (ix2 i j) + ∑ k : Fin 1024, a (ix2 i k) * b (ix2 k j) := by
  pointwise [k0_pay2]

theorem pay_zero (i : S512x256.Idx) : k0_pay1 (F := Ideal) i = 0 := by
  pointwise [k0_pay1]

/-- An entry of the product. -/
def entry (a : FVec Ideal S4096x1024 .f32) (b : FVec Ideal S1024x256 .bf16) (x : Fin 4096) (y : Fin 256) : Ideal .f32 :=
  ∑ k : Fin 1024, a (ix2 x k) * b (ix2 k y)

/-- The product. -/
def product (a : FVec Ideal S4096x1024 .f32) (b : FVec Ideal S1024x256 .bf16) : FVec Ideal S4096x256 .f32 :=
  fun i => entry a b (i 0) (i 1)

/-- Row `x` of the tile of rows that point `t` of the grid takes. -/
def row (t : Fin cfg0.N) (x : Fin 512) : Fin 4096 := ⟨t.val * 512 + x.val, by have := t.isLt; have : cfg0.N = 8 := N_0; omega⟩

/-- Column `y` of the tile of columns that point `t` takes. -/
def col (t : Fin cfg0.N) (y : Fin 256) : Fin 256 := ⟨y.val, by have := t.isLt; have : cfg0.N = 8 := N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 1024) (y : Fin 256) :
    iblk m c 1 t (ix2 k y) = m ((c.tc : Thread nD τ).loc main_arg1) (ix2 k (col t y)) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Cq

theorem cq : Cert.algebraic_CqKernelIdeal_CqReferenceIdeal (hCqKernelIdeal := Cert.CqKernelIdeal.Gen.facts) (hCqReferenceIdeal := Cert.CqReferenceIdeal.Gen.facts) :=
  fun m g m' g' _ h => ⟨_, Cert.CqKernelIdeal.Value.run_blocks m g, (θ_run Cert.CqReferenceIdeal.defs _ _).mono (fun r e c => by
    obtain ⟨e0, e1⟩ := e c
    obtain ⟨h0, h1⟩ := h c
    refine ⟨e0.trans ?_, e1⟩
    rw [h0, h1, Cq.final m c]
    funext i
    pointwise [Cq.product, Cq.entry]) (Cert.CqReferenceIdeal.Value.run m' g')⟩

namespace Ck

open Cert.CkKernelIdeal Cert.CkKernelIdeal.Gen

variable (m : (ℓ : Loc nD τ sig) → Buf (Elt Ideal) ℓ)

theorem pay_product (s : FVec Ideal S512x256 .f32) (a : FVec Ideal S512x1024 .f32) (b : FVec Ideal S1024x256 .bf16) (i : Fin 512) (j : Fin 256) :
    k0_pay2 s a b (ix2 i j) = s (ix2 i j) + ∑ k : Fin 1024, a (ix2 i k) * b (ix2 k j) := by
  pointwise [k0_pay2]

theorem pay_zero (i : S512x256.Idx) : k0_pay1 (F := Ideal) i = 0 := by
  pointwise [k0_pay1]

/-- An entry of the product. -/
def entry (a : FVec Ideal S512x1024 .f32) (b : FVec Ideal S1024x256 .bf16) (x : Fin 512) (y : Fin 256) : Ideal .f32 :=
  ∑ k : Fin 1024, a (ix2 x k) * b (ix2 k y)

/-- The product. -/
def product (a : FVec Ideal S512x1024 .f32) (b : FVec Ideal S1024x256 .bf16) : FVec Ideal S512x256 .f32 :=
  fun i => entry a b (i 0) (i 1)

/-- Row `x` of the tile of rows that point `t` of the grid takes. -/
def row (t : Fin cfg0.N) (x : Fin 512) : Fin 512 := ⟨x.val, by have := t.isLt; have : cfg0.N = 1 := N_0; omega⟩

/-- Column `y` of the tile of columns that point `t` takes. -/
def col (t : Fin cfg0.N) (y : Fin 256) : Fin 256 := ⟨y.val, by have := t.isLt; have : cfg0.N = 1 := N_0; omega⟩

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 1024) (y : Fin 256) :
    iblk m c 1 t (ix2 k y) = m ((c.tc : Thread nD τ).loc main_arg1) (ix2 k (col t y)) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Ck

theorem ck : Cert.algebraic_CkKernelIdeal_CkReferenceIdeal (hCkKernelIdeal := Cert.CkKernelIdeal.Gen.facts) (hCkReferenceIdeal := Cert.CkReferenceIdeal.Gen.facts) :=
  fun m g m' g' _ h => ⟨_, Cert.CkKernelIdeal.Value.run_blocks m g, (θ_run Cert.CkReferenceIdeal.defs _ _).mono (fun r e c => by
    obtain ⟨e0, e1⟩ := e c
    obtain ⟨h0, h1⟩ := h c
    refine ⟨e0.trans ?_, e1⟩
    rw [h0, h1, Ck.final m c]
    funext i
    pointwise [Ck.product, Ck.entry]) (Cert.CkReferenceIdeal.Value.run m' g')⟩

namespace Co

open Cert.CoKernelIdeal Cert.CoKernelIdeal.Gen

variable (m : (ℓ : Loc nD τ sig) → Buf (Elt Ideal) ℓ)

theorem pay_product (s : FVec Ideal S512x512 .f32) (a : FVec Ideal S512x256 .f32) (b : FVec Ideal S256x512 .bf16) (i : Fin 512) (j : Fin 512) :
    k0_pay2 s a b (ix2 i j) = s (ix2 i j) + ∑ k : Fin 256, a (ix2 i k) * b (ix2 k j) := by
  pointwise [k0_pay2]

theorem pay_zero (i : S512x512.Idx) : k0_pay1 (F := Ideal) i = 0 := by
  pointwise [k0_pay1]

theorem pay_add (r s : FVec Ideal S512x512 .f32) (i : S512x512.Idx) : k0_pay3 r s i = r i + s i := by
  pointwise [k0_pay3]

/-- An entry of the product. -/
def entry (a : FVec Ideal S4096x256 .f32) (b : FVec Ideal S256x1024 .bf16) (x : Fin 4096) (y : Fin 1024) : Ideal .f32 :=
  ∑ k : Fin 256, a (ix2 x k) * b (ix2 k y)

/-- The product, the third array added. -/
def product (a : FVec Ideal S4096x256 .f32) (b : FVec Ideal S256x1024 .bf16) (r : FVec Ideal S4096x1024 .f32) : FVec Ideal S4096x1024 .f32 :=
  fun i => r i + entry a b (i 0) (i 1)

/-- Row `x` of the tile of rows that point `t` of the grid takes. -/
def row (t : Fin cfg0.N) (x : Fin 512) : Fin 4096 := ⟨t.val / 2 * 512 + x.val, by have := t.isLt; have : cfg0.N = 16 := N_0; omega⟩

/-- Column `y` of the tile of columns that point `t` takes. -/
def col (t : Fin cfg0.N) (y : Fin 512) : Fin 1024 := ⟨t.val % 2 * 512 + y.val, by have := t.isLt; have : cfg0.N = 16 := N_0; omega⟩

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)

theorem block0 (c : Dev nD) (t : Fin cfg0.N) (x : Fin 512) (k : Fin 256) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 256) (y : Fin 512) :
    iblk m c 1 t (ix2 k y) = m ((c.tc : Thread nD τ).loc main_arg1) (ix2 k (col t y)) := by
  blk_simp [iblk, V]; congr 1; blk_ext [index1, col]

theorem block2 (c : Dev nD) (t : Fin cfg0.N) (x : Fin 512) (y : Fin 512) :
    iblk m c 2 t (ix2 x y) = m ((c.tc : Thread nD τ).loc main_arg2) (ix2 (row t x) (col t y)) := by
  blk_simp [iblk, V]; congr 1; blk_ext [index2, row, col]

theorem final (c : Dev nD) : (dats m 0 c).arrAt 3 cfg0.N = product (m ((c.tc : Thread nD τ).loc main_arg0)) (m ((c.tc : Thread nD τ).loc main_arg1)) (m ((c.tc : Thread nD τ).loc main_arg2)) := by
  refine (dats m 0 c).arrAt_eq_of_covers 3 _ (by decide +kernel) fun t hf i => ?_
  obtain ⟨x, y, rfl⟩ : ∃ x y, i = ix2 x y := ⟨_, _, eq_ix2 i⟩
  blk_simp
  have e : (win0_3.blk t).view.emb (ix2 x y) = ix2 (row t x) (col t y) := by blk_ext [index3, row, col]
  rw [after0_3, e]
  unfold outsAt0
  frame_out
  rw [pay_add, block2, pay_product, pay_zero, zero_add]
  simp only [block0, block1]
  rfl

end Co

theorem co : Cert.algebraic_CoKernelIdeal_CoReferenceIdeal (hCoKernelIdeal := Cert.CoKernelIdeal.Gen.facts) (hCoReferenceIdeal := Cert.CoReferenceIdeal.Gen.facts) :=
  fun m g m' g' _ h => ⟨_, Cert.CoKernelIdeal.Value.run_blocks m g, (θ_run Cert.CoReferenceIdeal.defs _ _).mono (fun r e c => by
    obtain ⟨e0, e1⟩ := e c
    obtain ⟨h0, h1, h2⟩ := h c
    refine ⟨e0.trans ?_, e1⟩
    rw [h0, h1, h2, Co.final m c]
    funext i
    pointwise [Co.product, Co.entry]) (Cert.CoReferenceIdeal.Value.run m' g')⟩

namespace Up

open Cert.UpKernelIdeal Cert.UpKernelIdeal.Gen

variable (m : (ℓ : Loc nD τ sig) → Buf (Elt Ideal) ℓ)

theorem pay_product (s : FVec Ideal S512x512 .f32) (a : FVec Ideal S512x1024 .f32) (b : FVec Ideal S1024x512 .bf16) (i : Fin 512) (j : Fin 512) :
    k0_pay2 s a b (ix2 i j) = s (ix2 i j) + ∑ k : Fin 1024, a (ix2 i k) * b (ix2 k j) := by
  pointwise [k0_pay2]

theorem pay_zero (i : S512x512.Idx) : k0_pay1 (F := Ideal) i = 0 := by
  pointwise [k0_pay1]

/-- An entry of the product. -/
def entry (a : FVec Ideal S4096x1024 .f32) (b : FVec Ideal S1024x5632 .bf16) (x : Fin 4096) (y : Fin 5632) : Ideal .f32 :=
  ∑ k : Fin 1024, a (ix2 x k) * b (ix2 k y)

/-- The product. -/
def product (a : FVec Ideal S4096x1024 .f32) (b : FVec Ideal S1024x5632 .bf16) : FVec Ideal S4096x5632 .f32 :=
  fun i => entry a b (i 0) (i 1)

/-- Row `x` of the tile of rows that point `t` of the grid takes. -/
def row (t : Fin cfg0.N) (x : Fin 512) : Fin 4096 := ⟨t.val / 11 * 512 + x.val, by have := t.isLt; have : cfg0.N = 88 := N_0; omega⟩

/-- Column `y` of the tile of columns that point `t` takes. -/
def col (t : Fin cfg0.N) (y : Fin 512) : Fin 5632 := ⟨t.val % 11 * 512 + y.val, by have := t.isLt; have : cfg0.N = 88 := N_0; omega⟩

theorem index0 : ∀ t : Fin cfg0.N, win0_0.index t = ![t.val / 11, 0] := (by decide +kernel : ∀ t : Fin grid0.N, _)
theorem index1 : ∀ t : Fin cfg0.N, win0_1.index t = ![0, t.val % 11] := (by decide +kernel : ∀ t : Fin grid0.N, _)
theorem index2 : ∀ t : Fin cfg0.N, win0_2.index t = ![t.val / 11, t.val % 11] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (k : Fin 1024) (y : Fin 512) :
    iblk m c 1 t (ix2 k y) = m ((c.tc : Thread nD τ).loc main_arg1) (ix2 k (col t y)) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Up

theorem up : Cert.algebraic_UpKernelIdeal_UpReferenceIdeal (hUpKernelIdeal := Cert.UpKernelIdeal.Gen.facts) (hUpReferenceIdeal := Cert.UpReferenceIdeal.Gen.facts) :=
  fun m g m' g' _ h => ⟨_, Cert.UpKernelIdeal.Value.run_blocks m g, (θ_run Cert.UpReferenceIdeal.defs _ _).mono (fun r e c => by
    obtain ⟨e0, e1⟩ := e c
    obtain ⟨h0, h1⟩ := h c
    refine ⟨e0.trans ?_, e1⟩
    rw [h0, h1, Up.final m c]
    funext i
    pointwise [Up.product, Up.entry]) (Cert.UpReferenceIdeal.Value.run m' g')⟩

end Cert.Forward

end
-- ==== Proof.InputGrads.lean ====
/-
# The gradients of the products' inputs

Each is the product of the result's gradient with the transposed weights. Where the common axis is long, the points of the grid that
take one tile of the result add up their parts of it in an array that is carried from one to the next.
-/
module

public import proofs.«01_k».proof.Defs
public import proofs.«01_k».proof.Proof.Gen.DhnKernelIdeal.Value
public import proofs.«01_k».proof.Proof.Gen.DhnReferenceIdeal.Run
public import proofs.«01_k».proof.Proof.Gen.DocKernelIdeal.Value
public import proofs.«01_k».proof.Proof.Gen.DocReferenceIdeal.Run
public import proofs.«01_k».proof.Proof.Gen.DhqKernelIdeal.Value
public import proofs.«01_k».proof.Proof.Gen.DhqReferenceIdeal.Run
public import proofs.«01_k».proof.Proof.Gen.DmemKKernelIdeal.Value
public import proofs.«01_k».proof.Proof.Gen.DmemKReferenceIdeal.Run
public import proofs.«01_k».proof.Proof.Gen.DmemVKernelIdeal.Value
public import proofs.«01_k».proof.Proof.Gen.DmemVReferenceIdeal.Run
public import proofs.«01_k».proof.Proof.Gen.DmixedKernelIdeal.Value
public import proofs.«01_k».proof.Proof.Gen.DmixedReferenceIdeal.Run
public import proofs.«01_k».proof.Proof.Gen.DhKernelIdeal.Value
public import proofs.«01_k».proof.Proof.Gen.DhReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InputGrads

open Idealize.ShloMosaic Idealize.ShloMosaic.TcCoe Idealize.SL.Sem

namespace Dhn

open Cert.DhnKernelIdeal Cert.DhnKernelIdeal.Gen

variable (m : (ℓ : Loc nD τ sig) → Buf (Elt Ideal) ℓ)

theorem pay_product (s : FVec Ideal S512x512 .f32) (a : FVec Ideal S512x1408 .f32) (b : FVec Ideal S512x1408 .bf16) (i : Fin 512) (j : Fin 512) :
    k0_pay2 s a b (ix2 i j) = s (ix2 i j) + ∑ k : Fin 1408, a (ix2 i k) * b (ix2 j k) := by
  pointwise [k0_pay2]

theorem pay_zero (i : S512x512.Idx) : k0_pay1 (F := Ideal) i = 0 := by
  pointwise [k0_pay1]

/-- An entry of the product with the second factor transposed. -/
def entry (a : FVec Ideal S4096x5632 .f32) (b : FVec Ideal S1024x5632 .bf16) (x : Fin 4096) (y : Fin 1024) : Ideal .f32 :=
  ∑ k : Fin 5632, a (ix2 x k) * b (ix2 y k)

/-- The product with the second factor transposed. -/
def product (a : FVec Ideal S4096x5632 .f32) (b : FVec Ideal S1024x5632 .bf16) : FVec Ideal S4096x1024 .f32 :=
  fun i => entry a b (i 0) (i 1)

/-- Row `x` of the tile of rows that point `t` of the grid takes. -/
def row (t : Fin cfg0.N) (x : Fin 512) : Fin 4096 := ⟨t.val / 8 * 512 + x.val, by have := t.isLt; have : cfg0.N = 64 := N_0; omega⟩

/-- Column `y` of the tile of columns that point `t` takes. -/
def col (t : Fin cfg0.N) (y : Fin 512) : Fin 1024 := ⟨t.val / 4 % 2 * 512 + y.val, by have := t.isLt; have : cfg0.N = 64 := N_0; omega⟩

/-- Position `k` of the part of the common axis that point `t` takes. -/
def mid (t : Fin cfg0.N) (k : Fin 1408) : Fin 5632 := ⟨t.val % 4 * 1408 + k.val, by have := t.isLt; have : cfg0.N = 64 := N_0; omega⟩

theorem index0 : ∀ t : Fin cfg0.N, win0_0.index t = ![t.val / 8, t.val % 4] := (by decide +kernel : ∀ t : Fin grid0.N, _)
theorem index1 : ∀ t : Fin cfg0.N, win0_1.index t = ![t.val / 4 % 2, t.val % 4] := (by decide +kernel : ∀ t : Fin grid0.N, _)
theorem index2 : ∀ t : Fin cfg0.N, win0_2.index t = ![t.val / 8, t.val / 4 % 2] := (by decide +kernel : ∀ t : Fin grid0.N, _)

theorem block0 (c : Dev nD) (t : Fin cfg0.N) (x : Fin 512) (k : Fin 1408) :
    iblk m c 0 t (ix2 x k) = m ((c.tc : Thread nD τ).loc main_arg0) (ix2 (row t x) (mid t k)) := by
  blk_simp [iblk, V]; congr 1; blk_ext [index0, row, mid]

theorem block1 (c : Dev nD) (t : Fin cfg0.N) (y : Fin 512) (k : Fin 1408) :
    iblk m c 1 t (ix2 y k) = m ((c.tc : Thread nD τ).loc main_arg1) (ix2 (col t y) (mid t k)) := by
  blk_simp [iblk, V]; congr 1; blk_ext [index1, col, mid]

/-- What point `t` adds to its tile of the product. -/
def part (a : FVec Ideal S4096x5632 .f32) (b : FVec Ideal S1024x5632 .bf16) (t : Fin cfg0.N) : FVec Ideal S512x512 .f32 :=
  fun i => ∑ k : Fin 1408, a (ix2 (row t (i 0)) (mid t k)) * b (ix2 (col t (i 1)) (mid t k))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x5632 .f32) (b : FVec Ideal S1024x5632 .bf16) (t : Fin cfg0.N) (i : S512x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 5632 = 4 * 1408 by rfl)
  have e0 : row ⟨4 * (t.val / 4) + s.val, h s⟩ (i 0) = row t (i 0) := Fin.ext (by simp only [row]; omega)
  have e1 : col ⟨4 * (t.val / 4) + s.val, h s⟩ (i 1) = col t (i 1) := Fin.ext (by simp only [col]; omega)
  have e2 : mid ⟨4 * (t.val / 4) + s.val, h s⟩ k = ⟨s.val * 1408 + k.val, hl⟩ := Fin.ext (by simp only [mid]; omega)
  rw [e0, e1, e2]

/-- What the kernel carries after the last point of a tile: the tile of the product. -/
theorem carried (c : Dev nD) (t : Fin cfg0.N) (ht : t.val % 4 = 3) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end Dhn

theorem dhn : Cert.algebraic_DhnKernelIdeal_DhnReferenceIdeal (hDhnKernelIdeal := Cert.DhnKernelIdeal.Gen.facts) (hDhnReferenceIdeal := Cert.DhnReferenceIdeal.Gen.facts) :=
  fun m g m' g' _ h => ⟨_, Cert.DhnKernelIdeal.Value.run_blocks m g, (θ_run Cert.DhnReferenceIdeal.defs _ _).mono (fun r e c => by
    obtain ⟨e0, e1⟩ := e c
    obtain ⟨h0, h1⟩ := h c
    refine ⟨e0.trans ?_, e1⟩
    rw [h0, h1, Dhn.final m c]
    funext i
    pointwise [Dhn.product, Dhn.entry]) (Cert.DhnReferenceIdeal.Value.run m' g')⟩

namespace Doc

open Cert.DocKernelIdeal Cert.DocKernelIdeal.Gen

variable (m : (ℓ : Loc nD τ sig) → Buf (Elt Ideal) ℓ)

theorem pay_product (s : FVec Ideal S512x256 .f32) (a : FVec Ideal S512x1024 .f32) (b : FVec Ideal S256x1024 .bf16) (i : Fin 512) (j : Fin 256) :
    k0_pay2 s a b (ix2 i j) = s (ix2 i j) + ∑ k : Fin 1024, a (ix2 i k) * b (ix2 j k) := by
  pointwise [k0_pay2]

theorem pay_zero (i : S512x256.Idx) : k0_pay1 (F := Ideal) i = 0 := by
  pointwise [k0_pay1]

/-- An entry of the product with the second factor transposed. -/
def entry (a : FVec Ideal S4096x1024 .f32) (b : FVec Ideal S256x1024 .bf16) (x : Fin 4096) (y : Fin 256) : Ideal .f32 :=
  ∑ k : Fin 1024, a (ix2 x k) * b (ix2 y k)

/-- The product with the second factor transposed. -/
def product (a : FVec Ideal S4096x1024 .f32) (b : FVec Ideal S256x1024 .bf16) : FVec Ideal S4096x256 .f32 :=
  fun i => entry a b (i 0) (i 1)

/-- Row `x` of the tile of rows that point `t` of the grid takes. -/
def row (t : Fin cfg0.N) (x : Fin 512) : Fin 4096 := ⟨t.val * 512 + x.val, by have := t.isLt; have : cfg0.N = 8 := N_0; omega⟩

/-- Column `y` of the tile of columns that point `t` takes. -/
def col (t : Fin cfg0.N) (y : Fin 256) : Fin 256 := ⟨y.val, by have := t.isLt; have : cfg0.N = 8 := N_0; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 256) (k : Fin 1024) :
    iblk m c 1 t (ix2 y k) = m ((c.tc : Thread nD τ).loc main_arg1) (ix2 (col t y) k) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Doc

theorem doc : Cert.algebraic_DocKernelIdeal_DocReferenceIdeal (hDocKernelIdeal := Cert.DocKernelIdeal.Gen.facts) (hDocReferenceIdeal := Cert.DocReferenceIdeal.Gen.facts) :=
  fun m g m' g' _ h => ⟨_, Cert.DocKernelIdeal.Value.run_blocks m g, (θ_run Cert.DocReferenceIdeal.defs _ _).mono (fun r e c => by
    obtain ⟨e0, e1⟩ := e c
    obtain ⟨h0, h1⟩ := h c
    refine ⟨e0.trans ?_, e1⟩
    rw [h0, h1, Doc.final m c]
    funext i
    pointwise [Doc.product, Doc.entry]) (Cert.DocReferenceIdeal.Value.run m' g')⟩

namespace Dhq

open Cert.DhqKernelIdeal Cert.DhqKernelIdeal.Gen

variable (m : (ℓ : Loc nD τ sig) → Buf (Elt Ideal) ℓ)

theorem pay_product (s : FVec Ideal S512x512 .f32) (a : FVec Ideal S512x256 .f32) (b : FVec Ideal S512x256 .bf16) (i : Fin 512) (j : Fin 512) :
    k0_pay2 s a b (ix2 i j) = s (ix2 i j) + ∑ k : Fin 256, a (ix2 i k) * b (ix2 j k) := by
  pointwise [k0_pay2]

theorem pay_zero (i : S512x512.Idx) : k0_pay1 (F := Ideal) i = 0 := by
  pointwise [k0_pay1]

/-- An entry of the product with the second factor transposed. -/
def entry (a : FVec Ideal S4096x256 .f32) (b : FVec Ideal S1024x256 .bf16) (x : Fin 4096) (y : Fin 1024) : Ideal .f32 :=
  ∑ k : Fin 256, a (ix2 x k) * b (ix2 y k)

/-- The product with the second factor transposed. -/
def product (a : FVec Ideal S4096x256 .f32) (b : FVec Ideal S1024x256 .bf16) : FVec Ideal S4096x1024 .f32 :=
  fun i => entry a b (i 0) (i 1)

/-- Row `x` of the tile of rows that point `t` of the grid takes. -/
def row (t : Fin cfg0.N) (x : Fin 512) : Fin 4096 := ⟨t.val / 2 * 512 + x.val, by have := t.isLt; have : cfg0.N = 16 := N_0; omega⟩

/-- Column `y` of the tile of columns that point `t` takes. -/
def col (t : Fin cfg0.N) (y : Fin 512) : Fin 1024 := ⟨t.val % 2 * 512 + y.val, by have := t.isLt; have : cfg0.N = 16 := N_0; omega⟩

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

theorem block0 (c : Dev nD) (t : Fin cfg0.N) (x : Fin 512) (k : Fin 256) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 512) (k : Fin 256) :
    iblk m c 1 t (ix2 y k) = m ((c.tc : Thread nD τ).loc main_arg1) (ix2 (col t y) k) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Dhq

theorem dhq : Cert.algebraic_DhqKernelIdeal_DhqReferenceIdeal (hDhqKernelIdeal := Cert.DhqKernelIdeal.Gen.facts) (hDhqReferenceIdeal := Cert.DhqReferenceIdeal.Gen.facts) :=
  fun m g m' g' _ h => ⟨_, Cert.DhqKernelIdeal.Value.run_blocks m g, (θ_run Cert.DhqReferenceIdeal.defs _ _).mono (fun r e c => by
    obtain ⟨e0, e1⟩ := e c
    obtain ⟨h0, h1⟩ := h c
    refine ⟨e0.trans ?_, e1⟩
    rw [h0, h1, Dhq.final m c]
    funext i
    pointwise [Dhq.product, Dhq.entry]) (Cert.DhqReferenceIdeal.Value.run m' g')⟩

namespace DmemK

open Cert.DmemKKernelIdeal Cert.DmemKKernelIdeal.Gen

variable (m : (ℓ : Loc nD τ sig) → Buf (Elt Ideal) ℓ)

theorem pay_product (s : FVec Ideal S512x512 .f32) (a : FVec Ideal S512x256 .f32) (b : FVec Ideal S512x256 .bf16) (i : Fin 512) (j : Fin 512) :
    k0_pay2 s a b (ix2 i j) = s (ix2 i j) + ∑ k : Fin 256, a (ix2 i k) * b (ix2 j k) := by
  pointwise [k0_pay2]

theorem pay_zero (i : S512x512.Idx) : k0_pay1 (F := Ideal) i = 0 := by
  pointwise [k0_pay1]

/-- An entry of the product with the second factor transposed. -/
def entry (a : FVec Ideal S512x256 .f32) (b : FVec Ideal S1024x256 .bf16) (x : Fin 512) (y : Fin 1024) : Ideal .f32 :=
  ∑ k : Fin 256, a (ix2 x k) * b (ix2 y k)

/-- The product with the second factor transposed. -/
def product (a : FVec Ideal S512x256 .f32) (b : FVec Ideal S1024x256 .bf16) : FVec Ideal S512x1024 .f32 :=
  fun i => entry a b (i 0) (i 1)

/-- Row `x` of the tile of rows that point `t` of the grid takes. -/
def row (t : Fin cfg0.N) (x : Fin 512) : Fin 512 := ⟨x.val, by have := t.isLt; have : cfg0.N = 2 := N_0; omega⟩

/-- Column `y` of the tile of columns that point `t` takes. -/
def col (t : Fin cfg0.N) (y : Fin 512) : Fin 1024 := ⟨t.val * 512 + y.val, by have := t.isLt; have : cfg0.N = 2 := N_0; omega⟩

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val] := (by decide +kernel : ∀ t : Fin grid0.N, _)

theorem block0 (c : Dev nD) (t : Fin cfg0.N) (x : Fin 512) (k : Fin 256) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 512) (k : Fin 256) :
    iblk m c 1 t (ix2 y k) = m ((c.tc : Thread nD τ).loc main_arg1) (ix2 (col t y) k) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end DmemK

theorem dmemK : Cert.algebraic_DmemKKernelIdeal_DmemKReferenceIdeal (hDmemKKernelIdeal := Cert.DmemKKernelIdeal.Gen.facts) (hDmemKReferenceIdeal := Cert.DmemKReferenceIdeal.Gen.facts) :=
  fun m g m' g' _ h => ⟨_, Cert.DmemKKernelIdeal.Value.run_blocks m g, (θ_run Cert.DmemKReferenceIdeal.defs _ _).mono (fun r e c => by
    obtain ⟨e0, e1⟩ := e c
    obtain ⟨h0, h1⟩ := h c
    refine ⟨e0.trans ?_, e1⟩
    rw [h0, h1, DmemK.final m c]
    funext i
    pointwise [DmemK.product, DmemK.entry]) (Cert.DmemKReferenceIdeal.Value.run m' g')⟩

namespace DmemV

open Cert.DmemVKernelIdeal Cert.DmemVKernelIdeal.Gen

variable (m : (ℓ : Loc nD τ sig) → Buf (Elt Ideal) ℓ)

theorem pay_product (s : FVec Ideal S512x512 .f32) (a : FVec Ideal S512x256 .f32) (b : FVec Ideal S512x256 .bf16) (i : Fin 512) (j : Fin 512) :
    k0_pay2 s a b (ix2 i j) = s (ix2 i j) + ∑ k : Fin 256, a (ix2 i k) * b (ix2 j k) := by
  pointwise [k0_pay2]

theorem pay_zero (i : S512x512.Idx) : k0_pay1 (F := Ideal) i = 0 := by
  pointwise [k0_pay1]

theorem pay_add (r s : FVec Ideal S512x512 .f32) (i : S512x512.Idx) : k0_pay3 r s i = r i + s i := by
  pointwise [k0_pay3]

/-- An entry of the product with the second factor transposed. -/
def entry (a : FVec Ideal S512x256 .f32) (b : FVec Ideal S1024x256 .bf16) (x : Fin 512) (y : Fin 1024) : Ideal .f32 :=
  ∑ k : Fin 256, a (ix2 x k) * b (ix2 y k)

/-- The product with the second factor transposed, the third array added. -/
def product (a : FVec Ideal S512x256 .f32) (b : FVec Ideal S1024x256 .bf16) (r : FVec Ideal S512x1024 .f32) : FVec Ideal S512x1024 .f32 :=
  fun i => r i + entry a b (i 0) (i 1)

/-- Row `x` of the tile of rows that point `t` of the grid takes. -/
def row (t : Fin cfg0.N) (x : Fin 512) : Fin 512 := ⟨x.val, by have := t.isLt; have : cfg0.N = 2 := N_0; omega⟩

/-- Column `y` of the tile of columns that point `t` takes. -/
def col (t : Fin cfg0.N) (y : Fin 512) : Fin 1024 := ⟨t.val * 512 + y.val, by have := t.isLt; have : cfg0.N = 2 := N_0; omega⟩

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

theorem block0 (c : Dev nD) (t : Fin cfg0.N) (x : Fin 512) (k : Fin 256) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 512) (k : Fin 256) :
    iblk m c 1 t (ix2 y k) = m ((c.tc : Thread nD τ).loc main_arg1) (ix2 (col t y) k) := by
  blk_simp [iblk, V]; congr 1; blk_ext [index1, col]

theorem block2 (c : Dev nD) (t : Fin cfg0.N) (x : Fin 512) (y : Fin 512) :
    iblk m c 2 t (ix2 x y) = m ((c.tc : Thread nD τ).loc main_arg2) (ix2 (row t x) (col t y)) := by
  blk_simp [iblk, V]; congr 1; blk_ext [index2, row, col]

theorem final (c : Dev nD) : (dats m 0 c).arrAt 3 cfg0.N = product (m ((c.tc : Thread nD τ).loc main_arg0)) (m ((c.tc : Thread nD τ).loc main_arg1)) (m ((c.tc : Thread nD τ).loc main_arg2)) := by
  refine (dats m 0 c).arrAt_eq_of_covers 3 _ (by decide +kernel) fun t hf i => ?_
  obtain ⟨x, y, rfl⟩ : ∃ x y, i = ix2 x y := ⟨_, _, eq_ix2 i⟩
  blk_simp
  have e : (win0_3.blk t).view.emb (ix2 x y) = ix2 (row t x) (col t y) := by blk_ext [index3, row, col]
  rw [after0_3, e]
  unfold outsAt0
  frame_out
  rw [pay_add, block2, pay_product, pay_zero, zero_add]
  simp only [block0, block1]
  rfl

end DmemV

theorem dmemV : Cert.algebraic_DmemVKernelIdeal_DmemVReferenceIdeal (hDmemVKernelIdeal := Cert.DmemVKernelIdeal.Gen.facts) (hDmemVReferenceIdeal := Cert.DmemVReferenceIdeal.Gen.facts) :=
  fun m g m' g' _ h => ⟨_, Cert.DmemVKernelIdeal.Value.run_blocks m g, (θ_run Cert.DmemVReferenceIdeal.defs _ _).mono (fun r e c => by
    obtain ⟨e0, e1⟩ := e c
    obtain ⟨h0, h1, h2⟩ := h c
    refine ⟨e0.trans ?_, e1⟩
    rw [h0, h1, h2, DmemV.final m c]
    funext i
    pointwise [DmemV.product, DmemV.entry]) (Cert.DmemVReferenceIdeal.Value.run m' g')⟩

namespace Dmixed

open Cert.DmixedKernelIdeal Cert.DmixedKernelIdeal.Gen

variable (m : (ℓ : Loc nD τ sig) → Buf (Elt Ideal) ℓ)

theorem pay_product (s : FVec Ideal S512x512 .f32) (a : FVec Ideal S512x1024 .f32) (b : FVec Ideal S512x1024 .bf16) (i : Fin 512) (j : Fin 512) :
    k0_pay2 s a b (ix2 i j) = s (ix2 i j) + ∑ k : Fin 1024, a (ix2 i k) * b (ix2 j k) := by
  pointwise [k0_pay2]

theorem pay_zero (i : S512x512.Idx) : k0_pay1 (F := Ideal) i = 0 := by
  pointwise [k0_pay1]

/-- An entry of the product with the second factor transposed. -/
def entry (a : FVec Ideal S4096x1024 .f32) (b : FVec Ideal S1024x1024 .bf16) (x : Fin 4096) (y : Fin 1024) : Ideal .f32 :=
  ∑ k : Fin 1024, a (ix2 x k) * b (ix2 y k)

/-- The product with the second factor transposed. -/
def product (a : FVec Ideal S4096x1024 .f32) (b : FVec Ideal S1024x1024 .bf16) : FVec Ideal S4096x1024 .f32 :=
  fun i => entry a b (i 0) (i 1)

/-- Row `x` of the tile of rows that point `t` of the grid takes. -/
def row (t : Fin cfg0.N) (x : Fin 512) : Fin 4096 := ⟨t.val / 2 * 512 + x.val, by have := t.isLt; have : cfg0.N = 16 := N_0; omega⟩

/-- Column `y` of the tile of columns that point `t` takes. -/
def col (t : Fin cfg0.N) (y : Fin 512) : Fin 1024 := ⟨t.val % 2 * 512 + y.val, by have := t.isLt; have : cfg0.N = 16 := N_0; omega⟩

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) k) := by
  blk_simp [iblk, V]; congr 1; blk_ext [index0, row]

theorem block1 (c : Dev nD) (t : Fin cfg0.N) (y : Fin 512) (k : Fin 1024) :
    iblk m c 1 t (ix2 y k) = m ((c.tc : Thread nD τ).loc main_arg1) (ix2 (col t y) k) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end Dmixed

theorem dmixed : Cert.algebraic_DmixedKernelIdeal_DmixedReferenceIdeal (hDmixedKernelIdeal := Cert.DmixedKernelIdeal.Gen.facts) (hDmixedReferenceIdeal := Cert.DmixedReferenceIdeal.Gen.facts) :=
  fun m g m' g' _ h => ⟨_, Cert.DmixedKernelIdeal.Value.run_blocks m g, (θ_run Cert.DmixedReferenceIdeal.defs _ _).mono (fun r e c => by
    obtain ⟨e0, e1⟩ := e c
    obtain ⟨h0, h1⟩ := h c
    refine ⟨e0.trans ?_, e1⟩
    rw [h0, h1, Dmixed.final m c]
    funext i
    pointwise [Dmixed.product, Dmixed.entry]) (Cert.DmixedReferenceIdeal.Value.run m' g')⟩

namespace Dh

open Cert.DhKernelIdeal Cert.DhKernelIdeal.Gen

variable (m : (ℓ : Loc nD τ sig) → Buf (Elt Ideal) ℓ)

theorem pay_product (s : FVec Ideal S512x512 .f32) (a : FVec Ideal S512x1024 .f32) (b : FVec Ideal S512x1024 .bf16) (i : Fin 512) (j : Fin 512) :
    k0_pay2 s a b (ix2 i j) = s (ix2 i j) + ∑ k : Fin 1024, a (ix2 i k) * b (ix2 j k) := by
  pointwise [k0_pay2]

theorem pay_zero (i : S512x512.Idx) : k0_pay1 (F := Ideal) i = 0 := by
  pointwise [k0_pay1]

/-- An entry of the product with the second factor transposed. -/
def entry (a : FVec Ideal S4096x3072 .f32) (b : FVec Ideal S1024x3072 .bf16) (x : Fin 4096) (y : Fin 1024) : Ideal .f32 :=
  ∑ k : Fin 3072, a (ix2 x k) * b (ix2 y k)

/-- The product with the second factor transposed. -/
def product (a : FVec Ideal S4096x3072 .f32) (b : FVec Ideal S1024x3072 .bf16) : FVec Ideal S4096x1024 .f32 :=
  fun i => entry a b (i 0) (i 1)

/-- Row `x` of the tile of rows that point `t` of the grid takes. -/
def row (t : Fin cfg0.N) (x : Fin 512) : Fin 4096 := ⟨t.val / 6 * 512 + x.val, by have := t.isLt; have : cfg0.N = 48 := N_0; omega⟩

/-- Column `y` of the tile of columns that point `t` takes. -/
def col (t : Fin cfg0.N) (y : Fin 512) : Fin 1024 := ⟨t.val / 3 % 2 * 512 + y.val, by have := t.isLt; have : cfg0.N = 48 := N_0; omega⟩

/-- Position `k` of the part of the common axis that point `t` takes. -/
def mid (t : Fin cfg0.N) (k : Fin 1024) : Fin 3072 := ⟨t.val % 3 * 1024 + k.val, by have := t.isLt; have : cfg0.N = 48 := N_0; omega⟩

theorem index0 : ∀ t : Fin cfg0.N, win0_0.index t = ![t.val / 6, t.val % 3] := (by decide +kernel : ∀ t : Fin grid0.N, _)
theorem index1 : ∀ t : Fin cfg0.N, win0_1.index t = ![t.val / 3 % 2, t.val % 3] := (by decide +kernel : ∀ t : Fin grid0.N, _)
theorem index2 : ∀ t : Fin cfg0.N, win0_2.index t = ![t.val / 6, t.val / 3 % 2] := (by decide +kernel : ∀ t : Fin grid0.N, _)

theorem block0 (c : Dev nD) (t : Fin cfg0.N) (x : Fin 512) (k : Fin 1024) :
    iblk m c 0 t (ix2 x k) = m ((c.tc : Thread nD τ).loc main_arg0) (ix2 (row t x) (mid t k)) := by
  blk_simp [iblk, V]; congr 1; blk_ext [index0, row, mid]

theorem block1 (c : Dev nD) (t : Fin cfg0.N) (y : Fin 512) (k : Fin 1024) :
    iblk m c 1 t (ix2 y k) = m ((c.tc : Thread nD τ).loc main_arg1) (ix2 (col t y) (mid t k)) := by
  blk_simp [iblk, V]; congr 1; blk_ext [index1, col, mid]

/-- What point `t` adds to its tile of the product. -/
def part (a : FVec Ideal S4096x3072 .f32) (b : FVec Ideal S1024x3072 .bf16) (t : Fin cfg0.N) : FVec Ideal S512x512 .f32 :=
  fun i => ∑ k : Fin 1024, a (ix2 (row t (i 0)) (mid t k)) * b (ix2 (col t (i 1)) (mid t k))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x3072 .f32) (b : FVec Ideal S1024x3072 .bf16) (t : Fin cfg0.N) (i : S512x512.Idx)
    (h : ∀ s : Fin 3, 3 * (t.val / 3) + s.val < cfg0.N) :
    ∑ s : Fin 3, part a b ⟨3 * (t.val / 3) + s.val, h s⟩ i = entry a b (row t (i 0)) (col t (i 1)) := by
  refine Fin.sum_mul_add_congr (fun s k hl => ?_) (show 3072 = 3 * 1024 by rfl)
  have e0 : row ⟨3 * (t.val / 3) + s.val, h s⟩ (i 0) = row t (i 0) := Fin.ext (by simp only [row]; omega)
  have e1 : col ⟨3 * (t.val / 3) + s.val, h s⟩ (i 1) = col t (i 1) := Fin.ext (by simp only [col]; omega)
  have e2 : mid ⟨3 * (t.val / 3) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 3 = 2) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 3 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 3 = 2
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 3 = 2 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end Dh

theorem dh : Cert.algebraic_DhKernelIdeal_DhReferenceIdeal (hDhKernelIdeal := Cert.DhKernelIdeal.Gen.facts) (hDhReferenceIdeal := Cert.DhReferenceIdeal.Gen.facts) :=
  fun m g m' g' _ h => ⟨_, Cert.DhKernelIdeal.Value.run_blocks m g, (θ_run Cert.DhReferenceIdeal.defs _ _).mono (fun r e c => by
    obtain ⟨e0, e1⟩ := e c
    obtain ⟨h0, h1⟩ := h c
    refine ⟨e0.trans ?_, e1⟩
    rw [h0, h1, Dh.final m c]
    funext i
    pointwise [Dh.product, Dh.entry]) (Cert.DhReferenceIdeal.Value.run m' g')⟩

end Cert.InputGrads

end
-- ==== Proof.WeightGrads.lean ====
/-
# The gradients of the weights of the products

Each is the product of the transposed input with the result's gradient: the common axis is a device's rows, and the points of the grid
that take one tile of the result add up their parts of it in an array that is carried from one to the next.
-/
module

public import proofs.«01_k».proof.Defs
public import proofs.«01_k».proof.Proof.Gen.DwUpKernelIdeal.Value
public import proofs.«01_k».proof.Proof.Gen.DwUpReferenceIdeal.Run
public import proofs.«01_k».proof.Proof.Gen.DwCoKernelIdeal.Value
public import proofs.«01_k».proof.Proof.Gen.DwCoReferenceIdeal.Run
public import proofs.«01_k».proof.Proof.Gen.DwCqKernelIdeal.Value
public import proofs.«01_k».proof.Proof.Gen.DwCqReferenceIdeal.Run
public import proofs.«01_k».proof.Proof.Gen.DwCkKernelIdeal.Value
public import proofs.«01_k».proof.Proof.Gen.DwCkReferenceIdeal.Run
public import proofs.«01_k».proof.Proof.Gen.DwOutKernelIdeal.Value
public import proofs.«01_k».proof.Proof.Gen.DwOutReferenceIdeal.Run
public import proofs.«01_k».proof.Proof.Gen.DwInKernelIdeal.Value
public import proofs.«01_k».proof.Proof.Gen.DwInReferenceIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WeightGrads

open Idealize.ShloMosaic Idealize.ShloMosaic.TcCoe Idealize.SL.Sem

namespace DwUp

open Cert.DwUpKernelIdeal Cert.DwUpKernelIdeal.Gen

variable (m : (ℓ : Loc nD τ sig) → Buf (Elt Ideal) ℓ)

theorem pay_product (s : FVec Ideal S512x512 .f32) (a : FVec Ideal S1024x512 .f32) (b : FVec Ideal S1024x512 .f32) (i : Fin 512) (j : Fin 512) :
    k0_pay2 s a b (ix2 i j) = s (ix2 i j) + ∑ k : Fin 1024, a (ix2 k i) * b (ix2 k j) := by
  pointwise [k0_pay2]

theorem pay_zero (i : S512x512.Idx) : k0_pay1 (F := Ideal) i = 0 := by
  pointwise [k0_pay1]

/-- An entry of the product with the first factor transposed. -/
def entry (a : FVec Ideal S4096x1024 .f32) (b : FVec Ideal S4096x5632 .f32) (x : Fin 1024) (y : Fin 5632) : Ideal .f32 :=
  ∑ k : Fin 4096, a (ix2 k x) * b (ix2 k y)

/-- The product with the first factor transposed. -/
def product (a : FVec Ideal S4096x1024 .f32) (b : FVec Ideal S4096x5632 .f32) : FVec Ideal S1024x5632 .f32 :=
  fun i => entry a b (i 0) (i 1)

/-- Row `x` of the tile of rows that point `t` of the grid takes. -/
def row (t : Fin cfg0.N) (x : Fin 512) : Fin 1024 := ⟨t.val / 44 * 512 + x.val, by have := t.isLt; have : cfg0.N = 88 := N_0; omega⟩

/-- Column `y` of the tile of columns that point `t` takes. -/
def col (t : Fin cfg0.N) (y : Fin 512) : Fin 5632 := ⟨t.val / 4 % 11 * 512 + y.val, by have := t.isLt; have : cfg0.N = 88 := N_0; omega⟩

/-- Position `k` of the part of the common axis that point `t` takes. -/
def mid (t : Fin cfg0.N) (k : Fin 1024) : Fin 4096 := ⟨t.val % 4 * 1024 + k.val, by have := t.isLt; have : cfg0.N = 88 := N_0; omega⟩

theorem index0 : ∀ t : Fin cfg0.N, win0_0.index t = ![t.val % 4, t.val / 44] := (by decide +kernel : ∀ t : Fin grid0.N, _)
theorem index1 : ∀ t : Fin cfg0.N, win0_1.index t = ![t.val % 4, t.val / 4 % 11] := (by decide +kernel : ∀ t : Fin grid0.N, _)
theorem index2 : ∀ t : Fin cfg0.N, win0_2.index t = ![t.val / 44, t.val / 4 % 11] := (by decide +kernel : ∀ t : Fin grid0.N, _)

theorem block0 (c : Dev nD) (t : Fin cfg0.N) (k : Fin 1024) (x : Fin 512) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 512) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x1024 .f32) (b : FVec Ideal S4096x5632 .f32) (t : Fin cfg0.N) : FVec Ideal S512x512 .f32 :=
  fun i => ∑ k : Fin 1024, a (ix2 (mid t k) (row t (i 0))) * b (ix2 (mid t k) (col t (i 1)))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x1024 .f32) (b : FVec Ideal S4096x5632 .f32) (t : Fin cfg0.N) (i : S512x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := Fin.ext (by simp only [row]; omega)
  have e1 : col ⟨4 * (t.val / 4) + s.val, h s⟩ (i 1) = col t (i 1) := Fin.ext (by simp only [col]; omega)
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwUp

theorem dwUp : Cert.algebraic_DwUpKernelIdeal_DwUpReferenceIdeal (hDwUpKernelIdeal := Cert.DwUpKernelIdeal.Gen.facts) (hDwUpReferenceIdeal := Cert.DwUpReferenceIdeal.Gen.facts) :=
  fun m g m' g' _ h => ⟨_, Cert.DwUpKernelIdeal.Value.run_blocks m g, (θ_run Cert.DwUpReferenceIdeal.defs _ _).mono (fun r e c => by
    obtain ⟨e0, e1⟩ := e c
    obtain ⟨h0, h1⟩ := h c
    refine ⟨e0.trans ?_, e1⟩
    rw [h0, h1, DwUp.final m c]
    funext i
    pointwise [DwUp.product, DwUp.entry]
    exact Finset.sum_congr rfl fun _ _ => mul_comm _ _) (Cert.DwUpReferenceIdeal.Value.run m' g')⟩

namespace DwCo

open Cert.DwCoKernelIdeal Cert.DwCoKernelIdeal.Gen

variable (m : (ℓ : Loc nD τ sig) → Buf (Elt Ideal) ℓ)

theorem pay_product (s : FVec Ideal S256x512 .f32) (a : FVec Ideal S1024x256 .f32) (b : FVec Ideal S1024x512 .f32) (i : Fin 256) (j : Fin 512) :
    k0_pay2 s a b (ix2 i j) = s (ix2 i j) + ∑ k : Fin 1024, a (ix2 k i) * b (ix2 k j) := by
  pointwise [k0_pay2]

theorem pay_zero (i : S256x512.Idx) : k0_pay1 (F := Ideal) i = 0 := by
  pointwise [k0_pay1]

/-- An entry of the product with the first factor transposed. -/
def entry (a : FVec Ideal S4096x256 .f32) (b : FVec Ideal S4096x1024 .f32) (x : Fin 256) (y : Fin 1024) : Ideal .f32 :=
  ∑ k : Fin 4096, a (ix2 k x) * b (ix2 k y)

/-- The product with the first factor transposed. -/
def product (a : FVec Ideal S4096x256 .f32) (b : FVec Ideal S4096x1024 .f32) : FVec Ideal S256x1024 .f32 :=
  fun i => entry a b (i 0) (i 1)

/-- Row `x` of the tile of rows that point `t` of the grid takes. -/
def row (t : Fin cfg0.N) (x : Fin 256) : Fin 256 := ⟨x.val, by have := t.isLt; have : cfg0.N = 8 := N_0; omega⟩

/-- Column `y` of the tile of columns that point `t` takes. -/
def col (t : Fin cfg0.N) (y : Fin 512) : Fin 1024 := ⟨t.val / 4 * 512 + y.val, by have := t.isLt; have : cfg0.N = 8 := N_0; omega⟩

/-- Position `k` of the part of the common axis that point `t` takes. -/
def mid (t : Fin cfg0.N) (k : Fin 1024) : Fin 4096 := ⟨t.val % 4 * 1024 + k.val, by have := t.isLt; have : cfg0.N = 8 := N_0; omega⟩

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

theorem block0 (c : Dev nD) (t : Fin cfg0.N) (k : Fin 1024) (x : Fin 256) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 512) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x256 .f32) (b : FVec Ideal S4096x1024 .f32) (t : Fin cfg0.N) : FVec Ideal S256x512 .f32 :=
  fun i => ∑ k : Fin 1024, a (ix2 (mid t k) (row t (i 0))) * b (ix2 (mid t k) (col t (i 1)))

theorem part_at (c : Dev nD) (t : Fin cfg0.N) (s : FVec Ideal S256x512 .f32) (i : S256x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x256 .f32) (b : FVec Ideal S4096x1024 .f32) (t : Fin cfg0.N) (i : S256x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := rfl
  have e1 : col ⟨4 * (t.val / 4) + s.val, h s⟩ (i 1) = col t (i 1) := Fin.ext (by simp only [col]; omega)
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S256x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwCo

theorem dwCo : Cert.algebraic_DwCoKernelIdeal_DwCoReferenceIdeal (hDwCoKernelIdeal := Cert.DwCoKernelIdeal.Gen.facts) (hDwCoReferenceIdeal := Cert.DwCoReferenceIdeal.Gen.facts) :=
  fun m g m' g' _ h => ⟨_, Cert.DwCoKernelIdeal.Value.run_blocks m g, (θ_run Cert.DwCoReferenceIdeal.defs _ _).mono (fun r e c => by
    obtain ⟨e0, e1⟩ := e c
    obtain ⟨h0, h1⟩ := h c
    refine ⟨e0.trans ?_, e1⟩
    rw [h0, h1, DwCo.final m c]
    funext i
    pointwise [DwCo.product, DwCo.entry]
    exact Finset.sum_congr rfl fun _ _ => mul_comm _ _) (Cert.DwCoReferenceIdeal.Value.run m' g')⟩

namespace DwCq

open Cert.DwCqKernelIdeal Cert.DwCqKernelIdeal.Gen

variable (m : (ℓ : Loc nD τ sig) → Buf (Elt Ideal) ℓ)

theorem pay_product (s : FVec Ideal S512x256 .f32) (a : FVec Ideal S1024x512 .f32) (b : FVec Ideal S1024x256 .f32) (i : Fin 512) (j : Fin 256) :
    k0_pay2 s a b (ix2 i j) = s (ix2 i j) + ∑ k : Fin 1024, a (ix2 k i) * b (ix2 k j) := by
  pointwise [k0_pay2]

theorem pay_zero (i : S512x256.Idx) : k0_pay1 (F := Ideal) i = 0 := by
  pointwise [k0_pay1]

/-- An entry of the product with the first factor transposed. -/
def entry (a : FVec Ideal S4096x1024 .f32) (b : FVec Ideal S4096x256 .f32) (x : Fin 1024) (y : Fin 256) : Ideal .f32 :=
  ∑ k : Fin 4096, a (ix2 k x) * b (ix2 k y)

/-- The product with the first factor transposed. -/
def product (a : FVec Ideal S4096x1024 .f32) (b : FVec Ideal S4096x256 .f32) : FVec Ideal S1024x256 .f32 :=
  fun i => entry a b (i 0) (i 1)

/-- Row `x` of the tile of rows that point `t` of the grid takes. -/
def row (t : Fin cfg0.N) (x : Fin 512) : Fin 1024 := ⟨t.val / 4 * 512 + x.val, by have := t.isLt; have : cfg0.N = 8 := N_0; omega⟩

/-- Column `y` of the tile of columns that point `t` takes. -/
def col (t : Fin cfg0.N) (y : Fin 256) : Fin 256 := ⟨y.val, by have := t.isLt; have : cfg0.N = 8 := N_0; omega⟩

/-- Position `k` of the part of the common axis that point `t` takes. -/
def mid (t : Fin cfg0.N) (k : Fin 1024) : Fin 4096 := ⟨t.val % 4 * 1024 + k.val, by have := t.isLt; have : cfg0.N = 8 := N_0; omega⟩

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

theorem block0 (c : Dev nD) (t : Fin cfg0.N) (k : Fin 1024) (x : Fin 512) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 256) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x1024 .f32) (b : FVec Ideal S4096x256 .f32) (t : Fin cfg0.N) : FVec Ideal S512x256 .f32 :=
  fun i => ∑ k : Fin 1024, a (ix2 (mid t k) (row t (i 0))) * b (ix2 (mid t k) (col t (i 1)))

theorem part_at (c : Dev nD) (t : Fin cfg0.N) (s : FVec Ideal S512x256 .f32) (i : S512x256.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x1024 .f32) (b : FVec Ideal S4096x256 .f32) (t : Fin cfg0.N) (i : S512x256.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := Fin.ext (by simp only [row]; omega)
  have e1 : col ⟨4 * (t.val / 4) + s.val, h s⟩ (i 1) = col t (i 1) := rfl
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S512x256.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwCq

theorem dwCq : Cert.algebraic_DwCqKernelIdeal_DwCqReferenceIdeal (hDwCqKernelIdeal := Cert.DwCqKernelIdeal.Gen.facts) (hDwCqReferenceIdeal := Cert.DwCqReferenceIdeal.Gen.facts) :=
  fun m g m' g' _ h => ⟨_, Cert.DwCqKernelIdeal.Value.run_blocks m g, (θ_run Cert.DwCqReferenceIdeal.defs _ _).mono (fun r e c => by
    obtain ⟨e0, e1⟩ := e c
    obtain ⟨h0, h1⟩ := h c
    refine ⟨e0.trans ?_, e1⟩
    rw [h0, h1, DwCq.final m c]
    funext i
    pointwise [DwCq.product, DwCq.entry]
    exact Finset.sum_congr rfl fun _ _ => mul_comm _ _) (Cert.DwCqReferenceIdeal.Value.run m' g')⟩

namespace DwCk

open Cert.DwCkKernelIdeal Cert.DwCkKernelIdeal.Gen

variable (m : (ℓ : Loc nD τ sig) → Buf (Elt Ideal) ℓ)

theorem pay_product (s : FVec Ideal S512x256 .f32) (a : FVec Ideal S512x512 .f32) (b : FVec Ideal S512x256 .f32) (i : Fin 512) (j : Fin 256) :
    k0_pay2 s a b (ix2 i j) = s (ix2 i j) + ∑ k : Fin 512, a (ix2 k i) * b (ix2 k j) := by
  pointwise [k0_pay2]

theorem pay_zero (i : S512x256.Idx) : k0_pay1 (F := Ideal) i = 0 := by
  pointwise [k0_pay1]

/-- An entry of the product with the first factor transposed. -/
def entry (a : FVec Ideal S512x1024 .f32) (b : FVec Ideal S512x256 .f32) (x : Fin 1024) (y : Fin 256) : Ideal .f32 :=
  ∑ k : Fin 512, a (ix2 k x) * b (ix2 k y)

/-- The product with the first factor transposed. -/
def product (a : FVec Ideal S512x1024 .f32) (b : FVec Ideal S512x256 .f32) : FVec Ideal S1024x256 .f32 :=
  fun i => entry a b (i 0) (i 1)

/-- Row `x` of the tile of rows that point `t` of the grid takes. -/
def row (t : Fin cfg0.N) (x : Fin 512) : Fin 1024 := ⟨t.val * 512 + x.val, by have := t.isLt; have : cfg0.N = 2 := N_0; omega⟩

/-- Column `y` of the tile of columns that point `t` takes. -/
def col (t : Fin cfg0.N) (y : Fin 256) : Fin 256 := ⟨y.val, by have := t.isLt; have : cfg0.N = 2 := N_0; omega⟩

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem block0 (c : Dev nD) (t : Fin cfg0.N) (k : Fin 512) (x : Fin 512) :
    iblk m c 0 t (ix2 k x) = m ((c.tc : Thread nD τ).loc main_arg0) (ix2 k (row t x)) := by
  blk_simp [iblk, V]; congr 1; blk_ext [index0, row]

theorem block1 (c : Dev nD) (t : Fin cfg0.N) (k : Fin 512) (y : Fin 256) :
    iblk m c 1 t (ix2 k y) = m ((c.tc : Thread nD τ).loc main_arg1) (ix2 k (col t y)) := by
  blk_simp [iblk, V]; congr 1; blk_ext [index1, col]

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have e : (win0_2.blk t).view.emb (ix2 x y) = ix2 (row t x) (col t y) := by blk_ext [index2, row, col]
  rw [after0_2, e]
  unfold outsAt0
  frame_out
  rw [pay_product, pay_zero, zero_add]
  simp only [block0, block1]
  rfl

end DwCk

theorem dwCk : Cert.algebraic_DwCkKernelIdeal_DwCkReferenceIdeal (hDwCkKernelIdeal := Cert.DwCkKernelIdeal.Gen.facts) (hDwCkReferenceIdeal := Cert.DwCkReferenceIdeal.Gen.facts) :=
  fun m g m' g' _ h => ⟨_, Cert.DwCkKernelIdeal.Value.run_blocks m g, (θ_run Cert.DwCkReferenceIdeal.defs _ _).mono (fun r e c => by
    obtain ⟨e0, e1⟩ := e c
    obtain ⟨h0, h1⟩ := h c
    refine ⟨e0.trans ?_, e1⟩
    rw [h0, h1, DwCk.final m c]
    funext i
    pointwise [DwCk.product, DwCk.entry]
    exact Finset.sum_congr rfl fun _ _ => mul_comm _ _) (Cert.DwCkReferenceIdeal.Value.run m' g')⟩

namespace DwOut

open Cert.DwOutKernelIdeal Cert.DwOutKernelIdeal.Gen

variable (m : (ℓ : Loc nD τ sig) → Buf (Elt Ideal) ℓ)

theorem pay_product (s : FVec Ideal S512x512 .f32) (a : FVec Ideal S1024x512 .f32) (b : FVec Ideal S1024x512 .f32) (i : Fin 512) (j : Fin 512) :
    k0_pay2 s a b (ix2 i j) = s (ix2 i j) + ∑ k : Fin 1024, a (ix2 k i) * b (ix2 k j) := by
  pointwise [k0_pay2]

theorem pay_zero (i : S512x512.Idx) : k0_pay1 (F := Ideal) i = 0 := by
  pointwise [k0_pay1]

/-- An entry of the product with the first factor transposed. -/
def entry (a : FVec Ideal S4096x1024 .f32) (b : FVec Ideal S4096x1024 .f32) (x : Fin 1024) (y : Fin 1024) : Ideal .f32 :=
  ∑ k : Fin 4096, a (ix2 k x) * b (ix2 k y)

/-- The product with the first factor transposed. -/
def product (a : FVec Ideal S4096x1024 .f32) (b : FVec Ideal S4096x1024 .f32) : FVec Ideal S1024x1024 .f32 :=
  fun i => entry a b (i 0) (i 1)

/-- Row `x` of the tile of rows that point `t` of the grid takes. -/
def row (t : Fin cfg0.N) (x : Fin 512) : Fin 1024 := ⟨t.val / 8 * 512 + x.val, by have := t.isLt; have : cfg0.N = 16 := N_0; omega⟩

/-- Column `y` of the tile of columns that point `t` takes. -/
def col (t : Fin cfg0.N) (y : Fin 512) : Fin 1024 := ⟨t.val / 4 % 2 * 512 + y.val, by have := t.isLt; have : cfg0.N = 16 := N_0; omega⟩

/-- Position `k` of the part of the common axis that point `t` takes. -/
def mid (t : Fin cfg0.N) (k : Fin 1024) : Fin 4096 := ⟨t.val % 4 * 1024 + k.val, by have := t.isLt; have : cfg0.N = 16 := N_0; omega⟩

theorem index0 : ∀ t : Fin cfg0.N, win0_0.index t = ![t.val % 4, t.val / 8] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)

theorem block0 (c : Dev nD) (t : Fin cfg0.N) (k : Fin 1024) (x : Fin 512) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 512) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x1024 .f32) (b : FVec Ideal S4096x1024 .f32) (t : Fin cfg0.N) : FVec Ideal S512x512 .f32 :=
  fun i => ∑ k : Fin 1024, a (ix2 (mid t k) (row t (i 0))) * b (ix2 (mid t k) (col t (i 1)))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x1024 .f32) (b : FVec Ideal S4096x1024 .f32) (t : Fin cfg0.N) (i : S512x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := Fin.ext (by simp only [row]; omega)
  have e1 : col ⟨4 * (t.val / 4) + s.val, h s⟩ (i 1) = col t (i 1) := Fin.ext (by simp only [col]; omega)
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwOut

theorem dwOut : Cert.algebraic_DwOutKernelIdeal_DwOutReferenceIdeal (hDwOutKernelIdeal := Cert.DwOutKernelIdeal.Gen.facts) (hDwOutReferenceIdeal := Cert.DwOutReferenceIdeal.Gen.facts) :=
  fun m g m' g' _ h => ⟨_, Cert.DwOutKernelIdeal.Value.run_blocks m g, (θ_run Cert.DwOutReferenceIdeal.defs _ _).mono (fun r e c => by
    obtain ⟨e0, e1⟩ := e c
    obtain ⟨h0, h1⟩ := h c
    refine ⟨e0.trans ?_, e1⟩
    rw [h0, h1, DwOut.final m c]
    funext i
    pointwise [DwOut.product, DwOut.entry]
    exact Finset.sum_congr rfl fun _ _ => mul_comm _ _) (Cert.DwOutReferenceIdeal.Value.run m' g')⟩

namespace DwIn

open Cert.DwInKernelIdeal Cert.DwInKernelIdeal.Gen

variable (m : (ℓ : Loc nD τ sig) → Buf (Elt Ideal) ℓ)

theorem pay_product (s : FVec Ideal S512x512 .f32) (a : FVec Ideal S1024x512 .f32) (b : FVec Ideal S1024x512 .f32) (i : Fin 512) (j : Fin 512) :
    k0_pay2 s a b (ix2 i j) = s (ix2 i j) + ∑ k : Fin 1024, a (ix2 k i) * b (ix2 k j) := by
  pointwise [k0_pay2]

theorem pay_zero (i : S512x512.Idx) : k0_pay1 (F := Ideal) i = 0 := by
  pointwise [k0_pay1]

/-- An entry of the product with the first factor transposed. -/
def entry (a : FVec Ideal S4096x1024 .f32) (b : FVec Ideal S4096x3072 .f32) (x : Fin 1024) (y : Fin 3072) : Ideal .f32 :=
  ∑ k : Fin 4096, a (ix2 k x) * b (ix2 k y)

/-- The product with the first factor transposed. -/
def product (a : FVec Ideal S4096x1024 .f32) (b : FVec Ideal S4096x3072 .f32) : FVec Ideal S1024x3072 .f32 :=
  fun i => entry a b (i 0) (i 1)

/-- Row `x` of the tile of rows that point `t` of the grid takes. -/
def row (t : Fin cfg0.N) (x : Fin 512) : Fin 1024 := ⟨t.val / 24 * 512 + x.val, by have := t.isLt; have : cfg0.N = 48 := N_0; omega⟩

/-- Column `y` of the tile of columns that point `t` takes. -/
def col (t : Fin cfg0.N) (y : Fin 512) : Fin 3072 := ⟨t.val / 4 % 6 * 512 + y.val, by have := t.isLt; have : cfg0.N = 48 := N_0; omega⟩

/-- Position `k` of the part of the common axis that point `t` takes. -/
def mid (t : Fin cfg0.N) (k : Fin 1024) : Fin 4096 := ⟨t.val % 4 * 1024 + k.val, by have := t.isLt; have : cfg0.N = 48 := N_0; omega⟩

theorem index0 : ∀ t : Fin cfg0.N, win0_0.index t = ![t.val % 4, t.val / 24] := (by decide +kernel : ∀ t : Fin grid0.N, _)
theorem index1 : ∀ t : Fin cfg0.N, win0_1.index t = ![t.val % 4, t.val / 4 % 6] := (by decide +kernel : ∀ t : Fin grid0.N, _)
theorem index2 : ∀ t : Fin cfg0.N, win0_2.index t = ![t.val / 24, t.val / 4 % 6] := (by decide +kernel : ∀ t : Fin grid0.N, _)

theorem block0 (c : Dev nD) (t : Fin cfg0.N) (k : Fin 1024) (x : Fin 512) :
    iblk m c 0 t (ix2 k x) = m ((c.tc : Thread nD τ).loc main_arg0) (ix2 (mid t k) (row t x)) := by
  blk_simp [iblk, V]; congr 1; blk_ext [index0, row, mid]

theorem block1 (c : Dev nD) (t : Fin cfg0.N) (k : Fin 1024) (y : Fin 512) :
    iblk m c 1 t (ix2 k y) = m ((c.tc : Thread nD τ).loc main_arg1) (ix2 (mid t k) (col t y)) := by
  blk_simp [iblk, V]; congr 1; blk_ext [index1, col, mid]

/-- What point `t` adds to its tile of the product. -/
def part (a : FVec Ideal S4096x1024 .f32) (b : FVec Ideal S4096x3072 .f32) (t : Fin cfg0.N) : FVec Ideal S512x512 .f32 :=
  fun i => ∑ k : Fin 1024, a (ix2 (mid t k) (row t (i 0))) * b (ix2 (mid t k) (col t (i 1)))

theorem part_at (c : Dev nD) (t : Fin cfg0.N) (s : FVec Ideal S512x512 .f32) (i : S512x512.Idx) :
    k0_pay2 s (iblk m c 0 t) (iblk m c 1 t) i = s i + part (m ((c.tc : Thread nD τ).loc main_arg0)) (m ((c.tc : Thread nD τ).loc main_arg1)) t i := by
  obtain ⟨x, y, rfl⟩ : ∃ x y, i = ix2 x y := ⟨_, _, eq_ix2 i⟩
  rw [pay_product]
  simp only [block0, block1]
  rfl

/-- The parts of the points that take one tile of the product, together. -/
theorem parts (a : FVec Ideal S4096x1024 .f32) (b : FVec Ideal S4096x3072 .f32) (t : Fin cfg0.N) (i : S512x512.Idx)
    (h : ∀ s : Fin 4, 4 * (t.val / 4) + s.val < cfg0.N) :
    ∑ s : Fin 4, part a b ⟨4 * (t.val / 4) + s.val, h s⟩ i = entry a b (row t (i 0)) (col t (i 1)) := by
  refine Fin.sum_mul_add_congr (fun s k hl => ?_) (show 4096 = 4 * 1024 by rfl)
  have e0 : row ⟨4 * (t.val / 4) + s.val, h s⟩ (i 0) = row t (i 0) := Fin.ext (by simp only [row]; omega)
  have e1 : col ⟨4 * (t.val / 4) + s.val, h s⟩ (i 1) = col t (i 1) := Fin.ext (by simp only [col]; omega)
  have e2 : mid ⟨4 * (t.val / 4) + s.val, h s⟩ k = ⟨s.val * 1024 + k.val, hl⟩ := Fin.ext (by simp only [mid]; omega)
  rw [e0, e1, e2]

/-- What the kernel carries after the last point of a tile: the tile of the product. -/
theorem carried (c : Dev nD) (t : Fin cfg0.N) (ht : t.val % 4 = 3) (i : S512x512.Idx) :
    (outsAt0 m c t.val t.isLt).2 i = entry (m ((c.tc : Thread nD τ).loc main_arg0)) (m ((c.tc : Thread nD τ).loc main_arg1)) (row t (i 0)) (col t (i 1)) := by
  rw [Pipeline.eq_sum_fin_of_reset_step_apply_of_flush (fun n h => (outsAt0 m c n h).2) 4 (fun _ => 0) (part (m ((c.tc : Thread nD τ).loc main_arg0)) (m ((c.tc : Thread nD τ).loc main_arg1)))
    (fun t h j => by rw [outsAt0_A m c t h (by omega)]; frame_out; rw [part_at, pay_zero])
    (fun t h j => by
      by_cases h3 : t.val % 4 = 3
      · rw [outsAt0_C m c t h h3]; frame_out; simp only [read_unread_whole]; rw [part_at]
      · rw [outsAt0_B m c t h h3]; frame_out; simp only [read_unread_whole]; rw [part_at])
    t ht i, zero_add]
  exact parts _ _ t i _

theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf i => ?_
  obtain ⟨x, y, rfl⟩ : ∃ x y, i = ix2 x y := ⟨_, _, eq_ix2 i⟩
  blk_simp
  have ht : t.val % 4 = 3 := by revert hf; revert t; decide +kernel
  have e : (win0_2.blk t).view.emb (ix2 x y) = ix2 (row t x) (col t y) := by blk_ext [index2, row, col]
  have o : (outsAt0 m c t.val t.isLt).1 = (outsAt0 m c t.val t.isLt).2 := by
    rw [outsAt0_C m c t (by omega) ht]; frame_out
  rw [after0_2, e, o, carried m c t ht]
  rfl

end DwIn

theorem dwIn : Cert.algebraic_DwInKernelIdeal_DwInReferenceIdeal (hDwInKernelIdeal := Cert.DwInKernelIdeal.Gen.facts) (hDwInReferenceIdeal := Cert.DwInReferenceIdeal.Gen.facts) :=
  fun m g m' g' _ h => ⟨_, Cert.DwInKernelIdeal.Value.run_blocks m g, (θ_run Cert.DwInReferenceIdeal.defs _ _).mono (fun r e c => by
    obtain ⟨e0, e1⟩ := e c
    obtain ⟨h0, h1⟩ := h c
    refine ⟨e0.trans ?_, e1⟩
    rw [h0, h1, DwIn.final m c]
    funext i
    pointwise [DwIn.product, DwIn.entry]
    exact Finset.sum_congr rfl fun _ _ => mul_comm _ _) (Cert.DwInReferenceIdeal.Value.run m' g')⟩

end Cert.WeightGrads

end
-- ==== Proof.Act.lean ====
/-
# The gated activation of the convolved rows

Each point of the grid convolves a block of 512 rows of both halves of the columns and gates one with the other. A row takes the two rows
before it in its sequence, which may lie in the eight rows before the block; at the start of a sequence the rows before it count as
zero. The reference convolves whole sequences with two rows of zeros put in front. Both leave the same element, and the two ways of
writing the gate, with erf and with erfc, agree.
-/
module

public import proofs.«01_k».proof.Defs
public import proofs.«01_k».proof.Proof.Gen.FfnActKernelIdeal.Value
public import proofs.«01_k».proof.Proof.Gen.FfnActReferenceIdeal.Run
public import Idealize.ShloMosaic.Lib.Pipeline.ValueKit
public import Idealize.ShloMosaic.Lib.Pointwise
public import Idealize.ShloMosaic.PureOps.Ideal.Laws

@[expose] public section

set_option maxRecDepth 16384

noncomputable section

namespace Cert.Act

open Idealize.ShloMosaic Idealize.ShloMosaic.TcCoe Idealize.SL.Sem

section

open Cert.FfnActKernelIdeal Cert.FfnActKernelIdeal.Gen

variable (m : (ℓ : Loc nD τ sig) → Buf (Elt Ideal) ℓ)

/-- The place of a block's row in its sequence. -/
theorem place (i : grid0.Coords) (r : Fin 512) : k0_pay2 i (ix2 r 0) = BitVec.ofNat 32 (((i 1).val * 512 + r.val) % 2048) := by
  pointwise [k0_pay2]
  generalize i 1 = a
  revert r a
  show ∀ (r : Fin 512) (a : Fin 8), _
  decide +kernel

/-- A choice by comparing two small numbers. -/
theorem select_ge {α : Type} (n k : ℕ) (hn : n < 2 ^ 31) (hk : k < 2 ^ 31) (a b : α) :
    Scalar.select (IntOp.cmpi .sge (BitVec.ofNat 32 n) (BitVec.ofNat 32 k)) a b = if k ≤ n then a else b := by
  rw [WordCmp.cmpi_sge_ofNat hn hk, WordCmp.select_ofBool]
  simp

/-- The convolution at row `r` of a block whose row is the `n`-th of its sequence: the taps are rows of `k`, the rows before the block
    are `h`. -/
def part (n : ℕ) (k h : Vec Ideal S8x256 .f32) (x : Vec Ideal S512x256 .f32) (r : Fin 512) (l : Fin 256) : Ideal .f32 :=
  k (ix2 3 l) +
        Scalar.select (IntOp.cmpi .sge (BitVec.ofNat 32 n) 2#32)
          (k (ix2 0 l) *
            if e : (8 + r.val + 520 - 2) % 520 < 8 then h (ix2 ⟨(8 + r.val + 520 - 2) % 520, e⟩ l)
            else x (ix2 ⟨(8 + r.val + 520 - 2) % 520 - 8, by omega⟩ l))
          0 +
      Scalar.select (IntOp.cmpi .sge (BitVec.ofNat 32 n) 1#32)
        (k (ix2 1 l) *
          if e : (8 + r.val + 520 - 1) % 520 < 8 then h (ix2 ⟨(8 + r.val + 520 - 1) % 520, e⟩ l)
          else x (ix2 ⟨(8 + r.val + 520 - 1) % 520 - 8, by omega⟩ l))
        0 +
    k (ix2 2 l) * x (ix2 r l)

/-- The gated activation of one element, as the kernel writes it. -/
def act (g u : Ideal .f32) : Ideal .f32 :=
  Ideal.ofBits .f32 0x3F000000#32 * g * (1 + Ideal.erf (g * Ideal.ofBits .f32 0x3F3504F3#32)) * u

/-- What a point leaves at row `r` of its block. -/
theorem pay (i : grid0.Coords) (u g : Vec Ideal S512x256 .f32) (uh gh cu cg : Vec Ideal S8x256 .f32) (r : Fin 512) (l : Fin 256) :
    out0_6 i u g uh gh cu cg (ix2 r l) =
      act (part (((i 1).val * 512 + r.val) % 2048) cg gh g r l) (part (((i 1).val * 512 + r.val) % 2048) cu uh u r l) := by
  refine Eq.trans ?_ (show _ = _ from rfl)
  generalize hz : act (part (((i 1).val * 512 + r.val) % 2048) cg gh g r l) (part (((i 1).val * 512 + r.val) % 2048) cu uh u r l) = z
  unfold_out out0_6
  frame_out
  pointwise [k0_pay1, k0_pay3, k0_pay4, k0_pay5, k0_pay6, k0_pay7, k0_pay8, k0_pay9, k0_pay10, place]
  rw [← hz]
  rfl

/-- The causal convolution of one element: its bias, and the row itself and the two rows before it in its sequence, each with its tap. -/
def convAt (x : FVec Ideal S4096x5632 .f32) (w : FVec Ideal S3x5632 .f32) (b : FVec Ideal S5632 .f32) (r : Fin 4096) (l : Fin 5632) : Ideal .f32 :=
  b (ix1 l) + (if 2 ≤ r.val % 2048 then w (ix2 0 l) * x (ix2 ⟨r.val - 2, by omega⟩ l) else 0) +
      (if 1 ≤ r.val % 2048 then w (ix2 1 l) * x (ix2 ⟨r.val - 1, by omega⟩ l) else 0) +
    w (ix2 2 l) * x (ix2 r l)

/-- The activation of the convolved rows: the second half of the columns gates the first. -/
def spec (x : FVec Ideal S4096x5632 .f32) (w : FVec Ideal S3x5632 .f32) (b : FVec Ideal S5632 .f32) : FVec Ideal S4096x2816 .f32 := fun i =>
  act (convAt x w b (i 0) ⟨2816 + (i 1).val, by have : (i 1).val < 2816 := (i 1).isLt; omega⟩)
    (convAt x w b (i 0) ⟨(i 1).val, by have : (i 1).val < 2816 := (i 1).isLt; omega⟩)

/-- Row `r` of the block of rows that point `t` of the grid takes. -/
def row (t : Fin cfg0.N) (r : Fin 512) : Fin 4096 := ⟨t.val % 8 * 512 + r.val, by omega⟩

/-- Column `l` of the block of columns that point `t` writes. -/
def col (t : Fin cfg0.N) (l : Fin 256) : Fin 2816 := ⟨t.val / 8 * 256 + l.val, by have := t.isLt; have : cfg0.N = 88 := N_0; omega⟩

/-- The same column of the first half, and of the second half, which gates it. -/
def upc (t : Fin cfg0.N) (l : Fin 256) : Fin 5632 := ⟨(col t l).val, by omega⟩
def gatec (t : Fin cfg0.N) (l : Fin 256) : Fin 5632 := ⟨2816 + (col t l).val, by omega⟩

/-- Row `q` of the eight rows before the block that point `t` takes; before the first block, the first eight. -/
def before (t : Fin cfg0.N) (q : Fin 8) : Fin 4096 := ⟨(t.val % 8 * 64 - 1) * 8 + q.val, by omega⟩

theorem index0 : ∀ t : Fin cfg0.N, win0_0.index t = ![t.val % 8, t.val / 8] := (by decide +kernel : ∀ t : Fin grid0.N, _)
theorem index1 : ∀ t : Fin cfg0.N, win0_1.index t = ![t.val % 8, t.val / 8 + 11] := (by decide +kernel : ∀ t : Fin grid0.N, _)
theorem index2 : ∀ t : Fin cfg0.N, win0_2.index t = ![t.val % 8 * 64 - 1, t.val / 8] := (by decide +kernel : ∀ t : Fin grid0.N, _)
theorem index3 : ∀ t : Fin cfg0.N, win0_3.index t = ![t.val % 8 * 64 - 1, t.val / 8 + 11] := (by decide +kernel : ∀ t : Fin grid0.N, _)
theorem index4 : ∀ t : Fin cfg0.N, win0_4.index t = ![0, t.val / 8] := (by decide +kernel : ∀ t : Fin grid0.N, _)
theorem index5 : ∀ t : Fin cfg0.N, win0_5.index t = ![0, t.val / 8 + 11] := (by decide +kernel : ∀ t : Fin grid0.N, _)
theorem index6 : ∀ t : Fin cfg0.N, win0_6.index t = ![t.val % 8, t.val / 8] := (by decide +kernel : ∀ t : Fin grid0.N, _)
theorem coord (t : Fin cfg0.N) : (grid0.coords t 1).val = t.val % 8 := (by decide +kernel : ∀ t : Fin grid0.N, (grid0.coords t 1).val = t.val % 8) t

/-- A block's convolution is the convolution of the whole array at the block's place. -/
theorem part_eq (x : FVec Ideal S4096x5632 .f32) (w : FVec Ideal S3x5632 .f32) (b : FVec Ideal S5632 .f32) (t : Fin cfg0.N) (r : Fin 512) (l : Fin 256)
    (q : Fin 5632) (k h : Vec Ideal S8x256 .f32) (y : Vec Ideal S512x256 .f32) (k0 : k (ix2 0 l) = w (ix2 0 q)) (k1 : k (ix2 1 l) = w (ix2 1 q))
    (k2 : k (ix2 2 l) = w (ix2 2 q)) (k3 : k (ix2 3 l) = b (ix1 q)) (hh : ∀ s, h (ix2 s l) = x (ix2 (before t s) q))
    (hy : ∀ s, y (ix2 s l) = x (ix2 (row t s) q)) :
    part ((t.val % 8 * 512 + r.val) % 2048) k h y r l = convAt x w b (row t r) q := by
  have lt : (t.val % 8 * 512 + r.val) % 2048 < 2048 := Nat.mod_lt _ (by norm_num)
  unfold part convAt
  rw [select_ge _ 2 (by omega) (by norm_num), select_ge _ 1 (by omega) (by norm_num), k0, k1, k2, k3, hy]
  congr 1
  congr 1
  · congr 1
    by_cases h1 : 2 ≤ (t.val % 8 * 512 + r.val) % 2048
    · rw [if_pos h1, if_pos (show 2 ≤ (row t r).val % 2048 from h1)]
      refine congrArg _ ?_
      split_ifs with h2
      · rw [hh]; exact congrArg (fun p => x (ix2 p q)) (Fin.ext (by simp only [before, row]; omega))
      · rw [hy]; exact congrArg (fun p => x (ix2 p q)) (Fin.ext (by simp only [row]; omega))
    · rw [if_neg h1, if_neg (show ¬2 ≤ (row t r).val % 2048 from h1)]
  · by_cases h1 : 1 ≤ (t.val % 8 * 512 + r.val) % 2048
    · rw [if_pos h1, if_pos (show 1 ≤ (row t r).val % 2048 from h1)]
      refine congrArg _ ?_
      split_ifs with h2
      · rw [hh]; exact congrArg (fun p => x (ix2 p q)) (Fin.ext (by simp only [before, row]; omega))
      · rw [hy]; exact congrArg (fun p => x (ix2 p q)) (Fin.ext (by simp only [row]; omega))
    · rw [if_neg h1, if_neg (show ¬1 ≤ (row t r).val % 2048 from h1)]

/-- What the grid reads of the taps: the convolution's weights in the first rows, its bias after them. -/
theorem taps (c : Dev nD) : V m c main_v2 = (concatenate S8x5632 0 [⟨S3x5632, (m ((c.tc : Thread nD τ).loc main_arg1) : FVec Ideal S3x5632 .f32)⟩,
      ⟨S1x5632, broadcastInDim S1x5632 ![1] bcast_S5632_S1x5632_1 (m ((c.tc : Thread nD τ).loc main_arg2) : FVec Ideal S5632 .f32)⟩,
      ⟨S4x5632, broadcastInDim S4x5632 ![] bcast_S_S4x5632 (constant S_ .f32 0#32 : FVec Ideal S_ .f32)⟩] concatenates_S3x5632_S1x5632_S4x5632_S8x5632_d0 : FVec Ideal S8x5632 .f32) := by
  unfold_abbrev_sides
  after_results
  rfl

/-- A row of weights among the taps. -/
theorem tap (c : Dev nD) (j : Fin 3) (l : Fin 5632) : V m c main_v2 (ix2 ⟨j.val, by omega⟩ l) = m ((c.tc : Thread nD τ).loc main_arg1) (ix2 j l) := by
  rw [taps]
  pointwise

/-- The row of the bias among the taps. -/
theorem bias (c : Dev nD) (l : Fin 5632) : V m c main_v2 (ix2 3 l) = m ((c.tc : Thread nD τ).loc main_arg2) (ix1 l) := by
  rw [taps]
  pointwise

theorem block0 (c : Dev nD) (t : Fin cfg0.N) (r : Fin 512) (l : Fin 256) :
    iblk m c 0 t (ix2 r l) = m ((c.tc : Thread nD τ).loc main_arg0) (ix2 (row t r) (upc t l)) := by
  rw [← V_main_arg0 m c]; blk_simp [iblk]; congr 1; blk_ext [index0, row, upc, col]

theorem block1 (c : Dev nD) (t : Fin cfg0.N) (r : Fin 512) (l : Fin 256) :
    iblk m c 1 t (ix2 r l) = m ((c.tc : Thread nD τ).loc main_arg0) (ix2 (row t r) (gatec t l)) := by
  rw [← V_main_arg0 m c]; blk_simp [iblk]; congr 1; blk_ext [index1, row, gatec, col]

theorem block2 (c : Dev nD) (t : Fin cfg0.N) (q : Fin 8) (l : Fin 256) :
    iblk m c 2 t (ix2 q l) = m ((c.tc : Thread nD τ).loc main_arg0) (ix2 (before t q) (upc t l)) := by
  rw [← V_main_arg0 m c]; blk_simp [iblk]; congr 1; blk_ext [index2, before, upc, col]

theorem block3 (c : Dev nD) (t : Fin cfg0.N) (q : Fin 8) (l : Fin 256) :
    iblk m c 3 t (ix2 q l) = m ((c.tc : Thread nD τ).loc main_arg0) (ix2 (before t q) (gatec t l)) := by
  rw [← V_main_arg0 m c]; blk_simp [iblk]; congr 1; blk_ext [index3, before, gatec, col]

theorem block4 (c : Dev nD) (t : Fin cfg0.N) (q : Fin 8) (l : Fin 256) : iblk m c 4 t (ix2 q l) = V m c main_v2 (ix2 q (upc t l)) := by
  blk_simp [iblk]; congr 1; blk_ext [index4, upc, col]

theorem block5 (c : Dev nD) (t : Fin cfg0.N) (q : Fin 8) (l : Fin 256) : iblk m c 5 t (ix2 q l) = V m c main_v2 (ix2 q (gatec t l)) := by
  blk_simp [iblk]; congr 1; blk_ext [index5, gatec, col]

/-- After the grid, the result holds the activation at every element. -/
theorem final (c : Dev nD) : (dats m 0 c).arrAt 6 cfg0.N =
    spec (m ((c.tc : Thread nD τ).loc main_arg0)) (m ((c.tc : Thread nD τ).loc main_arg1)) (m ((c.tc : Thread nD τ).loc main_arg2)) := by
  refine (dats m 0 c).arrAt_eq_of_covers 6 _ (by decide +kernel) fun t hf i => ?_
  obtain ⟨r, l, rfl⟩ : ∃ r l, i = ix2 r l := ⟨_, _, eq_ix2 i⟩
  blk_simp
  have e : (win0_6.blk t).view.emb (ix2 r l) = ix2 (row t r) (col t l) := by blk_ext [index6, row, col]
  rw [after0_6, e]
  refine (pay ..).trans ?_
  simp only [coord]
  change _ = act (convAt _ _ _ (row t r) (gatec t l)) (convAt _ _ _ (row t r) (upc t l))
  congr 1
  · exact part_eq _ _ _ t r l _ _ _ _ ((block5 m c t 0 l).trans (tap m c 0 _)) ((block5 m c t 1 l).trans (tap m c 1 _))
      ((block5 m c t 2 l).trans (tap m c 2 _)) ((block5 m c t 3 l).trans (bias m c _)) (fun s => block3 m c t s l) (fun s => block1 m c t s l)
  · exact part_eq _ _ _ t r l _ _ _ _ ((block4 m c t 0 l).trans (tap m c 0 _)) ((block4 m c t 1 l).trans (tap m c 1 _))
      ((block4 m c t 2 l).trans (tap m c 2 _)) ((block4 m c t 3 l).trans (bias m c _)) (fun s => block2 m c t s l) (fun s => block0 m c t s l)

end

section

open Cert.FfnActReferenceIdeal Cert.FfnActReferenceIdeal.Gen

/-- The reference's convolution. -/
def conv (x : FVec Ideal S4096x5632 .f32) (w : FVec Ideal S3x5632 .f32) (b : FVec Ideal S5632 .f32) : FVec Ideal S2x2048x5632 .f32 :=
  addf (addf (addf (broadcastInDim S2x2048x5632 ![0, 1, 2] bcast_S1x1x5632_S2x2048x5632_0_1_2 (broadcastInDim S1x1x5632 ![2] bcast_S5632_S1x1x5632_2 b))
    (mulf (broadcastInDim S2x2048x5632 ![0, 1, 2] bcast_S1x1x5632_S2x2048x5632_0_1_2 (broadcastInDim S1x1x5632 ![2] bcast_S5632_S1x1x5632_2 (shapeCast _ (extractStridedSlice S1x5632 ![0, 0] w slices_S3x5632_S1x5632_0_0) shapeCasts_S1x5632_S5632))) (extractStridedSlice S2x2048x5632 ![0, 0, 0] (concatenate S2x2050x5632 1 [⟨S2x2x5632, (broadcastInDim S2x2x5632 ![] bcast_S_S2x2x5632 (constant S_ .f32 0x00000000#32))⟩, ⟨S2x2048x5632, (shapeCast _ x shapeCasts_S4096x5632_S2x2048x5632)⟩] concatenates_S2x2x5632_S2x2048x5632_S2x2050x5632_d1) slices_S2x2050x5632_S2x2048x5632_0_0_0)))
    (mulf (broadcastInDim S2x2048x5632 ![0, 1, 2] bcast_S1x1x5632_S2x2048x5632_0_1_2 (broadcastInDim S1x1x5632 ![2] bcast_S5632_S1x1x5632_2 (shapeCast _ (extractStridedSlice S1x5632 ![1, 0] w slices_S3x5632_S1x5632_1_0) shapeCasts_S1x5632_S5632))) (extractStridedSlice S2x2048x5632 ![0, 1, 0] (concatenate S2x2050x5632 1 [⟨S2x2x5632, (broadcastInDim S2x2x5632 ![] bcast_S_S2x2x5632 (constant S_ .f32 0x00000000#32))⟩, ⟨S2x2048x5632, (shapeCast _ x shapeCasts_S4096x5632_S2x2048x5632)⟩] concatenates_S2x2x5632_S2x2048x5632_S2x2050x5632_d1) slices_S2x2050x5632_S2x2048x5632_0_1_0)))
    (mulf (broadcastInDim S2x2048x5632 ![0, 1, 2] bcast_S1x1x5632_S2x2048x5632_0_1_2 (broadcastInDim S1x1x5632 ![2] bcast_S5632_S1x1x5632_2 (shapeCast _ (extractStridedSlice S1x5632 ![2, 0] w slices_S3x5632_S1x5632_2_0) shapeCasts_S1x5632_S5632))) (extractStridedSlice S2x2048x5632 ![0, 2, 0] (concatenate S2x2050x5632 1 [⟨S2x2x5632, (broadcastInDim S2x2x5632 ![] bcast_S_S2x2x5632 (constant S_ .f32 0x00000000#32))⟩, ⟨S2x2048x5632, (shapeCast _ x shapeCasts_S4096x5632_S2x2048x5632)⟩] concatenates_S2x2x5632_S2x2048x5632_S2x2050x5632_d1) slices_S2x2050x5632_S2x2048x5632_0_2_0))

/-- The reference's convolution at an element. -/
theorem inner (x : FVec Ideal S4096x5632 .f32) (w : FVec Ideal S3x5632 .f32) (b : FVec Ideal S5632 .f32) (s : Fin 2) (r : Fin 2048) (l : Fin 5632) :
    conv x w b (ix3 s r l) = convAt x w b ⟨s.val * 2048 + r.val, by omega⟩ l := by
  generalize hz : convAt x w b ⟨s.val * 2048 + r.val, by omega⟩ l = z
  pointwise [conv]
  rw [← hz]
  simp only [convAt]
  congr 1
  congr 1
  · congr 1
    by_cases h1 : r.val < 2
    · rw [dif_pos h1, if_neg (show ¬2 ≤ (s.val * 2048 + r.val) % 2048 by omega)]
      exact mul_zero _
    · rw [dif_neg h1, if_pos (show 2 ≤ (s.val * 2048 + r.val) % 2048 by omega)]
      refine congrArg (fun p => w (ix2 0 l) * x (ix2 p l)) (Fin.ext ?_)
      simp only []
      omega
  · by_cases h1 : 1 + r.val < 2
    · rw [dif_pos h1, if_neg (show ¬1 ≤ (s.val * 2048 + r.val) % 2048 by omega)]
      exact mul_zero _
    · rw [dif_neg h1, if_pos (show 1 ≤ (s.val * 2048 + r.val) % 2048 by omega)]
      refine congrArg (fun p => w (ix2 1 l) * x (ix2 p l)) (Fin.ext ?_)
      simp only []
      omega

/-- The two ways of writing the activation agree. -/
theorem act_eq (g u : Ideal .f32) :
    Ideal.ofBits .f32 0x3F000000#32 * g * Ideal.erfc (-g * Ideal.ofBits .f32 0x3F3504F3#32) * u = act g u := by
  unfold act
  rw [neg_mul, Ideal.erfc_neg]

/-- What the reference leaves at an element. -/
theorem outer (m : (ℓ : Loc nD τ sig) → Buf (Elt Ideal) ℓ) (c : Dev nD) (r : Fin 4096) (l : Fin 2816) :
    Value.res_main_v36 m c (ix2 r l) = spec (m ((c.tc : Thread nD τ).loc main_arg0)) (m ((c.tc : Thread nD τ).loc main_arg1)) (m ((c.tc : Thread nD τ).loc main_arg2)) (ix2 r l) := by
  have e : Value.res_main_v36 m c = (mulf (mulf (mulf (broadcastInDim S4096x2816 ![] bcast_S_S4096x2816 (constant S_ .f32 0x3F000000#32))
    (extractStridedSlice S4096x2816 ![0, 2816] (shapeCast _ (conv (m ((c.tc : Thread nD τ).loc main_arg0)) (m ((c.tc : Thread nD τ).loc main_arg1)) (m ((c.tc : Thread nD τ).loc main_arg2))) shapeCasts_S2x2048x5632_S4096x5632) slices_S4096x5632_S4096x2816_0_2816))
    (Host.erfc (mulf (Host.negf (extractStridedSlice S4096x2816 ![0, 2816] (shapeCast _ (conv (m ((c.tc : Thread nD τ).loc main_arg0)) (m ((c.tc : Thread nD τ).loc main_arg1)) (m ((c.tc : Thread nD τ).loc main_arg2))) shapeCasts_S2x2048x5632_S4096x5632) slices_S4096x5632_S4096x2816_0_2816)) (broadcastInDim S4096x2816 ![] bcast_S_S4096x2816 (constant S_ .f32 0x3F3504F3#32)))))
    (extractStridedSlice S4096x2816 ![0, 0] (shapeCast _ (conv (m ((c.tc : Thread nD τ).loc main_arg0)) (m ((c.tc : Thread nD τ).loc main_arg1)) (m ((c.tc : Thread nD τ).loc main_arg2))) shapeCasts_S2x2048x5632_S4096x5632) slices_S4096x5632_S4096x2816_0_0) : FVec Ideal S4096x2816 .f32) := by
    unfold Value.res_main_v36 conv
    rfl
  rw [e]
  have p : ∀ q : Fin 5632, conv (m ((c.tc : Thread nD τ).loc main_arg0)) (m ((c.tc : Thread nD τ).loc main_arg1)) (m ((c.tc : Thread nD τ).loc main_arg2))
      (ix3 ⟨r.val / 2048, by omega⟩ ⟨r.val % 2048, by omega⟩ q) =
      convAt (m ((c.tc : Thread nD τ).loc main_arg0)) (m ((c.tc : Thread nD τ).loc main_arg1)) (m ((c.tc : Thread nD τ).loc main_arg2)) r q := fun q =>
    (inner ..).trans (congrArg (fun p => convAt _ _ _ p q) (Fin.ext (Nat.div_add_mod' _ _)))
  refine Eq.trans ?_ ((act_eq _ _).symm.trans rfl).symm
  clear e
  generalize conv _ _ _ = y at p ⊢
  pointwise
  rw [p, p]

end

/-- The kernel's activation is the reference's. -/
theorem ffnAct : Cert.algebraic_FfnActKernelIdeal_FfnActReferenceIdeal (hFfnActKernelIdeal := Cert.FfnActKernelIdeal.Gen.facts) (hFfnActReferenceIdeal := Cert.FfnActReferenceIdeal.Gen.facts) :=
  fun m g m' g' _ h => ⟨_, Cert.FfnActKernelIdeal.Value.run_blocks m g, (θ_run Cert.FfnActReferenceIdeal.defs _ _).mono (fun r e c => by
    obtain ⟨e0, e1⟩ := e c
    obtain ⟨h0, h1, h2⟩ := h c
    refine ⟨e0.trans ?_, e1⟩
    rw [final m c]
    funext i
    obtain ⟨r, l, rfl⟩ : ∃ r l, i = ix2 r l := ⟨_, _, eq_ix2 i⟩
    refine (outer m' c r l).trans ?_
    rw [h0, h1, h2]) (Cert.FfnActReferenceIdeal.Value.run m' g')⟩

end Cert.Act
-- ==== Proof.Conv.lean ====
/-
# The gradient of the convolution's input

Each point of the grid takes a block of 512 rows of the result's gradient and the eight rows after it. A row's gradient is the row itself
and the two rows after it in its sequence, each with its tap; past the end of a sequence they count as zero. The reference's is the
gradient of the convolution of whole sequences, which adds up the three shifts and leaves out the rows that were put in front.
-/
module

public import proofs.«01_k».proof.Defs
public import proofs.«01_k».proof.Proof.Gen.ConvTKernelIdeal.Value
public import proofs.«01_k».proof.Proof.Gen.ConvTReferenceIdeal.Run
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.SL.Sem

namespace ConvT

section

open Cert.ConvTKernelIdeal Cert.ConvTKernelIdeal.Gen

variable (m : (ℓ : Loc nD τ sig) → Buf (Elt Ideal) ℓ)

/-- The place of a block's row in its sequence. -/
theorem place (i : grid0.Coords) (r : Fin 512) : k0_pay2 i (ix2 r 0) = BitVec.ofNat 32 (((i 1).val * 512 + r.val) % 2048) := by
  pointwise [k0_pay2]
  generalize i 1 = a
  revert r a
  show ∀ (r : Fin 512) (a : Fin 8), _
  decide +kernel

/-- A choice by comparing two small numbers. -/
theorem select_lt {α : Type} (n k : ℕ) (hn : n < 2 ^ 31) (hk : k < 2 ^ 31) (a b : α) :
    Scalar.select (IntOp.cmpi .slt (BitVec.ofNat 32 n) (BitVec.ofNat 32 k)) a b = if n < k then a else b := by
  rw [WordCmp.cmpi_slt_ofNat hn hk, WordCmp.select_ofBool]
  simp

/-- What a point leaves at row `r` of its block. -/
theorem pay (i : grid0.Coords) (x : Vec Ideal S512x256 .f32) (n w : Vec Ideal S8x256 .f32) (r : Fin 512) (l : Fin 256) :
    out0_3 i x n w (ix2 r l) = (w (ix2 2 l) * x (ix2 r l) +
        Scalar.select (IntOp.cmpi .slt (BitVec.ofNat 32 (((i 1).val * 512 + r.val) % 2048)) 2047#32)
          (w (ix2 1 l) *
            if h : (r.val + 520 - 519) % 520 < 512 then x (ix2 ⟨(r.val + 520 - 519) % 520, h⟩ l)
            else n (ix2 ⟨(r.val + 520 - 519) % 520 - 512, by omega⟩ l))
          0 +
      Scalar.select (IntOp.cmpi .slt (BitVec.ofNat 32 (((i 1).val * 512 + r.val) % 2048)) 2046#32)
        (w (ix2 0 l) *
          if h : (r.val + 520 - 518) % 520 < 512 then x (ix2 ⟨(r.val + 520 - 518) % 520, h⟩ l)
          else n (ix2 ⟨(r.val + 520 - 518) % 520 - 512, by omega⟩ l))
        0 : Ideal .f32) := by
  frame_out
  pointwise [k0_pay1, k0_pay6, k0_pay7, k0_pay3, k0_pay5, k0_pay4, place]

/-- The gradient of the convolution's input at one element: the row itself and the two rows after it in its sequence, each with its tap. -/
def backAt (x : FVec Ideal S4096x5632 .f32) (w : FVec Ideal S3x5632 .f32) (r : Fin 4096) (l : Fin 5632) : Ideal .f32 :=
  w (ix2 2 l) * x (ix2 r l) +
    (if h : r.val % 2048 < 2047 then w (ix2 1 l) * x (ix2 ⟨r.val + 1, by omega⟩ l) else 0) +
    if h : r.val % 2048 < 2046 then w (ix2 0 l) * x (ix2 ⟨r.val + 2, by omega⟩ l) else 0

/-- That gradient as an array. -/
def back (x : FVec Ideal S4096x5632 .f32) (w : FVec Ideal S3x5632 .f32) : FVec Ideal S4096x5632 .f32 := fun i => backAt x w (i 0) (i 1)

/-- Row `r` of the block of rows that point `t` of the grid takes. -/
def row (t : Fin cfg0.N) (r : Fin 512) : Fin 4096 := ⟨t.val % 8 * 512 + r.val, by omega⟩

/-- Column `l` of the block of columns that point `t` takes. -/
def col (t : Fin cfg0.N) (l : Fin 256) : Fin 5632 := ⟨t.val / 8 * 256 + l.val, by have := t.isLt; have : cfg0.N = 176 := N_0; omega⟩

/-- Row `q` of the eight rows after the block that point `t` takes; after the last block, the last eight. -/
def after (t : Fin cfg0.N) (q : Fin 8) : Fin 4096 := ⟨min ((t.val % 8 + 1) * 64) 511 * 8 + q.val, by omega⟩

theorem index0 : ∀ t : Fin cfg0.N, win0_0.index t = ![t.val % 8, t.val / 8] := (by decide +kernel : ∀ t : Fin grid0.N, _)
theorem index1 : ∀ t : Fin cfg0.N, win0_1.index t = ![min ((t.val % 8 + 1) * 64) 511, t.val / 8] := (by decide +kernel : ∀ t : Fin grid0.N, _)
theorem index2 : ∀ t : Fin cfg0.N, win0_2.index t = ![0, t.val / 8] := (by decide +kernel : ∀ t : Fin grid0.N, _)
theorem index3 : ∀ t : Fin cfg0.N, win0_3.index t = ![t.val % 8, t.val / 8] := (by decide +kernel : ∀ t : Fin grid0.N, _)
theorem coord (t : Fin cfg0.N) : (grid0.coords t 1).val = t.val % 8 := (by decide +kernel : ∀ t : Fin grid0.N, (grid0.coords t 1).val = t.val % 8) t

/-- What the grid reads of the taps: the convolution's weights in the first rows. -/
theorem tap (c : Dev nD) (j : Fin 3) (l : Fin 5632) : V m c main_v2 (ix2 ⟨j.val, by omega⟩ l) = m ((c.tc : Thread nD τ).loc main_arg1) (ix2 j l) := by
  have e : V m c main_v2 = (concatenate S8x5632 0 [⟨S3x5632, (m ((c.tc : Thread nD τ).loc main_arg1) : FVec Ideal S3x5632 .f32)⟩,
      ⟨S1x5632, broadcastInDim S1x5632 ![1] bcast_S5632_S1x5632_1 (m ((c.tc : Thread nD τ).loc main_arg2) : FVec Ideal S5632 .f32)⟩,
      ⟨S4x5632, broadcastInDim S4x5632 ![] bcast_S_S4x5632 (constant S_ .f32 0#32 : FVec Ideal S_ .f32)⟩] concatenates_S3x5632_S1x5632_S4x5632_S8x5632_d0 : FVec Ideal S8x5632 .f32) := by
    unfold_abbrev_sides
    after_results
    rfl
  rw [e]
  pointwise

theorem block0 (c : Dev nD) (t : Fin cfg0.N) (r : Fin 512) (l : Fin 256) :
    iblk m c 0 t (ix2 r l) = m ((c.tc : Thread nD τ).loc main_arg0) (ix2 (row t r) (col t l)) := by
  rw [← V_main_arg0 m c]; blk_simp [iblk]; congr 1; blk_ext [index0, row, col]

theorem block1 (c : Dev nD) (t : Fin cfg0.N) (q : Fin 8) (l : Fin 256) :
    iblk m c 1 t (ix2 q l) = m ((c.tc : Thread nD τ).loc main_arg0) (ix2 (after t q) (col t l)) := by
  rw [← V_main_arg0 m c]; blk_simp [iblk]; congr 1; blk_ext [index1, after, col]

theorem block2 (c : Dev nD) (t : Fin cfg0.N) (j : Fin 3) (l : Fin 256) :
    iblk m c 2 t (ix2 ⟨j.val, by omega⟩ l) = m ((c.tc : Thread nD τ).loc main_arg1) (ix2 j (col t l)) := by
  rw [← tap m c]; blk_simp [iblk]; congr 1; blk_ext [index2, col]

/-- After the grid, the result holds the gradient at every element. -/
theorem final (c : Dev nD) : (dats m 0 c).arrAt 3 cfg0.N = back (m ((c.tc : Thread nD τ).loc main_arg0)) (m ((c.tc : Thread nD τ).loc main_arg1)) := by
  refine (dats m 0 c).arrAt_eq_of_covers 3 _ (by decide +kernel) fun t hf i => ?_
  obtain ⟨r, l, rfl⟩ : ∃ r l, i = ix2 r l := ⟨_, _, eq_ix2 i⟩
  blk_simp
  have e : (win0_3.blk t).view.emb (ix2 r l) = ix2 (row t r) (col t l) := by blk_ext [index3, row, col]
  rw [after0_3, e]
  refine (pay ..).trans ?_
  simp only [coord]
  have w0 : iblk m c 2 t (ix2 0 l) = _ := block2 m c t 0 l
  have w1 : iblk m c 2 t (ix2 1 l) = _ := block2 m c t 1 l
  have w2 : iblk m c 2 t (ix2 2 l) = _ := block2 m c t 2 l
  rw [w0, w1, w2, block0]
  have lt : (t.val % 8 * 512 + r.val) % 2048 < 2048 := Nat.mod_lt _ (by norm_num)
  rw [select_lt _ 2047 (by omega) (by norm_num), select_lt _ 2046 (by omega) (by norm_num)]
  change _ = backAt _ _ (row t r) (col t l)
  simp only [backAt]
  congr 1
  · congr 1
    by_cases h1 : (t.val % 8 * 512 + r.val) % 2048 < 2047
    · rw [if_pos h1, dif_pos (show (row t r).val % 2048 < 2047 from h1)]
      refine congrArg _ ?_
      split_ifs with h2
      · rw [block0]; exact congrArg (fun q => m ((c.tc : Thread nD τ).loc main_arg0) (ix2 q (col t l))) (Fin.ext (by simp only [row]; omega))
      · rw [block1]; exact congrArg (fun q => m ((c.tc : Thread nD τ).loc main_arg0) (ix2 q (col t l))) (Fin.ext (by simp only [after, row]; omega))
    · rw [if_neg h1, dif_neg (show ¬(row t r).val % 2048 < 2047 from h1)]
  · by_cases h1 : (t.val % 8 * 512 + r.val) % 2048 < 2046
    · rw [if_pos h1, dif_pos (show (row t r).val % 2048 < 2046 from h1)]
      refine congrArg _ ?_
      split_ifs with h2
      · rw [block0]; exact congrArg (fun q => m ((c.tc : Thread nD τ).loc main_arg0) (ix2 q (col t l))) (Fin.ext (by simp only [row]; omega))
      · rw [block1]; exact congrArg (fun q => m ((c.tc : Thread nD τ).loc main_arg0) (ix2 q (col t l))) (Fin.ext (by simp only [after, row]; omega))
    · rw [if_neg h1, dif_neg (show ¬(row t r).val % 2048 < 2046 from h1)]

end

section

open Cert.ConvTReferenceIdeal Cert.ConvTReferenceIdeal.Gen

/-- A row of both sequences together is a row of one of them. -/
theorem split (y : FVec Ideal S2x2048x5632 .f32) (r : Fin 4096) (l : Fin 5632) :
    shapeCast S4096x5632 y shapeCasts_S2x2048x5632_S4096x5632 (ix2 r l) = y (ix3 ⟨r.val / 2048, by omega⟩ ⟨r.val % 2048, by omega⟩ l) := by
  pointwise

/-- The reference's gradient at an element. -/
theorem inner (x : FVec Ideal S4096x5632 .f32) (w : FVec Ideal S3x5632 .f32) (b : Fin 2) (r : Fin 2048) (l : Fin 5632) (z : Ideal .f32)
    (hz : backAt x w ⟨b.val * 2048 + r.val, by omega⟩ l = z) :
    extractStridedSlice S2x2048x5632 ![0, 2, 0]
        (addf
          (addf
            (pad S2x2050x5632 ![0, 2, 0] ![0, 0, 0] ![0, 0, 0]
              (mulf
                (broadcastInDim S2x2048x5632 ![0, 1, 2] bcast_S1x1x5632_S2x2048x5632_0_1_2
                  (broadcastInDim S1x1x5632 ![2] bcast_S5632_S1x1x5632_2
                    (shapeCast S5632 (extractStridedSlice S1x5632 ![2, 0] w slices_S3x5632_S1x5632_2_0) shapeCasts_S1x5632_S5632)))
                (shapeCast S2x2048x5632 x shapeCasts_S4096x5632_S2x2048x5632))
              (constant S_ FTy.f32 0#32) pads_S2x2048x5632_S2x2050x5632_000_200_000 h_S_)
            (pad S2x2050x5632 ![0, 1, 0] ![0, 1, 0] ![0, 0, 0]
              (mulf
                (broadcastInDim S2x2048x5632 ![0, 1, 2] bcast_S1x1x5632_S2x2048x5632_0_1_2
                  (broadcastInDim S1x1x5632 ![2] bcast_S5632_S1x1x5632_2
                    (shapeCast S5632 (extractStridedSlice S1x5632 ![1, 0] w slices_S3x5632_S1x5632_1_0) shapeCasts_S1x5632_S5632)))
                (shapeCast S2x2048x5632 x shapeCasts_S4096x5632_S2x2048x5632))
              (constant S_ FTy.f32 0#32) pads_S2x2048x5632_S2x2050x5632_000_110_000 h_S_))
          (pad S2x2050x5632 ![0, 0, 0] ![0, 2, 0] ![0, 0, 0]
            (mulf
              (broadcastInDim S2x2048x5632 ![0, 1, 2] bcast_S1x1x5632_S2x2048x5632_0_1_2
                (broadcastInDim S1x1x5632 ![2] bcast_S5632_S1x1x5632_2
                  (shapeCast S5632 (extractStridedSlice S1x5632 ![0, 0] w slices_S3x5632_S1x5632_0_0) shapeCasts_S1x5632_S5632)))
              (shapeCast S2x2048x5632 x shapeCasts_S4096x5632_S2x2048x5632))
            (constant S_ FTy.f32 0#32) pads_S2x2048x5632_S2x2050x5632_000_020_000 h_S_))
        slices_S2x2050x5632_S2x2048x5632_0_2_0 (ix3 b r l) = z := by
  pointwise
  rw [← hz]
  simp only [backAt]
  congr 1
  · congr 1
    split_ifs
    · congr 3; apply Fin.ext; simp only []; omega
    · omega
    · omega
    · rfl
  · split_ifs
    · congr 3; apply Fin.ext; simp only []; omega
    · omega
    · omega
    · rfl

end

end ConvT

/-- The kernel's gradient is the reference's. -/
theorem convT : Cert.algebraic_ConvTKernelIdeal_ConvTReferenceIdeal (hConvTKernelIdeal := Cert.ConvTKernelIdeal.Gen.facts) (hConvTReferenceIdeal := Cert.ConvTReferenceIdeal.Gen.facts) :=
  fun m g m' g' _ h => ⟨_, Cert.ConvTKernelIdeal.Value.run_blocks m g, (θ_run Cert.ConvTReferenceIdeal.defs _ _).mono (fun r e c => by
    obtain ⟨e0, e1⟩ := e c
    obtain ⟨h0, h1, h2⟩ := h c
    refine ⟨e0.trans ?_, e1⟩
    rw [h0, h1, ConvT.final m c]
    funext i
    obtain ⟨r, l, rfl⟩ : ∃ r l, i = ix2 r l := ⟨_, _, eq_ix2 i⟩
    refine (ConvT.split _ r l).trans (ConvT.inner _ _ _ _ _ _ ?_)
    congr
    exact Nat.div_add_mod' _ _) (Cert.ConvTReferenceIdeal.Value.run m' g')⟩
end Cert.Conv

end
-- ==== Proof.HalfSum.lean ====
/-
# The sum of a core's and its sibling's gradients

Each core adds what its sibling sent to its own half of the rows, the first core the first half and the second core the second. Which
half it is the kernel reads from a table of one word. The two kernels here are the two cores', and each leaves the sum of its half.
-/
module

public import proofs.«01_k».proof.Defs
public import proofs.«01_k».proof.Proof.Gen.ReduceAdd0Kernel.Frame
public import proofs.«01_k».proof.Proof.Gen.ReduceAdd0KernelIdeal.Frame
public import proofs.«01_k».proof.Proof.Gen.ReduceAdd0ReferenceIdeal.Run
public import proofs.«01_k».proof.Proof.Gen.ReduceAdd1Kernel.Frame
public import proofs.«01_k».proof.Proof.Gen.ReduceAdd1KernelIdeal.Frame
public import proofs.«01_k».proof.Proof.Gen.ReduceAdd1ReferenceIdeal.Run
public import Idealize.ShloMosaic.Lib.Pipeline.ValueKit
public import Idealize.ShloMosaic.Lib.Pointwise

@[expose] public section

set_option maxRecDepth 16384

noncomputable section

namespace Cert.HalfSum

open Idealize.ShloMosaic Idealize.ShloMosaic.TcCoe Idealize.SL.Sem

/-- A block's element lies at its place in the block, after the blocks before. -/
theorem at_place {n k s x r : ℕ} (h : n = k) (e : k * s + x = r) : n * s + x = r := h ▸ e

namespace ReduceAdd0Kernel

open Cert.ReduceAdd0Kernel Cert.ReduceAdd0Kernel.Gen

variable {F : FTy → Type} [FloatOps F] (m : (ℓ : Loc nD τ sig) → Buf (Elt F) ℓ)

/-- The table's word is the core. -/
theorem word (i : S1.Idx) : (tbl m 0 : S1.Idx → BitVec 32) i = 0#32 := by
  rfl

/-- The block of the whole that a point takes: the blocks of a half are nine. -/
theorem takes (i : grid0.Coords) : cc0_transform_0 (F := F) Facts₀.inb_S1_S1_0 Facts₀.numel1_S1 (tbl m) i = ![(i 0).val, 0 + (i 1).val, 0] := by
  have h0 : (i 0).val < 4 := (i 0).isLt
  have h1 : (i 1).val < 9 := (i 1).isLt
  funext a
  fin_cases a
  · exact Nat.mod_eq_of_lt (by omega)
  · show ((0#32 * 9#32 + BitVec.ofNat 32 (i 1).val : BitVec 32)).toNat = 0 + (i 1).val
    simp only [BitVec.toNat_add, BitVec.toNat_mul, BitVec.toNat_ofNat]
    omega
  · rfl

/-- So every block is inside the whole. -/
theorem inside : Ok m := fun i => ⟨fun a => by
  have h0 : (i 0).val < 4 := (i 0).isLt
  have h1 : (i 1).val < 9 := (i 1).isLt
  rw [takes]
  fin_cases a
  · show ((i 0).val + 1) * 1 ≤ 4; omega
  · show (0 + (i 1).val + 1) * 384 ≤ 6912; omega
  · show (0 + 1) * 1024 ≤ 1024; omega, .inl rfl⟩

end ReduceAdd0Kernel

namespace ReduceAdd0KernelIdeal

open Cert.ReduceAdd0KernelIdeal Cert.ReduceAdd0KernelIdeal.Gen

variable {F : FTy → Type} [FloatOps F] (m : (ℓ : Loc nD τ sig) → Buf (Elt F) ℓ)

/-- The table's word is the core. -/
theorem word (i : S1.Idx) : (tbl m 0 : S1.Idx → BitVec 32) i = 0#32 := by
  rfl

/-- The block of the whole that a point takes: the blocks of a half are nine. -/
theorem takes (i : grid0.Coords) : cc0_transform_0 (F := F) Facts₀.inb_S1_S1_0 Facts₀.numel1_S1 (tbl m) i = ![(i 0).val, 0 + (i 1).val, 0] := by
  have h0 : (i 0).val < 4 := (i 0).isLt
  have h1 : (i 1).val < 9 := (i 1).isLt
  funext a
  fin_cases a
  · exact Nat.mod_eq_of_lt (by omega)
  · show ((0#32 * 9#32 + BitVec.ofNat 32 (i 1).val : BitVec 32)).toNat = 0 + (i 1).val
    simp only [BitVec.toNat_add, BitVec.toNat_mul, BitVec.toNat_ofNat]
    omega
  · rfl

/-- So every block is inside the whole. -/
theorem inside : Ok m := fun i => ⟨fun a => by
  have h0 : (i 0).val < 4 := (i 0).isLt
  have h1 : (i 1).val < 9 := (i 1).isLt
  rw [takes]
  fin_cases a
  · show ((i 0).val + 1) * 1 ≤ 4; omega
  · show (0 + (i 1).val + 1) * 384 ≤ 6912; omega
  · show (0 + 1) * 1024 ≤ 1024; omega, .inl rfl⟩

end ReduceAdd0KernelIdeal

namespace ReduceAdd0KernelIdeal

open Cert.ReduceAdd0KernelIdeal Cert.ReduceAdd0KernelIdeal.Gen

theorem pay_add (a b : FVec Ideal S1x384x1024 .f32) (x : Fin 384) (y : Fin 1024) :
    k0_pay1 (F := Ideal) a b (ix3 0 x y) = a (ix3 0 x y) + b (ix3 0 x y) := by
  pointwise [k0_pay1]

/-- What a point leaves in its block of the result: the two blocks it is given, added. -/
theorem pay_at (c : Dev nD) (i : grid0.Coords) (arg3 : Memref sig .tc .vmem S1x384x1024 .f32) (harg3 : arg3.IsWhole) (arg4 : Memref sig .tc .vmem S1x384x1024 .f32)
    (harg4 : arg4.IsWhole) (arg5 : Memref sig .tc .vmem S1x384x1024 .bf16) (harg5 : arg5.IsWhole) (a b : FVec Ideal S1x384x1024 .f32) (w : TbBuf0 (F := Ideal) c tbM0_0)
    (x : Fin 384) (y : Fin 1024) :
    out0_A_2 c i arg3 harg3 arg4 harg4 arg5 harg5 a b w (ix3 0 x y) = a (ix3 0 x y) + b (ix3 0 x y) := by
  frame_out
  rw [pay_add]

/-- The half of the whole that this core keeps, and the other's contribution, added. -/
def sum (a : FVec Ideal S4x6912x1024 .f32) (b : FVec Ideal S4x3456x1024 .f32) : FVec Ideal S4x3456x1024 .bf16 :=
  fun i => a (ix3 (i 0) ⟨0 + (i 1).val, by have : (i 1).val < 3456 := (i 1).isLt; omega⟩ (i 2)) + b i

variable (m : (ℓ : Loc nD τ sig) → Buf (Elt Ideal) ℓ)

/-- The table as it is: one word. -/
def table : pre0.Contents (Elt Ideal) := fun | 0 => fun _ => 0#32 | ⟨_ + 1, h⟩ => absurd h (Nat.not_lt.2 (Nat.le_add_left _ _))

theorem covers : ((cfgM m (inside m)).win 2).Covers :=
  (by decide +kernel : ((cfg0 ⟨table, inside (F := Ideal) (fun _ => default)⟩).win 2).Covers)

theorem index0 (t : Fin grid0.N) : ((cfgM m (inside m)).win 0).index t = ![(grid0.coords t 0).val, 0 + (grid0.coords t 1).val, 0] :=
  takes m (grid0.coords t)

theorem index1 (t : Fin grid0.N) : ((cfgM m (inside m)).win 1).index t = ![(grid0.coords t 0).val, (grid0.coords t 1).val, 0] :=
  (by decide +kernel : ∀ t : Fin grid0.N, cc0_transform_1 (grid0.coords t) = ![(grid0.coords t 0).val, (grid0.coords t 1).val, 0]) t

theorem index2 (t : Fin grid0.N) : ((cfgM m (inside m)).win 2).index t = ![(grid0.coords t 0).val, (grid0.coords t 1).val, 0] :=
  (by decide +kernel : ∀ t : Fin grid0.N, cc0_transform_2 (grid0.coords t) = ![(grid0.coords t 0).val, (grid0.coords t 1).val, 0]) t

/-- Row `x` of the block of rows that point `t` of the grid takes of a half. -/
def row (t : Fin grid0.N) (x : Fin 384) : Fin 3456 := ⟨(grid0.coords t 1).val * 384 + x.val, by have : (grid0.coords t 1).val < 9 := (grid0.coords t 1).isLt; omega⟩

/-- The slice of the first axis that point `t` takes. -/
def slot (t : Fin grid0.N) : Fin 4 := grid0.coords t 0

theorem block0 (c : Dev nD) (t : Fin grid0.N) (x : Fin 384) (y : Fin 1024) : iblk m (inside m) c 0 t (ix3 (0 : Fin 1) x y) =
    m ((c.tc : Thread nD τ).loc main_arg0) (ix3 (slot t) ⟨0 + (row t x).val, by have := (row t x).isLt; omega⟩ y) := by
  blk_simp [iblk, V]
  congr 1
  blk_ext [row, slot]
  · exact congrArg (· + 0) (congrFun (index0 m t) (0 : Fin 3))
  · exact at_place (k := 0 + (grid0.coords t 1).val) (congrFun (index0 m t) (1 : Fin 3)) (by omega)
  · exact at_place (congrFun (index0 m t) (2 : Fin 3)) (Nat.zero_add _)

theorem block1 (c : Dev nD) (t : Fin grid0.N) (x : Fin 384) (y : Fin 1024) : iblk m (inside m) c 1 t (ix3 (0 : Fin 1) x y) =
    m ((c.tc : Thread nD τ).loc main_arg1) (ix3 (slot t) (row t x) y) := by
  blk_simp [iblk, V]
  congr 1
  blk_ext [row, slot]
  · exact congrArg (· + 0) (congrFun (index1 m t) (0 : Fin 3))
  · exact at_place (congrFun (index1 m t) (1 : Fin 3)) rfl
  · exact at_place (congrFun (index1 m t) (2 : Fin 3)) (Nat.zero_add _)

theorem final (c : Dev nD) : (dats m (inside m) 0 c).arrAt 2 (cfgM m (inside m)).N =
    sum (m ((c.tc : Thread nD τ).loc main_arg0)) (m ((c.tc : Thread nD τ).loc main_arg1)) := by
  refine (dats m (inside m) 0 c).arrAt_eq_of_covers 2 _ (covers m) fun t hf (i : S1x384x1024.Idx) => ?_
  obtain ⟨x, y, rfl⟩ : ∃ (x : Fin 384) (y : Fin 1024), i = ix3 (0 : Fin 1) x y := ⟨i 1, i 2, by blk_ext⟩
  have e : (((cfgM m (inside m)).win 2).blk t).view.emb (ix3 (0 : Fin 1) x y) = ix3 (slot t) (row t x) y := by
    blk_ext [row, slot]
    · exact congrArg (· + 0) (congrFun (index2 m t) (0 : Fin 3))
    · exact at_place (congrFun (index2 m t) (1 : Fin 3)) rfl
    · exact at_place (congrFun (index2 m t) (2 : Fin 3)) (Nat.zero_add _)
  blk_simp
  rw [after0_2, e]
  exact (pay_at ..).trans (congrArg₂ (· + ·) (block0 m c t x y) (block1 m c t x y))

theorem run (g : Dev nD → PrngReg) : θ_run defs (onTc (τ := τ) (main (F := Ideal))) ⟨m, fun _ => 0, g⟩ fun r => ∀ c : Dev nD,
    r.2.mem ((c.tc : Thread nD τ).loc main_v1) = (dats m (inside m) 0 c).arrAt 2 (cfgM m (inside m)).N
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).1 2,
    ((h c).1 0).trans (((dats m (inside m) 0 c).arrAt_in 0 rfl _).trans ((A_eq m (inside m) c 0).trans (V_main_arg0 m c))),
    ((h c).1 1).trans (((dats m (inside m) 0 c).arrAt_in 1 rfl _).trans ((A_eq m (inside m) c 1).trans (V_main_arg1 m c)))⟩) (run_main m g (inside m))

end ReduceAdd0KernelIdeal

theorem reduceAdd0 : Cert.algebraic_ReduceAdd0KernelIdeal_ReduceAdd0ReferenceIdeal (hReduceAdd0KernelIdeal := Cert.ReduceAdd0KernelIdeal.Gen.facts)
    (hReduceAdd0ReferenceIdeal := Cert.ReduceAdd0ReferenceIdeal.Gen.facts) :=
  fun m g m' g' _ h => ⟨_, ReduceAdd0KernelIdeal.run m g, (θ_run Cert.ReduceAdd0ReferenceIdeal.defs _ _).mono (fun r e c => by
    obtain ⟨e0, e1⟩ := e c
    obtain ⟨h0, h1⟩ := h c
    refine ⟨e0.trans ?_, e1⟩
    rw [h0, h1, ReduceAdd0KernelIdeal.final m c]
    funext i
    pointwise [ReduceAdd0KernelIdeal.sum]) (Cert.ReduceAdd0ReferenceIdeal.Value.run m' g')⟩

namespace ReduceAdd1Kernel

open Cert.ReduceAdd1Kernel Cert.ReduceAdd1Kernel.Gen

variable {F : FTy → Type} [FloatOps F] (m : (ℓ : Loc nD τ sig) → Buf (Elt F) ℓ)

/-- The table's word is the core. -/
theorem word (i : S1.Idx) : (tbl m 0 : S1.Idx → BitVec 32) i = 1#32 := by
  rfl

/-- The block of the whole that a point takes: the blocks of a half are nine. -/
theorem takes (i : grid0.Coords) : cc0_transform_0 (F := F) Facts₀.inb_S1_S1_0 Facts₀.numel1_S1 (tbl m) i = ![(i 0).val, 9 + (i 1).val, 0] := by
  have h0 : (i 0).val < 4 := (i 0).isLt
  have h1 : (i 1).val < 9 := (i 1).isLt
  funext a
  fin_cases a
  · exact Nat.mod_eq_of_lt (by omega)
  · show ((1#32 * 9#32 + BitVec.ofNat 32 (i 1).val : BitVec 32)).toNat = 9 + (i 1).val
    simp only [BitVec.toNat_add, BitVec.toNat_mul, BitVec.toNat_ofNat]
    omega
  · rfl

/-- So every block is inside the whole. -/
theorem inside : Ok m := fun i => ⟨fun a => by
  have h0 : (i 0).val < 4 := (i 0).isLt
  have h1 : (i 1).val < 9 := (i 1).isLt
  rw [takes]
  fin_cases a
  · show ((i 0).val + 1) * 1 ≤ 4; omega
  · show (9 + (i 1).val + 1) * 384 ≤ 6912; omega
  · show (0 + 1) * 1024 ≤ 1024; omega, .inl rfl⟩

end ReduceAdd1Kernel

namespace ReduceAdd1KernelIdeal

open Cert.ReduceAdd1KernelIdeal Cert.ReduceAdd1KernelIdeal.Gen

variable {F : FTy → Type} [FloatOps F] (m : (ℓ : Loc nD τ sig) → Buf (Elt F) ℓ)

/-- The table's word is the core. -/
theorem word (i : S1.Idx) : (tbl m 0 : S1.Idx → BitVec 32) i = 1#32 := by
  rfl

/-- The block of the whole that a point takes: the blocks of a half are nine. -/
theorem takes (i : grid0.Coords) : cc0_transform_0 (F := F) Facts₀.inb_S1_S1_0 Facts₀.numel1_S1 (tbl m) i = ![(i 0).val, 9 + (i 1).val, 0] := by
  have h0 : (i 0).val < 4 := (i 0).isLt
  have h1 : (i 1).val < 9 := (i 1).isLt
  funext a
  fin_cases a
  · exact Nat.mod_eq_of_lt (by omega)
  · show ((1#32 * 9#32 + BitVec.ofNat 32 (i 1).val : BitVec 32)).toNat = 9 + (i 1).val
    simp only [BitVec.toNat_add, BitVec.toNat_mul, BitVec.toNat_ofNat]
    omega
  · rfl

/-- So every block is inside the whole. -/
theorem inside : Ok m := fun i => ⟨fun a => by
  have h0 : (i 0).val < 4 := (i 0).isLt
  have h1 : (i 1).val < 9 := (i 1).isLt
  rw [takes]
  fin_cases a
  · show ((i 0).val + 1) * 1 ≤ 4; omega
  · show (9 + (i 1).val + 1) * 384 ≤ 6912; omega
  · show (0 + 1) * 1024 ≤ 1024; omega, .inl rfl⟩

end ReduceAdd1KernelIdeal

namespace ReduceAdd1KernelIdeal

open Cert.ReduceAdd1KernelIdeal Cert.ReduceAdd1KernelIdeal.Gen

theorem pay_add (a b : FVec Ideal S1x384x1024 .f32) (x : Fin 384) (y : Fin 1024) :
    k0_pay1 (F := Ideal) a b (ix3 0 x y) = a (ix3 0 x y) + b (ix3 0 x y) := by
  pointwise [k0_pay1]

/-- What a point leaves in its block of the result: the two blocks it is given, added. -/
theorem pay_at (c : Dev nD) (i : grid0.Coords) (arg3 : Memref sig .tc .vmem S1x384x1024 .f32) (harg3 : arg3.IsWhole) (arg4 : Memref sig .tc .vmem S1x384x1024 .f32)
    (harg4 : arg4.IsWhole) (arg5 : Memref sig .tc .vmem S1x384x1024 .bf16) (harg5 : arg5.IsWhole) (a b : FVec Ideal S1x384x1024 .f32) (w : TbBuf0 (F := Ideal) c tbM0_0)
    (x : Fin 384) (y : Fin 1024) :
    out0_A_2 c i arg3 harg3 arg4 harg4 arg5 harg5 a b w (ix3 0 x y) = a (ix3 0 x y) + b (ix3 0 x y) := by
  frame_out
  rw [pay_add]

/-- The half of the whole that this core keeps, and the other's contribution, added. -/
def sum (a : FVec Ideal S4x6912x1024 .f32) (b : FVec Ideal S4x3456x1024 .f32) : FVec Ideal S4x3456x1024 .bf16 :=
  fun i => a (ix3 (i 0) ⟨3456 + (i 1).val, by have : (i 1).val < 3456 := (i 1).isLt; omega⟩ (i 2)) + b i

variable (m : (ℓ : Loc nD τ sig) → Buf (Elt Ideal) ℓ)

/-- The table as it is: one word. -/
def table : pre0.Contents (Elt Ideal) := fun | 0 => fun _ => 1#32 | ⟨_ + 1, h⟩ => absurd h (Nat.not_lt.2 (Nat.le_add_left _ _))

theorem covers : ((cfgM m (inside m)).win 2).Covers :=
  (by decide +kernel : ((cfg0 ⟨table, inside (F := Ideal) (fun _ => default)⟩).win 2).Covers)

theorem index0 (t : Fin grid0.N) : ((cfgM m (inside m)).win 0).index t = ![(grid0.coords t 0).val, 9 + (grid0.coords t 1).val, 0] :=
  takes m (grid0.coords t)

theorem index1 (t : Fin grid0.N) : ((cfgM m (inside m)).win 1).index t = ![(grid0.coords t 0).val, (grid0.coords t 1).val, 0] :=
  (by decide +kernel : ∀ t : Fin grid0.N, cc0_transform_1 (grid0.coords t) = ![(grid0.coords t 0).val, (grid0.coords t 1).val, 0]) t

theorem index2 (t : Fin grid0.N) : ((cfgM m (inside m)).win 2).index t = ![(grid0.coords t 0).val, (grid0.coords t 1).val, 0] :=
  (by decide +kernel : ∀ t : Fin grid0.N, cc0_transform_2 (grid0.coords t) = ![(grid0.coords t 0).val, (grid0.coords t 1).val, 0]) t

/-- Row `x` of the block of rows that point `t` of the grid takes of a half. -/
def row (t : Fin grid0.N) (x : Fin 384) : Fin 3456 := ⟨(grid0.coords t 1).val * 384 + x.val, by have : (grid0.coords t 1).val < 9 := (grid0.coords t 1).isLt; omega⟩

/-- The slice of the first axis that point `t` takes. -/
def slot (t : Fin grid0.N) : Fin 4 := grid0.coords t 0

theorem block0 (c : Dev nD) (t : Fin grid0.N) (x : Fin 384) (y : Fin 1024) : iblk m (inside m) c 0 t (ix3 (0 : Fin 1) x y) =
    m ((c.tc : Thread nD τ).loc main_arg0) (ix3 (slot t) ⟨3456 + (row t x).val, by have := (row t x).isLt; omega⟩ y) := by
  blk_simp [iblk, V]
  congr 1
  blk_ext [row, slot]
  · exact congrArg (· + 0) (congrFun (index0 m t) (0 : Fin 3))
  · exact at_place (k := 9 + (grid0.coords t 1).val) (congrFun (index0 m t) (1 : Fin 3)) (by omega)
  · exact at_place (congrFun (index0 m t) (2 : Fin 3)) (Nat.zero_add _)

theorem block1 (c : Dev nD) (t : Fin grid0.N) (x : Fin 384) (y : Fin 1024) : iblk m (inside m) c 1 t (ix3 (0 : Fin 1) x y) =
    m ((c.tc : Thread nD τ).loc main_arg1) (ix3 (slot t) (row t x) y) := by
  blk_simp [iblk, V]
  congr 1
  blk_ext [row, slot]
  · exact congrArg (· + 0) (congrFun (index1 m t) (0 : Fin 3))
  · exact at_place (congrFun (index1 m t) (1 : Fin 3)) rfl
  · exact at_place (congrFun (index1 m t) (2 : Fin 3)) (Nat.zero_add _)

theorem final (c : Dev nD) : (dats m (inside m) 0 c).arrAt 2 (cfgM m (inside m)).N =
    sum (m ((c.tc : Thread nD τ).loc main_arg0)) (m ((c.tc : Thread nD τ).loc main_arg1)) := by
  refine (dats m (inside m) 0 c).arrAt_eq_of_covers 2 _ (covers m) fun t hf (i : S1x384x1024.Idx) => ?_
  obtain ⟨x, y, rfl⟩ : ∃ (x : Fin 384) (y : Fin 1024), i = ix3 (0 : Fin 1) x y := ⟨i 1, i 2, by blk_ext⟩
  have e : (((cfgM m (inside m)).win 2).blk t).view.emb (ix3 (0 : Fin 1) x y) = ix3 (slot t) (row t x) y := by
    blk_ext [row, slot]
    · exact congrArg (· + 0) (congrFun (index2 m t) (0 : Fin 3))
    · exact at_place (congrFun (index2 m t) (1 : Fin 3)) rfl
    · exact at_place (congrFun (index2 m t) (2 : Fin 3)) (Nat.zero_add _)
  blk_simp
  rw [after0_2, e]
  exact (pay_at ..).trans (congrArg₂ (· + ·) (block0 m c t x y) (block1 m c t x y))

theorem run (g : Dev nD → PrngReg) : θ_run defs (onTc (τ := τ) (main (F := Ideal))) ⟨m, fun _ => 0, g⟩ fun r => ∀ c : Dev nD,
    r.2.mem ((c.tc : Thread nD τ).loc main_v1) = (dats m (inside m) 0 c).arrAt 2 (cfgM m (inside m)).N
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).1 2,
    ((h c).1 0).trans (((dats m (inside m) 0 c).arrAt_in 0 rfl _).trans ((A_eq m (inside m) c 0).trans (V_main_arg0 m c))),
    ((h c).1 1).trans (((dats m (inside m) 0 c).arrAt_in 1 rfl _).trans ((A_eq m (inside m) c 1).trans (V_main_arg1 m c)))⟩) (run_main m g (inside m))

end ReduceAdd1KernelIdeal

theorem reduceAdd1 : Cert.algebraic_ReduceAdd1KernelIdeal_ReduceAdd1ReferenceIdeal (hReduceAdd1KernelIdeal := Cert.ReduceAdd1KernelIdeal.Gen.facts)
    (hReduceAdd1ReferenceIdeal := Cert.ReduceAdd1ReferenceIdeal.Gen.facts) :=
  fun m g m' g' _ h => ⟨_, ReduceAdd1KernelIdeal.run m g, (θ_run Cert.ReduceAdd1ReferenceIdeal.defs _ _).mono (fun r e c => by
    obtain ⟨e0, e1⟩ := e c
    obtain ⟨h0, h1⟩ := h c
    refine ⟨e0.trans ?_, e1⟩
    rw [h0, h1, ReduceAdd1KernelIdeal.final m c]
    funext i
    pointwise [ReduceAdd1KernelIdeal.sum]) (Cert.ReduceAdd1ReferenceIdeal.Value.run m' g')⟩

end Cert.HalfSum

end
-- ==== Proof.lean ====
/-
# The exchanges of one optimiser step

Eight kernels that move blocks between the devices of a 2 × 2 × 2 mesh, each alone against a rearrangement of the whole array, and the
kernels of one device: the loss, norms and matrix products with their gradients, the sums of what was exchanged, the optimiser step.
Each has its own module, which runs it on every device and compares what it leaves with the reference; here the claims are put together.
-/
module

public import proofs.«01_k».proof.Defs
public import proofs.«01_k».proof.Proof.Gen.ReduceShareKernel
public import proofs.«01_k».proof.Proof.Gen.ReduceShareKernel.Skeleton
public import proofs.«01_k».proof.Proof.Gen.ReduceShareKernel.Launch
public import proofs.«01_k».proof.Proof.Gen.ReduceShareKernel.Points
public import proofs.«01_k».proof.Proof.Gen.ReduceShareKernel.Frame
public import proofs.«01_k».proof.Proof.Gen.ReduceShareKernelIdeal
public import proofs.«01_k».proof.Proof.Gen.ReduceShareKernelIdeal.Skeleton
public import proofs.«01_k».proof.Proof.Gen.ReduceShareKernelIdeal.Launch
public import proofs.«01_k».proof.Proof.Gen.ReduceShareKernelIdeal.Points
public import proofs.«01_k».proof.Proof.Gen.ReduceShareKernelIdeal.Frame
public import proofs.«01_k».proof.Proof.Gen.ReduceShareReferenceIdeal
public import proofs.«01_k».proof.Proof.Gen.ReduceShareReferenceIdeal.Run
public import proofs.«01_k».proof.Proof.Gen.ReduceShareReference
public import proofs.«01_k».proof.Proof.Gen.ReduceShareReference.Run
public import proofs.«01_k».proof.Proof.ReduceShare
public import proofs.«01_k».proof.Proof.Gen.GatherChipsKernel
public import proofs.«01_k».proof.Proof.Gen.GatherChipsKernel.Skeleton
public import proofs.«01_k».proof.Proof.Gen.GatherChipsKernel.Launch
public import proofs.«01_k».proof.Proof.Gen.GatherChipsKernel.Points
public import proofs.«01_k».proof.Proof.Gen.GatherChipsKernel.Frame
public import proofs.«01_k».proof.Proof.Gen.GatherChipsKernelIdeal
public import proofs.«01_k».proof.Proof.Gen.GatherChipsKernelIdeal.Skeleton
public import proofs.«01_k».proof.Proof.Gen.GatherChipsKernelIdeal.Launch
public import proofs.«01_k».proof.Proof.Gen.GatherChipsKernelIdeal.Points
public import proofs.«01_k».proof.Proof.Gen.GatherChipsKernelIdeal.Frame
public import proofs.«01_k».proof.Proof.Gen.GatherChipsReferenceIdeal
public import proofs.«01_k».proof.Proof.Gen.GatherChipsReferenceIdeal.Run
public import proofs.«01_k».proof.Proof.Gen.GatherChipsReference
public import proofs.«01_k».proof.Proof.Gen.GatherChipsReference.Run
public import proofs.«01_k».proof.Proof.GatherChips
public import proofs.«01_k».proof.Proof.Gen.GatherSiblingKernel
public import proofs.«01_k».proof.Proof.Gen.GatherSiblingKernel.Skeleton
public import proofs.«01_k».proof.Proof.Gen.GatherSiblingKernel.Launch
public import proofs.«01_k».proof.Proof.Gen.GatherSiblingKernel.Points
public import proofs.«01_k».proof.Proof.Gen.GatherSiblingKernel.Frame
public import proofs.«01_k».proof.Proof.Gen.GatherSiblingKernelIdeal
public import proofs.«01_k».proof.Proof.Gen.GatherSiblingKernelIdeal.Skeleton
public import proofs.«01_k».proof.Proof.Gen.GatherSiblingKernelIdeal.Launch
public import proofs.«01_k».proof.Proof.Gen.GatherSiblingKernelIdeal.Points
public import proofs.«01_k».proof.Proof.Gen.GatherSiblingKernelIdeal.Frame
public import proofs.«01_k».proof.Proof.Gen.GatherSiblingReferenceIdeal
public import proofs.«01_k».proof.Proof.Gen.GatherSiblingReferenceIdeal.Run
public import proofs.«01_k».proof.Proof.Gen.GatherSiblingReference
public import proofs.«01_k».proof.Proof.Gen.GatherSiblingReference.Run
public import proofs.«01_k».proof.Proof.GatherSibling
public import proofs.«01_k».proof.Proof.Gen.GatherConvKernel
public import proofs.«01_k».proof.Proof.Gen.GatherConvKernel.Skeleton
public import proofs.«01_k».proof.Proof.Gen.GatherConvKernel.Launch
public import proofs.«01_k».proof.Proof.Gen.GatherConvKernel.Points
public import proofs.«01_k».proof.Proof.Gen.GatherConvKernel.Frame
public import proofs.«01_k».proof.Proof.Gen.GatherConvKernelIdeal
public import proofs.«01_k».proof.Proof.Gen.GatherConvKernelIdeal.Skeleton
public import proofs.«01_k».proof.Proof.Gen.GatherConvKernelIdeal.Launch
public import proofs.«01_k».proof.Proof.Gen.GatherConvKernelIdeal.Points
public import proofs.«01_k».proof.Proof.Gen.GatherConvKernelIdeal.Frame
public import proofs.«01_k».proof.Proof.Gen.GatherConvReferenceIdeal
public import proofs.«01_k».proof.Proof.Gen.GatherConvReferenceIdeal.Run
public import proofs.«01_k».proof.Proof.Gen.GatherConvReference
public import proofs.«01_k».proof.Proof.Gen.GatherConvReference.Run
public import proofs.«01_k».proof.Proof.GatherConv
public import proofs.«01_k».proof.Proof.Gen.ReduceSiblingKernel
public import proofs.«01_k».proof.Proof.Gen.ReduceSiblingKernel.Skeleton
public import proofs.«01_k».proof.Proof.Gen.ReduceSiblingKernel.Launch
public import proofs.«01_k».proof.Proof.Gen.ReduceSiblingKernel.Points
public import proofs.«01_k».proof.Proof.Gen.ReduceSiblingKernel.Frame
public import proofs.«01_k».proof.Proof.Gen.ReduceSiblingKernelIdeal
public import proofs.«01_k».proof.Proof.Gen.ReduceSiblingKernelIdeal.Skeleton
public import proofs.«01_k».proof.Proof.Gen.ReduceSiblingKernelIdeal.Launch
public import proofs.«01_k».proof.Proof.Gen.ReduceSiblingKernelIdeal.Points
public import proofs.«01_k».proof.Proof.Gen.ReduceSiblingKernelIdeal.Frame
public import proofs.«01_k».proof.Proof.Gen.ReduceSiblingReferenceIdeal
public import proofs.«01_k».proof.Proof.Gen.ReduceSiblingReferenceIdeal.Run
public import proofs.«01_k».proof.Proof.Gen.ReduceSiblingReference
public import proofs.«01_k».proof.Proof.Gen.ReduceSiblingReference.Run
public import proofs.«01_k».proof.Proof.ReduceSibling
public import proofs.«01_k».proof.Proof.Gen.ReduceChipsKernel
public import proofs.«01_k».proof.Proof.Gen.ReduceChipsKernel.Skeleton
public import proofs.«01_k».proof.Proof.Gen.ReduceChipsKernel.Launch
public import proofs.«01_k».proof.Proof.Gen.ReduceChipsKernel.Points
public import proofs.«01_k».proof.Proof.Gen.ReduceChipsKernel.Frame
public import proofs.«01_k».proof.Proof.Gen.ReduceChipsKernelIdeal
public import proofs.«01_k».proof.Proof.Gen.ReduceChipsKernelIdeal.Skeleton
public import proofs.«01_k».proof.Proof.Gen.ReduceChipsKernelIdeal.Launch
public import proofs.«01_k».proof.Proof.Gen.ReduceChipsKernelIdeal.Points
public import proofs.«01_k».proof.Proof.Gen.ReduceChipsKernelIdeal.Frame
public import proofs.«01_k».proof.Proof.Gen.ReduceChipsReferenceIdeal
public import proofs.«01_k».proof.Proof.Gen.ReduceChipsReferenceIdeal.Run
public import proofs.«01_k».proof.Proof.Gen.ReduceChipsReference
public import proofs.«01_k».proof.Proof.Gen.ReduceChipsReference.Run
public import proofs.«01_k».proof.Proof.ReduceChips
public import proofs.«01_k».proof.Proof.Gen.SmallSiblingKernel
public import proofs.«01_k».proof.Proof.Gen.SmallSiblingKernel.Skeleton
public import proofs.«01_k».proof.Proof.Gen.SmallSiblingKernel.Launch
public import proofs.«01_k».proof.Proof.Gen.SmallSiblingKernel.Points
public import proofs.«01_k».proof.Proof.Gen.SmallSiblingKernel.Frame
public import proofs.«01_k».proof.Proof.Gen.SmallSiblingKernelIdeal
public import proofs.«01_k».proof.Proof.Gen.SmallSiblingKernelIdeal.Skeleton
public import proofs.«01_k».proof.Proof.Gen.SmallSiblingKernelIdeal.Launch
public import proofs.«01_k».proof.Proof.Gen.SmallSiblingKernelIdeal.Points
public import proofs.«01_k».proof.Proof.Gen.SmallSiblingKernelIdeal.Frame
public import proofs.«01_k».proof.Proof.Gen.SmallSiblingReferenceIdeal
public import proofs.«01_k».proof.Proof.Gen.SmallSiblingReferenceIdeal.Run
public import proofs.«01_k».proof.Proof.Gen.SmallSiblingReference
public import proofs.«01_k».proof.Proof.Gen.SmallSiblingReference.Run
public import proofs.«01_k».proof.Proof.SmallSibling
public import proofs.«01_k».proof.Proof.Gen.SmallChipsKernel
public import proofs.«01_k».proof.Proof.Gen.SmallChipsKernel.Skeleton
public import proofs.«01_k».proof.Proof.Gen.SmallChipsKernel.Launch
public import proofs.«01_k».proof.Proof.Gen.SmallChipsKernel.Points
public import proofs.«01_k».proof.Proof.Gen.SmallChipsKernel.Frame
public import proofs.«01_k».proof.Proof.Gen.SmallChipsKernelIdeal
public import proofs.«01_k».proof.Proof.Gen.SmallChipsKernelIdeal.Skeleton
public import proofs.«01_k».proof.Proof.Gen.SmallChipsKernelIdeal.Launch
public import proofs.«01_k».proof.Proof.Gen.SmallChipsKernelIdeal.Points
public import proofs.«01_k».proof.Proof.Gen.SmallChipsKernelIdeal.Frame
public import proofs.«01_k».proof.Proof.Gen.SmallChipsReferenceIdeal
public import proofs.«01_k».proof.Proof.Gen.SmallChipsReferenceIdeal.Run
public import proofs.«01_k».proof.Proof.Gen.SmallChipsReference
public import proofs.«01_k».proof.Proof.Gen.SmallChipsReference.Run
public import proofs.«01_k».proof.Proof.SmallChips
public import proofs.«01_k».proof.Proof.Gen.AdamwShardedKernel.Frame
public import proofs.«01_k».proof.Proof.Gen.AdamwShardedKernelIdeal.Value
public import proofs.«01_k».proof.Proof.Gen.AdamwShardedReferenceIdeal.Run
public import proofs.«01_k».proof.Proof.Gen.AdamwReplicatedKernel.Frame
public import proofs.«01_k».proof.Proof.Gen.AdamwReplicatedKernelIdeal.Value
public import proofs.«01_k».proof.Proof.Gen.AdamwReplicatedReferenceIdeal.Run
public import proofs.«01_k».proof.Proof.Gen.ReduceSumKernel.Frame
public import proofs.«01_k».proof.Proof.Gen.ReduceSumKernelIdeal.Value
public import proofs.«01_k».proof.Proof.Gen.ReduceSumReferenceIdeal.Run
public import proofs.«01_k».proof.Proof.Gen.SmallSumKernel.Frame
public import proofs.«01_k».proof.Proof.Gen.SmallSumKernelIdeal.Value
public import proofs.«01_k».proof.Proof.Gen.SmallSumReferenceIdeal.Run
public import proofs.«01_k».proof.Proof.Gen.NormMixBwdKernel.Frame
public import proofs.«01_k».proof.Proof.Gen.NormMixBwdKernelIdeal.Value
public import proofs.«01_k».proof.Proof.Gen.NormMixBwdReferenceIdeal.Run
public import proofs.«01_k».proof.Proof.Gen.LossHeadKernel.Frame
public import proofs.«01_k».proof.Proof.Gen.LossHeadKernelIdeal.Value
public import proofs.«01_k».proof.Proof.Gen.LossHeadReferenceIdeal.Run
public import proofs.«01_k».proof.Proof.Gen.NormFfnKernel.Frame
public import proofs.«01_k».proof.Proof.Gen.NormFfnKernelIdeal.Value
public import proofs.«01_k».proof.Proof.Gen.NormFfnReferenceIdeal.Run
public import proofs.«01_k».proof.Proof.Gen.NormMemKernel.Frame
public import proofs.«01_k».proof.Proof.Gen.NormMemKernelIdeal.Value
public import proofs.«01_k».proof.Proof.Gen.NormMemReferenceIdeal.Run
public import proofs.«01_k».proof.Proof.Gen.NormMemBwdKernel.Frame
public import proofs.«01_k».proof.Proof.Gen.NormMemBwdKernelIdeal.Value
public import proofs.«01_k».proof.Proof.Gen.NormMemBwdReferenceIdeal.Run
public import proofs.«01_k».proof.Proof.Gen.DownKernel.Frame
public import proofs.«01_k».proof.Proof.Gen.DownKernelIdeal.Value
public import proofs.«01_k».proof.Proof.Gen.DownReferenceIdeal.Run
public import proofs.«01_k».proof.Proof.Gen.DactKernel.Frame
public import proofs.«01_k».proof.Proof.Gen.DactKernelIdeal.Value
public import proofs.«01_k».proof.Proof.Gen.DactReferenceIdeal.Run
public import proofs.«01_k».proof.Proof.Gen.DwDownKernel.Frame
public import proofs.«01_k».proof.Proof.Gen.DwDownKernelIdeal.Value
public import proofs.«01_k».proof.Proof.Gen.DwDownReferenceIdeal.Run
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.OutKernel.Frame
public import proofs.«01_k».proof.Proof.Gen.OutKernelIdeal.Value
public import proofs.«01_k».proof.Proof.Gen.OutReferenceIdeal.Run
public import proofs.«01_k».proof.Proof.Gen.CqKernel.Frame
public import proofs.«01_k».proof.Proof.Gen.CqKernelIdeal.Value
public import proofs.«01_k».proof.Proof.Gen.CqReferenceIdeal.Run
public import proofs.«01_k».proof.Proof.Gen.CkKernel.Frame
public import proofs.«01_k».proof.Proof.Gen.CkKernelIdeal.Value
public import proofs.«01_k».proof.Proof.Gen.CkReferenceIdeal.Run
public import proofs.«01_k».proof.Proof.Gen.CoKernel.Frame
public import proofs.«01_k».proof.Proof.Gen.CoKernelIdeal.Value
public import proofs.«01_k».proof.Proof.Gen.CoReferenceIdeal.Run
public import proofs.«01_k».proof.Proof.Gen.UpKernel.Frame
public import proofs.«01_k».proof.Proof.Gen.UpKernelIdeal.Value
public import proofs.«01_k».proof.Proof.Gen.UpReferenceIdeal.Run
public import proofs.«01_k».proof.Proof.Gen.DhnKernel.Frame
public import proofs.«01_k».proof.Proof.Gen.DhnKernelIdeal.Value
public import proofs.«01_k».proof.Proof.Gen.DhnReferenceIdeal.Run
public import proofs.«01_k».proof.Proof.Gen.DocKernel.Frame
public import proofs.«01_k».proof.Proof.Gen.DocKernelIdeal.Value
public import proofs.«01_k».proof.Proof.Gen.DocReferenceIdeal.Run
public import proofs.«01_k».proof.Proof.Gen.DhqKernel.Frame
public import proofs.«01_k».proof.Proof.Gen.DhqKernelIdeal.Value
public import proofs.«01_k».proof.Proof.Gen.DhqReferenceIdeal.Run
public import proofs.«01_k».proof.Proof.Gen.DmemKKernel.Frame
public import proofs.«01_k».proof.Proof.Gen.DmemKKernelIdeal.Value
public import proofs.«01_k».proof.Proof.Gen.DmemKReferenceIdeal.Run
public import proofs.«01_k».proof.Proof.Gen.DmemVKernel.Frame
public import proofs.«01_k».proof.Proof.Gen.DmemVKernelIdeal.Value
public import proofs.«01_k».proof.Proof.Gen.DmemVReferenceIdeal.Run
public import proofs.«01_k».proof.Proof.Gen.DmixedKernel.Frame
public import proofs.«01_k».proof.Proof.Gen.DmixedKernelIdeal.Value
public import proofs.«01_k».proof.Proof.Gen.DmixedReferenceIdeal.Run
public import proofs.«01_k».proof.Proof.Gen.DhKernel.Frame
public import proofs.«01_k».proof.Proof.Gen.DhKernelIdeal.Value
public import proofs.«01_k».proof.Proof.Gen.DhReferenceIdeal.Run
public import proofs.«01_k».proof.Proof.Gen.DwUpKernel.Frame
public import proofs.«01_k».proof.Proof.Gen.DwUpKernelIdeal.Value
public import proofs.«01_k».proof.Proof.Gen.DwUpReferenceIdeal.Run
public import proofs.«01_k».proof.Proof.Gen.DwCoKernel.Frame
public import proofs.«01_k».proof.Proof.Gen.DwCoKernelIdeal.Value
public import proofs.«01_k».proof.Proof.Gen.DwCoReferenceIdeal.Run
public import proofs.«01_k».proof.Proof.Gen.DwCqKernel.Frame
public import proofs.«01_k».proof.Proof.Gen.DwCqKernelIdeal.Value
public import proofs.«01_k».proof.Proof.Gen.DwCqReferenceIdeal.Run
public import proofs.«01_k».proof.Proof.Gen.DwCkKernel.Frame
public import proofs.«01_k».proof.Proof.Gen.DwCkKernelIdeal.Value
public import proofs.«01_k».proof.Proof.Gen.DwCkReferenceIdeal.Run
public import proofs.«01_k».proof.Proof.Gen.DwOutKernel.Frame
public import proofs.«01_k».proof.Proof.Gen.DwOutKernelIdeal.Value
public import proofs.«01_k».proof.Proof.Gen.DwOutReferenceIdeal.Run
public import proofs.«01_k».proof.Proof.Gen.DwInKernel.Frame
public import proofs.«01_k».proof.Proof.Gen.DwInKernelIdeal.Value
public import proofs.«01_k».proof.Proof.Gen.DwInReferenceIdeal.Run
public import proofs.«01_k».proof.Proof.Gen.FfnActKernel.Frame
public import proofs.«01_k».proof.Proof.Gen.FfnActKernelIdeal.Value
public import proofs.«01_k».proof.Proof.Gen.FfnActReferenceIdeal.Run
public import proofs.«01_k».proof.Proof.Gen.ConvTKernel.Frame
public import proofs.«01_k».proof.Proof.Gen.ConvTKernelIdeal.Value
public import proofs.«01_k».proof.Proof.Gen.ConvTReferenceIdeal.Run
public import proofs.«01_k».proof.Proof.Gen.ReduceAdd0Kernel.Frame
public import proofs.«01_k».proof.Proof.Gen.ReduceAdd0KernelIdeal.Frame
public import proofs.«01_k».proof.Proof.Gen.ReduceAdd0ReferenceIdeal.Run
public import proofs.«01_k».proof.Proof.Gen.ReduceAdd1Kernel.Frame
public import proofs.«01_k».proof.Proof.Gen.ReduceAdd1KernelIdeal.Frame
public import proofs.«01_k».proof.Proof.Gen.ReduceAdd1ReferenceIdeal.Run
public import proofs.«01_k».proof.Proof.Adamw
public import proofs.«01_k».proof.Proof.Sums
public import proofs.«01_k».proof.Proof.Norms
public import proofs.«01_k».proof.Proof.Loss
public import proofs.«01_k».proof.Proof.MemNorm
public import proofs.«01_k».proof.Proof.Products
public import proofs.«01_k».proof.Proof.Forward
public import proofs.«01_k».proof.Proof.InputGrads
public import proofs.«01_k».proof.Proof.WeightGrads
public import proofs.«01_k».proof.Proof.Act
public import proofs.«01_k».proof.Proof.Conv
public import proofs.«01_k».proof.Proof.HalfSum
public import Idealize.ShloMosaic.Lib.Quiescent

@[expose] public section

set_option maxRecDepth 65536

noncomputable section

namespace Cert.Proof

open Idealize.ShloMosaic Idealize.ShloMosaic.TcCoe Idealize.SL.Sem

/-! ## `ReduceShare` -/

theorem quiescent_ReduceShareKernel : Cert.quiescent_ReduceShareKernel (hReduceShareKernel := Cert.ReduceShareKernel.Gen.facts) := fun m g _ =>
  (θ_run Cert.ReduceShareKernelIdeal.defs _ _).mono (fun r h => ⟨fun c => (h.1 c).1, h.2⟩) (Cert.ReduceShareKernelIdeal.run_main m g)

theorem quiescent_ReduceShareKernelIdeal : Cert.quiescent_ReduceShareKernelIdeal (hReduceShareKernelIdeal := Cert.ReduceShareKernelIdeal.Gen.facts) := fun m g _ =>
  (θ_run Cert.ReduceShareKernelIdeal.defs _ _).mono (fun r h => ⟨fun c => (h.1 c).1, h.2⟩) (Cert.ReduceShareKernelIdeal.run_main m g)

theorem quiescent_ReduceShareReferenceIdeal : Cert.quiescent_ReduceShareReferenceIdeal (hReduceShareReferenceIdeal := Cert.ReduceShareReferenceIdeal.Gen.facts) := fun m g _ =>
  (θ_run Cert.ReduceShareReferenceIdeal.defs _ _).mono (fun r h => ⟨fun c => (h c).2, sem_eq_zero_of_no_sems (by decide) _⟩) (Cert.ReduceShareReferenceIdeal.Value.run m g)

theorem quiescent_ReduceShareReference : Cert.quiescent_ReduceShareReference (hReduceShareReference := Cert.ReduceShareReference.Gen.facts) := fun m g _ =>
  (θ_run Cert.ReduceShareReference.defs _ _).mono (fun r h => ⟨fun c => (h c).2, sem_eq_zero_of_no_sems (by decide) _⟩) (Cert.ReduceShareReference.Value.run m g)

theorem algebraic_ReduceShare : Cert.algebraic_ReduceShareKernelIdeal_ReduceShareReferenceIdeal (hReduceShareKernelIdeal := Cert.ReduceShareKernelIdeal.Gen.facts) (hReduceShareReferenceIdeal := Cert.ReduceShareReferenceIdeal.Gen.facts) :=
  fun m g m' g' _ h => Cert.ReduceShareKernelIdeal.agrees m g m' g' h

theorem bitexact_ReduceShare : Cert.bitexact_ReduceShareKernel_ReduceShareReference (hReduceShareKernel := Cert.ReduceShareKernel.Gen.facts) (hReduceShareReference := Cert.ReduceShareReference.Gen.facts) :=
  fun m g m' g' _ h => Cert.ReduceShareKernelIdeal.agrees (F := Bits) m g m' g' h

/-! ## `GatherChips` -/

theorem quiescent_GatherChipsKernel : Cert.quiescent_GatherChipsKernel (hGatherChipsKernel := Cert.GatherChipsKernel.Gen.facts) := fun m g _ =>
  (θ_run Cert.GatherChipsKernelIdeal.defs _ _).mono (fun r h => ⟨fun c => (h.1 c).1, h.2⟩) (Cert.GatherChipsKernelIdeal.run_main m g)

theorem quiescent_GatherChipsKernelIdeal : Cert.quiescent_GatherChipsKernelIdeal (hGatherChipsKernelIdeal := Cert.GatherChipsKernelIdeal.Gen.facts) := fun m g _ =>
  (θ_run Cert.GatherChipsKernelIdeal.defs _ _).mono (fun r h => ⟨fun c => (h.1 c).1, h.2⟩) (Cert.GatherChipsKernelIdeal.run_main m g)

theorem quiescent_GatherChipsReferenceIdeal : Cert.quiescent_GatherChipsReferenceIdeal (hGatherChipsReferenceIdeal := Cert.GatherChipsReferenceIdeal.Gen.facts) := fun m g _ =>
  (θ_run Cert.GatherChipsReferenceIdeal.defs _ _).mono (fun r h => ⟨fun c => (h c).2, sem_eq_zero_of_no_sems (by decide) _⟩) (Cert.GatherChipsReferenceIdeal.Value.run m g)

theorem quiescent_GatherChipsReference : Cert.quiescent_GatherChipsReference (hGatherChipsReference := Cert.GatherChipsReference.Gen.facts) := fun m g _ =>
  (θ_run Cert.GatherChipsReference.defs _ _).mono (fun r h => ⟨fun c => (h c).2, sem_eq_zero_of_no_sems (by decide) _⟩) (Cert.GatherChipsReference.Value.run m g)

theorem algebraic_GatherChips : Cert.algebraic_GatherChipsKernelIdeal_GatherChipsReferenceIdeal (hGatherChipsKernelIdeal := Cert.GatherChipsKernelIdeal.Gen.facts) (hGatherChipsReferenceIdeal := Cert.GatherChipsReferenceIdeal.Gen.facts) :=
  fun m g m' g' _ h => Cert.GatherChipsKernelIdeal.agrees m g m' g' h

theorem bitexact_GatherChips : Cert.bitexact_GatherChipsKernel_GatherChipsReference (hGatherChipsKernel := Cert.GatherChipsKernel.Gen.facts) (hGatherChipsReference := Cert.GatherChipsReference.Gen.facts) :=
  fun m g m' g' _ h => Cert.GatherChipsKernelIdeal.agrees (F := Bits) m g m' g' h

/-! ## `GatherSibling` -/

theorem quiescent_GatherSiblingKernel : Cert.quiescent_GatherSiblingKernel (hGatherSiblingKernel := Cert.GatherSiblingKernel.Gen.facts) := fun m g _ =>
  (θ_run Cert.GatherSiblingKernelIdeal.defs _ _).mono (fun r h => ⟨fun c => (h.1 c).1, h.2⟩) (Cert.GatherSiblingKernelIdeal.run_main m g)

theorem quiescent_GatherSiblingKernelIdeal : Cert.quiescent_GatherSiblingKernelIdeal (hGatherSiblingKernelIdeal := Cert.GatherSiblingKernelIdeal.Gen.facts) := fun m g _ =>
  (θ_run Cert.GatherSiblingKernelIdeal.defs _ _).mono (fun r h => ⟨fun c => (h.1 c).1, h.2⟩) (Cert.GatherSiblingKernelIdeal.run_main m g)

theorem quiescent_GatherSiblingReferenceIdeal : Cert.quiescent_GatherSiblingReferenceIdeal (hGatherSiblingReferenceIdeal := Cert.GatherSiblingReferenceIdeal.Gen.facts) := fun m g _ =>
  (θ_run Cert.GatherSiblingReferenceIdeal.defs _ _).mono (fun r h => ⟨fun c => (h c).2, sem_eq_zero_of_no_sems (by decide) _⟩) (Cert.GatherSiblingReferenceIdeal.Value.run m g)

theorem quiescent_GatherSiblingReference : Cert.quiescent_GatherSiblingReference (hGatherSiblingReference := Cert.GatherSiblingReference.Gen.facts) := fun m g _ =>
  (θ_run Cert.GatherSiblingReference.defs _ _).mono (fun r h => ⟨fun c => (h c).2, sem_eq_zero_of_no_sems (by decide) _⟩) (Cert.GatherSiblingReference.Value.run m g)

theorem algebraic_GatherSibling : Cert.algebraic_GatherSiblingKernelIdeal_GatherSiblingReferenceIdeal (hGatherSiblingKernelIdeal := Cert.GatherSiblingKernelIdeal.Gen.facts) (hGatherSiblingReferenceIdeal := Cert.GatherSiblingReferenceIdeal.Gen.facts) :=
  fun m g m' g' _ h => Cert.GatherSiblingKernelIdeal.agrees m g m' g' h

theorem bitexact_GatherSibling : Cert.bitexact_GatherSiblingKernel_GatherSiblingReference (hGatherSiblingKernel := Cert.GatherSiblingKernel.Gen.facts) (hGatherSiblingReference := Cert.GatherSiblingReference.Gen.facts) :=
  fun m g m' g' _ h => Cert.GatherSiblingKernelIdeal.agrees (F := Bits) m g m' g' h

/-! ## `GatherConv` -/

theorem quiescent_GatherConvKernel : Cert.quiescent_GatherConvKernel (hGatherConvKernel := Cert.GatherConvKernel.Gen.facts) := fun m g _ =>
  (θ_run Cert.GatherConvKernelIdeal.defs _ _).mono (fun r h => ⟨fun c => (h.1 c).1, h.2⟩) (Cert.GatherConvKernelIdeal.run_main m g)

theorem quiescent_GatherConvKernelIdeal : Cert.quiescent_GatherConvKernelIdeal (hGatherConvKernelIdeal := Cert.GatherConvKernelIdeal.Gen.facts) := fun m g _ =>
  (θ_run Cert.GatherConvKernelIdeal.defs _ _).mono (fun r h => ⟨fun c => (h.1 c).1, h.2⟩) (Cert.GatherConvKernelIdeal.run_main m g)

theorem quiescent_GatherConvReferenceIdeal : Cert.quiescent_GatherConvReferenceIdeal (hGatherConvReferenceIdeal := Cert.GatherConvReferenceIdeal.Gen.facts) := fun m g _ =>
  (θ_run Cert.GatherConvReferenceIdeal.defs _ _).mono (fun r h => ⟨fun c => (h c).2, sem_eq_zero_of_no_sems (by decide) _⟩) (Cert.GatherConvReferenceIdeal.Value.run m g)

theorem quiescent_GatherConvReference : Cert.quiescent_GatherConvReference (hGatherConvReference := Cert.GatherConvReference.Gen.facts) := fun m g _ =>
  (θ_run Cert.GatherConvReference.defs _ _).mono (fun r h => ⟨fun c => (h c).2, sem_eq_zero_of_no_sems (by decide) _⟩) (Cert.GatherConvReference.Value.run m g)

theorem algebraic_GatherConv : Cert.algebraic_GatherConvKernelIdeal_GatherConvReferenceIdeal (hGatherConvKernelIdeal := Cert.GatherConvKernelIdeal.Gen.facts) (hGatherConvReferenceIdeal := Cert.GatherConvReferenceIdeal.Gen.facts) :=
  fun m g m' g' _ h => Cert.GatherConvKernelIdeal.agrees m g m' g' h

theorem bitexact_GatherConv : Cert.bitexact_GatherConvKernel_GatherConvReference (hGatherConvKernel := Cert.GatherConvKernel.Gen.facts) (hGatherConvReference := Cert.GatherConvReference.Gen.facts) :=
  fun m g m' g' _ h => Cert.GatherConvKernelIdeal.agrees (F := Bits) m g m' g' h

/-! ## `ReduceSibling` -/

theorem quiescent_ReduceSiblingKernel : Cert.quiescent_ReduceSiblingKernel (hReduceSiblingKernel := Cert.ReduceSiblingKernel.Gen.facts) := fun m g _ =>
  (θ_run Cert.ReduceSiblingKernelIdeal.defs _ _).mono (fun r h => ⟨fun c => (h.1 c).1, h.2⟩) (Cert.ReduceSiblingKernelIdeal.run_main m g)

theorem quiescent_ReduceSiblingKernelIdeal : Cert.quiescent_ReduceSiblingKernelIdeal (hReduceSiblingKernelIdeal := Cert.ReduceSiblingKernelIdeal.Gen.facts) := fun m g _ =>
  (θ_run Cert.ReduceSiblingKernelIdeal.defs _ _).mono (fun r h => ⟨fun c => (h.1 c).1, h.2⟩) (Cert.ReduceSiblingKernelIdeal.run_main m g)

theorem quiescent_ReduceSiblingReferenceIdeal : Cert.quiescent_ReduceSiblingReferenceIdeal (hReduceSiblingReferenceIdeal := Cert.ReduceSiblingReferenceIdeal.Gen.facts) := fun m g _ =>
  (θ_run Cert.ReduceSiblingReferenceIdeal.defs _ _).mono (fun r h => ⟨fun c => (h c).2, sem_eq_zero_of_no_sems (by decide) _⟩) (Cert.ReduceSiblingReferenceIdeal.Value.run m g)

theorem quiescent_ReduceSiblingReference : Cert.quiescent_ReduceSiblingReference (hReduceSiblingReference := Cert.ReduceSiblingReference.Gen.facts) := fun m g _ =>
  (θ_run Cert.ReduceSiblingReference.defs _ _).mono (fun r h => ⟨fun c => (h c).2, sem_eq_zero_of_no_sems (by decide) _⟩) (Cert.ReduceSiblingReference.Value.run m g)

theorem algebraic_ReduceSibling : Cert.algebraic_ReduceSiblingKernelIdeal_ReduceSiblingReferenceIdeal (hReduceSiblingKernelIdeal := Cert.ReduceSiblingKernelIdeal.Gen.facts) (hReduceSiblingReferenceIdeal := Cert.ReduceSiblingReferenceIdeal.Gen.facts) :=
  fun m g m' g' _ h => Cert.ReduceSiblingKernelIdeal.agrees m g m' g' h

theorem bitexact_ReduceSibling : Cert.bitexact_ReduceSiblingKernel_ReduceSiblingReference (hReduceSiblingKernel := Cert.ReduceSiblingKernel.Gen.facts) (hReduceSiblingReference := Cert.ReduceSiblingReference.Gen.facts) :=
  fun m g m' g' _ h => Cert.ReduceSiblingKernelIdeal.agrees (F := Bits) m g m' g' h

/-! ## `ReduceChips` -/

theorem quiescent_ReduceChipsKernel : Cert.quiescent_ReduceChipsKernel (hReduceChipsKernel := Cert.ReduceChipsKernel.Gen.facts) := fun m g _ =>
  (θ_run Cert.ReduceChipsKernelIdeal.defs _ _).mono (fun r h => ⟨fun c => (h.1 c).1, h.2⟩) (Cert.ReduceChipsKernelIdeal.run_main m g)

theorem quiescent_ReduceChipsKernelIdeal : Cert.quiescent_ReduceChipsKernelIdeal (hReduceChipsKernelIdeal := Cert.ReduceChipsKernelIdeal.Gen.facts) := fun m g _ =>
  (θ_run Cert.ReduceChipsKernelIdeal.defs _ _).mono (fun r h => ⟨fun c => (h.1 c).1, h.2⟩) (Cert.ReduceChipsKernelIdeal.run_main m g)

theorem quiescent_ReduceChipsReferenceIdeal : Cert.quiescent_ReduceChipsReferenceIdeal (hReduceChipsReferenceIdeal := Cert.ReduceChipsReferenceIdeal.Gen.facts) := fun m g _ =>
  (θ_run Cert.ReduceChipsReferenceIdeal.defs _ _).mono (fun r h => ⟨fun c => (h c).2, sem_eq_zero_of_no_sems (by decide) _⟩) (Cert.ReduceChipsReferenceIdeal.Value.run m g)

theorem quiescent_ReduceChipsReference : Cert.quiescent_ReduceChipsReference (hReduceChipsReference := Cert.ReduceChipsReference.Gen.facts) := fun m g _ =>
  (θ_run Cert.ReduceChipsReference.defs _ _).mono (fun r h => ⟨fun c => (h c).2, sem_eq_zero_of_no_sems (by decide) _⟩) (Cert.ReduceChipsReference.Value.run m g)

theorem algebraic_ReduceChips : Cert.algebraic_ReduceChipsKernelIdeal_ReduceChipsReferenceIdeal (hReduceChipsKernelIdeal := Cert.ReduceChipsKernelIdeal.Gen.facts) (hReduceChipsReferenceIdeal := Cert.ReduceChipsReferenceIdeal.Gen.facts) :=
  fun m g m' g' _ h => Cert.ReduceChipsKernelIdeal.agrees m g m' g' h

theorem bitexact_ReduceChips : Cert.bitexact_ReduceChipsKernel_ReduceChipsReference (hReduceChipsKernel := Cert.ReduceChipsKernel.Gen.facts) (hReduceChipsReference := Cert.ReduceChipsReference.Gen.facts) :=
  fun m g m' g' _ h => Cert.ReduceChipsKernelIdeal.agrees (F := Bits) m g m' g' h

/-! ## `SmallSibling` -/

theorem quiescent_SmallSiblingKernel : Cert.quiescent_SmallSiblingKernel (hSmallSiblingKernel := Cert.SmallSiblingKernel.Gen.facts) := fun m g _ =>
  (θ_run Cert.SmallSiblingKernelIdeal.defs _ _).mono (fun r h => ⟨fun c => (h.1 c).1, h.2⟩) (Cert.SmallSiblingKernelIdeal.run_main m g)

theorem quiescent_SmallSiblingKernelIdeal : Cert.quiescent_SmallSiblingKernelIdeal (hSmallSiblingKernelIdeal := Cert.SmallSiblingKernelIdeal.Gen.facts) := fun m g _ =>
  (θ_run Cert.SmallSiblingKernelIdeal.defs _ _).mono (fun r h => ⟨fun c => (h.1 c).1, h.2⟩) (Cert.SmallSiblingKernelIdeal.run_main m g)

theorem quiescent_SmallSiblingReferenceIdeal : Cert.quiescent_SmallSiblingReferenceIdeal (hSmallSiblingReferenceIdeal := Cert.SmallSiblingReferenceIdeal.Gen.facts) := fun m g _ =>
  (θ_run Cert.SmallSiblingReferenceIdeal.defs _ _).mono (fun r h => ⟨fun c => (h c).2, sem_eq_zero_of_no_sems (by decide) _⟩) (Cert.SmallSiblingReferenceIdeal.Value.run m g)

theorem quiescent_SmallSiblingReference : Cert.quiescent_SmallSiblingReference (hSmallSiblingReference := Cert.SmallSiblingReference.Gen.facts) := fun m g _ =>
  (θ_run Cert.SmallSiblingReference.defs _ _).mono (fun r h => ⟨fun c => (h c).2, sem_eq_zero_of_no_sems (by decide) _⟩) (Cert.SmallSiblingReference.Value.run m g)

theorem algebraic_SmallSibling : Cert.algebraic_SmallSiblingKernelIdeal_SmallSiblingReferenceIdeal (hSmallSiblingKernelIdeal := Cert.SmallSiblingKernelIdeal.Gen.facts) (hSmallSiblingReferenceIdeal := Cert.SmallSiblingReferenceIdeal.Gen.facts) :=
  fun m g m' g' _ h => Cert.SmallSiblingKernelIdeal.agrees m g m' g' h

theorem bitexact_SmallSibling : Cert.bitexact_SmallSiblingKernel_SmallSiblingReference (hSmallSiblingKernel := Cert.SmallSiblingKernel.Gen.facts) (hSmallSiblingReference := Cert.SmallSiblingReference.Gen.facts) :=
  fun m g m' g' _ h => Cert.SmallSiblingKernelIdeal.agrees (F := Bits) m g m' g' h

/-! ## `SmallChips` -/

theorem quiescent_SmallChipsKernel : Cert.quiescent_SmallChipsKernel (hSmallChipsKernel := Cert.SmallChipsKernel.Gen.facts) := fun m g _ =>
  (θ_run Cert.SmallChipsKernelIdeal.defs _ _).mono (fun r h => ⟨fun c => (h.1 c).1, h.2⟩) (Cert.SmallChipsKernelIdeal.run_main m g)

theorem quiescent_SmallChipsKernelIdeal : Cert.quiescent_SmallChipsKernelIdeal (hSmallChipsKernelIdeal := Cert.SmallChipsKernelIdeal.Gen.facts) := fun m g _ =>
  (θ_run Cert.SmallChipsKernelIdeal.defs _ _).mono (fun r h => ⟨fun c => (h.1 c).1, h.2⟩) (Cert.SmallChipsKernelIdeal.run_main m g)

theorem quiescent_SmallChipsReferenceIdeal : Cert.quiescent_SmallChipsReferenceIdeal (hSmallChipsReferenceIdeal := Cert.SmallChipsReferenceIdeal.Gen.facts) := fun m g _ =>
  (θ_run Cert.SmallChipsReferenceIdeal.defs _ _).mono (fun r h => ⟨fun c => (h c).2, sem_eq_zero_of_no_sems (by decide) _⟩) (Cert.SmallChipsReferenceIdeal.Value.run m g)

theorem quiescent_SmallChipsReference : Cert.quiescent_SmallChipsReference (hSmallChipsReference := Cert.SmallChipsReference.Gen.facts) := fun m g _ =>
  (θ_run Cert.SmallChipsReference.defs _ _).mono (fun r h => ⟨fun c => (h c).2, sem_eq_zero_of_no_sems (by decide) _⟩) (Cert.SmallChipsReference.Value.run m g)

theorem algebraic_SmallChips : Cert.algebraic_SmallChipsKernelIdeal_SmallChipsReferenceIdeal (hSmallChipsKernelIdeal := Cert.SmallChipsKernelIdeal.Gen.facts) (hSmallChipsReferenceIdeal := Cert.SmallChipsReferenceIdeal.Gen.facts) :=
  fun m g m' g' _ h => Cert.SmallChipsKernelIdeal.agrees m g m' g' h

theorem bitexact_SmallChips : Cert.bitexact_SmallChipsKernel_SmallChipsReference (hSmallChipsKernel := Cert.SmallChipsKernel.Gen.facts) (hSmallChipsReference := Cert.SmallChipsReference.Gen.facts) :=
  fun m g m' g' _ h => Cert.SmallChipsKernelIdeal.agrees (F := Bits) m g m' g' h

/-! ## `AdamwSharded` -/

theorem quiescent_AdamwShardedKernel : Cert.quiescent_AdamwShardedKernel (hAdamwShardedKernel := Cert.AdamwShardedKernel.Gen.facts) := fun m g _ =>
  Cert.AdamwShardedKernel.Gen.frame m g

theorem quiescent_AdamwShardedKernelIdeal : Cert.quiescent_AdamwShardedKernelIdeal (hAdamwShardedKernelIdeal := Cert.AdamwShardedKernelIdeal.Gen.facts) := fun m g _ =>
  Cert.AdamwShardedKernelIdeal.Gen.frame m g

theorem quiescent_AdamwShardedReferenceIdeal : Cert.quiescent_AdamwShardedReferenceIdeal (hAdamwShardedReferenceIdeal := Cert.AdamwShardedReferenceIdeal.Gen.facts) := fun m g _ =>
  (θ_run Cert.AdamwShardedReferenceIdeal.defs _ _).mono (fun r h => ⟨fun c => (h c).2.2.2, sem_eq_zero_of_no_sems (by decide) _⟩) (Cert.AdamwShardedReferenceIdeal.Value.run m g)

/-! ## `AdamwReplicated` -/

theorem quiescent_AdamwReplicatedKernel : Cert.quiescent_AdamwReplicatedKernel (hAdamwReplicatedKernel := Cert.AdamwReplicatedKernel.Gen.facts) := fun m g _ =>
  Cert.AdamwReplicatedKernel.Gen.frame m g

theorem quiescent_AdamwReplicatedKernelIdeal : Cert.quiescent_AdamwReplicatedKernelIdeal (hAdamwReplicatedKernelIdeal := Cert.AdamwReplicatedKernelIdeal.Gen.facts) := fun m g _ =>
  Cert.AdamwReplicatedKernelIdeal.Gen.frame m g

theorem quiescent_AdamwReplicatedReferenceIdeal : Cert.quiescent_AdamwReplicatedReferenceIdeal (hAdamwReplicatedReferenceIdeal := Cert.AdamwReplicatedReferenceIdeal.Gen.facts) := fun m g _ =>
  (θ_run Cert.AdamwReplicatedReferenceIdeal.defs _ _).mono (fun r h => ⟨fun c => (h c).2.2.2, sem_eq_zero_of_no_sems (by decide) _⟩) (Cert.AdamwReplicatedReferenceIdeal.Value.run m g)

/-! ## `ReduceSum` -/

theorem quiescent_ReduceSumKernel : Cert.quiescent_ReduceSumKernel (hReduceSumKernel := Cert.ReduceSumKernel.Gen.facts) := fun m g _ =>
  Cert.ReduceSumKernel.Gen.frame m g

theorem quiescent_ReduceSumKernelIdeal : Cert.quiescent_ReduceSumKernelIdeal (hReduceSumKernelIdeal := Cert.ReduceSumKernelIdeal.Gen.facts) := fun m g _ =>
  Cert.ReduceSumKernelIdeal.Gen.frame m g

theorem quiescent_ReduceSumReferenceIdeal : Cert.quiescent_ReduceSumReferenceIdeal (hReduceSumReferenceIdeal := Cert.ReduceSumReferenceIdeal.Gen.facts) := fun m g _ =>
  (θ_run Cert.ReduceSumReferenceIdeal.defs _ _).mono (fun r h => ⟨fun c => (h c).2, sem_eq_zero_of_no_sems (by decide) _⟩) (Cert.ReduceSumReferenceIdeal.Value.run m g)

/-! ## `SmallSum` -/

theorem quiescent_SmallSumKernel : Cert.quiescent_SmallSumKernel (hSmallSumKernel := Cert.SmallSumKernel.Gen.facts) := fun m g _ =>
  Cert.SmallSumKernel.Gen.frame m g

theorem quiescent_SmallSumKernelIdeal : Cert.quiescent_SmallSumKernelIdeal (hSmallSumKernelIdeal := Cert.SmallSumKernelIdeal.Gen.facts) := fun m g _ =>
  Cert.SmallSumKernelIdeal.Gen.frame m g

theorem quiescent_SmallSumReferenceIdeal : Cert.quiescent_SmallSumReferenceIdeal (hSmallSumReferenceIdeal := Cert.SmallSumReferenceIdeal.Gen.facts) := fun m g _ =>
  (θ_run Cert.SmallSumReferenceIdeal.defs _ _).mono (fun r h => ⟨fun c => (h c).2, sem_eq_zero_of_no_sems (by decide) _⟩) (Cert.SmallSumReferenceIdeal.Value.run m g)

/-! ## `NormMixBwd` -/

theorem quiescent_NormMixBwdKernel : Cert.quiescent_NormMixBwdKernel (hNormMixBwdKernel := Cert.NormMixBwdKernel.Gen.facts) := fun m g _ =>
  Cert.NormMixBwdKernel.Gen.frame m g

theorem quiescent_NormMixBwdKernelIdeal : Cert.quiescent_NormMixBwdKernelIdeal (hNormMixBwdKernelIdeal := Cert.NormMixBwdKernelIdeal.Gen.facts) := fun m g _ =>
  Cert.NormMixBwdKernelIdeal.Gen.frame m g

theorem quiescent_NormMixBwdReferenceIdeal : Cert.quiescent_NormMixBwdReferenceIdeal (hNormMixBwdReferenceIdeal := Cert.NormMixBwdReferenceIdeal.Gen.facts) := fun m g _ =>
  (θ_run Cert.NormMixBwdReferenceIdeal.defs _ _).mono (fun r h => ⟨fun c => (h c).2.2, sem_eq_zero_of_no_sems (by decide) _⟩) (Cert.NormMixBwdReferenceIdeal.Value.run m g)

/-! ## `LossHead` -/

theorem quiescent_LossHeadKernel : Cert.quiescent_LossHeadKernel (hLossHeadKernel := Cert.LossHeadKernel.Gen.facts) := fun m g _ =>
  Cert.LossHeadKernel.Gen.frame m g

theorem quiescent_LossHeadKernelIdeal : Cert.quiescent_LossHeadKernelIdeal (hLossHeadKernelIdeal := Cert.LossHeadKernelIdeal.Gen.facts) := fun m g _ =>
  Cert.LossHeadKernelIdeal.Gen.frame m g

theorem quiescent_LossHeadReferenceIdeal : Cert.quiescent_LossHeadReferenceIdeal (hLossHeadReferenceIdeal := Cert.LossHeadReferenceIdeal.Gen.facts) := fun m g _ =>
  (θ_run Cert.LossHeadReferenceIdeal.defs _ _).mono (fun r h => ⟨fun c => (h c).2.2.2, sem_eq_zero_of_no_sems (by decide) _⟩) (Cert.LossHeadReferenceIdeal.Value.run m g)

/-! ## `NormFfn` -/

theorem quiescent_NormFfnKernel : Cert.quiescent_NormFfnKernel (hNormFfnKernel := Cert.NormFfnKernel.Gen.facts) := fun m g _ =>
  Cert.NormFfnKernel.Gen.frame m g

theorem quiescent_NormFfnKernelIdeal : Cert.quiescent_NormFfnKernelIdeal (hNormFfnKernelIdeal := Cert.NormFfnKernelIdeal.Gen.facts) := fun m g _ =>
  Cert.NormFfnKernelIdeal.Gen.frame m g

theorem quiescent_NormFfnReferenceIdeal : Cert.quiescent_NormFfnReferenceIdeal (hNormFfnReferenceIdeal := Cert.NormFfnReferenceIdeal.Gen.facts) := fun m g _ =>
  (θ_run Cert.NormFfnReferenceIdeal.defs _ _).mono (fun r h => ⟨fun c => (h c).2, sem_eq_zero_of_no_sems (by decide) _⟩) (Cert.NormFfnReferenceIdeal.Value.run m g)

/-! ## `NormMem` -/

theorem quiescent_NormMemKernel : Cert.quiescent_NormMemKernel (hNormMemKernel := Cert.NormMemKernel.Gen.facts) := fun m g _ =>
  Cert.NormMemKernel.Gen.frame m g

theorem quiescent_NormMemKernelIdeal : Cert.quiescent_NormMemKernelIdeal (hNormMemKernelIdeal := Cert.NormMemKernelIdeal.Gen.facts) := fun m g _ =>
  Cert.NormMemKernelIdeal.Gen.frame m g

theorem quiescent_NormMemReferenceIdeal : Cert.quiescent_NormMemReferenceIdeal (hNormMemReferenceIdeal := Cert.NormMemReferenceIdeal.Gen.facts) := fun m g _ =>
  (θ_run Cert.NormMemReferenceIdeal.defs _ _).mono (fun r h => ⟨fun c => (h c).2, sem_eq_zero_of_no_sems (by decide) _⟩) (Cert.NormMemReferenceIdeal.Value.run m g)

/-! ## `NormMemBwd` -/

theorem quiescent_NormMemBwdKernel : Cert.quiescent_NormMemBwdKernel (hNormMemBwdKernel := Cert.NormMemBwdKernel.Gen.facts) := fun m g _ =>
  Cert.NormMemBwdKernel.Gen.frame m g

theorem quiescent_NormMemBwdKernelIdeal : Cert.quiescent_NormMemBwdKernelIdeal (hNormMemBwdKernelIdeal := Cert.NormMemBwdKernelIdeal.Gen.facts) := fun m g _ =>
  Cert.NormMemBwdKernelIdeal.Gen.frame m g

theorem quiescent_NormMemBwdReferenceIdeal : Cert.quiescent_NormMemBwdReferenceIdeal (hNormMemBwdReferenceIdeal := Cert.NormMemBwdReferenceIdeal.Gen.facts) := fun m g _ =>
  (θ_run Cert.NormMemBwdReferenceIdeal.defs _ _).mono (fun r h => ⟨fun c => (h c).2.2, sem_eq_zero_of_no_sems (by decide) _⟩) (Cert.NormMemBwdReferenceIdeal.Value.run m g)

/-! ## `Down` -/

theorem quiescent_DownKernel : Cert.quiescent_DownKernel (hDownKernel := Cert.DownKernel.Gen.facts) := fun m g _ =>
  Cert.DownKernel.Gen.frame m g

theorem quiescent_DownKernelIdeal : Cert.quiescent_DownKernelIdeal (hDownKernelIdeal := Cert.DownKernelIdeal.Gen.facts) := fun m g _ =>
  Cert.DownKernelIdeal.Gen.frame m g

theorem quiescent_DownReferenceIdeal : Cert.quiescent_DownReferenceIdeal (hDownReferenceIdeal := Cert.DownReferenceIdeal.Gen.facts) := fun m g _ =>
  (θ_run Cert.DownReferenceIdeal.defs _ _).mono (fun r h => ⟨fun c => (h c).2, sem_eq_zero_of_no_sems (by decide) _⟩) (Cert.DownReferenceIdeal.Value.run m g)

/-! ## `Dact` -/

theorem quiescent_DactKernel : Cert.quiescent_DactKernel (hDactKernel := Cert.DactKernel.Gen.facts) := fun m g _ =>
  Cert.DactKernel.Gen.frame m g

theorem quiescent_DactKernelIdeal : Cert.quiescent_DactKernelIdeal (hDactKernelIdeal := Cert.DactKernelIdeal.Gen.facts) := fun m g _ =>
  Cert.DactKernelIdeal.Gen.frame m g

theorem quiescent_DactReferenceIdeal : Cert.quiescent_DactReferenceIdeal (hDactReferenceIdeal := Cert.DactReferenceIdeal.Gen.facts) := fun m g _ =>
  (θ_run Cert.DactReferenceIdeal.defs _ _).mono (fun r h => ⟨fun c => (h c).2, sem_eq_zero_of_no_sems (by decide) _⟩) (Cert.DactReferenceIdeal.Value.run m g)

/-! ## `DwDown` -/

theorem quiescent_DwDownKernel : Cert.quiescent_DwDownKernel (hDwDownKernel := Cert.DwDownKernel.Gen.facts) := fun m g _ =>
  Cert.DwDownKernel.Gen.frame m g

theorem quiescent_DwDownKernelIdeal : Cert.quiescent_DwDownKernelIdeal (hDwDownKernelIdeal := Cert.DwDownKernelIdeal.Gen.facts) := fun m g _ =>
  Cert.DwDownKernelIdeal.Gen.frame m g

theorem quiescent_DwDownReferenceIdeal : Cert.quiescent_DwDownReferenceIdeal (hDwDownReferenceIdeal := Cert.DwDownReferenceIdeal.Gen.facts) := fun m g _ =>
  (θ_run Cert.DwDownReferenceIdeal.defs _ _).mono (fun r h => ⟨fun c => (h c).2, sem_eq_zero_of_no_sems (by decide) _⟩) (Cert.DwDownReferenceIdeal.Value.run m g)

/-! ## `Proj` -/

theorem quiescent_ProjKernel : Cert.quiescent_ProjKernel (hProjKernel := Cert.ProjKernel.Gen.facts) := fun m g _ =>
  Cert.ProjKernel.Gen.frame m g

theorem quiescent_ProjKernelIdeal : Cert.quiescent_ProjKernelIdeal (hProjKernelIdeal := Cert.ProjKernelIdeal.Gen.facts) := fun m g _ =>
  Cert.ProjKernelIdeal.Gen.frame m g

theorem quiescent_ProjReferenceIdeal : Cert.quiescent_ProjReferenceIdeal (hProjReferenceIdeal := Cert.ProjReferenceIdeal.Gen.facts) := fun m g _ =>
  (θ_run Cert.ProjReferenceIdeal.defs _ _).mono (fun r h => ⟨fun c => (h c).2, sem_eq_zero_of_no_sems (by decide) _⟩) (Cert.ProjReferenceIdeal.Value.run m g)

/-! ## `Out` -/

theorem quiescent_OutKernel : Cert.quiescent_OutKernel (hOutKernel := Cert.OutKernel.Gen.facts) := fun m g _ =>
  Cert.OutKernel.Gen.frame m g

theorem quiescent_OutKernelIdeal : Cert.quiescent_OutKernelIdeal (hOutKernelIdeal := Cert.OutKernelIdeal.Gen.facts) := fun m g _ =>
  Cert.OutKernelIdeal.Gen.frame m g

theorem quiescent_OutReferenceIdeal : Cert.quiescent_OutReferenceIdeal (hOutReferenceIdeal := Cert.OutReferenceIdeal.Gen.facts) := fun m g _ =>
  (θ_run Cert.OutReferenceIdeal.defs _ _).mono (fun r h => ⟨fun c => (h c).2, sem_eq_zero_of_no_sems (by decide) _⟩) (Cert.OutReferenceIdeal.Value.run m g)

/-! ## `Cq` -/

theorem quiescent_CqKernel : Cert.quiescent_CqKernel (hCqKernel := Cert.CqKernel.Gen.facts) := fun m g _ =>
  Cert.CqKernel.Gen.frame m g

theorem quiescent_CqKernelIdeal : Cert.quiescent_CqKernelIdeal (hCqKernelIdeal := Cert.CqKernelIdeal.Gen.facts) := fun m g _ =>
  Cert.CqKernelIdeal.Gen.frame m g

theorem quiescent_CqReferenceIdeal : Cert.quiescent_CqReferenceIdeal (hCqReferenceIdeal := Cert.CqReferenceIdeal.Gen.facts) := fun m g _ =>
  (θ_run Cert.CqReferenceIdeal.defs _ _).mono (fun r h => ⟨fun c => (h c).2, sem_eq_zero_of_no_sems (by decide) _⟩) (Cert.CqReferenceIdeal.Value.run m g)

/-! ## `Ck` -/

theorem quiescent_CkKernel : Cert.quiescent_CkKernel (hCkKernel := Cert.CkKernel.Gen.facts) := fun m g _ =>
  Cert.CkKernel.Gen.frame m g

theorem quiescent_CkKernelIdeal : Cert.quiescent_CkKernelIdeal (hCkKernelIdeal := Cert.CkKernelIdeal.Gen.facts) := fun m g _ =>
  Cert.CkKernelIdeal.Gen.frame m g

theorem quiescent_CkReferenceIdeal : Cert.quiescent_CkReferenceIdeal (hCkReferenceIdeal := Cert.CkReferenceIdeal.Gen.facts) := fun m g _ =>
  (θ_run Cert.CkReferenceIdeal.defs _ _).mono (fun r h => ⟨fun c => (h c).2, sem_eq_zero_of_no_sems (by decide) _⟩) (Cert.CkReferenceIdeal.Value.run m g)

/-! ## `Co` -/

theorem quiescent_CoKernel : Cert.quiescent_CoKernel (hCoKernel := Cert.CoKernel.Gen.facts) := fun m g _ =>
  Cert.CoKernel.Gen.frame m g

theorem quiescent_CoKernelIdeal : Cert.quiescent_CoKernelIdeal (hCoKernelIdeal := Cert.CoKernelIdeal.Gen.facts) := fun m g _ =>
  Cert.CoKernelIdeal.Gen.frame m g

theorem quiescent_CoReferenceIdeal : Cert.quiescent_CoReferenceIdeal (hCoReferenceIdeal := Cert.CoReferenceIdeal.Gen.facts) := fun m g _ =>
  (θ_run Cert.CoReferenceIdeal.defs _ _).mono (fun r h => ⟨fun c => (h c).2, sem_eq_zero_of_no_sems (by decide) _⟩) (Cert.CoReferenceIdeal.Value.run m g)

/-! ## `Up` -/

theorem quiescent_UpKernel : Cert.quiescent_UpKernel (hUpKernel := Cert.UpKernel.Gen.facts) := fun m g _ =>
  Cert.UpKernel.Gen.frame m g

theorem quiescent_UpKernelIdeal : Cert.quiescent_UpKernelIdeal (hUpKernelIdeal := Cert.UpKernelIdeal.Gen.facts) := fun m g _ =>
  Cert.UpKernelIdeal.Gen.frame m g

theorem quiescent_UpReferenceIdeal : Cert.quiescent_UpReferenceIdeal (hUpReferenceIdeal := Cert.UpReferenceIdeal.Gen.facts) := fun m g _ =>
  (θ_run Cert.UpReferenceIdeal.defs _ _).mono (fun r h => ⟨fun c => (h c).2, sem_eq_zero_of_no_sems (by decide) _⟩) (Cert.UpReferenceIdeal.Value.run m g)

/-! ## `Dhn` -/

theorem quiescent_DhnKernel : Cert.quiescent_DhnKernel (hDhnKernel := Cert.DhnKernel.Gen.facts) := fun m g _ =>
  Cert.DhnKernel.Gen.frame m g

theorem quiescent_DhnKernelIdeal : Cert.quiescent_DhnKernelIdeal (hDhnKernelIdeal := Cert.DhnKernelIdeal.Gen.facts) := fun m g _ =>
  Cert.DhnKernelIdeal.Gen.frame m g

theorem quiescent_DhnReferenceIdeal : Cert.quiescent_DhnReferenceIdeal (hDhnReferenceIdeal := Cert.DhnReferenceIdeal.Gen.facts) := fun m g _ =>
  (θ_run Cert.DhnReferenceIdeal.defs _ _).mono (fun r h => ⟨fun c => (h c).2, sem_eq_zero_of_no_sems (by decide) _⟩) (Cert.DhnReferenceIdeal.Value.run m g)

/-! ## `Doc` -/

theorem quiescent_DocKernel : Cert.quiescent_DocKernel (hDocKernel := Cert.DocKernel.Gen.facts) := fun m g _ =>
  Cert.DocKernel.Gen.frame m g

theorem quiescent_DocKernelIdeal : Cert.quiescent_DocKernelIdeal (hDocKernelIdeal := Cert.DocKernelIdeal.Gen.facts) := fun m g _ =>
  Cert.DocKernelIdeal.Gen.frame m g

theorem quiescent_DocReferenceIdeal : Cert.quiescent_DocReferenceIdeal (hDocReferenceIdeal := Cert.DocReferenceIdeal.Gen.facts) := fun m g _ =>
  (θ_run Cert.DocReferenceIdeal.defs _ _).mono (fun r h => ⟨fun c => (h c).2, sem_eq_zero_of_no_sems (by decide) _⟩) (Cert.DocReferenceIdeal.Value.run m g)

/-! ## `Dhq` -/

theorem quiescent_DhqKernel : Cert.quiescent_DhqKernel (hDhqKernel := Cert.DhqKernel.Gen.facts) := fun m g _ =>
  Cert.DhqKernel.Gen.frame m g

theorem quiescent_DhqKernelIdeal : Cert.quiescent_DhqKernelIdeal (hDhqKernelIdeal := Cert.DhqKernelIdeal.Gen.facts) := fun m g _ =>
  Cert.DhqKernelIdeal.Gen.frame m g

theorem quiescent_DhqReferenceIdeal : Cert.quiescent_DhqReferenceIdeal (hDhqReferenceIdeal := Cert.DhqReferenceIdeal.Gen.facts) := fun m g _ =>
  (θ_run Cert.DhqReferenceIdeal.defs _ _).mono (fun r h => ⟨fun c => (h c).2, sem_eq_zero_of_no_sems (by decide) _⟩) (Cert.DhqReferenceIdeal.Value.run m g)

/-! ## `DmemK` -/

theorem quiescent_DmemKKernel : Cert.quiescent_DmemKKernel (hDmemKKernel := Cert.DmemKKernel.Gen.facts) := fun m g _ =>
  Cert.DmemKKernel.Gen.frame m g

theorem quiescent_DmemKKernelIdeal : Cert.quiescent_DmemKKernelIdeal (hDmemKKernelIdeal := Cert.DmemKKernelIdeal.Gen.facts) := fun m g _ =>
  Cert.DmemKKernelIdeal.Gen.frame m g

theorem quiescent_DmemKReferenceIdeal : Cert.quiescent_DmemKReferenceIdeal (hDmemKReferenceIdeal := Cert.DmemKReferenceIdeal.Gen.facts) := fun m g _ =>
  (θ_run Cert.DmemKReferenceIdeal.defs _ _).mono (fun r h => ⟨fun c => (h c).2, sem_eq_zero_of_no_sems (by decide) _⟩) (Cert.DmemKReferenceIdeal.Value.run m g)

/-! ## `DmemV` -/

theorem quiescent_DmemVKernel : Cert.quiescent_DmemVKernel (hDmemVKernel := Cert.DmemVKernel.Gen.facts) := fun m g _ =>
  Cert.DmemVKernel.Gen.frame m g

theorem quiescent_DmemVKernelIdeal : Cert.quiescent_DmemVKernelIdeal (hDmemVKernelIdeal := Cert.DmemVKernelIdeal.Gen.facts) := fun m g _ =>
  Cert.DmemVKernelIdeal.Gen.frame m g

theorem quiescent_DmemVReferenceIdeal : Cert.quiescent_DmemVReferenceIdeal (hDmemVReferenceIdeal := Cert.DmemVReferenceIdeal.Gen.facts) := fun m g _ =>
  (θ_run Cert.DmemVReferenceIdeal.defs _ _).mono (fun r h => ⟨fun c => (h c).2, sem_eq_zero_of_no_sems (by decide) _⟩) (Cert.DmemVReferenceIdeal.Value.run m g)

/-! ## `Dmixed` -/

theorem quiescent_DmixedKernel : Cert.quiescent_DmixedKernel (hDmixedKernel := Cert.DmixedKernel.Gen.facts) := fun m g _ =>
  Cert.DmixedKernel.Gen.frame m g

theorem quiescent_DmixedKernelIdeal : Cert.quiescent_DmixedKernelIdeal (hDmixedKernelIdeal := Cert.DmixedKernelIdeal.Gen.facts) := fun m g _ =>
  Cert.DmixedKernelIdeal.Gen.frame m g

theorem quiescent_DmixedReferenceIdeal : Cert.quiescent_DmixedReferenceIdeal (hDmixedReferenceIdeal := Cert.DmixedReferenceIdeal.Gen.facts) := fun m g _ =>
  (θ_run Cert.DmixedReferenceIdeal.defs _ _).mono (fun r h => ⟨fun c => (h c).2, sem_eq_zero_of_no_sems (by decide) _⟩) (Cert.DmixedReferenceIdeal.Value.run m g)

/-! ## `Dh` -/

theorem quiescent_DhKernel : Cert.quiescent_DhKernel (hDhKernel := Cert.DhKernel.Gen.facts) := fun m g _ =>
  Cert.DhKernel.Gen.frame m g

theorem quiescent_DhKernelIdeal : Cert.quiescent_DhKernelIdeal (hDhKernelIdeal := Cert.DhKernelIdeal.Gen.facts) := fun m g _ =>
  Cert.DhKernelIdeal.Gen.frame m g

theorem quiescent_DhReferenceIdeal : Cert.quiescent_DhReferenceIdeal (hDhReferenceIdeal := Cert.DhReferenceIdeal.Gen.facts) := fun m g _ =>
  (θ_run Cert.DhReferenceIdeal.defs _ _).mono (fun r h => ⟨fun c => (h c).2, sem_eq_zero_of_no_sems (by decide) _⟩) (Cert.DhReferenceIdeal.Value.run m g)

/-! ## `DwUp` -/

theorem quiescent_DwUpKernel : Cert.quiescent_DwUpKernel (hDwUpKernel := Cert.DwUpKernel.Gen.facts) := fun m g _ =>
  Cert.DwUpKernel.Gen.frame m g

theorem quiescent_DwUpKernelIdeal : Cert.quiescent_DwUpKernelIdeal (hDwUpKernelIdeal := Cert.DwUpKernelIdeal.Gen.facts) := fun m g _ =>
  Cert.DwUpKernelIdeal.Gen.frame m g

theorem quiescent_DwUpReferenceIdeal : Cert.quiescent_DwUpReferenceIdeal (hDwUpReferenceIdeal := Cert.DwUpReferenceIdeal.Gen.facts) := fun m g _ =>
  (θ_run Cert.DwUpReferenceIdeal.defs _ _).mono (fun r h => ⟨fun c => (h c).2, sem_eq_zero_of_no_sems (by decide) _⟩) (Cert.DwUpReferenceIdeal.Value.run m g)

/-! ## `DwCo` -/

theorem quiescent_DwCoKernel : Cert.quiescent_DwCoKernel (hDwCoKernel := Cert.DwCoKernel.Gen.facts) := fun m g _ =>
  Cert.DwCoKernel.Gen.frame m g

theorem quiescent_DwCoKernelIdeal : Cert.quiescent_DwCoKernelIdeal (hDwCoKernelIdeal := Cert.DwCoKernelIdeal.Gen.facts) := fun m g _ =>
  Cert.DwCoKernelIdeal.Gen.frame m g

theorem quiescent_DwCoReferenceIdeal : Cert.quiescent_DwCoReferenceIdeal (hDwCoReferenceIdeal := Cert.DwCoReferenceIdeal.Gen.facts) := fun m g _ =>
  (θ_run Cert.DwCoReferenceIdeal.defs _ _).mono (fun r h => ⟨fun c => (h c).2, sem_eq_zero_of_no_sems (by decide) _⟩) (Cert.DwCoReferenceIdeal.Value.run m g)

/-! ## `DwCq` -/

theorem quiescent_DwCqKernel : Cert.quiescent_DwCqKernel (hDwCqKernel := Cert.DwCqKernel.Gen.facts) := fun m g _ =>
  Cert.DwCqKernel.Gen.frame m g

theorem quiescent_DwCqKernelIdeal : Cert.quiescent_DwCqKernelIdeal (hDwCqKernelIdeal := Cert.DwCqKernelIdeal.Gen.facts) := fun m g _ =>
  Cert.DwCqKernelIdeal.Gen.frame m g

theorem quiescent_DwCqReferenceIdeal : Cert.quiescent_DwCqReferenceIdeal (hDwCqReferenceIdeal := Cert.DwCqReferenceIdeal.Gen.facts) := fun m g _ =>
  (θ_run Cert.DwCqReferenceIdeal.defs _ _).mono (fun r h => ⟨fun c => (h c).2, sem_eq_zero_of_no_sems (by decide) _⟩) (Cert.DwCqReferenceIdeal.Value.run m g)

/-! ## `DwCk` -/

theorem quiescent_DwCkKernel : Cert.quiescent_DwCkKernel (hDwCkKernel := Cert.DwCkKernel.Gen.facts) := fun m g _ =>
  Cert.DwCkKernel.Gen.frame m g

theorem quiescent_DwCkKernelIdeal : Cert.quiescent_DwCkKernelIdeal (hDwCkKernelIdeal := Cert.DwCkKernelIdeal.Gen.facts) := fun m g _ =>
  Cert.DwCkKernelIdeal.Gen.frame m g

theorem quiescent_DwCkReferenceIdeal : Cert.quiescent_DwCkReferenceIdeal (hDwCkReferenceIdeal := Cert.DwCkReferenceIdeal.Gen.facts) := fun m g _ =>
  (θ_run Cert.DwCkReferenceIdeal.defs _ _).mono (fun r h => ⟨fun c => (h c).2, sem_eq_zero_of_no_sems (by decide) _⟩) (Cert.DwCkReferenceIdeal.Value.run m g)

/-! ## `DwOut` -/

theorem quiescent_DwOutKernel : Cert.quiescent_DwOutKernel (hDwOutKernel := Cert.DwOutKernel.Gen.facts) := fun m g _ =>
  Cert.DwOutKernel.Gen.frame m g

theorem quiescent_DwOutKernelIdeal : Cert.quiescent_DwOutKernelIdeal (hDwOutKernelIdeal := Cert.DwOutKernelIdeal.Gen.facts) := fun m g _ =>
  Cert.DwOutKernelIdeal.Gen.frame m g

theorem quiescent_DwOutReferenceIdeal : Cert.quiescent_DwOutReferenceIdeal (hDwOutReferenceIdeal := Cert.DwOutReferenceIdeal.Gen.facts) := fun m g _ =>
  (θ_run Cert.DwOutReferenceIdeal.defs _ _).mono (fun r h => ⟨fun c => (h c).2, sem_eq_zero_of_no_sems (by decide) _⟩) (Cert.DwOutReferenceIdeal.Value.run m g)

/-! ## `DwIn` -/

theorem quiescent_DwInKernel : Cert.quiescent_DwInKernel (hDwInKernel := Cert.DwInKernel.Gen.facts) := fun m g _ =>
  Cert.DwInKernel.Gen.frame m g

theorem quiescent_DwInKernelIdeal : Cert.quiescent_DwInKernelIdeal (hDwInKernelIdeal := Cert.DwInKernelIdeal.Gen.facts) := fun m g _ =>
  Cert.DwInKernelIdeal.Gen.frame m g

theorem quiescent_DwInReferenceIdeal : Cert.quiescent_DwInReferenceIdeal (hDwInReferenceIdeal := Cert.DwInReferenceIdeal.Gen.facts) := fun m g _ =>
  (θ_run Cert.DwInReferenceIdeal.defs _ _).mono (fun r h => ⟨fun c => (h c).2, sem_eq_zero_of_no_sems (by decide) _⟩) (Cert.DwInReferenceIdeal.Value.run m g)

/-! ## `FfnAct` -/

theorem quiescent_FfnActKernel : Cert.quiescent_FfnActKernel (hFfnActKernel := Cert.FfnActKernel.Gen.facts) := fun m g _ =>
  Cert.FfnActKernel.Gen.frame m g

theorem quiescent_FfnActKernelIdeal : Cert.quiescent_FfnActKernelIdeal (hFfnActKernelIdeal := Cert.FfnActKernelIdeal.Gen.facts) := fun m g _ =>
  Cert.FfnActKernelIdeal.Gen.frame m g

theorem quiescent_FfnActReferenceIdeal : Cert.quiescent_FfnActReferenceIdeal (hFfnActReferenceIdeal := Cert.FfnActReferenceIdeal.Gen.facts) := fun m g _ =>
  (θ_run Cert.FfnActReferenceIdeal.defs _ _).mono (fun r h => ⟨fun c => (h c).2, sem_eq_zero_of_no_sems (by decide) _⟩) (Cert.FfnActReferenceIdeal.Value.run m g)

/-! ## `ConvT` -/

theorem quiescent_ConvTKernel : Cert.quiescent_ConvTKernel (hConvTKernel := Cert.ConvTKernel.Gen.facts) := fun m g _ =>
  Cert.ConvTKernel.Gen.frame m g

theorem quiescent_ConvTKernelIdeal : Cert.quiescent_ConvTKernelIdeal (hConvTKernelIdeal := Cert.ConvTKernelIdeal.Gen.facts) := fun m g _ =>
  Cert.ConvTKernelIdeal.Gen.frame m g

theorem quiescent_ConvTReferenceIdeal : Cert.quiescent_ConvTReferenceIdeal (hConvTReferenceIdeal := Cert.ConvTReferenceIdeal.Gen.facts) := fun m g _ =>
  (θ_run Cert.ConvTReferenceIdeal.defs _ _).mono (fun r h => ⟨fun c => (h c).2, sem_eq_zero_of_no_sems (by decide) _⟩) (Cert.ConvTReferenceIdeal.Value.run m g)

/-! ## `ReduceAdd0` -/

theorem quiescent_ReduceAdd0Kernel : Cert.quiescent_ReduceAdd0Kernel (hReduceAdd0Kernel := Cert.ReduceAdd0Kernel.Gen.facts) := fun m g _ =>
  Cert.ReduceAdd0Kernel.Gen.frame m g (Cert.HalfSum.ReduceAdd0Kernel.inside m)

theorem quiescent_ReduceAdd0KernelIdeal : Cert.quiescent_ReduceAdd0KernelIdeal (hReduceAdd0KernelIdeal := Cert.ReduceAdd0KernelIdeal.Gen.facts) := fun m g _ =>
  Cert.ReduceAdd0KernelIdeal.Gen.frame m g (Cert.HalfSum.ReduceAdd0KernelIdeal.inside m)

theorem quiescent_ReduceAdd0ReferenceIdeal : Cert.quiescent_ReduceAdd0ReferenceIdeal (hReduceAdd0ReferenceIdeal := Cert.ReduceAdd0ReferenceIdeal.Gen.facts) := fun m g _ =>
  (θ_run Cert.ReduceAdd0ReferenceIdeal.defs _ _).mono (fun r h => ⟨fun c => (h c).2, sem_eq_zero_of_no_sems (by decide) _⟩) (Cert.ReduceAdd0ReferenceIdeal.Value.run m g)

/-! ## `ReduceAdd1` -/

theorem quiescent_ReduceAdd1Kernel : Cert.quiescent_ReduceAdd1Kernel (hReduceAdd1Kernel := Cert.ReduceAdd1Kernel.Gen.facts) := fun m g _ =>
  Cert.ReduceAdd1Kernel.Gen.frame m g (Cert.HalfSum.ReduceAdd1Kernel.inside m)

theorem quiescent_ReduceAdd1KernelIdeal : Cert.quiescent_ReduceAdd1KernelIdeal (hReduceAdd1KernelIdeal := Cert.ReduceAdd1KernelIdeal.Gen.facts) := fun m g _ =>
  Cert.ReduceAdd1KernelIdeal.Gen.frame m g (Cert.HalfSum.ReduceAdd1KernelIdeal.inside m)

theorem quiescent_ReduceAdd1ReferenceIdeal : Cert.quiescent_ReduceAdd1ReferenceIdeal (hReduceAdd1ReferenceIdeal := Cert.ReduceAdd1ReferenceIdeal.Gen.facts) := fun m g _ =>
  (θ_run Cert.ReduceAdd1ReferenceIdeal.defs _ _).mono (fun r h => ⟨fun c => (h c).2, sem_eq_zero_of_no_sems (by decide) _⟩) (Cert.ReduceAdd1ReferenceIdeal.Value.run m g)

theorem claim : Cert.Claim := ⟨
  Cert.ReduceShareKernel.Gen.facts, Cert.ReduceShareKernelIdeal.Gen.facts, Cert.ReduceShareReferenceIdeal.Gen.facts, Cert.ReduceShareReference.Gen.facts,
  Cert.GatherChipsKernel.Gen.facts, Cert.GatherChipsKernelIdeal.Gen.facts, Cert.GatherChipsReferenceIdeal.Gen.facts, Cert.GatherChipsReference.Gen.facts,
  Cert.GatherSiblingKernel.Gen.facts, Cert.GatherSiblingKernelIdeal.Gen.facts, Cert.GatherSiblingReferenceIdeal.Gen.facts, Cert.GatherSiblingReference.Gen.facts,
  Cert.GatherConvKernel.Gen.facts, Cert.GatherConvKernelIdeal.Gen.facts, Cert.GatherConvReferenceIdeal.Gen.facts, Cert.GatherConvReference.Gen.facts,
  Cert.ReduceSiblingKernel.Gen.facts, Cert.ReduceSiblingKernelIdeal.Gen.facts, Cert.ReduceSiblingReferenceIdeal.Gen.facts, Cert.ReduceSiblingReference.Gen.facts,
  Cert.ReduceChipsKernel.Gen.facts, Cert.ReduceChipsKernelIdeal.Gen.facts, Cert.ReduceChipsReferenceIdeal.Gen.facts, Cert.ReduceChipsReference.Gen.facts,
  Cert.SmallSiblingKernel.Gen.facts, Cert.SmallSiblingKernelIdeal.Gen.facts, Cert.SmallSiblingReferenceIdeal.Gen.facts, Cert.SmallSiblingReference.Gen.facts,
  Cert.SmallChipsKernel.Gen.facts, Cert.SmallChipsKernelIdeal.Gen.facts, Cert.SmallChipsReferenceIdeal.Gen.facts, Cert.SmallChipsReference.Gen.facts,
  Cert.AdamwShardedKernel.Gen.facts, Cert.AdamwShardedKernelIdeal.Gen.facts, Cert.AdamwShardedReferenceIdeal.Gen.facts, Cert.AdamwReplicatedKernel.Gen.facts,
  Cert.AdamwReplicatedKernelIdeal.Gen.facts, Cert.AdamwReplicatedReferenceIdeal.Gen.facts, Cert.ReduceSumKernel.Gen.facts, Cert.ReduceSumKernelIdeal.Gen.facts,
  Cert.ReduceSumReferenceIdeal.Gen.facts, Cert.SmallSumKernel.Gen.facts, Cert.SmallSumKernelIdeal.Gen.facts, Cert.SmallSumReferenceIdeal.Gen.facts,
  Cert.NormMixBwdKernel.Gen.facts, Cert.NormMixBwdKernelIdeal.Gen.facts, Cert.NormMixBwdReferenceIdeal.Gen.facts, Cert.LossHeadKernel.Gen.facts,
  Cert.LossHeadKernelIdeal.Gen.facts, Cert.LossHeadReferenceIdeal.Gen.facts, Cert.NormFfnKernel.Gen.facts, Cert.NormFfnKernelIdeal.Gen.facts,
  Cert.NormFfnReferenceIdeal.Gen.facts, Cert.NormMemKernel.Gen.facts, Cert.NormMemKernelIdeal.Gen.facts, Cert.NormMemReferenceIdeal.Gen.facts,
  Cert.NormMemBwdKernel.Gen.facts, Cert.NormMemBwdKernelIdeal.Gen.facts, Cert.NormMemBwdReferenceIdeal.Gen.facts, Cert.DownKernel.Gen.facts,
  Cert.DownKernelIdeal.Gen.facts, Cert.DownReferenceIdeal.Gen.facts, Cert.DactKernel.Gen.facts, Cert.DactKernelIdeal.Gen.facts,
  Cert.DactReferenceIdeal.Gen.facts, Cert.DwDownKernel.Gen.facts, Cert.DwDownKernelIdeal.Gen.facts, Cert.DwDownReferenceIdeal.Gen.facts,
  Cert.ProjKernel.Gen.facts, Cert.ProjKernelIdeal.Gen.facts, Cert.ProjReferenceIdeal.Gen.facts, Cert.OutKernel.Gen.facts,
  Cert.OutKernelIdeal.Gen.facts, Cert.OutReferenceIdeal.Gen.facts, Cert.CqKernel.Gen.facts, Cert.CqKernelIdeal.Gen.facts,
  Cert.CqReferenceIdeal.Gen.facts, Cert.CkKernel.Gen.facts, Cert.CkKernelIdeal.Gen.facts, Cert.CkReferenceIdeal.Gen.facts,
  Cert.CoKernel.Gen.facts, Cert.CoKernelIdeal.Gen.facts, Cert.CoReferenceIdeal.Gen.facts, Cert.UpKernel.Gen.facts,
  Cert.UpKernelIdeal.Gen.facts, Cert.UpReferenceIdeal.Gen.facts, Cert.DhnKernel.Gen.facts, Cert.DhnKernelIdeal.Gen.facts,
  Cert.DhnReferenceIdeal.Gen.facts, Cert.DocKernel.Gen.facts, Cert.DocKernelIdeal.Gen.facts, Cert.DocReferenceIdeal.Gen.facts,
  Cert.DhqKernel.Gen.facts, Cert.DhqKernelIdeal.Gen.facts, Cert.DhqReferenceIdeal.Gen.facts, Cert.DmemKKernel.Gen.facts,
  Cert.DmemKKernelIdeal.Gen.facts, Cert.DmemKReferenceIdeal.Gen.facts, Cert.DmemVKernel.Gen.facts, Cert.DmemVKernelIdeal.Gen.facts,
  Cert.DmemVReferenceIdeal.Gen.facts, Cert.DmixedKernel.Gen.facts, Cert.DmixedKernelIdeal.Gen.facts, Cert.DmixedReferenceIdeal.Gen.facts,
  Cert.DhKernel.Gen.facts, Cert.DhKernelIdeal.Gen.facts, Cert.DhReferenceIdeal.Gen.facts, Cert.DwUpKernel.Gen.facts,
  Cert.DwUpKernelIdeal.Gen.facts, Cert.DwUpReferenceIdeal.Gen.facts, Cert.DwCoKernel.Gen.facts, Cert.DwCoKernelIdeal.Gen.facts,
  Cert.DwCoReferenceIdeal.Gen.facts, Cert.DwCqKernel.Gen.facts, Cert.DwCqKernelIdeal.Gen.facts, Cert.DwCqReferenceIdeal.Gen.facts,
  Cert.DwCkKernel.Gen.facts, Cert.DwCkKernelIdeal.Gen.facts, Cert.DwCkReferenceIdeal.Gen.facts, Cert.DwOutKernel.Gen.facts,
  Cert.DwOutKernelIdeal.Gen.facts, Cert.DwOutReferenceIdeal.Gen.facts, Cert.DwInKernel.Gen.facts, Cert.DwInKernelIdeal.Gen.facts,
  Cert.DwInReferenceIdeal.Gen.facts, Cert.FfnActKernel.Gen.facts, Cert.FfnActKernelIdeal.Gen.facts, Cert.FfnActReferenceIdeal.Gen.facts,
  Cert.ConvTKernel.Gen.facts, Cert.ConvTKernelIdeal.Gen.facts, Cert.ConvTReferenceIdeal.Gen.facts, Cert.ReduceAdd0Kernel.Gen.facts,
  Cert.ReduceAdd0KernelIdeal.Gen.facts, Cert.ReduceAdd0ReferenceIdeal.Gen.facts, Cert.ReduceAdd1Kernel.Gen.facts, Cert.ReduceAdd1KernelIdeal.Gen.facts,
  Cert.ReduceAdd1ReferenceIdeal.Gen.facts,
  quiescent_ReduceShareKernel, quiescent_ReduceShareKernelIdeal, quiescent_ReduceShareReferenceIdeal, quiescent_ReduceShareReference,
  quiescent_GatherChipsKernel, quiescent_GatherChipsKernelIdeal, quiescent_GatherChipsReferenceIdeal, quiescent_GatherChipsReference,
  quiescent_GatherSiblingKernel, quiescent_GatherSiblingKernelIdeal, quiescent_GatherSiblingReferenceIdeal, quiescent_GatherSiblingReference,
  quiescent_GatherConvKernel, quiescent_GatherConvKernelIdeal, quiescent_GatherConvReferenceIdeal, quiescent_GatherConvReference,
  quiescent_ReduceSiblingKernel, quiescent_ReduceSiblingKernelIdeal, quiescent_ReduceSiblingReferenceIdeal, quiescent_ReduceSiblingReference,
  quiescent_ReduceChipsKernel, quiescent_ReduceChipsKernelIdeal, quiescent_ReduceChipsReferenceIdeal, quiescent_ReduceChipsReference,
  quiescent_SmallSiblingKernel, quiescent_SmallSiblingKernelIdeal, quiescent_SmallSiblingReferenceIdeal, quiescent_SmallSiblingReference,
  quiescent_SmallChipsKernel, quiescent_SmallChipsKernelIdeal, quiescent_SmallChipsReferenceIdeal, quiescent_SmallChipsReference,
  quiescent_AdamwShardedKernel, quiescent_AdamwShardedKernelIdeal, quiescent_AdamwShardedReferenceIdeal, quiescent_AdamwReplicatedKernel,
  quiescent_AdamwReplicatedKernelIdeal, quiescent_AdamwReplicatedReferenceIdeal, quiescent_ReduceSumKernel, quiescent_ReduceSumKernelIdeal,
  quiescent_ReduceSumReferenceIdeal, quiescent_SmallSumKernel, quiescent_SmallSumKernelIdeal, quiescent_SmallSumReferenceIdeal,
  quiescent_NormMixBwdKernel, quiescent_NormMixBwdKernelIdeal, quiescent_NormMixBwdReferenceIdeal, quiescent_LossHeadKernel,
  quiescent_LossHeadKernelIdeal, quiescent_LossHeadReferenceIdeal, quiescent_NormFfnKernel, quiescent_NormFfnKernelIdeal,
  quiescent_NormFfnReferenceIdeal, quiescent_NormMemKernel, quiescent_NormMemKernelIdeal, quiescent_NormMemReferenceIdeal,
  quiescent_NormMemBwdKernel, quiescent_NormMemBwdKernelIdeal, quiescent_NormMemBwdReferenceIdeal, quiescent_DownKernel,
  quiescent_DownKernelIdeal, quiescent_DownReferenceIdeal, quiescent_DactKernel, quiescent_DactKernelIdeal,
  quiescent_DactReferenceIdeal, quiescent_DwDownKernel, quiescent_DwDownKernelIdeal, quiescent_DwDownReferenceIdeal,
  quiescent_ProjKernel, quiescent_ProjKernelIdeal, quiescent_ProjReferenceIdeal, quiescent_OutKernel,
  quiescent_OutKernelIdeal, quiescent_OutReferenceIdeal, quiescent_CqKernel, quiescent_CqKernelIdeal,
  quiescent_CqReferenceIdeal, quiescent_CkKernel, quiescent_CkKernelIdeal, quiescent_CkReferenceIdeal,
  quiescent_CoKernel, quiescent_CoKernelIdeal, quiescent_CoReferenceIdeal, quiescent_UpKernel,
  quiescent_UpKernelIdeal, quiescent_UpReferenceIdeal, quiescent_DhnKernel, quiescent_DhnKernelIdeal,
  quiescent_DhnReferenceIdeal, quiescent_DocKernel, quiescent_DocKernelIdeal, quiescent_DocReferenceIdeal,
  quiescent_DhqKernel, quiescent_DhqKernelIdeal, quiescent_DhqReferenceIdeal, quiescent_DmemKKernel,
  quiescent_DmemKKernelIdeal, quiescent_DmemKReferenceIdeal, quiescent_DmemVKernel, quiescent_DmemVKernelIdeal,
  quiescent_DmemVReferenceIdeal, quiescent_DmixedKernel, quiescent_DmixedKernelIdeal, quiescent_DmixedReferenceIdeal,
  quiescent_DhKernel, quiescent_DhKernelIdeal, quiescent_DhReferenceIdeal, quiescent_DwUpKernel,
  quiescent_DwUpKernelIdeal, quiescent_DwUpReferenceIdeal, quiescent_DwCoKernel, quiescent_DwCoKernelIdeal,
  quiescent_DwCoReferenceIdeal, quiescent_DwCqKernel, quiescent_DwCqKernelIdeal, quiescent_DwCqReferenceIdeal,
  quiescent_DwCkKernel, quiescent_DwCkKernelIdeal, quiescent_DwCkReferenceIdeal, quiescent_DwOutKernel,
  quiescent_DwOutKernelIdeal, quiescent_DwOutReferenceIdeal, quiescent_DwInKernel, quiescent_DwInKernelIdeal,
  quiescent_DwInReferenceIdeal, quiescent_FfnActKernel, quiescent_FfnActKernelIdeal, quiescent_FfnActReferenceIdeal,
  quiescent_ConvTKernel, quiescent_ConvTKernelIdeal, quiescent_ConvTReferenceIdeal, quiescent_ReduceAdd0Kernel,
  quiescent_ReduceAdd0KernelIdeal, quiescent_ReduceAdd0ReferenceIdeal, quiescent_ReduceAdd1Kernel, quiescent_ReduceAdd1KernelIdeal,
  quiescent_ReduceAdd1ReferenceIdeal,
  trivial, algebraic_ReduceShare,
  bitexact_ReduceShare, trivial,
  algebraic_GatherChips, bitexact_GatherChips,
  trivial, algebraic_GatherSibling,
  bitexact_GatherSibling, trivial,
  algebraic_GatherConv, bitexact_GatherConv,
  trivial, algebraic_ReduceSibling,
  bitexact_ReduceSibling, trivial,
  algebraic_ReduceChips, bitexact_ReduceChips,
  trivial, algebraic_SmallSibling,
  bitexact_SmallSibling, trivial,
  algebraic_SmallChips, bitexact_SmallChips,
  trivial, Cert.Adamw.adamwSharded,
  trivial, Cert.Adamw.adamwReplicated,
  trivial, Cert.Sums.reduceSum,
  trivial, Cert.Sums.smallSum,
  trivial, Cert.Norms.normMixBwd,
  trivial, Cert.Loss.lossHead,
  trivial, Cert.Norms.normFfn,
  trivial, Cert.MemNorm.normMem,
  trivial, Cert.MemNorm.normMemBwd,
  trivial, Cert.Products.down,
  trivial, Cert.Products.dact,
  trivial, Cert.Products.dwDown,
  trivial, Cert.Forward.proj,
  trivial, Cert.Forward.out,
  trivial, Cert.Forward.cq,
  trivial, Cert.Forward.ck,
  trivial, Cert.Forward.co,
  trivial, Cert.Forward.up,
  trivial, Cert.InputGrads.dhn,
  trivial, Cert.InputGrads.doc,
  trivial, Cert.InputGrads.dhq,
  trivial, Cert.InputGrads.dmemK,
  trivial, Cert.InputGrads.dmemV,
  trivial, Cert.InputGrads.dmixed,
  trivial, Cert.InputGrads.dh,
  trivial, Cert.WeightGrads.dwUp,
  trivial, Cert.WeightGrads.dwCo,
  trivial, Cert.WeightGrads.dwCq,
  trivial, Cert.WeightGrads.dwCk,
  trivial, Cert.WeightGrads.dwOut,
  trivial, Cert.WeightGrads.dwIn,
  trivial, Cert.Act.ffnAct,
  trivial, Cert.Conv.convT,
  trivial, Cert.HalfSum.reduceAdd0,
  trivial, Cert.HalfSum.reduceAdd1⟩

end Cert.Proof

end
